-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MixerKernel (m : (ℓ : Loc Cert.MixerKernel.nD Cert.MixerKernel.τ Cert.MixerKernel.sig) → Buf (Elt Bits) ℓ) : Prop :=
  True

def Pre_MixerKernelIdeal (m : (ℓ : Loc Cert.MixerKernelIdeal.nD Cert.MixerKernelIdeal.τ Cert.MixerKernelIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_JoinKernel (m : (ℓ : Loc Cert.JoinKernel.nD Cert.JoinKernel.τ Cert.JoinKernel.sig) → Buf (Elt Bits) ℓ) : Prop :=
  True

def Pre_JoinKernelIdeal (m : (ℓ : Loc Cert.JoinKernelIdeal.nD Cert.JoinKernelIdeal.τ Cert.JoinKernelIdeal.sig) → Buf (Elt Ideal) ℓ) : Prop :=
  True

def Pre_JoinReferenceIdeal (m : (ℓ : Loc Cert.JoinReferenceIdeal.nD Cert.JoinReferenceIdeal.τ Cert.JoinReferenceIdeal.sig) → Buf (Elt Ideal) ℓ) : Prop :=
  True

def Pre_LatentKernel (m : (ℓ : Loc Cert.LatentKernel.nD Cert.LatentKernel.τ Cert.LatentKernel.sig) → Buf (Elt Bits) ℓ) : Prop :=
  True

def Pre_LatentKernelIdeal (m : (ℓ : Loc Cert.LatentKernelIdeal.nD Cert.LatentKernelIdeal.τ Cert.LatentKernelIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_PooledKernel (m : (ℓ : Loc Cert.PooledKernel.nD Cert.PooledKernel.τ Cert.PooledKernel.sig) → Buf (Elt Bits) ℓ) : Prop :=
  True

def Pre_PooledKernelIdeal (m : (ℓ : Loc Cert.PooledKernelIdeal.nD Cert.PooledKernelIdeal.τ Cert.PooledKernelIdeal.sig) → Buf (Elt Ideal) ℓ) : Prop :=
  True

def Pre_PooledKernelIdeal_tokens_finite [hPre_tokens_finite : Cert.Pre_tokens_finite.Facts] (m : (ℓ : Loc Cert.PooledKernelIdeal.nD Cert.PooledKernelIdeal.τ Cert.PooledKernelIdeal.sig) → Buf (Elt Ideal) ℓ) : Prop :=
  ∀ c : Dev Cert.PooledKernelIdeal.nD,
    (Cert.Pre_tokens_finite.fn (F := Ideal) (m ((c.tc : Thread Cert.PooledKernelIdeal.nD Cert.PooledKernelIdeal.τ).loc Cert.PooledKernelIdeal.main_arg0)) (m ((c.tc : Thread Cert.PooledKernelIdeal.nD Cert.PooledKernelIdeal.τ).loc Cert.PooledKernelIdeal.main_arg1)) (m ((c.tc : Thread Cert.PooledKernelIdeal.nD Cert.PooledKernelIdeal.τ).loc Cert.PooledKernelIdeal.main_arg2))) = (fun _ => 1#1)

def Pre_PooledReferenceIdeal (m : (ℓ : Loc Cert.PooledReferenceIdeal.nD Cert.PooledReferenceIdeal.τ Cert.PooledReferenceIdeal.sig) → Buf (Elt Ideal) ℓ) : Prop :=
  True

def Pre_PooledReferenceIdeal_tokens_finite [hPre_tokens_finite : Cert.Pre_tokens_finite.Facts] (m : (ℓ : Loc Cert.PooledReferenceIdeal.nD Cert.PooledReferenceIdeal.τ Cert.PooledReferenceIdeal.sig) → Buf (Elt Ideal) ℓ) : Prop :=
  ∀ c : Dev Cert.PooledReferenceIdeal.nD,
    (Cert.Pre_tokens_finite.fn (F := Ideal) (m ((c.tc : Thread Cert.PooledReferenceIdeal.nD Cert.PooledReferenceIdeal.τ).loc Cert.PooledReferenceIdeal.main_arg0)) (m ((c.tc : Thread Cert.PooledReferenceIdeal.nD Cert.PooledReferenceIdeal.τ).loc Cert.PooledReferenceIdeal.main_arg1)) (m ((c.tc : Thread Cert.PooledReferenceIdeal.nD Cert.PooledReferenceIdeal.τ).loc Cert.PooledReferenceIdeal.main_arg2))) = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_PartsKernel (m : (ℓ : Loc Cert.PartsKernel.nD Cert.PartsKernel.τ Cert.PartsKernel.sig) → Buf (Elt Bits) ℓ) : Prop :=
  True

def Pre_PartsKernelIdeal (m : (ℓ : Loc Cert.PartsKernelIdeal.nD Cert.PartsKernelIdeal.τ Cert.PartsKernelIdeal.sig) → Buf (Elt Ideal) ℓ) : Prop :=
  True

def Pre_PartsReferenceIdeal (m : (ℓ : Loc Cert.PartsReferenceIdeal.nD Cert.PartsReferenceIdeal.τ Cert.PartsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_MixerKernel [hMixerKernel : Cert.MixerKernel.Facts] : Prop :=
  ∀ (m : (ℓ : Loc Cert.MixerKernel.nD Cert.MixerKernel.τ Cert.MixerKernel.sig) → Buf (Elt Bits) ℓ) (g : Dev Cert.MixerKernel.nD → PrngReg), Pre_MixerKernel m →
    θ_run (Cert.MixerKernel.defs (F := Bits)) (onTc (τ := Cert.MixerKernel.τ) (Cert.MixerKernel.main (F := Bits))) ⟨m, fun _ => 0, g⟩ (fun r => (∀ c : Dev Cert.MixerKernel.nD,
      r.2.mem ((c.tc : Thread Cert.MixerKernel.nD Cert.MixerKernel.τ).loc Cert.MixerKernel.main_arg0) = m ((c.tc : Thread Cert.MixerKernel.nD Cert.MixerKernel.τ).loc Cert.MixerKernel.main_arg0)
      ∧ r.2.mem ((c.tc : Thread Cert.MixerKernel.nD Cert.MixerKernel.τ).loc Cert.MixerKernel.main_arg1) = m ((c.tc : Thread Cert.MixerKernel.nD Cert.MixerKernel.τ).loc Cert.MixerKernel.main_arg1)
      ∧ r.2.mem ((c.tc : Thread Cert.MixerKernel.nD Cert.MixerKernel.τ).loc Cert.MixerKernel.main_arg2) = m ((c.tc : Thread Cert.MixerKernel.nD Cert.MixerKernel.τ).loc Cert.MixerKernel.main_arg2)
      ∧ r.2.mem ((c.tc : Thread Cert.MixerKernel.nD Cert.MixerKernel.τ).loc Cert.MixerKernel.main_arg3) = m ((c.tc : Thread Cert.MixerKernel.nD Cert.MixerKernel.τ).loc Cert.MixerKernel.main_arg3)
      ∧ r.2.mem ((c.tc : Thread Cert.MixerKernel.nD Cert.MixerKernel.τ).loc Cert.MixerKernel.main_arg4) = m ((c.tc : Thread Cert.MixerKernel.nD Cert.MixerKernel.τ).loc Cert.MixerKernel.main_arg4)
      ∧ r.2.mem ((c.tc : Thread Cert.MixerKernel.nD Cert.MixerKernel.τ).loc Cert.MixerKernel.main_arg5) = m ((c.tc : Thread Cert.MixerKernel.nD Cert.MixerKernel.τ).loc Cert.MixerKernel.main_arg5)
      ∧ r.2.mem ((c.tc : Thread Cert.MixerKernel.nD Cert.MixerKernel.τ).loc Cert.MixerKernel.main_arg6) = m ((c.tc : Thread Cert.MixerKernel.nD Cert.MixerKernel.τ).loc Cert.MixerKernel.main_arg6)
      ∧ r.2.mem ((c.tc : Thread Cert.MixerKernel.nD Cert.MixerKernel.τ).loc Cert.MixerKernel.main_arg7) = m ((c.tc : Thread Cert.MixerKernel.nD Cert.MixerKernel.τ).loc Cert.MixerKernel.main_arg7)
      ∧ r.2.mem ((c.tc : Thread Cert.MixerKernel.nD Cert.MixerKernel.τ).loc Cert.MixerKernel.main_arg8) = m ((c.tc : Thread Cert.MixerKernel.nD Cert.MixerKernel.τ).loc Cert.MixerKernel.main_arg8)
      ∧ r.2.mem ((c.tc : Thread Cert.MixerKernel.nD Cert.MixerKernel.τ).loc Cert.MixerKernel.main_arg9) = m ((c.tc : Thread Cert.MixerKernel.nD Cert.MixerKernel.τ).loc Cert.MixerKernel.main_arg9)
      ∧ r.2.mem ((c.tc : Thread Cert.MixerKernel.nD Cert.MixerKernel.τ).loc Cert.MixerKernel.main_arg10) = m ((c.tc : Thread Cert.MixerKernel.nD Cert.MixerKernel.τ).loc Cert.MixerKernel.main_arg10)
      ∧ r.2.mem ((c.tc : Thread Cert.MixerKernel.nD Cert.MixerKernel.τ).loc Cert.MixerKernel.main_arg11) = m ((c.tc : Thread Cert.MixerKernel.nD Cert.MixerKernel.τ).loc Cert.MixerKernel.main_arg11)
      ∧ r.2.mem ((c.tc : Thread Cert.MixerKernel.nD Cert.MixerKernel.τ).loc Cert.MixerKernel.main_arg12) = m ((c.tc : Thread Cert.MixerKernel.nD Cert.MixerKernel.τ).loc Cert.MixerKernel.main_arg12)
      ∧ r.2.mem ((c.tc : Thread Cert.MixerKernel.nD Cert.MixerKernel.τ).loc Cert.MixerKernel.main_arg13) = m ((c.tc : Thread Cert.MixerKernel.nD Cert.MixerKernel.τ).loc Cert.MixerKernel.main_arg13))
      ∧ r.2.sem = fun _ => 0)

def quiescent_MixerKernelIdeal [hMixerKernelIdeal : Cert.MixerKernelIdeal.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg), Pre_MixerKernelIdeal m →
    θ_run (Cert.MixerKernelIdeal.defs (F := Ideal)) (onTc (τ := Cert.MixerKernelIdeal.τ) (Cert.MixerKernelIdeal.main (F := Ideal))) ⟨m, fun _ => 0, g⟩ (fun r => (∀ c : Dev Cert.MixerKernelIdeal.nD,
      r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
      ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
      ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
      ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
      ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
      ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
      ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
      ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
      ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
      ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
      ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
      ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
      ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
      ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_JoinKernel [hJoinKernel : Cert.JoinKernel.Facts] : Prop :=
  ∀ (m : (ℓ : Loc Cert.JoinKernel.nD Cert.JoinKernel.τ Cert.JoinKernel.sig) → Buf (Elt Bits) ℓ) (g : Dev Cert.JoinKernel.nD → PrngReg), Pre_JoinKernel m →
    θ_run (Cert.JoinKernel.defs (F := Bits)) (onTc (τ := Cert.JoinKernel.τ) (Cert.JoinKernel.main (F := Bits))) ⟨m, fun _ => 0, g⟩ (fun r => (∀ c : Dev Cert.JoinKernel.nD,
      r.2.mem ((c.tc : Thread Cert.JoinKernel.nD Cert.JoinKernel.τ).loc Cert.JoinKernel.main_arg0) = m ((c.tc : Thread Cert.JoinKernel.nD Cert.JoinKernel.τ).loc Cert.JoinKernel.main_arg0)
      ∧ r.2.mem ((c.tc : Thread Cert.JoinKernel.nD Cert.JoinKernel.τ).loc Cert.JoinKernel.main_arg1) = m ((c.tc : Thread Cert.JoinKernel.nD Cert.JoinKernel.τ).loc Cert.JoinKernel.main_arg1)
      ∧ r.2.mem ((c.tc : Thread Cert.JoinKernel.nD Cert.JoinKernel.τ).loc Cert.JoinKernel.main_arg2) = m ((c.tc : Thread Cert.JoinKernel.nD Cert.JoinKernel.τ).loc Cert.JoinKernel.main_arg2)
      ∧ r.2.mem ((c.tc : Thread Cert.JoinKernel.nD Cert.JoinKernel.τ).loc Cert.JoinKernel.main_arg3) = m ((c.tc : Thread Cert.JoinKernel.nD Cert.JoinKernel.τ).loc Cert.JoinKernel.main_arg3)
      ∧ r.2.mem ((c.tc : Thread Cert.JoinKernel.nD Cert.JoinKernel.τ).loc Cert.JoinKernel.main_arg4) = m ((c.tc : Thread Cert.JoinKernel.nD Cert.JoinKernel.τ).loc Cert.JoinKernel.main_arg4)
      ∧ r.2.mem ((c.tc : Thread Cert.JoinKernel.nD Cert.JoinKernel.τ).loc Cert.JoinKernel.main_arg5) = m ((c.tc : Thread Cert.JoinKernel.nD Cert.JoinKernel.τ).loc Cert.JoinKernel.main_arg5)
      ∧ r.2.mem ((c.tc : Thread Cert.JoinKernel.nD Cert.JoinKernel.τ).loc Cert.JoinKernel.main_arg6) = m ((c.tc : Thread Cert.JoinKernel.nD Cert.JoinKernel.τ).loc Cert.JoinKernel.main_arg6)
      ∧ r.2.mem ((c.tc : Thread Cert.JoinKernel.nD Cert.JoinKernel.τ).loc Cert.JoinKernel.main_arg7) = m ((c.tc : Thread Cert.JoinKernel.nD Cert.JoinKernel.τ).loc Cert.JoinKernel.main_arg7)
      ∧ r.2.mem ((c.tc : Thread Cert.JoinKernel.nD Cert.JoinKernel.τ).loc Cert.JoinKernel.main_arg8) = m ((c.tc : Thread Cert.JoinKernel.nD Cert.JoinKernel.τ).loc Cert.JoinKernel.main_arg8)
      ∧ r.2.mem ((c.tc : Thread Cert.JoinKernel.nD Cert.JoinKernel.τ).loc Cert.JoinKernel.main_arg9) = m ((c.tc : Thread Cert.JoinKernel.nD Cert.JoinKernel.τ).loc Cert.JoinKernel.main_arg9))
      ∧ r.2.sem = fun _ => 0)

def quiescent_JoinKernelIdeal [hJoinKernelIdeal : Cert.JoinKernelIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg), Pre_JoinKernelIdeal m →
    θ_run (Cert.JoinKernelIdeal.defs (F := Ideal)) (onTc (τ := Cert.JoinKernelIdeal.τ) (Cert.JoinKernelIdeal.main (F := Ideal))) ⟨m, fun _ => 0, g⟩ (fun r => (∀ c : Dev Cert.JoinKernelIdeal.nD,
      r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
      ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
      ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
      ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
      ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4)
      ∧ r.2.mem ((c.tc : Thread Cert.JoinKernelIdeal.nD Cert.JoinKernelIdeal.τ).loc Cert.JoinKernelIdeal.main_arg5) = m ((c.tc : Thread Cert.JoinKernelIdeal.nD Cert.JoinKernelIdeal.τ).loc Cert.JoinKernelIdeal.main_arg5)
      ∧ r.2.mem ((c.tc : Thread Cert.JoinKernelIdeal.nD Cert.JoinKernelIdeal.τ).loc Cert.JoinKernelIdeal.main_arg6) = m ((c.tc : Thread Cert.JoinKernelIdeal.nD Cert.JoinKernelIdeal.τ).loc Cert.JoinKernelIdeal.main_arg6)
      ∧ r.2.mem ((c.tc : Thread Cert.JoinKernelIdeal.nD Cert.JoinKernelIdeal.τ).loc Cert.JoinKernelIdeal.main_arg7) = m ((c.tc : Thread Cert.JoinKernelIdeal.nD Cert.JoinKernelIdeal.τ).loc Cert.JoinKernelIdeal.main_arg7)
      ∧ r.2.mem ((c.tc : Thread Cert.JoinKernelIdeal.nD Cert.JoinKernelIdeal.τ).loc Cert.JoinKernelIdeal.main_arg8) = m ((c.tc : Thread Cert.JoinKernelIdeal.nD Cert.JoinKernelIdeal.τ).loc Cert.JoinKernelIdeal.main_arg8)
      ∧ r.2.mem ((c.tc : Thread Cert.JoinKernelIdeal.nD Cert.JoinKernelIdeal.τ).loc Cert.JoinKernelIdeal.main_arg9) = m ((c.tc : Thread Cert.JoinKernelIdeal.nD Cert.JoinKernelIdeal.τ).loc Cert.JoinKernelIdeal.main_arg9))
      ∧ r.2.sem = fun _ => 0)

def quiescent_JoinReferenceIdeal [hJoinReferenceIdeal : Cert.JoinReferenceIdeal.Facts] : Prop :=
  ∀ (m : (ℓ : Loc Cert.JoinReferenceIdeal.nD Cert.JoinReferenceIdeal.τ Cert.JoinReferenceIdeal.sig) → Buf (Elt Ideal) ℓ) (g : Dev Cert.JoinReferenceIdeal.nD → PrngReg), Pre_JoinReferenceIdeal m →
    θ_run (Cert.JoinReferenceIdeal.defs (F := Ideal)) (onTc (τ := Cert.JoinReferenceIdeal.τ) (Cert.JoinReferenceIdeal.main (F := Ideal))) ⟨m, fun _ => 0, g⟩ (fun r => (∀ c : Dev Cert.JoinReferenceIdeal.nD,
      r.2.mem ((c.tc : Thread Cert.JoinReferenceIdeal.nD Cert.JoinReferenceIdeal.τ).loc Cert.JoinReferenceIdeal.main_arg0) = m ((c.tc : Thread Cert.JoinReferenceIdeal.nD Cert.JoinReferenceIdeal.τ).loc Cert.JoinReferenceIdeal.main_arg0)
      ∧ r.2.mem ((c.tc : Thread Cert.JoinReferenceIdeal.nD Cert.JoinReferenceIdeal.τ).loc Cert.JoinReferenceIdeal.main_arg1) = m ((c.tc : Thread Cert.JoinReferenceIdeal.nD Cert.JoinReferenceIdeal.τ).loc Cert.JoinReferenceIdeal.main_arg1)
      ∧ r.2.mem ((c.tc : Thread Cert.JoinReferenceIdeal.nD Cert.JoinReferenceIdeal.τ).loc Cert.JoinReferenceIdeal.main_arg2) = m ((c.tc : Thread Cert.JoinReferenceIdeal.nD Cert.JoinReferenceIdeal.τ).loc Cert.JoinReferenceIdeal.main_arg2)
      ∧ r.2.mem ((c.tc : Thread Cert.JoinReferenceIdeal.nD Cert.JoinReferenceIdeal.τ).loc Cert.JoinReferenceIdeal.main_arg3) = m ((c.tc : Thread Cert.JoinReferenceIdeal.nD Cert.JoinReferenceIdeal.τ).loc Cert.JoinReferenceIdeal.main_arg3)
      ∧ r.2.mem ((c.tc : Thread Cert.JoinReferenceIdeal.nD Cert.JoinReferenceIdeal.τ).loc Cert.JoinReferenceIdeal.main_arg4) = m ((c.tc : Thread Cert.JoinReferenceIdeal.nD Cert.JoinReferenceIdeal.τ).loc Cert.JoinReferenceIdeal.main_arg4)
      ∧ r.2.mem ((c.tc : Thread Cert.JoinReferenceIdeal.nD Cert.JoinReferenceIdeal.τ).loc Cert.JoinReferenceIdeal.main_arg5) = m ((c.tc : Thread Cert.JoinReferenceIdeal.nD Cert.JoinReferenceIdeal.τ).loc Cert.JoinReferenceIdeal.main_arg5)
      ∧ r.2.mem ((c.tc : Thread Cert.JoinReferenceIdeal.nD Cert.JoinReferenceIdeal.τ).loc Cert.JoinReferenceIdeal.main_arg6) = m ((c.tc : Thread Cert.JoinReferenceIdeal.nD Cert.JoinReferenceIdeal.τ).loc Cert.JoinReferenceIdeal.main_arg6)
      ∧ r.2.mem ((c.tc : Thread Cert.JoinReferenceIdeal.nD Cert.JoinReferenceIdeal.τ).loc Cert.JoinReferenceIdeal.main_arg7) = m ((c.tc : Thread Cert.JoinReferenceIdeal.nD Cert.JoinReferenceIdeal.τ).loc Cert.JoinReferenceIdeal.main_arg7)
      ∧ r.2.mem ((c.tc : Thread Cert.JoinReferenceIdeal.nD Cert.JoinReferenceIdeal.τ).loc Cert.JoinReferenceIdeal.main_arg8) = m ((c.tc : Thread Cert.JoinReferenceIdeal.nD Cert.JoinReferenceIdeal.τ).loc Cert.JoinReferenceIdeal.main_arg8)
      ∧ r.2.mem ((c.tc : Thread Cert.JoinReferenceIdeal.nD Cert.JoinReferenceIdeal.τ).loc Cert.JoinReferenceIdeal.main_arg9) = m ((c.tc : Thread Cert.JoinReferenceIdeal.nD Cert.JoinReferenceIdeal.τ).loc Cert.JoinReferenceIdeal.main_arg9))
      ∧ r.2.sem = fun _ => 0)

def quiescent_LatentKernel [hLatentKernel : Cert.LatentKernel.Facts] : Prop :=
  ∀ (m : (ℓ : Loc Cert.LatentKernel.nD Cert.LatentKernel.τ Cert.LatentKernel.sig) → Buf (Elt Bits) ℓ) (g : Dev Cert.LatentKernel.nD → PrngReg), Pre_LatentKernel m →
    θ_run (Cert.LatentKernel.defs (F := Bits)) (onTc (τ := Cert.LatentKernel.τ) (Cert.LatentKernel.main (F := Bits))) ⟨m, fun _ => 0, g⟩ (fun r => (∀ c : Dev Cert.LatentKernel.nD,
      r.2.mem ((c.tc : Thread Cert.LatentKernel.nD Cert.LatentKernel.τ).loc Cert.LatentKernel.main_arg0) = m ((c.tc : Thread Cert.LatentKernel.nD Cert.LatentKernel.τ).loc Cert.LatentKernel.main_arg0)
      ∧ r.2.mem ((c.tc : Thread Cert.LatentKernel.nD Cert.LatentKernel.τ).loc Cert.LatentKernel.main_arg1) = m ((c.tc : Thread Cert.LatentKernel.nD Cert.LatentKernel.τ).loc Cert.LatentKernel.main_arg1)
      ∧ r.2.mem ((c.tc : Thread Cert.LatentKernel.nD Cert.LatentKernel.τ).loc Cert.LatentKernel.main_arg2) = m ((c.tc : Thread Cert.LatentKernel.nD Cert.LatentKernel.τ).loc Cert.LatentKernel.main_arg2)
      ∧ r.2.mem ((c.tc : Thread Cert.LatentKernel.nD Cert.LatentKernel.τ).loc Cert.LatentKernel.main_arg3) = m ((c.tc : Thread Cert.LatentKernel.nD Cert.LatentKernel.τ).loc Cert.LatentKernel.main_arg3)
      ∧ r.2.mem ((c.tc : Thread Cert.LatentKernel.nD Cert.LatentKernel.τ).loc Cert.LatentKernel.main_arg4) = m ((c.tc : Thread Cert.LatentKernel.nD Cert.LatentKernel.τ).loc Cert.LatentKernel.main_arg4)
      ∧ r.2.mem ((c.tc : Thread Cert.LatentKernel.nD Cert.LatentKernel.τ).loc Cert.LatentKernel.main_arg5) = m ((c.tc : Thread Cert.LatentKernel.nD Cert.LatentKernel.τ).loc Cert.LatentKernel.main_arg5)
      ∧ r.2.mem ((c.tc : Thread Cert.LatentKernel.nD Cert.LatentKernel.τ).loc Cert.LatentKernel.main_arg6) = m ((c.tc : Thread Cert.LatentKernel.nD Cert.LatentKernel.τ).loc Cert.LatentKernel.main_arg6))
      ∧ r.2.sem = fun _ => 0)

def quiescent_LatentKernelIdeal [hLatentKernelIdeal : Cert.LatentKernelIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg), Pre_LatentKernelIdeal m →
    θ_run (Cert.LatentKernelIdeal.defs (F := Ideal)) (onTc (τ := Cert.LatentKernelIdeal.τ) (Cert.LatentKernelIdeal.main (F := Ideal))) ⟨m, fun _ => 0, g⟩ (fun r => (∀ c : Dev Cert.LatentKernelIdeal.nD,
      r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
      ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
      ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
      ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
      ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4)
      ∧ r.2.mem ((c.tc : Thread Cert.LatentKernelIdeal.nD Cert.LatentKernelIdeal.τ).loc Cert.LatentKernelIdeal.main_arg5) = m ((c.tc : Thread Cert.LatentKernelIdeal.nD Cert.LatentKernelIdeal.τ).loc Cert.LatentKernelIdeal.main_arg5)
      ∧ r.2.mem ((c.tc : Thread Cert.LatentKernelIdeal.nD Cert.LatentKernelIdeal.τ).loc Cert.LatentKernelIdeal.main_arg6) = m ((c.tc : Thread Cert.LatentKernelIdeal.nD Cert.LatentKernelIdeal.τ).loc Cert.LatentKernelIdeal.main_arg6))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6))
      ∧ r.2.sem = fun _ => 0)

def quiescent_PooledKernel [hPooledKernel : Cert.PooledKernel.Facts] : Prop :=
  ∀ (m : (ℓ : Loc Cert.PooledKernel.nD Cert.PooledKernel.τ Cert.PooledKernel.sig) → Buf (Elt Bits) ℓ) (g : Dev Cert.PooledKernel.nD → PrngReg), Pre_PooledKernel m →
    θ_run (Cert.PooledKernel.defs (F := Bits)) (onTc (τ := Cert.PooledKernel.τ) (Cert.PooledKernel.main (F := Bits))) ⟨m, fun _ => 0, g⟩ (fun r => (∀ c : Dev Cert.PooledKernel.nD,
      r.2.mem ((c.tc : Thread Cert.PooledKernel.nD Cert.PooledKernel.τ).loc Cert.PooledKernel.main_arg0) = m ((c.tc : Thread Cert.PooledKernel.nD Cert.PooledKernel.τ).loc Cert.PooledKernel.main_arg0)
      ∧ r.2.mem ((c.tc : Thread Cert.PooledKernel.nD Cert.PooledKernel.τ).loc Cert.PooledKernel.main_arg1) = m ((c.tc : Thread Cert.PooledKernel.nD Cert.PooledKernel.τ).loc Cert.PooledKernel.main_arg1)
      ∧ r.2.mem ((c.tc : Thread Cert.PooledKernel.nD Cert.PooledKernel.τ).loc Cert.PooledKernel.main_arg2) = m ((c.tc : Thread Cert.PooledKernel.nD Cert.PooledKernel.τ).loc Cert.PooledKernel.main_arg2))
      ∧ r.2.sem = fun _ => 0)

def quiescent_PooledKernelIdeal [hPooledKernelIdeal : Cert.PooledKernelIdeal.Facts] : Prop :=
  ∀ (m : (ℓ : Loc Cert.PooledKernelIdeal.nD Cert.PooledKernelIdeal.τ Cert.PooledKernelIdeal.sig) → Buf (Elt Ideal) ℓ) (g : Dev Cert.PooledKernelIdeal.nD → PrngReg), Pre_PooledKernelIdeal m →
    θ_run (Cert.PooledKernelIdeal.defs (F := Ideal)) (onTc (τ := Cert.PooledKernelIdeal.τ) (Cert.PooledKernelIdeal.main (F := Ideal))) ⟨m, fun _ => 0, g⟩ (fun r => (∀ c : Dev Cert.PooledKernelIdeal.nD,
      r.2.mem ((c.tc : Thread Cert.PooledKernelIdeal.nD Cert.PooledKernelIdeal.τ).loc Cert.PooledKernelIdeal.main_arg0) = m ((c.tc : Thread Cert.PooledKernelIdeal.nD Cert.PooledKernelIdeal.τ).loc Cert.PooledKernelIdeal.main_arg0)
      ∧ r.2.mem ((c.tc : Thread Cert.PooledKernelIdeal.nD Cert.PooledKernelIdeal.τ).loc Cert.PooledKernelIdeal.main_arg1) = m ((c.tc : Thread Cert.PooledKernelIdeal.nD Cert.PooledKernelIdeal.τ).loc Cert.PooledKernelIdeal.main_arg1)
      ∧ r.2.mem ((c.tc : Thread Cert.PooledKernelIdeal.nD Cert.PooledKernelIdeal.τ).loc Cert.PooledKernelIdeal.main_arg2) = m ((c.tc : Thread Cert.PooledKernelIdeal.nD Cert.PooledKernelIdeal.τ).loc Cert.PooledKernelIdeal.main_arg2))
      ∧ r.2.sem = fun _ => 0)

def quiescent_PooledKernelIdeal_pre_tokens_finite [hPooledKernelIdeal : Cert.PooledKernelIdeal.Facts] [hPre_tokens_finite : Cert.Pre_tokens_finite.Facts] : Prop :=
  ∀ (m : (ℓ : Loc Cert.PooledKernelIdeal.nD Cert.PooledKernelIdeal.τ Cert.PooledKernelIdeal.sig) → Buf (Elt Ideal) ℓ) (g : Dev Cert.PooledKernelIdeal.nD → PrngReg), Pre_PooledKernelIdeal_tokens_finite m →
    θ_run (Cert.PooledKernelIdeal.defs (F := Ideal)) (onTc (τ := Cert.PooledKernelIdeal.τ) (Cert.PooledKernelIdeal.main (F := Ideal))) ⟨m, fun _ => 0, g⟩ (fun r => (∀ c : Dev Cert.PooledKernelIdeal.nD,
      r.2.mem ((c.tc : Thread Cert.PooledKernelIdeal.nD Cert.PooledKernelIdeal.τ).loc Cert.PooledKernelIdeal.main_arg0) = m ((c.tc : Thread Cert.PooledKernelIdeal.nD Cert.PooledKernelIdeal.τ).loc Cert.PooledKernelIdeal.main_arg0)
      ∧ r.2.mem ((c.tc : Thread Cert.PooledKernelIdeal.nD Cert.PooledKernelIdeal.τ).loc Cert.PooledKernelIdeal.main_arg1) = m ((c.tc : Thread Cert.PooledKernelIdeal.nD Cert.PooledKernelIdeal.τ).loc Cert.PooledKernelIdeal.main_arg1)
      ∧ r.2.mem ((c.tc : Thread Cert.PooledKernelIdeal.nD Cert.PooledKernelIdeal.τ).loc Cert.PooledKernelIdeal.main_arg2) = m ((c.tc : Thread Cert.PooledKernelIdeal.nD Cert.PooledKernelIdeal.τ).loc Cert.PooledKernelIdeal.main_arg2))
      ∧ r.2.sem = fun _ => 0)

def quiescent_PooledReferenceIdeal [hPooledReferenceIdeal : Cert.PooledReferenceIdeal.Facts] : Prop :=
  ∀ (m : (ℓ : Loc Cert.PooledReferenceIdeal.nD Cert.PooledReferenceIdeal.τ Cert.PooledReferenceIdeal.sig) → Buf (Elt Ideal) ℓ) (g : Dev Cert.PooledReferenceIdeal.nD → PrngReg), Pre_PooledReferenceIdeal m →
    θ_run (Cert.PooledReferenceIdeal.defs (F := Ideal)) (onTc (τ := Cert.PooledReferenceIdeal.τ) (Cert.PooledReferenceIdeal.main (F := Ideal))) ⟨m, fun _ => 0, g⟩ (fun r => (∀ c : Dev Cert.PooledReferenceIdeal.nD,
      r.2.mem ((c.tc : Thread Cert.PooledReferenceIdeal.nD Cert.PooledReferenceIdeal.τ).loc Cert.PooledReferenceIdeal.main_arg0) = m ((c.tc : Thread Cert.PooledReferenceIdeal.nD Cert.PooledReferenceIdeal.τ).loc Cert.PooledReferenceIdeal.main_arg0)
      ∧ r.2.mem ((c.tc : Thread Cert.PooledReferenceIdeal.nD Cert.PooledReferenceIdeal.τ).loc Cert.PooledReferenceIdeal.main_arg1) = m ((c.tc : Thread Cert.PooledReferenceIdeal.nD Cert.PooledReferenceIdeal.τ).loc Cert.PooledReferenceIdeal.main_arg1)
      ∧ r.2.mem ((c.tc : Thread Cert.PooledReferenceIdeal.nD Cert.PooledReferenceIdeal.τ).loc Cert.PooledReferenceIdeal.main_arg2) = m ((c.tc : Thread Cert.PooledReferenceIdeal.nD Cert.PooledReferenceIdeal.τ).loc Cert.PooledReferenceIdeal.main_arg2))
      ∧ r.2.sem = fun _ => 0)

def quiescent_PooledReferenceIdeal_pre_tokens_finite [hPooledReferenceIdeal : Cert.PooledReferenceIdeal.Facts] [hPre_tokens_finite : Cert.Pre_tokens_finite.Facts] : Prop :=
  ∀ (m : (ℓ : Loc Cert.PooledReferenceIdeal.nD Cert.PooledReferenceIdeal.τ Cert.PooledReferenceIdeal.sig) → Buf (Elt Ideal) ℓ) (g : Dev Cert.PooledReferenceIdeal.nD → PrngReg), Pre_PooledReferenceIdeal_tokens_finite m →
    θ_run (Cert.PooledReferenceIdeal.defs (F := Ideal)) (onTc (τ := Cert.PooledReferenceIdeal.τ) (Cert.PooledReferenceIdeal.main (F := Ideal))) ⟨m, fun _ => 0, g⟩ (fun r => (∀ c : Dev Cert.PooledReferenceIdeal.nD,
      r.2.mem ((c.tc : Thread Cert.PooledReferenceIdeal.nD Cert.PooledReferenceIdeal.τ).loc Cert.PooledReferenceIdeal.main_arg0) = m ((c.tc : Thread Cert.PooledReferenceIdeal.nD Cert.PooledReferenceIdeal.τ).loc Cert.PooledReferenceIdeal.main_arg0)
      ∧ r.2.mem ((c.tc : Thread Cert.PooledReferenceIdeal.nD Cert.PooledReferenceIdeal.τ).loc Cert.PooledReferenceIdeal.main_arg1) = m ((c.tc : Thread Cert.PooledReferenceIdeal.nD Cert.PooledReferenceIdeal.τ).loc Cert.PooledReferenceIdeal.main_arg1)
      ∧ r.2.mem ((c.tc : Thread Cert.PooledReferenceIdeal.nD Cert.PooledReferenceIdeal.τ).loc Cert.PooledReferenceIdeal.main_arg2) = m ((c.tc : Thread Cert.PooledReferenceIdeal.nD Cert.PooledReferenceIdeal.τ).loc Cert.PooledReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_PartsKernel [hPartsKernel : Cert.PartsKernel.Facts] : Prop :=
  ∀ (m : (ℓ : Loc Cert.PartsKernel.nD Cert.PartsKernel.τ Cert.PartsKernel.sig) → Buf (Elt Bits) ℓ) (g : Dev Cert.PartsKernel.nD → PrngReg), Pre_PartsKernel m →
    θ_run (Cert.PartsKernel.defs (F := Bits)) (onTc (τ := Cert.PartsKernel.τ) (Cert.PartsKernel.main (F := Bits))) ⟨m, fun _ => 0, g⟩ (fun r => (∀ c : Dev Cert.PartsKernel.nD,
      r.2.mem ((c.tc : Thread Cert.PartsKernel.nD Cert.PartsKernel.τ).loc Cert.PartsKernel.main_arg0) = m ((c.tc : Thread Cert.PartsKernel.nD Cert.PartsKernel.τ).loc Cert.PartsKernel.main_arg0))
      ∧ r.2.sem = fun _ => 0)

def quiescent_PartsKernelIdeal [hPartsKernelIdeal : Cert.PartsKernelIdeal.Facts] : Prop :=
  ∀ (m : (ℓ : Loc Cert.PartsKernelIdeal.nD Cert.PartsKernelIdeal.τ Cert.PartsKernelIdeal.sig) → Buf (Elt Ideal) ℓ) (g : Dev Cert.PartsKernelIdeal.nD → PrngReg), Pre_PartsKernelIdeal m →
    θ_run (Cert.PartsKernelIdeal.defs (F := Ideal)) (onTc (τ := Cert.PartsKernelIdeal.τ) (Cert.PartsKernelIdeal.main (F := Ideal))) ⟨m, fun _ => 0, g⟩ (fun r => (∀ c : Dev Cert.PartsKernelIdeal.nD,
      r.2.mem ((c.tc : Thread Cert.PartsKernelIdeal.nD Cert.PartsKernelIdeal.τ).loc Cert.PartsKernelIdeal.main_arg0) = m ((c.tc : Thread Cert.PartsKernelIdeal.nD Cert.PartsKernelIdeal.τ).loc Cert.PartsKernelIdeal.main_arg0))
      ∧ r.2.sem = fun _ => 0)

def quiescent_PartsReferenceIdeal [hPartsReferenceIdeal : Cert.PartsReferenceIdeal.Facts] : Prop :=
  ∀ (m : (ℓ : Loc Cert.PartsReferenceIdeal.nD Cert.PartsReferenceIdeal.τ Cert.PartsReferenceIdeal.sig) → Buf (Elt Ideal) ℓ) (g : Dev Cert.PartsReferenceIdeal.nD → PrngReg), Pre_PartsReferenceIdeal m →
    θ_run (Cert.PartsReferenceIdeal.defs (F := Ideal)) (onTc (τ := Cert.PartsReferenceIdeal.τ) (Cert.PartsReferenceIdeal.main (F := Ideal))) ⟨m, fun _ => 0, g⟩ (fun r => (∀ c : Dev Cert.PartsReferenceIdeal.nD,
      r.2.mem ((c.tc : Thread Cert.PartsReferenceIdeal.nD Cert.PartsReferenceIdeal.τ).loc Cert.PartsReferenceIdeal.main_arg0) = m ((c.tc : Thread Cert.PartsReferenceIdeal.nD Cert.PartsReferenceIdeal.τ).loc Cert.PartsReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v52) = v1 c
          ∧ r.2.mem ((c.tc : Thread Cert.LossReferenceIdeal.nD Cert.LossReferenceIdeal.τ).loc Cert.LossReferenceIdeal.main_v53) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_AttnKernel_AttnKernelIdeal : Prop :=
  IdealRules.named_const.Statement Cert.AttnKernelIdeal.κ "mask" .f32 0xF149F2CA#32 ⊥
  ∧ IdealRules.named_const.Statement Cert.AttnKernelIdeal.κ "scale_log2" .f32 0x3DD53B95#32 (((Real.sqrt 192)⁻¹ * (Real.log 2)⁻¹ : ℝ) : EReal)
  ∧ IdealRules.named_const.Statement Cert.AttnKernelIdeal.κ "log2e" .f32 0x3FB8AA3B#32 (((Real.log 2)⁻¹ : ℝ) : EReal)
  ∧ IdealRules.named_const.Statement Cert.AttnKernelIdeal.κ "scale" .f32 0x3D93CD3A#32 (((Real.sqrt 192)⁻¹ : ℝ) : EReal)

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)) →
    ∃ (v0 : (c : Dev Cert.AttnKernelIdeal.nD) → Buf (Elt Ideal) ((c.tc : Thread Cert.AttnKernelIdeal.nD Cert.AttnKernelIdeal.τ).loc Cert.AttnKernelIdeal.main_v12_0)) (v1 : (c : Dev Cert.AttnKernelIdeal.nD) → Buf (Elt Ideal) ((c.tc : Thread Cert.AttnKernelIdeal.nD Cert.AttnKernelIdeal.τ).loc Cert.AttnKernelIdeal.main_v13_0)) (v2 : (c : Dev Cert.AttnKernelIdeal.nD) → Buf (Elt Ideal) ((c.tc : Thread Cert.AttnKernelIdeal.nD Cert.AttnKernelIdeal.τ).loc Cert.AttnKernelIdeal.main_v13_1)) (v3 : (c : Dev Cert.AttnKernelIdeal.nD) → Buf (Elt Ideal) ((c.tc : Thread Cert.AttnKernelIdeal.nD Cert.AttnKernelIdeal.τ).loc Cert.AttnKernelIdeal.main_v13_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v12_0) = v0 c
          ∧ r.2.mem ((c.tc : Thread Cert.AttnKernelIdeal.nD Cert.AttnKernelIdeal.τ).loc Cert.AttnKernelIdeal.main_v13_0) = v1 c
          ∧ r.2.mem ((c.tc : Thread Cert.AttnKernelIdeal.nD Cert.AttnKernelIdeal.τ).loc Cert.AttnKernelIdeal.main_v13_1) = v2 c
          ∧ r.2.mem ((c.tc : Thread Cert.AttnKernelIdeal.nD Cert.AttnKernelIdeal.τ).loc Cert.AttnKernelIdeal.main_v13_2) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v82) = v0 c
          ∧ r.2.mem ((c.tc : Thread Cert.AttnReferenceIdeal.nD Cert.AttnReferenceIdeal.τ).loc Cert.AttnReferenceIdeal.main_v84) = v1 c
          ∧ r.2.mem ((c.tc : Thread Cert.AttnReferenceIdeal.nD Cert.AttnReferenceIdeal.τ).loc Cert.AttnReferenceIdeal.main_v86) = v2 c
          ∧ r.2.mem ((c.tc : Thread Cert.AttnReferenceIdeal.nD Cert.AttnReferenceIdeal.τ).loc Cert.AttnReferenceIdeal.main_v87) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v26_0)) (v1 : (c : Dev Cert.FfnKernelIdeal.nD) → Buf (Elt Ideal) ((c.tc : Thread Cert.FfnKernelIdeal.nD Cert.FfnKernelIdeal.τ).loc Cert.FfnKernelIdeal.main_v26_1)) (v2 : (c : Dev Cert.FfnKernelIdeal.nD) → Buf (Elt Ideal) ((c.tc : Thread Cert.FfnKernelIdeal.nD Cert.FfnKernelIdeal.τ).loc Cert.FfnKernelIdeal.main_v26_2)) (v3 : (c : Dev Cert.FfnKernelIdeal.nD) → Buf (Elt Ideal) ((c.tc : Thread Cert.FfnKernelIdeal.nD Cert.FfnKernelIdeal.τ).loc Cert.FfnKernelIdeal.main_v26_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v26_0) = v0 c
          ∧ r.2.mem ((c.tc : Thread Cert.FfnKernelIdeal.nD Cert.FfnKernelIdeal.τ).loc Cert.FfnKernelIdeal.main_v26_1) = v1 c
          ∧ r.2.mem ((c.tc : Thread Cert.FfnKernelIdeal.nD Cert.FfnKernelIdeal.τ).loc Cert.FfnKernelIdeal.main_v26_2) = v2 c
          ∧ r.2.mem ((c.tc : Thread Cert.FfnKernelIdeal.nD Cert.FfnKernelIdeal.τ).loc Cert.FfnKernelIdeal.main_v26_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v53) = v0 c
          ∧ r.2.mem ((c.tc : Thread Cert.FfnReferenceIdeal.nD Cert.FfnReferenceIdeal.τ).loc Cert.FfnReferenceIdeal.main_v55) = v1 c
          ∧ r.2.mem ((c.tc : Thread Cert.FfnReferenceIdeal.nD Cert.FfnReferenceIdeal.τ).loc Cert.FfnReferenceIdeal.main_v57) = v2 c
          ∧ r.2.mem ((c.tc : Thread Cert.FfnReferenceIdeal.nD Cert.FfnReferenceIdeal.τ).loc Cert.FfnReferenceIdeal.main_v58) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v23_0)) (v1 : (c : Dev Cert.MergeKernelIdeal.nD) → Buf (Elt Ideal) ((c.tc : Thread Cert.MergeKernelIdeal.nD Cert.MergeKernelIdeal.τ).loc Cert.MergeKernelIdeal.main_v23_1)) (v2 : (c : Dev Cert.MergeKernelIdeal.nD) → Buf (Elt Ideal) ((c.tc : Thread Cert.MergeKernelIdeal.nD Cert.MergeKernelIdeal.τ).loc Cert.MergeKernelIdeal.main_v23_2)) (v3 : (c : Dev Cert.MergeKernelIdeal.nD) → Buf (Elt Ideal) ((c.tc : Thread Cert.MergeKernelIdeal.nD Cert.MergeKernelIdeal.τ).loc Cert.MergeKernelIdeal.main_v23_3)) (v4 : (c : Dev Cert.MergeKernelIdeal.nD) → Buf (Elt Ideal) ((c.tc : Thread Cert.MergeKernelIdeal.nD Cert.MergeKernelIdeal.τ).loc Cert.MergeKernelIdeal.main_v23_4)) (v5 : (c : Dev Cert.MergeKernelIdeal.nD) → Buf (Elt Ideal) ((c.tc : Thread Cert.MergeKernelIdeal.nD Cert.MergeKernelIdeal.τ).loc Cert.MergeKernelIdeal.main_v23_5)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v23_0) = v0 c
          ∧ r.2.mem ((c.tc : Thread Cert.MergeKernelIdeal.nD Cert.MergeKernelIdeal.τ).loc Cert.MergeKernelIdeal.main_v23_1) = v1 c
          ∧ r.2.mem ((c.tc : Thread Cert.MergeKernelIdeal.nD Cert.MergeKernelIdeal.τ).loc Cert.MergeKernelIdeal.main_v23_2) = v2 c
          ∧ r.2.mem ((c.tc : Thread Cert.MergeKernelIdeal.nD Cert.MergeKernelIdeal.τ).loc Cert.MergeKernelIdeal.main_v23_3) = v3 c
          ∧ r.2.mem ((c.tc : Thread Cert.MergeKernelIdeal.nD Cert.MergeKernelIdeal.τ).loc Cert.MergeKernelIdeal.main_v23_4) = v4 c
          ∧ r.2.mem ((c.tc : Thread Cert.MergeKernelIdeal.nD Cert.MergeKernelIdeal.τ).loc Cert.MergeKernelIdeal.main_v23_5) = v5 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v43) = v0 c
          ∧ r.2.mem ((c.tc : Thread Cert.MergeReferenceIdeal.nD Cert.MergeReferenceIdeal.τ).loc Cert.MergeReferenceIdeal.main_v45) = v1 c
          ∧ r.2.mem ((c.tc : Thread Cert.MergeReferenceIdeal.nD Cert.MergeReferenceIdeal.τ).loc Cert.MergeReferenceIdeal.main_v47) = v2 c
          ∧ r.2.mem ((c.tc : Thread Cert.MergeReferenceIdeal.nD Cert.MergeReferenceIdeal.τ).loc Cert.MergeReferenceIdeal.main_v48) = v3 c
          ∧ r.2.mem ((c.tc : Thread Cert.MergeReferenceIdeal.nD Cert.MergeReferenceIdeal.τ).loc Cert.MergeReferenceIdeal.main_v49) = v4 c
          ∧ r.2.mem ((c.tc : Thread Cert.MergeReferenceIdeal.nD Cert.MergeReferenceIdeal.τ).loc Cert.MergeReferenceIdeal.main_v51) = v5 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_MixerKernel_MixerKernelIdeal : Prop :=
  True

def algebraic_MixerKernelIdeal_MixerReferenceIdeal [hMixerKernelIdeal : Cert.MixerKernelIdeal.Facts] [hMixerReferenceIdeal : Cert.MixerReferenceIdeal.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerKernelIdeal m →
    (∀ c : Dev Cert.MixerKernelIdeal.nD,
      m' ((c.tc : Thread Cert.MixerReferenceIdeal.nD Cert.MixerReferenceIdeal.τ).loc Cert.MixerReferenceIdeal.main_arg0) = m ((c.tc : Thread Cert.MixerKernelIdeal.nD Cert.MixerKernelIdeal.τ).loc Cert.MixerKernelIdeal.main_arg0)
      ∧ m' ((c.tc : Thread Cert.MixerReferenceIdeal.nD Cert.MixerReferenceIdeal.τ).loc Cert.MixerReferenceIdeal.main_arg1) = m ((c.tc : Thread Cert.MixerKernelIdeal.nD Cert.MixerKernelIdeal.τ).loc Cert.MixerKernelIdeal.main_arg1)
      ∧ m' ((c.tc : Thread Cert.MixerReferenceIdeal.nD Cert.MixerReferenceIdeal.τ).loc Cert.MixerReferenceIdeal.main_arg2) = m ((c.tc : Thread Cert.MixerKernelIdeal.nD Cert.MixerKernelIdeal.τ).loc Cert.MixerKernelIdeal.main_arg2)
      ∧ m' ((c.tc : Thread Cert.MixerReferenceIdeal.nD Cert.MixerReferenceIdeal.τ).loc Cert.MixerReferenceIdeal.main_arg3) = m ((c.tc : Thread Cert.MixerKernelIdeal.nD Cert.MixerKernelIdeal.τ).loc Cert.MixerKernelIdeal.main_arg3)
      ∧ m' ((c.tc : Thread Cert.MixerReferenceIdeal.nD Cert.MixerReferenceIdeal.τ).loc Cert.MixerReferenceIdeal.main_arg4) = m ((c.tc : Thread Cert.MixerKernelIdeal.nD Cert.MixerKernelIdeal.τ).loc Cert.MixerKernelIdeal.main_arg4)
      ∧ m' ((c.tc : Thread Cert.MixerReferenceIdeal.nD Cert.MixerReferenceIdeal.τ).loc Cert.MixerReferenceIdeal.main_arg5) = m ((c.tc : Thread Cert.MixerKernelIdeal.nD Cert.MixerKernelIdeal.τ).loc Cert.MixerKernelIdeal.main_arg5)
      ∧ m' ((c.tc : Thread Cert.MixerReferenceIdeal.nD Cert.MixerReferenceIdeal.τ).loc Cert.MixerReferenceIdeal.main_arg6) = m ((c.tc : Thread Cert.MixerKernelIdeal.nD Cert.MixerKernelIdeal.τ).loc Cert.MixerKernelIdeal.main_arg6)
      ∧ m' ((c.tc : Thread Cert.MixerReferenceIdeal.nD Cert.MixerReferenceIdeal.τ).loc Cert.MixerReferenceIdeal.main_arg7) = m ((c.tc : Thread Cert.MixerKernelIdeal.nD Cert.MixerKernelIdeal.τ).loc Cert.MixerKernelIdeal.main_arg7)
      ∧ m' ((c.tc : Thread Cert.MixerReferenceIdeal.nD Cert.MixerReferenceIdeal.τ).loc Cert.MixerReferenceIdeal.main_arg8) = m ((c.tc : Thread Cert.MixerKernelIdeal.nD Cert.MixerKernelIdeal.τ).loc Cert.MixerKernelIdeal.main_arg8)
      ∧ m' ((c.tc : Thread Cert.MixerReferenceIdeal.nD Cert.MixerReferenceIdeal.τ).loc Cert.MixerReferenceIdeal.main_arg9) = m ((c.tc : Thread Cert.MixerKernelIdeal.nD Cert.MixerKernelIdeal.τ).loc Cert.MixerKernelIdeal.main_arg9)
      ∧ m' ((c.tc : Thread Cert.MixerReferenceIdeal.nD Cert.MixerReferenceIdeal.τ).loc Cert.MixerReferenceIdeal.main_arg10) = m ((c.tc : Thread Cert.MixerKernelIdeal.nD Cert.MixerKernelIdeal.τ).loc Cert.MixerKernelIdeal.main_arg10)
      ∧ m' ((c.tc : Thread Cert.MixerReferenceIdeal.nD Cert.MixerReferenceIdeal.τ).loc Cert.MixerReferenceIdeal.main_arg11) = m ((c.tc : Thread Cert.MixerKernelIdeal.nD Cert.MixerKernelIdeal.τ).loc Cert.MixerKernelIdeal.main_arg11)
      ∧ m' ((c.tc : Thread Cert.MixerReferenceIdeal.nD Cert.MixerReferenceIdeal.τ).loc Cert.MixerReferenceIdeal.main_arg12) = m ((c.tc : Thread Cert.MixerKernelIdeal.nD Cert.MixerKernelIdeal.τ).loc Cert.MixerKernelIdeal.main_arg12)
      ∧ m' ((c.tc : Thread Cert.MixerReferenceIdeal.nD Cert.MixerReferenceIdeal.τ).loc Cert.MixerReferenceIdeal.main_arg13) = m ((c.tc : Thread Cert.MixerKernelIdeal.nD Cert.MixerKernelIdeal.τ).loc Cert.MixerKernelIdeal.main_arg13)) →
    ∃ (v0 : (c : Dev Cert.MixerKernelIdeal.nD) → Buf (Elt Ideal) ((c.tc : Thread Cert.MixerKernelIdeal.nD Cert.MixerKernelIdeal.τ).loc Cert.MixerKernelIdeal.main_v65_0)) (v1 : (c : Dev Cert.MixerKernelIdeal.nD) → Buf (Elt Ideal) ((c.tc : Thread Cert.MixerKernelIdeal.nD Cert.MixerKernelIdeal.τ).loc Cert.MixerKernelIdeal.main_v65_1)) (v2 : (c : Dev Cert.MixerKernelIdeal.nD) → Buf (Elt Ideal) ((c.tc : Thread Cert.MixerKernelIdeal.nD Cert.MixerKernelIdeal.τ).loc Cert.MixerKernelIdeal.main_v65_2)) (v3 : (c : Dev Cert.MixerKernelIdeal.nD) → Buf (Elt Ideal) ((c.tc : Thread Cert.MixerKernelIdeal.nD Cert.MixerKernelIdeal.τ).loc Cert.MixerKernelIdeal.main_v65_3)) (v4 : (c : Dev Cert.MixerKernelIdeal.nD) → Buf (Elt Ideal) ((c.tc : Thread Cert.MixerKernelIdeal.nD Cert.MixerKernelIdeal.τ).loc Cert.MixerKernelIdeal.main_v65_4)) (v5 : (c : Dev Cert.MixerKernelIdeal.nD) → Buf (Elt Ideal) ((c.tc : Thread Cert.MixerKernelIdeal.nD Cert.MixerKernelIdeal.τ).loc Cert.MixerKernelIdeal.main_v65_5)),
      θ_run (Cert.MixerKernelIdeal.defs (F := Ideal)) (onTc (τ := Cert.MixerKernelIdeal.τ) (Cert.MixerKernelIdeal.main (F := Ideal))) ⟨m, fun _ => 0, g⟩ (fun r => ∀ c : Dev Cert.MixerKernelIdeal.nD,
          r.2.mem ((c.tc : Thread Cert.MixerKernelIdeal.nD Cert.MixerKernelIdeal.τ).loc Cert.MixerKernelIdeal.main_v65_0) = v0 c
          ∧ r.2.mem ((c.tc : Thread Cert.MixerKernelIdeal.nD Cert.MixerKernelIdeal.τ).loc Cert.MixerKernelIdeal.main_v65_1) = v1 c
          ∧ r.2.mem ((c.tc : Thread Cert.MixerKernelIdeal.nD Cert.MixerKernelIdeal.τ).loc Cert.MixerKernelIdeal.main_v65_2) = v2 c
          ∧ r.2.mem ((c.tc : Thread Cert.MixerKernelIdeal.nD Cert.MixerKernelIdeal.τ).loc Cert.MixerKernelIdeal.main_v65_3) = v3 c
          ∧ r.2.mem ((c.tc : Thread Cert.MixerKernelIdeal.nD Cert.MixerKernelIdeal.τ).loc Cert.MixerKernelIdeal.main_v65_4) = v4 c
          ∧ r.2.mem ((c.tc : Thread Cert.MixerKernelIdeal.nD Cert.MixerKernelIdeal.τ).loc Cert.MixerKernelIdeal.main_v65_5) = v5 c
          ∧ r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
          ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
          ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
          ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
          ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
          ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
          ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
          ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
          ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
          ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
          ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
          ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
          ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
          ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v200) = v0 c
          ∧ r.2.mem ((c.tc : Thread Cert.MixerReferenceIdeal.nD Cert.MixerReferenceIdeal.τ).loc Cert.MixerReferenceIdeal.main_v201) = v1 c
          ∧ r.2.mem ((c.tc : Thread Cert.MixerReferenceIdeal.nD Cert.MixerReferenceIdeal.τ).loc Cert.MixerReferenceIdeal.main_v202) = v2 c
          ∧ r.2.mem ((c.tc : Thread Cert.MixerReferenceIdeal.nD Cert.MixerReferenceIdeal.τ).loc Cert.MixerReferenceIdeal.main_v203) = v3 c
          ∧ r.2.mem ((c.tc : Thread Cert.MixerReferenceIdeal.nD Cert.MixerReferenceIdeal.τ).loc Cert.MixerReferenceIdeal.main_v205) = v4 c
          ∧ r.2.mem ((c.tc : Thread Cert.MixerReferenceIdeal.nD Cert.MixerReferenceIdeal.τ).loc Cert.MixerReferenceIdeal.main_v206) = v5 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8)
          ∧ r.2.mem ((c.tc : Thread Cert.MixerReferenceIdeal.nD Cert.MixerReferenceIdeal.τ).loc Cert.MixerReferenceIdeal.main_arg9) = m' ((c.tc : Thread Cert.MixerReferenceIdeal.nD Cert.MixerReferenceIdeal.τ).loc Cert.MixerReferenceIdeal.main_arg9)
          ∧ r.2.mem ((c.tc : Thread Cert.MixerReferenceIdeal.nD Cert.MixerReferenceIdeal.τ).loc Cert.MixerReferenceIdeal.main_arg10) = m' ((c.tc : Thread Cert.MixerReferenceIdeal.nD Cert.MixerReferenceIdeal.τ).loc Cert.MixerReferenceIdeal.main_arg10)
          ∧ r.2.mem ((c.tc : Thread Cert.MixerReferenceIdeal.nD Cert.MixerReferenceIdeal.τ).loc Cert.MixerReferenceIdeal.main_arg11) = m' ((c.tc : Thread Cert.MixerReferenceIdeal.nD Cert.MixerReferenceIdeal.τ).loc Cert.MixerReferenceIdeal.main_arg11)
          ∧ r.2.mem ((c.tc : Thread Cert.MixerReferenceIdeal.nD Cert.MixerReferenceIdeal.τ).loc Cert.MixerReferenceIdeal.main_arg12) = m' ((c.tc : Thread Cert.MixerReferenceIdeal.nD Cert.MixerReferenceIdeal.τ).loc Cert.MixerReferenceIdeal.main_arg12)
          ∧ r.2.mem ((c.tc : Thread Cert.MixerReferenceIdeal.nD Cert.MixerReferenceIdeal.τ).loc Cert.MixerReferenceIdeal.main_arg13) = m' ((c.tc : Thread Cert.MixerReferenceIdeal.nD Cert.MixerReferenceIdeal.τ).loc Cert.MixerReferenceIdeal.main_arg13))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v2) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v7_0)) (v1 : (c : Dev Cert.GateKernelIdeal.nD) → Buf (Elt Ideal) ((c.tc : Thread Cert.GateKernelIdeal.nD Cert.GateKernelIdeal.τ).loc Cert.GateKernelIdeal.main_v7_1)) (v2 : (c : Dev Cert.GateKernelIdeal.nD) → Buf (Elt Ideal) ((c.tc : Thread Cert.GateKernelIdeal.nD Cert.GateKernelIdeal.τ).loc Cert.GateKernelIdeal.main_v7_2)) (v3 : (c : Dev Cert.GateKernelIdeal.nD) → Buf (Elt Ideal) ((c.tc : Thread Cert.GateKernelIdeal.nD Cert.GateKernelIdeal.τ).loc Cert.GateKernelIdeal.main_v7_3)) (v4 : (c : Dev Cert.GateKernelIdeal.nD) → Buf (Elt Ideal) ((c.tc : Thread Cert.GateKernelIdeal.nD Cert.GateKernelIdeal.τ).loc Cert.GateKernelIdeal.main_v7_4)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v7_0) = v0 c
          ∧ r.2.mem ((c.tc : Thread Cert.GateKernelIdeal.nD Cert.GateKernelIdeal.τ).loc Cert.GateKernelIdeal.main_v7_1) = v1 c
          ∧ r.2.mem ((c.tc : Thread Cert.GateKernelIdeal.nD Cert.GateKernelIdeal.τ).loc Cert.GateKernelIdeal.main_v7_2) = v2 c
          ∧ r.2.mem ((c.tc : Thread Cert.GateKernelIdeal.nD Cert.GateKernelIdeal.τ).loc Cert.GateKernelIdeal.main_v7_3) = v3 c
          ∧ r.2.mem ((c.tc : Thread Cert.GateKernelIdeal.nD Cert.GateKernelIdeal.τ).loc Cert.GateKernelIdeal.main_v7_4) = v4 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v10) = v0 c
          ∧ r.2.mem ((c.tc : Thread Cert.GateReferenceIdeal.nD Cert.GateReferenceIdeal.τ).loc Cert.GateReferenceIdeal.main_v12) = v1 c
          ∧ r.2.mem ((c.tc : Thread Cert.GateReferenceIdeal.nD Cert.GateReferenceIdeal.τ).loc Cert.GateReferenceIdeal.main_v14) = v2 c
          ∧ r.2.mem ((c.tc : Thread Cert.GateReferenceIdeal.nD Cert.GateReferenceIdeal.τ).loc Cert.GateReferenceIdeal.main_v15) = v3 c
          ∧ r.2.mem ((c.tc : Thread Cert.GateReferenceIdeal.nD Cert.GateReferenceIdeal.τ).loc Cert.GateReferenceIdeal.main_v30) = v4 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_JoinKernel_JoinKernelIdeal : Prop :=
  True

def algebraic_JoinKernelIdeal_JoinReferenceIdeal [hJoinKernelIdeal : Cert.JoinKernelIdeal.Facts] [hJoinReferenceIdeal : Cert.JoinReferenceIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg)
    (m' : (ℓ : Loc Cert.JoinReferenceIdeal.nD Cert.JoinReferenceIdeal.τ Cert.JoinReferenceIdeal.sig) → Buf (Elt Ideal) ℓ) (g' : Dev Cert.JoinReferenceIdeal.nD → PrngReg), Pre_JoinKernelIdeal m →
    (∀ c : Dev Cert.JoinKernelIdeal.nD,
      m' ((c.tc : Thread Cert.JoinReferenceIdeal.nD Cert.JoinReferenceIdeal.τ).loc Cert.JoinReferenceIdeal.main_arg0) = m ((c.tc : Thread Cert.JoinKernelIdeal.nD Cert.JoinKernelIdeal.τ).loc Cert.JoinKernelIdeal.main_arg0)
      ∧ m' ((c.tc : Thread Cert.JoinReferenceIdeal.nD Cert.JoinReferenceIdeal.τ).loc Cert.JoinReferenceIdeal.main_arg1) = m ((c.tc : Thread Cert.JoinKernelIdeal.nD Cert.JoinKernelIdeal.τ).loc Cert.JoinKernelIdeal.main_arg1)
      ∧ m' ((c.tc : Thread Cert.JoinReferenceIdeal.nD Cert.JoinReferenceIdeal.τ).loc Cert.JoinReferenceIdeal.main_arg2) = m ((c.tc : Thread Cert.JoinKernelIdeal.nD Cert.JoinKernelIdeal.τ).loc Cert.JoinKernelIdeal.main_arg2)
      ∧ m' ((c.tc : Thread Cert.JoinReferenceIdeal.nD Cert.JoinReferenceIdeal.τ).loc Cert.JoinReferenceIdeal.main_arg3) = m ((c.tc : Thread Cert.JoinKernelIdeal.nD Cert.JoinKernelIdeal.τ).loc Cert.JoinKernelIdeal.main_arg3)
      ∧ m' ((c.tc : Thread Cert.JoinReferenceIdeal.nD Cert.JoinReferenceIdeal.τ).loc Cert.JoinReferenceIdeal.main_arg4) = m ((c.tc : Thread Cert.JoinKernelIdeal.nD Cert.JoinKernelIdeal.τ).loc Cert.JoinKernelIdeal.main_arg4)
      ∧ m' ((c.tc : Thread Cert.JoinReferenceIdeal.nD Cert.JoinReferenceIdeal.τ).loc Cert.JoinReferenceIdeal.main_arg5) = m ((c.tc : Thread Cert.JoinKernelIdeal.nD Cert.JoinKernelIdeal.τ).loc Cert.JoinKernelIdeal.main_arg5)
      ∧ m' ((c.tc : Thread Cert.JoinReferenceIdeal.nD Cert.JoinReferenceIdeal.τ).loc Cert.JoinReferenceIdeal.main_arg6) = m ((c.tc : Thread Cert.JoinKernelIdeal.nD Cert.JoinKernelIdeal.τ).loc Cert.JoinKernelIdeal.main_arg6)
      ∧ m' ((c.tc : Thread Cert.JoinReferenceIdeal.nD Cert.JoinReferenceIdeal.τ).loc Cert.JoinReferenceIdeal.main_arg7) = m ((c.tc : Thread Cert.JoinKernelIdeal.nD Cert.JoinKernelIdeal.τ).loc Cert.JoinKernelIdeal.main_arg7)
      ∧ m' ((c.tc : Thread Cert.JoinReferenceIdeal.nD Cert.JoinReferenceIdeal.τ).loc Cert.JoinReferenceIdeal.main_arg8) = m ((c.tc : Thread Cert.JoinKernelIdeal.nD Cert.JoinKernelIdeal.τ).loc Cert.JoinKernelIdeal.main_arg8)
      ∧ m' ((c.tc : Thread Cert.JoinReferenceIdeal.nD Cert.JoinReferenceIdeal.τ).loc Cert.JoinReferenceIdeal.main_arg9) = m ((c.tc : Thread Cert.JoinKernelIdeal.nD Cert.JoinKernelIdeal.τ).loc Cert.JoinKernelIdeal.main_arg9)) →
    ∃ (v0 : (c : Dev Cert.JoinKernelIdeal.nD) → Buf (Elt Ideal) ((c.tc : Thread Cert.JoinKernelIdeal.nD Cert.JoinKernelIdeal.τ).loc Cert.JoinKernelIdeal.main_v14_0)) (v1 : (c : Dev Cert.JoinKernelIdeal.nD) → Buf (Elt Ideal) ((c.tc : Thread Cert.JoinKernelIdeal.nD Cert.JoinKernelIdeal.τ).loc Cert.JoinKernelIdeal.main_v14_1)) (v2 : (c : Dev Cert.JoinKernelIdeal.nD) → Buf (Elt Ideal) ((c.tc : Thread Cert.JoinKernelIdeal.nD Cert.JoinKernelIdeal.τ).loc Cert.JoinKernelIdeal.main_v14_2)) (v3 : (c : Dev Cert.JoinKernelIdeal.nD) → Buf (Elt Ideal) ((c.tc : Thread Cert.JoinKernelIdeal.nD Cert.JoinKernelIdeal.τ).loc Cert.JoinKernelIdeal.main_v14_3)) (v4 : (c : Dev Cert.JoinKernelIdeal.nD) → Buf (Elt Ideal) ((c.tc : Thread Cert.JoinKernelIdeal.nD Cert.JoinKernelIdeal.τ).loc Cert.JoinKernelIdeal.main_v14_4)) (v5 : (c : Dev Cert.JoinKernelIdeal.nD) → Buf (Elt Ideal) ((c.tc : Thread Cert.JoinKernelIdeal.nD Cert.JoinKernelIdeal.τ).loc Cert.JoinKernelIdeal.main_v14_5)),
      θ_run (Cert.JoinKernelIdeal.defs (F := Ideal)) (onTc (τ := Cert.JoinKernelIdeal.τ) (Cert.JoinKernelIdeal.main (F := Ideal))) ⟨m, fun _ => 0, g⟩ (fun r => ∀ c : Dev Cert.JoinKernelIdeal.nD,
          r.2.mem ((c.tc : Thread Cert.JoinKernelIdeal.nD Cert.JoinKernelIdeal.τ).loc Cert.JoinKernelIdeal.main_v14_0) = v0 c
          ∧ r.2.mem ((c.tc : Thread Cert.JoinKernelIdeal.nD Cert.JoinKernelIdeal.τ).loc Cert.JoinKernelIdeal.main_v14_1) = v1 c
          ∧ r.2.mem ((c.tc : Thread Cert.JoinKernelIdeal.nD Cert.JoinKernelIdeal.τ).loc Cert.JoinKernelIdeal.main_v14_2) = v2 c
          ∧ r.2.mem ((c.tc : Thread Cert.JoinKernelIdeal.nD Cert.JoinKernelIdeal.τ).loc Cert.JoinKernelIdeal.main_v14_3) = v3 c
          ∧ r.2.mem ((c.tc : Thread Cert.JoinKernelIdeal.nD Cert.JoinKernelIdeal.τ).loc Cert.JoinKernelIdeal.main_v14_4) = v4 c
          ∧ r.2.mem ((c.tc : Thread Cert.JoinKernelIdeal.nD Cert.JoinKernelIdeal.τ).loc Cert.JoinKernelIdeal.main_v14_5) = v5 c
          ∧ r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
          ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
          ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
          ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
          ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4)
          ∧ r.2.mem ((c.tc : Thread Cert.JoinKernelIdeal.nD Cert.JoinKernelIdeal.τ).loc Cert.JoinKernelIdeal.main_arg5) = m ((c.tc : Thread Cert.JoinKernelIdeal.nD Cert.JoinKernelIdeal.τ).loc Cert.JoinKernelIdeal.main_arg5)
          ∧ r.2.mem ((c.tc : Thread Cert.JoinKernelIdeal.nD Cert.JoinKernelIdeal.τ).loc Cert.JoinKernelIdeal.main_arg6) = m ((c.tc : Thread Cert.JoinKernelIdeal.nD Cert.JoinKernelIdeal.τ).loc Cert.JoinKernelIdeal.main_arg6)
          ∧ r.2.mem ((c.tc : Thread Cert.JoinKernelIdeal.nD Cert.JoinKernelIdeal.τ).loc Cert.JoinKernelIdeal.main_arg7) = m ((c.tc : Thread Cert.JoinKernelIdeal.nD Cert.JoinKernelIdeal.τ).loc Cert.JoinKernelIdeal.main_arg7)
          ∧ r.2.mem ((c.tc : Thread Cert.JoinKernelIdeal.nD Cert.JoinKernelIdeal.τ).loc Cert.JoinKernelIdeal.main_arg8) = m ((c.tc : Thread Cert.JoinKernelIdeal.nD Cert.JoinKernelIdeal.τ).loc Cert.JoinKernelIdeal.main_arg8)
          ∧ r.2.mem ((c.tc : Thread Cert.JoinKernelIdeal.nD Cert.JoinKernelIdeal.τ).loc Cert.JoinKernelIdeal.main_arg9) = m ((c.tc : Thread Cert.JoinKernelIdeal.nD Cert.JoinKernelIdeal.τ).loc Cert.JoinKernelIdeal.main_arg9))
      ∧ θ_run (Cert.JoinReferenceIdeal.defs (F := Ideal)) (onTc (τ := Cert.JoinReferenceIdeal.τ) (Cert.JoinReferenceIdeal.main (F := Ideal))) ⟨m', fun _ => 0, g'⟩ (fun r => ∀ c : Dev Cert.JoinReferenceIdeal.nD,
          r.2.mem ((c.tc : Thread Cert.JoinReferenceIdeal.nD Cert.JoinReferenceIdeal.τ).loc Cert.JoinReferenceIdeal.main_v24) = v0 c
          ∧ r.2.mem ((c.tc : Thread Cert.JoinReferenceIdeal.nD Cert.JoinReferenceIdeal.τ).loc Cert.JoinReferenceIdeal.main_v26) = v1 c
          ∧ r.2.mem ((c.tc : Thread Cert.JoinReferenceIdeal.nD Cert.JoinReferenceIdeal.τ).loc Cert.JoinReferenceIdeal.main_v28) = v2 c
          ∧ r.2.mem ((c.tc : Thread Cert.JoinReferenceIdeal.nD Cert.JoinReferenceIdeal.τ).loc Cert.JoinReferenceIdeal.main_v30) = v3 c
          ∧ r.2.mem ((c.tc : Thread Cert.JoinReferenceIdeal.nD Cert.JoinReferenceIdeal.τ).loc Cert.JoinReferenceIdeal.main_v31) = v4 c
          ∧ r.2.mem ((c.tc : Thread Cert.JoinReferenceIdeal.nD Cert.JoinReferenceIdeal.τ).loc Cert.JoinReferenceIdeal.main_v46) = v5 c
          ∧ r.2.mem ((c.tc : Thread Cert.JoinReferenceIdeal.nD Cert.JoinReferenceIdeal.τ).loc Cert.JoinReferenceIdeal.main_arg0) = m' ((c.tc : Thread Cert.JoinReferenceIdeal.nD Cert.JoinReferenceIdeal.τ).loc Cert.JoinReferenceIdeal.main_arg0)
          ∧ r.2.mem ((c.tc : Thread Cert.JoinReferenceIdeal.nD Cert.JoinReferenceIdeal.τ).loc Cert.JoinReferenceIdeal.main_arg1) = m' ((c.tc : Thread Cert.JoinReferenceIdeal.nD Cert.JoinReferenceIdeal.τ).loc Cert.JoinReferenceIdeal.main_arg1)
          ∧ r.2.mem ((c.tc : Thread Cert.JoinReferenceIdeal.nD Cert.JoinReferenceIdeal.τ).loc Cert.JoinReferenceIdeal.main_arg2) = m' ((c.tc : Thread Cert.JoinReferenceIdeal.nD Cert.JoinReferenceIdeal.τ).loc Cert.JoinReferenceIdeal.main_arg2)
          ∧ r.2.mem ((c.tc : Thread Cert.JoinReferenceIdeal.nD Cert.JoinReferenceIdeal.τ).loc Cert.JoinReferenceIdeal.main_arg3) = m' ((c.tc : Thread Cert.JoinReferenceIdeal.nD Cert.JoinReferenceIdeal.τ).loc Cert.JoinReferenceIdeal.main_arg3)
          ∧ r.2.mem ((c.tc : Thread Cert.JoinReferenceIdeal.nD Cert.JoinReferenceIdeal.τ).loc Cert.JoinReferenceIdeal.main_arg4) = m' ((c.tc : Thread Cert.JoinReferenceIdeal.nD Cert.JoinReferenceIdeal.τ).loc Cert.JoinReferenceIdeal.main_arg4)
          ∧ r.2.mem ((c.tc : Thread Cert.JoinReferenceIdeal.nD Cert.JoinReferenceIdeal.τ).loc Cert.JoinReferenceIdeal.main_arg5) = m' ((c.tc : Thread Cert.JoinReferenceIdeal.nD Cert.JoinReferenceIdeal.τ).loc Cert.JoinReferenceIdeal.main_arg5)
          ∧ r.2.mem ((c.tc : Thread Cert.JoinReferenceIdeal.nD Cert.JoinReferenceIdeal.τ).loc Cert.JoinReferenceIdeal.main_arg6) = m' ((c.tc : Thread Cert.JoinReferenceIdeal.nD Cert.JoinReferenceIdeal.τ).loc Cert.JoinReferenceIdeal.main_arg6)
          ∧ r.2.mem ((c.tc : Thread Cert.JoinReferenceIdeal.nD Cert.JoinReferenceIdeal.τ).loc Cert.JoinReferenceIdeal.main_arg7) = m' ((c.tc : Thread Cert.JoinReferenceIdeal.nD Cert.JoinReferenceIdeal.τ).loc Cert.JoinReferenceIdeal.main_arg7)
          ∧ r.2.mem ((c.tc : Thread Cert.JoinReferenceIdeal.nD Cert.JoinReferenceIdeal.τ).loc Cert.JoinReferenceIdeal.main_arg8) = m' ((c.tc : Thread Cert.JoinReferenceIdeal.nD Cert.JoinReferenceIdeal.τ).loc Cert.JoinReferenceIdeal.main_arg8)
          ∧ r.2.mem ((c.tc : Thread Cert.JoinReferenceIdeal.nD Cert.JoinReferenceIdeal.τ).loc Cert.JoinReferenceIdeal.main_arg9) = m' ((c.tc : Thread Cert.JoinReferenceIdeal.nD Cert.JoinReferenceIdeal.τ).loc Cert.JoinReferenceIdeal.main_arg9))

def preserves_LatentKernel_LatentKernelIdeal : Prop :=
  True

def algebraic_LatentKernelIdeal_LatentReferenceIdeal [hLatentKernelIdeal : Cert.LatentKernelIdeal.Facts] [hLatentReferenceIdeal : Cert.LatentReferenceIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentKernelIdeal m →
    (∀ c : Dev Cert.LatentKernelIdeal.nD,
      m' ((c.tc : Thread Cert.LatentReferenceIdeal.nD Cert.LatentReferenceIdeal.τ).loc Cert.LatentReferenceIdeal.main_arg0) = m ((c.tc : Thread Cert.LatentKernelIdeal.nD Cert.LatentKernelIdeal.τ).loc Cert.LatentKernelIdeal.main_arg0)
      ∧ m' ((c.tc : Thread Cert.LatentReferenceIdeal.nD Cert.LatentReferenceIdeal.τ).loc Cert.LatentReferenceIdeal.main_arg1) = m ((c.tc : Thread Cert.LatentKernelIdeal.nD Cert.LatentKernelIdeal.τ).loc Cert.LatentKernelIdeal.main_arg1)
      ∧ m' ((c.tc : Thread Cert.LatentReferenceIdeal.nD Cert.LatentReferenceIdeal.τ).loc Cert.LatentReferenceIdeal.main_arg2) = m ((c.tc : Thread Cert.LatentKernelIdeal.nD Cert.LatentKernelIdeal.τ).loc Cert.LatentKernelIdeal.main_arg2)
      ∧ m' ((c.tc : Thread Cert.LatentReferenceIdeal.nD Cert.LatentReferenceIdeal.τ).loc Cert.LatentReferenceIdeal.main_arg3) = m ((c.tc : Thread Cert.LatentKernelIdeal.nD Cert.LatentKernelIdeal.τ).loc Cert.LatentKernelIdeal.main_arg3)
      ∧ m' ((c.tc : Thread Cert.LatentReferenceIdeal.nD Cert.LatentReferenceIdeal.τ).loc Cert.LatentReferenceIdeal.main_arg4) = m ((c.tc : Thread Cert.LatentKernelIdeal.nD Cert.LatentKernelIdeal.τ).loc Cert.LatentKernelIdeal.main_arg4)
      ∧ m' ((c.tc : Thread Cert.LatentReferenceIdeal.nD Cert.LatentReferenceIdeal.τ).loc Cert.LatentReferenceIdeal.main_arg5) = m ((c.tc : Thread Cert.LatentKernelIdeal.nD Cert.LatentKernelIdeal.τ).loc Cert.LatentKernelIdeal.main_arg5)
      ∧ m' ((c.tc : Thread Cert.LatentReferenceIdeal.nD Cert.LatentReferenceIdeal.τ).loc Cert.LatentReferenceIdeal.main_arg6) = m ((c.tc : Thread Cert.LatentKernelIdeal.nD Cert.LatentKernelIdeal.τ).loc Cert.LatentKernelIdeal.main_arg6)) →
    ∃ (v0 : (c : Dev Cert.LatentKernelIdeal.nD) → Buf (Elt Ideal) ((c.tc : Thread Cert.LatentKernelIdeal.nD Cert.LatentKernelIdeal.τ).loc Cert.LatentKernelIdeal.main_v37_0)) (v1 : (c : Dev Cert.LatentKernelIdeal.nD) → Buf (Elt Ideal) ((c.tc : Thread Cert.LatentKernelIdeal.nD Cert.LatentKernelIdeal.τ).loc Cert.LatentKernelIdeal.main_v37_1)) (v2 : (c : Dev Cert.LatentKernelIdeal.nD) → Buf (Elt Ideal) ((c.tc : Thread Cert.LatentKernelIdeal.nD Cert.LatentKernelIdeal.τ).loc Cert.LatentKernelIdeal.main_v37_2)) (v3 : (c : Dev Cert.LatentKernelIdeal.nD) → Buf (Elt Ideal) ((c.tc : Thread Cert.LatentKernelIdeal.nD Cert.LatentKernelIdeal.τ).loc Cert.LatentKernelIdeal.main_v37_3)) (v4 : (c : Dev Cert.LatentKernelIdeal.nD) → Buf (Elt Ideal) ((c.tc : Thread Cert.LatentKernelIdeal.nD Cert.LatentKernelIdeal.τ).loc Cert.LatentKernelIdeal.main_v37_4)) (v5 : (c : Dev Cert.LatentKernelIdeal.nD) → Buf (Elt Ideal) ((c.tc : Thread Cert.LatentKernelIdeal.nD Cert.LatentKernelIdeal.τ).loc Cert.LatentKernelIdeal.main_v37_5)) (v6 : (c : Dev Cert.LatentKernelIdeal.nD) → Buf (Elt Ideal) ((c.tc : Thread Cert.LatentKernelIdeal.nD Cert.LatentKernelIdeal.τ).loc Cert.LatentKernelIdeal.main_v37_6)) (v7 : (c : Dev Cert.LatentKernelIdeal.nD) → Buf (Elt Ideal) ((c.tc : Thread Cert.LatentKernelIdeal.nD Cert.LatentKernelIdeal.τ).loc Cert.LatentKernelIdeal.main_v37_7)),
      θ_run (Cert.LatentKernelIdeal.defs (F := Ideal)) (onTc (τ := Cert.LatentKernelIdeal.τ) (Cert.LatentKernelIdeal.main (F := Ideal))) ⟨m, fun _ => 0, g⟩ (fun r => ∀ c : Dev Cert.LatentKernelIdeal.nD,
          r.2.mem ((c.tc : Thread Cert.LatentKernelIdeal.nD Cert.LatentKernelIdeal.τ).loc Cert.LatentKernelIdeal.main_v37_0) = v0 c
          ∧ r.2.mem ((c.tc : Thread Cert.LatentKernelIdeal.nD Cert.LatentKernelIdeal.τ).loc Cert.LatentKernelIdeal.main_v37_1) = v1 c
          ∧ r.2.mem ((c.tc : Thread Cert.LatentKernelIdeal.nD Cert.LatentKernelIdeal.τ).loc Cert.LatentKernelIdeal.main_v37_2) = v2 c
          ∧ r.2.mem ((c.tc : Thread Cert.LatentKernelIdeal.nD Cert.LatentKernelIdeal.τ).loc Cert.LatentKernelIdeal.main_v37_3) = v3 c
          ∧ r.2.mem ((c.tc : Thread Cert.LatentKernelIdeal.nD Cert.LatentKernelIdeal.τ).loc Cert.LatentKernelIdeal.main_v37_4) = v4 c
          ∧ r.2.mem ((c.tc : Thread Cert.LatentKernelIdeal.nD Cert.LatentKernelIdeal.τ).loc Cert.LatentKernelIdeal.main_v37_5) = v5 c
          ∧ r.2.mem ((c.tc : Thread Cert.LatentKernelIdeal.nD Cert.LatentKernelIdeal.τ).loc Cert.LatentKernelIdeal.main_v37_6) = v6 c
          ∧ r.2.mem ((c.tc : Thread Cert.LatentKernelIdeal.nD Cert.LatentKernelIdeal.τ).loc Cert.LatentKernelIdeal.main_v37_7) = v7 c
          ∧ r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
          ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
          ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
          ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
          ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4)
          ∧ r.2.mem ((c.tc : Thread Cert.LatentKernelIdeal.nD Cert.LatentKernelIdeal.τ).loc Cert.LatentKernelIdeal.main_arg5) = m ((c.tc : Thread Cert.LatentKernelIdeal.nD Cert.LatentKernelIdeal.τ).loc Cert.LatentKernelIdeal.main_arg5)
          ∧ r.2.mem ((c.tc : Thread Cert.LatentKernelIdeal.nD Cert.LatentKernelIdeal.τ).loc Cert.LatentKernelIdeal.main_arg6) = m ((c.tc : Thread Cert.LatentKernelIdeal.nD Cert.LatentKernelIdeal.τ).loc Cert.LatentKernelIdeal.main_arg6))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v81) = v0 c
          ∧ r.2.mem ((c.tc : Thread Cert.LatentReferenceIdeal.nD Cert.LatentReferenceIdeal.τ).loc Cert.LatentReferenceIdeal.main_v82) = v1 c
          ∧ r.2.mem ((c.tc : Thread Cert.LatentReferenceIdeal.nD Cert.LatentReferenceIdeal.τ).loc Cert.LatentReferenceIdeal.main_v83) = v2 c
          ∧ r.2.mem ((c.tc : Thread Cert.LatentReferenceIdeal.nD Cert.LatentReferenceIdeal.τ).loc Cert.LatentReferenceIdeal.main_v85) = v3 c
          ∧ r.2.mem ((c.tc : Thread Cert.LatentReferenceIdeal.nD Cert.LatentReferenceIdeal.τ).loc Cert.LatentReferenceIdeal.main_v87) = v4 c
          ∧ r.2.mem ((c.tc : Thread Cert.LatentReferenceIdeal.nD Cert.LatentReferenceIdeal.τ).loc Cert.LatentReferenceIdeal.main_v89) = v5 c
          ∧ r.2.mem ((c.tc : Thread Cert.LatentReferenceIdeal.nD Cert.LatentReferenceIdeal.τ).loc Cert.LatentReferenceIdeal.main_v92) = v6 c
          ∧ r.2.mem ((c.tc : Thread Cert.LatentReferenceIdeal.nD Cert.LatentReferenceIdeal.τ).loc Cert.LatentReferenceIdeal.main_v94) = v7 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6))

def preserves_PooledKernel_PooledKernelIdeal : Prop :=
  True

def algebraic_PooledKernelIdeal_PooledReferenceIdeal_pre_tokens_finite [hPooledKernelIdeal : Cert.PooledKernelIdeal.Facts] [hPooledReferenceIdeal : Cert.PooledReferenceIdeal.Facts] [hPre_tokens_finite : Cert.Pre_tokens_finite.Facts] : Prop :=
  ∀ (m : (ℓ : Loc Cert.PooledKernelIdeal.nD Cert.PooledKernelIdeal.τ Cert.PooledKernelIdeal.sig) → Buf (Elt Ideal) ℓ) (g : Dev Cert.PooledKernelIdeal.nD → PrngReg)
    (m' : (ℓ : Loc Cert.PooledReferenceIdeal.nD Cert.PooledReferenceIdeal.τ Cert.PooledReferenceIdeal.sig) → Buf (Elt Ideal) ℓ) (g' : Dev Cert.PooledReferenceIdeal.nD → PrngReg), Pre_PooledKernelIdeal_tokens_finite m →
    (∀ c : Dev Cert.PooledKernelIdeal.nD,
      m' ((c.tc : Thread Cert.PooledReferenceIdeal.nD Cert.PooledReferenceIdeal.τ).loc Cert.PooledReferenceIdeal.main_arg0) = m ((c.tc : Thread Cert.PooledKernelIdeal.nD Cert.PooledKernelIdeal.τ).loc Cert.PooledKernelIdeal.main_arg0)
      ∧ m' ((c.tc : Thread Cert.PooledReferenceIdeal.nD Cert.PooledReferenceIdeal.τ).loc Cert.PooledReferenceIdeal.main_arg1) = m ((c.tc : Thread Cert.PooledKernelIdeal.nD Cert.PooledKernelIdeal.τ).loc Cert.PooledKernelIdeal.main_arg1)
      ∧ m' ((c.tc : Thread Cert.PooledReferenceIdeal.nD Cert.PooledReferenceIdeal.τ).loc Cert.PooledReferenceIdeal.main_arg2) = m ((c.tc : Thread Cert.PooledKernelIdeal.nD Cert.PooledKernelIdeal.τ).loc Cert.PooledKernelIdeal.main_arg2)) →
    ∃ (v0 : (c : Dev Cert.PooledKernelIdeal.nD) → Buf (Elt Ideal) ((c.tc : Thread Cert.PooledKernelIdeal.nD Cert.PooledKernelIdeal.τ).loc Cert.PooledKernelIdeal.main_v2)),
      θ_run (Cert.PooledKernelIdeal.defs (F := Ideal)) (onTc (τ := Cert.PooledKernelIdeal.τ) (Cert.PooledKernelIdeal.main (F := Ideal))) ⟨m, fun _ => 0, g⟩ (fun r => ∀ c : Dev Cert.PooledKernelIdeal.nD,
          r.2.mem ((c.tc : Thread Cert.PooledKernelIdeal.nD Cert.PooledKernelIdeal.τ).loc Cert.PooledKernelIdeal.main_v2) = v0 c
          ∧ r.2.mem ((c.tc : Thread Cert.PooledKernelIdeal.nD Cert.PooledKernelIdeal.τ).loc Cert.PooledKernelIdeal.main_arg0) = m ((c.tc : Thread Cert.PooledKernelIdeal.nD Cert.PooledKernelIdeal.τ).loc Cert.PooledKernelIdeal.main_arg0)
          ∧ r.2.mem ((c.tc : Thread Cert.PooledKernelIdeal.nD Cert.PooledKernelIdeal.τ).loc Cert.PooledKernelIdeal.main_arg1) = m ((c.tc : Thread Cert.PooledKernelIdeal.nD Cert.PooledKernelIdeal.τ).loc Cert.PooledKernelIdeal.main_arg1)
          ∧ r.2.mem ((c.tc : Thread Cert.PooledKernelIdeal.nD Cert.PooledKernelIdeal.τ).loc Cert.PooledKernelIdeal.main_arg2) = m ((c.tc : Thread Cert.PooledKernelIdeal.nD Cert.PooledKernelIdeal.τ).loc Cert.PooledKernelIdeal.main_arg2))
      ∧ θ_run (Cert.PooledReferenceIdeal.defs (F := Ideal)) (onTc (τ := Cert.PooledReferenceIdeal.τ) (Cert.PooledReferenceIdeal.main (F := Ideal))) ⟨m', fun _ => 0, g'⟩ (fun r => ∀ c : Dev Cert.PooledReferenceIdeal.nD,
          r.2.mem ((c.tc : Thread Cert.PooledReferenceIdeal.nD Cert.PooledReferenceIdeal.τ).loc Cert.PooledReferenceIdeal.main_v51) = v0 c
          ∧ r.2.mem ((c.tc : Thread Cert.PooledReferenceIdeal.nD Cert.PooledReferenceIdeal.τ).loc Cert.PooledReferenceIdeal.main_arg0) = m' ((c.tc : Thread Cert.PooledReferenceIdeal.nD Cert.PooledReferenceIdeal.τ).loc Cert.PooledReferenceIdeal.main_arg0)
          ∧ r.2.mem ((c.tc : Thread Cert.PooledReferenceIdeal.nD Cert.PooledReferenceIdeal.τ).loc Cert.PooledReferenceIdeal.main_arg1) = m' ((c.tc : Thread Cert.PooledReferenceIdeal.nD Cert.PooledReferenceIdeal.τ).loc Cert.PooledReferenceIdeal.main_arg1)
          ∧ r.2.mem ((c.tc : Thread Cert.PooledReferenceIdeal.nD Cert.PooledReferenceIdeal.τ).loc Cert.PooledReferenceIdeal.main_arg2) = m' ((c.tc : Thread Cert.PooledReferenceIdeal.nD Cert.PooledReferenceIdeal.τ).loc Cert.PooledReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v3)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v3) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v8) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v6)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v6) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v8_0)) (v1 : (c : Dev Cert.ProjKernelIdeal.nD) → Buf (Elt Ideal) ((c.tc : Thread Cert.ProjKernelIdeal.nD Cert.ProjKernelIdeal.τ).loc Cert.ProjKernelIdeal.main_v8_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v8_0) = v0 c
          ∧ r.2.mem ((c.tc : Thread Cert.ProjKernelIdeal.nD Cert.ProjKernelIdeal.τ).loc Cert.ProjKernelIdeal.main_v8_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v8) = v0 c
          ∧ r.2.mem ((c.tc : Thread Cert.ProjReferenceIdeal.nD Cert.ProjReferenceIdeal.τ).loc Cert.ProjReferenceIdeal.main_v10) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v4_0)) (v1 : (c : Dev Cert.AdamKernelIdeal.nD) → Buf (Elt Ideal) ((c.tc : Thread Cert.AdamKernelIdeal.nD Cert.AdamKernelIdeal.τ).loc Cert.AdamKernelIdeal.main_v4_1)) (v2 : (c : Dev Cert.AdamKernelIdeal.nD) → Buf (Elt Ideal) ((c.tc : Thread Cert.AdamKernelIdeal.nD Cert.AdamKernelIdeal.τ).loc Cert.AdamKernelIdeal.main_v4_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v4_0) = v0 c
          ∧ r.2.mem ((c.tc : Thread Cert.AdamKernelIdeal.nD Cert.AdamKernelIdeal.τ).loc Cert.AdamKernelIdeal.main_v4_1) = v1 c
          ∧ r.2.mem ((c.tc : Thread Cert.AdamKernelIdeal.nD Cert.AdamKernelIdeal.τ).loc Cert.AdamKernelIdeal.main_v4_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v24) = v0 c
          ∧ r.2.mem ((c.tc : Thread Cert.AdamReferenceIdeal.nD Cert.AdamReferenceIdeal.τ).loc Cert.AdamReferenceIdeal.main_v25) = v1 c
          ∧ r.2.mem ((c.tc : Thread Cert.AdamReferenceIdeal.nD Cert.AdamReferenceIdeal.τ).loc Cert.AdamReferenceIdeal.main_v26) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_PartsKernel_PartsKernelIdeal : Prop :=
  True

def algebraic_PartsKernelIdeal_PartsReferenceIdeal [hPartsKernelIdeal : Cert.PartsKernelIdeal.Facts] [hPartsReferenceIdeal : Cert.PartsReferenceIdeal.Facts] : Prop :=
  ∀ (m : (ℓ : Loc Cert.PartsKernelIdeal.nD Cert.PartsKernelIdeal.τ Cert.PartsKernelIdeal.sig) → Buf (Elt Ideal) ℓ) (g : Dev Cert.PartsKernelIdeal.nD → PrngReg)
    (m' : (ℓ : Loc Cert.PartsReferenceIdeal.nD Cert.PartsReferenceIdeal.τ Cert.PartsReferenceIdeal.sig) → Buf (Elt Ideal) ℓ) (g' : Dev Cert.PartsReferenceIdeal.nD → PrngReg), Pre_PartsKernelIdeal m →
    (∀ c : Dev Cert.PartsKernelIdeal.nD,
      m' ((c.tc : Thread Cert.PartsReferenceIdeal.nD Cert.PartsReferenceIdeal.τ).loc Cert.PartsReferenceIdeal.main_arg0) = m ((c.tc : Thread Cert.PartsKernelIdeal.nD Cert.PartsKernelIdeal.τ).loc Cert.PartsKernelIdeal.main_arg0)) →
    ∃ (v0 : (c : Dev Cert.PartsKernelIdeal.nD) → Buf (Elt Ideal) ((c.tc : Thread Cert.PartsKernelIdeal.nD Cert.PartsKernelIdeal.τ).loc Cert.PartsKernelIdeal.main_v0)),
      θ_run (Cert.PartsKernelIdeal.defs (F := Ideal)) (onTc (τ := Cert.PartsKernelIdeal.τ) (Cert.PartsKernelIdeal.main (F := Ideal))) ⟨m, fun _ => 0, g⟩ (fun r => ∀ c : Dev Cert.PartsKernelIdeal.nD,
          r.2.mem ((c.tc : Thread Cert.PartsKernelIdeal.nD Cert.PartsKernelIdeal.τ).loc Cert.PartsKernelIdeal.main_v0) = v0 c
          ∧ r.2.mem ((c.tc : Thread Cert.PartsKernelIdeal.nD Cert.PartsKernelIdeal.τ).loc Cert.PartsKernelIdeal.main_arg0) = m ((c.tc : Thread Cert.PartsKernelIdeal.nD Cert.PartsKernelIdeal.τ).loc Cert.PartsKernelIdeal.main_arg0))
      ∧ θ_run (Cert.PartsReferenceIdeal.defs (F := Ideal)) (onTc (τ := Cert.PartsReferenceIdeal.τ) (Cert.PartsReferenceIdeal.main (F := Ideal))) ⟨m', fun _ => 0, g'⟩ (fun r => ∀ c : Dev Cert.PartsReferenceIdeal.nD,
          r.2.mem ((c.tc : Thread Cert.PartsReferenceIdeal.nD Cert.PartsReferenceIdeal.τ).loc Cert.PartsReferenceIdeal.main_v0) = v0 c
          ∧ r.2.mem ((c.tc : Thread Cert.PartsReferenceIdeal.nD Cert.PartsReferenceIdeal.τ).loc Cert.PartsReferenceIdeal.main_arg0) = m' ((c.tc : Thread Cert.PartsReferenceIdeal.nD Cert.PartsReferenceIdeal.τ).loc Cert.PartsReferenceIdeal.main_arg0))

def Claim : Prop :=
  ∃ (hKernel : Cert.Kernel.Facts) (hKernelIdeal : Cert.KernelIdeal.Facts) (hReferenceIdeal : Cert.ReferenceIdeal.Facts) (hLossKernel : Cert.LossKernel.Facts) (hLossKernelIdeal : Cert.LossKernelIdeal.Facts) (hLossReferenceIdeal : Cert.LossReferenceIdeal.Facts) (hAttnKernel : Cert.AttnKernel.Facts) (hAttnKernelIdeal : Cert.AttnKernelIdeal.Facts) (hAttnReferenceIdeal : Cert.AttnReferenceIdeal.Facts) (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hMixerKernel : Cert.MixerKernel.Facts) (hMixerKernelIdeal : Cert.MixerKernelIdeal.Facts) (hMixerReferenceIdeal : Cert.MixerReferenceIdeal.Facts) (hNormKernel : Cert.NormKernel.Facts) (hNormKernelIdeal : Cert.NormKernelIdeal.Facts) (hNormReferenceIdeal : Cert.NormReferenceIdeal.Facts) (hGateKernel : Cert.GateKernel.Facts) (hGateKernelIdeal : Cert.GateKernelIdeal.Facts) (hGateReferenceIdeal : Cert.GateReferenceIdeal.Facts) (hJoinKernel : Cert.JoinKernel.Facts) (hJoinKernelIdeal : Cert.JoinKernelIdeal.Facts) (hJoinReferenceIdeal : Cert.JoinReferenceIdeal.Facts) (hLatentKernel : Cert.LatentKernel.Facts) (hLatentKernelIdeal : Cert.LatentKernelIdeal.Facts) (hLatentReferenceIdeal : Cert.LatentReferenceIdeal.Facts) (hPooledKernel : Cert.PooledKernel.Facts) (hPooledKernelIdeal : Cert.PooledKernelIdeal.Facts) (hPooledReferenceIdeal : Cert.PooledReferenceIdeal.Facts) (hDownKernel : Cert.DownKernel.Facts) (hDownKernelIdeal : Cert.DownKernelIdeal.Facts) (hDownReferenceIdeal : Cert.DownReferenceIdeal.Facts) (hUpKernel : Cert.UpKernel.Facts) (hUpKernelIdeal : Cert.UpKernelIdeal.Facts) (hUpReferenceIdeal : Cert.UpReferenceIdeal.Facts) (hProjKernel : Cert.ProjKernel.Facts) (hProjKernelIdeal : Cert.ProjKernelIdeal.Facts) (hProjReferenceIdeal : Cert.ProjReferenceIdeal.Facts) (hAdamKernel : Cert.AdamKernel.Facts) (hAdamKernelIdeal : Cert.AdamKernelIdeal.Facts) (hAdamReferenceIdeal : Cert.AdamReferenceIdeal.Facts) (hPartsKernel : Cert.PartsKernel.Facts) (hPartsKernelIdeal : Cert.PartsKernelIdeal.Facts) (hPartsReferenceIdeal : Cert.PartsReferenceIdeal.Facts) (hPre_finite : Cert.Pre_finite.Facts) (hPre_attn_finite : Cert.Pre_attn_finite.Facts) (hPre_ffn_finite : Cert.Pre_ffn_finite.Facts) (hPre_tokens_finite : Cert.Pre_tokens_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_MixerKernel (hMixerKernel := hMixerKernel)
    ∧ quiescent_MixerKernelIdeal (hMixerKernelIdeal := hMixerKernelIdeal)
    ∧ quiescent_MixerReferenceIdeal (hMixerReferenceIdeal := hMixerReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_JoinKernel (hJoinKernel := hJoinKernel)
    ∧ quiescent_JoinKernelIdeal (hJoinKernelIdeal := hJoinKernelIdeal)
    ∧ quiescent_JoinReferenceIdeal (hJoinReferenceIdeal := hJoinReferenceIdeal)
    ∧ quiescent_LatentKernel (hLatentKernel := hLatentKernel)
    ∧ quiescent_LatentKernelIdeal (hLatentKernelIdeal := hLatentKernelIdeal)
    ∧ quiescent_LatentReferenceIdeal (hLatentReferenceIdeal := hLatentReferenceIdeal)
    ∧ quiescent_PooledKernel (hPooledKernel := hPooledKernel)
    ∧ quiescent_PooledKernelIdeal (hPooledKernelIdeal := hPooledKernelIdeal)
    ∧ quiescent_PooledKernelIdeal_pre_tokens_finite (hPooledKernelIdeal := hPooledKernelIdeal) (hPre_tokens_finite := hPre_tokens_finite)
    ∧ quiescent_PooledReferenceIdeal (hPooledReferenceIdeal := hPooledReferenceIdeal)
    ∧ quiescent_PooledReferenceIdeal_pre_tokens_finite (hPooledReferenceIdeal := hPooledReferenceIdeal) (hPre_tokens_finite := hPre_tokens_finite)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_PartsKernel (hPartsKernel := hPartsKernel)
    ∧ quiescent_PartsKernelIdeal (hPartsKernelIdeal := hPartsKernelIdeal)
    ∧ quiescent_PartsReferenceIdeal (hPartsReferenceIdeal := hPartsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_LossKernel_LossKernelIdeal
    ∧ algebraic_LossKernelIdeal_LossReferenceIdeal (hLossKernelIdeal := hLossKernelIdeal) (hLossReferenceIdeal := hLossReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_MergeKernel_MergeKernelIdeal
    ∧ algebraic_MergeKernelIdeal_MergeReferenceIdeal (hMergeKernelIdeal := hMergeKernelIdeal) (hMergeReferenceIdeal := hMergeReferenceIdeal)
    ∧ preserves_MixerKernel_MixerKernelIdeal
    ∧ algebraic_MixerKernelIdeal_MixerReferenceIdeal (hMixerKernelIdeal := hMixerKernelIdeal) (hMixerReferenceIdeal := hMixerReferenceIdeal)
    ∧ preserves_NormKernel_NormKernelIdeal
    ∧ algebraic_NormKernelIdeal_NormReferenceIdeal (hNormKernelIdeal := hNormKernelIdeal) (hNormReferenceIdeal := hNormReferenceIdeal)
    ∧ preserves_GateKernel_GateKernelIdeal
    ∧ algebraic_GateKernelIdeal_GateReferenceIdeal (hGateKernelIdeal := hGateKernelIdeal) (hGateReferenceIdeal := hGateReferenceIdeal)
    ∧ preserves_JoinKernel_JoinKernelIdeal
    ∧ algebraic_JoinKernelIdeal_JoinReferenceIdeal (hJoinKernelIdeal := hJoinKernelIdeal) (hJoinReferenceIdeal := hJoinReferenceIdeal)
    ∧ preserves_LatentKernel_LatentKernelIdeal
    ∧ algebraic_LatentKernelIdeal_LatentReferenceIdeal (hLatentKernelIdeal := hLatentKernelIdeal) (hLatentReferenceIdeal := hLatentReferenceIdeal)
    ∧ preserves_PooledKernel_PooledKernelIdeal
    ∧ algebraic_PooledKernelIdeal_PooledReferenceIdeal_pre_tokens_finite (hPooledKernelIdeal := hPooledKernelIdeal) (hPooledReferenceIdeal := hPooledReferenceIdeal) (hPre_tokens_finite := hPre_tokens_finite)
    ∧ preserves_DownKernel_DownKernelIdeal
    ∧ algebraic_DownKernelIdeal_DownReferenceIdeal (hDownKernelIdeal := hDownKernelIdeal) (hDownReferenceIdeal := hDownReferenceIdeal)
    ∧ preserves_UpKernel_UpKernelIdeal
    ∧ algebraic_UpKernelIdeal_UpReferenceIdeal (hUpKernelIdeal := hUpKernelIdeal) (hUpReferenceIdeal := hUpReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_PartsKernel_PartsKernelIdeal
    ∧ algebraic_PartsKernelIdeal_PartsReferenceIdeal (hPartsKernelIdeal := hPartsKernelIdeal) (hPartsReferenceIdeal := hPartsReferenceIdeal)
-- ==== Pre_attn_finite.lean ====
abbrev S2x2048x8x128 : Shape := ⟨4, ![2, 2048, 8, 128]⟩
abbrev S2x2048x8x64 : Shape := ⟨4, ![2, 2048, 8, 64]⟩
abbrev S2x2048x8x256 : Shape := ⟨4, ![2, 2048, 8, 256]⟩
abbrev S2x2048x64 : Shape := ⟨3, ![2, 2048, 64]⟩
abbrev S_ : Shape := ⟨0, ![]⟩

class Facts : Prop where
  bcast_S_S2x2048x8x128 : S_.BroadcastsInDim S2x2048x8x128 (![] : Fin 0 → Fin S2x2048x8x128.rank)
  reducesTo_S2x2048x8x128_S_d0_1_2_3 : S2x2048x8x128.ReducesTo [0, 1, 2, 3] S_
  h_S_ : 0 < S_.numel
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  bcast_S_S2x2048x8x256 : S_.BroadcastsInDim S2x2048x8x256 (![] : Fin 0 → Fin S2x2048x8x256.rank)
  reducesTo_S2x2048x8x256_S_d0_1_2_3 : S2x2048x8x256.ReducesTo [0, 1, 2, 3] S_
  bcast_S_S2x2048x64 : S_.BroadcastsInDim S2x2048x64 (![] : Fin 0 → Fin S2x2048x64.rank)
  reducesTo_S2x2048x64_S_d0_1_2 : S2x2048x64.ReducesTo [0, 1, 2] S_

variable [Facts]

def fn_part1 {F : FTy → Type} [FloatOps F] (main_arg4 : FVec F S2x2048x8x128 .f32) (main_v13 : IVec S_ 1) (main_v16 : IVec S2x2048x64 1) : IVec S_ 1 :=
  let main_c_5 : IVec S_ 1 := constantI S_ 1 1#1
  let main_v17 : IVec S_ 1 := (fun x v => Host.reduce IntOp.andi x v reducesTo_S2x2048x64_S_d0_1_2 h_S_) main_v16 main_c_5
  let main_v18 : IVec S_ 1 := andi main_v13 main_v17
  let main_v19 : FVec F S2x2048x8x128 .f32 := Host.absf main_arg4
  let main_cst_6 : FVec F S_ .f32 := constant S_ .f32 0x7F800000#32
  let main_v20 : FVec F S2x2048x8x128 .f32 := broadcastInDim S2x2048x8x128 ![] bcast_S_S2x2048x8x128 main_cst_6
  let main_v21 : IVec S2x2048x8x128 1 := cmpf .olt main_v19 main_v20
  let main_c_7 : IVec S_ 1 := constantI S_ 1 1#1
  let main_v22 : IVec S_ 1 := (fun x v => Host.reduce IntOp.andi x v reducesTo_S2x2048x8x128_S_d0_1_2_3 h_S_) main_v21 main_c_7
  let main_v23 : IVec S_ 1 := andi main_v18 main_v22
  main_v23

def fn {F : FTy → Type} [FloatOps F] (main_arg0 : FVec F S2x2048x8x128 .f32) (main_arg1 : FVec F S2x2048x8x64 .f32) (main_arg2 : FVec F S2x2048x8x256 .f32) (main_arg3 : FVec F S2x2048x64 .f32) (main_arg4 : FVec F S2x2048x8x128 .f32) : IVec S_ 1 :=
  let main_v0 : FVec F S2x2048x8x128 .f32 := Host.absf main_arg0
  let main_cst : FVec F S_ .f32 := constant S_ .f32 0x7F800000#32
  let main_v1 : FVec F S2x2048x8x128 .f32 := broadcastInDim S2x2048x8x128 ![] bcast_S_S2x2048x8x128 main_cst
  let main_v2 : IVec S2x2048x8x128 1 := cmpf .olt main_v0 main_v1
  let main_c : IVec S_ 1 := constantI S_ 1 1#1
  let main_v3 : IVec S_ 1 := (fun x v => Host.reduce IntOp.andi x v reducesTo_S2x2048x8x128_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : IVec S_ 1 := andi main_v3 main_v7
  let main_v9 : FVec F S2x2048x8x256 .f32 := Host.absf main_arg2
  let main_cst_2 : FVec F S_ .f32 := constant S_ .f32 0x7F800000#32
  let main_v10 : FVec F S2x2048x8x256 .f32 := broadcastInDim S2x2048x8x256 ![] bcast_S_S2x2048x8x256 main_cst_2
  let main_v11 : IVec S2x2048x8x256 1 := cmpf .olt main_v9 main_v10
  let main_c_3 : IVec S_ 1 := constantI S_ 1 1#1
  let main_v12 : IVec S_ 1 := (fun x v => Host.reduce IntOp.andi x v reducesTo_S2x2048x8x256_S_d0_1_2_3 h_S_) main_v11 main_c_3
  let main_v13 : IVec S_ 1 := andi main_v8 main_v12
  let main_v14 : FVec F S2x2048x64 .f32 := Host.absf main_arg3
  let main_cst_4 : FVec F S_ .f32 := constant S_ .f32 0x7F800000#32
  let main_v15 : FVec F S2x2048x64 .f32 := broadcastInDim S2x2048x64 ![] bcast_S_S2x2048x64 main_cst_4
  let main_v16 : IVec S2x2048x64 1 := cmpf .olt main_v14 main_v15
  fn_part1 (F := F) main_arg4 main_v13 main_v16
-- ==== Pre_ffn_finite.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  main_v18

def fn {F : FTy → Type} [FloatOps F] (main_arg0 : FVec F S2x2048x1024 .f32) (main_arg1 : FVec F S1024 .f32) (main_arg2 : FVec F S1024x5632 .f32) (main_arg3 : FVec F S2816x1024 .f32) (main_arg4 : FVec F S2x2048x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2x2048x1024 .f32 := Host.absf main_arg4
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_v13 main_v16
-- ==== Pre_finite.lean ====
abbrev S2x2048x512 : Shape := ⟨3, ![2, 2048, 512]⟩
abbrev S4x128x128 : Shape := ⟨3, ![4, 128, 128]⟩
abbrev S512 : Shape := ⟨1, ![512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  main_v18

def fn {F : FTy → Type} [FloatOps F] (main_arg0 : FVec F S2x2048x512 .f32) (main_arg1 : FVec F S4x128x128 .f32) (main_arg2 : FVec F S512 .f32) (main_arg3 : FVec F S2x2048x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2x2048x512 .f32 := Host.absf main_arg3
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_v13 main_v16
-- ==== Pre_tokens_finite.lean ====
abbrev S2x2048x512 : Shape := ⟨3, ![2, 2048, 512]⟩
abbrev S4x128x128 : Shape := ⟨3, ![4, 128, 128]⟩
abbrev S512 : Shape := ⟨1, ![512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel

variable [Facts]

def fn {F : FTy → Type} [FloatOps F] (main_arg0 : FVec F S2x2048x512 .f32) (main_arg1 : FVec F S4x128x128 .f32) (main_arg2 : FVec F S512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  main_v3
-- ==== Kernel.lean ====
abbrev S2x2048x512 : Shape := ⟨3, ![2, 2048, 512]⟩
abbrev S4x128x128 : Shape := ⟨3, ![4, 128, 128]⟩
abbrev S512 : Shape := ⟨1, ![512]⟩
abbrev S4096x512 : Shape := ⟨2, ![4096, 512]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S4x128x128, .f32⟩
  | .hbm, ⟨2, _⟩ => ⟨S512, .f32⟩
  | .hbm, ⟨3, _⟩ => ⟨S2x2048x512, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S4096x512, .f32⟩
  | .hbm, ⟨8, _⟩ => ⟨S4x128x128, .f32⟩
  | .hbm, ⟨9, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S4x128x128, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S4x128x128, .f32⟩
  | .local _ .vmem, ⟨9, _⟩ => ⟨S1x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v43 : BitVec 32 := Scalar.extui v0
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v45 : BitVec 1 := Scalar.xori v0 v_true
  let v46 : BitVec 32 := Scalar.extui v45
  let c0_i32_19 : BitVec 32 := 0#32
  let v47 : BitVec 1 := Scalar.cmpi .ne v46 c0_i32_19
  v47

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v101 : BitVec 32 := Scalar.extui v0
  let c0_i32_45 : BitVec 32 := 0#32
  let v102 : BitVec 1 := Scalar.cmpi .ne v101 c0_i32_45
  v102

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_46 : BitVec 1 := 1#1
  let v103 : BitVec 1 := Scalar.xori v0 true_46
  let v104 : BitVec 32 := Scalar.extui v103
  let c0_i32_47 : BitVec 32 := 0#32
  let v105 : BitVec 1 := Scalar.cmpi .ne v104 c0_i32_47
  v105

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v171 : BitVec 32 := Scalar.extui v0
  let c0_i32_79 : BitVec 32 := 0#32
  let v172 : BitVec 1 := Scalar.cmpi .ne v171 c0_i32_79
  v172

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_80 : BitVec 1 := 1#1
  let v173 : BitVec 1 := Scalar.xori v0 true_80
  let v174 : BitVec 32 := Scalar.extui v173
  let c0_i32_81 : BitVec 32 := 0#32
  let v175 : BitVec 1 := Scalar.cmpi .ne v174 c0_i32_81
  v175

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v253 : BitVec 32 := Scalar.extui v0
  let c0_i32_119 : BitVec 32 := 0#32
  let v254 : BitVec 1 := Scalar.cmpi .ne v253 c0_i32_119
  v254

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_120 : BitVec 1 := 1#1
  let v255 : BitVec 1 := Scalar.xori v0 true_120
  let v256 : BitVec 32 := Scalar.extui v255
  let c0_i32_121 : BitVec 32 := 0#32
  let v257 : BitVec 1 := Scalar.cmpi .ne v256 c0_i32_121
  v257

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x2048x512 : Shape := ⟨3, ![2, 2048, 512]⟩
abbrev S4x128x128 : Shape := ⟨3, ![4, 128, 128]⟩
abbrev S512 : Shape := ⟨1, ![512]⟩
abbrev S4 : Shape := ⟨1, ![4]⟩
abbrev S2x2048x4x128 : Shape := ⟨4, ![2, 2048, 4, 128]⟩
abbrev S_ : Shape := ⟨0, ![]⟩
abbrev S2x1x4x128 : Shape := ⟨4, ![2, 1, 4, 128]⟩
abbrev S2x2049x4x128 : Shape := ⟨4, ![2, 2049, 4, 128]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S4x128x2x2048 : Shape := ⟨4, ![4, 128, 2, 2048]⟩
abbrev S1x1x512 : Shape := ⟨3, ![1, 1, 512]⟩
abbrev S4x2x2048x128 : Shape := ⟨4, ![4, 2, 2048, 128]⟩
abbrev S4096x512 : Shape := ⟨2, ![4096, 512]⟩
abbrev S1x512 : Shape := ⟨2, ![1, 512]⟩

abbrev nBuf : Space → Nat
  | .hbm => 100
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S4x128x128, .f32⟩
  | .hbm, ⟨2, _⟩ => ⟨S512, .f32⟩
  | .hbm, ⟨3, _⟩ => ⟨S2x2048x512, .f32⟩
  | .hbm, ⟨4, _⟩ => ⟨S4, .i32⟩
  | .hbm, ⟨5, _⟩ => ⟨S2x2048x4x128, .f32⟩
  | .hbm, ⟨6, _⟩ => ⟨S_, .f32⟩
  | .hbm, ⟨7, _⟩ => ⟨S2x1x4x128, .f32⟩
  | .hbm, ⟨8, _⟩ => ⟨S_, .f32⟩
  | .hbm, ⟨9, _⟩ => ⟨S_, .f32⟩
  | .hbm, ⟨10, _⟩ => ⟨S2x2048x4x128, .f32⟩
  | .hbm, ⟨11, _⟩ => ⟨S2x2049x4x128, .f32⟩
  | .hbm, ⟨12, _⟩ => ⟨S_, .f32⟩
  | .hbm, ⟨13, _⟩ => ⟨S2x1x4x128, .f32⟩
  | .hbm, ⟨14, _⟩ => ⟨S2048, .i32⟩
  | .hbm, ⟨15, _⟩ => ⟨S2048x1, .i32⟩
  | .hbm, ⟨16, _⟩ => ⟨S_, .i32⟩
  | .hbm, ⟨17, _⟩ => ⟨S2048x1, .i32⟩
  | .hbm, ⟨18, _⟩ => ⟨S2048x1, .i32⟩
  | .hbm, ⟨19, _⟩ => ⟨S1x4, .i32⟩
  | .hbm, ⟨20, _⟩ => ⟨S2048x4, .i32⟩
  | .hbm, ⟨21, _⟩ => ⟨S2048x4, .i32⟩
  | .hbm, ⟨22, _⟩ => ⟨S2048x4, .i32⟩
  | .hbm, ⟨23, _⟩ => ⟨S_, .i32⟩
  | .hbm, ⟨24, _⟩ => ⟨S2048x4, .i32⟩
  | .hbm, ⟨25, _⟩ => ⟨S2048x4, .i32⟩
  | .hbm, ⟨26, _⟩ => ⟨S4, .i32⟩
  | .hbm, ⟨27, _⟩ => ⟨S1x4, .i32⟩
  | .hbm, ⟨28, _⟩ => ⟨S_, .i32⟩
  | .hbm, ⟨29, _⟩ => ⟨S2048x4, .i32⟩
  | .hbm, ⟨30, _⟩ => ⟨S2048x4, .i1⟩
  | .hbm, ⟨31, _⟩ => ⟨S_, .i32⟩
  | .hbm, ⟨32, _⟩ => ⟨S2048x4, .i32⟩
  | .hbm, ⟨33, _⟩ => ⟨S2048x4, .i32⟩
  | .hbm, ⟨34, _⟩ => ⟨S2048x4, .i32⟩
  | .hbm, ⟨35, _⟩ => ⟨S_, .i32⟩
  | .hbm, ⟨36, _⟩ => ⟨S1x4, .i32⟩
  | .hbm, ⟨37, _⟩ => ⟨S1x4, .i1⟩
  | .hbm, ⟨38, _⟩ => ⟨S_, .i32⟩
  | .hbm, ⟨39, _⟩ => ⟨S1x4, .i32⟩
  | .hbm, ⟨40, _⟩ => ⟨S1x4, .i32⟩
  | .hbm, ⟨41, _⟩ => ⟨S1x4, .i32⟩
  | .hbm, ⟨42, _⟩ => ⟨S2048x4, .i32⟩
  | .hbm, ⟨43, _⟩ => ⟨S2048x4x1, .i32⟩
  | .hbm, ⟨44, _⟩ => ⟨S2048x4x1, .i32⟩
  | .hbm, ⟨45, _⟩ => ⟨S2048x4x2, .i32⟩
  | .hbm, ⟨46, _⟩ => ⟨S2x2048x4x128, .f32⟩
  | .hbm, ⟨47, _⟩ => ⟨S_, .i32⟩
  | .hbm, ⟨48, _⟩ => ⟨S2048x1, .i32⟩
  | .hbm, ⟨49, _⟩ => ⟨S2048x1, .i32⟩
  | .hbm, ⟨50, _⟩ => ⟨S1x4, .i32⟩
  | .hbm, ⟨51, _⟩ => ⟨S2048x4, .i32⟩
  | .hbm, ⟨52, _⟩ => ⟨S2048x4, .i32⟩
  | .hbm, ⟨53, _⟩ => ⟨S2048x4, .i32⟩
  | .hbm, ⟨54, _⟩ => ⟨S2048x4, .f32⟩
  | .hbm, ⟨55, _⟩ => ⟨S2x2048x4x128, .f32⟩
  | .hbm, ⟨56, _⟩ => ⟨S2x2048x4x128, .f32⟩
  | .hbm, ⟨57, _⟩ => ⟨S1x2048x4x1, .f32⟩
  | .hbm, ⟨58, _⟩ => ⟨S2x2048x4x128, .f32⟩
  | .hbm, ⟨59, _⟩ => ⟨S2x2048x4x128, .f32⟩
  | .hbm, ⟨60, _⟩ => ⟨S2x2048x4x128, .f32⟩
  | .hbm, ⟨61, _⟩ => ⟨S4x128x2x2048, .f32⟩
  | .hbm, ⟨62, _⟩ => ⟨S2x2048x4x128, .f32⟩
  | .hbm, ⟨63, _⟩ => ⟨S2x2048x512, .f32⟩
  | .hbm, ⟨64, _⟩ => ⟨S1x1x512, .f32⟩
  | .hbm, ⟨65, _⟩ => ⟨S2x2048x512, .f32⟩
  | .hbm, ⟨66, _⟩ => ⟨S2x2048x512, .f32⟩
  | .hbm, ⟨67, _⟩ => ⟨S2x2048x512, .f32⟩
  | .hbm, ⟨68, _⟩ => ⟨S_, .f32⟩
  | .hbm, ⟨69, _⟩ => ⟨S512, .f32⟩
  | .hbm, ⟨70, _⟩ => ⟨S1x1x512, .f32⟩
  | .hbm, ⟨71, _⟩ => ⟨S2x2048x512, .f32⟩
  | .hbm, ⟨72, _⟩ => ⟨S2x2048x512, .f32⟩
  | .hbm, ⟨73, _⟩ => ⟨S_, .f32⟩
  | .hbm, ⟨74, _⟩ => ⟨S512, .f32⟩
  | .hbm, ⟨75, _⟩ => ⟨S2x2048x4x128, .f32⟩
  | .hbm, ⟨76, _⟩ => ⟨S4x128x2x2048, .f32⟩
  | .hbm, ⟨77, _⟩ => ⟨S4x2x2048x128, .f32⟩
  | .hbm, ⟨78, _⟩ => ⟨S2x2048x4x128, .f32⟩
  | .hbm, ⟨79, _⟩ => ⟨S4x128x128, .f32⟩
  | .hbm, ⟨80, _⟩ => ⟨S4x128x128, .f32⟩
  | .hbm, ⟨81, _⟩ => ⟨S2x2048x4x128, .f32⟩
  | .hbm, ⟨82, _⟩ => ⟨S2x2048x4x128, .f32⟩
  | .hbm, ⟨83, _⟩ => ⟨S2x2048x4x128, .f32⟩
  | .hbm, ⟨84, _⟩ => ⟨S2x2048x4x128, .f32⟩
  | .hbm, ⟨85, _⟩ => ⟨S_, .f32⟩
  | .hbm, ⟨86, _⟩ => ⟨S2x2049x4x128, .f32⟩
  | .hbm, ⟨87, _⟩ => ⟨S_, .f32⟩
  | .hbm, ⟨88, _⟩ => ⟨S2x2049x4x128, .f32⟩
  | .hbm, ⟨89, _⟩ => ⟨S2x2049x4x128, .f32⟩
  | .hbm, ⟨90, _⟩ => ⟨S2x2049x4x128, .f32⟩
  | .hbm, ⟨91, _⟩ => ⟨S2x1x4x128, .f32⟩
  | .hbm, ⟨92, _⟩ => ⟨S2x2048x4x128, .f32⟩
  | .hbm, ⟨93, _⟩ => ⟨S_, .f32⟩
  | .hbm, ⟨94, _⟩ => ⟨S_, .f32⟩
  | .hbm, ⟨95, _⟩ => ⟨S2x2048x4x128, .f32⟩
  | .hbm, ⟨96, _⟩ => ⟨S2x2048x4x128, .f32⟩
  | .hbm, ⟨97, _⟩ => ⟨S2x2048x512, .f32⟩
  | .hbm, ⟨98, _⟩ => ⟨S4096x512, .f32⟩
  | .hbm, ⟨99, _⟩ => ⟨S1x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_call1_call0_cst : Ref sig .tc := ⟨.hbm, 93, rfl⟩
abbrev main_call1_call0_v0 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== LossKernel.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_15 : BitVec 32 := 0#32
  let v47 : BitVec 1 := Scalar.cmpi .ne v46 c0_i32_15
  v47

def k0_cond2 (i : grid0.Coords) : BitVec 1 :=
  let arg0 : BitVec 32 := BitVec.ofNat 32 (i 0).val
  let c0_i32_16 : BitVec 32 := 0#32
  let v48 : BitVec 1 := Scalar.cmpi .sgt arg0 c0_i32_16
  let v49 : BitVec 32 := Scalar.extui v48
  let c0_i32_17 : BitVec 32 := 0#32
  let v50 : BitVec 1 := Scalar.cmpi .ne v49 c0_i32_17
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S1x1024, .f32⟩
  | .hbm, ⟨73, _⟩ => ⟨S1x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AttnKernel.lean ====
abbrev S2x2048x8x128 : Shape := ⟨4, ![2, 2048, 8, 128]⟩
abbrev S2x2048x8x64 : Shape := ⟨4, ![2, 2048, 8, 64]⟩
abbrev S2x2048x8x256 : Shape := ⟨4, ![2, 2048, 8, 256]⟩
abbrev S2x2048x64 : Shape := ⟨3, ![2, 2048, 64]⟩
abbrev S_ : Shape := ⟨0, ![]⟩
abbrev S4096x2048 : Shape := ⟨2, ![4096, 2048]⟩
abbrev S2x2048x128 : Shape := ⟨3, ![2, 2048, 128]⟩
abbrev S4096x128 : Shape := ⟨2, ![4096, 128]⟩
abbrev S4096x1024 : Shape := ⟨2, ![4096, 1024]⟩
abbrev S2048x256 : Shape := ⟨2, ![2048, 256]⟩
abbrev S2048x128 : Shape := ⟨2, ![2048, 128]⟩
abbrev S512x256 : Shape := ⟨2, ![512, 256]⟩
abbrev S512x1 : Shape := ⟨2, ![512, 1]⟩
abbrev S512x512 : Shape := ⟨2, ![512, 512]⟩
abbrev S512 : Shape := ⟨1, ![512]⟩
abbrev S512x128 : Shape := ⟨2, ![512, 128]⟩

abbrev nBuf : Space → Nat
  | .hbm => 24
  | .vmem => 36
  | .smem => 0
  | _ => 0

abbrev bufTy : (tb : Table) → Fin (tcTables nBuf tb) → BufTy
  | .hbm, ⟨0, _⟩ => ⟨S2x2048x8x128, .f32⟩
  | .hbm, ⟨1, _⟩ => ⟨S2x2048x8x64, .f32⟩
  | .hbm, ⟨2, _⟩ => ⟨S2x2048x8x256, .f32⟩
  | .hbm, ⟨3, _⟩ => ⟨S2x2048x64, .f32⟩
  | .hbm, ⟨4, _⟩ => ⟨S2x2048x8x128, .f32⟩
  | .hbm, ⟨5, _⟩ => ⟨S_, .f32⟩
  | .hbm, ⟨6, _⟩ => ⟨S2x2048x8x64, .f32⟩
  | .hbm, ⟨7, _⟩ => ⟨S2x2048x8x256, .f32⟩
  | .hbm, ⟨8, _⟩ => ⟨S4096x2048, .f32⟩
  | .hbm, ⟨9, _⟩ => ⟨S4096x2048, .bf16⟩
  | .hbm, ⟨10, _⟩ => ⟨S4096x2048, .f32⟩
  | .hbm, ⟨11, _⟩ => ⟨S4096x2048, .bf16⟩
  | .hbm, ⟨12, _⟩ => ⟨S_, .f32⟩
  | .hbm, ⟨13, _⟩ => ⟨S2x2048x64, .f32⟩
  | .hbm, ⟨14, _⟩ => ⟨S2x2048x128, .f32⟩
  | .hbm, ⟨15, _⟩ => ⟨S4096x128, .f32⟩
  | .hbm, ⟨16, _⟩ => ⟨S4096x128, .bf16⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S4096x1024, .f32⟩
  | .hbm, ⟨21, _⟩ => ⟨S4096x2048, .bf16⟩
  | .hbm, ⟨22, _⟩ => ⟨S4096x2048, .bf16⟩
  | .hbm, ⟨23, _⟩ => ⟨S4096x128, .f32⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .f32⟩
  | .local _ .vmem, ⟨27, _⟩ => ⟨S2048x128, .f32⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S2048x128, .f32⟩
  | .local _ .vmem, ⟨33, _⟩ => ⟨S2048x128, .f32⟩
  | .local _ .vmem, ⟨34, _⟩ => ⟨S2048x256, .bf16⟩
  | .local _ .vmem, ⟨35, _⟩ => ⟨S2048x256, .f32⟩
  | _, _ => ⟨S2x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_scratch0 : Ref sig .tc := ⟨.vmem, 34, rfl⟩
abbrev cc1_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== AttnKernelIdeal.lean ====
variable {F : FTy → Type} [FloatOps F] [Named F]
def κ : String → Option EReal := fun
  | "log2e" => some (((Real.log 2)⁻¹ : ℝ) : EReal)
  | "mask" => some ⊥
  | "scale" => some (((Real.sqrt 192)⁻¹ : ℝ) : EReal)
  | "scale_log2" => some (((Real.sqrt 192)⁻¹ * (Real.log 2)⁻¹ : ℝ) : EReal)
  | _ => none
-- ==== AttnReferenceIdeal.lean ====
abbrev S2x2048x8x128 : Shape := ⟨4, ![2, 2048, 8, 128]⟩
abbrev S2x2048x8x64 : Shape := ⟨4, ![2, 2048, 8, 64]⟩
abbrev S2x2048x8x256 : Shape := ⟨4, ![2, 2048, 8, 256]⟩
abbrev S2x2048x64 : Shape := ⟨3, ![2, 2048, 64]⟩
abbrev S_ : Shape := ⟨0, ![]⟩
abbrev S2x8x2048x2048 : Shape := ⟨4, ![2, 8, 2048, 2048]⟩
abbrev S2x2048x2048x8 : Shape := ⟨4, ![2, 2048, 2048, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x128 : Shape := ⟨4, ![2, 8, 2048, 128]⟩
abbrev S2x2048x128 : Shape := ⟨3, ![2, 2048, 128]⟩
abbrev S4096x1024 : Shape := ⟨2, ![4096, 1024]⟩
abbrev S4096x2048 : Shape := ⟨2, ![4096, 2048]⟩
abbrev S4096x128 : Shape := ⟨2, ![4096, 128]⟩

abbrev nBuf : Space → Nat
  | .hbm => 118
  | .vmem => 0
  | .smem => 0
  | _ => 0

abbrev bufTy : (tb : Table) → Fin (tcTables nBuf tb) → BufTy
  | .hbm, ⟨0, _⟩ => ⟨S2x2048x8x128, .f32⟩
  | .hbm, ⟨1, _⟩ => ⟨S2x2048x8x64, .f32⟩
  | .hbm, ⟨2, _⟩ => ⟨S2x2048x8x256, .f32⟩
  | .hbm, ⟨3, _⟩ => ⟨S2x2048x64, .f32⟩
  | .hbm, ⟨4, _⟩ => ⟨S2x2048x8x128, .f32⟩
  | .hbm, ⟨5, _⟩ => ⟨S2x2048x8x128, .f32⟩
  | .hbm, ⟨6, _⟩ => ⟨S2x2048x8x128, .f32⟩
  | .hbm, ⟨7, _⟩ => ⟨S_, .f32⟩
  | .hbm, ⟨8, _⟩ => ⟨S_, .f32⟩
  | .hbm, ⟨9, _⟩ => ⟨S2x8x2048x2048, .f32⟩
  | .hbm, ⟨10, _⟩ => ⟨S2x2048x2048x8, .f32⟩
  | .hbm, ⟨11, _⟩ => ⟨S2x8x2048x2048, .f32⟩
  | .hbm, ⟨12, _⟩ => ⟨S2x8x2048x2048, .f32⟩
  | .hbm, ⟨13, _⟩ => ⟨S2x8x2048x2048, .f32⟩
  | .hbm, ⟨14, _⟩ => ⟨S2x8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S2x8x2048x2048, .i1⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048x2048, .f32⟩
  | .hbm, ⟨30, _⟩ => ⟨S_, .f32⟩
  | .hbm, ⟨31, _⟩ => ⟨S2x8x2048, .f32⟩
  | .hbm, ⟨32, _⟩ => ⟨S2x8x2048x1, .f32⟩
  | .hbm, ⟨33, _⟩ => ⟨S2x8x2048x2048, .f32⟩
  | .hbm, ⟨34, _⟩ => ⟨S2x8x2048x2048, .i1⟩
  | .hbm, ⟨35, _⟩ => ⟨S2x8x2048x2048, .f32⟩
  | .hbm, ⟨36, _⟩ => ⟨S_, .f32⟩
  | .hbm, ⟨37, _⟩ => ⟨S2x8x2048, .f32⟩
  | .hbm, ⟨38, _⟩ => ⟨S_, .f32⟩
  | .hbm, ⟨39, _⟩ => ⟨S2x8x2048, .f32⟩
  | .hbm, ⟨40, _⟩ => ⟨S2x8x2048, .f32⟩
  | .hbm, ⟨41, _⟩ => ⟨S_, .f32⟩
  | .hbm, ⟨42, _⟩ => ⟨S2x8x2048, .f32⟩
  | .hbm, ⟨43, _⟩ => ⟨S2x8x2048, .i1⟩
  | .hbm, ⟨44, _⟩ => ⟨S_, .f32⟩
  | .hbm, ⟨45, _⟩ => ⟨S2x8x2048, .f32⟩
  | .hbm, ⟨46, _⟩ => ⟨S2x8x2048, .i1⟩
  | .hbm, ⟨47, _⟩ => ⟨S_, .f32⟩
  | .hbm, ⟨48, _⟩ => ⟨S2x8x2048, .f32⟩
  | .hbm, ⟨49, _⟩ => ⟨S_, .f32⟩
  | .hbm, ⟨50, _⟩ => ⟨S2x8x2048, .f32⟩
  | .hbm, ⟨51, _⟩ => ⟨S_, .f32⟩
  | .hbm, ⟨52, _⟩ => ⟨S2x8x2048, .f32⟩
  | .hbm, ⟨53, _⟩ => ⟨S2x8x2048, .f32⟩
  | .hbm, ⟨54, _⟩ => ⟨S2x8x2048, .f32⟩
  | .hbm, ⟨55, _⟩ => ⟨S2x8x2048x1, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S_, .f32⟩
  | .hbm, ⟨60, _⟩ => ⟨S2x8x2048, .f32⟩
  | .hbm, ⟨61, _⟩ => ⟨S2x8x2048x1, .f32⟩
  | .hbm, ⟨62, _⟩ => ⟨S2x8x2048x2048, .f32⟩
  | .hbm, ⟨63, _⟩ => ⟨S2x8x2048x2048, .f32⟩
  | .hbm, ⟨64, _⟩ => ⟨S2x8x2048x1, .f32⟩
  | .hbm, ⟨65, _⟩ => ⟨S_, .f32⟩
  | .hbm, ⟨66, _⟩ => ⟨S2x8x2048x1, .f32⟩
  | .hbm, ⟨67, _⟩ => ⟨S2x8x2048x1, .f32⟩
  | .hbm, ⟨68, _⟩ => ⟨S2x8x128x2048, .f32⟩
  | .hbm, ⟨69, _⟩ => ⟨S2x2048x8x128, .f32⟩
  | .hbm, ⟨70, _⟩ => ⟨S2x8x128x2048, .f32⟩
  | .hbm, ⟨71, _⟩ => ⟨S2x8x2048x2048, .f32⟩
  | .hbm, ⟨72, _⟩ => ⟨S2x8x128x2048, .f32⟩
  | .hbm, ⟨73, _⟩ => ⟨S2x2048x8x128, .f32⟩
  | .hbm, ⟨74, _⟩ => ⟨S2x8x2048x2048, .f32⟩
  | .hbm, ⟨75, _⟩ => ⟨S2x8x2048x2048, .f32⟩
  | .hbm, ⟨76, _⟩ => ⟨S2x8x2048x2048, .f32⟩
  | .hbm, ⟨77, _⟩ => ⟨S_, .f32⟩
  | .hbm, ⟨78, _⟩ => ⟨S2x8x2048, .f32⟩
  | .hbm, ⟨79, _⟩ => ⟨S2x8x2048x1, .f32⟩
  | .hbm, ⟨80, _⟩ => ⟨S2x8x2048x1, .f32⟩
  | .hbm, ⟨81, _⟩ => ⟨S2x8x2048x2048, .f32⟩
  | .hbm, ⟨82, _⟩ => ⟨S2x8x2048x2048, .f32⟩
  | .hbm, ⟨83, _⟩ => ⟨S_, .f32⟩
  | .hbm, ⟨84, _⟩ => ⟨S2x8x2048, .f32⟩
  | .hbm, ⟨85, _⟩ => ⟨S2x8x2048x2048, .f32⟩
  | .hbm, ⟨86, _⟩ => ⟨S2x8x2048x2048, .f32⟩
  | .hbm, ⟨87, _⟩ => ⟨S2x8x2048x2048, .f32⟩
  | .hbm, ⟨88, _⟩ => ⟨S_, .f32⟩
  | .hbm, ⟨89, _⟩ => ⟨S2x8x2048x2048, .f32⟩
  | .hbm, ⟨90, _⟩ => ⟨S2x8x2048x2048, .f32⟩
  | .hbm, ⟨91, _⟩ => ⟨S2x8x2048x2048, .f32⟩
  | .hbm, ⟨92, _⟩ => ⟨S2x8x2048x2048, .f32⟩
  | .hbm, ⟨93, _⟩ => ⟨S2x2048x2048x8, .f32⟩
  | .hbm, ⟨94, _⟩ => ⟨S2x2048x8x64, .f32⟩
  | .hbm, ⟨95, _⟩ => ⟨S2x2048x64, .f32⟩
  | .hbm, ⟨96, _⟩ => ⟨S2x8x2048x128, .f32⟩
  | .hbm, ⟨97, _⟩ => ⟨S2x2048x8x128, .f32⟩
  | .hbm, ⟨98, _⟩ => ⟨S2x8x2048x128, .f32⟩
  | .hbm, ⟨99, _⟩ => ⟨S2x2048x8x128, .f32⟩
  | .hbm, ⟨100, _⟩ => ⟨S_, .f32⟩
  | .hbm, ⟨101, _⟩ => ⟨S2x2048x8x256, .f32⟩
  | .hbm, ⟨102, _⟩ => ⟨S_, .f32⟩
  | .hbm, ⟨103, _⟩ => ⟨S2x2048x8x256, .f32⟩
  | .hbm, ⟨104, _⟩ => ⟨S2x2048x8x256, .f32⟩
  | .hbm, ⟨105, _⟩ => ⟨S_, .f32⟩
  | .hbm, ⟨106, _⟩ => ⟨S2x2048x8x64, .f32⟩
  | .hbm, ⟨107, _⟩ => ⟨S2x2048x8x256, .f32⟩
  | .hbm, ⟨108, _⟩ => ⟨S_, .f32⟩
  | .hbm, ⟨109, _⟩ => ⟨S2x2048x64, .f32⟩
  | .hbm, ⟨110, _⟩ => ⟨S2x2048x128, .f32⟩
  | .hbm, ⟨111, _⟩ => ⟨S4096x1024, .f32⟩
  | .hbm, ⟨112, _⟩ => ⟨S4096x1024, .bf16⟩
  | .hbm, ⟨113, _⟩ => ⟨S4096x2048, .f32⟩
  | .hbm, ⟨114, _⟩ => ⟨S4096x2048, .bf16⟩
  | .hbm, ⟨115, _⟩ => ⟨S4096x2048, .f32⟩
  | .hbm, ⟨116, _⟩ => ⟨S4096x2048, .bf16⟩
  | .hbm, ⟨117, _⟩ => ⟨S4096x128, .f32⟩
  | _, _ => ⟨S2x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]
-- ==== FfnKernel.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S4096x1024 : Shape := ⟨2, ![4096, 1024]⟩
abbrev S4096x2816 : Shape := ⟨2, ![4096, 2816]⟩
abbrev S1x1024 : Shape := ⟨2, ![1, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 38
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S5632x1024, .f32⟩
  | .hbm, ⟨6, _⟩ => ⟨S5632x1024, .bf16⟩
  | .hbm, ⟨7, _⟩ => ⟨S2816x1024, .bf16⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x5632, .f32⟩
  | .hbm, ⟨25, _⟩ => ⟨S2x2048x2816, .f32⟩
  | .hbm, ⟨26, _⟩ => ⟨S2x2048x2816, .f32⟩
  | .hbm, ⟨27, _⟩ => ⟨S4096x1024, .f32⟩
  | .hbm, ⟨28, _⟩ => ⟨S4096x2816, .f32⟩
  | .hbm, ⟨29, _⟩ => ⟨S4096x2816, .bf16⟩
  | .hbm, ⟨30, _⟩ => ⟨S4096x2816, .f32⟩
  | .hbm, ⟨31, _⟩ => ⟨S4096x2816, .bf16⟩
  | .hbm, ⟨32, _⟩ => ⟨S4096x1024, .f32⟩
  | .hbm, ⟨33, _⟩ => ⟨S1x1024, .f32⟩
  | .hbm, ⟨34, _⟩ => ⟨S4096x2816, .bf16⟩
  | .hbm, ⟨35, _⟩ => ⟨S4096x2816, .bf16⟩
  | .hbm, ⟨36, _⟩ => ⟨S4096x1024, .f32⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S2816x1024, .bf16⟩
  | .local _ .vmem, ⟨4, _⟩ => ⟨S2816x1024, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_32 : BitVec 32 := 0#32
  let v69 : BitVec 1 := Scalar.cmpi .ne v68 c0_i32_32
  v69

def k0_cond2 (i : grid0.Coords) : BitVec 1 :=
  let arg0 : BitVec 32 := BitVec.ofNat 32 (i 0).val
  let c0_i32_33 : BitVec 32 := 0#32
  let v70 : BitVec 1 := Scalar.cmpi .sgt arg0 c0_i32_33
  let v71 : BitVec 32 := Scalar.extui v70
  let c0_i32_34 : BitVec 32 := 0#32
  let v72 : BitVec 1 := Scalar.cmpi .ne v71 c0_i32_34
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S2x2048x1024 : Shape := ⟨3, ![2, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S4096x2816 : Shape := ⟨2, ![4096, 2816]⟩
abbrev S4096x1024 : Shape := ⟨2, ![4096, 1024]⟩
abbrev S1x1024 : Shape := ⟨2, ![1, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x5632, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x1024, .f32⟩
  | .hbm, ⟨43, _⟩ => ⟨S_, .f32⟩
  | .hbm, ⟨44, _⟩ => ⟨S2x2048x1024, .f32⟩
  | .hbm, ⟨45, _⟩ => ⟨S2x2048x1024, .f32⟩
  | .hbm, ⟨46, _⟩ => ⟨S_, .f32⟩
  | .hbm, ⟨47, _⟩ => ⟨S2x2048x1024, .f32⟩
  | .hbm, ⟨48, _⟩ => ⟨S2x2048x1024, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x5632, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S1024, .f32⟩
  | .hbm, ⟨61, _⟩ => ⟨S1x1x1024, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S1024, .f32⟩
  | .hbm, ⟨66, _⟩ => ⟨S2x2048x1024, .f32⟩
  | .hbm, ⟨67, _⟩ => ⟨S_, .f32⟩
  | .hbm, ⟨68, _⟩ => ⟨S2x2048, .f32⟩
  | .hbm, ⟨69, _⟩ => ⟨S2x2048x1, .f32⟩
  | .hbm, ⟨70, _⟩ => ⟨S2x2048x1024, .f32⟩
  | .hbm, ⟨71, _⟩ => ⟨S2x2048x1024, .f32⟩
  | .hbm, ⟨72, _⟩ => ⟨S2x2048x1, .f32⟩
  | .hbm, ⟨73, _⟩ => ⟨S_, .f32⟩
  | .hbm, ⟨74, _⟩ => ⟨S2x2048x1, .f32⟩
  | .hbm, ⟨75, _⟩ => ⟨S2x2048x1, .f32⟩
  | .hbm, ⟨76, _⟩ => ⟨S_, .f32⟩
  | .hbm, ⟨77, _⟩ => ⟨S2x2048, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S4096x2816, .f32⟩
  | .hbm, ⟨84, _⟩ => ⟨S4096x2816, .bf16⟩
  | .hbm, ⟨85, _⟩ => ⟨S4096x2816, .f32⟩
  | .hbm, ⟨86, _⟩ => ⟨S4096x2816, .bf16⟩
  | .hbm, ⟨87, _⟩ => ⟨S2x2048x1024, .f32⟩
  | .hbm, ⟨88, _⟩ => ⟨S4096x1024, .f32⟩
  | .hbm, ⟨89, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== MergeKernel.lean ====
abbrev S2x2048x1024 : Shape := ⟨3, ![2, 2048, 1024]⟩
abbrev S1024x3264 : Shape := ⟨2, ![1024, 3264]⟩
abbrev S2048 : Shape := ⟨1, ![2048]⟩
abbrev S2x2048x512 : Shape := ⟨3, ![2, 2048, 512]⟩
abbrev S512x1024 : Shape := ⟨2, ![512, 1024]⟩
abbrev S1024x1024 : Shape := ⟨2, ![1024, 1024]⟩
abbrev S1024x2048 : Shape := ⟨2, ![1024, 2048]⟩
abbrev S2x2048x2048 : Shape := ⟨3, ![2, 2048, 2048]⟩
abbrev S1x1x2048 : Shape := ⟨3, ![1, 1, 2048]⟩
abbrev S_ : Shape := ⟨0, ![]⟩
abbrev S4096x2048 : Shape := ⟨2, ![4096, 2048]⟩
abbrev S4096x1024 : Shape := ⟨2, ![4096, 1024]⟩
abbrev S1x2048 : Shape := ⟨2, ![1, 2048]⟩
abbrev S4096x512 : Shape := ⟨2, ![4096, 512]⟩
abbrev S512x2048 : Shape := ⟨2, ![512, 2048]⟩
abbrev S512x512 : Shape := ⟨2, ![512, 512]⟩
abbrev S1024 : Shape := ⟨1, ![1024]⟩
abbrev S1x1024 : Shape := ⟨2, ![1, 1024]⟩

abbrev nBuf : Space → Nat
  | .hbm => 40
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024x3264, .f32⟩
  | .hbm, ⟨2, _⟩ => ⟨S2048, .f32⟩
  | .hbm, ⟨3, _⟩ => ⟨S2x2048x512, .f32⟩
  | .hbm, ⟨4, _⟩ => ⟨S2x2048x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S2x2048x1024, .f32⟩
  | .hbm, ⟨9, _⟩ => ⟨S1024x2048, .f32⟩
  | .hbm, ⟨10, _⟩ => ⟨S2x2048x2048, .f32⟩
  | .hbm, ⟨11, _⟩ => ⟨S1x1x2048, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S2x2048x2048, .f32⟩
  | .hbm, ⟨16, _⟩ => ⟨S_, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S4096x2048, .f32⟩
  | .hbm, ⟨23, _⟩ => ⟨S2x2048x1024, .f32⟩
  | .hbm, ⟨24, _⟩ => ⟨S4096x1024, .f32⟩
  | .hbm, ⟨25, _⟩ => ⟨S2x2048x1024, .f32⟩
  | .hbm, ⟨26, _⟩ => ⟨S4096x1024, .f32⟩
  | .hbm, ⟨27, _⟩ => ⟨S4096x1024, .f32⟩
  | .hbm, ⟨28, _⟩ => ⟨S1024x1024, .bf16⟩
  | .hbm, ⟨29, _⟩ => ⟨S512x1024, .bf16⟩
  | .hbm, ⟨30, _⟩ => ⟨S1024x1024, .bf16⟩
  | .hbm, ⟨31, _⟩ => ⟨S4096x2048, .bf16⟩
  | .hbm, ⟨32, _⟩ => ⟨S4096x1024, .bf16⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S4096x2048, .bf16⟩
  | .hbm, ⟨37, _⟩ => ⟨S1x2048, .f32⟩
  | .hbm, ⟨38, _⟩ => ⟨S4096x512, .f32⟩
  | .hbm, ⟨39, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x2048, .bf16⟩
  | .local _ .vmem, ⟨6, _⟩ => ⟨S512x2048, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S512x512, .f32⟩
  | .local _ .vmem, ⟨19, _⟩ => ⟨S512x512, .f32⟩
  | .local _ .vmem, ⟨20, _⟩ => ⟨S512x1024, .bf16⟩
  | .local _ .vmem, ⟨21, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev main_v23_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_32 : BitVec 32 := 0#32
  let v53 : BitVec 1 := Scalar.cmpi .ne v52 c0_i32_32
  v53

def k0_cond2 (i : grid0.Coords) : BitVec 1 :=
  let arg0 : BitVec 32 := BitVec.ofNat 32 (i 0).val
  let c0_i32_33 : BitVec 32 := 0#32
  let v54 : BitVec 1 := Scalar.cmpi .sgt arg0 c0_i32_33
  let v55 : BitVec 32 := Scalar.extui v54
  let c0_i32_34 : BitVec 32 := 0#32
  let v56 : BitVec 1 := Scalar.cmpi .ne v55 c0_i32_34
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S2x2048x1024 : Shape := ⟨3, ![2, 2048, 1024]⟩
abbrev S1024x3264 : Shape := ⟨2, ![1024, 3264]⟩
abbrev S2048 : Shape := ⟨1, ![2048]⟩
abbrev S2x2048x512 : Shape := ⟨3, ![2, 2048, 512]⟩
abbrev S512x1024 : Shape := ⟨2, ![512, 1024]⟩
abbrev S1024x1024 : Shape := ⟨2, ![1024, 1024]⟩
abbrev S1024x2048 : Shape := ⟨2, ![1024, 2048]⟩
abbrev S2x2048x2048 : Shape := ⟨3, ![2, 2048, 2048]⟩
abbrev S1x1x2048 : Shape := ⟨3, ![1, 1, 2048]⟩
abbrev S_ : Shape := ⟨0, ![]⟩
abbrev S2x2048x2x1024 : Shape := ⟨4, ![2, 2048, 2, 1024]⟩
abbrev S2x2048x1x1024 : Shape := ⟨4, ![2, 2048, 1, 1024]⟩
abbrev S4096x1024 : Shape := ⟨2, ![4096, 1024]⟩
abbrev S4096x2048 : Shape := ⟨2, ![4096, 2048]⟩
abbrev S1x2048 : Shape := ⟨2, ![1, 2048]⟩
abbrev S4096x512 : Shape := ⟨2, ![4096, 512]⟩

abbrev nBuf : Space → Nat
  | .hbm => 68
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3264, .f32⟩
  | .hbm, ⟨2, _⟩ => ⟨S2048, .f32⟩
  | .hbm, ⟨3, _⟩ => ⟨S2x2048x512, .f32⟩
  | .hbm, ⟨4, _⟩ => ⟨S2x2048x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S1024x2048, .f32⟩
  | .hbm, ⟨12, _⟩ => ⟨S2x2048x2048, .f32⟩
  | .hbm, ⟨13, _⟩ => ⟨S1x1x2048, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | .hbm, ⟨17, _⟩ => ⟨S2x2048x2048, .f32⟩
  | .hbm, ⟨18, _⟩ => ⟨S_, .f32⟩
  | .hbm, ⟨19, _⟩ => ⟨S2x2048x2048, .f32⟩
  | .hbm, ⟨20, _⟩ => ⟨S2x2048x2048, .f32⟩
  | .hbm, ⟨21, _⟩ => ⟨S_, .f32⟩
  | .hbm, ⟨22, _⟩ => ⟨S2x2048x2048, .f32⟩
  | .hbm, ⟨23, _⟩ => ⟨S2x2048x2048, .f32⟩
  | .hbm, ⟨24, _⟩ => ⟨S_, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S2x2048x2x1024, .f32⟩
  | .hbm, ⟨29, _⟩ => ⟨S2x2048x1x1024, .f32⟩
  | .hbm, ⟨30, _⟩ => ⟨S2x2048x1024, .f32⟩
  | .hbm, ⟨31, _⟩ => ⟨S2x2048x1024, .f32⟩
  | .hbm, ⟨32, _⟩ => ⟨S2x2048x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1x1024, .f32⟩
  | .hbm, ⟨41, _⟩ => ⟨S_, .f32⟩
  | .hbm, ⟨42, _⟩ => ⟨S2x2048x2x1024, .f32⟩
  | .hbm, ⟨43, _⟩ => ⟨S2x2048x1024, .f32⟩
  | .hbm, ⟨44, _⟩ => ⟨S2x2048x1024, .f32⟩
  | .hbm, ⟨45, _⟩ => ⟨S2x2048x1x1024, .f32⟩
  | .hbm, ⟨46, _⟩ => ⟨S_, .f32⟩
  | .hbm, ⟨47, _⟩ => ⟨S2x2048x2x1024, .f32⟩
  | .hbm, ⟨48, _⟩ => ⟨S2x2048x2x1024, .f32⟩
  | .hbm, ⟨49, _⟩ => ⟨S2x2048x2048, .f32⟩
  | .hbm, ⟨50, _⟩ => ⟨S2x2048x2048, .f32⟩
  | .hbm, ⟨51, _⟩ => ⟨S_, .f32⟩
  | .hbm, ⟨52, _⟩ => ⟨S2048, .f32⟩
  | .hbm, ⟨53, _⟩ => ⟨S1x1x2048, .f32⟩
  | .hbm, ⟨54, _⟩ => ⟨S_, .f32⟩
  | .hbm, ⟨55, _⟩ => ⟨S2048, .f32⟩
  | .hbm, ⟨56, _⟩ => ⟨S2x2048x512, .f32⟩
  | .hbm, ⟨57, _⟩ => ⟨S2x2048x1024, .f32⟩
  | .hbm, ⟨58, _⟩ => ⟨S4096x1024, .f32⟩
  | .hbm, ⟨59, _⟩ => ⟨S4096x1024, .bf16⟩
  | .hbm, ⟨60, _⟩ => ⟨S4096x1024, .f32⟩
  | .hbm, ⟨61, _⟩ => ⟨S4096x1024, .bf16⟩
  | .hbm, ⟨62, _⟩ => ⟨S4096x2048, .f32⟩
  | .hbm, ⟨63, _⟩ => ⟨S4096x2048, .bf16⟩
  | .hbm, ⟨64, _⟩ => ⟨S1x2048, .f32⟩
  | .hbm, ⟨65, _⟩ => ⟨S4096x512, .f32⟩
  | .hbm, ⟨66, _⟩ => ⟨S4096x1024, .f32⟩
  | .hbm, ⟨67, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== MixerKernel.lean ====
abbrev S2x2048x1024 : Shape := ⟨3, ![2, 2048, 1024]⟩
abbrev S2x2048 : Shape := ⟨2, ![2, 2048]⟩
abbrev S1024 : Shape := ⟨1, ![1024]⟩
abbrev S1024x3264 : Shape := ⟨2, ![1024, 3264]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S2x2048x512 : Shape := ⟨3, ![2, 2048, 512]⟩
abbrev S2x2048x8x192 : Shape := ⟨4, ![2, 2048, 8, 192]⟩
abbrev S2x2048x2048 : Shape := ⟨3, ![2, 2048, 2048]⟩
abbrev S2x2048x64 : Shape := ⟨3, ![2, 2048, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S384x8x192 : Shape := ⟨3, ![384, 8, 192]⟩
abbrev S384x8x256 : Shape := ⟨3, ![384, 8, 256]⟩
abbrev S384x2048 : Shape := ⟨2, ![384, 2048]⟩
abbrev S2048x384 : Shape := ⟨2, ![2048, 384]⟩
abbrev S2x2048x1 : Shape := ⟨3, ![2, 2048, 1]⟩
abbrev S1x1x1024 : Shape := ⟨3, ![1, 1, 1024]⟩
abbrev S2x2048x3264 : Shape := ⟨3, ![2, 2048, 3264]⟩
abbrev S4096x3264 : Shape := ⟨2, ![4096, 3264]⟩
abbrev S2x2048x8x256 : Shape := ⟨4, ![2, 2048, 8, 256]⟩
abbrev S4096x2048 : Shape := ⟨2, ![4096, 2048]⟩
abbrev S4096x384 : Shape := ⟨2, ![4096, 384]⟩
abbrev S4096x256 : Shape := ⟨2, ![4096, 256]⟩
abbrev S4096x512 : Shape := ⟨2, ![4096, 512]⟩
abbrev S4096x1024 : Shape := ⟨2, ![4096, 1024]⟩
abbrev S3264x1024 : Shape := ⟨2, ![3264, 1024]⟩
abbrev S1x1024 : Shape := ⟨2, ![1, 1024]⟩
abbrev S1x384 : Shape := ⟨2, ![1, 384]⟩
abbrev S1x256 : Shape := ⟨2, ![1, 256]⟩
abbrev S4096x1280 : Shape := ⟨2, ![4096, 1280]⟩
abbrev S256x128 : Shape := ⟨2, ![256, 128]⟩
abbrev S256x384 : Shape := ⟨2, ![256, 384]⟩
abbrev S256x256 : Shape := ⟨2, ![256, 256]⟩
abbrev S256x512 : Shape := ⟨2, ![256, 512]⟩
abbrev S256x1024 : Shape := ⟨2, ![256, 1024]⟩
abbrev S256x1280 : Shape := ⟨2, ![256, 1280]⟩
abbrev S256x1 : Shape := ⟨2, ![256, 1]⟩
abbrev S1280x1024 : Shape := ⟨2, ![1280, 1024]⟩
abbrev S2048x1024 : Shape := ⟨2, ![2048, 1024]⟩

abbrev nBuf : Space → Nat
  | .hbm => 100
  | .vmem => 39
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S1024, .f32⟩
  | .hbm, ⟨3, _⟩ => ⟨S1024x3264, .f32⟩
  | .hbm, ⟨4, _⟩ => ⟨S384, .f32⟩
  | .hbm, ⟨5, _⟩ => ⟨S384x1536, .f32⟩
  | .hbm, ⟨6, _⟩ => ⟨S256, .f32⟩
  | .hbm, ⟨7, _⟩ => ⟨S256x2048, .f32⟩
  | .hbm, ⟨8, _⟩ => ⟨S2x2048x512, .f32⟩
  | .hbm, ⟨9, _⟩ => ⟨S2x2048x8x192, .f32⟩
  | .hbm, ⟨10, _⟩ => ⟨S2x2048x2048, .f32⟩
  | .hbm, ⟨11, _⟩ => ⟨S2x2048x64, .f32⟩
  | .hbm, ⟨12, _⟩ => ⟨S2x2048x2048, .f32⟩
  | .hbm, ⟨13, _⟩ => ⟨S2x2048x1024, .f32⟩
  | .hbm, ⟨14, _⟩ => ⟨S4096, .i32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S4096, .f32⟩
  | .hbm, ⟨30, _⟩ => ⟨S4096x1, .f32⟩
  | .hbm, ⟨31, _⟩ => ⟨S1x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S_, .f32⟩
  | .hbm, ⟨38, _⟩ => ⟨S4096x32, .f32⟩
  | .hbm, ⟨39, _⟩ => ⟨S_, .f32⟩
  | .hbm, ⟨40, _⟩ => ⟨S4096x64, .f32⟩
  | .hbm, ⟨41, _⟩ => ⟨S4096x128, .f32⟩
  | .hbm, ⟨42, _⟩ => ⟨S4096x128, .f32⟩
  | .hbm, ⟨43, _⟩ => ⟨S4096x32, .f32⟩
  | .hbm, ⟨44, _⟩ => ⟨S4096x128, .f32⟩
  | .hbm, ⟨45, _⟩ => ⟨S384x8x192, .f32⟩
  | .hbm, ⟨46, _⟩ => ⟨S_, .i32⟩
  | .hbm, ⟨47, _⟩ => ⟨S_, .f32⟩
  | .hbm, ⟨48, _⟩ => ⟨S384x8x256, .f32⟩
  | .hbm, ⟨49, _⟩ => ⟨S384x2048, .f32⟩
  | .hbm, ⟨50, _⟩ => ⟨S2048x384, .f32⟩
  | .hbm, ⟨51, _⟩ => ⟨S2048x384, .bf16⟩
  | .hbm, ⟨52, _⟩ => ⟨S2x2048x1024, .f32⟩
  | .hbm, ⟨53, _⟩ => ⟨S_, .f32⟩
  | .hbm, ⟨54, _⟩ => ⟨S2x2048, .f32⟩
  | .hbm, ⟨55, _⟩ => ⟨S2x2048x1, .f32⟩
  | .hbm, ⟨56, _⟩ => ⟨S_, .f32⟩
  | .hbm, ⟨57, _⟩ => ⟨S2x2048x1, .f32⟩
  | .hbm, ⟨58, _⟩ => ⟨S2x2048x1, .f32⟩
  | .hbm, ⟨59, _⟩ => ⟨S_, .f32⟩
  | .hbm, ⟨60, _⟩ => ⟨S2x2048x1, .f32⟩
  | .hbm, ⟨61, _⟩ => ⟨S2x2048x1, .f32⟩
  | .hbm, ⟨62, _⟩ => ⟨S2x2048x1, .f32⟩
  | .hbm, ⟨63, _⟩ => ⟨S2x2048x1024, .f32⟩
  | .hbm, ⟨64, _⟩ => ⟨S2x2048x1024, .f32⟩
  | .hbm, ⟨65, _⟩ => ⟨S1x1x1024, .f32⟩
  | .hbm, ⟨66, _⟩ => ⟨S2x2048x1024, .f32⟩
  | .hbm, ⟨67, _⟩ => ⟨S2x2048x1024, .f32⟩
  | .hbm, ⟨68, _⟩ => ⟨S2x2048x3264, .f32⟩
  | .hbm, ⟨69, _⟩ => ⟨S4096x3264, .f32⟩
  | .hbm, ⟨70, _⟩ => ⟨S_, .i32⟩
  | .hbm, ⟨71, _⟩ => ⟨S_, .f32⟩
  | .hbm, ⟨72, _⟩ => ⟨S2x2048x8x256, .f32⟩
  | .hbm, ⟨73, _⟩ => ⟨S4096x2048, .f32⟩
  | .hbm, ⟨74, _⟩ => ⟨S4096x2048, .bf16⟩
  | .hbm, ⟨75, _⟩ => ⟨S4096x64, .f32⟩
  | .hbm, ⟨76, _⟩ => ⟨S_, .i32⟩
  | .hbm, ⟨77, _⟩ => ⟨S_, .f32⟩
  | .hbm, ⟨78, _⟩ => ⟨S4096x128, .f32⟩
  | .hbm, ⟨79, _⟩ => ⟨S4096x2048, .f32⟩
  | .hbm, ⟨80, _⟩ => ⟨S4096x2048, .bf16⟩
  | .hbm, ⟨81, _⟩ => ⟨S4096x384, .f32⟩
  | .hbm, ⟨82, _⟩ => ⟨S4096x256, .f32⟩
  | .hbm, ⟨83, _⟩ => ⟨S4096x512, .f32⟩
  | .hbm, ⟨84, _⟩ => ⟨S4096x2048, .f32⟩
  | .hbm, ⟨85, _⟩ => ⟨S4096x2048, .bf16⟩
  | .hbm, ⟨86, _⟩ => ⟨S4096x1024, .f32⟩
  | .hbm, ⟨87, _⟩ => ⟨S4096x1024, .f32⟩
  | .hbm, ⟨88, _⟩ => ⟨S3264x1024, .f32⟩
  | .hbm, ⟨89, _⟩ => ⟨S3264x1024, .bf16⟩
  | .hbm, ⟨90, _⟩ => ⟨S256x2048, .bf16⟩
  | .hbm, ⟨91, _⟩ => ⟨S1x1024, .f32⟩
  | .hbm, ⟨92, _⟩ => ⟨S1x384, .f32⟩
  | .hbm, ⟨93, _⟩ => ⟨S1x256, .f32⟩
  | .hbm, ⟨94, _⟩ => ⟨S4096x1280, .bf16⟩
  | .hbm, ⟨95, _⟩ => ⟨S4096x2048, .bf16⟩
  | .hbm, ⟨96, _⟩ => ⟨S1x384, .f32⟩
  | .hbm, ⟨97, _⟩ => ⟨S1x256, .f32⟩
  | .hbm, ⟨98, _⟩ => ⟨S4096x1024, .f32⟩
  | .hbm, ⟨99, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x128, .f32⟩
  | .local _ .vmem, ⟨5, _⟩ => ⟨S256x128, .f32⟩
  | .local _ .vmem, ⟨6, _⟩ => ⟨S256x384, .f32⟩
  | .local _ .vmem, ⟨7, _⟩ => ⟨S256x384, .f32⟩
  | .local _ .vmem, ⟨8, _⟩ => ⟨S256x256, .f32⟩
  | .local _ .vmem, ⟨9, _⟩ => ⟨S256x256, .f32⟩
  | .local _ .vmem, ⟨10, _⟩ => ⟨S256x512, .f32⟩
  | .local _ .vmem, ⟨11, _⟩ => ⟨S256x512, .f32⟩
  | .local _ .vmem, ⟨12, _⟩ => ⟨S256x2048, .bf16⟩
  | .local _ .vmem, ⟨13, _⟩ => ⟨S256x2048, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S3264x1024, .bf16⟩
  | .local _ .vmem, ⟨19, _⟩ => ⟨S2048x384, .bf16⟩
  | .local _ .vmem, ⟨20, _⟩ => ⟨S256x2048, .bf16⟩
  | .local _ .vmem, ⟨21, _⟩ => ⟨S1x1024, .f32⟩
  | .local _ .vmem, ⟨22, _⟩ => ⟨S1x384, .f32⟩
  | .local _ .vmem, ⟨23, _⟩ => ⟨S1x256, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x1280, .bf16⟩
  | .local _ .vmem, ⟨31, _⟩ => ⟨S256x1280, .bf16⟩
  | .local _ .vmem, ⟨32, _⟩ => ⟨S256x2048, .bf16⟩
  | .local _ .vmem, ⟨33, _⟩ => ⟨S256x2048, .bf16⟩
  | .local _ .vmem, ⟨34, _⟩ => ⟨S1x384, .f32⟩
  | .local _ .vmem, ⟨35, _⟩ => ⟨S1x256, .f32⟩
  | .local _ .vmem, ⟨36, _⟩ => ⟨S256x1024, .f32⟩
  | .local _ .vmem, ⟨37, _⟩ => ⟨S256x1024, .f32⟩
  | .local _ .vmem, ⟨38, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c : Ref sig .tc := ⟨.hbm, 46, rfl⟩
abbrev main_call0_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_call1_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_call2_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65_0 : Ref sig .tc := ⟨.hbm, 94, rfl⟩
abbrev main_v65_1 : Ref sig .tc := ⟨.hbm, 95, rfl⟩
abbrev main_v65_2 : Ref sig .tc := ⟨.hbm, 96, rfl⟩
abbrev main_v65_3 : Ref sig .tc := ⟨.hbm, 97, rfl⟩
abbrev main_v65_4 : Ref sig .tc := ⟨.hbm, 98, rfl⟩
abbrev main_v65_5 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem21_0 : DmaSem sig := 35
abbrev cc0_sem22_0 : DmaSem sig := 36
abbrev cc0_sem22_1 : DmaSem sig := 37
abbrev cc0_sem23_0 : DmaSem sig := 38

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v257 : BitVec 1 := Scalar.cmpi .eq arg0 c0_i32
  let v258 : BitVec 32 := Scalar.extui v257
  let c0_i32_134 : BitVec 32 := 0#32
  let v259 : BitVec 1 := Scalar.cmpi .ne v258 c0_i32_134
  v259

def k0_cond2 (i : grid0.Coords) : BitVec 1 :=
  let arg0 : BitVec 32 := BitVec.ofNat 32 (i 0).val
  let c0_i32_135 : BitVec 32 := 0#32
  let v260 : BitVec 1 := Scalar.cmpi .sgt arg0 c0_i32_135
  let v261 : BitVec 32 := Scalar.extui v260
  let c0_i32_136 : BitVec 32 := 0#32
  let v262 : BitVec 1 := Scalar.cmpi .ne v261 c0_i32_136
  v262

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3264x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1280 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== MixerReferenceIdeal.lean ====
abbrev S2x2048x1024 : Shape := ⟨3, ![2, 2048, 1024]⟩
abbrev S2x2048 : Shape := ⟨2, ![2, 2048]⟩
abbrev S1024 : Shape := ⟨1, ![1024]⟩
abbrev S1024x3264 : Shape := ⟨2, ![1024, 3264]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S2x2048x512 : Shape := ⟨3, ![2, 2048, 512]⟩
abbrev S2x2048x8x192 : Shape := ⟨4, ![2, 2048, 8, 192]⟩
abbrev S2x2048x2048 : Shape := ⟨3, ![2, 2048, 2048]⟩
abbrev S2x2048x64 : Shape := ⟨3, ![2, 2048, 64]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S1x1x1024 : Shape := ⟨3, ![1, 1, 1024]⟩
abbrev S2x2048x3264 : Shape := ⟨3, ![2, 2048, 3264]⟩
abbrev S2x2048x384 : Shape := ⟨3, ![2, 2048, 384]⟩
abbrev S1x1x384 : Shape := ⟨3, ![1, 1, 384]⟩
abbrev S2x2048x1536 : Shape := ⟨3, ![2, 2048, 1536]⟩
abbrev S2x2048x256 : Shape := ⟨3, ![2, 2048, 256]⟩
abbrev S1x1x256 : Shape := ⟨3, ![1, 1, 256]⟩
abbrev S2x2048x8x128 : Shape := ⟨4, ![2, 2048, 8, 128]⟩
abbrev S2x2048x8x64 : Shape := ⟨4, ![2, 2048, 8, 64]⟩
abbrev S2x2048x1x32 : Shape := ⟨4, ![2, 2048, 1, 32]⟩
abbrev S2x2048x8x32 : Shape := ⟨4, ![2, 2048, 8, 32]⟩
abbrev S2x2048x1280 : Shape := ⟨3, ![2, 2048, 1280]⟩
abbrev S4096x1280 : Shape := ⟨2, ![4096, 1280]⟩
abbrev S2x2048x8x256 : Shape := ⟨4, ![2, 2048, 8, 256]⟩
abbrev S4096x2048 : Shape := ⟨2, ![4096, 2048]⟩
abbrev S1x384 : Shape := ⟨2, ![1, 384]⟩
abbrev S1x256 : Shape := ⟨2, ![1, 256]⟩
abbrev S4096x1024 : Shape := ⟨2, ![4096, 1024]⟩
abbrev S1x1024 : Shape := ⟨2, ![1, 1024]⟩

abbrev nBuf : Space → Nat
  | .hbm => 256
  | .vmem => 0
  | .smem => 0
  | _ => 0

abbrev hbmTy0_0 (i : Nat) : BufTy := match i % 128 with
  | 0 => ⟨S2x2048x1024, .f32⟩
  | 1 => ⟨S2x2048, .i32⟩
  | 2 => ⟨S1024, .f32⟩
  | 3 => ⟨S1024x3264, .f32⟩
  | 4 => ⟨S384, .f32⟩
  | 5 => ⟨S384x1536, .f32⟩
  | 6 => ⟨S256, .f32⟩
  | 7 => ⟨S256x2048, .f32⟩
  | 8 => ⟨S2x2048x512, .f32⟩
  | 9 => ⟨S2x2048x8x192, .f32⟩
  | 10 => ⟨S2x2048x2048, .f32⟩
  | 11 => ⟨S2x2048x64, .f32⟩
  | 12 => ⟨S2x2048x2048, .f32⟩
  | 13 => ⟨S2x2048x1024, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S2x2048, .f32⟩
  | 29 => ⟨S2x2048x1, .f32⟩
  | 30 => ⟨S1x1x32, .f32⟩
  | 31 => ⟨S2x2048x32, .f32⟩
  | 32 => ⟨S2x2048x32, .f32⟩
  | 33 => ⟨S2x2048x32, .f32⟩
  | 34 => ⟨S2x2048x32, .f32⟩
  | 35 => ⟨S2x2048x32, .f32⟩
  | 36 => ⟨S2x2048x1024, .f32⟩
  | 37 => ⟨S_, .f32⟩
  | 38 => ⟨S2x2048, .f32⟩
  | 39 => ⟨S2x2048x1, .f32⟩
  | 40 => ⟨S_, .f32⟩
  | 41 => ⟨S2x2048x1, .f32⟩
  | 42 => ⟨S2x2048x1, .f32⟩
  | 43 => ⟨S_, .f32⟩
  | 44 => ⟨S2x2048x1, .f32⟩
  | 45 => ⟨S2x2048x1, .f32⟩
  | 46 => ⟨S2x2048x1, .f32⟩
  | 47 => ⟨S2x2048x1, .f32⟩
  | 48 => ⟨S_, .f32⟩
  | 49 => ⟨S2x2048x1, .f32⟩
  | 50 => ⟨S2x2048x1, .f32⟩
  | 51 => ⟨S2x2048x1024, .f32⟩
  | 52 => ⟨S2x2048x1024, .f32⟩
  | 53 => ⟨S1x1x1024, .f32⟩
  | 54 => ⟨S2x2048x1024, .f32⟩
  | 55 => ⟨S2x2048x1024, .f32⟩
  | 56 => ⟨S2x2048x3264, .f32⟩
  | 57 => ⟨S2x2048x384, .f32⟩
  | 58 => ⟨S2x2048x384, .f32⟩
  | 59 => ⟨S_, .f32⟩
  | 60 => ⟨S2x2048, .f32⟩
  | 61 => ⟨S2x2048x1, .f32⟩
  | 62 => ⟨S_, .f32⟩
  | 63 => ⟨S2x2048x1, .f32⟩
  | 64 => ⟨S2x2048x1, .f32⟩
  | 65 => ⟨S_, .f32⟩
  | 66 => ⟨S2x2048x1, .f32⟩
  | 67 => ⟨S2x2048x1, .f32⟩
  | 68 => ⟨S2x2048x1, .f32⟩
  | 69 => ⟨S2x2048x1, .f32⟩
  | 70 => ⟨S_, .f32⟩
  | 71 => ⟨S2x2048x1, .f32⟩
  | 72 => ⟨S2x2048x1, .f32⟩
  | 73 => ⟨S2x2048x384, .f32⟩
  | 74 => ⟨S2x2048x384, .f32⟩
  | 75 => ⟨S1x1x384, .f32⟩
  | 76 => ⟨S2x2048x384, .f32⟩
  | 77 => ⟨S2x2048x384, .f32⟩
  | 78 => ⟨S2x2048x1536, .f32⟩
  | 79 => ⟨S2x2048x8x192, .f32⟩
  | 80 => ⟨S2x2048x256, .f32⟩
  | 81 => ⟨S2x2048x256, .f32⟩
  | 82 => ⟨S_, .f32⟩
  | 83 => ⟨S2x2048, .f32⟩
  | 84 => ⟨S2x2048x1, .f32⟩
  | 85 => ⟨S_, .f32⟩
  | 86 => ⟨S2x2048x1, .f32⟩
  | 87 => ⟨S2x2048x1, .f32⟩
  | 88 => ⟨S_, .f32⟩
  | 89 => ⟨S2x2048x1, .f32⟩
  | 90 => ⟨S2x2048x1, .f32⟩
  | 91 => ⟨S2x2048x1, .f32⟩
  | 92 => ⟨S2x2048x1, .f32⟩
  | 93 => ⟨S_, .f32⟩
  | 94 => ⟨S2x2048x1, .f32⟩
  | 95 => ⟨S2x2048x1, .f32⟩
  | 96 => ⟨S2x2048x256, .f32⟩
  | 97 => ⟨S2x2048x256, .f32⟩
  | 98 => ⟨S1x1x256, .f32⟩
  | 99 => ⟨S2x2048x256, .f32⟩
  | 100 => ⟨S2x2048x256, .f32⟩
  | 101 => ⟨S2x2048x2048, .f32⟩
  | 102 => ⟨S2x2048x8x128, .f32⟩
  | 103 => ⟨S2x2048x8x64, .f32⟩
  | 104 => ⟨S2x2048x1x32, .f32⟩
  | 105 => ⟨S2x2048x1x32, .f32⟩
  | 106 => ⟨S2x2048x8x32, .f32⟩
  | 107 => ⟨S2x2048x8x32, .f32⟩
  | 108 => ⟨S2x2048x8x32, .f32⟩
  | 109 => ⟨S2x2048x8x32, .f32⟩
  | 110 => ⟨S2x2048x8x32, .f32⟩
  | 111 => ⟨S2x2048x8x32, .f32⟩
  | 112 => ⟨S2x2048x8x32, .f32⟩
  | 113 => ⟨S2x2048x8x32, .f32⟩
  | 114 => ⟨S2x2048x8x32, .f32⟩
  | 115 => ⟨S2x2048x8x32, .f32⟩
  | 116 => ⟨S2x2048x8x32, .f32⟩
  | 117 => ⟨S2x2048x8x32, .f32⟩
  | 118 => ⟨S2x2048x8x64, .f32⟩
  | 119 => ⟨S2x2048x8x192, .f32⟩
  | 120 => ⟨S2x2048x8x128, .f32⟩
  | 121 => ⟨S2x2048x8x64, .f32⟩
  | 122 => ⟨S2x2048x8x32, .f32⟩
  | 123 => ⟨S2x2048x8x32, .f32⟩
  | 124 => ⟨S2x2048x8x32, .f32⟩
  | 125 => ⟨S2x2048x8x32, .f32⟩
  | 126 => ⟨S2x2048x8x32, .f32⟩
  | 127 => ⟨S2x2048x8x32, .f32⟩
  | _ => ⟨S2x2048x1024, .f32⟩

abbrev hbmTy0_1 (i : Nat) : BufTy := match i % 128 with
  | 0 => ⟨S2x2048x8x32, .f32⟩
  | 1 => ⟨S2x2048x8x32, .f32⟩
  | 2 => ⟨S2x2048x8x32, .f32⟩
  | 3 => ⟨S2x2048x8x32, .f32⟩
  | 4 => ⟨S2x2048x8x32, .f32⟩
  | 5 => ⟨S2x2048x8x32, .f32⟩
  | 6 => ⟨S2x2048x8x32, .f32⟩
  | 7 => ⟨S2x2048x8x64, .f32⟩
  | 8 => ⟨S_, .f32⟩
  | 9 => ⟨S2x2048x8x192, .f32⟩
  | 10 => ⟨S_, .f32⟩
  | 11 => ⟨S2x2048x8x192, .f32⟩
  | 12 => ⟨S2x2048x8x192, .f32⟩
  | 13 => ⟨S2x2048x64, .f32⟩
  | 14 => ⟨S2x2048x32, .f32⟩
  | 15 => ⟨S2x2048x32, .f32⟩
  | 16 => ⟨S2x2048x32, .f32⟩
  | 17 => ⟨S2x2048x32, .f32⟩
  | 18 => ⟨S2x2048x32, .f32⟩
  | 19 => ⟨S2x2048x32, .f32⟩
  | 20 => ⟨S2x2048x32, .f32⟩
  | 21 => ⟨S2x2048x32, .f32⟩
  | 22 => ⟨S2x2048x64, .f32⟩
  | 23 => ⟨S2x2048x32, .f32⟩
  | 24 => ⟨S2x2048x32, .f32⟩
  | 25 => ⟨S2x2048x32, .f32⟩
  | 26 => ⟨S2x2048x32, .f32⟩
  | 27 => ⟨S2x2048x32, .f32⟩
  | 28 => ⟨S2x2048x32, .f32⟩
  | 29 => ⟨S2x2048x32, .f32⟩
  | 30 => ⟨S2x2048x32, .f32⟩
  | 31 => ⟨S2x2048x32, .f32⟩
  | 32 => ⟨S2x2048x64, .f32⟩
  | 33 => ⟨S2x2048x1536, .f32⟩
  | 34 => ⟨S2x2048x384, .f32⟩
  | 35 => ⟨S2x2048x384, .f32⟩
  | 36 => ⟨S_, .f32⟩
  | 37 => ⟨S384, .f32⟩
  | 38 => ⟨S1x1x384, .f32⟩
  | 39 => ⟨S2x2048x384, .f32⟩
  | 40 => ⟨S2x2048x384, .f32⟩
  | 41 => ⟨S_, .f32⟩
  | 42 => ⟨S384, .f32⟩
  | 43 => ⟨S2x2048x384, .f32⟩
  | 44 => ⟨S_, .f32⟩
  | 45 => ⟨S2x2048, .f32⟩
  | 46 => ⟨S2x2048x1, .f32⟩
  | 47 => ⟨S2x2048x384, .f32⟩
  | 48 => ⟨S2x2048x384, .f32⟩
  | 49 => ⟨S2x2048x1, .f32⟩
  | 50 => ⟨S_, .f32⟩
  | 51 => ⟨S2x2048x1, .f32⟩
  | 52 => ⟨S2x2048x1, .f32⟩
  | 53 => ⟨S_, .f32⟩
  | 54 => ⟨S2x2048, .f32⟩
  | 55 => ⟨S2x2048x384, .f32⟩
  | 56 => ⟨S2x2048x384, .f32⟩
  | 57 => ⟨S2x2048x384, .f32⟩
  | 58 => ⟨S2x2048x384, .f32⟩
  | 59 => ⟨S2x2048x384, .f32⟩
  | 60 => ⟨S2x2048x256, .f32⟩
  | 61 => ⟨S2x2048x256, .f32⟩
  | 62 => ⟨S_, .f32⟩
  | 63 => ⟨S256, .f32⟩
  | 64 => ⟨S1x1x256, .f32⟩
  | 65 => ⟨S2x2048x256, .f32⟩
  | 66 => ⟨S2x2048x256, .f32⟩
  | 67 => ⟨S_, .f32⟩
  | 68 => ⟨S256, .f32⟩
  | 69 => ⟨S2x2048x256, .f32⟩
  | 70 => ⟨S_, .f32⟩
  | 71 => ⟨S2x2048, .f32⟩
  | 72 => ⟨S2x2048x1, .f32⟩
  | 73 => ⟨S2x2048x256, .f32⟩
  | 74 => ⟨S2x2048x256, .f32⟩
  | 75 => ⟨S2x2048x1, .f32⟩
  | 76 => ⟨S_, .f32⟩
  | 77 => ⟨S2x2048x1, .f32⟩
  | 78 => ⟨S2x2048x1, .f32⟩
  | 79 => ⟨S_, .f32⟩
  | 80 => ⟨S2x2048, .f32⟩
  | 81 => ⟨S2x2048x256, .f32⟩
  | 82 => ⟨S2x2048x256, .f32⟩
  | 83 => ⟨S2x2048x256, .f32⟩
  | 84 => ⟨S2x2048x256, .f32⟩
  | 85 => ⟨S2x2048x256, .f32⟩
  | 86 => ⟨S2x2048x3264, .f32⟩
  | 87 => ⟨S2x2048x1024, .f32⟩
  | 88 => ⟨S2x2048x1024, .f32⟩
  | 89 => ⟨S_, .f32⟩
  | 90 => ⟨S1024, .f32⟩
  | 91 => ⟨S1x1x1024, .f32⟩
  | 92 => ⟨S2x2048x1024, .f32⟩
  | 93 => ⟨S2x2048x1024, .f32⟩
  | 94 => ⟨S_, .f32⟩
  | 95 => ⟨S1024, .f32⟩
  | 96 => ⟨S2x2048x1024, .f32⟩
  | 97 => ⟨S_, .f32⟩
  | 98 => ⟨S2x2048, .f32⟩
  | 99 => ⟨S2x2048x1, .f32⟩
  | 100 => ⟨S2x2048x1024, .f32⟩
  | 101 => ⟨S2x2048x1024, .f32⟩
  | 102 => ⟨S2x2048x1, .f32⟩
  | 103 => ⟨S_, .f32⟩
  | 104 => ⟨S2x2048x1, .f32⟩
  | 105 => ⟨S2x2048x1, .f32⟩
  | 106 => ⟨S_, .f32⟩
  | 107 => ⟨S2x2048, .f32⟩
  | 108 => ⟨S2x2048x1024, .f32⟩
  | 109 => ⟨S2x2048x1024, .f32⟩
  | 110 => ⟨S2x2048x1024, .f32⟩
  | 111 => ⟨S2x2048x1024, .f32⟩
  | 112 => ⟨S2x2048x1024, .f32⟩
  | 113 => ⟨S_, .f32⟩
  | 114 => ⟨S2x2048x64, .f32⟩
  | 115 => ⟨S2x2048x1280, .f32⟩
  | 116 => ⟨S4096x1280, .f32⟩
  | 117 => ⟨S_, .f32⟩
  | 118 => ⟨S2x2048x8x64, .f32⟩
  | 119 => ⟨S2x2048x8x256, .f32⟩
  | 120 => ⟨S4096x2048, .f32⟩
  | 121 => ⟨S4096x1280, .bf16⟩
  | 122 => ⟨S4096x2048, .bf16⟩
  | 123 => ⟨S1x384, .f32⟩
  | 124 => ⟨S1x256, .f32⟩
  | 125 => ⟨S2x2048x1024, .f32⟩
  | 126 => ⟨S4096x1024, .f32⟩
  | 127 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_15 : Ref sig .tc := ⟨.hbm, 136, rfl⟩
abbrev main_v106 : Ref sig .tc := ⟨.hbm, 137, rfl⟩
abbrev main_cst_16 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_17 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_18 : Ref sig .tc := ⟨.hbm, 169, rfl⟩
abbrev main_v136 : Ref sig .tc := ⟨.hbm, 170, rfl⟩
abbrev main_v137 : Ref sig .tc := ⟨.hbm, 171, rfl⟩
abbrev main_cst_19 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_20 : Ref sig .tc := ⟨.hbm, 178, rfl⟩
abbrev main_v143 : Ref sig .tc := ⟨.hbm, 179, rfl⟩
abbrev main_v144 : Ref sig .tc := ⟨.hbm, 180, rfl⟩
abbrev main_cst_21 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_22 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_cst_23 : Ref sig .tc := ⟨.hbm, 195, rfl⟩
abbrev main_v157 : Ref sig .tc := ⟨.hbm, 196, rfl⟩
abbrev main_v158 : Ref sig .tc := ⟨.hbm, 197, rfl⟩
abbrev main_cst_24 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_25 : Ref sig .tc := ⟨.hbm, 204, rfl⟩
abbrev main_v164 : Ref sig .tc := ⟨.hbm, 205, rfl⟩
abbrev main_v165 : Ref sig .tc := ⟨.hbm, 206, rfl⟩
abbrev main_cst_26 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_27 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_28 : Ref sig .tc := ⟨.hbm, 222, rfl⟩
abbrev main_v179 : Ref sig .tc := ⟨.hbm, 223, rfl⟩
abbrev main_v180 : Ref sig .tc := ⟨.hbm, 224, rfl⟩
abbrev main_cst_29 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_cst_30 : Ref sig .tc := ⟨.hbm, 231, rfl⟩
abbrev main_v186 : Ref sig .tc := ⟨.hbm, 232, rfl⟩
abbrev main_v187 : Ref sig .tc := ⟨.hbm, 233, rfl⟩
abbrev main_cst_31 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_cst_32 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_cst_33 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩

abbrev nD : Nat := 1
abbrev τ : Topo := Topo.v7x

variable {F : FTy → Type} [FloatOps F]
-- ==== NormKernel.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S_, .f32⟩
  | .hbm, ⟨4, _⟩ => ⟨S2x2048, .f32⟩
  | .hbm, ⟨5, _⟩ => ⟨S2x2048x1, .f32⟩
  | .hbm, ⟨6, _⟩ => ⟨S_, .f32⟩
  | .hbm, ⟨7, _⟩ => ⟨S2x2048x1, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1, .f32⟩
  | .hbm, ⟨13, _⟩ => ⟨S2x2048x1024, .f32⟩
  | .hbm, ⟨14, _⟩ => ⟨S2x2048x1024, .f32⟩
  | .hbm, ⟨15, _⟩ => ⟨S1x1x1024, .f32⟩
  | .hbm, ⟨16, _⟩ => ⟨S2x2048x1024, .f32⟩
  | .hbm, ⟨17, _⟩ => ⟨S2x2048x1024, .f32⟩
  | .hbm, ⟨18, _⟩ => ⟨S4096x1024, .f32⟩
  | .hbm, ⟨19, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GateKernel.lean ====
abbrev S2x2048x1024 : Shape := ⟨3, ![2, 2048, 1024]⟩
abbrev S1024x5632 : Shape := ⟨2, ![1024, 5632]⟩
abbrev S2816x1024 : Shape := ⟨2, ![2816, 1024]⟩
abbrev S1024 : Shape := ⟨1, ![1024]⟩
abbrev S4096x1024 : Shape := ⟨2, ![4096, 1024]⟩
abbrev S5632x1024 : Shape := ⟨2, ![5632, 1024]⟩
abbrev S1x1024 : Shape := ⟨2, ![1, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 17
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S5632x1024, .f32⟩
  | .hbm, ⟨9, _⟩ => ⟨S5632x1024, .bf16⟩
  | .hbm, ⟨10, _⟩ => ⟨S2816x1024, .bf16⟩
  | .hbm, ⟨11, _⟩ => ⟨S1x1024, .f32⟩
  | .hbm, ⟨12, _⟩ => ⟨S4096x2816, .bf16⟩
  | .hbm, ⟨13, _⟩ => ⟨S4096x2816, .bf16⟩
  | .hbm, ⟨14, _⟩ => ⟨S4096x2816, .bf16⟩
  | .hbm, ⟨15, _⟩ => ⟨S4096x1024, .f32⟩
  | .hbm, ⟨16, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S1x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GateReferenceIdeal.lean ====
abbrev S2x2048x1024 : Shape := ⟨3, ![2, 2048, 1024]⟩
abbrev S1024x5632 : Shape := ⟨2, ![1024, 5632]⟩
abbrev S2816x1024 : Shape := ⟨2, ![2816, 1024]⟩
abbrev S1024 : Shape := ⟨1, ![1024]⟩
abbrev S2x2048x5632 : Shape := ⟨3, ![2, 2048, 5632]⟩
abbrev S2x2048x2816 : Shape := ⟨3, ![2, 2048, 2816]⟩
abbrev S_ : Shape := ⟨0, ![]⟩
abbrev S4096x2816 : Shape := ⟨2, ![4096, 2816]⟩
abbrev S4096x1024 : Shape := ⟨2, ![4096, 1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2x2048x5632, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .hbm, ⟨9, _⟩ => ⟨S2x2048x2816, .f32⟩
  | .hbm, ⟨10, _⟩ => ⟨S_, .f32⟩
  | .hbm, ⟨11, _⟩ => ⟨S2x2048x2816, .f32⟩
  | .hbm, ⟨12, _⟩ => ⟨S2x2048x2816, .f32⟩
  | .hbm, ⟨13, _⟩ => ⟨S_, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S4096x2816, .f32⟩
  | .hbm, ⟨24, _⟩ => ⟨S4096x2816, .bf16⟩
  | .hbm, ⟨25, _⟩ => ⟨S4096x2816, .f32⟩
  | .hbm, ⟨26, _⟩ => ⟨S4096x2816, .bf16⟩
  | .hbm, ⟨27, _⟩ => ⟨S4096x2816, .f32⟩
  | .hbm, ⟨28, _⟩ => ⟨S4096x2816, .bf16⟩
  | .hbm, ⟨29, _⟩ => ⟨S4096x1024, .f32⟩
  | .hbm, ⟨30, _⟩ => ⟨S2x2048x1024, .f32⟩
  | .hbm, ⟨31, _⟩ => ⟨S_, .f32⟩
  | .hbm, ⟨32, _⟩ => ⟨S2x2048, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | .hbm, ⟨46, _⟩ => ⟨S4096x1024, .f32⟩
  | .hbm, ⟨47, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== JoinKernel.lean ====
abbrev S2x2048x1024 : Shape := ⟨3, ![2, 2048, 1024]⟩
abbrev S1024x3264 : Shape := ⟨2, ![1024, 3264]⟩
abbrev S2048 : Shape := ⟨1, ![2048]⟩
abbrev S2x2048x512 : Shape := ⟨3, ![2, 2048, 512]⟩
abbrev S512x1024 : Shape := ⟨2, ![512, 1024]⟩
abbrev S1024x1024 : Shape := ⟨2, ![1024, 1024]⟩
abbrev S1024 : Shape := ⟨1, ![1024]⟩
abbrev S4096x1024 : Shape := ⟨2, ![4096, 1024]⟩
abbrev S4096x512 : Shape := ⟨2, ![4096, 512]⟩
abbrev S3264x1024 : Shape := ⟨2, ![3264, 1024]⟩
abbrev S1x2048 : Shape := ⟨2, ![1, 2048]⟩
abbrev S1x1024 : Shape := ⟨2, ![1, 1024]⟩
abbrev S4096x2048 : Shape := ⟨2, ![4096, 2048]⟩
abbrev S256x1024 : Shape := ⟨2, ![256, 1024]⟩
abbrev S256x512 : Shape := ⟨2, ![256, 512]⟩
abbrev S256x2048 : Shape := ⟨2, ![256, 2048]⟩
abbrev S2048x1024 : Shape := ⟨2, ![2048, 1024]⟩
abbrev S256 : Shape := ⟨1, ![256]⟩
abbrev S256x1 : Shape := ⟨2, ![256, 1]⟩

abbrev nBuf : Space → Nat
  | .hbm => 30
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024x3264, .f32⟩
  | .hbm, ⟨2, _⟩ => ⟨S2048, .f32⟩
  | .hbm, ⟨3, _⟩ => ⟨S2x2048x512, .f32⟩
  | .hbm, ⟨4, _⟩ => ⟨S2x2048x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S2x2048x1024, .f32⟩
  | .hbm, ⟨9, _⟩ => ⟨S1024, .f32⟩
  | .hbm, ⟨10, _⟩ => ⟨S4096x1024, .f32⟩
  | .hbm, ⟨11, _⟩ => ⟨S4096x1024, .bf16⟩
  | .hbm, ⟨12, _⟩ => ⟨S4096x512, .f32⟩
  | .hbm, ⟨13, _⟩ => ⟨S4096x512, .bf16⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S3264x1024, .f32⟩
  | .hbm, ⟨18, _⟩ => ⟨S3264x1024, .bf16⟩
  | .hbm, ⟨19, _⟩ => ⟨S512x1024, .bf16⟩
  | .hbm, ⟨20, _⟩ => ⟨S1024x1024, .bf16⟩
  | .hbm, ⟨21, _⟩ => ⟨S1024x1024, .bf16⟩
  | .hbm, ⟨22, _⟩ => ⟨S1x2048, .f32⟩
  | .hbm, ⟨23, _⟩ => ⟨S1x1024, .f32⟩
  | .hbm, ⟨24, _⟩ => ⟨S4096x2048, .bf16⟩
  | .hbm, ⟨25, _⟩ => ⟨S4096x1024, .bf16⟩
  | .hbm, ⟨26, _⟩ => ⟨S4096x1024, .bf16⟩
  | .hbm, ⟨27, _⟩ => ⟨S4096x1024, .bf16⟩
  | .hbm, ⟨28, _⟩ => ⟨S4096x1024, .f32⟩
  | .hbm, ⟨29, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S3264x1024, .bf16⟩
  | .local _ .vmem, ⟨9, _⟩ => ⟨S1x2048, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S256x2048, .bf16⟩
  | .local _ .vmem, ⟨15, _⟩ => ⟨S256x2048, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3264x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== JoinReferenceIdeal.lean ====
abbrev S2x2048x1024 : Shape := ⟨3, ![2, 2048, 1024]⟩
abbrev S1024x3264 : Shape := ⟨2, ![1024, 3264]⟩
abbrev S2048 : Shape := ⟨1, ![2048]⟩
abbrev S2x2048x512 : Shape := ⟨3, ![2, 2048, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S2x2048x2048 : Shape := ⟨3, ![2, 2048, 2048]⟩
abbrev S1x1x2048 : Shape := ⟨3, ![1, 1, 2048]⟩
abbrev S_ : Shape := ⟨0, ![]⟩
abbrev S2x2048x2x1024 : Shape := ⟨4, ![2, 2048, 2, 1024]⟩
abbrev S2x2048x1x1024 : Shape := ⟨4, ![2, 2048, 1, 1024]⟩
abbrev S4096x2048 : Shape := ⟨2, ![4096, 2048]⟩
abbrev S4096x1024 : Shape := ⟨2, ![4096, 1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3264, .f32⟩
  | .hbm, ⟨2, _⟩ => ⟨S2048, .f32⟩
  | .hbm, ⟨3, _⟩ => ⟨S2x2048x512, .f32⟩
  | .hbm, ⟨4, _⟩ => ⟨S2x2048x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S2x2048x1024, .f32⟩
  | .hbm, ⟨9, _⟩ => ⟨S1024, .f32⟩
  | .hbm, ⟨10, _⟩ => ⟨S1024x2048, .f32⟩
  | .hbm, ⟨11, _⟩ => ⟨S2x2048x2048, .f32⟩
  | .hbm, ⟨12, _⟩ => ⟨S1x1x2048, .f32⟩
  | .hbm, ⟨13, _⟩ => ⟨S2x2048x2048, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | .hbm, ⟨17, _⟩ => ⟨S_, .f32⟩
  | .hbm, ⟨18, _⟩ => ⟨S2x2048x2048, .f32⟩
  | .hbm, ⟨19, _⟩ => ⟨S2x2048x2048, .f32⟩
  | .hbm, ⟨20, _⟩ => ⟨S_, .f32⟩
  | .hbm, ⟨21, _⟩ => ⟨S2x2048x2048, .f32⟩
  | .hbm, ⟨22, _⟩ => ⟨S2x2048x2048, .f32⟩
  | .hbm, ⟨23, _⟩ => ⟨S2x2048x2x1024, .f32⟩
  | .hbm, ⟨24, _⟩ => ⟨S2x2048x1024, .f32⟩
  | .hbm, ⟨25, _⟩ => ⟨S2x2048x1024, .f32⟩
  | .hbm, ⟨26, _⟩ => ⟨S2x2048x1x1024, .f32⟩
  | .hbm, ⟨27, _⟩ => ⟨S2x2048x1024, .f32⟩
  | .hbm, ⟨28, _⟩ => ⟨S2x2048x1024, .f32⟩
  | .hbm, ⟨29, _⟩ => ⟨S2x2048x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S4096x2048, .f32⟩
  | .hbm, ⟨36, _⟩ => ⟨S4096x2048, .bf16⟩
  | .hbm, ⟨37, _⟩ => ⟨S4096x1024, .f32⟩
  | .hbm, ⟨38, _⟩ => ⟨S4096x1024, .bf16⟩
  | .hbm, ⟨39, _⟩ => ⟨S4096x1024, .f32⟩
  | .hbm, ⟨40, _⟩ => ⟨S4096x1024, .bf16⟩
  | .hbm, ⟨41, _⟩ => ⟨S4096x1024, .f32⟩
  | .hbm, ⟨42, _⟩ => ⟨S4096x1024, .bf16⟩
  | .hbm, ⟨43, _⟩ => ⟨S4096x1024, .f32⟩
  | .hbm, ⟨44, _⟩ => ⟨S2x2048x1024, .f32⟩
  | .hbm, ⟨45, _⟩ => ⟨S_, .f32⟩
  | .hbm, ⟨46, _⟩ => ⟨S2x2048, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S_, .f32⟩
  | .hbm, ⟨52, _⟩ => ⟨S2x2048x1, .f32⟩
  | .hbm, ⟨53, _⟩ => ⟨S2x2048x1, .f32⟩
  | .hbm, ⟨54, _⟩ => ⟨S2x2048x1, .f32⟩
  | .hbm, ⟨55, _⟩ => ⟨S2x2048x1024, .f32⟩
  | .hbm, ⟨56, _⟩ => ⟨S2x2048x1024, .f32⟩
  | .hbm, ⟨57, _⟩ => ⟨S1x1x1024, .f32⟩
  | .hbm, ⟨58, _⟩ => ⟨S2x2048x1024, .f32⟩
  | .hbm, ⟨59, _⟩ => ⟨S2x2048x1024, .f32⟩
  | .hbm, ⟨60, _⟩ => ⟨S4096x1024, .f32⟩
  | .hbm, ⟨61, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== LatentKernel.lean ====
abbrev S2x2048x1024 : Shape := ⟨3, ![2, 2048, 1024]⟩
abbrev S2x2048 : Shape := ⟨2, ![2, 2048]⟩
abbrev S1024x3264 : Shape := ⟨2, ![1024, 3264]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S384x8x192 : Shape := ⟨3, ![384, 8, 192]⟩
abbrev S384x8x256 : Shape := ⟨3, ![384, 8, 256]⟩
abbrev S384x2048 : Shape := ⟨2, ![384, 2048]⟩
abbrev S2048x384 : Shape := ⟨2, ![2048, 384]⟩
abbrev S4096x1024 : Shape := ⟨2, ![4096, 1024]⟩
abbrev S3264x1024 : Shape := ⟨2, ![3264, 1024]⟩
abbrev S1x384 : Shape := ⟨2, ![1, 384]⟩
abbrev S1x256 : Shape := ⟨2, ![1, 256]⟩
abbrev S4096x512 : Shape := ⟨2, ![4096, 512]⟩
abbrev S4096x384 : Shape := ⟨2, ![4096, 384]⟩
abbrev S4096x256 : Shape := ⟨2, ![4096, 256]⟩
abbrev S4096x2048 : Shape := ⟨2, ![4096, 2048]⟩
abbrev S512x1024 : Shape := ⟨2, ![512, 1024]⟩
abbrev S1280x1024 : Shape := ⟨2, ![1280, 1024]⟩
abbrev S512x128 : Shape := ⟨2, ![512, 128]⟩
abbrev S512x512 : Shape := ⟨2, ![512, 512]⟩
abbrev S512x384 : Shape := ⟨2, ![512, 384]⟩
abbrev S512x256 : Shape := ⟨2, ![512, 256]⟩
abbrev S512x2048 : Shape := ⟨2, ![512, 2048]⟩
abbrev S512x1280 : Shape := ⟨2, ![512, 1280]⟩
abbrev S512 : Shape := ⟨1, ![512]⟩
abbrev S512x1 : Shape := ⟨2, ![512, 1]⟩

abbrev nBuf : Space → Nat
  | .hbm => 60
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S1024x3264, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S4096, .i32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S_, .f32⟩
  | .hbm, ⟨31, _⟩ => ⟨S4096x32, .f32⟩
  | .hbm, ⟨32, _⟩ => ⟨S_, .f32⟩
  | .hbm, ⟨33, _⟩ => ⟨S4096x64, .f32⟩
  | .hbm, ⟨34, _⟩ => ⟨S4096x128, .f32⟩
  | .hbm, ⟨35, _⟩ => ⟨S4096x128, .f32⟩
  | .hbm, ⟨36, _⟩ => ⟨S4096x32, .f32⟩
  | .hbm, ⟨37, _⟩ => ⟨S4096x128, .f32⟩
  | .hbm, ⟨38, _⟩ => ⟨S384x8x192, .f32⟩
  | .hbm, ⟨39, _⟩ => ⟨S_, .i32⟩
  | .hbm, ⟨40, _⟩ => ⟨S_, .f32⟩
  | .hbm, ⟨41, _⟩ => ⟨S384x8x256, .f32⟩
  | .hbm, ⟨42, _⟩ => ⟨S384x2048, .f32⟩
  | .hbm, ⟨43, _⟩ => ⟨S2048x384, .f32⟩
  | .hbm, ⟨44, _⟩ => ⟨S2048x384, .bf16⟩
  | .hbm, ⟨45, _⟩ => ⟨S4096x1024, .f32⟩
  | .hbm, ⟨46, _⟩ => ⟨S4096x1024, .bf16⟩
  | .hbm, ⟨47, _⟩ => ⟨S3264x1024, .f32⟩
  | .hbm, ⟨48, _⟩ => ⟨S3264x1024, .bf16⟩
  | .hbm, ⟨49, _⟩ => ⟨S256x2048, .bf16⟩
  | .hbm, ⟨50, _⟩ => ⟨S1x384, .f32⟩
  | .hbm, ⟨51, _⟩ => ⟨S1x256, .f32⟩
  | .hbm, ⟨52, _⟩ => ⟨S4096x512, .f32⟩
  | .hbm, ⟨53, _⟩ => ⟨S4096x384, .f32⟩
  | .hbm, ⟨54, _⟩ => ⟨S4096x256, .f32⟩
  | .hbm, ⟨55, _⟩ => ⟨S4096x384, .bf16⟩
  | .hbm, ⟨56, _⟩ => ⟨S4096x256, .bf16⟩
  | .hbm, ⟨57, _⟩ => ⟨S4096x2048, .bf16⟩
  | .hbm, ⟨58, _⟩ => ⟨S4096x2048, .bf16⟩
  | .hbm, ⟨59, _⟩ => ⟨S4096x128, .bf16⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S2048x384, .bf16⟩
  | .local _ .vmem, ⟨4, _⟩ => ⟨S256x2048, .bf16⟩
  | .local _ .vmem, ⟨5, _⟩ => ⟨S1x384, .f32⟩
  | .local _ .vmem, ⟨6, _⟩ => ⟨S1x256, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S512x384, .f32⟩
  | .local _ .vmem, ⟨16, _⟩ => ⟨S512x384, .f32⟩
  | .local _ .vmem, ⟨17, _⟩ => ⟨S512x256, .f32⟩
  | .local _ .vmem, ⟨18, _⟩ => ⟨S512x256, .f32⟩
  | .local _ .vmem, ⟨19, _⟩ => ⟨S512x384, .bf16⟩
  | .local _ .vmem, ⟨20, _⟩ => ⟨S512x384, .bf16⟩
  | .local _ .vmem, ⟨21, _⟩ => ⟨S512x256, .bf16⟩
  | .local _ .vmem, ⟨22, _⟩ => ⟨S512x256, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S512x128, .bf16⟩
  | .local _ .vmem, ⟨28, _⟩ => ⟨S512x128, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37_0 : Ref sig .tc := ⟨.hbm, 52, rfl⟩
abbrev main_v37_1 : Ref sig .tc := ⟨.hbm, 53, rfl⟩
abbrev main_v37_2 : Ref sig .tc := ⟨.hbm, 54, rfl⟩
abbrev main_v37_3 : Ref sig .tc := ⟨.hbm, 55, rfl⟩
abbrev main_v37_4 : Ref sig .tc := ⟨.hbm, 56, rfl⟩
abbrev main_v37_5 : Ref sig .tc := ⟨.hbm, 57, rfl⟩
abbrev main_v37_6 : Ref sig .tc := ⟨.hbm, 58, rfl⟩
abbrev main_v37_7 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== LatentReferenceIdeal.lean ====
abbrev S2x2048x1024 : Shape := ⟨3, ![2, 2048, 1024]⟩
abbrev S2x2048 : Shape := ⟨2, ![2, 2048]⟩
abbrev S1024x3264 : Shape := ⟨2, ![1024, 3264]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x3264 : Shape := ⟨3, ![2, 2048, 3264]⟩
abbrev S2x2048x384 : Shape := ⟨3, ![2, 2048, 384]⟩
abbrev S2x2048x256 : Shape := ⟨3, ![2, 2048, 256]⟩
abbrev S2x2048x64 : Shape := ⟨3, ![2, 2048, 64]⟩
abbrev S1x1x384 : Shape := ⟨3, ![1, 1, 384]⟩
abbrev S1x1x256 : Shape := ⟨3, ![1, 1, 256]⟩
abbrev S2x2048x1536 : Shape := ⟨3, ![2, 2048, 1536]⟩
abbrev S2x2048x8x192 : Shape := ⟨4, ![2, 2048, 8, 192]⟩
abbrev S2x2048x8x128 : Shape := ⟨4, ![2, 2048, 8, 128]⟩
abbrev S2x2048x8x64 : Shape := ⟨4, ![2, 2048, 8, 64]⟩
abbrev S2x2048x1x32 : Shape := ⟨4, ![2, 2048, 1, 32]⟩
abbrev S2x2048x8x32 : Shape := ⟨4, ![2, 2048, 8, 32]⟩
abbrev S2x2048x8x256 : Shape := ⟨4, ![2, 2048, 8, 256]⟩
abbrev S2x2048x128 : Shape := ⟨3, ![2, 2048, 128]⟩
abbrev S2x2048x512 : Shape := ⟨3, ![2, 2048, 512]⟩
abbrev S4096x512 : Shape := ⟨2, ![4096, 512]⟩
abbrev S4096x384 : Shape := ⟨2, ![4096, 384]⟩
abbrev S4096x256 : Shape := ⟨2, ![4096, 256]⟩
abbrev S4096x2048 : Shape := ⟨2, ![4096, 2048]⟩
abbrev S2x2048x2048 : Shape := ⟨3, ![2, 2048, 2048]⟩
abbrev S4096x128 : Shape := ⟨2, ![4096, 128]⟩

abbrev nBuf : Space → Nat
  | .hbm => 114
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S1024x3264, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2x2048, .f32⟩
  | .hbm, ⟨22, _⟩ => ⟨S2x2048x1, .f32⟩
  | .hbm, ⟨23, _⟩ => ⟨S1x1x32, .f32⟩
  | .hbm, ⟨24, _⟩ => ⟨S2x2048x32, .f32⟩
  | .hbm, ⟨25, _⟩ => ⟨S2x2048x32, .f32⟩
  | .hbm, ⟨26, _⟩ => ⟨S2x2048x32, .f32⟩
  | .hbm, ⟨27, _⟩ => ⟨S2x2048x32, .f32⟩
  | .hbm, ⟨28, _⟩ => ⟨S2x2048x32, .f32⟩
  | .hbm, ⟨29, _⟩ => ⟨S2x2048x3264, .f32⟩
  | .hbm, ⟨30, _⟩ => ⟨S2x2048x384, .f32⟩
  | .hbm, ⟨31, _⟩ => ⟨S2x2048x256, .f32⟩
  | .hbm, ⟨32, _⟩ => ⟨S2x2048x64, .f32⟩
  | .hbm, ⟨33, _⟩ => ⟨S2x2048x384, .f32⟩
  | .hbm, ⟨34, _⟩ => ⟨S_, .f32⟩
  | .hbm, ⟨35, _⟩ => ⟨S2x2048, .f32⟩
  | .hbm, ⟨36, _⟩ => ⟨S2x2048x1, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S_, .f32⟩
  | .hbm, ⟨41, _⟩ => ⟨S2x2048x1, .f32⟩
  | .hbm, ⟨42, _⟩ => ⟨S2x2048x1, .f32⟩
  | .hbm, ⟨43, _⟩ => ⟨S2x2048x1, .f32⟩
  | .hbm, ⟨44, _⟩ => ⟨S2x2048x384, .f32⟩
  | .hbm, ⟨45, _⟩ => ⟨S2x2048x384, .f32⟩
  | .hbm, ⟨46, _⟩ => ⟨S1x1x384, .f32⟩
  | .hbm, ⟨47, _⟩ => ⟨S2x2048x384, .f32⟩
  | .hbm, ⟨48, _⟩ => ⟨S2x2048x384, .f32⟩
  | .hbm, ⟨49, _⟩ => ⟨S2x2048x256, .f32⟩
  | .hbm, ⟨50, _⟩ => ⟨S_, .f32⟩
  | .hbm, ⟨51, _⟩ => ⟨S2x2048, .f32⟩
  | .hbm, ⟨52, _⟩ => ⟨S2x2048x1, .f32⟩
  | .hbm, ⟨53, _⟩ => ⟨S_, .f32⟩
  | .hbm, ⟨54, _⟩ => ⟨S2x2048x1, .f32⟩
  | .hbm, ⟨55, _⟩ => ⟨S2x2048x1, .f32⟩
  | .hbm, ⟨56, _⟩ => ⟨S_, .f32⟩
  | .hbm, ⟨57, _⟩ => ⟨S2x2048x1, .f32⟩
  | .hbm, ⟨58, _⟩ => ⟨S2x2048x1, .f32⟩
  | .hbm, ⟨59, _⟩ => ⟨S2x2048x1, .f32⟩
  | .hbm, ⟨60, _⟩ => ⟨S2x2048x256, .f32⟩
  | .hbm, ⟨61, _⟩ => ⟨S2x2048x256, .f32⟩
  | .hbm, ⟨62, _⟩ => ⟨S1x1x256, .f32⟩
  | .hbm, ⟨63, _⟩ => ⟨S2x2048x256, .f32⟩
  | .hbm, ⟨64, _⟩ => ⟨S2x2048x256, .f32⟩
  | .hbm, ⟨65, _⟩ => ⟨S2x2048x1536, .f32⟩
  | .hbm, ⟨66, _⟩ => ⟨S2x2048x8x192, .f32⟩
  | .hbm, ⟨67, _⟩ => ⟨S2x2048x8x128, .f32⟩
  | .hbm, ⟨68, _⟩ => ⟨S2x2048x8x64, .f32⟩
  | .hbm, ⟨69, _⟩ => ⟨S2x2048x1x32, .f32⟩
  | .hbm, ⟨70, _⟩ => ⟨S2x2048x1x32, .f32⟩
  | .hbm, ⟨71, _⟩ => ⟨S2x2048x8x32, .f32⟩
  | .hbm, ⟨72, _⟩ => ⟨S2x2048x8x32, .f32⟩
  | .hbm, ⟨73, _⟩ => ⟨S2x2048x8x32, .f32⟩
  | .hbm, ⟨74, _⟩ => ⟨S2x2048x8x32, .f32⟩
  | .hbm, ⟨75, _⟩ => ⟨S2x2048x8x32, .f32⟩
  | .hbm, ⟨76, _⟩ => ⟨S2x2048x8x32, .f32⟩
  | .hbm, ⟨77, _⟩ => ⟨S2x2048x8x32, .f32⟩
  | .hbm, ⟨78, _⟩ => ⟨S2x2048x8x32, .f32⟩
  | .hbm, ⟨79, _⟩ => ⟨S2x2048x8x32, .f32⟩
  | .hbm, ⟨80, _⟩ => ⟨S2x2048x8x32, .f32⟩
  | .hbm, ⟨81, _⟩ => ⟨S2x2048x8x32, .f32⟩
  | .hbm, ⟨82, _⟩ => ⟨S2x2048x8x32, .f32⟩
  | .hbm, ⟨83, _⟩ => ⟨S2x2048x8x64, .f32⟩
  | .hbm, ⟨84, _⟩ => ⟨S_, .f32⟩
  | .hbm, ⟨85, _⟩ => ⟨S2x2048x8x64, .f32⟩
  | .hbm, ⟨86, _⟩ => ⟨S2x2048x8x256, .f32⟩
  | .hbm, ⟨87, _⟩ => ⟨S2x2048x32, .f32⟩
  | .hbm, ⟨88, _⟩ => ⟨S2x2048x32, .f32⟩
  | .hbm, ⟨89, _⟩ => ⟨S2x2048x32, .f32⟩
  | .hbm, ⟨90, _⟩ => ⟨S2x2048x32, .f32⟩
  | .hbm, ⟨91, _⟩ => ⟨S2x2048x32, .f32⟩
  | .hbm, ⟨92, _⟩ => ⟨S2x2048x32, .f32⟩
  | .hbm, ⟨93, _⟩ => ⟨S2x2048x32, .f32⟩
  | .hbm, ⟨94, _⟩ => ⟨S2x2048x32, .f32⟩
  | .hbm, ⟨95, _⟩ => ⟨S2x2048x64, .f32⟩
  | .hbm, ⟨96, _⟩ => ⟨S_, .f32⟩
  | .hbm, ⟨97, _⟩ => ⟨S2x2048x64, .f32⟩
  | .hbm, ⟨98, _⟩ => ⟨S2x2048x128, .f32⟩
  | .hbm, ⟨99, _⟩ => ⟨S2x2048x512, .f32⟩
  | .hbm, ⟨100, _⟩ => ⟨S4096x512, .f32⟩
  | .hbm, ⟨101, _⟩ => ⟨S4096x384, .f32⟩
  | .hbm, ⟨102, _⟩ => ⟨S4096x256, .f32⟩
  | .hbm, ⟨103, _⟩ => ⟨S4096x384, .f32⟩
  | .hbm, ⟨104, _⟩ => ⟨S4096x384, .bf16⟩
  | .hbm, ⟨105, _⟩ => ⟨S4096x256, .f32⟩
  | .hbm, ⟨106, _⟩ => ⟨S4096x256, .bf16⟩
  | .hbm, ⟨107, _⟩ => ⟨S4096x2048, .f32⟩
  | .hbm, ⟨108, _⟩ => ⟨S4096x2048, .bf16⟩
  | .hbm, ⟨109, _⟩ => ⟨S2x2048x2048, .f32⟩
  | .hbm, ⟨110, _⟩ => ⟨S4096x2048, .f32⟩
  | .hbm, ⟨111, _⟩ => ⟨S4096x2048, .bf16⟩
  | .hbm, ⟨112, _⟩ => ⟨S4096x128, .f32⟩
  | .hbm, ⟨113, _⟩ => ⟨S4096x128, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_10 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩

abbrev nD : Nat := 1
abbrev τ : Topo := Topo.v7x

variable {F : FTy → Type} [FloatOps F]
-- ==== PooledKernel.lean ====
abbrev S2x2048x512 : Shape := ⟨3, ![2, 2048, 512]⟩
abbrev S4x128x128 : Shape := ⟨3, ![4, 128, 128]⟩
abbrev S512 : Shape := ⟨1, ![512]⟩
abbrev S4096x512 : Shape := ⟨2, ![4096, 512]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x512, .f32⟩
  | .hbm, ⟨1, _⟩ => ⟨S4x128x128, .f32⟩
  | .hbm, ⟨2, _⟩ => ⟨S512, .f32⟩
  | .hbm, ⟨3, _⟩ => ⟨S4096x512, .f32⟩
  | .hbm, ⟨4, _⟩ => ⟨S1x512, .f32⟩
  | .hbm, ⟨5, _⟩ => ⟨S4096x512, .bf16⟩
  | .local _ .vmem, ⟨0, _⟩ => ⟨S2048x512, .f32⟩
  | .local _ .vmem, ⟨1, _⟩ => ⟨S2048x512, .f32⟩
  | .local _ .vmem, ⟨2, _⟩ => ⟨S4x128x128, .f32⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PooledReferenceIdeal.lean ====
abbrev S2x2048x512 : Shape := ⟨3, ![2, 2048, 512]⟩
abbrev S4x128x128 : Shape := ⟨3, ![4, 128, 128]⟩
abbrev S512 : Shape := ⟨1, ![512]⟩
abbrev S4 : Shape := ⟨1, ![4]⟩
abbrev S2x2048x4x128 : Shape := ⟨4, ![2, 2048, 4, 128]⟩
abbrev S_ : Shape := ⟨0, ![]⟩
abbrev S2x1x4x128 : Shape := ⟨4, ![2, 1, 4, 128]⟩
abbrev S2x2049x4x128 : Shape := ⟨4, ![2, 2049, 4, 128]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S4x128x2x2048 : Shape := ⟨4, ![4, 128, 2, 2048]⟩
abbrev S1x1x512 : Shape := ⟨3, ![1, 1, 512]⟩
abbrev S4096x512 : Shape := ⟨2, ![4096, 512]⟩

abbrev nBuf : Space → Nat
  | .hbm => 66
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S4x128x128, .f32⟩
  | .hbm, ⟨2, _⟩ => ⟨S512, .f32⟩
  | .hbm, ⟨3, _⟩ => ⟨S4, .i32⟩
  | .hbm, ⟨4, _⟩ => ⟨S2x2048x4x128, .f32⟩
  | .hbm, ⟨5, _⟩ => ⟨S_, .f32⟩
  | .hbm, ⟨6, _⟩ => ⟨S2x1x4x128, .f32⟩
  | .hbm, ⟨7, _⟩ => ⟨S_, .f32⟩
  | .hbm, ⟨8, _⟩ => ⟨S_, .f32⟩
  | .hbm, ⟨9, _⟩ => ⟨S2x2048x4x128, .f32⟩
  | .hbm, ⟨10, _⟩ => ⟨S2x2049x4x128, .f32⟩
  | .hbm, ⟨11, _⟩ => ⟨S2048, .i32⟩
  | .hbm, ⟨12, _⟩ => ⟨S2048x1, .i32⟩
  | .hbm, ⟨13, _⟩ => ⟨S_, .i32⟩
  | .hbm, ⟨14, _⟩ => ⟨S2048x1, .i32⟩
  | .hbm, ⟨15, _⟩ => ⟨S2048x1, .i32⟩
  | .hbm, ⟨16, _⟩ => ⟨S1x4, .i32⟩
  | .hbm, ⟨17, _⟩ => ⟨S2048x4, .i32⟩
  | .hbm, ⟨18, _⟩ => ⟨S2048x4, .i32⟩
  | .hbm, ⟨19, _⟩ => ⟨S2048x4, .i32⟩
  | .hbm, ⟨20, _⟩ => ⟨S_, .i32⟩
  | .hbm, ⟨21, _⟩ => ⟨S2048x4, .i32⟩
  | .hbm, ⟨22, _⟩ => ⟨S2048x4, .i32⟩
  | .hbm, ⟨23, _⟩ => ⟨S4, .i32⟩
  | .hbm, ⟨24, _⟩ => ⟨S1x4, .i32⟩
  | .hbm, ⟨25, _⟩ => ⟨S_, .i32⟩
  | .hbm, ⟨26, _⟩ => ⟨S2048x4, .i32⟩
  | .hbm, ⟨27, _⟩ => ⟨S2048x4, .i1⟩
  | .hbm, ⟨28, _⟩ => ⟨S_, .i32⟩
  | .hbm, ⟨29, _⟩ => ⟨S2048x4, .i32⟩
  | .hbm, ⟨30, _⟩ => ⟨S2048x4, .i32⟩
  | .hbm, ⟨31, _⟩ => ⟨S2048x4, .i32⟩
  | .hbm, ⟨32, _⟩ => ⟨S_, .i32⟩
  | .hbm, ⟨33, _⟩ => ⟨S1x4, .i32⟩
  | .hbm, ⟨34, _⟩ => ⟨S1x4, .i1⟩
  | .hbm, ⟨35, _⟩ => ⟨S_, .i32⟩
  | .hbm, ⟨36, _⟩ => ⟨S1x4, .i32⟩
  | .hbm, ⟨37, _⟩ => ⟨S1x4, .i32⟩
  | .hbm, ⟨38, _⟩ => ⟨S1x4, .i32⟩
  | .hbm, ⟨39, _⟩ => ⟨S2048x4, .i32⟩
  | .hbm, ⟨40, _⟩ => ⟨S2048x4x1, .i32⟩
  | .hbm, ⟨41, _⟩ => ⟨S2048x4x1, .i32⟩
  | .hbm, ⟨42, _⟩ => ⟨S2048x4x2, .i32⟩
  | .hbm, ⟨43, _⟩ => ⟨S2x2048x4x128, .f32⟩
  | .hbm, ⟨44, _⟩ => ⟨S_, .i32⟩
  | .hbm, ⟨45, _⟩ => ⟨S2048x1, .i32⟩
  | .hbm, ⟨46, _⟩ => ⟨S2048x1, .i32⟩
  | .hbm, ⟨47, _⟩ => ⟨S1x4, .i32⟩
  | .hbm, ⟨48, _⟩ => ⟨S2048x4, .i32⟩
  | .hbm, ⟨49, _⟩ => ⟨S2048x4, .i32⟩
  | .hbm, ⟨50, _⟩ => ⟨S2048x4, .i32⟩
  | .hbm, ⟨51, _⟩ => ⟨S2048x4, .f32⟩
  | .hbm, ⟨52, _⟩ => ⟨S2x2048x4x128, .f32⟩
  | .hbm, ⟨53, _⟩ => ⟨S2x2048x4x128, .f32⟩
  | .hbm, ⟨54, _⟩ => ⟨S1x2048x4x1, .f32⟩
  | .hbm, ⟨55, _⟩ => ⟨S2x2048x4x128, .f32⟩
  | .hbm, ⟨56, _⟩ => ⟨S2x2048x4x128, .f32⟩
  | .hbm, ⟨57, _⟩ => ⟨S2x2048x4x128, .f32⟩
  | .hbm, ⟨58, _⟩ => ⟨S4x128x2x2048, .f32⟩
  | .hbm, ⟨59, _⟩ => ⟨S2x2048x4x128, .f32⟩
  | .hbm, ⟨60, _⟩ => ⟨S2x2048x512, .f32⟩
  | .hbm, ⟨61, _⟩ => ⟨S1x1x512, .f32⟩
  | .hbm, ⟨62, _⟩ => ⟨S2x2048x512, .f32⟩
  | .hbm, ⟨63, _⟩ => ⟨S2x2048x512, .f32⟩
  | .hbm, ⟨64, _⟩ => ⟨S4096x512, .f32⟩
  | .hbm, ⟨65, _⟩ => ⟨S4096x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== DownKernel.lean ====
abbrev S2x2048x2816 : Shape := ⟨3, ![2, 2048, 2816]⟩
abbrev S2x2048x1024 : Shape := ⟨3, ![2, 2048, 1024]⟩
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S4096x2816, .f32⟩
  | .hbm, ⟨3, _⟩ => ⟨S4096x2816, .bf16⟩
  | .hbm, ⟨4, _⟩ => ⟨S4096x1024, .f32⟩
  | .hbm, ⟨5, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S2x2048x2816 : Shape := ⟨3, ![2, 2048, 2816]⟩
abbrev S2x2048x1024 : Shape := ⟨3, ![2, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S_, .f32⟩
  | .hbm, ⟨3, _⟩ => ⟨S2816x1024, .f32⟩
  | .hbm, ⟨4, _⟩ => ⟨S2x2048x1024, .f32⟩
  | .hbm, ⟨5, _⟩ => ⟨S_, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048x1024, .f32⟩
  | .hbm, ⟨10, _⟩ => ⟨S2x2048x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== UpKernel.lean ====
abbrev S2x2048x1024 : Shape := ⟨3, ![2, 2048, 1024]⟩
abbrev S2x2048x2816 : Shape := ⟨3, ![2, 2048, 2816]⟩
abbrev S4096x2816 : Shape := ⟨2, ![4096, 2816]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S4096x2816, .f32⟩
  | .hbm, ⟨4, _⟩ => ⟨S4096x2816, .bf16⟩
  | .hbm, ⟨5, _⟩ => ⟨S4096x2816, .f32⟩
  | .hbm, ⟨6, _⟩ => ⟨S4096x2816, .bf16⟩
  | .hbm, ⟨7, _⟩ => ⟨S4096x1024, .f32⟩
  | .hbm, ⟨8, _⟩ => ⟨S4096x1024, .bf16⟩
  | .hbm, ⟨9, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond7 (i : grid0.Coords) : BitVec 1 :=
  let arg1 : BitVec 32 := BitVec.ofNat 32 (i 1).val
  let c3_i32 : BitVec 32 := 3#32
  let v6 : BitVec 1 := Scalar.cmpi .eq arg1 c3_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c3_i32 : BitVec 32 := 3#32
  let v1 : BitVec 32 := Scalar.select v0 arg1 c3_i32
  let c1_i32 : BitVec 32 := 1#32
  let v2 : BitVec 32 := Scalar.minsi arg0 c1_i32
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 c0_i32 arg1
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpReferenceIdeal.lean ====
abbrev S2x2048x1024 : Shape := ⟨3, ![2, 2048, 1024]⟩
abbrev S2x2048x2816 : Shape := ⟨3, ![2, 2048, 2816]⟩
abbrev S_ : Shape := ⟨0, ![]⟩
abbrev S1024x5632 : Shape := ⟨2, ![1024, 5632]⟩
abbrev S2x2048x5632 : Shape := ⟨3, ![2, 2048, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S_, .f32⟩
  | .hbm, ⟨4, _⟩ => ⟨S1024x5632, .f32⟩
  | .hbm, ⟨5, _⟩ => ⟨S2x2048x5632, .f32⟩
  | .hbm, ⟨6, _⟩ => ⟨S2x2048x2816, .f32⟩
  | .hbm, ⟨7, _⟩ => ⟨S2x2048x2816, .f32⟩
  | .hbm, ⟨8, _⟩ => ⟨S2x2048x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ProjKernel.lean ====
abbrev S2x2048x1024 : Shape := ⟨3, ![2, 2048, 1024]⟩
abbrev S2x2048x3264 : Shape := ⟨3, ![2, 2048, 3264]⟩
abbrev S4096x3264 : Shape := ⟨2, ![4096, 3264]⟩
abbrev S4096x1216 : Shape := ⟨2, ![4096, 1216]⟩
abbrev S_ : Shape := ⟨0, ![]⟩
abbrev S4096x1280 : Shape := ⟨2, ![4096, 1280]⟩
abbrev S4096x1024 : Shape := ⟨2, ![4096, 1024]⟩
abbrev S4096x2048 : Shape := ⟨2, ![4096, 2048]⟩
abbrev S1280x1024 : Shape := ⟨2, ![1280, 1024]⟩
abbrev S2048x1024 : Shape := ⟨2, ![2048, 1024]⟩
abbrev S512x1280 : Shape := ⟨2, ![512, 1280]⟩
abbrev S512x1024 : Shape := ⟨2, ![512, 1024]⟩
abbrev S512x2048 : Shape := ⟨2, ![512, 2048]⟩

abbrev nBuf : Space → Nat
  | .hbm => 14
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3264, .f32⟩
  | .hbm, ⟨2, _⟩ => ⟨S4096x3264, .f32⟩
  | .hbm, ⟨3, _⟩ => ⟨S4096x1216, .f32⟩
  | .hbm, ⟨4, _⟩ => ⟨S_, .i32⟩
  | .hbm, ⟨5, _⟩ => ⟨S_, .f32⟩
  | .hbm, ⟨6, _⟩ => ⟨S4096x1280, .f32⟩
  | .hbm, ⟨7, _⟩ => ⟨S4096x1280, .bf16⟩
  | .hbm, ⟨8, _⟩ => ⟨S4096x1024, .f32⟩
  | .hbm, ⟨9, _⟩ => ⟨S4096x1024, .bf16⟩
  | .hbm, ⟨10, _⟩ => ⟨S4096x2048, .f32⟩
  | .hbm, ⟨11, _⟩ => ⟨S4096x2048, .bf16⟩
  | .hbm, ⟨12, _⟩ => ⟨S1280x1024, .bf16⟩
  | .hbm, ⟨13, _⟩ => ⟨S2048x1024, .bf16⟩
  | .local _ .vmem, ⟨0, _⟩ => ⟨S512x1280, .bf16⟩
  | .local _ .vmem, ⟨1, _⟩ => ⟨S512x1280, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S1280x1024, .bf16⟩
  | .local _ .vmem, ⟨9, _⟩ => ⟨S2048x1024, .bf16⟩
  | .local _ .vmem, ⟨10, _⟩ => ⟨S1280x1024, .f32⟩
  | .local _ .vmem, ⟨11, _⟩ => ⟨S2048x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ProjReferenceIdeal.lean ====
abbrev S2x2048x1024 : Shape := ⟨3, ![2, 2048, 1024]⟩
abbrev S2x2048x3264 : Shape := ⟨3, ![2, 2048, 3264]⟩
abbrev S_ : Shape := ⟨0, ![]⟩
abbrev S1024x3264 : Shape := ⟨2, ![1024, 3264]⟩
abbrev S3264x1024 : Shape := ⟨2, ![3264, 1024]⟩
abbrev S1216x1024 : Shape := ⟨2, ![1216, 1024]⟩
abbrev S64x1024 : Shape := ⟨2, ![64, 1024]⟩
abbrev S1280x1024 : Shape := ⟨2, ![1280, 1024]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3264, .f32⟩
  | .hbm, ⟨2, _⟩ => ⟨S_, .f32⟩
  | .hbm, ⟨3, _⟩ => ⟨S1024x3264, .f32⟩
  | .hbm, ⟨4, _⟩ => ⟨S2x2048x3264, .f32⟩
  | .hbm, ⟨5, _⟩ => ⟨S3264x1024, .f32⟩
  | .hbm, ⟨6, _⟩ => ⟨S1024x3264, .f32⟩
  | .hbm, ⟨7, _⟩ => ⟨S3264x1024, .f32⟩
  | .hbm, ⟨8, _⟩ => ⟨S1216x1024, .f32⟩
  | .hbm, ⟨9, _⟩ => ⟨S_, .f32⟩
  | .hbm, ⟨10, _⟩ => ⟨S64x1024, .f32⟩
  | .hbm, ⟨11, _⟩ => ⟨S1280x1024, .f32⟩
  | .hbm, ⟨12, _⟩ => ⟨S1280x1024, .bf16⟩
  | .hbm, ⟨13, _⟩ => ⟨S2048x1024, .f32⟩
  | .hbm, ⟨14, _⟩ => ⟨S2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AdamKernel.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== PartsKernel.lean ====
abbrev S8x2256x128 : Shape := ⟨3, ![8, 2256, 128]⟩
abbrev S2256x128 : Shape := ⟨2, ![2256, 128]⟩
abbrev S8x376x128 : Shape := ⟨3, ![8, 376, 128]⟩
abbrev S376x128 : Shape := ⟨2, ![376, 128]⟩
abbrev S1x376x128 : Shape := ⟨3, ![1, 376, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2256x128, .f32⟩
  | .hbm, ⟨1, _⟩ => ⟨S2256x128, .f32⟩
  | .local _ .vmem, ⟨0, _⟩ => ⟨S8x376x128, .f32⟩
  | .local _ .vmem, ⟨1, _⟩ => ⟨S8x376x128, .f32⟩
  | .local _ .vmem, ⟨2, _⟩ => ⟨S376x128, .f32⟩
  | .local _ .vmem, ⟨3, _⟩ => ⟨S376x128, .f32⟩
  | _, _ => ⟨S8x2256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x376x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S376x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PartsReferenceIdeal.lean ====
abbrev S8x2256x128 : Shape := ⟨3, ![8, 2256, 128]⟩
abbrev S_ : Shape := ⟨0, ![]⟩
abbrev S2256x128 : Shape := ⟨2, ![2256, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2256x128, .f32⟩
  | .hbm, ⟨1, _⟩ => ⟨S_, .f32⟩
  | .hbm, ⟨2, _⟩ => ⟨S2256x128, .f32⟩
  | _, _ => ⟨S8x2256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Finite.lean ====
/- Entries that are numbers: what the precondition says of them, and sums of them. -/
module

public import Idealize.ShloMosaic.Lib.Pointwise
public import Idealize.ShloMosaic.Lib.Claim

@[expose] public section

noncomputable section

namespace Cert.Finite

open Idealize.ShloMosaic
open scoped BigOperators

/-- Every entry is a number. -/
def AllReal {s : Shape} (x : s.Idx → EReal) : Prop := ∀ i, ∃ r : ℝ, x i = (r : EReal)

theorem foldl_and {α : Type} (l : List α) (f : α → BitVec 1) (a : BitVec 1) (h : l.foldl (fun r i => IntOp.andi r (f i)) a = 1#1) :
    a = 1#1 ∧ ∀ i ∈ l, f i = 1#1 := by
  induction l generalizing a with
  | nil => exact ⟨h, by simp⟩
  | cons y l ih =>
    obtain ⟨h1, h2⟩ := ih _ h
    have key : a = 1#1 ∧ f y = 1#1 := by
      exact (by decide : ∀ p q : BitVec 1, IntOp.andi p q = 1#1 → p = 1#1 ∧ q = 1#1) a (f y) h1
    refine ⟨key.1, fun i hi => ?_⟩
    rcases List.mem_cons.1 hi with rfl | hi
    · exact key.2
    · exact h2 i hi

theorem real_of_abs_lt (x : EReal) (h : max x (-x) < ⊤) : ∃ r : ℝ, x = (r : EReal) := by
  induction x with
  | bot => simp at h
  | top => simp at h
  | coe r => exact ⟨r, rfl⟩

/-- A conjunction over a whole array, of the tests that an entry lies below infinity. -/
theorem allReal_of_reduce {s u : Shape} {axes : List (Fin s.rank)} (x : FVec Ideal s .f32) (y : FVec Ideal s .f32) (hy : ∀ i, y i = ⊤)
    (init : IVec u 1) (h : s.ReducesTo axes ⟨0, ![]⟩) (hu : 0 < u.numel)
    (H : Host.reduce IntOp.andi (cmpf .olt (Host.absf x) y) init h hu ix0 = 1#1) : AllReal x := by
  intro i
  rw [Host.reduce_eq_foldl] at H
  have h1 := (foldl_and _ _ _ H).2 i (List.mem_filter.2 ⟨List.mem_map.2 ⟨s.rowMajor i, List.mem_finRange _, Equiv.symm_apply_apply ..⟩,
    decide_eq_true (Subsingleton.elim _ _)⟩)
  apply real_of_abs_lt
  rw [← hy i]
  by_contra hc
  have : (cmpf .olt (Host.absf x) y) i = BitVec.ofBool (decide (max (x i) (-(x i)) < y i)) := rfl
  rw [this, decide_eq_false hc] at h1
  exact absurd h1 (by decide)

/-- Infinity spread over an array. -/
theorem infinity_apply {s : Shape} (h : (⟨0, ![]⟩ : Shape).BroadcastsInDim s ![]) (i : s.Idx) :
    broadcastInDim s ![] h (constant (F := Ideal) ⟨0, ![]⟩ FTy.f32 0x7F800000#32) i = (⊤ : EReal) := by
  show Ideal.ofBits .f32 0x7F800000#32 = _
  simp [Ideal.ofBits, Ideal.ieee]

theorem andi_ones {p q : BitVec 1} (h : IntOp.andi p q = 1#1) : p = 1#1 ∧ q = 1#1 := by revert p q; decide

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (r : ℝ) : (if p then (r : EReal) else 0) = ((if p then r else 0 : ℝ) : EReal) := by
  split_ifs <;> simp

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩
theorem real_sum {ι : Type} (s : Finset ι) {f : ι → EReal} (h : ∀ i, ∃ r : ℝ, f i = (r : EReal)) : ∃ r : ℝ, ∑ i ∈ s, f i = (r : EReal) := by
  obtain ⟨g, hg⟩ := Classical.axiomOfChoice h
  exact ⟨∑ i ∈ s, g i, ((coe_sum s g).trans (Finset.sum_congr rfl fun i _ => (hg i).symm)).symm⟩

end Cert.Finite

end
-- ==== Proof.Norm.lean ====
/- The scaling of a row to mean square one, and its gradient, over rows of extended reals. -/
module

public import proofs.«01_k».proof.Proof.Finite
public import Idealize.ShloMosaic.PureOps.Ideal

@[expose] public section

noncomputable section

namespace Cert.Norm

open Idealize Idealize.ShloMosaic Cert.Finite
open scoped BigOperators

/-- The small number added to the mean square: the real that its float word is. -/
def small : ℝ := 8796093 / 2 ^ 43
theorem small_pos : 0 < small := by unfold small; positivity
theorem small_word : Ideal.ofBits .f32 0x358637BD#32 = (small : EReal) := by
  simp [Ideal.ofBits, Ideal.ieee, ← EReal.coe_mul, small]
  norm_num
theorem width_word : Ideal.ofBits .f32 0x44800000#32 = ((1024 : ℝ) : EReal) := by
  simp [Ideal.ofBits, Ideal.ieee, ← EReal.coe_mul]
  norm_num
theorem half_word : Ideal.ofBits .f32 0x3F000000#32 = ((1 / 2 : ℝ) : EReal) := by
  simp [Ideal.ofBits, Ideal.ieee, ← EReal.coe_mul]
  norm_num
theorem minus_half_word : Ideal.ofBits .f32 0xBF000000#32 = ((-(1 / 2) : ℝ) : EReal) := by
  simp [Ideal.ofBits, Ideal.ieee, ← EReal.coe_mul]
  norm_num
theorem two_word : Ideal.ofBits .f32 0x40000000#32 = ((2 : ℝ) : EReal) := by
  simp [Ideal.ofBits, Ideal.ieee, ← EReal.coe_mul]
  norm_num

/-- One over the length of a row. -/
def invLen (n : ℕ) : EReal := ((1 / (n : ℝ) : ℝ) : EReal)

/-- Dividing by a length's word is multiplying by its inverse. -/
theorem div_word {n : ℕ} {w : BitVec 32} (hn : 0 < n) (h : Ideal.ofBits .f32 w = ((n : ℝ) : EReal)) (x : EReal) : Ideal.div x (Ideal.ofBits .f32 w) = x * invLen n := by
  rw [h, Ideal.div_coe (Nat.cast_ne_zero.mpr hn.ne'), invLen]

theorem div_width (x : EReal) : Ideal.div x (Ideal.ofBits .f32 0x44800000#32) = x * invLen 1024 :=
  div_word (by norm_num) (width_word.trans (by norm_num)) x

/-- A real that is not negative goes into a sum. -/
theorem mul_sum_real {ι : Type} (s : Finset ι) {r : ℝ} (h : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr h) (EReal.coe_ne_top r), ih]

theorem mul_twice (s : EReal) (a : ℝ) : s * (a : EReal) + s * (a : EReal) = s * ((2 * a : ℝ) : EReal) := by
  induction s with
  | coe s => rw [← EReal.coe_mul, ← EReal.coe_mul, ← EReal.coe_add]; congr 1; ring
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl

theorem mul_self_nonneg_ext (x : EReal) : 0 ≤ x * x := by
  induction x with
  | coe x => rw [← EReal.coe_mul]; exact EReal.coe_nonneg.mpr (mul_self_nonneg x)
  | top => simp
  | bot => simp

section
variable {n : ℕ} (x : Fin n → EReal)

/-- The mean square, the small number added. -/
def meanSq : EReal := (∑ d, x d * x d) * invLen n + Ideal.ofBits .f32 0x358637BD#32
/-- The factor that scales the row. -/
def factor : EReal := Ideal.rsqrt (meanSq x)
/-- The row scaled. -/
def scaled (d : Fin n) : EReal := x d * factor x
/-- The gradient of the row, `t` that of the row scaled. -/
def pull (t : Fin n → EReal) (d : Fin n) : EReal :=
  factor x * (t d - scaled x d * ((∑ e, t e * scaled x e) * invLen n))

variable {x}

/-- A row of reals has a real positive factor, whose square is the inverse of the mean square. -/
theorem factor_real {r : Fin n → ℝ} (h : ∀ d, x d = (r d : EReal)) :
    ∃ m f : ℝ, 0 < m ∧ 0 < f ∧ meanSq x = (m : EReal) ∧ factor x = (f : EReal) ∧ f * f = 1 / m := by
  have hm : 0 < (∑ d, r d * r d) * (1 / (n : ℝ)) + small :=
    add_pos_of_nonneg_of_pos (mul_nonneg (Finset.sum_nonneg fun _ _ => mul_self_nonneg _) (by positivity)) small_pos
  have e : meanSq x = (((∑ d, r d * r d) * (1 / (n : ℝ)) + small : ℝ) : EReal) := by
    have hs : ∑ d, x d * x d = ((∑ d, r d * r d : ℝ) : EReal) := by
      rw [coe_sum]
      exact Finset.sum_congr rfl fun d _ => by rw [h, EReal.coe_mul]
    unfold meanSq
    rw [hs, small_word, EReal.coe_add, EReal.coe_mul, invLen]
  refine ⟨_, (Real.sqrt ((∑ d, r d * r d) * (1 / (n : ℝ)) + small))⁻¹, hm, inv_pos.mpr (Real.sqrt_pos.mpr hm), e, ?_, ?_⟩
  · unfold factor
    rw [e, Ideal.rsqrt_coe, if_neg (not_lt.mpr hm.le), if_neg hm.ne']
  · rw [← mul_inv, Real.mul_self_sqrt hm.le]
    exact (one_div _).symm

/-- A row that is not of reals is scaled by zero. -/
theorem factor_zero (h : ¬∃ r : Fin n → ℝ, ∀ d, x d = (r d : EReal)) : meanSq x = ⊤ ∧ factor x = 0 := by
  have hd : ∃ d, x d * x d = ⊤ := by
    by_contra hc
    refine h ⟨fun d => (x d).toReal, fun d => (EReal.coe_toReal (fun e => hc ⟨d, by rw [e]; rfl⟩) fun e => hc ⟨d, by rw [e]; rfl⟩).symm⟩
  obtain ⟨d, hd⟩ := hd
  have hs : ∑ d, x d * x d = ⊤ := top_le_iff.mp (hd ▸ Finset.single_le_sum (f := fun d => x d * x d) (fun i _ => mul_self_nonneg_ext (x i)) (Finset.mem_univ d))
  have e : meanSq x = ⊤ := by
    unfold meanSq
    rw [hs, small_word, invLen, EReal.top_mul_coe_of_pos (one_div_pos.mpr (Nat.cast_pos.mpr (Nat.lt_of_le_of_lt (Nat.zero_le _) d.isLt))), EReal.top_add_coe]
  exact ⟨e, by unfold factor; rw [e]; rfl⟩

/-- A row scaled is of reals, whatever the row. -/
theorem scaled_real (d : Fin n) : ∃ r : ℝ, scaled x d = (r : EReal) := by
  unfold scaled
  by_cases h : ∃ r : Fin n → ℝ, ∀ d, x d = (r d : EReal)
  · obtain ⟨r, h⟩ := h
    obtain ⟨m, f, -, -, -, ef, -⟩ := factor_real h
    exact real_mul ⟨_, h d⟩ ⟨_, ef⟩
  · exact ⟨0, by rw [(factor_zero h).2, mul_zero, EReal.coe_zero]⟩

/-- The gradient of the row as the chain rule writes it: through the scaling, and through the mean square twice. -/
theorem pull_plain (t : Fin n → EReal) (d : Fin n) {w : EReal}
    (hw : w = (∑ e, x e * t e) * (Ideal.ofBits .f32 0xBF000000#32 * Ideal.div (factor x) (meanSq x)) * invLen n) :
    t d * factor x + x d * w + w * x d = pull x t d := by
  unfold pull scaled
  by_cases h : ∃ r : Fin n → ℝ, ∀ d, x d = (r d : EReal)
  · obtain ⟨r, h⟩ := h
    obtain ⟨m, f, hm, hf, em, ef, e2⟩ := factor_real h
    have es : ∑ e, t e * (x e * factor x) = (f : EReal) * ∑ e, x e * t e := by
      rw [mul_sum_real _ hf.le]
      exact Finset.sum_congr rfl fun e _ => by rw [ef, mul_comm (t e), mul_comm (x e), mul_assoc]
    rw [es]
    generalize ∑ e, x e * t e = S at hw ⊢
    rw [invLen, minus_half_word, em, ef, Ideal.div_coe hm.ne', ← e2, ← EReal.coe_mul, ← EReal.coe_mul, mul_assoc, ← EReal.coe_mul] at hw
    rw [invLen, ef, h, hw, sub_eq_add_neg, EReal.left_distrib_of_nonneg_of_ne_top (EReal.coe_nonneg.mpr hf.le) (EReal.coe_ne_top f), mul_comm (t d), add_assoc]
    congr 1
    rw [mul_comm (r d : EReal) (S * _), mul_assoc, ← EReal.coe_mul, mul_twice, mul_comm (f : EReal) S, ← EReal.coe_mul, mul_assoc S, ← EReal.coe_mul,
      mul_left_comm _ S, ← EReal.coe_mul, ← mul_neg, ← EReal.coe_neg, mul_left_comm _ S, ← EReal.coe_mul]
    congr 2
    ring
  · obtain ⟨em, ef⟩ := factor_zero h
    have e0 : w = 0 := by
      rw [hw, ef, em, show Ideal.div 0 ⊤ = 0 from by simp [Ideal.div], mul_zero, mul_zero, zero_mul]
    rw [e0, ef]
    simp
end

end Cert.Norm

end
-- ==== Proof.Rows.lean ====
/- Sums over rows that are cut into tiles, and sums that grow tile by tile. -/
module

public import Idealize.ShloMosaic.Lib.Pointwise
public import Mathlib.Logic.Equiv.Fin.Basic

@[expose] public section

noncomputable section

namespace Cert.Rows

open Idealize.ShloMosaic
open scoped BigOperators

theorem row_lt {m n N : ℕ} (h : m * n = N) (a : Fin m) (b : Fin n) : a.val * n + b.val < N := by
  have h1 : a.val * n + n ≤ m * n := (Nat.succ_mul a.val n).symm.le.trans (Nat.mul_le_mul_right n a.isLt)
  have := b.isLt
  omega

/-- Row `b` of tile `a`. -/
abbrev rowOf {m n N : ℕ} (h : m * n = N) (a : Fin m) (b : Fin n) : Fin N := ⟨a.val * n + b.val, row_lt h a b⟩

/-- The rows of all the tiles are all the rows. -/
theorem sum_rows {m n N : ℕ} (h : m * n = N) (f : Fin N → EReal) : ∑ a : Fin m, ∑ b : Fin n, f (rowOf h a b) = ∑ r, f r := by
  subst h
  rw [← Fintype.sum_prod_type', ← Equiv.sum_comp finProdFinEquiv]
  refine Finset.sum_congr rfl fun p _ => congrArg f (Fin.ext ?_)
  show p.1.val * n + p.2.val = p.2.val + n * p.1.val
  rw [Nat.mul_comm, Nat.add_comm]

/-- The sum over the rows of tile `t`, for tiles of `w` rows. -/
def tile {N : ℕ} (w : ℕ) (f : Fin N → EReal) (t : ℕ) : EReal := ∑ r : Fin w, if h : t * w + r.val < N then f ⟨t * w + r.val, h⟩ else 0

theorem tile_eq {m n N : ℕ} (h : m * n = N) (f : Fin N → EReal) (a : Fin m) : tile n f a.val = ∑ b : Fin n, f (rowOf h a b) :=
  Finset.sum_congr rfl fun b _ => dif_pos (row_lt h a b)

/-- All the tiles' sums. -/
theorem sum_tiles {m n N : ℕ} (h : m * n = N) (f : Fin N → EReal) : ∑ t ∈ Finset.range m, tile n f t = ∑ r, f r := by
  rw [Finset.sum_range, ← sum_rows h f]
  exact Finset.sum_congr rfl fun a _ => tile_eq h f a

/-- A number that starts at the first tile's and gains each next tile's. -/
theorem grown {M : ℕ} {A : (n : ℕ) → n < M → EReal} {p : ℕ → EReal} (h0 : ∀ h, A 0 h = p 0)
    (hs : ∀ n (h : n + 1 < M), A (n + 1) h = A n (Nat.lt_of_succ_lt h) + p (n + 1)) (n : ℕ) (h : n < M) : A n h = ∑ t ∈ Finset.range (n + 1), p t := by
  induction n with
  | zero => rw [h0, Finset.sum_range_one]
  | succ n ih => rw [hs, ih, ← Finset.sum_range_succ]

/-- A sum over the two leading axes. -/
theorem sumLeading_apply {A B C : ℕ} (h : (⟨3, ![A, B, C]⟩ : Shape).ReducesTo [0, 1] ⟨1, ![C]⟩) (x : (⟨3, ![A, B, C]⟩ : Shape).Idx → EReal) (c : Fin C) :
    Ideal.hostReduceAdd h x 0 (ix1 c) = ∑ a : Fin A, ∑ b : Fin B, x (ix3 a b c) := by
  show (0 : EReal) + ∑ i ∈ Finset.univ.filter (fun i => h.drop i = ix1 c), x i = _
  rw [zero_add, ← Fintype.sum_prod_type']
  symm
  refine Finset.sum_nbij (fun p => ix3 p.1 p.2 c) (fun p _ => ?_) (fun p _ p' _ h => ?_) (fun i hi => ?_) (fun _ _ => rfl)
  · rw [Finset.mem_filter]
    refine ⟨Finset.mem_univ _, ?_⟩
    funext a
    fin_cases a
    rfl
  · exact Prod.ext (congrFun h 0) (congrFun h 1)
  · have h := (Finset.mem_filter.1 (Finset.mem_coe.1 hi)).2
    refine ⟨(i 0, i 1), Finset.mem_coe.2 (Finset.mem_univ _), ?_⟩
    have hc : i 2 = c := congrFun h 0
    funext a
    fin_cases a
    · rfl
    · rfl
    · exact hc.symm

/-- The same, over all the rows. -/
theorem sumLeading_rows {m n N C : ℕ} (h : m * n = N) (hr : (⟨3, ![m, n, C]⟩ : Shape).ReducesTo [0, 1] ⟨1, ![C]⟩) {x : (⟨3, ![m, n, C]⟩ : Shape).Idx → EReal} {c : Fin C}
    {f : Fin N → EReal} (hx : ∀ a b, x (ix3 a b c) = f (rowOf h a b)) : Ideal.hostReduceAdd hr x 0 (ix1 c) = ∑ r, f r := by
  rw [sumLeading_apply, ← sum_rows h f]
  exact Finset.sum_congr rfl fun a _ => Finset.sum_congr rfl fun b _ => hx a b

end Cert.Rows

end
-- ==== Proof.Layout.lean ====
/- Two sequences of rows laid one after the other, and one row kept as an array of rows: what the entries are. -/
module

public import proofs.«01_k».proof.Proof.Rows

@[expose] public section

noncomputable section

namespace Cert.Layout

open Idealize.ShloMosaic Cert.Rows
open scoped BigOperators

section
variable {α : Type} {n : ℕ}

/-- The two sequences laid one after the other. -/
theorem stacked_apply (h : (⟨3, ![2, 2048, n]⟩ : Shape).ShapeCasts ⟨2, ![4096, n]⟩) (X : (⟨3, ![2, 2048, n]⟩ : Shape).Idx → α) (r : Fin 4096) (d : Fin n) :
    shapeCast ⟨2, ![4096, n]⟩ X h (ix2 r d) = X (ix3 ⟨r.val / 2048, by omega⟩ ⟨r.val % 2048, by omega⟩ d) :=
  shapeCast_apply X h _ _ (by
    rw [Shape.rowMajor_val_three, Shape.rowMajor_val_two]
    show ((r.val / 2048 * 2048 + r.val % 2048) * n + d.val) = r.val * n + d.val
    rw [Nat.div_add_mod'])

/-- A list of numbers as a row. -/
theorem row_apply (h : (⟨1, ![n]⟩ : Shape).ShapeCasts ⟨2, ![1, n]⟩) (X : (⟨1, ![n]⟩ : Shape).Idx → α) (d : Fin n) : shapeCast ⟨2, ![1, n]⟩ X h (ix2 0 d) = X (ix1 d) :=
  shapeCast_apply X h _ _ (by
    rw [Shape.rowMajor_val_two, Shape.rowMajor_val_one]
    show d.val = 0 * n + d.val
    rw [Nat.zero_mul, Nat.zero_add])

theorem row3_apply (h : (⟨1, ![n]⟩ : Shape).ShapeCasts ⟨3, ![1, 1, n]⟩) (X : (⟨1, ![n]⟩ : Shape).Idx → α) (d : Fin n) : shapeCast ⟨3, ![1, 1, n]⟩ X h (ix3 0 0 d) = X (ix1 d) :=
  shapeCast_apply X h _ _ (by
    rw [Shape.rowMajor_val_three, Shape.rowMajor_val_one]
    show d.val = (0 * 1 + 0) * n + d.val
    simp only [Nat.zero_mul, Nat.zero_add])

theorem one_row (i : Shape.Idx ⟨2, ![1, n]⟩) : ∃ d : Fin n, i = ix2 0 d :=
  ⟨i 1, by
    funext a
    fin_cases a
    · exact Subsingleton.elim (α := Fin 1) _ _
    · rfl⟩
end

variable {n N : ℕ}

/-- Row `r` of a block. -/
abbrev line (X : FVec Ideal ⟨2, ![N, n]⟩ .f32) (r : Fin N) : Fin n → EReal := fun d => X (ix2 r d)
/-- The row of a block of one row. -/
abbrev only (G : FVec Ideal ⟨2, ![1, n]⟩ .f32) : Fin n → EReal := fun d => G (ix2 0 d)
/-- A list of numbers. -/
abbrev gainRow (G : FVec Ideal ⟨1, ![n]⟩ .f32) : Fin n → EReal := fun d => G (ix1 d)
/-- The row of token `s` of sequence `b`. -/
abbrev tokRow (X : FVec Ideal ⟨3, ![2, 2048, n]⟩ .f32) (b : Fin 2) (s : Fin 2048) : Fin n → EReal := fun d => X (ix3 b s d)
/-- Row `r` of both sequences' rows. -/
abbrev rowAt (X : FVec Ideal ⟨3, ![2, 2048, n]⟩ .f32) (r : Fin 4096) : Fin n → EReal := tokRow X ⟨r.val / 2048, by omega⟩ ⟨r.val % 2048, by omega⟩

/-- A row times a matrix turned over. -/
def turned {k : ℕ} (x : Fin n → EReal) (W : FVec Ideal ⟨2, ![k, n]⟩ .f32) (j : Fin k) : EReal := ∑ d, x d * W (ix2 j d)

theorem rowAt_tok (X : FVec Ideal ⟨3, ![2, 2048, n]⟩ .f32) (b : Fin 2) (s : Fin 2048) : rowAt X (rowOf (N := 4096) rfl b s) = tokRow X b s := by
  have e0 : (⟨(b.val * 2048 + s.val) / 2048, by omega⟩ : Fin 2) = b := Fin.ext (by show (b.val * 2048 + s.val) / 2048 = b.val; omega)
  have e1 : (⟨(b.val * 2048 + s.val) % 2048, by omega⟩ : Fin 2048) = s := Fin.ext (by show (b.val * 2048 + s.val) % 2048 = s.val; omega)
  funext d
  show X (ix3 ⟨(b.val * 2048 + s.val) / 2048, _⟩ ⟨(b.val * 2048 + s.val) % 2048, _⟩ d) = _
  rw [e0, e1]

/-- An array of rows that agrees with a function of row and column, laid out row after row. -/
theorem stacked_eq (h : (⟨3, ![2, 2048, n]⟩ : Shape).ShapeCasts ⟨2, ![4096, n]⟩) (X : FVec Ideal ⟨3, ![2, 2048, n]⟩ .f32) {f : Fin 4096 → Fin n → EReal} (hf : ∀ r d, rowAt X r d = f r d) :
    (shapeCast ⟨2, ![4096, n]⟩ X h : FVec Ideal ⟨2, ![4096, n]⟩ .f32) = fun i : Shape.Idx ⟨2, ![4096, n]⟩ => f (i 0) (i 1) := by
  funext i
  obtain ⟨r, d, rfl⟩ : ∃ (r : Fin 4096) (d : Fin n), i = ix2 r d := ⟨i 0, i 1, Idealize.ShloMosaic.eq_ix2 i⟩
  exact (stacked_apply _ _ _ _).trans (hf r d)

/-- The same of a list of numbers. -/
theorem row_eq (h : (⟨1, ![n]⟩ : Shape).ShapeCasts ⟨2, ![1, n]⟩) (X : FVec Ideal ⟨1, ![n]⟩ .f32) {f : Fin n → EReal} (hf : ∀ d, X (ix1 d) = f d) :
    (shapeCast ⟨2, ![1, n]⟩ X h : FVec Ideal ⟨2, ![1, n]⟩ .f32) = fun i : Shape.Idx ⟨2, ![1, n]⟩ => f (i 1) := by
  funext i
  obtain ⟨d, rfl⟩ := one_row i
  exact (row_apply _ _ _).trans (hf d)

/-- The sum over all rows of both sequences, as the host program takes it. -/
theorem sumRows_apply (h : (⟨3, ![2, 2048, n]⟩ : Shape).ReducesTo [0, 1] ⟨1, ![n]⟩) (h1 : (⟨3, ![1, 1, n]⟩ : Shape).ReducesTo [0, 1] ⟨1, ![n]⟩) (hc : (⟨1, ![n]⟩ : Shape).ShapeCasts ⟨3, ![1, 1, n]⟩)
    (h0 : 0 < (⟨0, ![]⟩ : Shape).numel) (X : FVec Ideal ⟨3, ![2, 2048, n]⟩ .f32) (d : Fin n) :
    (Host.reduceAdd (shapeCast ⟨3, ![1, 1, n]⟩ (Host.reduceAdd X (constant ⟨0, ![]⟩ .f32 0x00000000#32) h h0) hc : FVec Ideal ⟨3, ![1, 1, n]⟩ .f32) (constant ⟨0, ![]⟩ .f32 0x00000000#32) h1 h0 :
      FVec Ideal ⟨1, ![n]⟩ .f32) (ix1 d) = ∑ r, rowAt X r d := by
  pointwise
  rw [sumLeading_apply, Fin.sum_univ_one, Fin.sum_univ_one, row3_apply]
  pointwise
  exact sumLeading_rows rfl h fun b s => (congrFun (rowAt_tok X b s) d).symm

end Cert.Layout

end
-- ==== Proof.Weights.Sums.lean ====
/- Sums that grow tile by tile along each run of grid points, and rows summed over the two leading axes. -/
module

public import proofs.«01_k».proof.Proof.Layout

@[expose] public section

noncomputable section

namespace Cert.Weights

open Idealize.ShloMosaic Cert.Rows
open scoped BigOperators

/-- The run of `J` points that point `t` is in. -/
abbrev runOf {M J Q : ℕ} (hQ : J * Q = M) (t : Fin M) : Fin Q := ⟨t.val / J, Nat.div_lt_of_lt_mul (hQ ▸ t.isLt)⟩

/-- A number that starts anew at every run's first point and gains a part at each other point. -/
theorem grown_runs {M J Q : ℕ} (hQ : J * Q = M) {A : (n : ℕ) → n < M → EReal} {p : Fin Q → ℕ → EReal}
    (h0 : ∀ t : Fin M, t.val % J = 0 → A t.val t.isLt = p (runOf hQ t) 0)
    (hs : ∀ t : Fin M, ¬t.val % J = 0 → A t.val t.isLt = A (t.val - 1) (Nat.lt_of_le_of_lt (Nat.sub_le _ _) t.isLt) + p (runOf hQ t) (t.val % J))
    (n : ℕ) (h : n < M) : A n h = ∑ s ∈ Finset.range (n % J + 1), p (runOf hQ ⟨n, h⟩) s := by
  induction n with
  | zero => rw [Nat.zero_mod, Finset.sum_range_one]; exact h0 ⟨0, h⟩ (Nat.zero_mod J)
  | succ n ih =>
    by_cases hm : (n + 1) % J = 0
    · rw [hm, Finset.sum_range_one]; exact h0 ⟨n + 1, h⟩ hm
    · have hd : (n + 1) / J = n / J := Nat.succ_div_of_not_dvd fun hdvd => hm (Nat.mod_eq_zero_of_dvd hdvd)
      have hr : (n + 1) % J = n % J + 1 := by
        have h1 := Nat.div_add_mod (n + 1) J
        have h2 := Nat.div_add_mod n J
        rw [hd] at h1
        omega
      have e : runOf hQ ⟨n + 1, h⟩ = runOf hQ ⟨n, Nat.lt_of_succ_lt h⟩ := Fin.ext hd
      refine (hs ⟨n + 1, h⟩ hm).trans ?_
      show A n _ + p _ ((n + 1) % J) = _
      rw [ih, e, hr, ← Finset.sum_range_succ]

/-- A sum over the sequences and their places is the sum over all the rows. -/
theorem sum_tokens (f : Fin 4096 → EReal) : ∑ b : Fin 2, ∑ s : Fin 2048, f (rowOf (N := 4096) rfl b s) = ∑ r, f r := sum_rows (m := 2) (n := 2048) rfl f

end Cert.Weights

end
-- ==== Proof.Weights.Down.lean ====
/- The gradient of the second layer's matrix: the product that grows over the tiles of rows, and that the plain program gives the same. -/
module

public import proofs.«01_k».proof.Defs
public import proofs.«01_k».proof.Proof.Gen.DownKernelIdeal.Value
public import proofs.«01_k».proof.Proof.Gen.DownReferenceIdeal.Run
public import proofs.«01_k».proof.Proof.Norm
public import proofs.«01_k».proof.Proof.Weights.Sums
public import Idealize.ShloMosaic.Lib.Claim
public import Idealize.ShloMosaic.Lib.Pipeline.ValueKit

@[expose] public section

set_option maxRecDepth 16384

noncomputable section

namespace Cert.Weights.Down

open Idealize Idealize.ShloMosaic Idealize.SL.Sem Cert.Norm Cert.Rows Cert.Layout Cert.Weights
open scoped BigOperators

section
open Cert.DownKernelIdeal Cert.DownKernelIdeal.Gen

/-- What a tile of rows adds, at one entry. -/
theorem part_block (A : FVec Ideal S1024x1408 .bf16) (C : FVec Ideal S1024x1024 .f32) (i : Fin 1408) (d : Fin 1024) :
    k0_pay1 (F := Ideal) A C (ix2 i d) = ∑ r : Fin 1024, A (ix2 r i) * C (ix2 r d) := by
  pointwise [k0_pay1]

variable (m : (ℓ : Loc nD τ sig) → Buf (Elt Ideal) ℓ) (c : Dev nD)

abbrev argA : FVec Ideal S2x2048x2816 .f32 := m ((c.tc : Thread nD τ).loc main_arg0)
abbrev argC : FVec Ideal S2x2048x1024 .f32 := m ((c.tc : Thread nD τ).loc main_arg1)

/-- Where each window's block lies at grid point `t`. -/
theorem places_of_blocks : ∀ t : Fin cfg0.N, win0_0.index t = ![t.val % 4, t.val / 4] ∧ win0_1.index t = ![t.val % 4, 0] ∧ win0_2.index t = ![t.val / 4, 0] :=
  (by decide +kernel : ∀ t : Fin grid0.N, _)

abbrev blockRow (t : Fin cfg0.N) (r : Fin 1024) : Fin 4096 := rowOf (m := 4) (n := 1024) rfl ⟨t.val % 4, Nat.mod_lt _ (by decide)⟩ r
abbrev blockCol (q : Fin 2) (i : Fin 1408) : Fin 2816 := rowOf (m := 2) (n := 1408) rfl q i
abbrev run (t : Fin cfg0.N) : Fin 2 := runOf (J := 4) (Q := 2) (M := cfg0.N) rfl t

/-- What row `r` adds to the gradient. -/
abbrev termAt (i : Fin 2816) (d : Fin 1024) (r : Fin 4096) : EReal := rowAt (argA m c) r i * rowAt (argC m c) r d

variable (t : Fin cfg0.N) (r : Fin 1024) (i : Fin 1408) (d : Fin 1024)

theorem inner_block : (iblk m c 0 t : FVec Ideal S1024x1408 .bf16) (ix2 r i) = rowAt (argA m c) (blockRow t r) (blockCol (run t) i) := by
  have e : (win0_0.blk t).view.emb (ix2 r i) = ix2 (blockRow t r) (blockCol (run t) i) := by blk_ext [places_of_blocks t]
  show V m c main_v1 ((win0_0.blk t).view.emb (ix2 r i)) = _
  rw [e]
  entry_read
  exact stacked_apply _ _ _ _
theorem ct_block : (iblk m c 1 t : FVec Ideal S1024x1024 .f32) (ix2 r d) = rowAt (argC m c) (blockRow t r) d := by
  have e : (win0_1.blk t).view.emb (ix2 r d) = ix2 (blockRow t r) d := by blk_ext [places_of_blocks t]
  show V m c main_v2 ((win0_1.blk t).view.emb (ix2 r d)) = _
  rw [e]
  entry_read
  exact stacked_apply _ _ _ _

theorem part_read : k0_pay1 (F := Ideal) (iblk m c 0 t) (iblk m c 1 t) (ix2 i d) = tile 1024 (termAt m c (blockCol (run t) i) d) (t.val % 4) := by
  refine (part_block _ _ i d).trans (Eq.trans ?_ (tile_eq (m := 4) rfl _ ⟨t.val % 4, Nat.mod_lt _ (by decide)⟩).symm)
  exact Finset.sum_congr rfl fun r _ => by rw [inner_block, ct_block]

theorem first_read : k0_pay2 (F := Ideal) (iblk m c 0 t) (iblk m c 1 t) (ix2 i d) = k0_pay1 (F := Ideal) (iblk m c 0 t) (iblk m c 1 t) (ix2 i d) := by
  pointwise [k0_pay2]
theorem next_read (x : FVec Ideal S1408x1024 .f32) : k0_pay3 (F := Ideal) (iblk m c 0 t) (iblk m c 1 t) x (ix2 i d) =
    x (ix2 i d) + k0_pay1 (F := Ideal) (iblk m c 0 t) (iblk m c 1 t) (ix2 i d) := by
  pointwise [k0_pay3]
theorem last_read (x : FVec Ideal S1408x1024 .f32) : k0_pay4 (F := Ideal) x (ix2 i d) = x (ix2 i d) * ((1 / 2 : ℝ) : EReal) := by
  pointwise [k0_pay4]
  rw [half_word]

/-- The buffer that the product grows in, after each point. -/
theorem grown_point (n : ℕ) (hn : n < cfg0.N) : (outsAt0 m c n hn).2 (ix2 i d) =
    ∑ s ∈ Finset.range (n % 4 + 1), tile 1024 (termAt m c (blockCol (run ⟨n, hn⟩) i) d) s := by
  refine grown_runs (J := 4) (Q := 2) (M := cfg0.N) rfl (A := fun n hn => (outsAt0 m c n hn).2 (ix2 i d))
    (p := fun q s => tile 1024 (termAt m c (blockCol q i) d) s) (fun t h => ?_) (fun t h => ?_) n hn
  · show (outsAt0 m c t.val t.isLt).2 (ix2 i d) = _
    rw [outsAt0_A m c t h (by omega) (by omega)]
    frame_out
    refine (first_read m c t i d).trans ((part_read m c t i d).trans ?_)
    rw [h]
  · show (outsAt0 m c t.val t.isLt).2 (ix2 i d) = _
    by_cases h3 : t.val % 4 = 3
    · rw [outsAt0_C m c t h (by omega) h3]
      frame_out
      refine (next_read m c t i d _).trans ?_
      rw [part_read]
      exact congrArg (fun x : FVec Ideal S1408x1024 .f32 => x (ix2 i d) + _) (Memref.IsWhole.read_unread (Memref.isWhole_whole _) _)
    · rw [outsAt0_B m c t h (by omega) h3]
      frame_out
      refine (next_read m c t i d _).trans ?_
      rw [part_read]
      exact congrArg (fun x : FVec Ideal S1408x1024 .f32 => x (ix2 i d) + _) (Memref.IsWhole.read_unread (Memref.isWhole_whole _) _)

/-- The block that is written back, at a run's last point. -/
theorem out_point (h3 : t.val % 4 = 3) : (outsAt0 m c t.val t.isLt).1 (ix2 i d) = (∑ r, termAt m c (blockCol (run t) i) d r) * ((1 / 2 : ℝ) : EReal) := by
  have hg := grown_point m c i d t.val t.isLt
  rw [h3, sum_tiles (m := 4) rfl] at hg
  rw [← hg]
  rw [outsAt0_C m c t (by omega) (by omega) h3]
  frame_out
  exact last_read i d _

theorem flush_last : ∀ t : Fin cfg0.N, (cfg0.win 2).flush t = true → t.val % 4 = 3 :=
  (by decide +kernel : ∀ t : Fin grid0.N, _)

theorem final : (dats m 0 c).arrAt 2 cfg0.N = fun j : S2816x1024.Idx => (∑ r, termAt m c (j 0) (j 1) r) * ((1 / 2 : ℝ) : EReal) := by
  refine (dats m 0 c).arrAt_eq_of_covers 2 _ (by decide +kernel) fun t hf y => ?_
  blk_simp
  rw [after0_2]
  dsimp only
  obtain ⟨i, d, rfl⟩ : ∃ (i : Fin 1408) (d : Fin 1024), y = ix2 i d := ⟨y 0, y 1, Idealize.ShloMosaic.eq_ix2 y⟩
  rw [out_point m c t i d (flush_last t hf)]
  have e : (win0_2.blk t).view.emb (ix2 i d) = ix2 (blockCol (run t) i) d := by blk_ext [places_of_blocks t]
  rw [e]
  rfl
end

section
open Cert.DownReferenceIdeal Cert.DownReferenceIdeal.Gen

/-- The plain gradient. -/
def plain (A : FVec Ideal S2x2048x2816 .f32) (C : FVec Ideal S2x2048x1024 .f32) : FVec Ideal S2816x1024 .bf16 :=
  truncf .bf16 (transpose S2816x1024 [1, 0] (Host.dotGeneral dot_S2x2048x1024_S2x2048x2816_S1024x2816_01_01_2_2_n_n none
    (mulf (broadcastInDim S2x2048x1024 ![] bcast_S_S2x2048x1024 (constant S_ .f32 0x3F000000#32)) C) A) transposes_S1024x2816_S2816x1024_1_0) bitsLt_bf16_f32

theorem plain_apply (A : FVec Ideal S2x2048x2816 .f32) (C : FVec Ideal S2x2048x1024 .f32) (i : Fin 2816) (d : Fin 1024) :
    plain A C (ix2 i d) = (∑ r, rowAt A r i * rowAt C r d) * ((1 / 2 : ℝ) : EReal) := by
  rw [mul_comm, mul_sum_real _ (by norm_num), ← sum_tokens]
  unfold plain
  pointwise
  refine Finset.sum_congr rfl fun b _ => Finset.sum_congr rfl fun s _ => ?_
  rw [half_word, rowAt_tok, rowAt_tok, mul_assoc, mul_comm (C _)]
end

/-- The plain program declares no semaphore, so a run of it that leaves the arguments unchanged is the whole frame. -/
theorem reference : Cert.quiescent_DownReferenceIdeal := fun m g _ =>
  (θ_run _ _ _).mono (fun _ h => ⟨fun c => (h c).2, funext fun s => by rcases s with ⟨_, s | s⟩ <;> exact Fin.elim0 s⟩)
    (Cert.DownReferenceIdeal.Value.run m g)

/-- Launched over the same arguments, whatever they are, the two programs end with the same gradient. -/
theorem value : Cert.algebraic_DownKernelIdeal_DownReferenceIdeal := by
  intro m g m' g' _ hagree
  refine ⟨fun c => (Cert.DownKernelIdeal.Gen.dats m 0 c).arrAt 2 Cert.DownKernelIdeal.cfg0.N, Cert.DownKernelIdeal.Value.run_blocks m g, ?_⟩
  refine (θ_run _ _ _).mono (fun r h c => ?_) (Cert.DownReferenceIdeal.Value.run m' g')
  obtain ⟨h0, h1⟩ := h c
  obtain ⟨a0, a1⟩ := hagree c
  refine ⟨h0.trans ?_, h1⟩
  rw [a0, a1]
  refine Eq.trans (b := plain (argA m c) (argC m c)) rfl (Eq.trans ?_ (final m c).symm)
  funext j
  rw [Idealize.ShloMosaic.eq_ix2 j]
  exact plain_apply _ _ _ _

end Cert.Weights.Down

end
-- ==== Proof.Weights.Up.lean ====
/- The gradient of the first layer's matrix: the gate's columns and then the other half's, each product growing over the tiles of rows, and that the plain program gives the same. -/
module

public import proofs.«01_k».proof.Defs
public import proofs.«01_k».proof.Proof.Gen.UpKernelIdeal.Frame
public import proofs.«01_k».proof.Proof.Gen.UpReferenceIdeal.Run
public import proofs.«01_k».proof.Proof.Layout
public import proofs.«01_k».proof.Proof.Weights.Sums
public import Idealize.ShloMosaic.Lib.Claim
public import Idealize.ShloMosaic.Lib.Pipeline.ValueKit

@[expose] public section

set_option maxRecDepth 16384

noncomputable section

namespace Cert.Weights.Up

open Idealize Idealize.ShloMosaic Idealize.SL.Sem Cert.Rows Cert.Layout Cert.Weights
open scoped BigOperators

section
open Cert.UpKernelIdeal Cert.UpKernelIdeal.Gen

/-- What a tile of rows adds, at one entry. -/
theorem part_block (A : FVec Ideal S1024x1408 .bf16) (H : FVec Ideal S1024x1024 .bf16) (i : Fin 1408) (d : Fin 1024) :
    k0_pay1 (F := Ideal) A H (ix2 i d) = ∑ r : Fin 1024, A (ix2 r i) * H (ix2 r d) := by
  pointwise [k0_pay1]
theorem first_read (A : FVec Ideal S1024x1408 .bf16) (H : FVec Ideal S1024x1024 .bf16) (i : Fin 1408) (d : Fin 1024) :
    k0_pay2 (F := Ideal) A H (ix2 i d) = k0_pay1 (F := Ideal) A H (ix2 i d) := by
  pointwise [k0_pay2]
theorem next_read (A : FVec Ideal S1024x1408 .bf16) (H : FVec Ideal S1024x1024 .bf16) (i : Fin 1408) (d : Fin 1024) (x : FVec Ideal S1408x1024 .f32) :
    k0_pay3 (F := Ideal) A H x (ix2 i d) = x (ix2 i d) + k0_pay1 (F := Ideal) A H (ix2 i d) := by
  pointwise [k0_pay3]
theorem last_read (x : FVec Ideal S1408x1024 .f32) (i : Fin 1408) (d : Fin 1024) : k0_pay7 (F := Ideal) x (ix2 i d) = x (ix2 i d) := by
  pointwise [k0_pay7]

/-- The two halves' columns, side by side. -/
def joined (G U : FVec Ideal S2x2048x2816 .f32) (r : Fin 4096) (j : Fin 5632) : EReal :=
  if h : j.val < 2816 then rowAt G r ⟨j.val, h⟩ else rowAt U r ⟨j.val - 2816, by omega⟩

variable (m : (ℓ : Loc nD τ sig) → Buf (Elt Ideal) ℓ) (c : Dev nD)

abbrev argH : FVec Ideal S2x2048x1024 .f32 := m ((c.tc : Thread nD τ).loc main_arg0)
abbrev argG : FVec Ideal S2x2048x2816 .f32 := m ((c.tc : Thread nD τ).loc main_arg1)
abbrev argU : FVec Ideal S2x2048x2816 .f32 := m ((c.tc : Thread nD τ).loc main_arg2)

/-- Where each window's block lies at grid point `t`; of the first two, the one that the point reads. -/
theorem places_of_blocks : ∀ t : Fin cfg0.N, (t.val < 8 → win0_0.index t = ![t.val % 4, t.val / 4]) ∧ (8 ≤ t.val → win0_1.index t = ![t.val % 4, t.val / 4 - 2]) ∧
    win0_2.index t = ![t.val % 4, 0] ∧ win0_3.index t = ![t.val / 4, 0] :=
  (by decide +kernel : ∀ t : Fin grid0.N, _)

abbrev blockRow (t : Fin cfg0.N) (r : Fin 1024) : Fin 4096 := rowOf (m := 4) (n := 1024) rfl ⟨t.val % 4, Nat.mod_lt _ (by decide)⟩ r
abbrev blockCol (q : Fin 4) (i : Fin 1408) : Fin 5632 := rowOf (m := 4) (n := 1408) rfl q i
abbrev run (t : Fin cfg0.N) : Fin 4 := runOf (J := 4) (Q := 4) (M := cfg0.N) rfl t

/-- What row `r` adds to the gradient. -/
abbrev termAt (j : Fin 5632) (d : Fin 1024) (r : Fin 4096) : EReal := joined (argG m c) (argU m c) r j * rowAt (argH m c) r d

variable (t : Fin cfg0.N) (r : Fin 1024) (i : Fin 1408) (d : Fin 1024)

theorem gate_block (h : t.val < 8) : (iblk m c 0 t : FVec Ideal S1024x1408 .bf16) (ix2 r i) = joined (argG m c) (argU m c) (blockRow t r) (blockCol (run t) i) := by
  have hj : t.val / 4 * 1408 + i.val < 2816 := by omega
  have e : (win0_0.blk t).view.emb (ix2 r i) = ix2 (blockRow t r) ⟨t.val / 4 * 1408 + i.val, hj⟩ := by blk_ext [(places_of_blocks t).1 h]
  show V m c main_v1 ((win0_0.blk t).view.emb (ix2 r i)) = _
  rw [e, joined, dif_pos (show (blockCol (run t) i).val < 2816 from hj)]
  entry_read
  exact stacked_apply _ _ _ _
theorem other_block (h : 8 ≤ t.val) : (iblk m c 1 t : FVec Ideal S1024x1408 .bf16) (ix2 r i) = joined (argG m c) (argU m c) (blockRow t r) (blockCol (run t) i) := by
  have ht : t.val < 16 := t.isLt
  have hj : (t.val / 4 - 2) * 1408 + i.val < 2816 := by omega
  have hn : ¬(blockCol (run t) i).val < 2816 := by show ¬t.val / 4 * 1408 + i.val < 2816; omega
  have e : (win0_1.blk t).view.emb (ix2 r i) = ix2 (blockRow t r) ⟨(t.val / 4 - 2) * 1408 + i.val, hj⟩ := by blk_ext [(places_of_blocks t).2.1 h]
  have ej : (⟨(blockCol (run t) i).val - 2816, by omega⟩ : Fin 2816) = ⟨(t.val / 4 - 2) * 1408 + i.val, hj⟩ :=
    Fin.ext (by show t.val / 4 * 1408 + i.val - 2816 = (t.val / 4 - 2) * 1408 + i.val; omega)
  show V m c main_v3 ((win0_1.blk t).view.emb (ix2 r i)) = _
  rw [e, joined, dif_neg hn, ej]
  entry_read
  exact stacked_apply _ _ _ _
theorem rows_block : (iblk m c 2 t : FVec Ideal S1024x1024 .bf16) (ix2 r d) = rowAt (argH m c) (blockRow t r) d := by
  have e : (win0_2.blk t).view.emb (ix2 r d) = ix2 (blockRow t r) d := by blk_ext [places_of_blocks t]
  show V m c main_v5 ((win0_2.blk t).view.emb (ix2 r d)) = _
  rw [e]
  entry_read
  exact stacked_apply _ _ _ _

/-- A block that holds the columns of the point's run gives the tile's part. -/
theorem part_read (A : FVec Ideal S1024x1408 .bf16) (hA : ∀ r, A (ix2 r i) = joined (argG m c) (argU m c) (blockRow t r) (blockCol (run t) i)) :
    k0_pay1 (F := Ideal) A (iblk m c 2 t) (ix2 i d) = tile 1024 (termAt m c (blockCol (run t) i) d) (t.val % 4) := by
  refine (part_block _ _ i d).trans (Eq.trans ?_ (tile_eq (m := 4) rfl _ ⟨t.val % 4, Nat.mod_lt _ (by decide)⟩).symm)
  exact Finset.sum_congr rfl fun r _ => by rw [hA, rows_block]
theorem gate_part (h : t.val < 8) : k0_pay1 (F := Ideal) (iblk m c 0 t) (iblk m c 2 t) (ix2 i d) = tile 1024 (termAt m c (blockCol (run t) i) d) (t.val % 4) :=
  part_read m c t i d _ fun r => gate_block m c t r i h
theorem other_part (h : 8 ≤ t.val) : k0_pay1 (F := Ideal) (iblk m c 1 t) (iblk m c 2 t) (ix2 i d) = tile 1024 (termAt m c (blockCol (run t) i) d) (t.val % 4) :=
  part_read m c t i d _ fun r => other_block m c t r i h

/-- A run's first point, and each other point, from what its block gives. -/
theorem first_point (A : FVec Ideal S1024x1408 .bf16) (hA : k0_pay1 (F := Ideal) A (iblk m c 2 t) (ix2 i d) = tile 1024 (termAt m c (blockCol (run t) i) d) (t.val % 4))
    (h : t.val % 4 = 0) : k0_pay2 (F := Ideal) A (iblk m c 2 t) (ix2 i d) = tile 1024 (termAt m c (blockCol (run t) i) d) 0 :=
  (first_read _ _ i d).trans (hA.trans (by rw [h]))
theorem next_point (A : FVec Ideal S1024x1408 .bf16) (hA : k0_pay1 (F := Ideal) A (iblk m c 2 t) (ix2 i d) = tile 1024 (termAt m c (blockCol (run t) i) d) (t.val % 4))
    (x : FVec Ideal S1408x1024 .f32) {y : FVec Ideal S1408x1024 .f32} (hx : x = y) :
    k0_pay3 (F := Ideal) A (iblk m c 2 t) x (ix2 i d) = y (ix2 i d) + tile 1024 (termAt m c (blockCol (run t) i) d) (t.val % 4) := by
  subst hx
  rw [next_read, hA]

/-- The buffer that the product grows in, after each point. -/
theorem grown_point (n : ℕ) (hn : n < cfg0.N) : (outsAt0 m c n hn).2 (ix2 i d) =
    ∑ s ∈ Finset.range (n % 4 + 1), tile 1024 (termAt m c (blockCol (run ⟨n, hn⟩) i) d) s := by
  refine grown_runs (J := 4) (Q := 4) (M := cfg0.N) rfl (A := fun n hn => (outsAt0 m c n hn).2 (ix2 i d))
    (p := fun q s => tile 1024 (termAt m c (blockCol q i) d) s) (fun t h => ?_) (fun t h => ?_) n hn
  · show (outsAt0 m c t.val t.isLt).2 (ix2 i d) = _
    by_cases h8 : t.val < 8
    · rw [outsAt0_A m c t h8 h (by omega) (by omega) (by omega)]
      frame_out
      exact first_point m c t i d _ (gate_part m c t i d h8) h
    · rw [outsAt0_D m c t h8 (by omega) (by omega) h (by omega)]
      frame_out
      exact first_point m c t i d _ (other_part m c t i d (by omega)) h
  · show (outsAt0 m c t.val t.isLt).2 (ix2 i d) = _
    by_cases h8 : t.val < 8
    · by_cases h3 : t.val % 4 = 3
      · rw [outsAt0_C m c t h8 h (by omega) (by omega) h3]
        frame_out
        exact next_point m c t i d _ (gate_part m c t i d h8) _ (Memref.IsWhole.read_unread (Memref.isWhole_whole _) _)
      · rw [outsAt0_B m c t h8 h (by omega) (by omega) h3]
        frame_out
        exact next_point m c t i d _ (gate_part m c t i d h8) _ (Memref.IsWhole.read_unread (Memref.isWhole_whole _) _)
    · by_cases h3 : t.val % 4 = 3
      · rw [outsAt0_F m c t h8 (by omega) h3 h (by omega)]
        frame_out
        exact next_point m c t i d _ (other_part m c t i d (by omega)) _ (Memref.IsWhole.read_unread (Memref.isWhole_whole _) _)
      · rw [outsAt0_E m c t h8 (by omega) h3 h (by omega)]
        frame_out
        exact next_point m c t i d _ (other_part m c t i d (by omega)) _ (Memref.IsWhole.read_unread (Memref.isWhole_whole _) _)

/-- The block that is written back, at a run's last point. -/
theorem out_point (h3 : t.val % 4 = 3) : (outsAt0 m c t.val t.isLt).1 (ix2 i d) = ∑ r, termAt m c (blockCol (run t) i) d r := by
  have hg := grown_point m c i d t.val t.isLt
  rw [h3, sum_tiles (m := 4) rfl] at hg
  rw [← hg]
  by_cases h8 : t.val < 8
  · rw [outsAt0_C m c t h8 (by omega) (by omega) (by omega) h3]
    frame_out
    exact last_read _ i d
  · rw [outsAt0_F m c t h8 (by omega) h3 (by omega) (by omega)]
    frame_out
    exact last_read _ i d

theorem flush_last : ∀ t : Fin cfg0.N, (cfg0.win 3).flush t = true → t.val % 4 = 3 :=
  (by decide +kernel : ∀ t : Fin grid0.N, _)

theorem final : (dats m 0 c).arrAt 3 cfg0.N = fun j : S5632x1024.Idx => ∑ r, termAt m c (j 0) (j 1) r := by
  refine (dats m 0 c).arrAt_eq_of_covers 3 _ (by decide +kernel) fun t hf y => ?_
  blk_simp
  rw [after0_3]
  dsimp only
  obtain ⟨i, d, rfl⟩ : ∃ (i : Fin 1408) (d : Fin 1024), y = ix2 i d := ⟨y 0, y 1, Idealize.ShloMosaic.eq_ix2 y⟩
  rw [out_point m c t i d (flush_last t hf)]
  have e : (win0_3.blk t).view.emb (ix2 i d) = ix2 (blockCol (run t) i) d := by blk_ext [places_of_blocks t]
  rw [e]
  rfl

/-- A run ends with the array of the written blocks, and the arguments unchanged. -/
theorem run_arrays (ρ : Dev nD → PrngReg) : θ_run defs (onTc (τ := τ) (main (F := Ideal))) ⟨m, fun _ => 0, ρ⟩ fun r => ∀ c : Dev nD,
    r.2.mem ((c.tc : Thread nD τ).loc main_v6) = (dats m 0 c).arrAt 3 cfg0.N ∧ r.2.mem ((c.tc : Thread nD τ).loc main_arg0) = m ((c.tc : Thread nD τ).loc main_arg0) ∧
    r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun r h c => ⟨(h c).1 3, ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)
end

section
open Cert.UpReferenceIdeal Cert.UpReferenceIdeal.Gen

/-- The plain gradient. -/
def plain (H : FVec Ideal S2x2048x1024 .f32) (G U : FVec Ideal S2x2048x2816 .f32) : FVec Ideal S5632x1024 .bf16 :=
  truncf .bf16 (transpose S5632x1024 [1, 0] (transpose S1024x5632 [1, 0] (Host.dotGeneral dot_S2x2048x5632_S2x2048x1024_S5632x1024_01_01_2_2_n_n none
    (concatenate S2x2048x5632 2 [⟨S2x2048x2816, G⟩, ⟨S2x2048x2816, U⟩] concatenates_S2x2048x2816_S2x2048x2816_S2x2048x5632_d2) H)
    transposes_S5632x1024_S1024x5632_1_0) transposes_S1024x5632_S5632x1024_1_0) bitsLt_bf16_f32

theorem plain_apply (H : FVec Ideal S2x2048x1024 .f32) (G U : FVec Ideal S2x2048x2816 .f32) (j : Fin 5632) (d : Fin 1024) :
    plain H G U (ix2 j d) = ∑ r, joined G U r j * rowAt H r d := by
  rw [← sum_tokens]
  unfold plain
  pointwise
  refine Finset.sum_congr rfl fun b _ => Finset.sum_congr rfl fun s _ => ?_
  rw [joined, rowAt_tok, rowAt_tok, rowAt_tok]
end

/-- The plain program declares no semaphore, so a run of it that leaves the arguments unchanged is the whole frame. -/
theorem reference : Cert.quiescent_UpReferenceIdeal := fun m g _ =>
  (θ_run _ _ _).mono (fun _ h => ⟨fun c => (h c).2, funext fun s => by rcases s with ⟨_, s | s⟩ <;> exact Fin.elim0 s⟩)
    (Cert.UpReferenceIdeal.Value.run m g)

/-- Launched over the same arguments, whatever they are, the two programs end with the same gradient. -/
theorem value : Cert.algebraic_UpKernelIdeal_UpReferenceIdeal := by
  intro m g m' g' _ hagree
  refine ⟨fun c => (Cert.UpKernelIdeal.Gen.dats m 0 c).arrAt 3 Cert.UpKernelIdeal.cfg0.N, run_arrays m g, ?_⟩
  refine (θ_run _ _ _).mono (fun r h c => ?_) (Cert.UpReferenceIdeal.Value.run m' g')
  obtain ⟨h0, h1⟩ := h c
  obtain ⟨a0, a1, a2⟩ := hagree c
  refine ⟨h0.trans ?_, h1⟩
  rw [a0, a1, a2]
  refine Eq.trans (b := plain (argH m c) (argG m c) (argU m c)) rfl (Eq.trans ?_ (final m c).symm)
  funext j
  rw [Idealize.ShloMosaic.eq_ix2 j]
  exact plain_apply _ _ _ _ _

end Cert.Weights.Up

end
-- ==== Proof.Weights.Proj.lean ====
/- The gradients of the two matrices of the first projection: the products that grow over the tiles of rows, the first over padded columns, and that the plain program gives the same. -/
module

public import proofs.«01_k».proof.Defs
public import proofs.«01_k».proof.Proof.Gen.ProjKernelIdeal.Value
public import proofs.«01_k».proof.Proof.Gen.ProjReferenceIdeal.Run
public import proofs.«01_k».proof.Proof.Layout
public import proofs.«01_k».proof.Proof.Weights.Sums
public import Idealize.ShloMosaic.Lib.Claim
public import Idealize.ShloMosaic.Lib.Pipeline.ValueKit

@[expose] public section

set_option maxRecDepth 16384

noncomputable section

namespace Cert.Weights.Proj

open Idealize Idealize.ShloMosaic Idealize.SL.Sem Cert.Rows Cert.Layout Cert.Weights
open scoped BigOperators

section
open Cert.ProjKernelIdeal Cert.ProjKernelIdeal.Gen

/-- The first 1216 columns, with 64 columns of zeros after them. -/
def padded (C : FVec Ideal S2x2048x3264 .f32) (r : Fin 4096) (j : Fin 1280) : EReal :=
  if h : j.val < 1216 then rowAt C r ⟨j.val, by omega⟩ else 0
/-- The other 2048 columns. -/
def others (C : FVec Ideal S2x2048x3264 .f32) (r : Fin 4096) (j : Fin 2048) : EReal := rowAt C r ⟨1216 + j.val, by omega⟩

section
variable (A : FVec Ideal S512x1280 .bf16) (B : FVec Ideal S512x2048 .bf16) (H : FVec Ideal S512x1024 .bf16) (i : Fin 1280) (j : Fin 2048) (d : Fin 1024)

/-- What a tile of rows adds, at one entry. -/
theorem part_block : k0_pay1 (F := Ideal) A H (ix2 i d) = ∑ r : Fin 512, A (ix2 r i) * H (ix2 r d) := by pointwise [k0_pay1]
theorem other_block : k0_pay2 (F := Ideal) B H (ix2 j d) = ∑ r : Fin 512, B (ix2 r j) * H (ix2 r d) := by pointwise [k0_pay2]
theorem first_read : k0_pay3 (F := Ideal) A H (ix2 i d) = k0_pay1 (F := Ideal) A H (ix2 i d) := by pointwise [k0_pay3]
theorem first_other : k0_pay4 (F := Ideal) B H (ix2 j d) = k0_pay2 (F := Ideal) B H (ix2 j d) := by pointwise [k0_pay4]
theorem next_read (x : FVec Ideal S1280x1024 .f32) : k0_pay5 (F := Ideal) A H x (ix2 i d) = x (ix2 i d) + k0_pay1 (F := Ideal) A H (ix2 i d) := by pointwise [k0_pay5]
theorem next_other (x : FVec Ideal S2048x1024 .f32) : k0_pay6 (F := Ideal) B H x (ix2 j d) = x (ix2 j d) + k0_pay2 (F := Ideal) B H (ix2 j d) := by pointwise [k0_pay6]
theorem last_read (x : FVec Ideal S1280x1024 .f32) : k0_pay7 (F := Ideal) x (ix2 i d) = x (ix2 i d) := by pointwise [k0_pay7]
theorem last_other (x : FVec Ideal S2048x1024 .f32) : k0_pay8 (F := Ideal) x (ix2 j d) = x (ix2 j d) := by pointwise [k0_pay8]
end

variable (m : (ℓ : Loc nD τ sig) → Buf (Elt Ideal) ℓ) (c : Dev nD)

abbrev argH : FVec Ideal S2x2048x1024 .f32 := m ((c.tc : Thread nD τ).loc main_arg0)
abbrev argC : FVec Ideal S2x2048x3264 .f32 := m ((c.tc : Thread nD τ).loc main_arg1)

/-- Where each window's block lies at grid point `t`. -/
theorem places_of_blocks : ∀ t : Fin cfg0.N, win0_0.index t = ![t.val, 0] ∧ win0_1.index t = ![t.val, 0] ∧ win0_2.index t = ![t.val, 0] ∧ win0_3.index t = ![t.val, 0] ∧
    win0_4.index t = ![0, 0] ∧ win0_5.index t = ![0, 0] :=
  (by decide +kernel : ∀ t : Fin grid0.N, _)

abbrev blockRow (t : Fin cfg0.N) (r : Fin 512) : Fin 4096 := rowOf (m := 8) (n := 512) rfl ⟨t.val, t.isLt⟩ r

/-- The contents of the buffers after each stretch of the host program. -/
def after0 : Valuation τ sig (Elt Ideal) := StableHlo.after hostOps0 fun b => m (c, b)
def after1 : Valuation τ sig (Elt Ideal) := StableHlo.after hostOps0_1 (after0 m c)
theorem V_eq (b : Ref sig .tc) : V m c b = StableHlo.after hostOps0_2 (after1 m c) (Proc.devRef .tc b) := by
  unfold V after1 after0
  rw [List.flatten_cons, StableHlo.after_append, List.flatten_cons, StableHlo.after_append, List.flatten_cons, List.flatten_nil, List.append_nil]

/-- What row `r` adds to each gradient. -/
abbrev termAt (j : Fin 1280) (d : Fin 1024) (r : Fin 4096) : EReal := padded (argC m c) r j * rowAt (argH m c) r d
abbrev otherAt (j : Fin 2048) (d : Fin 1024) (r : Fin 4096) : EReal := others (argC m c) r j * rowAt (argH m c) r d

variable (t : Fin cfg0.N) (r : Fin 512) (i : Fin 1280) (j : Fin 2048) (d : Fin 1024)

theorem padded_block : (iblk m c 0 t : FVec Ideal S512x1280 .bf16) (ix2 r i) = padded (argC m c) (blockRow t r) i := by
  have e : (win0_0.blk t).view.emb (ix2 r i) = ix2 (blockRow t r) i := by blk_ext [places_of_blocks t]
  show V m c main_v3 ((win0_0.blk t).view.emb (ix2 r i)) = _
  rw [e, V_eq]
  entry_read
  unfold after1 after0
  entry_read
  show pad S4096x1280 ![0, 0] ![0, 64] ![0, 0] (extractStridedSlice S4096x1216 ![0, 0] (shapeCast S4096x3264 (argC m c) shapeCasts_S2x2048x3264_S4096x3264) slices_S4096x3264_S4096x1216_0_0)
    (sitofp (F := Ideal) .f32 (constantI S_ 32 0#32)) pads_S4096x1216_S4096x1280_000_0640 h_S_ (ix2 (blockRow t r) i) = _
  pointwise
  have hr : t.val * 512 + r.val < 4096 := (blockRow t r).isLt
  by_cases h : i.val < 1216
  · rw [dif_pos ⟨hr, h⟩, padded, dif_pos h]
  · rw [dif_neg (fun k => h k.2), padded, dif_neg h]
    show (((0#32 : BitVec 32).toInt : ℝ) : EReal) = 0
    simp
theorem rows_block : (iblk m c 1 t : FVec Ideal S512x1024 .bf16) (ix2 r d) = rowAt (argH m c) (blockRow t r) d := by
  have e : (win0_1.blk t).view.emb (ix2 r d) = ix2 (blockRow t r) d := by blk_ext [places_of_blocks t]
  show V m c main_v5 ((win0_1.blk t).view.emb (ix2 r d)) = _
  rw [e, V_eq]
  entry_read
  unfold after1 after0
  entry_read
  exact stacked_apply _ _ _ _
theorem others_block : (iblk m c 2 t : FVec Ideal S512x2048 .bf16) (ix2 r j) = others (argC m c) (blockRow t r) j := by
  have e : (win0_2.blk t).view.emb (ix2 r j) = ix2 (blockRow t r) j := by blk_ext [places_of_blocks t]
  show V m c main_v7 ((win0_2.blk t).view.emb (ix2 r j)) = _
  rw [e, V_eq]
  entry_read
  unfold after1 after0
  entry_read
  pointwise
  rfl
theorem rows_again : (iblk m c 3 t : FVec Ideal S512x1024 .bf16) (ix2 r d) = rowAt (argH m c) (blockRow t r) d := by
  have e : (win0_3.blk t).view.emb (ix2 r d) = ix2 (blockRow t r) d := by blk_ext [places_of_blocks t]
  show V m c main_v5 ((win0_3.blk t).view.emb (ix2 r d)) = _
  rw [e, V_eq]
  entry_read
  unfold after1 after0
  entry_read
  exact stacked_apply _ _ _ _

theorem part_read : k0_pay1 (F := Ideal) (iblk m c 0 t) (iblk m c 1 t) (ix2 i d) = tile 512 (termAt m c i d) t.val := by
  refine (part_block _ _ i d).trans (Eq.trans ?_ (tile_eq (m := 8) rfl _ ⟨t.val, t.isLt⟩).symm)
  exact Finset.sum_congr rfl fun r _ => by rw [padded_block, rows_block]
theorem part_other : k0_pay2 (F := Ideal) (iblk m c 2 t) (iblk m c 3 t) (ix2 j d) = tile 512 (otherAt m c j d) t.val := by
  refine (other_block _ _ j d).trans (Eq.trans ?_ (tile_eq (m := 8) rfl _ ⟨t.val, t.isLt⟩).symm)
  exact Finset.sum_congr rfl fun r _ => by rw [others_block, rows_again]

theorem next_point (x : FVec Ideal S1280x1024 .f32) {y : FVec Ideal S1280x1024 .f32} (hx : x = y) :
    k0_pay5 (F := Ideal) (iblk m c 0 t) (iblk m c 1 t) x (ix2 i d) = y (ix2 i d) + tile 512 (termAt m c i d) t.val := by
  subst hx
  rw [next_read, part_read]
theorem next_point_other (x : FVec Ideal S2048x1024 .f32) {y : FVec Ideal S2048x1024 .f32} (hx : x = y) :
    k0_pay6 (F := Ideal) (iblk m c 2 t) (iblk m c 3 t) x (ix2 j d) = y (ix2 j d) + tile 512 (otherAt m c j d) t.val := by
  subst hx
  rw [next_other, part_other]

/-- The buffers that the products grow in, after each point. -/
theorem grown_point (n : ℕ) (hn : n < cfg0.N) : (outsAt0 m c n hn).2.2.1 (ix2 i d) = ∑ s ∈ Finset.range (n + 1), tile 512 (termAt m c i d) s := by
  refine grown (A := fun n hn => (outsAt0 m c n hn).2.2.1 (ix2 i d)) (fun h => ?_) (fun n h => ?_) n hn
  · show _ = _
    rw [outsAt0_A m c ⟨0, h⟩ rfl (Nat.not_succ_le_zero 0) (by show ¬0 % 8 = 7; decide)]
    frame_out
    exact (first_read _ _ i d).trans (part_read m c ⟨0, h⟩ i d)
  · have hn : n + 1 < 8 := h
    show _ = _
    by_cases h7 : (n + 1) % 8 = 7
    · rw [outsAt0_C m c ⟨n + 1, h⟩ (by show ¬(n + 1) % 8 = 0; omega) (Nat.le_add_left 1 n) h7]
      frame_out
      exact next_point m c ⟨n + 1, h⟩ i d _ (Memref.IsWhole.read_unread (Memref.isWhole_whole _) _)
    · rw [outsAt0_B m c ⟨n + 1, h⟩ (by show ¬(n + 1) % 8 = 0; omega) (Nat.le_add_left 1 n) h7]
      frame_out
      exact next_point m c ⟨n + 1, h⟩ i d _ (Memref.IsWhole.read_unread (Memref.isWhole_whole _) _)
theorem grown_other (n : ℕ) (hn : n < cfg0.N) : (outsAt0 m c n hn).2.2.2 (ix2 j d) = ∑ s ∈ Finset.range (n + 1), tile 512 (otherAt m c j d) s := by
  refine grown (A := fun n hn => (outsAt0 m c n hn).2.2.2 (ix2 j d)) (fun h => ?_) (fun n h => ?_) n hn
  · show _ = _
    rw [outsAt0_A m c ⟨0, h⟩ rfl (Nat.not_succ_le_zero 0) (by show ¬0 % 8 = 7; decide)]
    frame_out
    exact (first_other _ _ j d).trans (part_other m c ⟨0, h⟩ j d)
  · have hn : n + 1 < 8 := h
    show _ = _
    by_cases h7 : (n + 1) % 8 = 7
    · rw [outsAt0_C m c ⟨n + 1, h⟩ (by show ¬(n + 1) % 8 = 0; omega) (Nat.le_add_left 1 n) h7]
      frame_out
      exact next_point_other m c ⟨n + 1, h⟩ j d _ (Memref.IsWhole.read_unread (Memref.isWhole_whole _) _)
    · rw [outsAt0_B m c ⟨n + 1, h⟩ (by show ¬(n + 1) % 8 = 0; omega) (Nat.le_add_left 1 n) h7]
      frame_out
      exact next_point_other m c ⟨n + 1, h⟩ j d _ (Memref.IsWhole.read_unread (Memref.isWhole_whole _) _)

/-- Both are written back at the last point only. -/
theorem flush_last : ∀ t : Fin cfg0.N, ((cfg0.win 4).flush t = true → t.val = 7) ∧ ((cfg0.win 5).flush t = true → t.val = 7) :=
  (by decide +kernel : ∀ t : Fin grid0.N, _)

theorem out_point (h7 : t.val = 7) : (outsAt0 m c t.val t.isLt).1 (ix2 i d) = ∑ r, termAt m c i d r := by
  have hg := grown_point m c i d t.val t.isLt
  rw [show t.val + 1 = 8 by omega, sum_tiles (m := 8) rfl] at hg
  rw [← hg]
  rw [outsAt0_C m c t (by omega) (by omega) (by omega)]
  frame_out
  exact last_read i d _
theorem out_other (h7 : t.val = 7) : (outsAt0 m c t.val t.isLt).2.1 (ix2 j d) = ∑ r, otherAt m c j d r := by
  have hg := grown_other m c j d t.val t.isLt
  rw [show t.val + 1 = 8 by omega, sum_tiles (m := 8) rfl] at hg
  rw [← hg]
  rw [outsAt0_C m c t (by omega) (by omega) (by omega)]
  frame_out
  exact last_other j d _

theorem first_final : (dats m 0 c).arrAt 4 cfg0.N = fun j : S1280x1024.Idx => ∑ r, termAt m c (j 0) (j 1) r := by
  refine (dats m 0 c).arrAt_eq_of_covers 4 _ (by decide +kernel) fun t hf y => ?_
  blk_simp
  rw [after0_4]
  dsimp only
  obtain ⟨i, d, rfl⟩ : ∃ (i : Fin 1280) (d : Fin 1024), y = ix2 i d := ⟨y 0, y 1, Idealize.ShloMosaic.eq_ix2 y⟩
  rw [out_point m c t i d ((flush_last t).1 hf)]
  have e : (win0_4.blk t).view.emb (ix2 i d) = ix2 i d := by blk_ext [places_of_blocks t]
  rw [e]
  rfl
theorem second_final : (dats m 0 c).arrAt 5 cfg0.N = fun j : S2048x1024.Idx => ∑ r, otherAt m c (j 0) (j 1) r := by
  refine (dats m 0 c).arrAt_eq_of_covers 5 _ (by decide +kernel) fun t hf y => ?_
  blk_simp
  rw [after0_5]
  dsimp only
  obtain ⟨i, d, rfl⟩ : ∃ (i : Fin 2048) (d : Fin 1024), y = ix2 i d := ⟨y 0, y 1, Idealize.ShloMosaic.eq_ix2 y⟩
  rw [out_other m c t i d ((flush_last t).2 hf)]
  have e : (win0_5.blk t).view.emb (ix2 i d) = ix2 i d := by blk_ext [places_of_blocks t]
  rw [e]
  rfl
end

section
open Cert.ProjReferenceIdeal Cert.ProjReferenceIdeal.Gen

/-- The plain gradient, all of its rows. -/
def whole (H : FVec Ideal S2x2048x1024 .f32) (C : FVec Ideal S2x2048x3264 .f32) : FVec Ideal S3264x1024 .f32 :=
  transpose S3264x1024 [1, 0] (transpose S1024x3264 [1, 0] (Host.dotGeneral dot_S2x2048x3264_S2x2048x1024_S3264x1024_01_01_2_2_n_n none C H)
    transposes_S3264x1024_S1024x3264_1_0) transposes_S1024x3264_S3264x1024_1_0
/-- The first rows, with the rows of zeros after them. -/
def plainFirst (H : FVec Ideal S2x2048x1024 .f32) (C : FVec Ideal S2x2048x3264 .f32) : FVec Ideal S1280x1024 .bf16 :=
  truncf .bf16 (concatenate S1280x1024 0 [⟨S1216x1024, extractStridedSlice S1216x1024 ![0, 0] (whole H C) slices_S3264x1024_S1216x1024_0_0⟩,
    ⟨S64x1024, broadcastInDim S64x1024 ![] bcast_S_S64x1024 (constant S_ .f32 0x00000000#32)⟩] concatenates_S1216x1024_S64x1024_S1280x1024_d0) bitsLt_bf16_f32
/-- The other rows. -/
def plainSecond (H : FVec Ideal S2x2048x1024 .f32) (C : FVec Ideal S2x2048x3264 .f32) : FVec Ideal S2048x1024 .bf16 :=
  truncf .bf16 (extractStridedSlice S2048x1024 ![1216, 0] (whole H C) slices_S3264x1024_S2048x1024_1216_0) bitsLt_bf16_f32

variable (H : FVec Ideal S2x2048x1024 .f32) (C : FVec Ideal S2x2048x3264 .f32) (d : Fin 1024)

theorem whole_apply (j : Fin 3264) : whole H C (ix2 j d) = ∑ r, rowAt C r j * rowAt H r d := by
  rw [← sum_tokens]
  unfold whole
  pointwise
  refine Finset.sum_congr rfl fun b _ => Finset.sum_congr rfl fun s _ => ?_
  rw [rowAt_tok, rowAt_tok]
theorem first_apply (j : Fin 1280) : plainFirst H C (ix2 j d) = ∑ r, padded C r j * rowAt H r d := by
  unfold plainFirst
  pointwise
  by_cases h : j.val < 1216
  · rw [dif_pos h, whole_apply]
    exact Finset.sum_congr rfl fun r _ => by rw [padded, dif_pos h]
  · rw [dif_neg h]
    exact (Finset.sum_eq_zero fun r _ => by rw [padded, dif_neg h, zero_mul]).symm
theorem second_apply (j : Fin 2048) : plainSecond H C (ix2 j d) = ∑ r, others C r j * rowAt H r d := by
  refine Eq.trans ?_ (whole_apply H C d ⟨1216 + j.val, by omega⟩)
  unfold plainSecond
  pointwise
end

/-- The plain program declares no semaphore, so a run of it that leaves the arguments unchanged is the whole frame. -/
theorem reference : Cert.quiescent_ProjReferenceIdeal := fun m g _ =>
  (θ_run _ _ _).mono (fun _ h => ⟨fun c => (h c).2.2, funext fun s => by rcases s with ⟨_, s | s⟩ <;> exact Fin.elim0 s⟩)
    (Cert.ProjReferenceIdeal.Value.run m g)

/-- Launched over the same arguments, whatever they are, the two programs end with the same two gradients. -/
theorem value : Cert.algebraic_ProjKernelIdeal_ProjReferenceIdeal := by
  intro m g m' g' _ hagree
  refine ⟨fun c => (Cert.ProjKernelIdeal.Gen.dats m 0 c).arrAt 4 Cert.ProjKernelIdeal.cfg0.N, fun c => (Cert.ProjKernelIdeal.Gen.dats m 0 c).arrAt 5 Cert.ProjKernelIdeal.cfg0.N,
    Cert.ProjKernelIdeal.Value.run_blocks m g, ?_⟩
  refine (θ_run _ _ _).mono (fun r h c => ?_) (Cert.ProjReferenceIdeal.Value.run m' g')
  obtain ⟨h0, h1, h2⟩ := h c
  obtain ⟨a0, a1⟩ := hagree c
  refine ⟨h0.trans ?_, h1.trans ?_, h2⟩
  · rw [a0, a1]
    refine Eq.trans (b := plainFirst (argH m c) (argC m c)) rfl (Eq.trans ?_ (first_final m c).symm)
    funext j
    rw [Idealize.ShloMosaic.eq_ix2 j]
    exact first_apply _ _ _ _
  · rw [a0, a1]
    refine Eq.trans (b := plainSecond (argH m c) (argC m c)) rfl (Eq.trans ?_ (second_final m c).symm)
    funext j
    rw [Idealize.ShloMosaic.eq_ix2 j]
    exact second_apply _ _ _ _

end Cert.Weights.Proj

end
-- ==== Proof.Weights.Adam.lean ====
/- The optimiser's step on one matrix: the three arrays after the run, and that the plain program gives the same. -/
module

public import proofs.«01_k».proof.Defs
public import proofs.«01_k».proof.Proof.Gen.AdamKernelIdeal.Value
public import proofs.«01_k».proof.Proof.Gen.AdamReferenceIdeal.Run
public import proofs.«01_k».proof.Proof.Layout
public import Idealize.ShloMosaic.Lib.Claim
public import Idealize.ShloMosaic.Lib.Pipeline.ValueKit

@[expose] public section

set_option maxRecDepth 16384

noncomputable section

namespace Cert.Weights.Adam

open Idealize Idealize.ShloMosaic Idealize.SL.Sem Cert.Rows Cert.Layout

/-- The gradient's running mean, after gradient `g`. -/
def meanAt (g μ : EReal) : EReal := Ideal.ofBits .f32 0x3F666666#32 * μ + Ideal.ofBits .f32 0x3DCCCCCD#32 * g
/-- The running mean of its square. -/
def squareAt (g ν : EReal) : EReal := Ideal.ofBits .f32 0x3F7FBE77#32 * ν + Ideal.ofBits .f32 0x3A83126F#32 * (g * g)

section
open Cert.AdamKernelIdeal Cert.AdamKernelIdeal.Gen

/-- The step that the kernel takes at one entry. -/
def stepAt (p g μ ν : EReal) : EReal :=
  k0_pay4 (F := Ideal) (fun _ => g) (fun _ => μ) (fun _ => ν) (fun _ => p) (ix2 0 0)

variable (P G M N : FVec Ideal S352x1024 .f32) (r : Fin 352) (d : Fin 1024)

theorem mean_block : k0_pay2 (F := Ideal) G M (ix2 r d) = meanAt (G (ix2 r d)) (M (ix2 r d)) := by
  pointwise [k0_pay2, k0_pay1]
  rfl
theorem square_block : k0_pay3 (F := Ideal) G N (ix2 r d) = squareAt (G (ix2 r d)) (N (ix2 r d)) := by
  pointwise [k0_pay3, k0_pay1]
  rfl
theorem step_block : k0_pay4 (F := Ideal) G M N P (ix2 r d) = stepAt (P (ix2 r d)) (G (ix2 r d)) (M (ix2 r d)) (N (ix2 r d)) := by
  pointwise [stepAt, k0_pay4, k0_pay3, k0_pay2, k0_pay1]

variable (m : (ℓ : Loc nD τ sig) → Buf (Elt Ideal) ℓ) (c : Dev nD)

abbrev arg0 : FVec Ideal S4x704x1024 .f32 := m ((c.tc : Thread nD τ).loc main_arg0)
abbrev arg1 : FVec Ideal S4x704x1024 .f32 := m ((c.tc : Thread nD τ).loc main_arg1)
abbrev arg2 : FVec Ideal S4x704x1024 .f32 := m ((c.tc : Thread nD τ).loc main_arg2)
abbrev arg3 : FVec Ideal S4x704x1024 .f32 := m ((c.tc : Thread nD τ).loc main_arg3)

/-- An argument's rows, one part below the other. -/
abbrev flat (X : FVec Ideal S4x704x1024 .f32) : FVec Ideal S2816x1024 .f32 := shapeCast S2816x1024 X shapeCasts_S4x704x1024_S2816x1024

/-- Where each window's block lies at grid point `t`. -/
theorem places_of_blocks : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] :=
  (by decide +kernel : ∀ t : Fin grid0.N, _)

/-- Row `r` of the block at point `t`. -/
abbrev blockRow (t : Fin cfg0.N) (r : Fin 352) : Fin 2816 := rowOf (m := 8) (n := 352) rfl ⟨t.val, t.isLt⟩ r

variable (t : Fin cfg0.N)

theorem block0 : (iblk m c 0 t : FVec Ideal S352x1024 .f32) (ix2 r d) = flat (arg0 m c) (ix2 (blockRow t r) d) := by
  have e : (win0_0.blk t).view.emb (ix2 r d) = ix2 (blockRow t r) d := by blk_ext [places_of_blocks t]
  show V m c main_v0 ((win0_0.blk t).view.emb (ix2 r d)) = _
  rw [e]
  entry_read
  rfl
theorem block1 : (iblk m c 1 t : FVec Ideal S352x1024 .f32) (ix2 r d) = flat (arg1 m c) (ix2 (blockRow t r) d) := by
  have e : (win0_1.blk t).view.emb (ix2 r d) = ix2 (blockRow t r) d := by blk_ext [places_of_blocks t]
  show V m c main_v1 ((win0_1.blk t).view.emb (ix2 r d)) = _
  rw [e]
  entry_read
  rfl
theorem block2 : (iblk m c 2 t : FVec Ideal S352x1024 .f32) (ix2 r d) = flat (arg2 m c) (ix2 (blockRow t r) d) := by
  have e : (win0_2.blk t).view.emb (ix2 r d) = ix2 (blockRow t r) d := by blk_ext [places_of_blocks t]
  show V m c main_v2 ((win0_2.blk t).view.emb (ix2 r d)) = _
  rw [e]
  entry_read
  rfl
theorem block3 : (iblk m c 3 t : FVec Ideal S352x1024 .f32) (ix2 r d) = flat (arg3 m c) (ix2 (blockRow t r) d) := by
  have e : (win0_3.blk t).view.emb (ix2 r d) = ix2 (blockRow t r) d := by blk_ext [places_of_blocks t]
  show V m c main_v3 ((win0_3.blk t).view.emb (ix2 r d)) = _
  rw [e]
  entry_read
  rfl

/-- The steps, at every entry. -/
def steps (A B C D : FVec Ideal S4x704x1024 .f32) : FVec Ideal S2816x1024 .f32 := fun i => stepAt (flat A i) (flat B i) (flat C i) (flat D i)
/-- The running means. -/
def means (B C : FVec Ideal S4x704x1024 .f32) : FVec Ideal S2816x1024 .f32 := fun i => meanAt (flat B i) (flat C i)
/-- The running means of the squares. -/
def squares (B D : FVec Ideal S4x704x1024 .f32) : FVec Ideal S2816x1024 .f32 := fun i => squareAt (flat B i) (flat D i)

theorem step_final : (dats m 0 c).arrAt 4 cfg0.N = steps (arg0 m c) (arg1 m c) (arg2 m c) (arg3 m c) := by
  refine (dats m 0 c).arrAt_eq_of_covers 4 _ (by decide +kernel) fun t hf y => ?_
  blk_simp
  rw [after0_4]
  obtain ⟨r, d, rfl⟩ : ∃ (r : Fin 352) (d : Fin 1024), y = ix2 r d := ⟨y 0, y 1, Idealize.ShloMosaic.eq_ix2 y⟩
  have e : (win0_4.blk t).view.emb (ix2 r d) = ix2 (blockRow t r) d := by blk_ext [places_of_blocks t]
  rw [e]
  unfold out0_4
  frame_out
  refine (step_block _ _ _ _ r d).trans ?_
  rw [block0, block1, block2, block3]
  rfl
theorem mean_final : (dats m 0 c).arrAt 5 cfg0.N = means (arg1 m c) (arg2 m c) := by
  refine (dats m 0 c).arrAt_eq_of_covers 5 _ (by decide +kernel) fun t hf y => ?_
  blk_simp
  rw [after0_5]
  obtain ⟨r, d, rfl⟩ : ∃ (r : Fin 352) (d : Fin 1024), y = ix2 r d := ⟨y 0, y 1, Idealize.ShloMosaic.eq_ix2 y⟩
  have e : (win0_5.blk t).view.emb (ix2 r d) = ix2 (blockRow t r) d := by blk_ext [places_of_blocks t]
  rw [e]
  unfold out0_5
  frame_out
  refine (mean_block _ _ r d).trans ?_
  rw [block1, block2]
  rfl
theorem square_final : (dats m 0 c).arrAt 6 cfg0.N = squares (arg1 m c) (arg3 m c) := by
  refine (dats m 0 c).arrAt_eq_of_covers 6 _ (by decide +kernel) fun t hf y => ?_
  blk_simp
  rw [after0_6]
  obtain ⟨r, d, rfl⟩ : ∃ (r : Fin 352) (d : Fin 1024), y = ix2 r d := ⟨y 0, y 1, Idealize.ShloMosaic.eq_ix2 y⟩
  have e : (win0_6.blk t).view.emb (ix2 r d) = ix2 (blockRow t r) d := by blk_ext [places_of_blocks t]
  rw [e]
  unfold out0_6
  frame_out
  refine (square_block _ _ r d).trans ?_
  rw [block1, block3]
  rfl
end

/-- The plain program declares no semaphore, so a run of it that leaves the arguments unchanged is the whole frame. -/
theorem reference : Cert.quiescent_AdamReferenceIdeal := fun m g _ =>
  (θ_run _ _ _).mono (fun _ h => ⟨fun c => (h c).2.2.2, funext fun s => by rcases s with ⟨_, s | s⟩ <;> exact Fin.elim0 s⟩)
    (Cert.AdamReferenceIdeal.Value.run m g)

/-- Launched over the same arguments, whatever they are, the two programs end with the same three arrays. -/
theorem value : Cert.algebraic_AdamKernelIdeal_AdamReferenceIdeal := by
  intro m g m' g' _ hagree
  refine ⟨fun c => (Cert.AdamKernelIdeal.Gen.dats m 0 c).arrAt 4 Cert.AdamKernelIdeal.cfg0.N, fun c => (Cert.AdamKernelIdeal.Gen.dats m 0 c).arrAt 5 Cert.AdamKernelIdeal.cfg0.N,
    fun c => (Cert.AdamKernelIdeal.Gen.dats m 0 c).arrAt 6 Cert.AdamKernelIdeal.cfg0.N, Cert.AdamKernelIdeal.Value.run_blocks m g, ?_⟩
  refine (θ_run _ _ _).mono (fun r h c => ?_) (Cert.AdamReferenceIdeal.Value.run m' g')
  obtain ⟨h0, h1, h2, h3⟩ := h c
  obtain ⟨a0, a1, a2, a3⟩ := hagree c
  refine ⟨h0.trans ?_, h1.trans ?_, h2.trans ?_, h3⟩
  · rw [a0, a1, a2, a3]
    refine Eq.trans ?_ (step_final m c).symm
    funext j
    pointwise [steps, flat, stepAt, Cert.AdamKernelIdeal.Gen.k0_pay4, Cert.AdamKernelIdeal.Gen.k0_pay3, Cert.AdamKernelIdeal.Gen.k0_pay2, Cert.AdamKernelIdeal.Gen.k0_pay1]
  · rw [a1, a2]
    refine Eq.trans ?_ (mean_final m c).symm
    funext j
    pointwise [means, flat, meanAt]
  · rw [a1, a3]
    refine Eq.trans ?_ (square_final m c).symm
    funext j
    pointwise [squares, flat, squareAt]

end Cert.Weights.Adam

end
-- ==== Proof.Weights.Parts.lean ====
/- The sum of the devices' parts: the array after the run, and that the plain program gives the same. -/
module

public import proofs.«01_k».proof.Defs
public import proofs.«01_k».proof.Proof.Gen.PartsKernelIdeal.Value
public import proofs.«01_k».proof.Proof.Gen.PartsReferenceIdeal.Run
public import proofs.«01_k».proof.Proof.Layout
public import Idealize.ShloMosaic.Lib.Claim
public import Idealize.ShloMosaic.Lib.Pipeline.ValueKit

@[expose] public section

set_option maxRecDepth 16384

noncomputable section

namespace Cert.Weights.Parts

open Idealize Idealize.ShloMosaic Idealize.SL.Sem Cert.Rows Cert.Layout
open scoped BigOperators

section
open Cert.PartsKernelIdeal Cert.PartsKernelIdeal.Gen

variable (m : (ℓ : Loc nD τ sig) → Buf (Elt Ideal) ℓ) (c : Dev nD)

abbrev argP : FVec Ideal S8x2256x128 .f32 := m ((c.tc : Thread nD τ).loc main_arg0)

/-- Where each window's block lies at grid point `t`. -/
theorem places_of_blocks : ∀ t : Fin cfg0.N, win0_0.index t = ![0, t.val, 0] ∧ win0_1.index t = ![t.val, 0] :=
  (by decide +kernel : ∀ t : Fin grid0.N, _)

/-- Row `r` of the block at point `t`. -/
abbrev blockRow (t : Fin cfg0.N) (r : Fin 376) : Fin 2256 := rowOf (m := 6) (n := 376) rfl ⟨t.val, t.isLt⟩ r

variable (t : Fin cfg0.N) (k : Fin 8) (r : Fin 376) (d : Fin 128)

theorem part_block : (iblk m c 0 t : FVec Ideal S8x376x128 .f32) (ix3 k r d) = argP m c (ix3 k (blockRow t r) d) := by
  have e : (win0_0.blk t).view.emb (ix3 k r d) = ix3 k (blockRow t r) d := by blk_ext [places_of_blocks t]
  show V m c main_arg0 ((win0_0.blk t).view.emb (ix3 k r d)) = _
  rw [e]

/-- What a block gives: the eight parts, one after the other. -/
theorem sum_block (X : FVec Ideal S8x376x128 .f32) : out0_1 (F := Ideal) X (ix2 r d) = ∑ k, X (ix3 k r d) := by
  unfold out0_1
  frame_out
  rw [Fin.sum_univ_eight]
  pointwise [k0_pay1]

/-- The sums of the parts. -/
def sums (X : FVec Ideal S8x2256x128 .f32) : FVec Ideal S2256x128 .f32 := fun j => (∑ k : Fin 8, X (ix3 k (j 0) (j 1)) : EReal)

theorem final : (dats m 0 c).arrAt 1 cfg0.N = sums (argP m c) := by
  refine (dats m 0 c).arrAt_eq_of_covers 1 _ (by decide +kernel) fun t hf y => ?_
  blk_simp
  rw [after0_1]
  obtain ⟨r, d, rfl⟩ : ∃ (r : Fin 376) (d : Fin 128), y = ix2 r d := ⟨y 0, y 1, Idealize.ShloMosaic.eq_ix2 y⟩
  have e : (win0_1.blk t).view.emb (ix2 r d) = ix2 (blockRow t r) d := by blk_ext [places_of_blocks t]
  rw [e, sum_block]
  exact congrArg (fun f : Fin 8 → EReal => ∑ k, f k) (funext fun k => part_block m c t k r d)
end

/-- The plain program declares no semaphore, so a run of it that leaves the argument unchanged is the whole frame. -/
theorem reference : Cert.quiescent_PartsReferenceIdeal := fun m g _ =>
  (θ_run _ _ _).mono (fun _ h => ⟨fun c => (h c).2, funext fun s => by rcases s with ⟨_, s | s⟩ <;> exact Fin.elim0 s⟩)
    (Cert.PartsReferenceIdeal.Value.run m g)

/-- Launched over the same argument, whatever it is, the two programs end with the same sum. -/
theorem value : Cert.algebraic_PartsKernelIdeal_PartsReferenceIdeal := by
  intro m g m' g' _ hagree
  refine ⟨fun c => (Cert.PartsKernelIdeal.Gen.dats m 0 c).arrAt 1 Cert.PartsKernelIdeal.cfg0.N, Cert.PartsKernelIdeal.Value.run_blocks m g, ?_⟩
  refine (θ_run _ _ _).mono (fun r h c => ?_) (Cert.PartsReferenceIdeal.Value.run m' g')
  obtain ⟨h0, h1⟩ := h c
  refine ⟨h0.trans ?_, h1⟩
  rw [hagree c]
  refine Eq.trans ?_ (final m c).symm
  funext j
  pointwise [sums]

end Cert.Weights.Parts

end
-- ==== Proof.Pool.Shift.lean ====
/- Windowed sums along the rows of a 2048 × 128 block, as the kernel forms them: a window of length
   2·d is a window of length d added to itself d rows away. -/
module

public import proofs.«01_k».proof.Defs
public import proofs.«01_k».proof.Proof.Gen.KernelIdeal.Skeleton
public import Idealize.ShloMosaic.Lib.Pointwise
public import Idealize.ShloMosaic.Lib.WordCmp
public import Idealize.ShloMosaic.Lib.Pipeline.ValueKit

@[expose] public section

set_option maxRecDepth 16384

noncomputable section

namespace Cert.Pool

open Idealize.ShloMosaic Idealize.SL.Sem Cert.KernelIdeal Cert.KernelIdeal.Gen

/-- Sum of `f` over the `w` places that end at `t` (fewer at the start of the sequence). -/
def trail (w : ℕ) (f : Fin 2048 → EReal) (t : Fin 2048) : EReal :=
  ∑ u : Fin 2048, if u.val ≤ t.val ∧ t.val < u.val + w then f u else 0

/-- Sum of `f` over the `w` places that begin at `t` (fewer at the end of the sequence). -/
def ahead (w : ℕ) (f : Fin 2048 → EReal) (t : Fin 2048) : EReal :=
  ∑ u : Fin 2048, if t.val ≤ u.val ∧ u.val < t.val + w then f u else 0

theorem trail_one (f : Fin 2048 → EReal) (t : Fin 2048) : trail 1 f t = f t := by
  unfold trail
  rw [Finset.sum_eq_single t]
  · simp
  · intro u _ hu
    rw [if_neg]
    intro h
    exact hu (Fin.ext (by omega))
  · simp

theorem ahead_one (f : Fin 2048 → EReal) (t : Fin 2048) : ahead 1 f t = f t := by
  unfold ahead
  rw [Finset.sum_eq_single t]
  · simp
  · intro u _ hu
    rw [if_neg]
    intro h
    exact hu (Fin.ext (by omega))
  · simp

theorem trail_double (d : ℕ) (f : Fin 2048 → EReal) (t : Fin 2048) :
    trail d f t + (if h : d ≤ t.val then trail d f ⟨t.val - d, by omega⟩ else 0) = trail (d + d) f t := by
  unfold trail
  by_cases h : d ≤ t.val
  · rw [dif_pos h, ← Finset.sum_add_distrib]
    refine Finset.sum_congr rfl fun u _ => ?_
    dsimp only
    split_ifs <;> first | omega | simp
  · rw [dif_neg h, add_zero]
    refine Finset.sum_congr rfl fun u _ => ?_
    split_ifs <;> first | omega | rfl

theorem ahead_double (d : ℕ) (f : Fin 2048 → EReal) (t : Fin 2048) :
    ahead d f t + (if h : t.val + d < 2048 then ahead d f ⟨t.val + d, h⟩ else 0) = ahead (d + d) f t := by
  unfold ahead
  by_cases h : t.val + d < 2048
  · rw [dif_pos h, ← Finset.sum_add_distrib]
    refine Finset.sum_congr rfl fun u _ => ?_
    dsimp only
    split_ifs <;> first | omega | simp
  · rw [dif_neg h, add_zero]
    refine Finset.sum_congr rfl fun u _ => ?_
    have := u.isLt
    split_ifs <;> first | omega | rfl

theorem select_ofBool {α : Type} (p : Prop) [Decidable p] (a b : α) :
    Scalar.select (BitVec.ofBool (decide p)) a b = if p then a else b := by
  by_cases h : p <;> simp [h, Scalar.select]

theorem toInt_word (n : ℕ) (h : n < 2147483648) : (BitVec.ofNat 32 n).toInt = (n : ℤ) := by
  rw [BitVec.toInt_eq_toNat_of_lt (by rw [BitVec.toNat_ofNat]; omega), BitVec.toNat_ofNat, Nat.mod_eq_of_lt (by omega)]

theorem toInt_min (a b : BitVec 32) : (IntOp.minsi a b).toInt = min a.toInt b.toInt := by
  unfold IntOp.minsi
  rw [BitVec.slt]
  by_cases h : a.toInt < b.toInt
  · simp only [h, decide_true, if_true, min_eq_left h.le]
  · simp only [h, decide_false, Bool.false_eq_true, if_false, min_eq_right (not_lt.mp h)]

theorem toInt_max (a b : BitVec 32) : (IntOp.maxsi a b).toInt = max a.toInt b.toInt := by
  unfold IntOp.maxsi
  rw [BitVec.slt]
  by_cases h : b.toInt < a.toInt
  · simp only [h, decide_true, if_true, max_eq_left h.le]
  · simp only [h, decide_false, Bool.false_eq_true, if_false, max_eq_right (not_lt.mp h)]

/-- The row number of every entry of the block. -/
def rowNo : IVec S2048x128 32 := iota .tc S2048x128 32 [0] iota_S2048x128_d0_w32

/-- One doubling backwards in time: `x` plus `x` of `d` rows before, where there is such a row. -/
def stepBack (d : BitVec 32) (x : FVec Ideal S2048x128 .f32) : FVec Ideal S2048x128 .f32 :=
  addf x (select (cmpi .sge rowNo (broadcast S2048x128 d)) (dynamicRotate 0 d none x rotates_S2048x128_d0)
    (broadcast S2048x128 (Scalar.ofBits (F := Ideal) .f32 0x00000000#32)))

/-- One doubling forwards in time: `x` plus `x` of `2048 - e` rows after, where there is such a row. -/
def stepAhead (e : BitVec 32) (x : FVec Ideal S2048x128 .f32) : FVec Ideal S2048x128 .f32 :=
  addf x (select (cmpi .slt rowNo (broadcast S2048x128 e)) (dynamicRotate 0 e none x rotates_S2048x128_d0)
    (broadcast S2048x128 (Scalar.ofBits (F := Ideal) .f32 0x00000000#32)))

theorem stepBack_apply (d : ℕ) (hd : d < 2048) (x : FVec Ideal S2048x128 .f32) (t : Fin 2048) (c : Fin 128) :
    stepBack (BitVec.ofNat 32 d) x (ix2 t c) = x (ix2 t c) + (if h : d ≤ t.val then x (ix2 ⟨t.val - d, by omega⟩ c) else 0) := by
  pointwise [stepBack, rowNo]
  rw [WordCmp.cmpi_sge_ofNat (by omega) (by omega), select_ofBool]
  refine congrArg _ ?_
  by_cases h : d ≤ t.val
  · rw [if_pos h, dif_pos h]
    refine congrArg x (congrArg (fun r => ix2 r c) (Fin.ext ?_))
    simp only [BitVec.toNat_ofNat]
    omega
  · rw [if_neg h, dif_neg h]

theorem stepAhead_apply (d : ℕ) (hd : d < 2048) (x : FVec Ideal S2048x128 .f32) (t : Fin 2048) (c : Fin 128) :
    stepAhead (BitVec.ofNat 32 (2048 - d)) x (ix2 t c) = x (ix2 t c) + (if h : t.val + d < 2048 then x (ix2 ⟨t.val + d, h⟩ c) else 0) := by
  pointwise [stepAhead, rowNo]
  rw [WordCmp.cmpi_slt_ofNat (by omega) (by omega), select_ofBool]
  refine congrArg _ ?_
  by_cases h : t.val + d < 2048
  · rw [if_pos (show t.val < 2048 - d by omega), dif_pos h]
    refine congrArg x (congrArg (fun r => ix2 r c) (Fin.ext ?_))
    simp only [BitVec.toNat_ofNat]
    omega
  · rw [if_neg (show ¬ t.val < 2048 - d by omega), dif_neg h]

/-- How many places the window that ends at `t` holds. -/
def places (w : ℕ) (t : Fin 2048) : EReal := (((min (t.val + 1) w : ℕ) : ℝ) : EReal)

/-- The kernel's count of places. -/
def placesV (w : BitVec 32) : FVec Ideal S2048x128 .f32 :=
  sitofp .f32 (minsi (addi rowNo (broadcast S2048x128 1#32)) (broadcast S2048x128 w))

theorem placesV_apply (w : ℕ) (hw : w < 2048) (t : Fin 2048) (c : Fin 128) :
    placesV (BitVec.ofNat 32 w) (ix2 t c) = places w t := by
  pointwise [placesV, rowNo]
  show (((IntOp.minsi (BitVec.ofNat 32 t.val + 1#32) (BitVec.ofNat 32 w)).toInt : ℝ) : EReal) = _
  rw [show BitVec.ofNat 32 t.val + 1#32 = BitVec.ofNat 32 (t.val + 1) by rw [BitVec.ofNat_add], toInt_min, toInt_word _ (by omega),
    toInt_word _ (by omega)]
  unfold places
  push_cast
  rfl

/-- The chain of doublings backwards in time for the windows 2, 4, 8, 16. -/
def back2 (x : FVec Ideal S2048x128 .f32) : FVec Ideal S2048x128 .f32 := stepBack 1#32 x
def back4 (x : FVec Ideal S2048x128 .f32) : FVec Ideal S2048x128 .f32 := stepBack 2#32 (back2 x)
def back8 (x : FVec Ideal S2048x128 .f32) : FVec Ideal S2048x128 .f32 := stepBack 4#32 (back4 x)
def back16 (x : FVec Ideal S2048x128 .f32) : FVec Ideal S2048x128 .f32 := stepBack 8#32 (back8 x)

/-- The chain of doublings forwards in time for the windows 2, 4, 8, 16. -/
def ahead2 (x : FVec Ideal S2048x128 .f32) : FVec Ideal S2048x128 .f32 := stepAhead 2047#32 x
def ahead4 (x : FVec Ideal S2048x128 .f32) : FVec Ideal S2048x128 .f32 := stepAhead 2046#32 (ahead2 x)
def ahead8 (x : FVec Ideal S2048x128 .f32) : FVec Ideal S2048x128 .f32 := stepAhead 2044#32 (ahead4 x)
def ahead16 (x : FVec Ideal S2048x128 .f32) : FVec Ideal S2048x128 .f32 := stepAhead 2040#32 (ahead8 x)

/-- `B` sums, down every column, the `w` rows that end at each row. -/
def Trails (w : ℕ) (B : FVec Ideal S2048x128 .f32 → FVec Ideal S2048x128 .f32) : Prop :=
  ∀ x t c, B x (ix2 t c) = trail w (fun u => x (ix2 u c)) t

/-- `A` sums, down every column, the `w` rows that begin at each row. -/
def Aheads (w : ℕ) (A : FVec Ideal S2048x128 .f32 → FVec Ideal S2048x128 .f32) : Prop :=
  ∀ x t c, A x (ix2 t c) = ahead w (fun u => x (ix2 u c)) t

theorem Trails.step {d : ℕ} (hd : d < 2048) {B : FVec Ideal S2048x128 .f32 → FVec Ideal S2048x128 .f32} (h : Trails d B) :
    Trails (d + d) (fun x => stepBack (BitVec.ofNat 32 d) (B x)) := by
  intro x t c
  dsimp only
  rw [stepBack_apply d hd, ← trail_double, h]
  refine congrArg _ ?_
  split_ifs
  · rw [h]
  · rfl

theorem Aheads.step {d : ℕ} (hd : d < 2048) {A : FVec Ideal S2048x128 .f32 → FVec Ideal S2048x128 .f32} (h : Aheads d A) :
    Aheads (d + d) (fun x => stepAhead (BitVec.ofNat 32 (2048 - d)) (A x)) := by
  intro x t c
  dsimp only
  rw [stepAhead_apply d hd, ← ahead_double, h]
  refine congrArg _ ?_
  split_ifs
  · rw [h]
  · rfl

theorem trails1 : Trails 1 (fun x => x) := fun x t c => (trail_one (fun u => x (ix2 u c)) t).symm
theorem aheads1 : Aheads 1 (fun x => x) := fun x t c => (ahead_one (fun u => x (ix2 u c)) t).symm
theorem trails2 : Trails 2 back2 := trails1.step (d := 1) (by decide)
theorem trails4 : Trails 4 back4 := trails2.step (d := 2) (by decide)
theorem trails8 : Trails 8 back8 := trails4.step (d := 4) (by decide)
theorem trails16 : Trails 16 back16 := trails8.step (d := 8) (by decide)
theorem aheads2 : Aheads 2 ahead2 := aheads1.step (d := 1) (by decide)
theorem aheads4 : Aheads 4 ahead4 := aheads2.step (d := 2) (by decide)
theorem aheads8 : Aheads 8 ahead8 := aheads4.step (d := 4) (by decide)
theorem aheads16 : Aheads 16 ahead16 := aheads8.step (d := 8) (by decide)

end Cert.Pool

end
-- ==== Proof.Pool.Group.lean ====
/- What the kernel computes for one group of 128 channels of one sequence, as functions of the
   group's tokens, its map, the cotangent and the scale; and each stored piece as one of them. -/
module

public import proofs.«01_k».proof.Proof.Pool.Shift

@[expose] public section

set_option maxRecDepth 16384

noncomputable section

namespace Cert.Pool

open Idealize.ShloMosaic Idealize.SL.Sem Cert.KernelIdeal Cert.KernelIdeal.Gen

/-- One group's tokens or cotangents: 2048 rows of 128 channels. -/
abbrev Rows := FVec Ideal S2048x128 .f32
/-- One group's map under its leading unit axis. -/
abbrev Map := FVec Ideal S1x128x128 .f32
/-- One row of 128 channels. -/
abbrev Row := FVec Ideal S1x128 .f32

section Scalar
variable (w : ℕ) (x : Fin 2048 → Fin 128 → EReal) (μ : Fin 128 → Fin 128 → EReal) (ct : Fin 2048 → Fin 128 → EReal) (sc : Fin 128 → EReal)

/-- The window's mean minus the token itself. -/
def pooledAt (t : Fin 2048) (c : Fin 128) : EReal := Ideal.div (trail w (fun u => x u c) t) (places w t) - x t c
/-- The pooled token under the group's map. -/
def mixedAt (t : Fin 2048) (d : Fin 128) : EReal := ∑ c : Fin 128, pooledAt w x t c * μ c d
/-- The cotangent of the mixed token. -/
def dmixedAt (t : Fin 2048) (d : Fin 128) : EReal := ct t d * sc d
/-- The cotangent of the pooled token. -/
def dpooledAt (t : Fin 2048) (c : Fin 128) : EReal := ∑ d : Fin 128, dmixedAt ct sc t d * μ c d
/-- The gradient of the token. -/
def dtokenAt (t : Fin 2048) (c : Fin 128) : EReal :=
  ahead w (fun u => Ideal.div (dpooledAt μ ct sc u c) (places w u)) t - dpooledAt μ ct sc t c
/-- One sequence's part of the gradient of the map. -/
def dmapAt (c d : Fin 128) : EReal := ∑ t : Fin 2048, pooledAt w x t c * dmixedAt ct sc t d
/-- One sequence's part of the gradient of the scale. -/
def dscaleAt (d : Fin 128) : EReal := ∑ t : Fin 2048, ct t d * mixedAt w x μ t d
end Scalar

section Vector
variable (w : BitVec 32) (B : Rows → Rows) (x : Rows) (μ : Map) (ct : Rows) (sc : Row)

/-- A block under the kernel's cast of its shape to itself. -/
def same (x : Rows) : Rows := shapeCast S2048x128 x shapeCasts_S2048x128_S2048x128
def pooledV : FVec Ideal S2048x128 .bf16 := truncf .bf16 (subf (divf (B (same x)) (placesV w)) (same x)) bitsLt_bf16_f32
def mapV : FVec Ideal S128x128 .bf16 := truncf .bf16 (shapeCast S128x128 μ shapeCasts_S1x128x128_S128x128) bitsLt_bf16_f32
def mixedV : Rows :=
  matmul dot_S2048x128_S128x128_S2048x128_1_0_0_1_n_n none (pooledV w B x) (mapV μ) (constant S2048x128 .f32 0x00000000#32)
def dscaleV : Row :=
  shapeCast S1x128 (multiReduction .add [0] S128 (mulf (same ct) (mixedV w B x μ)) 0x00000000#32 reduces_S2048x128_S128 (.inl rfl) rfl)
    shapeCasts_S128_S1x128
def dmixedV : FVec Ideal S2048x128 .bf16 :=
  truncf .bf16 (mulf (same ct) (broadcastTo S2048x128 (shapeCast S1x128 sc shapeCasts_S1x128_S1x128) broadcasts_S1x128_S2048x128)) bitsLt_bf16_f32
def dmapV : FVec Ideal S128x128 .f32 :=
  matmul dot_S2048x128_S2048x128_S128x128_0_0_1_1_n_n none (pooledV w B x) (dmixedV ct sc) (constant S128x128 .f32 0x00000000#32)
def dpooledV : Rows :=
  matmul dot_S2048x128_S128x128_S2048x128_1_1_0_0_n_n none (dmixedV ct sc) (mapV μ) (constant S2048x128 .f32 0x00000000#32)
def dtokenV : Rows := subf (B (divf (dpooledV μ ct sc) (placesV w))) (dpooledV μ ct sc)
end Vector

theorem same_apply (x : Rows) (t : Fin 2048) (c : Fin 128) : same x (ix2 t c) = x (ix2 t c) := by
  pointwise [same]

theorem pooledV_apply {w : ℕ} (hw : w < 2048) {B : Rows → Rows} (hB : Trails w B) (x : Rows) (t : Fin 2048) (c : Fin 128) :
    pooledV (BitVec.ofNat 32 w) B x (ix2 t c) = pooledAt w (fun u c => x (ix2 u c)) t c := by
  show Ideal.div (B (same x) (ix2 t c)) (placesV _ (ix2 t c)) - same x (ix2 t c) = _
  rw [hB, placesV_apply w hw, same_apply]
  simp only [same_apply]
  rfl

theorem mapV_apply (μ : Map) (c d : Fin 128) : mapV μ (ix2 c d) = μ (ix3 0 c d) := by
  pointwise [mapV]

theorem mixedV_apply {w : ℕ} (hw : w < 2048) {B : Rows → Rows} (hB : Trails w B) (x : Rows) (μ : Map) (t : Fin 2048) (d : Fin 128) :
    mixedV (BitVec.ofNat 32 w) B x μ (ix2 t d) = mixedAt w (fun u c => x (ix2 u c)) (fun c d => μ (ix3 0 c d)) t d := by
  pointwise [mixedV]
  simp only [pooledV_apply hw hB, mapV_apply]
  rfl

theorem dmixedV_apply (ct : Rows) (sc : Row) (t : Fin 2048) (d : Fin 128) :
    dmixedV ct sc (ix2 t d) = dmixedAt (fun u c => ct (ix2 u c)) (fun c => sc (ix2 0 c)) t d := by
  pointwise [dmixedV, same]
  rfl

theorem dscaleV_apply {w : ℕ} (hw : w < 2048) {B : Rows → Rows} (hB : Trails w B) (x : Rows) (μ : Map) (ct : Rows) (d : Fin 128) :
    dscaleV (BitVec.ofNat 32 w) B x μ ct (ix2 0 d) = dscaleAt w (fun u c => x (ix2 u c)) (fun c d => μ (ix3 0 c d)) (fun u c => ct (ix2 u c)) d := by
  pointwise [dscaleV]
  simp only [mixedV_apply hw hB, same_apply]
  rfl

theorem dmapV_apply {w : ℕ} (hw : w < 2048) {B : Rows → Rows} (hB : Trails w B) (x : Rows) (ct : Rows) (sc : Row) (c d : Fin 128) :
    dmapV (BitVec.ofNat 32 w) B x ct sc (ix2 c d) = dmapAt w (fun u c => x (ix2 u c)) (fun u c => ct (ix2 u c)) (fun c => sc (ix2 0 c)) c d := by
  pointwise [dmapV]
  simp only [pooledV_apply hw hB, dmixedV_apply]
  rfl

theorem dpooledV_apply (μ : Map) (ct : Rows) (sc : Row) (t : Fin 2048) (c : Fin 128) :
    dpooledV μ ct sc (ix2 t c) = dpooledAt (fun c d => μ (ix3 0 c d)) (fun u c => ct (ix2 u c)) (fun c => sc (ix2 0 c)) t c := by
  pointwise [dpooledV]
  simp only [mapV_apply, dmixedV_apply]
  rfl

theorem dtokenV_apply {w : ℕ} (hw : w < 2048) {A : Rows → Rows} (hA : Aheads w A) (μ : Map) (ct : Rows) (sc : Row) (t : Fin 2048) (c : Fin 128) :
    dtokenV (BitVec.ofNat 32 w) A μ ct sc (ix2 t c) =
      dtokenAt w (fun c d => μ (ix3 0 c d)) (fun u c => ct (ix2 u c)) (fun c => sc (ix2 0 c)) t c := by
  show A _ (ix2 t c) - dpooledV μ ct sc (ix2 t c) = _
  rw [hA, dpooledV_apply]
  have e : ∀ u, divf (dpooledV μ ct sc) (placesV (BitVec.ofNat 32 w)) (ix2 u c) =
      Ideal.div (dpooledV μ ct sc (ix2 u c)) (placesV (BitVec.ofNat 32 w) (ix2 u c)) := fun _ => rfl
  simp only [e, placesV_apply w hw, dpooledV_apply]
  rfl

/-! The stored pieces, group by group. -/

theorem dtoken0 (x : Rows) (μ : Map) (ct : Rows) (sc : Row) :
    k0_pay16 (k0_pay12 μ ct sc) (k0_pay13 μ ct sc) k0_pay14 (k0_pay15 μ ct sc) = dtokenV 2#32 ahead2 μ ct sc := rfl
theorem dtoken1 (μ : Map) (ct : Rows) (sc : Row) :
    k0_pay28 rowNo (k0_pay20 rowNo) (k0_pay22 μ) ct sc = dtokenV 4#32 ahead4 μ ct sc := rfl
theorem dtoken2 (μ : Map) (ct : Rows) (sc : Row) :
    k0_pay42 rowNo (k0_pay34 rowNo) (k0_pay41 μ ct sc) = dtokenV 8#32 ahead8 μ ct sc := rfl
theorem dtoken3 (μ : Map) (ct : Rows) (sc : Row) :
    k0_pay1 rowNo (k0_pay49 rowNo) (k0_pay56 μ ct sc) = dtokenV 16#32 ahead16 μ ct sc := rfl

theorem dmap0 (x : Rows) (ct : Rows) (sc : Row) : k0_pay11 x ct sc = dmapV 2#32 back2 x ct sc := rfl
theorem dmap1 (x : Rows) (ct : Rows) (sc : Row) : k0_pay27 (k0_pay21 rowNo x) ct sc = dmapV 4#32 back4 x ct sc := rfl
theorem dmap2 (x : Rows) (ct : Rows) (sc : Row) :
    k0_pay40 rowNo (k0_pay32 x) (k0_pay33 rowNo) 1#32 ct sc = dmapV 8#32 back8 x ct sc := rfl
theorem dmap3 (x : Rows) (ct : Rows) (sc : Row) :
    k0_pay55 rowNo (k0_pay46 x) (k0_pay47 rowNo x) (k0_pay48 rowNo) 2#32 ct sc = dmapV 16#32 back16 x ct sc := rfl

theorem dscale0 (x : Rows) (μ : Map) (ct : Rows) : k0_pay9 x μ ct = dscaleV 2#32 back2 x μ ct := rfl
theorem dscale1 (x : Rows) (μ : Map) (ct : Rows) : k0_pay25 (k0_pay23 rowNo x μ) ct = dscaleV 4#32 back4 x μ ct := rfl
theorem dscale2 (x : Rows) (μ : Map) (ct : Rows) :
    k0_pay38 rowNo (k0_pay32 x) (k0_pay33 rowNo) 1#32 μ ct = dscaleV 8#32 back8 x μ ct := rfl
theorem dscale3 (x : Rows) (μ : Map) (ct : Rows) :
    k0_pay53 rowNo (k0_pay46 x) (k0_pay47 rowNo x) (k0_pay48 rowNo) 2#32 μ ct = dscaleV 16#32 back16 x μ ct := rfl

end Cert.Pool

end
-- ==== Proof.Pool.Blocks.lean ====
/- The gradients of the pooling as functions of the whole arrays, and the blocks of its inputs that a
   grid point is given: grid point `b` works on sequence `b`. -/
module

public import proofs.«01_k».proof.Proof.Pool.Group
public import proofs.«01_k».proof.Proof.Gen.KernelIdeal.Value
public import Idealize.ShloMosaic.Lib.Claim

@[expose] public section

set_option maxRecDepth 16384

noncomputable section

namespace Cert.Pool

open Idealize.ShloMosaic Idealize.SL.Sem Cert.KernelIdeal Cert.KernelIdeal.Gen

/-- The windows of the four groups. -/
def win : Fin 4 → ℕ := ![2, 4, 8, 16]
/-- Channel `k` of group `g`. -/
def chan (g : Fin 4) (k : Fin 128) : Fin 512 := ⟨128 * g.val + k.val, by omega⟩
/-- Group `g` of sequence `b`. -/
def part (X : FVec Ideal S2x2048x512 .f32) (b : Fin 2) (g : Fin 4) : Fin 2048 → Fin 128 → EReal := fun t k => X (ix3 b t (chan g k))
/-- The map of group `g`. -/
def mapOf (M : FVec Ideal S4x128x128 .f32) (g : Fin 4) : Fin 128 → Fin 128 → EReal := fun k d => M (ix3 g k d)
/-- The scales of group `g`. -/
def scaleOf (sc : FVec Ideal S512 .f32) (g : Fin 4) : Fin 128 → EReal := fun k => sc (ix1 (chan g k))

section
variable (X : FVec Ideal S2x2048x512 .f32) (M : FVec Ideal S4x128x128 .f32) (sc : FVec Ideal S512 .f32) (CT : FVec Ideal S2x2048x512 .f32)

/-- The gradient of the tokens. -/
def dTokens (b : Fin 2) (t : Fin 2048) (g : Fin 4) (k : Fin 128) : EReal :=
  dtokenAt (win g) (mapOf M g) (part CT b g) (scaleOf sc g) t k
/-- The gradient of the maps: the two sequences' parts added. -/
def dMaps (g : Fin 4) (k d : Fin 128) : EReal :=
  dmapAt (win g) (part X 0 g) (part CT 0 g) (scaleOf sc g) k d + dmapAt (win g) (part X 1 g) (part CT 1 g) (scaleOf sc g) k d
/-- The gradient of the scales: the two sequences' parts added. -/
def dScales (g : Fin 4) (k : Fin 128) : EReal :=
  dscaleAt (win g) (part X 0 g) (mapOf M g) (part CT 0 g) k + dscaleAt (win g) (part X 1 g) (mapOf M g) (part CT 1 g) k
end

variable (m : (ℓ : Loc nD τ sig) → Buf (Elt Ideal) ℓ)

/-- The tokens the program is launched with. -/
abbrev argX (c : Dev nD) : FVec Ideal S2x2048x512 .f32 := m ((c.tc : Thread nD τ).loc main_arg0)
/-- The maps. -/
abbrev argM (c : Dev nD) : FVec Ideal S4x128x128 .f32 := m ((c.tc : Thread nD τ).loc main_arg1)
/-- The scales. -/
abbrev argS (c : Dev nD) : FVec Ideal S512 .f32 := m ((c.tc : Thread nD τ).loc main_arg2)
/-- The cotangent. -/
abbrev argC (c : Dev nD) : FVec Ideal S2x2048x512 .f32 := m ((c.tc : Thread nD τ).loc main_arg3)

/-- Where each window's block lies at grid point `t`. -/
theorem places_of_blocks : ∀ t : Fin cfg0.N, win0_0.index t = ![t.val, 0] ∧ win0_1.index t = ![t.val, 0] ∧ win0_2.index t = ![0, 0, 0] ∧
    win0_3.index t = ![0, 0] ∧ win0_4.index t = ![t.val, 0] ∧ win0_5.index t = ![0, 0, 0] ∧ win0_6.index t = ![0, 0] :=
  (by decide +kernel : ∀ t : Fin grid0.N, _)

/-- The sequence that grid point `t` works on. -/
def seqOf (t : Fin cfg0.N) : Fin 2 := ⟨t.val, t.isLt⟩

/-- The two sequences laid one after the other. -/
theorem stacked_apply {α : Type} (X : S2x2048x512.Idx → α) (b : Fin 2) (r : Fin 2048) (k : Fin 512) (h : b.val * 2048 + r.val < 4096) :
    shapeCast S4096x512 X shapeCasts_S2x2048x512_S4096x512 (ix2 ⟨b.val * 2048 + r.val, h⟩ k) = X (ix3 b r k) := by
  pointwise
  blk_ext

theorem row_apply {α : Type} (X : S512.Idx → α) (k : Fin 512) :
    shapeCast S1x512 X shapeCasts_S512_S1x512 (ix2 0 k) = X (ix1 k) := by
  pointwise

theorem iblk_tokens (c : Dev nD) (t : Fin cfg0.N) (r : Fin 2048) (k : Fin 512) :
    (iblk m c 0 t : FVec Ideal S2048x512 .f32) (ix2 r k) = argX m c (ix3 (seqOf t) r k) := by
  have ht : t.val < 2 := t.isLt
  have e : (win0_0.blk t).view.emb (ix2 r k) = ix2 ⟨t.val * 2048 + r.val, by omega⟩ k := by blk_ext [places_of_blocks t]
  show V m c main_v0 ((win0_0.blk t).view.emb (ix2 r k)) = _
  rw [e]
  entry_read
  exact stacked_apply _ (seqOf t) r k (by show t.val * 2048 + r.val < 4096; omega)

theorem iblk_cot (c : Dev nD) (t : Fin cfg0.N) (r : Fin 2048) (k : Fin 512) :
    (iblk m c 1 t : FVec Ideal S2048x512 .f32) (ix2 r k) = argC m c (ix3 (seqOf t) r k) := by
  have ht : t.val < 2 := t.isLt
  have e : (win0_1.blk t).view.emb (ix2 r k) = ix2 ⟨t.val * 2048 + r.val, by omega⟩ k := by blk_ext [places_of_blocks t]
  show V m c main_v1 ((win0_1.blk t).view.emb (ix2 r k)) = _
  rw [e]
  entry_read
  exact stacked_apply _ (seqOf t) r k (by show t.val * 2048 + r.val < 4096; omega)

theorem iblk_maps (c : Dev nD) (t : Fin cfg0.N) (g : Fin 4) (k d : Fin 128) :
    (iblk m c 2 t : FVec Ideal S4x128x128 .f32) (ix3 g k d) = argM m c (ix3 g k d) := by
  blk_ext [iblk, V, places_of_blocks t]

theorem iblk_scales (c : Dev nD) (t : Fin cfg0.N) (k : Fin 512) :
    (iblk m c 3 t : FVec Ideal S1x512 .f32) (ix2 0 k) = argS m c (ix1 k) := by
  have e : (win0_3.blk t).view.emb (ix2 0 k) = ix2 0 k := by blk_ext [places_of_blocks t]
  show V m c main_v2 ((win0_3.blk t).view.emb (ix2 0 k)) = _
  rw [e]
  entry_read
  exact row_apply _ k

end Cert.Pool

end
-- ==== Proof.Pool.Points.lean ====
/- What a grid point leaves in its three result blocks: the gradients for its sequence, the gradients
   of the maps and of the scales being added to what the point before left. -/
module

public import proofs.«01_k».proof.Proof.Pool.Blocks

@[expose] public section

set_option maxRecDepth 16384

noncomputable section

namespace Cert.Pool

open Idealize.ShloMosaic Idealize.SL.Sem Cert.KernelIdeal Cert.KernelIdeal.Gen

variable (m : (ℓ : Loc nD τ sig) → Buf (Elt Ideal) ℓ)

/-- The group of a channel. -/
def grp (k : Fin 512) : Fin 4 := ⟨k.val / 128, by omega⟩
/-- The place of a channel in its group. -/
def lane (k : Fin 512) : Fin 128 := ⟨k.val % 128, by omega⟩

theorem grp_of {k : Fin 512} {g : Fin 4} {l : Fin 128} (h : k.val = 128 * g.val + l.val) : grp k = g :=
  Fin.ext (by show k.val / 128 = g.val; omega)
theorem lane_of {k : Fin 512} {g : Fin 4} {l : Fin 128} (h : k.val = 128 * g.val + l.val) : lane k = l :=
  Fin.ext (by show k.val % 128 = l.val; omega)

theorem win_lt (g : Fin 4) : win g < 2048 := by revert g; decide
theorem rows_cases (x : S2048x128.Idx) : ∃ (r : Fin 2048) (k : Fin 128), x = ix2 r k := ⟨x 0, x 1, by funext a; fin_cases a <;> rfl⟩
theorem map_cases (x : S1x128x128.Idx) : ∃ k d : Fin 128, x = ix3 0 k d :=
  ⟨x 1, x 2, by
    funext a
    fin_cases a
    · exact Subsingleton.elim (α := Fin 1) _ _
    all_goals rfl⟩
theorem row_cases (x : S1x128.Idx) : ∃ k : Fin 128, x = ix2 0 k :=
  ⟨x 1, by
    funext a
    fin_cases a
    · exact Subsingleton.elim (α := Fin 1) _ _
    · rfl⟩

theorem load_rows (Y : Vec Ideal S2048x512 .f32) (g : Fin 4) (inb : ∀ a, (![0, 128 * g.val] : Fin 2 → ℕ) a + S2048x128.size a ≤ S2048x512.size a) (t : Fin 2048) (k : Fin 128) :
    View.ld Y (Rect.unit ![0, 128 * g.val] S2048x128.size inb) (ix2 t k) = Y (ix2 t (chan g k)) := by
  pointwise
  try rfl

theorem load_map (Y : Vec Ideal S4x128x128 .f32) (g : Fin 4) (inb : ∀ a, (![g.val, 0, 0] : Fin 3 → ℕ) a + S1x128x128.size a ≤ S4x128x128.size a) (k d : Fin 128) :
    View.ld Y (Rect.unit ![g.val, 0, 0] S1x128x128.size inb) (ix3 0 k d) = Y (ix3 g k d) := by
  pointwise
  try rfl

theorem load_row (Y : Vec Ideal S1x512 .f32) (g : Fin 4) (inb : ∀ a, (![0, 128 * g.val] : Fin 2 → ℕ) a + S1x128.size a ≤ S1x512.size a) (k : Fin 128) :
    View.ld Y (Rect.unit ![0, 128 * g.val] S1x128.size inb) (ix2 0 k) = Y (ix2 0 (chan g k)) := by
  pointwise
  try rfl

/-- The columns of group `g` of a point's tokens. -/
theorem tokens_part (c : Dev nD) (t : Fin cfg0.N) (g : Fin 4) (inb : ∀ a, (![0, 128 * g.val] : Fin 2 → ℕ) a + S2048x128.size a ≤ S2048x512.size a) :
    (fun u k => View.ld (iblk m c 0 t) (Rect.unit ![0, 128 * g.val] S2048x128.size inb) (ix2 u k)) = part (argX m c) (seqOf t) g := by
  funext u k
  exact (load_rows _ g inb u k).trans (iblk_tokens m c t u (chan g k))

theorem cot_part (c : Dev nD) (t : Fin cfg0.N) (g : Fin 4) (inb : ∀ a, (![0, 128 * g.val] : Fin 2 → ℕ) a + S2048x128.size a ≤ S2048x512.size a) :
    (fun u k => View.ld (iblk m c 1 t) (Rect.unit ![0, 128 * g.val] S2048x128.size inb) (ix2 u k)) = part (argC m c) (seqOf t) g := by
  funext u k
  exact (load_rows _ g inb u k).trans (iblk_cot m c t u (chan g k))

theorem map_part (c : Dev nD) (t : Fin cfg0.N) (g : Fin 4) (inb : ∀ a, (![g.val, 0, 0] : Fin 3 → ℕ) a + S1x128x128.size a ≤ S4x128x128.size a) :
    (fun k d => View.ld (iblk m c 2 t) (Rect.unit ![g.val, 0, 0] S1x128x128.size inb) (ix3 0 k d)) = mapOf (argM m c) g := by
  funext k d
  exact (load_map _ g inb k d).trans (iblk_maps m c t g k d)

theorem scale_part (c : Dev nD) (t : Fin cfg0.N) (g : Fin 4) (inb : ∀ a, (![0, 128 * g.val] : Fin 2 → ℕ) a + S1x128.size a ≤ S1x512.size a) :
    (fun k => View.ld (iblk m c 3 t) (Rect.unit ![0, 128 * g.val] S1x128.size inb) (ix2 0 k)) = scaleOf (argS m c) g := by
  funext k
  exact (load_row _ g inb k).trans (iblk_scales m c t (chan g k))

/-- A stored piece of the tokens' gradient, at an entry of the block. -/
theorem dtoken_piece {A : Rows → Rows} (c : Dev nD) (t : Fin cfg0.N) (g : Fin 4) (hA : Aheads (win g) A)
    (i₁ : ∀ a, (![0, 128 * g.val] : Fin 2 → ℕ) a + S2048x128.size a ≤ S2048x512.size a)
    (i₂ : ∀ a, (![g.val, 0, 0] : Fin 3 → ℕ) a + S1x128x128.size a ≤ S4x128x128.size a)
    (i₃ : ∀ a, (![0, 128 * g.val] : Fin 2 → ℕ) a + S1x128.size a ≤ S1x512.size a)
    (i : S2048x512.Idx) (r : Fin 2048) (k : Fin 128) (h0 : (i 0).val = r.val) (h1 : (i 1).val = 128 * g.val + k.val) :
    dtokenV (BitVec.ofNat 32 (win g)) A (View.ld (iblk m c 2 t) (Rect.unit ![g.val, 0, 0] S1x128x128.size i₂))
      (View.ld (iblk m c 1 t) (Rect.unit ![0, 128 * g.val] S2048x128.size i₁))
      (View.ld (iblk m c 3 t) (Rect.unit ![0, 128 * g.val] S1x128.size i₃)) (ix2 r k) =
    dTokens (argM m c) (argS m c) (argC m c) (seqOf t) (i 0) (grp (i 1)) (lane (i 1)) := by
  have hw := win_lt g
  rw [dtokenV_apply hw hA, cot_part m c t g i₁, map_part m c t g i₂, scale_part m c t g i₃, grp_of (l := k) h1, lane_of h1]
  rw [show i 0 = r from Fin.ext h0]
  rfl

/-- A stored piece of the maps' gradient. -/
theorem dmap_piece {B : Rows → Rows} (c : Dev nD) (t : Fin cfg0.N) (g : Fin 4) (hB : Trails (win g) B)
    (i₁ : ∀ a, (![0, 128 * g.val] : Fin 2 → ℕ) a + S2048x128.size a ≤ S2048x512.size a)
    (i₃ : ∀ a, (![0, 128 * g.val] : Fin 2 → ℕ) a + S1x128.size a ≤ S1x512.size a) (k d : Fin 128) :
    dmapV (BitVec.ofNat 32 (win g)) B (View.ld (iblk m c 0 t) (Rect.unit ![0, 128 * g.val] S2048x128.size i₁))
      (View.ld (iblk m c 1 t) (Rect.unit ![0, 128 * g.val] S2048x128.size i₁))
      (View.ld (iblk m c 3 t) (Rect.unit ![0, 128 * g.val] S1x128.size i₃)) (ix2 k d) =
    dmapAt (win g) (part (argX m c) (seqOf t) g) (part (argC m c) (seqOf t) g) (scaleOf (argS m c) g) k d := by
  have hw := win_lt g
  rw [dmapV_apply hw hB, cot_part m c t g i₁, tokens_part m c t g i₁, scale_part m c t g i₃]

/-- A stored piece of the scales' gradient. -/
theorem dscale_piece {B : Rows → Rows} (c : Dev nD) (t : Fin cfg0.N) (g : Fin 4) (hB : Trails (win g) B)
    (i₁ : ∀ a, (![0, 128 * g.val] : Fin 2 → ℕ) a + S2048x128.size a ≤ S2048x512.size a)
    (i₂ : ∀ a, (![g.val, 0, 0] : Fin 3 → ℕ) a + S1x128x128.size a ≤ S4x128x128.size a) (k : Fin 128) :
    dscaleV (BitVec.ofNat 32 (win g)) B (View.ld (iblk m c 0 t) (Rect.unit ![0, 128 * g.val] S2048x128.size i₁))
      (View.ld (iblk m c 2 t) (Rect.unit ![g.val, 0, 0] S1x128x128.size i₂))
      (View.ld (iblk m c 1 t) (Rect.unit ![0, 128 * g.val] S2048x128.size i₁)) (ix2 0 k) =
    dscaleAt (win g) (part (argX m c) (seqOf t) g) (mapOf (argM m c) g) (part (argC m c) (seqOf t) g) k := by
  have hw := win_lt g
  rw [dscaleV_apply hw hB, cot_part m c t g i₁, tokens_part m c t g i₁, map_part m c t g i₂]

theorem tokens_A (c : Dev nD) (t : Fin cfg0.N) (h0 : t.val % 2 = 0) (h1 : ¬t.val % 2 = 1) (i : S2048x512.Idx) :
    (outsAt0 m c t.val t.isLt).1 i = dTokens (argM m c) (argS m c) (argC m c) (seqOf t) (i 0) (grp (i 1)) (lane (i 1)) := by
  rw [outsAt0_A m c t h0 h1 h0 h1 h0 h1 h0 h1]
  frame_out
  canon_tiles x h <;> obtain ⟨r, k, rfl⟩ := rows_cases x
  · exact dtoken_piece m c t 3 aheads16 _ _ _ i r k h0 h1
  · exact dtoken_piece m c t 2 aheads8 _ _ _ i r k h0 h1
  · exact dtoken_piece m c t 1 aheads4 _ _ _ i r k h0 h1
  · exact dtoken_piece m c t 0 aheads2 _ _ _ i r k h0 (h1.trans (Nat.zero_add _).symm)

theorem tokens_B (c : Dev nD) (t : Fin cfg0.N) (h0 : ¬t.val % 2 = 0) (h1 : t.val % 2 = 1) (i : S2048x512.Idx) :
    (outsAt0 m c t.val t.isLt).1 i = dTokens (argM m c) (argS m c) (argC m c) (seqOf t) (i 0) (grp (i 1)) (lane (i 1)) := by
  rw [outsAt0_B m c t h0 h1 h0 h1 h0 h1 h0 h1]
  frame_out
  canon_tiles x h <;> obtain ⟨r, k, rfl⟩ := rows_cases x
  · exact dtoken_piece m c t 3 aheads16 _ _ _ i r k h0 h1
  · exact dtoken_piece m c t 2 aheads8 _ _ _ i r k h0 h1
  · exact dtoken_piece m c t 1 aheads4 _ _ _ i r k h0 h1
  · exact dtoken_piece m c t 0 aheads2 _ _ _ i r k h0 (h1.trans (Nat.zero_add _).symm)

/-- A stored piece of the maps' gradient at the first point. -/
def firstMap (D : FVec Ideal S128x128 .f32) : Map := shapeCast S1x128x128 D shapeCasts_S128x128_S1x128x128
/-- A stored piece of the maps' gradient at a later point: what was there, plus the point's part. -/
def nextMap (D : FVec Ideal S128x128 .f32) (P : Map) : Map :=
  shapeCast S1x128x128 (addf (shapeCast S128x128 P shapeCasts_S1x128x128_S128x128) D) shapeCasts_S128x128_S1x128x128
/-- A stored piece of the scales' gradient at a later point. -/
def nextRow (D : Row) (P : Row) : Row := addf (shapeCast S1x128 P shapeCasts_S1x128_S1x128) D

theorem firstMap_apply (D : FVec Ideal S128x128 .f32) (k d : Fin 128) : firstMap D (ix3 0 k d) = D (ix2 k d) := by
  pointwise [firstMap]
theorem nextMap_apply (D : FVec Ideal S128x128 .f32) (P : Map) (k d : Fin 128) : nextMap D P (ix3 0 k d) = P (ix3 0 k d) + D (ix2 k d) := by
  pointwise [nextMap]
theorem nextRow_apply (D P : Row) (k : Fin 128) : nextRow D P (ix2 0 k) = P (ix2 0 k) + D (ix2 0 k) := by
  pointwise [nextRow]

/-- The part of the maps' gradient that grid point `t` computes. -/
def mapPart (c : Dev nD) (t : Fin cfg0.N) (g : Fin 4) (k d : Fin 128) : EReal :=
  dmapAt (win g) (part (argX m c) (seqOf t) g) (part (argC m c) (seqOf t) g) (scaleOf (argS m c) g) k d
/-- The part of the scales' gradient that grid point `t` computes. -/
def scalePart (c : Dev nD) (t : Fin cfg0.N) (g : Fin 4) (k : Fin 128) : EReal :=
  dscaleAt (win g) (part (argX m c) (seqOf t) g) (mapOf (argM m c) g) (part (argC m c) (seqOf t) g) k

theorem firstMap_piece {B : Rows → Rows} (c : Dev nD) (t : Fin cfg0.N) (g : Fin 4) (hB : Trails (win g) B)
    (i₁ : ∀ a, (![0, 128 * g.val] : Fin 2 → ℕ) a + S2048x128.size a ≤ S2048x512.size a)
    (i₃ : ∀ a, (![0, 128 * g.val] : Fin 2 → ℕ) a + S1x128.size a ≤ S1x512.size a)
    (i : S4x128x128.Idx) (k d : Fin 128) (h0 : (i 0).val = g.val) (h1 : (i 1).val = k.val) (h2 : (i 2).val = d.val) :
    firstMap (dmapV (BitVec.ofNat 32 (win g)) B (View.ld (iblk m c 0 t) (Rect.unit ![0, 128 * g.val] S2048x128.size i₁))
      (View.ld (iblk m c 1 t) (Rect.unit ![0, 128 * g.val] S2048x128.size i₁))
      (View.ld (iblk m c 3 t) (Rect.unit ![0, 128 * g.val] S1x128.size i₃))) (ix3 0 k d) = mapPart m c t (i 0) (i 1) (i 2) := by
  rw [firstMap_apply, dmap_piece m c t g hB, show i 0 = g from Fin.ext h0, show i 1 = k from Fin.ext h1, show i 2 = d from Fin.ext h2]
  rfl

theorem nextMap_piece {B : Rows → Rows} (c : Dev nD) (t : Fin cfg0.N) (Y : Vec Ideal S4x128x128 .f32) (g : Fin 4) (hB : Trails (win g) B)
    (i₁ : ∀ a, (![0, 128 * g.val] : Fin 2 → ℕ) a + S2048x128.size a ≤ S2048x512.size a)
    (i₂ : ∀ a, (![g.val, 0, 0] : Fin 3 → ℕ) a + S1x128x128.size a ≤ S4x128x128.size a)
    (i₃ : ∀ a, (![0, 128 * g.val] : Fin 2 → ℕ) a + S1x128.size a ≤ S1x512.size a)
    (i : S4x128x128.Idx) (k d : Fin 128) (h0 : (i 0).val = g.val) (h1 : (i 1).val = k.val) (h2 : (i 2).val = d.val) :
    nextMap (dmapV (BitVec.ofNat 32 (win g)) B (View.ld (iblk m c 0 t) (Rect.unit ![0, 128 * g.val] S2048x128.size i₁))
      (View.ld (iblk m c 1 t) (Rect.unit ![0, 128 * g.val] S2048x128.size i₁))
      (View.ld (iblk m c 3 t) (Rect.unit ![0, 128 * g.val] S1x128.size i₃)))
      (View.ld Y (Rect.unit ![g.val, 0, 0] S1x128x128.size i₂)) (ix3 0 k d) = Y i + mapPart m c t (i 0) (i 1) (i 2) := by
  rw [nextMap_apply, dmap_piece m c t g hB, load_map, show i 0 = g from Fin.ext h0, show i 1 = k from Fin.ext h1, show i 2 = d from Fin.ext h2]
  have e : i = ix3 g k d := by
    funext a
    fin_cases a
    · exact Fin.ext h0
    · exact Fin.ext h1
    · exact Fin.ext h2
  rw [e]
  rfl

theorem maps_A (c : Dev nD) (t : Fin cfg0.N) (h0 : t.val % 2 = 0) (h1 : ¬t.val % 2 = 1) (i : S4x128x128.Idx) :
    (outsAt0 m c t.val t.isLt).2.1 i = mapPart m c t (i 0) (i 1) (i 2) := by
  rw [outsAt0_A m c t h0 h1 h0 h1 h0 h1 h0 h1]
  frame_out
  canon_tiles x h <;> obtain ⟨k, d, rfl⟩ := map_cases x
  · exact firstMap_piece m c t 3 trails16 _ _ i k d h0 h1 h2
  · exact firstMap_piece m c t 2 trails8 _ _ i k d h0 h1 h2
  · exact firstMap_piece m c t 1 trails4 _ _ i k d h0 h1 h2
  · exact firstMap_piece m c t 0 trails2 _ _ i k d h0 h1 h2

theorem maps_B (c : Dev nD) (t : Fin cfg0.N) (h0 : ¬t.val % 2 = 0) (h1 : t.val % 2 = 1) (i : S4x128x128.Idx) :
    (outsAt0 m c t.val t.isLt).2.1 i = (outsAt0 m c (t.val - 1) (by omega)).2.1 i + mapPart m c t (i 0) (i 1) (i 2) := by
  rw [outsAt0_B m c t h0 h1 h0 h1 h0 h1 h0 h1]
  frame_out
  canon_tiles x h <;> obtain ⟨k, d, rfl⟩ := map_cases x
  · exact nextMap_piece m c t _ 3 trails16 _ _ _ i k d h0 h1 h2
  · exact nextMap_piece m c t _ 2 trails8 _ _ _ i k d h0 h1 h2
  · exact nextMap_piece m c t _ 1 trails4 _ _ _ i k d h0 h1 h2
  · exact nextMap_piece m c t _ 0 trails2 _ _ _ i k d h0 h1 h2

theorem firstRow_piece {B : Rows → Rows} (c : Dev nD) (t : Fin cfg0.N) (g : Fin 4) (hB : Trails (win g) B)
    (i₁ : ∀ a, (![0, 128 * g.val] : Fin 2 → ℕ) a + S2048x128.size a ≤ S2048x512.size a)
    (i₂ : ∀ a, (![g.val, 0, 0] : Fin 3 → ℕ) a + S1x128x128.size a ≤ S4x128x128.size a)
    (i : S1x512.Idx) (k : Fin 128) (h1 : (i 1).val = 128 * g.val + k.val) :
    dscaleV (BitVec.ofNat 32 (win g)) B (View.ld (iblk m c 0 t) (Rect.unit ![0, 128 * g.val] S2048x128.size i₁))
      (View.ld (iblk m c 2 t) (Rect.unit ![g.val, 0, 0] S1x128x128.size i₂))
      (View.ld (iblk m c 1 t) (Rect.unit ![0, 128 * g.val] S2048x128.size i₁)) (ix2 0 k) = scalePart m c t (grp (i 1)) (lane (i 1)) := by
  rw [dscale_piece m c t g hB, grp_of (l := k) h1, lane_of h1]
  rfl

theorem nextRow_piece {B : Rows → Rows} (c : Dev nD) (t : Fin cfg0.N) (Y : Vec Ideal S1x512 .f32) (g : Fin 4) (hB : Trails (win g) B)
    (i₁ : ∀ a, (![0, 128 * g.val] : Fin 2 → ℕ) a + S2048x128.size a ≤ S2048x512.size a)
    (i₂ : ∀ a, (![g.val, 0, 0] : Fin 3 → ℕ) a + S1x128x128.size a ≤ S4x128x128.size a)
    (i₃ : ∀ a, (![0, 128 * g.val] : Fin 2 → ℕ) a + S1x128.size a ≤ S1x512.size a)
    (i : S1x512.Idx) (k : Fin 128) (h1 : (i 1).val = 128 * g.val + k.val) :
    nextRow (dscaleV (BitVec.ofNat 32 (win g)) B (View.ld (iblk m c 0 t) (Rect.unit ![0, 128 * g.val] S2048x128.size i₁))
      (View.ld (iblk m c 2 t) (Rect.unit ![g.val, 0, 0] S1x128x128.size i₂))
      (View.ld (iblk m c 1 t) (Rect.unit ![0, 128 * g.val] S2048x128.size i₁)))
      (View.ld Y (Rect.unit ![0, 128 * g.val] S1x128.size i₃)) (ix2 0 k) = Y i + scalePart m c t (grp (i 1)) (lane (i 1)) := by
  rw [nextRow_apply, dscale_piece m c t g hB, load_row, grp_of (l := k) h1, lane_of h1]
  have e : i = ix2 0 (chan g k) := by
    funext a
    fin_cases a
    · exact Subsingleton.elim (α := Fin 1) _ _
    · exact Fin.ext h1
  rw [e]
  rfl

theorem scales_A (c : Dev nD) (t : Fin cfg0.N) (h0 : t.val % 2 = 0) (h1 : ¬t.val % 2 = 1) (i : S1x512.Idx) :
    (outsAt0 m c t.val t.isLt).2.2 i = scalePart m c t (grp (i 1)) (lane (i 1)) := by
  rw [outsAt0_A m c t h0 h1 h0 h1 h0 h1 h0 h1]
  frame_out
  canon_tiles x h <;> obtain ⟨k, rfl⟩ := row_cases x
  · exact firstRow_piece m c t 3 trails16 _ _ i k h1
  · exact firstRow_piece m c t 2 trails8 _ _ i k h1
  · exact firstRow_piece m c t 1 trails4 _ _ i k h1
  · exact firstRow_piece m c t 0 trails2 _ _ i k (h1.trans (Nat.zero_add _).symm)

theorem scales_B (c : Dev nD) (t : Fin cfg0.N) (h0 : ¬t.val % 2 = 0) (h1 : t.val % 2 = 1) (i : S1x512.Idx) :
    (outsAt0 m c t.val t.isLt).2.2 i = (outsAt0 m c (t.val - 1) (by omega)).2.2 i + scalePart m c t (grp (i 1)) (lane (i 1)) := by
  rw [outsAt0_B m c t h0 h1 h0 h1 h0 h1 h0 h1]
  frame_out
  canon_tiles x h <;> obtain ⟨k, rfl⟩ := row_cases x
  · exact nextRow_piece m c t _ 3 trails16 _ _ _ i k h1
  · exact nextRow_piece m c t _ 2 trails8 _ _ _ i k h1
  · exact nextRow_piece m c t _ 1 trails4 _ _ _ i k h1
  · exact nextRow_piece m c t _ 0 trails2 _ _ _ i k (h1.trans (Nat.zero_add _).symm)

end Cert.Pool

end
-- ==== Proof.Pool.Arrays.lean ====
/- The three result arrays after the run. -/
module

public import proofs.«01_k».proof.Proof.Pool.Points

@[expose] public section

set_option maxRecDepth 16384

noncomputable section

namespace Cert.Pool

open Idealize.ShloMosaic Idealize.SL.Sem Cert.KernelIdeal Cert.KernelIdeal.Gen

variable (m : (ℓ : Loc nD τ sig) → Buf (Elt Ideal) ℓ)

/-- The sequence of a row of the stacked tokens. -/
def seqRow (r : Fin 4096) : Fin 2 := ⟨r.val / 2048, by omega⟩
/-- The token of a row of the stacked tokens. -/
def tokRow (r : Fin 4096) : Fin 2048 := ⟨r.val % 2048, by omega⟩

theorem tokens_point (c : Dev nD) (t : Fin cfg0.N) (i : S2048x512.Idx) :
    (outsAt0 m c t.val t.isLt).1 i = dTokens (argM m c) (argS m c) (argC m c) (seqOf t) (i 0) (grp (i 1)) (lane (i 1)) := by
  rcases Nat.mod_two_eq_zero_or_one t.val with h | h
  · exact tokens_A m c t h (by omega) i
  · exact tokens_B m c t (by omega) h i

/-- A point that comes second leaves the sum of both points' parts of the maps' gradient. -/
theorem maps_point (c : Dev nD) (t : Fin cfg0.N) (h : t.val % 2 = 1) (i : S4x128x128.Idx) :
    (outsAt0 m c t.val t.isLt).2.1 i = dMaps (argX m c) (argS m c) (argC m c) (i 0) (i 1) (i 2) := by
  have ht : t.val < 2 := t.isLt
  have e : t.val - 1 < cfg0.N := by omega
  have hs : seqOf t = 1 := Fin.ext (show t.val = 1 by omega)
  have hp : seqOf ⟨t.val - 1, e⟩ = 0 := Fin.ext (show t.val - 1 = 0 by omega)
  rw [maps_B m c t (by omega) h i,
    maps_A m c ⟨t.val - 1, e⟩ (by show (t.val - 1) % 2 = 0; omega) (by show ¬(t.val - 1) % 2 = 1; omega) i]
  simp only [mapPart, hs, hp]
  rfl

theorem scales_point (c : Dev nD) (t : Fin cfg0.N) (h : t.val % 2 = 1) (i : S1x512.Idx) :
    (outsAt0 m c t.val t.isLt).2.2 i = dScales (argX m c) (argM m c) (argC m c) (grp (i 1)) (lane (i 1)) := by
  have ht : t.val < 2 := t.isLt
  have e : t.val - 1 < cfg0.N := by omega
  have hs : seqOf t = 1 := Fin.ext (show t.val = 1 by omega)
  have hp : seqOf ⟨t.val - 1, e⟩ = 0 := Fin.ext (show t.val - 1 = 0 by omega)
  rw [scales_B m c t (by omega) h i,
    scales_A m c ⟨t.val - 1, e⟩ (by show (t.val - 1) % 2 = 0; omega) (by show ¬(t.val - 1) % 2 = 1; omega) i]
  simp only [scalePart, hs, hp]
  rfl

/-- The two accumulated windows are written back at the second point only. -/
theorem flush_last : ∀ t : Fin cfg0.N, ((cfg0.win 5).flush t = true → t.val % 2 = 1) ∧ ((cfg0.win 6).flush t = true → t.val % 2 = 1) :=
  (by decide +kernel : ∀ t : Fin grid0.N, _)

theorem tokens_final (c : Dev nD) : (dats m 0 c).arrAt 4 cfg0.N =
    fun i : S4096x512.Idx => dTokens (argM m c) (argS m c) (argC m c) (seqRow (i 0)) (tokRow (i 0)) (grp (i 1)) (lane (i 1)) := by
  refine (dats m 0 c).arrAt_eq_of_covers 4 _ (by decide +kernel) fun t hf y => ?_
  have ht : t.val < 2 := t.isLt
  blk_simp
  rw [after0_4]
  dsimp only
  rw [tokens_point m c t]
  have e0 : seqRow ((win0_4.blk t).view.emb y 0) = seqOf t := by
    have hy : (y 0).val < 2048 := (y 0).isLt
    apply Fin.ext
    show ((win0_4.blk t).view.emb y 0).val / 2048 = t.val
    blk_simp [places_of_blocks t]
    show (t.val * 2048 + (y 0).val) / 2048 = t.val
    omega
  have e1 : tokRow ((win0_4.blk t).view.emb y 0) = y 0 := by
    have hy : (y 0).val < 2048 := (y 0).isLt
    apply Fin.ext
    show ((win0_4.blk t).view.emb y 0).val % 2048 = (y 0).val
    blk_simp [places_of_blocks t]
    show (t.val * 2048 + (y 0).val) % 2048 = (y 0).val
    omega
  have e2 : (win0_4.blk t).view.emb y 1 = y 1 := by
    apply Fin.ext
    blk_simp [places_of_blocks t]
  rw [e0, e1, e2]

theorem maps_final (c : Dev nD) : (dats m 0 c).arrAt 5 cfg0.N =
    fun i : S4x128x128.Idx => dMaps (argX m c) (argS m c) (argC m c) (i 0) (i 1) (i 2) := by
  refine (dats m 0 c).arrAt_eq_of_covers 5 _ (by decide +kernel) fun t hf y => ?_
  blk_simp
  rw [after0_5]
  dsimp only
  rw [maps_point m c t ((flush_last t).1 hf)]
  have e : (win0_5.blk t).view.emb y = y := by blk_ext [places_of_blocks t]
  rw [e]

theorem scales_final (c : Dev nD) : (dats m 0 c).arrAt 6 cfg0.N =
    fun i : S1x512.Idx => dScales (argX m c) (argM m c) (argC m c) (grp (i 1)) (lane (i 1)) := by
  refine (dats m 0 c).arrAt_eq_of_covers 6 _ (by decide +kernel) fun t hf y => ?_
  blk_simp
  rw [after0_6]
  dsimp only
  rw [scales_point m c t ((flush_last t).2 hf)]
  have e : (win0_6.blk t).view.emb y = y := by blk_ext [places_of_blocks t]
  rw [e]

end Cert.Pool

end
-- ==== Proof.Pool.Lookup.lean ====
/- Sums over a moving window, rows read through a table of row numbers, and rows added through one. -/
module

public import proofs.«01_k».proof.Proof.Gen.ReferenceIdeal.Run
public import Idealize.ShloMosaic.Lib.Pointwise

@[expose] public section

set_option maxRecDepth 16384

noncomputable section

namespace Cert.Pool

open Idealize.ShloMosaic Idealize.SL.Sem Cert.ReferenceIdeal Cert.ReferenceIdeal.Gen
open scoped BigOperators

/-- A running total from zero is the sum. -/
theorem foldl_total (n : ℕ) (f : Fin n → EReal) : (List.finRange n).foldl (fun r k => r + f k) 0 = ∑ k, f k := by
  rw [← List.foldl_map (f := f) (g := fun r y => r + y), ← List.sum_eq_foldl, List.sum_ofFn.symm.trans (by rw [List.ofFn_eq_map])]

/-- A sum over windows is, at each place, the sum of the entries the window there covers. -/
theorem reduceWindowAdd_apply {s t u : Shape} (window strides lo hi : Fin s.rank → ℕ) (x : FVec Ideal s .f32) (z : FVec Ideal u .f32)
    (h : s.ReduceWindows window strides lo hi t) (hu : 0 < u.numel) (hz : z (Shape.Idx.first hu) = 0) (j : t.Idx) :
    Host.reduceWindowAdd window strides lo hi x z h hu j = ∑ v : Shape.Idx ⟨s.rank, window⟩,
      if hin : ∀ a, lo a ≤ (j (a.cast h.1.symm)).val * strides a + (v a).val ∧ (j (a.cast h.1.symm)).val * strides a + (v a).val - lo a < s.size a
      then x (fun a => ⟨(j (a.cast h.1.symm)).val * strides a + (v a).val - lo a, (hin a).2⟩) else 0 := by
  show Host.reduceWindow (fun a b : EReal => a + b) window strides lo hi x (fun _ : u.Idx => z (Shape.Idx.first hu)) h hu j = _
  rw [hz]
  unfold Host.reduceWindow
  dsimp only
  rw [foldl_total]
  refine Eq.trans (Finset.sum_congr rfl fun n _ => ?_) (Equiv.sum_comp (Shape.rowMajor ⟨s.rank, window⟩).symm fun v =>
    if hin : ∀ a, lo a ≤ (j (a.cast h.1.symm)).val * strides a + (v a).val ∧ (j (a.cast h.1.symm)).val * strides a + (v a).val - lo a < s.size a
      then x (fun a => ⟨(j (a.cast h.1.symm)).val * strides a + (v a).val - lo a, (hin a).2⟩) else 0)
  congr

/-- A window of 2048 steps along the token axis, one step wide along the others. -/
abbrev Steps : Shape := ⟨4, ![1, 2048, 1, 1]⟩

/-- The steps of such a window, counted. -/
def stepEquiv : Fin 2048 ≃ Steps.Idx where
  toFun v := ix4 0 v 0 0
  invFun w := w 1
  left_inv _ := rfl
  right_inv w := by
    funext a
    fin_cases a
    · exact Subsingleton.elim (α := Fin 1) _ _
    · rfl
    · exact Subsingleton.elim (α := Fin 1) _ _
    · exact Subsingleton.elim (α := Fin 1) _ _

/-- Moving the summation from the step of a window to the place it reads. -/
theorem sum_places (t lo : ℕ) (F : ℕ → EReal) :
    (∑ v : Fin 2048, if lo ≤ t + v.val ∧ t + v.val - lo < 2048 then F (t + v.val - lo) else 0) =
      ∑ u : Fin 2048, if t ≤ u.val + lo ∧ u.val + lo < t + 2048 then F u.val else 0 := by
  rw [← Finset.sum_filter, ← Finset.sum_filter]
  refine Finset.sum_nbij' (fun v => ⟨(t + v.val - lo) % 2048, Nat.mod_lt _ (by omega)⟩) (fun u => ⟨(u.val + lo - t) % 2048, Nat.mod_lt _ (by omega)⟩)
    (fun v hv => ?_) (fun u hu => ?_) (fun v hv => ?_) (fun u hu => ?_) (fun v hv => ?_)
  · have hv := (Finset.mem_filter.1 hv).2
    refine Finset.mem_filter.2 ⟨Finset.mem_univ _, ?_⟩
    have := v.isLt
    dsimp only
    omega
  · have hu := (Finset.mem_filter.1 hu).2
    refine Finset.mem_filter.2 ⟨Finset.mem_univ _, ?_⟩
    have := u.isLt
    dsimp only
    omega
  · have hv := (Finset.mem_filter.1 hv).2
    have := v.isLt
    apply Fin.ext
    dsimp only
    omega
  · have hu := (Finset.mem_filter.1 hu).2
    have := u.isLt
    apply Fin.ext
    dsimp only
    omega
  · have hv := (Finset.mem_filter.1 hv).2
    dsimp only
    rw [Nat.mod_eq_of_lt hv.2]

/-- The sum over a window along the token axis, padded with `lo` zeros before the sequence. -/
theorem windowSum_apply (x : FVec Ideal S2x2048x4x128 .f32) (lo hi : ℕ) (z : FVec Ideal S_ .f32) (hz : z (Shape.Idx.first h_S_) = 0)
    (h : S2x2048x4x128.ReduceWindows ![1, 2048, 1, 1] ![1, 1, 1, 1] ![0, lo, 0, 0] ![0, hi, 0, 0] S2x2048x4x128)
    (b : Fin 2) (t : Fin 2048) (g : Fin 4) (k : Fin 128) :
    Host.reduceWindowAdd ![1, 2048, 1, 1] ![1, 1, 1, 1] ![0, lo, 0, 0] ![0, hi, 0, 0] x z h h_S_ (ix4 b t g k) =
      ∑ u : Fin 2048, if t.val ≤ u.val + lo ∧ u.val + lo < t.val + 2048 then x (ix4 b u g k) else 0 := by
  have hb := b.isLt
  have hg := g.isLt
  have hk := k.isLt
  let F : ℕ → EReal := fun n => if h : n < 2048 then x (ix4 b ⟨n, h⟩ g k) else 0
  have hR : (∑ u : Fin 2048, if t.val ≤ u.val + lo ∧ u.val + lo < t.val + 2048 then x (ix4 b u g k) else 0) =
      ∑ u : Fin 2048, if t.val ≤ u.val + lo ∧ u.val + lo < t.val + 2048 then F u.val else 0 :=
    Finset.sum_congr rfl fun u _ => by rw [show F u.val = x (ix4 b u g k) from dif_pos u.isLt]
  rw [hR, ← sum_places]
  rw [reduceWindowAdd_apply _ _ _ _ _ _ _ _ hz]
  refine (Equiv.sum_comp stepEquiv _).symm.trans (Finset.sum_congr rfl fun v _ => ?_)
  by_cases hin : lo ≤ t.val + v.val ∧ t.val + v.val - lo < 2048
  · rw [if_pos hin, dif_pos]
    · rw [show F (t.val + v.val - lo) = _ from dif_pos hin.2]
      congr 1
      funext a
      apply Fin.ext
      fin_cases a
      · show b.val * 1 + 0 - 0 = b.val
        omega
      · show t.val * 1 + v.val - lo = t.val + v.val - lo
        omega
      · show g.val * 1 + 0 - 0 = g.val
        omega
      · show k.val * 1 + 0 - 0 = k.val
        omega
    · intro a
      fin_cases a
      · show 0 ≤ b.val * 1 + 0 ∧ b.val * 1 + 0 - 0 < 2
        omega
      · show lo ≤ t.val * 1 + v.val ∧ t.val * 1 + v.val - lo < 2048
        omega
      · show 0 ≤ g.val * 1 + 0 ∧ g.val * 1 + 0 - 0 < 4
        omega
      · show 0 ≤ k.val * 1 + 0 ∧ k.val * 1 + 0 - 0 < 128
        omega
  · rw [if_neg hin, dif_neg]
    intro h
    have h1 : lo ≤ t.val * 1 + v.val ∧ t.val * 1 + v.val - lo < 2048 := h 1
    exact hin (by omega)

/-- A table of row numbers: entry `(t, g)` names a row `r t g` and the group `g`. -/
def Names (idx : IVec S2048x4x2 32) (r : Fin 2048 → Fin 4 → Fin 2049) : Prop :=
  ∀ t g, (idx (ix3 t g 0)).toInt = ((r t g).val : ℤ) ∧ (idx (ix3 t g 1)).toInt = (g.val : ℤ)

/-- Rows read through the table. -/
theorem gather_apply {idx : IVec S2048x4x2 32} {r : Fin 2048 → Fin 4 → Fin 2049} (hr : Names idx r) (x : FVec Ideal S2x2049x4x128 .f32)
    (b : Fin 2) (t : Fin 2048) (g : Fin 4) (k : Fin 128) :
    Host.gather gather_S2x2049x4x128_S2048x4x2_S2x2048x4x128_03_12_n_n_12_2_211128 x idx (ix4 b t g k) = x (ix4 b (r t g) g k) := by
  have h1 := (hr t g).1
  have h2 := (hr t g).2
  have hrl := (r t g).isLt
  have hg := g.isLt
  show x _ = _
  congr 1
  funext a
  apply Fin.ext
  fin_cases a
  · show 0 + 0 + b.val = b.val
    omega
  · show min (idx _).toInt.toNat (2049 - 1) + 0 + 0 = (r t g).val
    have e : gather_S2x2049x4x128_S2048x4x2_S2x2048x4x128_03_12_n_n_12_2_211128.siIdx (ix4 b t g k) ⟨0, by decide⟩ = ix3 t g 0 := by
      funext a; fin_cases a <;> rfl
    refine (congrArg (fun q => min (idx q).toInt.toNat (2049 - 1) + 0 + 0) e).trans ?_
    rw [h1]
    omega
  · show min (idx _).toInt.toNat (4 - 1) + 0 + 0 = g.val
    have e : gather_S2x2049x4x128_S2048x4x2_S2x2048x4x128_03_12_n_n_12_2_211128.siIdx (ix4 b t g k) ⟨1, by decide⟩ = ix3 t g 1 := by
      funext a; fin_cases a <;> rfl
    refine (congrArg (fun q => min (idx q).toInt.toNat (4 - 1) + 0 + 0) e).trans ?_
    rw [h2]
    omega
  · show 0 + 0 + k.val = k.val
    omega

/-- Where the row `(b, t, g, k)` of the updates lands. -/
theorem lands_at {idx : IVec S2048x4x2 32} {r : Fin 2048 → Fin 4 → Fin 2049} (hr : Names idx r)
    (b : Fin 2) (t : Fin 2048) (g : Fin 4) (k : Fin 128) :
    scatter_S2x2049x4x128_S2048x4x2_S2x2048x4x128_03_12_12_2.resultIdx? (ix4 b t g k) idx = some (ix4 b (r t g) g k) := by
  have h1 := (hr t g).1
  have h2 := (hr t g).2
  have e1 : scatter_S2x2049x4x128_S2048x4x2_S2x2048x4x128_03_12_12_2.siIdx (ix4 b t g k) ⟨0, by decide⟩ = ix3 t g 0 := by
    funext a; fin_cases a <;> rfl
  have e2 : scatter_S2x2049x4x128_S2048x4x2_S2x2048x4x128_03_12_12_2.siIdx (ix4 b t g k) ⟨1, by decide⟩ = ix3 t g 1 := by
    funext a; fin_cases a <;> rfl
  have s0 : scatter_S2x2049x4x128_S2048x4x2_S2x2048x4x128_03_12_12_2.start (ix4 b t g k) idx 0 = 0 := rfl
  have s1 : scatter_S2x2049x4x128_S2048x4x2_S2x2048x4x128_03_12_12_2.start (ix4 b t g k) idx 1 = ((r t g).val : ℤ) :=
    (congrArg (fun q => (idx q).toInt) e1).trans h1
  have s2 : scatter_S2x2049x4x128_S2048x4x2_S2x2048x4x128_03_12_12_2.start (ix4 b t g k) idx 2 = (g.val : ℤ) :=
    (congrArg (fun q => (idx q).toInt) e2).trans h2
  have s3 : scatter_S2x2049x4x128_S2048x4x2_S2x2048x4x128_03_12_12_2.start (ix4 b t g k) idx 3 = 0 := rfl
  have w0 : scatter_S2x2049x4x128_S2048x4x2_S2x2048x4x128_03_12_12_2.window (ix4 b t g k) 0 = b.val := rfl
  have w1 : scatter_S2x2049x4x128_S2048x4x2_S2x2048x4x128_03_12_12_2.window (ix4 b t g k) 1 = 0 := rfl
  have w2 : scatter_S2x2049x4x128_S2048x4x2_S2x2048x4x128_03_12_12_2.window (ix4 b t g k) 2 = 0 := rfl
  have w3 : scatter_S2x2049x4x128_S2048x4x2_S2x2048x4x128_03_12_12_2.window (ix4 b t g k) 3 = k.val := rfl
  have key : ∀ a, scatter_S2x2049x4x128_S2048x4x2_S2x2048x4x128_03_12_12_2.start (ix4 b t g k) idx a +
      scatter_S2x2049x4x128_S2048x4x2_S2x2048x4x128_03_12_12_2.window (ix4 b t g k) a = ((ix4 b (r t g) g k a).val : ℤ) := by
    intro a
    fin_cases a
    · exact (congrArg₂ (fun (p : ℤ) (q : ℕ) => p + q) s0 w0).trans (Int.zero_add _)
    · exact (congrArg₂ (fun (p : ℤ) (q : ℕ) => p + q) s1 w1).trans (Int.add_zero _)
    · exact (congrArg₂ (fun (p : ℤ) (q : ℕ) => p + q) s2 w2).trans (Int.add_zero _)
    · exact (congrArg₂ (fun (p : ℤ) (q : ℕ) => p + q) s3 w3).trans (Int.zero_add _)
  unfold ScatterDims.resultIdx?
  rw [dif_pos fun a => by
    rw [key a]
    have := (ix4 b (r t g) g k a).isLt
    exact ⟨by omega, by exact_mod_cast this⟩]
  congr 1
  funext a
  apply Fin.ext
  show (_ : ℤ).toNat = _
  rw [key a]
  exact Int.toNat_natCast _

/-- Indices of the four-axis blocks, one coordinate at a time. -/
theorem ix4_cases (j : S2x2048x4x128.Idx) : ∃ (b : Fin 2) (t : Fin 2048) (g : Fin 4) (k : Fin 128), j = ix4 b t g k :=
  ⟨j 0, j 1, j 2, j 3, by funext a; fin_cases a <;> rfl⟩

/-- Rows added through the table. -/
theorem scatter_apply {idx : IVec S2048x4x2 32} {r : Fin 2048 → Fin 4 → Fin 2049} (hr : Names idx r) (x : FVec Ideal S2x2049x4x128 .f32)
    (y : FVec Ideal S2x2048x4x128 .f32) (b : Fin 2) (s : Fin 2049) (g : Fin 4) (k : Fin 128) :
    Host.scatterAdd scatter_S2x2049x4x128_S2048x4x2_S2x2048x4x128_03_12_12_2 x idx y (ix4 b s g k) =
      x (ix4 b s g k) + ∑ u : Fin 2048, if r u g = s then y (ix4 b u g k) else 0 := by
  show x (ix4 b s g k) + ∑ j ∈ Finset.univ.filter (fun j =>
    scatter_S2x2049x4x128_S2048x4x2_S2x2048x4x128_03_12_12_2.resultIdx? j idx = some (ix4 b s g k)), y j = _
  rw [← Finset.sum_filter]
  congr 1
  symm
  refine Finset.sum_nbij (fun u => ix4 b u g k) (fun u hu => ?_) (fun u _ u' _ h => ?_) (fun j hj => ?_) (fun u _ => rfl)
  · rw [Finset.mem_filter] at hu ⊢
    exact ⟨Finset.mem_univ _, by rw [lands_at hr, hu.2]⟩
  · exact congrFun h 1
  · obtain ⟨b', t, g', k', rfl⟩ := ix4_cases j
    have h := (Finset.mem_filter.1 hj).2
    rw [lands_at hr] at h
    have h := Option.some.inj h
    obtain rfl : b' = b := congrFun h 0
    obtain rfl : g' = g := congrFun h 2
    obtain rfl : k' = k := congrFun h 3
    exact ⟨t, Finset.mem_coe.2 (Finset.mem_filter.2 ⟨Finset.mem_univ _, congrFun h 1⟩), rfl⟩

end Cert.Pool

end
-- ==== Proof.Pool.Plain.lean ====
/- What the plain program computes: its intermediate arrays, entry by entry. -/
module

public import proofs.«01_k».proof.Proof.Rows
public import proofs.«01_k».proof.Proof.Pool.Lookup
public import proofs.«01_k».proof.Proof.Pool.Blocks

@[expose] public section

set_option maxRecDepth 16384

noncomputable section

namespace Cert.Pool

open Idealize.ShloMosaic Idealize.SL.Sem Cert.ReferenceIdeal Cert.ReferenceIdeal.Gen
open scoped BigOperators

/-- Two sequences of four groups of channels. -/
abbrev Heads := FVec Ideal S2x2048x4x128 .f32

/-- Token numbers from one, by token and group. -/
def ordinal : IVec S2048x4 32 :=
  broadcastInDim S2048x4 ![0, 1] bcast_S2048x1_S2048x4_0_1 (addi (broadcastInDim S2048x1 ![0] bcast_S2048_S2048x1_0 (iotaInDim S2048 32 0))
    (broadcastInDim S2048x1 ![] bcast_S_S2048x1 (constantI S_ 32 1#32)))
/-- Windows, by token and group. -/
def windows : IVec S2048x4 32 :=
  broadcastInDim S2048x4 ![0, 1] bcast_S1x4_S2048x4_0_1 (broadcastInDim S1x4 ![1] bcast_S4_S1x4_1 ((fun i => lit0 (S4.rowMajor i))))
/-- First token of each window. -/
def starts : IVec S2048x4 32 := maxsi (subi ordinal windows) (broadcastInDim S2048x4 ![] bcast_S_S2048x4 (constantI S_ 32 0#32))
/-- Group numbers. -/
def groups : IVec S1x4 32 := broadcastInDim S1x4 ![1] bcast_S4_S1x4_1 (iotaInDim S4 32 0)
/-- The index pairs: first token of the window, and group. -/
def pairs : IVec S2048x4x2 32 :=
  concatenate S2048x4x2 2 [⟨S2048x4x1, (broadcastInDim S2048x4x1 ![0, 1] bcast_S2048x4_S2048x4x1_0_1 (select (cmpi .slt starts
      (broadcastInDim S2048x4 ![] bcast_S_S2048x4 (constantI S_ 32 0#32))) (addi starts
      (broadcastInDim S2048x4 ![] bcast_S_S2048x4 (constantI S_ 32 2049#32))) starts))⟩,
    ⟨S2048x4x1, (broadcastInDim S2048x4x1 ![0, 1] bcast_S2048x4_S2048x4x1_0_1 (broadcastInDim S2048x4 ![0, 1] bcast_S1x4_S2048x4_0_1
      (select (cmpi .slt groups (broadcastInDim S1x4 ![] bcast_S_S1x4 (constantI S_ 32 0#32)))
        (addi groups (broadcastInDim S1x4 ![] bcast_S_S1x4 (constantI S_ 32 4#32))) groups)))⟩] concatenates_S2048x4x1_S2048x4x1_S2048x4x2_d2
/-- How many tokens each window holds. -/
def sizes : Heads :=
  broadcastInDim S2x2048x4x128 ![0, 1, 2, 3] bcast_S1x2048x4x1_S2x2048x4x128_0_1_2_3 (broadcastInDim S1x2048x4x1 ![1, 2] bcast_S2048x4_S1x2048x4x1_1_2
    (sitofp .f32 (minsi ordinal windows)))

def zero : FVec Ideal S_ .f32 := constant S_ .f32 0x00000000#32

section
variable (X CT : FVec Ideal S2x2048x512 .f32) (M : FVec Ideal S4x128x128 .f32) (sc : FVec Ideal S512 .f32) (Q : Heads)

/-- Channels split into groups. -/
def heads : Heads := shapeCast S2x2048x4x128 X shapeCasts_S2x2048x512_S2x2048x4x128
/-- Totals of the tokens before each place, from zero to all. -/
def totals : FVec Ideal S2x2049x4x128 .f32 :=
  concatenate S2x2049x4x128 1 [⟨S2x1x4x128, (broadcastInDim S2x1x4x128 ![] bcast_S_S2x1x4x128 (constant S_ .f32 0x00000000#32))⟩,
    ⟨S2x2048x4x128, (Host.reduceWindowAdd ![1, 2048, 1, 1] ![1, 1, 1, 1] ![0, 2047, 0, 0] ![0, 0, 0, 0] (heads X)
      (broadcastInDim S_ ![] bcast_S_S_ (constant S_ .f32 0x00000000#32)) reduceWindows_S2x2048x4x128_S2x2048x4x128_w1s1p0_0_w2048s1p2047_0_w1s1p0_0_w1s1p0_0 h_S_)⟩]
    concatenates_S2x1x4x128_S2x2048x4x128_S2x2049x4x128_d1
/-- Mean over each window minus the token. -/
def pooledP : Heads :=
  subf (Host.divf (subf (extractStridedSlice S2x2048x4x128 ![0, 1, 0, 0] (totals X) slices_S2x2049x4x128_S2x2048x4x128_0_1_0_0)
    (Host.gather gather_S2x2049x4x128_S2048x4x2_S2x2048x4x128_03_12_n_n_12_2_211128 (totals X) pairs)) sizes) (heads X)
/-- The scales along the tokens. -/
def scalesP : FVec Ideal S2x2048x512 .f32 :=
  broadcastInDim S2x2048x512 ![0, 1, 2] bcast_S1x1x512_S2x2048x512_0_1_2 (broadcastInDim S1x1x512 ![2] bcast_S512_S1x1x512_2 sc)
/-- The cotangent of the mixed tokens, group first. -/
def dmixedP : FVec Ideal S4x128x2x2048 .f32 :=
  transpose S4x128x2x2048 [2, 3, 0, 1] (shapeCast S2x2048x4x128 (mulf CT (scalesP sc)) shapeCasts_S2x2048x512_S2x2048x4x128)
    transposes_S2x2048x4x128_S4x128x2x2048_2_3_0_1
/-- The cotangent of the pooled tokens. -/
def dpooledP : Heads :=
  transpose S2x2048x4x128 [1, 2, 0, 3] (Host.dotGeneral dot_S4x128x2x2048_S4x128x128_S4x2x2048x128_1_2_23_1_0_0 none (dmixedP CT sc) M)
    transposes_S4x2x2048x128_S2x2048x4x128_1_2_0_3
/-- The cotangent of the totals, from that of the windows' means. -/
def dtotalsP : FVec Ideal S2x2049x4x128 .f32 :=
  addf (pad S2x2049x4x128 ![0, 1, 0, 0] ![0, 0, 0, 0] ![0, 0, 0, 0] Q (constant S_ .f32 0x00000000#32) pads_S2x2048x4x128_S2x2049x4x128_000_100_000_000 h_S_)
    (Host.scatterAdd scatter_S2x2049x4x128_S2048x4x2_S2x2048x4x128_03_12_12_2 (broadcastInDim S2x2049x4x128 ![] bcast_S_S2x2049x4x128 (constant S_ .f32 0x00000000#32))
      pairs (Host.negf Q))
/-- The gradient of the tokens by group. -/
def dheadsP : Heads :=
  addf (Host.negf (dpooledP CT M sc)) (Host.reduceWindowAdd ![1, 2048, 1, 1] ![1, 1, 1, 1] ![0, 0, 0, 0] ![0, 2047, 0, 0]
    (extractStridedSlice S2x2048x4x128 ![0, 1, 0, 0] (dtotalsP (Host.divf (dpooledP CT M sc) sizes)) slices_S2x2049x4x128_S2x2048x4x128_0_1_0_0)
    (broadcastInDim S_ ![] bcast_S_S_ (constant S_ .f32 0x00000000#32)) reduceWindows_S2x2048x4x128_S2x2048x4x128_w1s1p0_0_w2048s1p0_2047_w1s1p0_0_w1s1p0_0 h_S_)
def dtokensP : FVec Ideal S4096x512 .f32 :=
  shapeCast S4096x512 (shapeCast S2x2048x512 (dheadsP CT M sc) shapeCasts_S2x2048x4x128_S2x2048x512) shapeCasts_S2x2048x512_S4096x512
/-- The gradient of the maps. -/
def dmapsP : FVec Ideal S4x128x128 .f32 :=
  transpose S4x128x128 [0, 2, 1] (Host.dotGeneral dot_S4x128x2x2048_S2x2048x4x128_S4x128x128_23_01_1_3_0_2 none (dmixedP CT sc) (pooledP X))
    transposes_S4x128x128_S4x128x128_0_2_1
/-- The mixed tokens. -/
def mixedP : FVec Ideal S2x2048x512 .f32 :=
  shapeCast S2x2048x512 (transpose S2x2048x4x128 [2, 3, 0, 1] (Host.dotGeneral dot_S4x128x128_S2x2048x4x128_S4x128x2x2048_1_3_2_01_0_2 none M (pooledP X))
    transposes_S4x128x2x2048_S2x2048x4x128_2_3_0_1) shapeCasts_S2x2048x4x128_S2x2048x512
/-- The gradient of the scales. -/
def dscalesP : FVec Ideal S1x512 .f32 :=
  shapeCast S1x512 (Host.reduceAdd (shapeCast S1x1x512 (Host.reduceAdd (mulf (mixedP X M) CT) (constant S_ .f32 0x00000000#32) reducesTo_S2x2048x512_S512_d0_1 h_S_)
    shapeCasts_S512_S1x1x512) (constant S_ .f32 0x00000000#32) reducesTo_S1x1x512_S512_d0_1 h_S_) shapeCasts_S512_S1x512
end

variable (m : (ℓ : Loc nD τ sig) → Buf (Elt Ideal) ℓ)

theorem out0_eq (c : Dev nD) : Value.res_out0 m c = dtokensP (m ((c.tc : Thread nD τ).loc main_arg3)) (m ((c.tc : Thread nD τ).loc main_arg1)) (m ((c.tc : Thread nD τ).loc main_arg2)) := rfl
theorem out1_eq (c : Dev nD) : Value.res_out1 m c = dmapsP (m ((c.tc : Thread nD τ).loc main_arg0)) (m ((c.tc : Thread nD τ).loc main_arg3)) (m ((c.tc : Thread nD τ).loc main_arg2)) := rfl
theorem out2_eq (c : Dev nD) : Value.res_out2 m c = dscalesP (m ((c.tc : Thread nD τ).loc main_arg0)) (m ((c.tc : Thread nD τ).loc main_arg3)) (m ((c.tc : Thread nD τ).loc main_arg1)) := rfl

theorem window_word : ∀ g : Fin 4, lit0 (S4.rowMajor (ix1 g)) = BitVec.ofNat 32 (win g) := by decide +kernel
theorem win_pos : ∀ g : Fin 4, 0 < win g := by decide
theorem win_le : ∀ g : Fin 4, win g ≤ 16 := by decide

theorem ordinal_apply (t : Fin 2048) (g : Fin 4) : ordinal (ix2 t g) = BitVec.ofNat 32 (t.val + 1) := by
  pointwise [ordinal]
  exact (BitVec.ofNat_add ..).symm
theorem windows_apply (t : Fin 2048) (g : Fin 4) : windows (ix2 t g) = BitVec.ofNat 32 (win g) := by
  pointwise [windows]
  exact window_word g

/-- The first token of a window, counted. -/
def startRow (t : Fin 2048) (g : Fin 4) : Fin 2049 := ⟨t.val + 1 - win g, by omega⟩

theorem starts_toInt (t : Fin 2048) (g : Fin 4) : (starts (ix2 t g)).toInt = ((startRow t g).val : ℤ) := by
  have e : starts (ix2 t g) = IntOp.maxsi (IntOp.subi (BitVec.ofNat 32 (t.val + 1)) (BitVec.ofNat 32 (win g))) 0#32 := by
    rw [← ordinal_apply t g, ← windows_apply t g]
    pointwise [starts]
  have ht := t.isLt
  have hw := win_le g
  rw [e, toInt_max, show IntOp.subi (BitVec.ofNat 32 (t.val + 1)) (BitVec.ofNat 32 (win g)) = BitVec.ofNat 32 (t.val + 1) - BitVec.ofNat 32 (win g) from rfl,
    BitVec.toInt_sub, toInt_word _ (by omega), toInt_word _ (by omega), Int.bmod_eq_of_le (by omega) (by omega)]
  show max ((t.val + 1 : ℕ) - (win g : ℤ)) 0 = ((t.val + 1 - win g : ℕ) : ℤ)
  omega

/-- A word that is not negative passes the test for negative indices unchanged. -/
theorem fixup (x y : BitVec 32) (h : 0 ≤ x.toInt) : Scalar.select (IntOp.cmpi CmpIPredicate.slt x 0#32) y x = x := by
  show Scalar.select (BitVec.ofBool (decide (x.toInt < (0#32).toInt))) y x = x
  rw [select_ofBool, if_neg]
  simpa using h

theorem groups_apply (g : Fin 4) : groups (ix2 0 g) = BitVec.ofNat 32 g.val := by
  pointwise [groups]

theorem pairs_names : Names pairs startRow := by
  intro t g
  have hg : (BitVec.ofNat 32 g.val).toInt = (g.val : ℤ) := toInt_word _ (by omega)
  constructor
  · have e : pairs (ix3 t g 0) = starts (ix2 t g) := by
      pointwise [pairs]
      exact fixup _ _ (by rw [starts_toInt]; omega)
    rw [e, starts_toInt]
  · have e : pairs (ix3 t g 1) = BitVec.ofNat 32 g.val := by
      rw [← groups_apply]
      pointwise [pairs]
      exact fixup _ _ (by rw [groups_apply, hg]; omega)
    rw [e, hg]

theorem sizes_apply (b : Fin 2) (t : Fin 2048) (g : Fin 4) (k : Fin 128) : sizes (ix4 b t g k) = places (win g) t := by
  have hw := win_le g
  have e : (IntOp.minsi (ordinal (ix2 t g)) (windows (ix2 t g))).toInt = ((min (t.val + 1) (win g) : ℕ) : ℤ) := by
    rw [ordinal_apply, windows_apply, toInt_min, toInt_word _ (by omega), toInt_word _ (by omega), Nat.cast_min]
  have e' : sizes (ix4 b t g k) = (((IntOp.minsi (ordinal (ix2 t g)) (windows (ix2 t g))).toInt : ℝ) : EReal) := by
    pointwise [sizes]
    rfl
  rw [e', e]
  rfl

theorem heads_apply (X : FVec Ideal S2x2048x512 .f32) (b : Fin 2) (t : Fin 2048) (g : Fin 4) (k : Fin 128) :
    heads X (ix4 b t g k) = X (ix3 b t (chan g k)) := by
  pointwise [heads]
  exact congrArg (fun q => X (ix3 b t q)) (Fin.ext (by show g.val * 128 + k.val = 128 * g.val + k.val; omega))

/-- Entry `s` of the totals is the sum of the tokens before `s`. -/
theorem totals_apply (X : FVec Ideal S2x2048x512 .f32) (b : Fin 2) (s : Fin 2049) (g : Fin 4) (k : Fin 128) :
    totals X (ix4 b s g k) = ∑ u : Fin 2048, if u.val < s.val then part X b g u k else 0 := by
  pointwise [totals]
  have hs := s.isLt
  by_cases h : s.val < 1
  · rw [dif_pos h]
    exact (Finset.sum_eq_zero fun u _ => if_neg (by omega)).symm
  · rw [dif_neg h, windowSum_apply _ _ _ _ (by pointwise)]
    refine Finset.sum_congr rfl fun u _ => ?_
    have hu := u.isLt
    rw [heads_apply]
    dsimp only
    split_ifs <;> first | omega | rfl

theorem pooledP_eq (X : FVec Ideal S2x2048x512 .f32) (b : Fin 2) (t : Fin 2048) (g : Fin 4) (k : Fin 128) :
    pooledP X (ix4 b t g k) = Ideal.div ((∑ u : Fin 2048, if u.val < t.val + 1 then part X b g u k else 0) -
      ∑ u : Fin 2048, if u.val < t.val + 1 - win g then part X b g u k else 0) (places (win g) t) - part X b g t k := by
  have e1 : (extractStridedSlice S2x2048x4x128 ![0, 1, 0, 0] (totals X) slices_S2x2049x4x128_S2x2048x4x128_0_1_0_0) (ix4 b t g k) =
      totals X (ix4 b ⟨t.val + 1, by omega⟩ g k) := by
    pointwise
    exact congrArg (fun q => totals X (ix4 b q g k)) (Fin.ext (Nat.add_comm ..))
  have e2 := gather_apply pairs_names (totals X) b t g k
  show Ideal.div (_ - _) (sizes (ix4 b t g k)) - heads X (ix4 b t g k) = _
  rw [e1, e2, sizes_apply, heads_apply, totals_apply, totals_apply]
  rfl

theorem scalesP_apply (sc : FVec Ideal S512 .f32) (b : Fin 2) (t : Fin 2048) (g : Fin 4) (k : Fin 128) :
    scalesP sc (ix3 b t (chan g k)) = scaleOf sc g k := by
  pointwise [scalesP]
  rfl

theorem dmixedP_apply (CT : FVec Ideal S2x2048x512 .f32) (sc : FVec Ideal S512 .f32) (b : Fin 2) (t : Fin 2048) (g : Fin 4) (k : Fin 128) :
    dmixedP CT sc (ix4 g k b t) = dmixedAt (part CT b g) (scaleOf sc g) t k := by
  rw [dmixedAt, ← scalesP_apply sc b t]
  pointwise [dmixedP]
  have e : (⟨g.val * 128 + k.val, by omega⟩ : Fin 512) = chan g k := Fin.ext (by show g.val * 128 + k.val = 128 * g.val + k.val; omega)
  rw [e]
  rfl

theorem dpooledP_apply (CT : FVec Ideal S2x2048x512 .f32) (M : FVec Ideal S4x128x128 .f32) (sc : FVec Ideal S512 .f32)
    (b : Fin 2) (t : Fin 2048) (g : Fin 4) (k : Fin 128) :
    dpooledP CT M sc (ix4 b t g k) = dpooledAt (mapOf M g) (part CT b g) (scaleOf sc g) t k := by
  rw [dpooledAt]
  simp only [← dmixedP_apply CT sc]
  pointwise [dpooledP]
  rfl

theorem dmapsP_apply (X CT : FVec Ideal S2x2048x512 .f32) (sc : FVec Ideal S512 .f32) (g : Fin 4) (k d : Fin 128) :
    dmapsP X CT sc (ix3 g k d) = ∑ b : Fin 2, ∑ t : Fin 2048, dmixedAt (part CT b g) (scaleOf sc g) t d * pooledP X (ix4 b t g k) := by
  simp only [← dmixedP_apply CT sc]
  pointwise [dmapsP]

theorem mixedP_apply (X : FVec Ideal S2x2048x512 .f32) (M : FVec Ideal S4x128x128 .f32) (b : Fin 2) (t : Fin 2048) (g : Fin 4) (d : Fin 128) :
    mixedP X M (ix3 b t (chan g d)) = ∑ k : Fin 128, mapOf M g k d * pooledP X (ix4 b t g k) := by
  pointwise [mixedP]
  have e1 : (⟨(chan g d).val / 128, by omega⟩ : Fin 4) = g := Fin.ext (by show (128 * g.val + d.val) / 128 = g.val; omega)
  have e2 : (⟨(chan g d).val % 128, by omega⟩ : Fin 128) = d := Fin.ext (by show (128 * g.val + d.val) % 128 = d.val; omega)
  rw [e1, e2]
  rfl

theorem dscalesP_apply (X CT : FVec Ideal S2x2048x512 .f32) (M : FVec Ideal S4x128x128 .f32) (g : Fin 4) (d : Fin 128) :
    dscalesP X CT M (ix2 0 (chan g d)) = ∑ b : Fin 2, ∑ t : Fin 2048, mixedP X M (ix3 b t (chan g d)) * part CT b g t d := by
  pointwise [dscalesP]
  rw [Cert.Rows.sumLeading_apply, Fin.sum_univ_one, Fin.sum_univ_one]
  have e : (shapeCast S1x1x512 (Host.reduceAdd (mulf (mixedP X M) CT) (constant (F := Ideal) S_ .f32 0x00000000#32) reducesTo_S2x2048x512_S512_d0_1 h_S_)
      shapeCasts_S512_S1x1x512) (ix3 0 0 (chan g d)) = Ideal.hostReduceAdd reducesTo_S2x2048x512_S512_d0_1 (mulf (mixedP X M) CT) 0 (ix1 (chan g d)) := by
    pointwise
  rw [e, Cert.Rows.sumLeading_apply]
  rfl

/-- The cotangent of the totals after token `t`. -/
theorem dtotalsP_apply (Q : Heads) (b : Fin 2) (t : Fin 2048) (g : Fin 4) (k : Fin 128) :
    dtotalsP Q (ix4 b t.succ g k) = Q (ix4 b t g k) + ∑ u : Fin 2048, if u.val + 1 - win g = t.val + 1 then -Q (ix4 b u g k) else 0 := by
  pointwise [dtotalsP]
  have ht := t.isLt
  rw [dif_pos ⟨by show 1 ≤ t.val + 1; omega, by show t.val + 1 - 1 < 2048; omega⟩, scatter_apply pairs_names]
  congr 1
  have hz : broadcastInDim S2x2049x4x128 ![] bcast_S_S2x2049x4x128 (constant (F := Ideal) S_ FTy.f32 0#32) (ix4 b t.succ g k) = 0 := by pointwise
  rw [hz, zero_add]
  refine Finset.sum_congr rfl fun u _ => ?_
  have e : startRow u g = t.succ ↔ u.val + 1 - win g = t.val + 1 := by
    rw [Fin.ext_iff]
    rfl
  by_cases h : startRow u g = t.succ
  · rw [if_pos h, if_pos (e.1 h)]
    rfl
  · rw [if_neg h, if_neg fun q => h (e.2 q)]

theorem dheadsP_apply (CT : FVec Ideal S2x2048x512 .f32) (M : FVec Ideal S4x128x128 .f32) (sc : FVec Ideal S512 .f32)
    (b : Fin 2) (t : Fin 2048) (g : Fin 4) (k : Fin 128) (q p : Fin 2048 → EReal)
    (hp : ∀ u, p u = dpooledAt (mapOf M g) (part CT b g) (scaleOf sc g) u k) (hq : ∀ u, q u = Ideal.div (p u) (places (win g) u)) :
    dheadsP CT M sc (ix4 b t g k) = -p t + ∑ s : Fin 2048, if t.val ≤ s.val then
      q s + ∑ u : Fin 2048, if u.val + 1 - win g = s.val + 1 then -q u else 0 else 0 := by
  show -dpooledP CT M sc (ix4 b t g k) + _ = _
  rw [windowSum_apply _ _ _ _ (by pointwise), dpooledP_apply, ← hp]
  congr 1
  have hQ : ∀ u, Host.divf (dpooledP CT M sc) sizes (ix4 b u g k) = q u := fun u => by
    show Ideal.div (dpooledP CT M sc (ix4 b u g k)) (sizes (ix4 b u g k)) = _
    rw [dpooledP_apply, sizes_apply, hq, hp]
  refine Finset.sum_congr rfl fun s _ => ?_
  have hs := s.isLt
  have e : (extractStridedSlice S2x2048x4x128 ![0, 1, 0, 0] (dtotalsP (Host.divf (dpooledP CT M sc) sizes)) slices_S2x2049x4x128_S2x2048x4x128_0_1_0_0) (ix4 b s g k) =
      dtotalsP (Host.divf (dpooledP CT M sc) sizes) (ix4 b s.succ g k) := by
    pointwise
    exact congrArg (fun q => dtotalsP (Host.divf (dpooledP CT M sc) sizes) (ix4 b q g k)) (Fin.ext (Nat.add_comm ..))
  rw [e, dtotalsP_apply]
  simp only [hQ]
  by_cases h : t.val ≤ s.val
  · rw [if_pos h, if_pos (by omega)]
  · rw [if_neg h, if_neg (by omega)]

end Cert.Pool

end
-- ==== Proof.Pool.Equation.lean ====
/- The windowed sums of the kernel are the differences of totals of the plain program, where every entry is a number. -/
module

public import proofs.«01_k».proof.Proof.Finite
public import proofs.«01_k».proof.Proof.Pool.Plain

@[expose] public section

set_option maxRecDepth 16384

noncomputable section

namespace Cert.Pool

open Idealize.ShloMosaic Idealize.SL.Sem Cert.ReferenceIdeal Cert.ReferenceIdeal.Gen Cert.Finite
open scoped BigOperators

/-- A window's sum is a difference of totals. -/
theorem totals_diff (f : Fin 2048 → ℝ) (w : ℕ) (t : Fin 2048) :
    (∑ u : Fin 2048, if u.val < t.val + 1 then (f u : EReal) else 0) - (∑ u : Fin 2048, if u.val < t.val + 1 - w then (f u : EReal) else 0) =
      trail w (fun u => (f u : EReal)) t := by
  unfold trail
  simp only [coe_ite, ← coe_sum, ← EReal.coe_sub]
  rw [← Finset.sum_sub_distrib]
  congr 1
  refine Finset.sum_congr rfl fun u _ => ?_
  split_ifs <;> first | omega | simp

/-- Totals from each place on, each token's share taken back where its window's first token lies, leave the shares of the windows that
    hold the token. -/
theorem shares_back (q : Fin 2048 → ℝ) (w : ℕ) (t : Fin 2048) :
    (∑ s : Fin 2048, if t.val ≤ s.val then (q s : EReal) + ∑ u : Fin 2048, (if u.val + 1 - w = s.val + 1 then -(q u : EReal) else 0) else 0) =
      ahead w (fun u => (q u : EReal)) t := by
  unfold ahead
  simp only [← EReal.coe_neg, coe_ite, ← coe_sum, ← EReal.coe_add]
  congr 1
  have h1 : ∀ s : Fin 2048, (if t.val ≤ s.val then q s + ∑ u : Fin 2048, (if u.val + 1 - w = s.val + 1 then -q u else 0) else 0) =
      (if t.val ≤ s.val then q s else 0) + ∑ u : Fin 2048, if t.val ≤ s.val ∧ u.val + 1 - w = s.val + 1 then -q u else 0 := fun s => by
    by_cases h : t.val ≤ s.val <;> simp [h]
  simp only [h1]
  rw [Finset.sum_add_distrib, Finset.sum_comm, ← Finset.sum_add_distrib]
  refine Finset.sum_congr rfl fun u _ => ?_
  have hu := u.isLt
  have h2 : (∑ s : Fin 2048, if t.val ≤ s.val ∧ u.val + 1 - w = s.val + 1 then -q u else 0) = if t.val + w ≤ u.val then -q u else 0 := by
    by_cases h : t.val + w ≤ u.val
    · rw [if_pos h, Finset.sum_eq_single ⟨u.val - w, by omega⟩]
      · exact if_pos ⟨by dsimp only; omega, by dsimp only; omega⟩
      · intro s _ hs
        exact if_neg fun q => hs (Fin.ext (by dsimp only; omega))
      · simp
    · rw [if_neg h]
      exact Finset.sum_eq_zero fun s _ => if_neg (by omega)
  rw [h2]
  split_ifs <;> first | omega | simp

theorem places_pos {w : ℕ} (hw : 0 < w) (t : Fin 2048) : ((min (t.val + 1) w : ℕ) : ℝ) ≠ 0 := by
  have : 0 < min (t.val + 1) w := by omega
  exact_mod_cast this.ne'

theorem div_places {w : ℕ} (hw : 0 < w) (t : Fin 2048) (r : ℝ) : ∃ s : ℝ, Ideal.div (r : EReal) (places w t) = (s : EReal) :=
  ⟨r * (1 / ((min (t.val + 1) w : ℕ) : ℝ)), by rw [places, Ideal.div_coe (places_pos hw t), EReal.coe_mul]⟩

theorem mul_real {x y : EReal} (hx : ∃ r : ℝ, x = r) (hy : ∃ r : ℝ, y = r) : ∃ r : ℝ, x * y = (r : EReal) := by
  obtain ⟨a, rfl⟩ := hx
  obtain ⟨b, rfl⟩ := hy
  exact ⟨a * b, (EReal.coe_mul a b).symm⟩

theorem sum_real {ι : Type} [Fintype ι] {f : ι → EReal} (h : ∀ i, ∃ r : ℝ, f i = r) : ∃ r : ℝ, ∑ i, f i = (r : EReal) := by
  choose g hg using h
  exact ⟨∑ i, g i, by rw [coe_sum]; exact Finset.sum_congr rfl fun i _ => hg i⟩

section
variable {X CT : FVec Ideal S2x2048x512 .f32} {M : FVec Ideal S4x128x128 .f32} {sc : FVec Ideal S512 .f32}

theorem pooled_same (hX : AllReal X) (b : Fin 2) (t : Fin 2048) (g : Fin 4) (k : Fin 128) :
    pooledP X (ix4 b t g k) = pooledAt (win g) (part X b g) t k := by
  choose x hx using fun u => hX (ix3 b u (chan g k))
  rw [pooledP_eq, pooledAt]
  have e : ∀ u, part X b g u k = (x u : EReal) := hx
  simp only [e]
  rw [totals_diff]

theorem dpooled_real (hC : AllReal CT) (hM : AllReal M) (hs : AllReal sc) (b : Fin 2) (g : Fin 4) (u : Fin 2048) (k : Fin 128) :
    ∃ r : ℝ, dpooledAt (mapOf M g) (part CT b g) (scaleOf sc g) u k = (r : EReal) :=
  sum_real fun d => mul_real (mul_real (hC _) (hs _)) (hM _)

theorem dheads_same (hC : AllReal CT) (hM : AllReal M) (hs : AllReal sc) (b : Fin 2) (t : Fin 2048) (g : Fin 4) (k : Fin 128) :
    dheadsP CT M sc (ix4 b t g k) = dTokens M sc CT b t g k := by
  choose p hp using fun u => dpooled_real hC hM hs b g u k
  choose q hq using fun u => div_places (win_pos g) u (p u)
  rw [dheadsP_apply CT M sc b t g k (fun u => (q u : EReal)) (fun u => (p u : EReal)) (fun u => (hp u).symm) (fun u => (hq u).symm)]
  rw [shares_back, dTokens, dtokenAt]
  simp only [hp, hq]
  rw [sub_eq_add_neg, add_comm]

theorem dmaps_same (hX : AllReal X) (g : Fin 4) (k d : Fin 128) :
    dmapsP X CT sc (ix3 g k d) = dMaps X sc CT g k d := by
  rw [dmapsP_apply, Fin.sum_univ_two, dMaps, dmapAt, dmapAt]
  simp only [pooled_same hX, mul_comm]

theorem dscales_same (hX : AllReal X) (g : Fin 4) (d : Fin 128) :
    dscalesP X CT M (ix2 0 (chan g d)) = dScales X M CT g d := by
  rw [dscalesP_apply, Fin.sum_univ_two, dScales, dscaleAt, dscaleAt]
  simp only [mixedP_apply, pooled_same hX, mixedAt, mul_comm]
end

end Cert.Pool

end
-- ==== Proof.Pool.Final.lean ====
/- The plain program's three results are the kernel's three arrays. -/
module

public import proofs.«01_k».proof.Proof.Pool.Arrays
public import proofs.«01_k».proof.Proof.Pool.Equation
public import proofs.«01_k».proof.Pre_finite

@[expose] public section

set_option maxRecDepth 16384

noncomputable section

namespace Cert.Pool

open Idealize.ShloMosaic Idealize.SL.Sem Cert.ReferenceIdeal Cert.ReferenceIdeal.Gen Cert.Finite
open scoped BigOperators

/-- The side conditions of the precondition's operations. -/
instance finiteFacts : Cert.Pre_finite.Facts where
  bcast_S_S2x2048x512 := by decide
  reducesTo_S2x2048x512_S_d0_1_2 := by decide
  h_S_ := by decide
  bcast_S_S4x128x128 := by decide
  reducesTo_S4x128x128_S_d0_1_2 := by decide
  bcast_S_S512 := by decide
  reducesTo_S512_S_d0 := by decide

theorem args_real [Cert.Pre_finite.Facts] (X : FVec Ideal S2x2048x512 .f32) (M : FVec Ideal S4x128x128 .f32) (sc : FVec Ideal S512 .f32) (CT : FVec Ideal S2x2048x512 .f32)
    (h : Cert.Pre_finite.fn (F := Ideal) X M sc CT = fun _ => 1#1) : AllReal X ∧ AllReal M ∧ AllReal sc ∧ AllReal CT := by
  have h0 := congrFun h ix0
  obtain ⟨h1, hC⟩ := andi_ones h0
  obtain ⟨h2, hs⟩ := andi_ones h1
  obtain ⟨hX, hM⟩ := andi_ones h2
  exact ⟨allReal_of_reduce X _ (infinity_apply _) _ _ _ hX, allReal_of_reduce M _ (infinity_apply _) _ _ _ hM,
    allReal_of_reduce sc _ (infinity_apply _) _ _ _ hs, allReal_of_reduce CT _ (infinity_apply _) _ _ _ hC⟩

variable {X CT : FVec Ideal S2x2048x512 .f32} {M : FVec Ideal S4x128x128 .f32} {sc : FVec Ideal S512 .f32}

theorem tokens_result (hC : AllReal CT) (hM : AllReal M) (hs : AllReal sc) :
    dtokensP CT M sc = fun i : S4096x512.Idx => dTokens M sc CT (seqRow (i 0)) (tokRow (i 0)) (grp (i 1)) (lane (i 1)) := by
  funext i
  obtain ⟨r, c, rfl⟩ : ∃ (r : Fin 4096) (c : Fin 512), i = ix2 r c := ⟨i 0, i 1, by funext a; fin_cases a <;> rfl⟩
  show _ = dTokens M sc CT (seqRow r) (tokRow r) (grp c) (lane c)
  rw [← dheads_same hC hM hs]
  pointwise [dtokensP]
  rfl

theorem maps_result (hX : AllReal X) : dmapsP X CT sc = fun i : S4x128x128.Idx => dMaps X sc CT (i 0) (i 1) (i 2) := by
  funext i
  obtain ⟨g, k, d, rfl⟩ : ∃ (g : Fin 4) (k d : Fin 128), i = ix3 g k d := ⟨i 0, i 1, i 2, by funext a; fin_cases a <;> rfl⟩
  exact dmaps_same hX g k d

theorem scales_result (hX : AllReal X) : dscalesP X CT M = fun i : S1x512.Idx => dScales X M CT (grp (i 1)) (lane (i 1)) := by
  funext i
  have e : i = ix2 0 (chan (grp (i 1)) (lane (i 1))) := by
    funext a
    fin_cases a
    · exact Subsingleton.elim (α := Fin 1) _ _
    · apply Fin.ext
      show (i 1).val = 128 * ((i 1).val / 128) + (i 1).val % 128
      omega
  conv_lhs => rw [e]
  exact dscales_same hX _ _

end Cert.Pool

end
-- ==== Proof.Attn.Row.lean ====
/- One query against the keys it sees: the running maximum and the running sums, and what they end at. Scores are in base two. -/
module

public import proofs.«01_k».proof.Proof.Finite
public import Idealize.ShloMosaic.PureOps.Ideal
public import Mathlib.Analysis.SpecialFunctions.Pow.Real

@[expose] public section

noncomputable section

namespace Cert.Attn

open Idealize Idealize.ShloMosaic Cert.Finite

/-- A sum of products of reals, taken among the extended reals. -/
theorem sum_mul_coe {ι : Type} [Fintype ι] {f g : ι → EReal} {a b : ι → ℝ} (hf : ∀ i, f i = (a i : EReal)) (hg : ∀ i, g i = (b i : EReal)) :
    ∑ i, f i * g i = ((∑ i, a i * b i : ℝ) : EReal) := by
  rw [coe_sum]
  exact Finset.sum_congr rfl fun i _ => by rw [hf, hg, EReal.coe_mul]

/-- Two to a real power. -/
def two (x : ℝ) : ℝ := Real.rpow 2 x

theorem two_pos (x : ℝ) : 0 < two x := Real.rpow_pos_of_pos _root_.two_pos x
theorem two_add (x y : ℝ) : two (x + y) = two x * two y := Real.rpow_add _root_.two_pos x y
theorem log_two_ne : Real.log 2 ≠ 0 := (Real.log_pos one_lt_two).ne'
theorem two_eq_exp (x : ℝ) : two x = Real.exp (Real.log 2 * x) := Real.rpow_def_of_pos _root_.two_pos x
theorem log_two_rpow (x : ℝ) : Real.log (two x) = x * Real.log 2 := Real.log_rpow _root_.two_pos x
theorem two_log (x : ℝ) (hx : 0 < x) : two (Real.log x * (Real.log 2)⁻¹) = x := by
  rw [two_eq_exp, mul_comm, mul_assoc, inv_mul_cancel₀ log_two_ne, mul_one, Real.exp_log hx]

/-- A score: the real `σ` where the key is seen, nothing where it is not. -/
def seen (a : Prop) [Decidable a] (σ : ℝ) : EReal := if a then (σ : EReal) else ⊥
/-- The weight of a key. -/
def weight (a : Prop) [Decidable a] (σ : ℝ) : ℝ := if a then two σ else 0

theorem exp2_seen (a : Prop) [Decidable a] (σ μ : ℝ) : Ideal.exp2 (seen a σ - (μ : EReal)) = ((two (-μ) * weight a σ : ℝ) : EReal) := by
  unfold seen weight
  split
  · rw [← EReal.coe_sub, sub_eq_add_neg, mul_comm, ← two_add]
    rfl
  · rw [EReal.bot_sub, Ideal.exp2_bot, mul_zero]
    rfl

/-- The running maximum `m` and the running sums `a` of a query that has seen keys whose weighted values add to `N`. -/
def Held (m : EReal) (a : Fin 256 → EReal) (N : Fin 256 → ℝ) : Prop :=
  ∃ μ : ℝ, m = (μ : EReal) ∧ ∀ d, a d = ((two (-μ) * N d : ℝ) : EReal)

/-- The same before the first key, where nothing was added yet. -/
def Begun (m : EReal) (a : Fin 256 → EReal) (N : Fin 256 → ℝ) : Prop :=
  (m = ⊥ ∧ (∀ d, a d = 0) ∧ ∀ d, N d = 0) ∨ Held m a N

/-- The running maximum stays a number. -/
theorem max_real {m : EReal} {s : Fin 512 → EReal} (hm : m < ⊤) (hs : ∀ c, s c < ⊤) (hb : ∃ c, ⊥ < s c) :
    ∃ μ : ℝ, max m (Finset.fold max ⊥ s Finset.univ) = (μ : EReal) := by
  have ht : max m (Finset.fold max ⊥ s Finset.univ) < ⊤ := max_lt hm (Finset.fold_max_lt _ |>.mpr ⟨bot_lt_top, fun c _ => hs c⟩)
  obtain ⟨c, hc⟩ := hb
  have hbot : ⊥ < max m (Finset.fold max ⊥ s Finset.univ) :=
    lt_max_of_lt_right (Finset.lt_fold_max _ |>.mpr (Or.inr ⟨c, Finset.mem_univ c, hc⟩))
  exact ⟨_, (EReal.coe_toReal ht.ne hbot.ne').symm⟩

/-- One tile of keys: the running sums keep holding what was seen, the new keys among it. -/
theorem held_step {m : EReal} {a : Fin 256 → EReal} {N : Fin 256 → ℝ} (h : Begun m a N) {s : Fin 512 → EReal} {v : Fin 512 → Fin 256 → EReal}
    {A : Fin 512 → Prop} [∀ c, Decidable (A c)] {σ : Fin 512 → ℝ} {w : Fin 512 → Fin 256 → ℝ}
    (hs : ∀ c, s c = seen (A c) (σ c)) (hv : ∀ c d, v c d = (w c d : EReal)) (hA : ∃ c, A c) {m' : EReal} (hm' : m' = max m (Finset.fold max ⊥ s Finset.univ)) :
    Held m' (fun d => Ideal.exp2 (m - m') * a d + ∑ c, Ideal.exp2 (s c - m') * v c d) fun d => N d + ∑ c, weight (A c) (σ c) * w c d := by
  have hm : m < ⊤ := by
    rcases h with ⟨rfl, -⟩ | ⟨μ, rfl, -⟩
    · exact bot_lt_top
    · exact EReal.coe_lt_top μ
  obtain ⟨μ', e⟩ := max_real (s := s) hm
    (fun c => by rw [hs, seen]; split; exacts [EReal.coe_lt_top _, bot_lt_top])
    (by obtain ⟨c, hc⟩ := hA; exact ⟨c, by rw [hs, seen, if_pos hc]; exact EReal.bot_lt_coe _⟩)
  rw [e] at hm'
  subst hm'
  refine ⟨μ', rfl, fun d => ?_⟩
  have h1 : Ideal.exp2 (m - (μ' : EReal)) * a d = ((two (-μ') * N d : ℝ) : EReal) := by
    rcases h with ⟨rfl, h0, hN⟩ | ⟨μ, rfl, ha⟩
    · rw [h0, hN, mul_zero, mul_zero]; rfl
    · rw [ha, ← EReal.coe_sub, Ideal.exp2_coe, ← EReal.coe_mul]
      show ((two (μ - μ') * (two (-μ) * N d) : ℝ) : EReal) = _
      rw [← mul_assoc, ← two_add]
      congr 3
      ring
  have h2 : ∑ c, Ideal.exp2 (s c - (μ' : EReal)) * v c d = ((two (-μ') * ∑ c, weight (A c) (σ c) * w c d : ℝ) : EReal) := by
    rw [sum_mul_coe (a := fun c => two (-μ') * weight (A c) (σ c)) (b := fun c => w c d) (fun c => by rw [hs, exp2_seen]) (fun c => hv c d), Finset.mul_sum]
    congr 1
    exact Finset.sum_congr rfl fun c _ => mul_assoc _ _ _
  show Ideal.exp2 (m - (μ' : EReal)) * a d + ∑ c, Ideal.exp2 (s c - (μ' : EReal)) * v c d = _
  rw [h1, h2, ← EReal.coe_add, mul_add]

/-- The running sums divided: the mean of the values by the weights. -/
theorem held_out {m : EReal} {a : Fin 256 → EReal} {N : Fin 256 → ℝ} (h : Held m a N) (e d : Fin 256) (hL : N e ≠ 0) :
    Ideal.div (a d) (a e) = ((N d / N e : ℝ) : EReal) := by
  obtain ⟨μ, -, ha⟩ := h
  have h0 := (two_pos (-μ)).ne'
  rw [ha, ha, Ideal.div_coe (mul_ne_zero h0 hL), ← EReal.coe_mul]
  congr 1
  field_simp

/-- The maximum and the logarithm of the sum, added: the logarithm in base two of the sum of the weights. -/
theorem held_lse {m : EReal} {a : Fin 256 → EReal} {N : Fin 256 → ℝ} (h : Held m a N) (e : Fin 256) (hL : 0 < N e) :
    m + Ideal.log (a e) * (((Real.log 2)⁻¹ : ℝ) : EReal) = ((Real.log (N e) * (Real.log 2)⁻¹ : ℝ) : EReal) := by
  obtain ⟨μ, rfl, ha⟩ := h
  have h0 := mul_pos (two_pos (-μ)) hL
  rw [ha, Ideal.log_coe, if_neg (not_le.mpr h0), ← EReal.coe_mul, ← EReal.coe_add, Real.log_mul (two_pos _).ne' hL.ne', log_two_rpow]
  congr 1
  have := log_two_ne
  field_simp
  ring

end Cert.Attn

end
-- ==== Proof.Attn.Tile.lean ====
/- What the forward kernel does to one tile of 512 queries and one tile of 512 keys, written over whole tiles. -/
module

public import proofs.«01_k».proof.Proof.Gen.AttnKernelIdeal.Frame
public import proofs.«01_k».proof.Proof.Attn.Row
public import Idealize.ShloMosaic.Lib.Pipeline.ValueKit
public import Idealize.ShloMosaic.Lib.Claim

@[expose] public section

set_option maxRecDepth 16384

noncomputable section

namespace Cert.Attn

open Idealize Idealize.ShloMosaic Idealize.SL.Sem Cert.AttnKernelIdeal Cert.AttnKernelIdeal.Gen

/-- A tile of queries or keys: 512 rows of 256 numbers. -/
abbrev Wide := FVec Ideal S512x256 .bf16
/-- A tile of scores. -/
abbrev Scores := FVec Ideal S512x512 .f32
/-- One number per row of a tile. -/
abbrev Column := FVec Ideal S512x1 .f32
/-- A tile of running sums. -/
abbrev Sums := FVec Ideal S512x256 .f32

/-- The scores of a tile of queries against a tile of keys, scaled. -/
def scoreV (q k : Wide) : Scores :=
  mulf (matmul dot_S512x256_S512x256_S512x512_1_1_0_0_n_n none (shapeCast S512x256 q shapeCasts_S512x256_S512x256) k (constant S512x512 .f32 0x00000000#32))
    (broadcast S512x512 (Named.named κ "scale_log2" 0x3DD53B95#32))
/-- Scores on the diagonal: a query does not see later keys. -/
def maskV (s : Scores) : Scores :=
  select (cmpi .sge (iota .tc S512x512 32 [0] iota_S512x512_d0_w32) (iota .tc S512x512 32 [1] iota_S512x512_d1_w32)) s
    (broadcast S512x512 (Named.named κ "mask" 0xF149F2CA#32))
/-- The running maximum before any key is seen. -/
def max0 : Column := broadcast S512x1 (Named.named κ "mask" 0xF149F2CA#32)
/-- The running sums before any key is seen. -/
def sum0 : Sums := broadcast S512x256 (Scalar.ofBits .f32 0x00000000#32)
/-- The running maximum after a tile of scores. -/
def maxV (m : Column) (s : Scores) : Column :=
  maximumf m (shapeCast S512x1 (multiReduction .maximumf [1] S512 s 0xFF800000#32 reduces_S512x512_S512 (.inl rfl) rfl) shapeCasts_S512_S512x1)
/-- The running sums after a tile of scores `s` and values `v`, the maximum going from `m` to `m'`. -/
def sumV (m m' : Column) (a : Sums) (s : Scores) (v : Wide) : Sums :=
  addf (mulf (broadcastTo S512x256 (exp2 (subf m m')) broadcasts_S512x1_S512x256) a)
    (matmul dot_S512x512_S512x256_S512x256_1_0_0_1_n_n none
      (truncf .bf16 (exp2 (subf s (broadcastTo S512x512 m' broadcasts_S512x1_S512x512))) bitsLt_bf16_f32) v (constant S512x256 .f32 0x00000000#32))
/-- The sum of the weights: column 128 of the running sums. -/
def totalV (a : Sums) : Column := extractStridedSlice S512x1 ![0, 128] a slices_S512x256_o0_128_S512x1
/-- The attention of a tile of queries from its running sums. -/
def outV (a : Sums) : FVec Ideal S512x128 .bf16 :=
  truncf .bf16 (divf (extractStridedSlice S512x128 ![0, 0] a slices_S512x256_o0_0_S512x128) (broadcastTo S512x128 (totalV a) broadcasts_S512x1_S512x128)) bitsLt_bf16_f32
/-- The logarithm of the sum of the weights of a tile of queries, in base two. -/
def lseV (m : Column) (a : Sums) : FVec Ideal S512x128 .f32 :=
  broadcastTo S512x128 (shapeCast S512x1 (addf m (mulf (log (totalV a)) (broadcast S512x1 (Named.named κ "log2e" 0x3FB8AA3B#32)))) shapeCasts_S512x1_S512x1)
    broadcasts_S512x1_S512x128

/-- The scores of a tile with each query under the keys it is compared to. -/
theorem scoreV_apply (q k : Wide) (r c : Fin 512) :
    scoreV q k (ix2 r c) = (∑ e : Fin 256, q (ix2 r e) * k (ix2 c e)) * Named.named κ "scale_log2" 0x3DD53B95#32 := by
  pointwise [scoreV]

theorem maskV_apply (s : Scores) (r c : Fin 512) : maskV s (ix2 r c) = if c.val ≤ r.val then s (ix2 r c) else ⊥ := by
  pointwise [maskV]
  rw [WordCmp.cmpi_sge_ofNat (by omega) (by omega)]
  split
  · simp [Scalar.select, *]
  · simp [Scalar.select, *]
    rfl

theorem maxV_apply (m : Column) (s : Scores) (r : Fin 512) :
    maxV m s (ix2 r 0) = max (m (ix2 r 0)) (Finset.fold max ⊥ (fun c => s (ix2 r c)) Finset.univ) := by
  pointwise [maxV]
  rw [show Ideal.ofBits FTy.f32 0xFF800000#32 = (⊥ : EReal) by simp [Ideal.ofBits, Ideal.ieee]]

theorem sumV_apply (m m' : Column) (a : Sums) (s : Scores) (v : Wide) (r : Fin 512) (d : Fin 256) :
    sumV m m' a s v (ix2 r d) = Ideal.exp2 (m (ix2 r 0) - m' (ix2 r 0)) * a (ix2 r d) + ∑ c : Fin 512, Ideal.exp2 (s (ix2 r c) - m' (ix2 r 0)) * v (ix2 c d) := by
  pointwise [sumV]
  rfl

theorem outV_apply (a : Sums) (r : Fin 512) (d : Fin 128) : outV a (ix2 r d) = Ideal.div (a (ix2 r ⟨d.val, by omega⟩)) (a (ix2 r 128)) := by
  pointwise [outV, totalV]

theorem lseV_apply (m : Column) (a : Sums) (r : Fin 512) (d : Fin 128) :
    lseV m a (ix2 r d) = m (ix2 r 0) + Ideal.log (a (ix2 r 128)) * Named.named κ "log2e" 0x3FB8AA3B#32 := by
  pointwise [lseV, totalV]

/-- Row `r` of tile `i`. -/
def at4 (i : Fin 4) (r : Fin 512) : Fin 2048 := ⟨512 * i.val + r.val, by omega⟩

theorem at4_le (i j : Fin 4) (h : j < i) (r c : Fin 512) : (at4 j c).val ≤ (at4 i r).val := by
  have : j.val < i.val := h
  show 512 * j.val + c.val ≤ 512 * i.val + r.val
  omega
theorem at4_diag (i : Fin 4) (r c : Fin 512) : (at4 i c).val ≤ (at4 i r).val ↔ c.val ≤ r.val := by
  show 512 * i.val + c.val ≤ 512 * i.val + r.val ↔ _
  omega
theorem at4_not (i j : Fin 4) (h : i < j) (r c : Fin 512) : ¬(at4 j c).val ≤ (at4 i r).val := by
  have : i.val < j.val := h
  show ¬512 * j.val + c.val ≤ 512 * i.val + r.val
  omega

/-- A sum over the rows, tile by tile. -/
theorem sum_tiles {α : Type} [AddCommMonoid α] (f : Fin 2048 → α) : ∑ R, f R = ∑ i, ∑ r, f (at4 i r) := by
  rw [← Finset.sum_product', Finset.univ_product_univ]
  refine (Equiv.sum_comp (finProdFinEquiv (m := 4) (n := 512)) f).symm.trans (Finset.sum_congr rfl fun p _ => congrArg f (Fin.ext ?_))
  show p.2.val + 512 * p.1.val = 512 * p.1.val + p.2.val
  omega

section
variable (Q K : Fin 2048 → Fin 256 → ℝ)

/-- The score of query `R` and key `C`, in base two. -/
def sigma (R C : Fin 2048) : ℝ := (∑ e, Q R e * K C e) * ((Real.sqrt 192)⁻¹ * (Real.log 2)⁻¹)
/-- The weight of key `C` for query `R`. -/
def wt (R C : Fin 2048) : ℝ := weight (C.val ≤ R.val) (sigma Q K R C)
/-- The sum of a query's weights. -/
def norm (R : Fin 2048) : ℝ := ∑ C, wt Q K R C

theorem wt_nonneg (R C : Fin 2048) : 0 ≤ wt Q K R C := by
  unfold wt weight
  split
  · exact (two_pos _).le
  · exact le_rfl
theorem norm_pos (R : Fin 2048) : 0 < norm Q K R := by
  refine lt_of_lt_of_le ?_ (Finset.single_le_sum (fun C _ => wt_nonneg Q K R C) (Finset.mem_univ R))
  rw [wt, weight, if_pos le_rfl]
  exact two_pos _
theorem wt_not {R C : Fin 2048} (h : ¬C.val ≤ R.val) : wt Q K R C = 0 := if_neg h

variable {Q K}

theorem score_real {i j : Fin 4} {q k : Wide} (hq : ∀ r e, q (ix2 r e) = (Q (at4 i r) e : EReal)) (hk : ∀ c e, k (ix2 c e) = (K (at4 j c) e : EReal)) (r c : Fin 512) :
    scoreV q k (ix2 r c) = (sigma Q K (at4 i r) (at4 j c) : EReal) := by
  rw [scoreV_apply, sum_mul_coe (fun e => hq r e) (fun e => hk c e)]
  exact (EReal.coe_mul _ _).symm

theorem score_before {i j : Fin 4} (h : j < i) {q k : Wide} (hq : ∀ r e, q (ix2 r e) = (Q (at4 i r) e : EReal)) (hk : ∀ c e, k (ix2 c e) = (K (at4 j c) e : EReal)) (r c : Fin 512) :
    scoreV q k (ix2 r c) = seen ((at4 j c).val ≤ (at4 i r).val) (sigma Q K (at4 i r) (at4 j c)) := by
  rw [score_real hq hk, seen, if_pos (at4_le i j h r c)]

theorem score_diag {i : Fin 4} {q k : Wide} (hq : ∀ r e, q (ix2 r e) = (Q (at4 i r) e : EReal)) (hk : ∀ c e, k (ix2 c e) = (K (at4 i c) e : EReal)) (r c : Fin 512) :
    maskV (scoreV q k) (ix2 r c) = seen ((at4 i c).val ≤ (at4 i r).val) (sigma Q K (at4 i r) (at4 i c)) := by
  rw [maskV_apply, score_real hq hk, seen]
  exact if_congr (at4_diag i r c).symm rfl rfl
end

end Cert.Attn

end
-- ==== Proof.Attn.Beside.lean ====
/- The two halves of a block of keys or values, side by side in one array, and the tiles read from it. -/
module

public import proofs.«01_k».proof.Proof.Attn.Tile

@[expose] public section

set_option maxRecDepth 16384

noncomputable section

namespace Cert.Attn

open Idealize Idealize.ShloMosaic Idealize.SL.Sem Cert.AttnKernelIdeal Cert.AttnKernelIdeal.Gen

/-- Row `C`, column `e` of `A` and `B` side by side. -/
def beside (A B : Fin 2048 → Fin 128 → ℝ) (C : Fin 2048) (e : Fin 256) : ℝ := if h : e.val < 128 then A C ⟨e.val, h⟩ else B C ⟨e.val - 128, by omega⟩

variable (v : View sig .tc .vmem S2048x256 .bf16)

/-- The two stores that fill the array. -/
abbrev halves (x y : FVec Ideal S2048x128 .bf16) : List (View.Piece (Elt Ideal) S2048x256 .bf16) :=
  [⟨Rect.unit ![0, 128] ![2048, 128] inb_S2048x256_S2048x128_0_128, y⟩, ⟨Rect.unit ![0, 0] ![2048, 128] inb_S2048x256_S2048x128_0_0, x⟩]

theorem halves_at {x y : FVec Ideal S2048x128 .bf16} {A B : Fin 2048 → Fin 128 → ℝ} (hx : ∀ C d, x (ix2 C d) = (A C d : EReal)) (hy : ∀ C d, y (ix2 C d) = (B C d : EReal))
    (i : S2048x256.Idx) : View.canon (halves x y) i = (beside A B (i 0) (i 1) : EReal) := by
  canon_tiles z h
  · unfold beside
    rw [dif_neg (by omega), show i 0 = z 0 from Fin.ext h0, show (⟨(i 1).val - 128, by omega⟩ : Fin 128) = z 1 from Fin.ext (by show (i 1).val - 128 = _; omega)]
    exact (congrArg y (eq_ix2 z)).trans (hy _ _)
  · unfold beside
    rw [dif_pos (by omega), show i 0 = z 0 from Fin.ext h0, show (⟨(i 1).val, by omega⟩ : Fin 128) = z 1 from Fin.ext h1]
    exact (congrArg x (eq_ix2 z)).trans (hx _ _)

/-- The 512 rows of an array from row `o` on. -/
abbrev rows (o : ℕ) (inb : ∀ a, ![o, 0] a + ![512, 256] a ≤ S2048x256.size a) : Rect S2048x256 := Rect.unit ![o, 0] ![512, 256] inb

theorem rows_at {o : ℕ} (inb : ∀ a, ![o, 0] a + ![512, 256] a ≤ S2048x256.size a) (j : Fin 4) (ho : o = 512 * j.val) (c : Fin 512) (e : Fin 256) :
    (rows o inb).emb (ix2 c e) = ix2 (at4 j c) e := by
  subst ho
  refine (Idealize.ShloMosaic.eq_ix2 _).trans (congrArg₂ ix2 (Fin.ext ?_) (Fin.ext ?_))
  · show 512 * j.val + 1 * c.val = _
    simp [at4]
  · show 0 + 1 * e.val = _
    simp

theorem tile_load {x y : FVec Ideal S2048x128 .bf16} {A B : Fin 2048 → Fin 128 → ℝ} (hx : ∀ C d, x (ix2 C d) = (A C d : EReal)) (hy : ∀ C d, y (ix2 C d) = (B C d : EReal))
    {o : ℕ} (inb : ∀ a, ![o, 0] a + ![512, 256] a ≤ S2048x256.size a) (j : Fin 4) (ho : o = 512 * j.val) (c : Fin 512) (e : Fin 256) :
    (v.readCov (halves x y) (rows o inb).toLoadRect : Wide) (ix2 c e) = (beside A B (at4 j c) e : EReal) := by
  rw [View.readCov_eq_canon']
  show View.canon (halves x y) ((rows o inb).emb (ix2 c e)) = _
  rw [rows_at inb j ho, halves_at hx hy]
  rfl

theorem tile_ld {x : Vec Ideal S2048x256 .bf16} {A : Fin 2048 → Fin 256 → ℝ} (hx : ∀ C d, x (ix2 C d) = (A C d : EReal))
    {o : ℕ} (inb : ∀ a, ![o, 0] a + ![512, 256] a ≤ S2048x256.size a) (j : Fin 4) (ho : o = 512 * j.val) (c : Fin 512) (e : Fin 256) :
    (View.ld x (rows o inb) : Wide) (ix2 c e) = (A (at4 j c) e : EReal) := by
  show x ((rows o inb).emb (ix2 c e)) = _
  rw [rows_at inb j ho, hx]

end Cert.Attn

end
-- ==== Proof.Attn.Forward.lean ====
/- One grid point of the forward kernel: the attention of one head, and the logarithms of its sums, as functions of the head's blocks. -/
module

public import proofs.«01_k».proof.Proof.Attn.Beside

@[expose] public section

set_option maxRecDepth 16384

noncomputable section

namespace Cert.Attn

open Idealize Idealize.ShloMosaic Idealize.SL.Sem Cert.AttnKernelIdeal Cert.AttnKernelIdeal.Gen

/-- The running maximum after some tiles of scores and values, the last one first. -/
def runMax : List (Scores × Wide) → Column
  | [] => max0
  | p :: l => maxV (runMax l) p.1
/-- The running sums after some tiles of scores and values, the last one first. -/
def runSum : List (Scores × Wide) → Sums
  | [] => sum0
  | p :: l => sumV (runMax l) (runMax (p :: l)) (runSum l) p.1 p.2

section
variable {Q K W : Fin 2048 → Fin 256 → ℝ}

/-- What tile `j` of the keys adds to the sums of query `R`. -/
def part (Q K W : Fin 2048 → Fin 256 → ℝ) (R : Fin 2048) (j : Fin 4) (d : Fin 256) : ℝ := ∑ c, wt Q K R (at4 j c) * W (at4 j c) d

/-- Tile `i` of the queries: the running numbers hold `N`. -/
def Holds (i : Fin 4) (l : List (Scores × Wide)) (N : Fin 2048 → Fin 256 → ℝ) : Prop :=
  ∀ r, Held (runMax l (ix2 r 0)) (fun d => runSum l (ix2 r d)) (N (at4 i r))

/-- Tile `i` of the queries: the running numbers hold `N`, or no key was seen. -/
def Starts (i : Fin 4) (l : List (Scores × Wide)) (N : Fin 2048 → Fin 256 → ℝ) : Prop :=
  ∀ r, Begun (runMax l (ix2 r 0)) (fun d => runSum l (ix2 r d)) (N (at4 i r))

theorem begun (i : Fin 4) : Starts i [] fun _ _ => 0 := by
  intro r
  refine Or.inl ⟨rfl, fun d => ?_, fun _ => rfl⟩
  show Ideal.ofBits .f32 0x00000000#32 = 0
  simp [Ideal.ofBits, Ideal.ieee]

theorem holds_step {i j : Fin 4} {l : List (Scores × Wide)} {N : Fin 2048 → Fin 256 → ℝ}
    (h : Starts i l N) {s : Scores} {v : Wide}
    (hs : ∀ r c, s (ix2 r c) = seen ((at4 j c).val ≤ (at4 i r).val) (sigma Q K (at4 i r) (at4 j c)))
    (hv : ∀ c d, v (ix2 c d) = (W (at4 j c) d : EReal)) (hji : j ≤ i) : Holds i ((s, v) :: l) fun R d => N R d + part Q K W R j d := by
  intro r
  have := held_step (h r) (hs r) hv ⟨0, by
    have : j.val ≤ i.val := hji
    show 512 * j.val + 0 ≤ 512 * i.val + r.val
    omega⟩ (maxV_apply (runMax l) s r)
  rcases this with ⟨μ, e, h⟩
  exact ⟨μ, e, fun d => (sumV_apply _ _ _ _ _ r d).trans (h d)⟩

theorem Holds.begun {i : Fin 4} {l : List (Scores × Wide)} {N : Fin 2048 → Fin 256 → ℝ} (h : Holds i l N) : Starts i l N := fun r => Or.inr (h r)

theorem part_after {i j : Fin 4} (h : i < j) (r : Fin 512) (d : Fin 256) : part Q K W (at4 i r) j d = 0 :=
  Finset.sum_eq_zero fun c _ => by rw [wt_not Q K (at4_not i j h r c), zero_mul]

/-- The sums of query `R` over all keys. -/
def total (Q K W : Fin 2048 → Fin 256 → ℝ) (R : Fin 2048) (d : Fin 256) : ℝ := ∑ C, wt Q K R C * W C d

theorem total_parts (R : Fin 2048) (d : Fin 256) :
    total Q K W R d = part Q K W R 0 d + part Q K W R 1 d + part Q K W R 2 d + part Q K W R 3 d := by
  rw [total, sum_tiles, Fin.sum_univ_four]
  rfl

/-- The tiles of scores and values that tile `i` of the queries meets. -/
structure Tiles (Q K W : Fin 2048 → Fin 256 → ℝ) (i : Fin 4) (q : Wide) (k v : Fin 4 → Wide) : Prop where
  hq : ∀ r e, q (ix2 r e) = (Q (at4 i r) e : EReal)
  hk : ∀ j c e, k j (ix2 c e) = (K (at4 j c) e : EReal)
  hv : ∀ j c d, v j (ix2 c d) = (W (at4 j c) d : EReal)

theorem Tiles.before {i j : Fin 4} {q : Wide} {k v : Fin 4 → Wide} (T : Tiles Q K W i q k v) (h : j < i) {l : List (Scores × Wide)} {N : Fin 2048 → Fin 256 → ℝ}
    (hl : Starts i l N) :
    Holds i ((scoreV q (k j), v j) :: l) fun R d => N R d + part Q K W R j d :=
  holds_step hl (score_before h T.hq (T.hk j)) (T.hv j) h.le

theorem Tiles.diag {i : Fin 4} {q : Wide} {k v : Fin 4 → Wide} (T : Tiles Q K W i q k v) {l : List (Scores × Wide)} {N : Fin 2048 → Fin 256 → ℝ}
    (hl : Starts i l N) :
    Holds i ((maskV (scoreV q (k i)), v i) :: l) fun R d => N R d + part Q K W R i d :=
  holds_step hl (score_diag T.hq (T.hk i)) (T.hv i) le_rfl

/-- The running sums of tile `i` after its last tile of keys are the sums over all keys. -/
def Full (Q K W : Fin 2048 → Fin 256 → ℝ) (i : Fin 4) (l : List (Scores × Wide)) : Prop := Holds i l (total Q K W)

theorem full_of {i : Fin 4} {l : List (Scores × Wide)} {N : Fin 2048 → Fin 256 → ℝ} (h : Holds i l N) (e : ∀ r d, N (at4 i r) d = total Q K W (at4 i r) d) :
    Full Q K W i l := fun r => (funext (e r) : N (at4 i r) = _) ▸ h r

/-- The tiles that tile 0 of the queries meets, the last one first. -/
def met0 (q : Wide) (k v : Fin 4 → Wide) : List (Scores × Wide) := [(maskV (scoreV q (k 0)), v 0)]
/-- The tiles that tile 1 of the queries meets, the last one first. -/
def met1 (q : Wide) (k v : Fin 4 → Wide) : List (Scores × Wide) := [(maskV (scoreV q (k 1)), v 1), (scoreV q (k 0), v 0)]
/-- The tiles that tile 2 of the queries meets, the last one first. -/
def met2 (q : Wide) (k v : Fin 4 → Wide) : List (Scores × Wide) := [(maskV (scoreV q (k 2)), v 2), (scoreV q (k 1), v 1), (scoreV q (k 0), v 0)]
/-- The tiles that tile 3 of the queries meets, the last one first. -/
def met3 (q : Wide) (k v : Fin 4 → Wide) : List (Scores × Wide) := [(maskV (scoreV q (k 3)), v 3), (scoreV q (k 2), v 2), (scoreV q (k 1), v 1), (scoreV q (k 0), v 0)]

theorem full0 {q : Wide} {k v : Fin 4 → Wide} (T : Tiles Q K W 0 q k v) : Full Q K W 0 (met0 q k v) :=
  full_of (T.diag (begun _)) fun r d => by
    rw [total_parts, part_after (j := 1) (by decide), part_after (j := 2) (by decide), part_after (j := 3) (by decide)]
    show 0 + _ = _
    ring
theorem full1 {q : Wide} {k v : Fin 4 → Wide} (T : Tiles Q K W 1 q k v) : Full Q K W 1 (met1 q k v) :=
  full_of (T.diag (T.before (j := 0) (by decide) (begun _)).begun) fun r d => by
    rw [total_parts, part_after (j := 2) (by decide), part_after (j := 3) (by decide)]
    show 0 + _ + _ = _
    ring
theorem full2 {q : Wide} {k v : Fin 4 → Wide} (T : Tiles Q K W 2 q k v) :
    Full Q K W 2 (met2 q k v) :=
  full_of (T.diag (T.before (j := 1) (by decide) (T.before (j := 0) (by decide) (begun _)).begun).begun) fun r d => by
    rw [total_parts, part_after (j := 3) (by decide)]
    show 0 + _ + _ + _ = _
    ring
theorem full3 {q : Wide} {k v : Fin 4 → Wide} (T : Tiles Q K W 3 q k v) :
    Full Q K W 3 (met3 q k v) :=
  full_of (T.diag (T.before (j := 2) (by decide) (T.before (j := 1) (by decide) (T.before (j := 0) (by decide) (begun _)).begun).begun).begun) fun r d => by
    rw [total_parts]
    show 0 + _ + _ + _ + _ = _
    ring
end

section
variable {Q K : Fin 2048 → Fin 256 → ℝ} {A : Fin 2048 → Fin 128 → ℝ}

theorem total_norm (R : Fin 2048) : total Q K (beside A 1) R 128 = norm Q K R :=
  Finset.sum_congr rfl fun C _ => by
    rw [show beside A 1 C 128 = 1 from rfl, mul_one]

/-- The attention of query `R`: the mean of the values by the weights. -/
def mean (Q K : Fin 2048 → Fin 256 → ℝ) (A : Fin 2048 → Fin 128 → ℝ) (R : Fin 2048) (d : Fin 128) : ℝ := (∑ C, wt Q K R C * A C d) / norm Q K R
/-- The logarithm in base two of the sum of the weights of query `R`. -/
def logsum (Q K : Fin 2048 → Fin 256 → ℝ) (R : Fin 2048) : ℝ := Real.log (norm Q K R) * (Real.log 2)⁻¹

theorem total_mean (R : Fin 2048) (d : Fin 128) : total Q K (beside A 1) R ⟨d.val, by omega⟩ = ∑ C, wt Q K R C * A C d :=
  Finset.sum_congr rfl fun C _ => by
    unfold beside
    rw [dif_pos d.isLt]

theorem out_real {i : Fin 4} {l : List (Scores × Wide)} (h : Full Q K (beside A 1) i l) (r : Fin 512) (d : Fin 128) :
    outV (runSum l) (ix2 r d) = (mean Q K A (at4 i r) d : EReal) := by
  rw [outV_apply]
  have := held_out (h r) 128 ⟨d.val, by omega⟩ (by rw [total_norm]; exact (norm_pos Q K _).ne')
  rw [total_norm, total_mean] at this
  exact this

theorem lse_real {i : Fin 4} {l : List (Scores × Wide)} (h : Full Q K (beside A 1) i l) (r : Fin 512) (d : Fin 128) :
    lseV (runMax l) (runSum l) (ix2 r d) = (logsum Q K (at4 i r) : EReal) := by
  rw [lseV_apply]
  have := held_lse (h r) 128 (by rw [total_norm]; exact norm_pos Q K _)
  rw [total_norm] at this
  exact this
end

section
variable (V : (c : Dev nD) → (b : Ref sig .tc) → Buf (Elt Ideal) ((c.tc : Thread nD τ).loc b)) (c : Dev nD) (t : Fin cfg0.N)

theorem inb4 (j : Fin 4) (a : Fin 2) : ![512 * j.val, 0] a + ![512, 256] a ≤ S2048x256.size a := by
  fin_cases a
  · show 512 * j.val + 512 ≤ 2048
    omega
  · exact le_rfl

/-- The blocks of one head: queries, the two halves of the keys, values. -/
structure Blocks (t : Fin cfg0.N) (Q : Fin 2048 → Fin 256 → ℝ) (K0 K1 A : Fin 2048 → Fin 128 → ℝ) : Prop where
  hq : ∀ R e, (iblk0 V c 0 t : Vec Ideal S2048x256 .bf16) (ix2 R e) = (Q R e : EReal)
  hk : ∀ R e, (iblk0 V c 1 t : Vec Ideal S2048x128 .bf16) (ix2 R e) = (K0 R e : EReal)
  hr : ∀ R e, (iblk0 V c 3 t : Vec Ideal S2048x128 .bf16) (ix2 R e) = (K1 R e : EReal)
  hv : ∀ R e, (iblk0 V c 2 t : Vec Ideal S2048x128 .bf16) (ix2 R e) = (A R e : EReal)

/-- The tile of queries `i`, as loaded. -/
def qTile (i : Fin 4) : Wide := View.ld (iblk0 V c 0 t : Vec Ideal S2048x256 .bf16) (rows (512 * i.val) (inb4 i))
/-- The tile of keys `j`, as loaded. -/
def kTile (j : Fin 4) : Wide := (View.whole cc0_scratch0).readCov (halves (k0_pay3 (iblk0 V c 1 t)) (k0_pay4 (iblk0 V c 3 t))) (rows (512 * j.val) (inb4 j)).toLoadRect
/-- The tile of values `j`, as loaded. -/
def vTile (j : Fin 4) : Wide := (View.whole cc0_scratch1).readCov (halves (k0_pay5 (iblk0 V c 2 t)) k0_pay6) (rows (512 * j.val) (inb4 j)).toLoadRect

variable {V c t} {Q : Fin 2048 → Fin 256 → ℝ} {K0 K1 A : Fin 2048 → Fin 128 → ℝ}

theorem Blocks.tiles (B : Blocks V c t Q K0 K1 A) (i : Fin 4) : Tiles Q (beside K0 K1) (beside A 1) i (qTile V c t i) (kTile V c t) (vTile V c t) where
  hq r e := tile_ld B.hq (inb4 i) i rfl r e
  hk j r e := tile_load _ (fun C d => (by pointwise [k0_pay3] : k0_pay3 (iblk0 V c 1 t) (ix2 C d) = iblk0 V c 1 t (ix2 C d)).trans (B.hk C d))
    (fun C d => (by pointwise [k0_pay4] : k0_pay4 (iblk0 V c 3 t) (ix2 C d) = iblk0 V c 3 t (ix2 C d)).trans (B.hr C d)) (inb4 j) j rfl r e
  hv j r e := tile_load _ (fun C d => (by pointwise [k0_pay5] : k0_pay5 (iblk0 V c 2 t) (ix2 C d) = iblk0 V c 2 t (ix2 C d)).trans (B.hv C d))
    (fun C d => by
      pointwise [k0_pay6]
      simp [Ideal.ofBits, Ideal.ieee]) (inb4 j) j rfl r e

/-- The forward kernel's first output at one grid point. -/
theorem out_block (B : Blocks V c t Q K0 K1 A) (R : Fin 2048) (d : Fin 128) :
    (outsAt0 V c t).1 (ix2 R d) = (mean Q (beside K0 K1) A R d : EReal) := by
  unfold outsAt0
  frame_out
  canon_tiles x h
  · obtain rfl : R = at4 3 (x 0) := Fin.ext h0
    obtain rfl : d = x 1 := Fin.ext h1
    show outV (runSum (met3 (qTile V c t 3) (kTile V c t) (vTile V c t))) x = _
    exact (congrArg (outV _) (Idealize.ShloMosaic.eq_ix2 x)).trans (out_real (full3 (B.tiles 3)) (x 0) (x 1))
  · obtain rfl : R = at4 2 (x 0) := Fin.ext h0
    obtain rfl : d = x 1 := Fin.ext h1
    show outV (runSum (met2 (qTile V c t 2) (kTile V c t) (vTile V c t))) x = _
    exact (congrArg (outV _) (Idealize.ShloMosaic.eq_ix2 x)).trans (out_real (full2 (B.tiles 2)) (x 0) (x 1))
  · obtain rfl : R = at4 1 (x 0) := Fin.ext h0
    obtain rfl : d = x 1 := Fin.ext h1
    show outV (runSum (met1 (qTile V c t 1) (kTile V c t) (vTile V c t))) x = _
    exact (congrArg (outV _) (Idealize.ShloMosaic.eq_ix2 x)).trans (out_real (full1 (B.tiles 1)) (x 0) (x 1))
  · obtain rfl : R = at4 0 (x 0) := Fin.ext (h0.trans (Nat.zero_add _).symm)
    obtain rfl : d = x 1 := Fin.ext h1
    show outV (runSum (met0 (qTile V c t 0) (kTile V c t) (vTile V c t))) x = _
    exact (congrArg (outV _) (Idealize.ShloMosaic.eq_ix2 x)).trans (out_real (full0 (B.tiles 0)) (x 0) (x 1))

/-- The forward kernel's second output at one grid point. -/
theorem lse_block (B : Blocks V c t Q K0 K1 A) (R : Fin 2048) (d : Fin 128) :
    (outsAt0 V c t).2 (ix2 R d) = (logsum Q (beside K0 K1) R : EReal) := by
  unfold outsAt0
  frame_out
  canon_tiles x h
  · obtain rfl : R = at4 3 (x 0) := Fin.ext h0
    show lseV (runMax (met3 (qTile V c t 3) (kTile V c t) (vTile V c t))) (runSum (met3 (qTile V c t 3) (kTile V c t) (vTile V c t))) x = _
    exact (congrArg (lseV _ _) (Idealize.ShloMosaic.eq_ix2 x)).trans (lse_real (full3 (B.tiles 3)) (x 0) (x 1))
  · obtain rfl : R = at4 2 (x 0) := Fin.ext h0
    show lseV (runMax (met2 (qTile V c t 2) (kTile V c t) (vTile V c t))) (runSum (met2 (qTile V c t 2) (kTile V c t) (vTile V c t))) x = _
    exact (congrArg (lseV _ _) (Idealize.ShloMosaic.eq_ix2 x)).trans (lse_real (full2 (B.tiles 2)) (x 0) (x 1))
  · obtain rfl : R = at4 1 (x 0) := Fin.ext h0
    show lseV (runMax (met1 (qTile V c t 1) (kTile V c t) (vTile V c t))) (runSum (met1 (qTile V c t 1) (kTile V c t) (vTile V c t))) x = _
    exact (congrArg (lseV _ _) (Idealize.ShloMosaic.eq_ix2 x)).trans (lse_real (full1 (B.tiles 1)) (x 0) (x 1))
  · obtain rfl : R = at4 0 (x 0) := Fin.ext (h0.trans (Nat.zero_add _).symm)
    show lseV (runMax (met0 (qTile V c t 0) (kTile V c t) (vTile V c t))) (runSum (met0 (qTile V c t 0) (kTile V c t) (vTile V c t))) x = _
    exact (congrArg (lseV _ _) (Idealize.ShloMosaic.eq_ix2 x)).trans (lse_real (full0 (B.tiles 0)) (x 0) (x 1))
end

end Cert.Attn

end
-- ==== Proof.Attn.Slope.lean ====
/- What the backward kernel does to one tile of queries and one tile of keys, written over whole tiles, and the real numbers it stands for. -/
module

public import proofs.«01_k».proof.Proof.Attn.Forward

@[expose] public section

set_option maxRecDepth 16384

noncomputable section

namespace Cert.Attn

open Idealize Idealize.ShloMosaic Idealize.SL.Sem Cert.AttnKernelIdeal Cert.AttnKernelIdeal.Gen

/-- A tile of 512 rows of 128 numbers. -/
abbrev Half := FVec Ideal S512x128 .bf16
/-- The same of running sums. -/
abbrev HalfSums := FVec Ideal S512x128 .f32

/-- The weights of a tile of scores, each query's divided by its sum. -/
def probV (s : Scores) (l : HalfSums) : Scores :=
  exp2 (subf s (broadcastTo S512x512 (extractStridedSlice S512x1 ![0, 0] (shapeCast S512x128 l shapeCasts_S512x128_S512x128) slices_S512x128_o0_0_S512x1) broadcasts_S512x1_S512x512))
/-- The rows of two tiles multiplied and summed. -/
def deltaV (g o : Half) : Column :=
  shapeCast S512x1 (multiReduction .add [1] S512 (mulf (extf .f32 (shapeCast S512x128 g shapeCasts_S512x128_S512x128) bitsLt_bf16_f32) (extf .f32 (shapeCast S512x128 o shapeCasts_S512x128_S512x128) bitsLt_bf16_f32))
    0x00000000#32 reduces_S512x128_S512 (.inl rfl) rfl) shapeCasts_S512_S512x1
/-- The gradient of a tile of scores, from the weights and the gradient of the output. -/
def dsV (p : Scores) (g v : Half) (δ : Column) : FVec Ideal S512x512 .bf16 :=
  truncf .bf16 (mulf (mulf p (subf (matmul dot_S512x128_S512x128_S512x512_1_1_0_0_n_n none (shapeCast S512x128 g shapeCasts_S512x128_S512x128) (shapeCast S512x128 v shapeCasts_S512x128_S512x128)
    (constant S512x512 .f32 0x00000000#32)) (broadcastTo S512x512 δ broadcasts_S512x1_S512x512))) (broadcast S512x512 (Named.named κ "scale" 0x3D93CD3A#32))) bitsLt_bf16_f32
/-- What a tile adds to the gradient of the values. -/
def valV (p : Scores) (g : Half) : HalfSums :=
  matmul dot_S512x512_S512x128_S512x128_0_0_1_1_n_n none (truncf .bf16 p bitsLt_bf16_f32) (shapeCast S512x128 g shapeCasts_S512x128_S512x128) (constant S512x128 .f32 0x00000000#32)
/-- What a tile adds to the gradient of the keys. -/
def keyV (s : FVec Ideal S512x512 .bf16) (q : Wide) : Sums :=
  matmul dot_S512x512_S512x256_S512x256_0_0_1_1_n_n none s (shapeCast S512x256 q shapeCasts_S512x256_S512x256) (constant S512x256 .f32 0x00000000#32)
/-- What a tile adds to the gradient of the queries. -/
def qryV (s : FVec Ideal S512x512 .bf16) (k : Wide) : Sums :=
  matmul dot_S512x512_S512x256_S512x256_1_0_0_1_n_n none s k (constant S512x256 .f32 0x00000000#32)

theorem probV_apply (s : Scores) (l : HalfSums) (r c : Fin 512) : probV s l (ix2 r c) = Ideal.exp2 (s (ix2 r c) - l (ix2 r 0)) := by
  pointwise [probV]
  rfl
theorem deltaV_apply (g o : Half) (r : Fin 512) : deltaV g o (ix2 r 0) = ∑ d : Fin 128, g (ix2 r d) * o (ix2 r d) := by
  pointwise [deltaV]
theorem dsV_apply (p : Scores) (g v : Half) (δ : Column) (r c : Fin 512) :
    dsV p g v δ (ix2 r c) = p (ix2 r c) * ((∑ d : Fin 128, g (ix2 r d) * v (ix2 c d)) - δ (ix2 r 0)) * Named.named (F := Ideal) (φ := .f32) κ "scale" 0x3D93CD3A#32 := by
  pointwise [dsV]
theorem valV_apply (p : Scores) (g : Half) (c : Fin 512) (d : Fin 128) : valV p g (ix2 c d) = ∑ r : Fin 512, p (ix2 r c) * g (ix2 r d) := by
  pointwise [valV]
theorem keyV_apply (s : FVec Ideal S512x512 .bf16) (q : Wide) (c : Fin 512) (e : Fin 256) : keyV s q (ix2 c e) = ∑ r : Fin 512, s (ix2 r c) * q (ix2 r e) := by
  pointwise [keyV]
theorem qryV_apply (s : FVec Ideal S512x512 .bf16) (k : Wide) (r : Fin 512) (e : Fin 256) : qryV s k (ix2 r e) = ∑ c : Fin 512, s (ix2 r c) * k (ix2 c e) := by
  pointwise [qryV]

section
variable (Q K : Fin 2048 → Fin 256 → ℝ) (A G O : Fin 2048 → Fin 128 → ℝ)

/-- The share of key `C` in the attention of query `R`. -/
def prob (R C : Fin 2048) : ℝ := wt Q K R C / norm Q K R
/-- The gradient of the score of query `R` and key `C`. -/
def dscore (R C : Fin 2048) : ℝ := prob Q K R C * ((∑ d, G R d * A C d) - ∑ d, G R d * O R d) * (Real.sqrt 192)⁻¹

theorem prob_not {R C : Fin 2048} (h : ¬C.val ≤ R.val) : prob Q K R C = 0 := by rw [prob, wt_not Q K h, zero_div]
theorem dscore_not {R C : Fin 2048} (h : ¬C.val ≤ R.val) : dscore Q K A G O R C = 0 := by rw [dscore, prob_not Q K h, zero_mul, zero_mul]

/-- The tiles of one head as loaded: queries, keys, values, the gradient of the output, the output, the logarithms of the sums. -/
structure Loaded (q k : Fin 4 → Wide) (v g o : Fin 4 → Half) (l : Fin 4 → HalfSums) : Prop where
  hq : ∀ i r e, q i (ix2 r e) = (Q (at4 i r) e : EReal)
  hk : ∀ j c e, k j (ix2 c e) = (K (at4 j c) e : EReal)
  hv : ∀ j c d, v j (ix2 c d) = (A (at4 j c) d : EReal)
  hg : ∀ i r d, g i (ix2 r d) = (G (at4 i r) d : EReal)
  ho : ∀ i r d, o i (ix2 r d) = (O (at4 i r) d : EReal)
  hl : ∀ i r d, l i (ix2 r d) = (logsum Q K (at4 i r) : EReal)
end

section
variable (q k : Fin 4 → Wide) (v g o : Fin 4 → Half) (l : Fin 4 → HalfSums)

/-- The shares of tile `j` of the keys in tile `i` of the queries. -/
def pT (i j : Fin 4) : Scores := probV (if i = j then maskV (scoreV (q i) (k j)) else scoreV (q i) (k j)) (l i)
/-- The gradient of the scores of tile `i` of the queries and tile `j` of the keys. -/
def dT (i j : Fin 4) : FVec Ideal S512x512 .bf16 := dsV (pT q k l i j) (g i) (v j) (deltaV (g i) (o i))

/-- Some tiles added up, the last one first. -/
def addUp {s : Shape} (z : FVec Ideal s .f32) : List (FVec Ideal s .f32) → FVec Ideal s .f32
  | [] => z
  | x :: m => addf (addUp z m) x

/-- The gradient of tile `j` of the values, from the tiles of queries in a list, the last one first. -/
def dvT (j : Fin 4) (is : List (Fin 4)) : HalfSums := addUp (broadcast S512x128 (Scalar.ofBits .f32 0x00000000#32)) (is.map fun i => valV (pT q k l i j) (g i))
/-- The gradient of tile `j` of the keys, from the tiles of queries in a list, the last one first. -/
def dkT (j : Fin 4) (is : List (Fin 4)) : Sums := addUp (broadcast S512x256 (Scalar.ofBits .f32 0x00000000#32)) (is.map fun i => keyV (dT q k v g o l i j) (q i))

/-- The tiles of queries that see tile `j` of the keys, the last one first. -/
def later : Fin 4 → List (Fin 4) := ![[3, 2, 1, 0], [3, 2, 1], [3, 2], [3]]

theorem later_le : ∀ j, ∀ i ∈ later j, j ≤ i := by decide

theorem sum_later (j : Fin 4) (f : Fin 4 → ℝ) (h : ∀ i, i < j → f i = 0) : ((later j).map f).sum = ∑ i, f i := by
  rw [Fin.sum_univ_four]
  fin_cases j
  · simp [later]; ring
  · simp [later, h 0 (by decide)]; ring
  · simp [later, h 0 (by decide), h 1 (by decide)]; ring
  · simp [later, h 0 (by decide), h 1 (by decide), h 2 (by decide)]

theorem addUp_real {s : Shape} {z : FVec Ideal s .f32} (x : s.Idx) (hz : z x = ((0 : ℝ) : EReal)) (f : Fin 4 → ℝ) (F : Fin 4 → FVec Ideal s .f32) :
    ∀ is : List (Fin 4), (∀ i ∈ is, F i x = (f i : EReal)) → addUp z (is.map F) x = (((is.map f).sum : ℝ) : EReal)
  | [], _ => hz
  | i :: is, h => by
    show addUp z (is.map F) x + F i x = _
    rw [addUp_real x hz f F is fun i' hi => h i' (List.mem_cons_of_mem _ hi), h i List.mem_cons_self, List.map_cons, List.sum_cons, ← EReal.coe_add, add_comm]

variable {q k v g o l} {Q K : Fin 2048 → Fin 256 → ℝ} {A G O : Fin 2048 → Fin 128 → ℝ} (T : Loaded Q K A G O q k v g o l)
include T

theorem prob_real {i j : Fin 4} (h : j ≤ i) (r c : Fin 512) : pT q k l i j (ix2 r c) = (prob Q K (at4 i r) (at4 j c) : EReal) := by
  have hs : (if i = j then maskV (scoreV (q i) (k j)) else scoreV (q i) (k j)) (ix2 r c) = seen ((at4 j c).val ≤ (at4 i r).val) (sigma Q K (at4 i r) (at4 j c)) := by
    by_cases e : i = j
    · subst e
      rw [if_pos rfl]
      exact score_diag (T.hq i) (T.hk i) r c
    · rw [if_neg e]
      exact score_before (lt_of_le_of_ne h (Ne.symm e)) (T.hq i) (T.hk j) r c
  rw [pT, probV_apply, hs, T.hl, exp2_seen]
  congr 1
  have hL := norm_pos Q K (at4 i r)
  have h2 : two (-logsum Q K (at4 i r)) * two (logsum Q K (at4 i r)) = 1 := by
    rw [← two_add, neg_add_cancel]
    show Real.rpow 2 0 = 1
    exact Real.rpow_zero 2
  rw [show two (logsum Q K (at4 i r)) = norm Q K (at4 i r) from two_log _ hL] at h2
  rw [prob, eq_div_iff hL.ne', mul_right_comm, h2, one_mul]
  rfl

theorem delta_real (i : Fin 4) (r : Fin 512) : deltaV (g i) (o i) (ix2 r 0) = ((∑ d, G (at4 i r) d * O (at4 i r) d : ℝ) : EReal) := by
  rw [deltaV_apply, sum_mul_coe (fun d => T.hg i r d) fun d => T.ho i r d]

theorem ds_real {i j : Fin 4} (h : j ≤ i) (r c : Fin 512) : dT q k v g o l i j (ix2 r c) = (dscore Q K A G O (at4 i r) (at4 j c) : EReal) := by
  rw [dT, dsV_apply, prob_real T h, delta_real T, sum_mul_coe (fun d => T.hg i r d) fun d => T.hv j c d, ← EReal.coe_sub, ← EReal.coe_mul]
  exact (EReal.coe_mul _ _).symm

/-- The gradient of the values, tile by tile. -/
theorem dv_real (j : Fin 4) (c : Fin 512) (d : Fin 128) : dvT q k g l j (later j) (ix2 c d) = ((∑ R, prob Q K R (at4 j c) * G R d : ℝ) : EReal) := by
  rw [dvT, addUp_real (ix2 c d) (by show Ideal.ofBits .f32 0x00000000#32 = _; simp [Ideal.ofBits, Ideal.ieee]) (fun i => ∑ r, prob Q K (at4 i r) (at4 j c) * G (at4 i r) d) _ _
    fun i hi => by rw [valV_apply, sum_mul_coe (fun r => prob_real T (later_le j i hi) r c) fun r => T.hg i r d],
    sum_later j _ fun i hi => Finset.sum_eq_zero fun r _ => by rw [prob_not Q K (at4_not i j hi r c), zero_mul], sum_tiles]

/-- The gradient of the keys, tile by tile. -/
theorem dk_real (j : Fin 4) (c : Fin 512) (e : Fin 256) : dkT q k v g o l j (later j) (ix2 c e) = ((∑ R, dscore Q K A G O R (at4 j c) * Q R e : ℝ) : EReal) := by
  rw [dkT, addUp_real (ix2 c e) (by show Ideal.ofBits .f32 0x00000000#32 = _; simp [Ideal.ofBits, Ideal.ieee]) (fun i => ∑ r, dscore Q K A G O (at4 i r) (at4 j c) * Q (at4 i r) e) _ _
    fun i hi => by rw [keyV_apply, sum_mul_coe (fun r => ds_real T (later_le j i hi) r c) fun r => T.hq i r e],
    sum_later j _ fun i hi => Finset.sum_eq_zero fun r _ => by rw [dscore_not Q K A G O (at4_not i j hi r c), zero_mul], sum_tiles]

/-- What tile `j` of the keys adds to the gradient of tile `i` of the queries. -/
theorem dq_real {i j : Fin 4} (h : j ≤ i) (r : Fin 512) (e : Fin 256) :
    qryV (dT q k v g o l i j) (k j) (ix2 r e) = ((∑ c, dscore Q K A G O (at4 i r) (at4 j c) * K (at4 j c) e : ℝ) : EReal) := by
  rw [qryV_apply, sum_mul_coe (fun c => ds_real T h r c) fun c => T.hk j c e]
end

end Cert.Attn

end
-- ==== Proof.Attn.Backward.lean ====
/- One grid point of the backward kernel: the gradients of one head, as functions of the head's blocks. -/
module

public import proofs.«01_k».proof.Proof.Attn.Slope

@[expose] public section

set_option maxRecDepth 16384

noncomputable section

namespace Cert.Attn

open Idealize Idealize.ShloMosaic Idealize.SL.Sem Cert.AttnKernelIdeal Cert.AttnKernelIdeal.Gen

/-- The 512 rows of a narrow array from row `o` on. -/
abbrev rowsH (o : ℕ) (inb : ∀ a, ![o, 0] a + ![512, 128] a ≤ S2048x128.size a) : Rect S2048x128 := Rect.unit ![o, 0] ![512, 128] inb

theorem inbH (j : Fin 4) (a : Fin 2) : ![512 * j.val, 0] a + ![512, 128] a ≤ S2048x128.size a := by
  fin_cases a
  · show 512 * j.val + 512 ≤ 2048
    omega
  · exact le_rfl

theorem rowsH_at (j : Fin 4) (c : Fin 512) (e : Fin 128) : (rowsH (512 * j.val) (inbH j)).emb (ix2 c e) = ix2 (at4 j c) e := by
  refine (Idealize.ShloMosaic.eq_ix2 _).trans (congrArg₂ ix2 (Fin.ext ?_) (Fin.ext ?_))
  · show 512 * j.val + 1 * c.val = _
    simp [at4]
  · show 0 + 1 * e.val = _
    simp

theorem half_ld {x : Vec Ideal S2048x128 .bf16} {A : Fin 2048 → Fin 128 → ℝ} (hx : ∀ C d, x (ix2 C d) = (A C d : EReal)) (j : Fin 4) (c : Fin 512) (e : Fin 128) :
    (View.ld x (rowsH (512 * j.val) (inbH j)) : Half) (ix2 c e) = (A (at4 j c) e : EReal) := by
  show x ((rowsH (512 * j.val) (inbH j)).emb (ix2 c e)) = _
  rw [rowsH_at j, hx]
theorem sums_ld {x : Vec Ideal S2048x128 .f32} {A : Fin 2048 → Fin 128 → ℝ} (hx : ∀ C d, x (ix2 C d) = (A C d : EReal)) (j : Fin 4) (c : Fin 512) (e : Fin 128) :
    (View.ld x (rowsH (512 * j.val) (inbH j)) : HalfSums) (ix2 c e) = (A (at4 j c) e : EReal) := by
  show x ((rowsH (512 * j.val) (inbH j)).emb (ix2 c e)) = _
  rw [rowsH_at j, hx]

/-! ## The sums kept in an array, four tiles of rows -/

/-- A store of tile `i`. -/
abbrev put (i : Fin 4) (w : Sums) : View.Piece (Elt Ideal) S2048x256 .f32 := ⟨rows (512 * i.val) (inb4 i), w⟩

/-- Tile `i` as the stores left it. -/
abbrev got (L : List (View.Piece (Elt Ideal) S2048x256 .f32)) (i : Fin 4) : Sums := (View.whole cc1_scratch1).readCov L (rows (512 * i.val) (inb4 i)).toLoadRect

/-- Tile `i` with `x` added. -/
def grow (L : List (View.Piece (Elt Ideal) S2048x256 .f32)) (i : Fin 4) (x : Sums) : List (View.Piece (Elt Ideal) S2048x256 .f32) :=
  put i (shapeCast S512x256 (addf (got L i) x) shapeCasts_S512x256_S512x256) :: L

/-- Tile `i` holds the numbers `f`. -/
def Keeps (L : List (View.Piece (Elt Ideal) S2048x256 .f32)) (i : Fin 4) (f : Fin 512 → Fin 256 → ℝ) : Prop := ∀ r e, View.canon L (ix2 (at4 i r) e) = (f r e : EReal)

theorem keeps_put {i : Fin 4} {w : Sums} {f : Fin 512 → Fin 256 → ℝ} (h : ∀ r e, w (ix2 r e) = (f r e : EReal)) (L : List (View.Piece (Elt Ideal) S2048x256 .f32)) : Keeps (put i w :: L) i f :=
  fun r e => by
    rw [← rows_at (inb4 i) i rfl r e]
    exact (View.canon_cons_emb (rows (512 * i.val) (inb4 i)) w L (ix2 r e)).trans (h r e)

theorem keeps_other {i i' : Fin 4} (hi : i ≠ i') {L : List (View.Piece (Elt Ideal) S2048x256 .f32)} {f : Fin 512 → Fin 256 → ℝ} (h : Keeps L i' f) (w : Sums) : Keeps (put i w :: L) i' f :=
  fun r e => by
    refine (View.canon_cons_of_not_mem _ L fun hm => ?_).trans (h r e)
    obtain ⟨y, hy, he⟩ := (LoadRect.mem_set _).mp hm (0 : Fin 2)
    have hy' : y < 512 := hy
    have he' : 512 * i'.val + r.val = 512 * i.val + 1 * y := he
    exact hi (Fin.ext (by omega))

theorem keeps_got {L : List (View.Piece (Elt Ideal) S2048x256 .f32)} {i : Fin 4} {f : Fin 512 → Fin 256 → ℝ} (h : Keeps L i f) (r : Fin 512) (e : Fin 256) : got L i (ix2 r e) = (f r e : EReal) := by
  rw [got, View.readCov_eq_canon']
  show View.canon L ((rows (512 * i.val) (inb4 i)).emb (ix2 r e)) = _
  rw [rows_at (inb4 i) i rfl, h]

theorem keeps_grow {L : List (View.Piece (Elt Ideal) S2048x256 .f32)} {i : Fin 4} {f g : Fin 512 → Fin 256 → ℝ} (h : Keeps L i f) {x : Sums} (hx : ∀ r e, x (ix2 r e) = (g r e : EReal)) :
    Keeps (grow L i x) i fun r e => f r e + g r e :=
  keeps_put (fun r e => by
    rw [show shapeCast S512x256 (addf (got L i) x) shapeCasts_S512x256_S512x256 (ix2 r e) = got L i (ix2 r e) + x (ix2 r e) by pointwise [], keeps_got h, hx, EReal.coe_add]) L

theorem keeps_grow_other {L : List (View.Piece (Elt Ideal) S2048x256 .f32)} {i i' : Fin 4} (hi : i ≠ i') {f : Fin 512 → Fin 256 → ℝ} (h : Keeps L i' f) (x : Sums) : Keeps (grow L i x) i' f :=
  keeps_other hi h _

section
variable (q k : Fin 4 → Wide) (v g o : Fin 4 → Half) (l : Fin 4 → HalfSums)

/-- What tile `j` of the keys adds to tile `i`. -/
abbrev qT (i j : Fin 4) : Sums := qryV (dT q k v g o l i j) (k j)

/-- The stores after the first tile of keys. -/
def dq0 : List (View.Piece (Elt Ideal) S2048x256 .f32) :=
  [put 3 (shapeCast S512x256 (qT q k v g o l 3 0) shapeCasts_S512x256_S512x256), put 2 (shapeCast S512x256 (qT q k v g o l 2 0) shapeCasts_S512x256_S512x256),
   put 1 (shapeCast S512x256 (qT q k v g o l 1 0) shapeCasts_S512x256_S512x256), put 0 (shapeCast S512x256 (qT q k v g o l 0 0) shapeCasts_S512x256_S512x256)]
/-- The stores after the second tile of keys. -/
def dq1 : List (View.Piece (Elt Ideal) S2048x256 .f32) := grow (grow (grow (dq0 q k v g o l) 1 (qT q k v g o l 1 1)) 2 (qT q k v g o l 2 1)) 3 (qT q k v g o l 3 1)
/-- All stores. -/
def dq3 : List (View.Piece (Elt Ideal) S2048x256 .f32) := grow (grow (grow (dq1 q k v g o l) 2 (qT q k v g o l 2 2)) 3 (qT q k v g o l 3 2)) 3 (qT q k v g o l 3 3)

variable {q k v g o l} {Q K : Fin 2048 → Fin 256 → ℝ} {A G O : Fin 2048 → Fin 128 → ℝ} (T : Loaded Q K A G O q k v g o l)

/-- What tile `j` of the keys adds to the gradient of query `R`. -/
def dpart (Q K : Fin 2048 → Fin 256 → ℝ) (A G O : Fin 2048 → Fin 128 → ℝ) (R : Fin 2048) (e : Fin 256) (j : Fin 4) : ℝ := ∑ c, dscore Q K A G O R (at4 j c) * K (at4 j c) e

include T in
theorem qT_real {i j : Fin 4} (h : j ≤ i) (r : Fin 512) (e : Fin 256) : qT q k v g o l i j (ix2 r e) = (dpart Q K A G O (at4 i r) e j : EReal) := dq_real T h r e

include T in
theorem first_real (i : Fin 4) (r : Fin 512) (e : Fin 256) : shapeCast S512x256 (qT q k v g o l i 0) shapeCasts_S512x256_S512x256 (ix2 r e) = (dpart Q K A G O (at4 i r) e 0 : EReal) := by
  rw [show shapeCast S512x256 (qT q k v g o l i 0) shapeCasts_S512x256_S512x256 (ix2 r e) = qT q k v g o l i 0 (ix2 r e) by pointwise [], qT_real T (Fin.zero_le i)]

theorem dpart_after {i j : Fin 4} (h : i < j) (r : Fin 512) (e : Fin 256) : dpart Q K A G O (at4 i r) e j = 0 :=
  Finset.sum_eq_zero fun c _ => by rw [dscore_not Q K A G O (at4_not i j h r c), zero_mul]

/-- The gradient of query `R`. -/
def dquery (Q K : Fin 2048 → Fin 256 → ℝ) (A G O : Fin 2048 → Fin 128 → ℝ) (R : Fin 2048) (e : Fin 256) : ℝ := ∑ C, dscore Q K A G O R C * K C e

theorem dquery_parts (R : Fin 2048) (e : Fin 256) :
    dquery Q K A G O R e = dpart Q K A G O R e 0 + dpart Q K A G O R e 1 + dpart Q K A G O R e 2 + dpart Q K A G O R e 3 := by
  rw [dquery, sum_tiles, Fin.sum_univ_four]
  rfl

include T in
theorem keeps_all (i : Fin 4) : Keeps (dq3 q k v g o l) i fun r e => dquery Q K A G O (at4 i r) e := by
  have f := first_real T
  have add {i j : Fin 4} (h : j ≤ i) := qT_real T h
  have k0 : Keeps (dq0 q k v g o l) 0 _ := keeps_other (by decide) (keeps_other (by decide) (keeps_other (by decide) (keeps_put (f 0) _) _) _) _
  have k1 : Keeps (dq0 q k v g o l) 1 _ := keeps_other (by decide) (keeps_other (by decide) (keeps_put (f 1) _) _) _
  have k2 : Keeps (dq0 q k v g o l) 2 _ := keeps_other (by decide) (keeps_put (f 2) _) _
  have k3 : Keeps (dq0 q k v g o l) 3 _ := keeps_put (f 3) _
  fin_cases i
  · refine fun r e => ((keeps_grow_other (by decide) (keeps_grow_other (by decide) (keeps_grow_other (by decide) (keeps_grow_other (by decide)
      (keeps_grow_other (by decide) (keeps_grow_other (by decide) k0 _) _) _) _) _) _) r e).trans (congrArg _ ?_)
    show _ = dquery Q K A G O (at4 0 r) e
    rw [dquery_parts, dpart_after (j := 1) (by decide), dpart_after (j := 2) (by decide), dpart_after (j := 3) (by decide)]
    ring
  · refine fun r e => ((keeps_grow_other (by decide) (keeps_grow_other (by decide) (keeps_grow_other (by decide) (keeps_grow_other (by decide)
      (keeps_grow_other (by decide) (keeps_grow k1 (add (i := 1) (j := 1) (by decide))) _) _) _) _) _) r e).trans (congrArg _ ?_)
    show _ = dquery Q K A G O (at4 1 r) e
    rw [dquery_parts, dpart_after (j := 2) (by decide), dpart_after (j := 3) (by decide)]
    ring
  · refine fun r e => ((keeps_grow_other (by decide) (keeps_grow_other (by decide) (keeps_grow (keeps_grow_other (by decide)
      (keeps_grow (keeps_grow_other (by decide) k2 _) (add (i := 2) (j := 1) (by decide))) _) (add (i := 2) (j := 2) (by decide))) _) _) r e).trans (congrArg _ ?_)
    show _ = dquery Q K A G O (at4 2 r) e
    rw [dquery_parts, dpart_after (j := 3) (by decide)]
    ring
  · refine fun r e => ((keeps_grow (keeps_grow (keeps_grow_other (by decide)
      (keeps_grow (keeps_grow_other (by decide) (keeps_grow_other (by decide) k3 _) _) (add (i := 3) (j := 1) (by decide))) _) (add (i := 3) (j := 2) (by decide)))
      (add (i := 3) (j := 3) (by decide))) r e).trans (congrArg _ ?_)
    show _ = dquery Q K A G O (at4 3 r) e
    rw [dquery_parts]
end

end Cert.Attn

end
-- ==== Proof.Attn.Heads.lean ====
/- The outputs of the backward kernel at one grid point: the gradients of one head's queries, keys and values, and the running gradient of the shared keys. -/
module

public import proofs.«01_k».proof.Proof.Attn.Backward

@[expose] public section

set_option maxRecDepth 16384

noncomputable section

namespace Cert.Attn

open Idealize Idealize.ShloMosaic Idealize.SL.Sem Cert.AttnKernelIdeal Cert.AttnKernelIdeal.Gen

theorem at4_of (R : Fin 2048) : ∃ i r, R = at4 i r :=
  ⟨⟨R.val / 512, by omega⟩, ⟨R.val % 512, by omega⟩, Fin.ext (Nat.div_add_mod R.val 512).symm⟩

section
variable (V : (c : Dev nD) → (b : Ref sig .tc) → Buf (Elt Ideal) ((c.tc : Thread nD τ).loc b)) (c : Dev nD) (t : Fin cfg1.N)

/-- The blocks of one head: queries, the two halves of the keys, values, the gradient of the output, the output, the logarithms of the sums. -/
structure BackBlocks (t : Fin cfg1.N) (Q : Fin 2048 → Fin 256 → ℝ) (K0 K1 A G O : Fin 2048 → Fin 128 → ℝ) : Prop where
  hq : ∀ R e, (iblk1 V c 0 t : Vec Ideal S2048x256 .bf16) (ix2 R e) = (Q R e : EReal)
  hk : ∀ R e, (iblk1 V c 1 t : Vec Ideal S2048x128 .bf16) (ix2 R e) = (K0 R e : EReal)
  hv : ∀ R e, (iblk1 V c 2 t : Vec Ideal S2048x128 .bf16) (ix2 R e) = (A R e : EReal)
  hr : ∀ R e, (iblk1 V c 3 t : Vec Ideal S2048x128 .bf16) (ix2 R e) = (K1 R e : EReal)
  ho : ∀ R e, (iblk1 V c 4 t : Vec Ideal S2048x128 .bf16) (ix2 R e) = (O R e : EReal)
  hg : ∀ R e, (iblk1 V c 5 t : Vec Ideal S2048x128 .bf16) (ix2 R e) = (G R e : EReal)
  hl : ∀ R e, (iblk1 V c 6 t : Vec Ideal S2048x128 .f32) (ix2 R e) = (logsum Q (beside K0 K1) R : EReal)

/-- The tile of queries `i`, as loaded. -/
def qL (i : Fin 4) : Wide := View.ld (iblk1 V c 0 t : Vec Ideal S2048x256 .bf16) (rows (512 * i.val) (inb4 i))
/-- The two halves of the keys, as stored. -/
def twice (x : Vec Ideal S2048x128 .bf16) : FVec Ideal S2048x128 .bf16 := shapeCast S2048x128 (shapeCast S2048x128 x shapeCasts_S2048x128_S2048x128) shapeCasts_S2048x128_S2048x128
/-- The tile of keys `j`, as loaded. -/
def kL (j : Fin 4) : Wide := (View.whole cc1_scratch0).readCov (halves (twice (iblk1 V c 1 t)) (twice (iblk1 V c 3 t))) (rows (512 * j.val) (inb4 j)).toLoadRect
/-- The tile of values `j`, as loaded. -/
def vL (j : Fin 4) : Half := View.ld (iblk1 V c 2 t : Vec Ideal S2048x128 .bf16) (rowsH (512 * j.val) (inbH j))
/-- The tile of outputs `i`, as loaded. -/
def oL (i : Fin 4) : Half := View.ld (iblk1 V c 4 t : Vec Ideal S2048x128 .bf16) (rowsH (512 * i.val) (inbH i))
/-- The tile of the output's gradient `i`, as loaded. -/
def gL (i : Fin 4) : Half := View.ld (iblk1 V c 5 t : Vec Ideal S2048x128 .bf16) (rowsH (512 * i.val) (inbH i))
/-- The tile of logarithms `i`, as loaded. -/
def lL (i : Fin 4) : HalfSums := View.ld (iblk1 V c 6 t : Vec Ideal S2048x128 .f32) (rowsH (512 * i.val) (inbH i))

/-- The gradient of tile `j` of the keys at this grid point. -/
abbrev dkL (j : Fin 4) : Sums := dkT (qL V c t) (kL V c t) (vL V c t) (gL V c t) (oL V c t) (lL V c t) j (later j)
/-- The gradient of tile `j` of the values at this grid point. -/
abbrev dvL (j : Fin 4) : HalfSums := dvT (qL V c t) (kL V c t) (gL V c t) (lL V c t) j (later j)
/-- The part of it that goes to head's own keys. -/
def keyHalf (x : Sums) : Half := truncf .bf16 (extractStridedSlice S512x128 ![0, 0] x slices_S512x256_o0_0_S512x128) bitsLt_bf16_f32
/-- The gradient of the values, as stored. -/
def valHalf (x : HalfSums) : Half := truncf .bf16 x bitsLt_bf16_f32
/-- The shared keys' running gradient with this head's added. -/
def sharedHalf (z : HalfSums) (x : Sums) : HalfSums :=
  addf (shapeCast S512x128 z shapeCasts_S512x128_S512x128) (extractStridedSlice S512x128 ![0, 128] x slices_S512x256_o0_128_S512x128)

theorem keyHalf_apply (x : Sums) (r : Fin 512) (d : Fin 128) : keyHalf x (ix2 r d) = x (ix2 r ⟨d.val, by omega⟩) := by
  pointwise [keyHalf]
theorem valHalf_apply (x : HalfSums) (r : Fin 512) (d : Fin 128) : valHalf x (ix2 r d) = x (ix2 r d) := by
  pointwise [valHalf]
theorem sharedHalf_apply (z : HalfSums) (x : Sums) (r : Fin 512) (d : Fin 128) : sharedHalf z x (ix2 r d) = z (ix2 r d) + x (ix2 r ⟨128 + d.val, by omega⟩) := by
  pointwise [sharedHalf]

variable {V c t} {Q : Fin 2048 → Fin 256 → ℝ} {K0 K1 A G O : Fin 2048 → Fin 128 → ℝ}

theorem BackBlocks.loaded (B : BackBlocks V c t Q K0 K1 A G O) : Loaded Q (beside K0 K1) A G O (qL V c t) (kL V c t) (vL V c t) (gL V c t) (oL V c t) (lL V c t) where
  hq i r e := tile_ld B.hq (inb4 i) i rfl r e
  hk j r e := tile_load _ (fun C d => (by pointwise [twice] : twice (iblk1 V c 1 t) (ix2 C d) = iblk1 V c 1 t (ix2 C d)).trans (B.hk C d))
    (fun C d => (by pointwise [twice] : twice (iblk1 V c 3 t) (ix2 C d) = iblk1 V c 3 t (ix2 C d)).trans (B.hr C d)) (inb4 j) j rfl r e
  hv j r e := half_ld B.hv j r e
  hg j r e := half_ld B.hg j r e
  ho j r e := half_ld B.ho j r e
  hl j r e := sums_ld (A := fun R _ => logsum Q (beside K0 K1) R) B.hl j r e

set_option maxHeartbeats 8000000 in
/-- The gradients of the head's queries. -/
theorem dq_block (B : BackBlocks V c t Q K0 K1 A G O) (R : Fin 2048) (e : Fin 256) :
    (outsAt1 V c t.val t.isLt).1 (ix2 R e) = (dquery Q (beside K0 K1) A G O R e : EReal) := by
  obtain ⟨i, r, rfl⟩ := at4_of R
  have whole (inb : ∀ a, ![0, 0] a + ![2048, 256] a ≤ S2048x256.size a) :
      ((View.whole cc1_scratch1).readCov (dq3 (qL V c t) (kL V c t) (vL V c t) (gL V c t) (oL V c t) (lL V c t)) (Rect.unit (s := S2048x256) ![0, 0] ![2048, 256] inb).toLoadRect : Vec Ideal S2048x256 .f32) (ix2 (at4 i r) e)
        = (dquery Q (beside K0 K1) A G O (at4 i r) e : EReal) := by
    rw [View.readCov_eq_canon']
    refine (congrArg (View.canon _) ?_).trans (keeps_all B.loaded i r e)
    show (Rect.unit (s := S2048x256) ![0, 0] ![2048, 256] inb).emb (ix2 (at4 i r) e) = _
    refine (Idealize.ShloMosaic.eq_ix2 _).trans (congrArg₂ ix2 (Fin.ext ?_) (Fin.ext ?_))
    · show 0 + 1 * (at4 i r).val = _
      omega
    · show 0 + 1 * e.val = _
      omega
  by_cases h0 : t.val % 8 = 0
  · rw [outsAt1_A V c t h0]
    dsimp only
    frame_out
    exact whole inb_S2048x256_S2048x256_0_0
  · rw [outsAt1_B V c t h0]
    dsimp only
    frame_out
    exact whole inb_S2048x256_S2048x256_0_0

/-- The gradient of key or value `C` of the head. -/
def dkeyval (Q K : Fin 2048 → Fin 256 → ℝ) (A G O : Fin 2048 → Fin 128 → ℝ) (C : Fin 2048) (e : Fin 256) : ℝ :=
  if e.val < 128 then ∑ R, dscore Q K A G O R C * Q R e else ∑ R, prob Q K R C * G R ⟨e.val - 128, by omega⟩

/-- The gradient that key `C` shares with the other heads, this head's part. -/
def dshared (Q K : Fin 2048 → Fin 256 → ℝ) (A G O : Fin 2048 → Fin 128 → ℝ) (C : Fin 2048) (d : Fin 128) : ℝ := ∑ R, dscore Q K A G O R C * Q R ⟨128 + d.val, by omega⟩

theorem key_piece (B : BackBlocks V c t Q K0 K1 A G O) (j : Fin 4) (x : S512x128.Idx) {C : Fin 2048} {e : Fin 256} (hC : C = at4 j (x 0)) (he : e.val = (x 1).val) :
    keyHalf (dkL V c t j) x = (dkeyval Q (beside K0 K1) A G O C e : EReal) := by
  subst hC
  have hx : (x 1).val < 128 := (x 1).isLt
  refine (congrArg (keyHalf _) (Idealize.ShloMosaic.eq_ix2 x)).trans ((keyHalf_apply _ (x 0) (x 1)).trans ((dk_real B.loaded j (x 0) _).trans ?_))
  rw [dkeyval, if_pos (by omega), show (⟨(x 1).val, by omega⟩ : Fin 256) = e from Fin.ext he.symm]

theorem val_piece (B : BackBlocks V c t Q K0 K1 A G O) (j : Fin 4) (x : S512x128.Idx) {C : Fin 2048} {e : Fin 256} (hC : C = at4 j (x 0)) (he : e.val = 128 + (x 1).val) :
    valHalf (dvL V c t j) x = (dkeyval Q (beside K0 K1) A G O C e : EReal) := by
  subst hC
  refine (congrArg (valHalf _) (Idealize.ShloMosaic.eq_ix2 x)).trans ((valHalf_apply _ (x 0) (x 1)).trans ((dv_real B.loaded j (x 0) _).trans ?_))
  rw [dkeyval, if_neg (by omega), show (⟨e.val - 128, by omega⟩ : Fin 128) = x 1 from Fin.ext (by show e.val - 128 = _; omega)]

/-- The gradients of the head's keys and values. -/
theorem dkv_block (B : BackBlocks V c t Q K0 K1 A G O) (C : Fin 2048) (e : Fin 256) :
    (outsAt1 V c t.val t.isLt).2.1 (ix2 C e) = (dkeyval Q (beside K0 K1) A G O C e : EReal) := by
  by_cases hA : t.val % 8 = 0
  · rw [outsAt1_A V c t hA]
    dsimp only
    frame_out
    canon_tiles x h
    · exact val_piece B 3 x (Fin.ext h0) h1
    · exact key_piece B 3 x (Fin.ext h0) h1
    · exact val_piece B 2 x (Fin.ext h0) h1
    · exact key_piece B 2 x (Fin.ext h0) h1
    · exact val_piece B 1 x (Fin.ext h0) h1
    · exact key_piece B 1 x (Fin.ext h0) h1
    · exact val_piece B 0 x (Fin.ext (h0.trans (Nat.zero_add _).symm)) h1
    · exact key_piece B 0 x (Fin.ext (h0.trans (Nat.zero_add _).symm)) h1
  · rw [outsAt1_B V c t hA]
    dsimp only
    frame_out
    canon_tiles x h
    · exact val_piece B 3 x (Fin.ext h0) h1
    · exact key_piece B 3 x (Fin.ext h0) h1
    · exact val_piece B 2 x (Fin.ext h0) h1
    · exact key_piece B 2 x (Fin.ext h0) h1
    · exact val_piece B 1 x (Fin.ext h0) h1
    · exact key_piece B 1 x (Fin.ext h0) h1
    · exact val_piece B 0 x (Fin.ext (h0.trans (Nat.zero_add _).symm)) h1
    · exact key_piece B 0 x (Fin.ext (h0.trans (Nat.zero_add _).symm)) h1

theorem shared_piece (B : BackBlocks V c t Q K0 K1 A G O) (j : Fin 4) (x : S512x128.Idx) {C : Fin 2048} {d : Fin 128} (hC : C = at4 j (x 0)) (hd : d = x 1) {z : HalfSums} {f : ℝ} (hz : z x = (f : EReal)) :
    sharedHalf z (dkL V c t j) x = ((f + dshared Q (beside K0 K1) A G O C d : ℝ) : EReal) := by
  subst hC hd
  refine (congrArg (sharedHalf _ _) (Idealize.ShloMosaic.eq_ix2 x)).trans ((sharedHalf_apply _ _ (x 0) (x 1)).trans ?_)
  rw [EReal.coe_add, ← hz]
  exact congrArg₂ (· + ·) (congrArg z (Idealize.ShloMosaic.eq_ix2 x).symm) (dk_real B.loaded j (x 0) _)

/-- The shared keys' gradient after a head that is not the first. -/
theorem dkr_next (B : BackBlocks V c t Q K0 K1 A G O) (hB : ¬t.val % 8 = 0) {f : Fin 2048 → Fin 128 → ℝ}
    (hf : ∀ C d, (outsAt1 V c (t.val - 1) (Nat.lt_of_le_of_lt (Nat.sub_le _ _) t.isLt)).2.2 (ix2 C d) = (f C d : EReal)) (C : Fin 2048) (d : Fin 128) :
    (outsAt1 V c t.val t.isLt).2.2 (ix2 C d) = ((f C d + dshared Q (beside K0 K1) A G O C d : ℝ) : EReal) := by
  have old (j : Fin 4) (x : S512x128.Idx) (hC : C = at4 j (x 0)) (hd : d = x 1) :
      (View.ld ((outsAt1 V c (t.val - 1) (Nat.lt_of_le_of_lt (Nat.sub_le _ _) t.isLt)).2.2 : Vec Ideal S2048x128 .f32) (rowsH (512 * j.val) (inbH j)) : HalfSums) x = (f C d : EReal) := by
    subst hC hd
    exact (congrArg (View.ld ((outsAt1 V c (t.val - 1) (Nat.lt_of_le_of_lt (Nat.sub_le _ _) t.isLt)).2.2 : Vec Ideal S2048x128 .f32) (rowsH (512 * j.val) (inbH j)) : HalfSums)
      (Idealize.ShloMosaic.eq_ix2 x)).trans (sums_ld hf j (x 0) (x 1))
  rw [outsAt1_B V c t hB]
  dsimp only
  frame_out
  canon_tiles x h
  · exact shared_piece B 3 x (Fin.ext h0) (Fin.ext h1) (old 3 x (Fin.ext h0) (Fin.ext h1))
  · exact shared_piece B 2 x (Fin.ext h0) (Fin.ext h1) (old 2 x (Fin.ext h0) (Fin.ext h1))
  · exact shared_piece B 1 x (Fin.ext h0) (Fin.ext h1) (old 1 x (Fin.ext h0) (Fin.ext h1))
  · exact shared_piece B 0 x (Fin.ext (h0.trans (Nat.zero_add _).symm)) (Fin.ext h1) (old 0 x (Fin.ext (h0.trans (Nat.zero_add _).symm)) (Fin.ext h1))
/-- A store of tile `i` of the shared keys' gradient. -/
abbrev putH (i : Fin 4) (w : HalfSums) : View.Piece (Elt Ideal) S2048x128 .f32 := ⟨rowsH (512 * i.val) (inbH i), w⟩

theorem canonH_put (i : Fin 4) (w : HalfSums) (L : List (View.Piece (Elt Ideal) S2048x128 .f32)) (r : Fin 512) (d : Fin 128) : View.canon (putH i w :: L) (ix2 (at4 i r) d) = w (ix2 r d) := by
  rw [← rowsH_at i r d]
  exact View.canon_cons_emb (rowsH (512 * i.val) (inbH i)) w L (ix2 r d)

theorem canonH_other {i i' : Fin 4} (hi : i ≠ i') {w : HalfSums} {L : List (View.Piece (Elt Ideal) S2048x128 .f32)} {r : Fin 512} {d : Fin 128} {y : EReal}
    (h : View.canon L (ix2 (at4 i' r) d) = y) : View.canon (putH i w :: L) (ix2 (at4 i' r) d) = y := by
  refine (View.canon_cons_of_not_mem _ L fun hm => ?_).trans h
  obtain ⟨y, hy, he⟩ := (LoadRect.mem_set _).mp hm (0 : Fin 2)
  have hy' : y < 512 := hy
  have he' : 512 * i'.val + r.val = 512 * i.val + 1 * y := he
  exact hi (Fin.ext (by omega))

/-- The store of zeros that the first head begins with. -/
abbrev clear : View.Piece (Elt Ideal) S2048x128 .f32 :=
  ⟨Rect.unit ![0, 0] ![2048, 128] inb_S2048x128_S2048x128_0_0, (broadcast S2048x128 (Scalar.ofBits .f32 0x00000000#32) : FVec Ideal S2048x128 .f32)⟩

theorem canon_clear (y : S2048x128.Idx) : View.canon [clear] y = ((0 : ℝ) : EReal) := by
  refine (congrFun (View.canon_cons_unit_lit (S := S2048x128) inb_S2048x128_S2048x128_0_0 _ [] (by decide)) y).trans ?_
  show Ideal.ofBits .f32 0x00000000#32 = _
  simp [Ideal.ofBits, Ideal.ieee]

theorem fresh (w : View sig .tc .vmem S2048x128 .f32) {L : List (View.Piece (Elt Ideal) S2048x128 .f32)} {j : Fin 4} {r : Fin 512} {d : Fin 128} (h : View.canon L (ix2 (at4 j r) d) = ((0 : ℝ) : EReal)) :
    (w.readCov L (rowsH (512 * j.val) (inbH j)).toLoadRect : HalfSums) (ix2 r d) = ((0 : ℝ) : EReal) := by
  rw [View.readCov_eq_canon']
  show View.canon L ((rowsH (512 * j.val) (inbH j)).emb (ix2 r d)) = _
  rw [rowsH_at j, h]

/-- The shared keys' gradient after the first head. -/
theorem dkr_first (B : BackBlocks V c t Q K0 K1 A G O) (hA : t.val % 8 = 0) (C : Fin 2048) (d : Fin 128) :
    (outsAt1 V c t.val t.isLt).2.2 (ix2 C d) = ((0 + dshared Q (beside K0 K1) A G O C d : ℝ) : EReal) := by
  obtain ⟨i, r, rfl⟩ := at4_of C
  rw [outsAt1_A V c t hA]
  dsimp only
  frame_out
  fin_cases i
  · refine (canonH_other (i := 3) (i' := 0) (by decide) (canonH_other (i := 2) (by decide) (canonH_other (i := 1) (by decide) (canonH_put 0 _ _ r d)))).trans ?_
    exact shared_piece B 0 (ix2 r d) rfl rfl (fresh (j := 0) (r := r) (d := d) (ms1_9 t).view (canon_clear _))
  · refine (canonH_other (i := 3) (i' := 1) (by decide) (canonH_other (i := 2) (by decide) (canonH_put 1 _ _ r d))).trans ?_
    exact shared_piece B 1 (ix2 r d) rfl rfl (fresh (j := 1) (r := r) (d := d) (ms1_9 t).view (canonH_other (i := 0) (by decide) (canon_clear _)))
  · refine (canonH_other (i := 3) (i' := 2) (by decide) (canonH_put 2 _ _ r d)).trans ?_
    exact shared_piece B 2 (ix2 r d) rfl rfl (fresh (j := 2) (r := r) (d := d) (ms1_9 t).view (canonH_other (i := 1) (by decide) (canonH_other (i := 0) (by decide) (canon_clear _))))
  · refine (canonH_put 3 _ _ r d).trans ?_
    exact shared_piece B 3 (ix2 r d) rfl rfl (fresh (j := 3) (r := r) (d := d) (ms1_9 t).view (canonH_other (i := 2) (by decide) (canonH_other (i := 1) (by decide) (canonH_other (i := 0) (by decide) (canon_clear _)))))
end

end Cert.Attn

end
-- ==== Proof.Attn.Inputs.lean ====
/- What the two kernels' blocks hold, read from the arguments, when every argument is real. -/
module

public import proofs.«01_k».proof.Proof.Attn.Heads

@[expose] public section

set_option maxRecDepth 16384

noncomputable section

namespace Cert.Attn

open Idealize Idealize.ShloMosaic Idealize.SL.Sem Cert.AttnKernelIdeal Cert.AttnKernelIdeal.Gen

/-- Real arguments: the queries without and with a place, the keys and values, the shared keys, the gradient of the output. -/
structure Args where
  qn : Fin 2 → Fin 2048 → Fin 8 → Fin 128 → ℝ
  qr : Fin 2 → Fin 2048 → Fin 8 → Fin 64 → ℝ
  kv : Fin 2 → Fin 2048 → Fin 8 → Fin 256 → ℝ
  kr : Fin 2 → Fin 2048 → Fin 64 → ℝ
  ct : Fin 2 → Fin 2048 → Fin 8 → Fin 128 → ℝ

namespace Args
variable (a : Args) (b : Fin 2) (h : Fin 8)

/-- A head's queries, filled up with zeros. -/
def Q (R : Fin 2048) (e : Fin 256) : ℝ :=
  if h0 : e.val < 128 then a.qn b R h ⟨e.val, h0⟩ else if h1 : e.val < 192 then a.qr b R h ⟨e.val - 128, by omega⟩ else 0
/-- A head's own keys. -/
def K (C : Fin 2048) (d : Fin 128) : ℝ := a.kv b C h ⟨d.val, by omega⟩
/-- A head's values. -/
def A (C : Fin 2048) (d : Fin 128) : ℝ := a.kv b C h ⟨128 + d.val, by omega⟩
/-- The shared keys, filled up with zeros. -/
def Z (C : Fin 2048) (d : Fin 128) : ℝ := if h0 : d.val < 64 then a.kr b C ⟨d.val, h0⟩ else 0
/-- The gradient of a head's output. -/
def G (R : Fin 2048) (d : Fin 128) : ℝ := a.ct b R h d

/-- The five argument arrays hold these reals. -/
structure Reads (X0 : FVec Ideal S2x2048x8x128 .f32) (X1 : FVec Ideal S2x2048x8x64 .f32) (X2 : FVec Ideal S2x2048x8x256 .f32)
    (X3 : FVec Ideal S2x2048x64 .f32) (X4 : FVec Ideal S2x2048x8x128 .f32) : Prop where
  h0 : ∀ b s h d, X0 (ix4 b s h d) = (a.qn b s h d : EReal)
  h1 : ∀ b s h d, X1 (ix4 b s h d) = (a.qr b s h d : EReal)
  h2 : ∀ b s h d, X2 (ix4 b s h d) = (a.kv b s h d : EReal)
  h3 : ∀ b s d, X3 (ix3 b s d) = (a.kr b s d : EReal)
  h4 : ∀ b s h d, X4 (ix4 b s h d) = (a.ct b s h d : EReal)

end Args

/-- A row of the stacked tokens. -/
def tok (b : Fin 2) (r : Fin 2048) : Fin 4096 := ⟨b.val * 2048 + r.val, by omega⟩
/-- A column of the heads laid side by side. -/
def col (h : Fin 8) (e : Fin 256) : Fin 2048 := ⟨h.val * 256 + e.val, by omega⟩
/-- The same for the narrow heads. -/
def ncol (h : Fin 8) (d : Fin 128) : Fin 1024 := ⟨h.val * 128 + d.val, by omega⟩

theorem heads_apply {α : Type} (X : S2x2048x8x256.Idx → α) (b : Fin 2) (r : Fin 2048) (h : Fin 8) (e : Fin 256) :
    shapeCast S4096x2048 X shapeCasts_S2x2048x8x256_S4096x2048 (ix2 (tok b r) (col h e)) = X (ix4 b r h e) := by
  pointwise [tok, col]
  blk_ext

theorem narrow_apply {α : Type} (X : S2x2048x8x128.Idx → α) (b : Fin 2) (r : Fin 2048) (h : Fin 8) (d : Fin 128) :
    shapeCast S4096x1024 X shapeCasts_S2x2048x8x128_S4096x1024 (ix2 (tok b r) (ncol h d)) = X (ix4 b r h d) := by
  pointwise [tok, ncol]
  blk_ext

theorem shared_apply {α : Type} (X : S2x2048x128.Idx → α) (b : Fin 2) (r : Fin 2048) (d : Fin 128) :
    shapeCast S4096x128 X shapeCasts_S2x2048x128_S4096x128 (ix2 (tok b r) d) = X (ix3 b r d) := by
  pointwise [tok]
  blk_ext

variable (m : (ℓ : Loc nD τ sig) → Buf (Elt Ideal) ℓ) (ρ : Dev nD → PrngReg)

/-- The arguments of core `c` are the reals `a`. -/
abbrev Given (c : Dev nD) (a : Args) : Prop :=
  a.Reads (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

variable {m} {c : Dev nD} {a : Args}

theorem zero_word : Ideal.ofBits .f32 0x00000000#32 = ((0 : ℝ) : EReal) := by simp [Ideal.ofBits, Ideal.ieee]

/-- The queries with zeros after them. -/
def filledQ (m : (ℓ : Loc nD τ sig) → Buf (Elt Ideal) ℓ) (c : Dev nD) : FVec Ideal S2x2048x8x256 .f32 :=
  concatenate S2x2048x8x256 3 [⟨S2x2048x8x128, m ((c.tc : Thread nD τ).loc main_arg0)⟩, ⟨S2x2048x8x64, m ((c.tc : Thread nD τ).loc main_arg1)⟩,
    ⟨S2x2048x8x64, broadcastInDim S2x2048x8x64 ![] bcast_S_S2x2048x8x64 (constant (F := Ideal) S_ FTy.f32 0#32)⟩] concatenates_S2x2048x8x128_S2x2048x8x64_S2x2048x8x64_S2x2048x8x256_d3

theorem three_parts {x x' : FVec Ideal S2x2048x8x128 .f32} {y y' z z' : FVec Ideal S2x2048x8x64 .f32} (hx : x = x') (hy : y = y') (hz : z = z') :
    concatenate S2x2048x8x256 3 [⟨S2x2048x8x128, x⟩, ⟨S2x2048x8x64, y⟩, ⟨S2x2048x8x64, z⟩] concatenates_S2x2048x8x128_S2x2048x8x64_S2x2048x8x64_S2x2048x8x256_d3 =
    concatenate S2x2048x8x256 3 [⟨S2x2048x8x128, x'⟩, ⟨S2x2048x8x64, y'⟩, ⟨S2x2048x8x64, z'⟩] concatenates_S2x2048x8x128_S2x2048x8x64_S2x2048x8x64_S2x2048x8x256_d3 := by
  rw [hx, hy, hz]

/-- The queries as the host lays them out. -/
theorem queries_host : StableHlo.after hostOps0 (W0 m ρ c) (Proc.devRef .tc main_v3) =
    (truncf .bf16 (shapeCast S4096x2048 (filledQ m c) shapeCasts_S2x2048x8x256_S4096x2048) bitsLt_bf16_f32 : FVec Ideal S4096x2048 .bf16) := by
  unfold hostOps0
  after_results_simp
  dsimp only [Matrix.cons_val]
  refine congrArg (fun x : FVec Ideal S2x2048x8x256 .f32 => (truncf .bf16 (shapeCast S4096x2048 x shapeCasts_S2x2048x8x256_S4096x2048) bitsLt_bf16_f32 : FVec Ideal S4096x2048 .bf16))
    (three_parts ?_ ?_ ?_) <;> after_results_simp

theorem queries_in (A : Given m c a) (b : Fin 2) (r : Fin 2048) (h : Fin 8) (e : Fin 256) :
    (V1 m ρ c main_v3 : FVec Ideal S4096x2048 .bf16) (ix2 (tok b r) (col h e)) = (a.Q b h r e : EReal) := by
  show StableHlo.after hostOps0 (W0 m ρ c) (Proc.devRef .tc main_v3) (ix2 (tok b r) (col h e)) = _
  rw [queries_host]
  show shapeCast S4096x2048 (filledQ m c) shapeCasts_S2x2048x8x256_S4096x2048 (ix2 (tok b r) (col h e)) = _
  refine (heads_apply _ b r h e).trans ?_
  unfold Args.Q
  split_ifs with h0 h1
  · rw [← A.h0]
    pointwise [filledQ]
    exact dif_pos h0
  · rw [← A.h1]
    pointwise [filledQ]
    exact (dif_neg h0).trans (dif_pos (by omega))
  · rw [← zero_word]
    pointwise [filledQ]
    exact (dif_neg h0).trans (dif_neg (by omega))

theorem keys_in (A : Given m c a) (b : Fin 2) (r : Fin 2048) (h : Fin 8) (e : Fin 256) :
    (V1 m ρ c main_v5 : FVec Ideal S4096x2048 .bf16) (ix2 (tok b r) (col h e)) = (a.kv b r h e : EReal) := by
  show StableHlo.after hostOps0 (W0 m ρ c) (Proc.devRef .tc main_v5) (ix2 (tok b r) (col h e)) = _
  entry_read
  exact (heads_apply _ b r h e).trans (A.h2 b r h e)

theorem shared_in (A : Given m c a) (b : Fin 2) (r : Fin 2048) (d : Fin 128) :
    (V1 m ρ c main_v9 : FVec Ideal S4096x128 .bf16) (ix2 (tok b r) d) = (a.Z b r d : EReal) := by
  show StableHlo.after hostOps0 (W0 m ρ c) (Proc.devRef .tc main_v9) (ix2 (tok b r) d) = _
  entry_read
  show shapeCast S4096x128 (concatenate S2x2048x128 2 [⟨S2x2048x64, m ((c.tc : Thread nD τ).loc main_arg3)⟩, ⟨S2x2048x64, broadcastInDim S2x2048x64 ![] bcast_S_S2x2048x64 (constant (F := Ideal) S_ FTy.f32 0#32)⟩] concatenates_S2x2048x64_S2x2048x64_S2x2048x128_d2) shapeCasts_S2x2048x128_S4096x128 (ix2 (tok b r) d) = _
  refine (shared_apply _ b r d).trans ?_
  unfold Args.Z
  split_ifs with h0
  · rw [← A.h3]
    pointwise
    exact dif_pos h0
  · rw [← zero_word]
    pointwise
    exact dif_neg h0

theorem grads_in (A : Given m c a) (b : Fin 2) (r : Fin 2048) (h : Fin 8) (d : Fin 128) :
    (V1 m ρ c main_v11 : FVec Ideal S4096x1024 .bf16) (ix2 (tok b r) (ncol h d)) = (a.G b h r d : EReal) := by
  show StableHlo.after hostOps0 (W0 m ρ c) (Proc.devRef .tc main_v11) (ix2 (tok b r) (ncol h d)) = _
  entry_read
  exact (narrow_apply _ b r h d).trans (A.h4 b r h d)

end Cert.Attn

end
-- ==== Proof.Attn.Plain.lean ====
/- What the plain program computes: its intermediate arrays by name, and their entries when the arguments are real. -/
module

public import proofs.«01_k».proof.Proof.Gen.AttnReferenceIdeal.Run
public import proofs.«01_k».proof.Proof.Attn.Inputs

@[expose] public section

set_option maxRecDepth 16384

noncomputable section

namespace Cert.Attn

open Idealize Idealize.ShloMosaic Idealize.SL.Sem Cert.AttnReferenceIdeal Cert.AttnReferenceIdeal.Gen
open scoped BigOperators

/-- Scores: two sequences, eight heads, queries by keys. -/
abbrev Square := FVec Ideal S2x8x2048x2048 .f32

section
variable (X0 X4 : FVec Ideal S2x2048x8x128 .f32) (X1 : FVec Ideal S2x2048x8x64 .f32) (X2 : FVec Ideal S2x2048x8x256 .f32) (X3 : FVec Ideal S2x2048x64 .f32)

/-- The scale. -/
def scaleP : FVec Ideal S_ .f32 := Host.rsqrt (constant S_ .f32 0x43400000#32)
def keysP : FVec Ideal S2x2048x8x128 .f32 := extractStridedSlice S2x2048x8x128 ![0, 0, 0, 0] X2 slices_S2x2048x8x256_S2x2048x8x128_0_0_0_0
def valuesP : FVec Ideal S2x2048x8x128 .f32 := extractStridedSlice S2x2048x8x128 ![0, 0, 0, 128] X2 slices_S2x2048x8x256_S2x2048x8x128_0_0_0_128
/-- The scaled scores. -/
def scoresP : Square :=
  mulf (addf (Host.dotGeneral dot_S2x2048x8x128_S2x2048x8x128_S2x8x2048x2048_3_3_1_1_02_02 none X0 (keysP X2))
      (transpose S2x8x2048x2048 [0, 3, 2, 1] (Host.dotGeneral dot_S2x2048x64_S2x2048x8x64_S2x2048x2048x8_2_3_1_12_0_0 none X3 X1) transposes_S2x2048x2048x8_S2x8x2048x2048_0_3_2_1))
    (broadcastInDim S2x8x2048x2048 ![] bcast_S_S2x8x2048x2048 scaleP)
/-- Which keys a query sees. -/
def seenP : IVec S2x8x2048x2048 1 :=
  broadcastInDim S2x8x2048x2048 ![0, 1, 2, 3] bcast_S1x1x2048x2048_S2x8x2048x2048_0_1_2_3 (broadcastInDim S1x1x2048x2048 ![2, 3] bcast_S2048x2048_S1x1x2048x2048_2_3
    (cmpi .sge (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
def maskedP : Square := select seenP (scoresP X0 X1 X2 X3) (broadcastInDim S2x8x2048x2048 ![] bcast_S_S2x8x2048x2048 (id (constant S_ .f32 0xFF800000#32)))
/-- The largest score of each query. -/
def largest (x : Square) : FVec Ideal S2x8x2048 .f32 :=
  maximumf (broadcastInDim S2x8x2048 ![] bcast_S_S2x8x2048 (constant S_ .f32 0xFF800000#32))
    (Host.reduce FloatOps.maximumf x (constant S_ .f32 0xFF800000#32) reducesTo_S2x8x2048x2048_S2x8x2048_d3 h_S_)
def topP : FVec Ideal S2x8x2048 .f32 := largest (maskedP X0 X1 X2 X3)
def expsP : Square :=
  Host.exp (subf (maskedP X0 X1 X2 X3) (broadcastInDim S2x8x2048x2048 ![0, 1, 2, 3] bcast_S2x8x2048x1_S2x8x2048x2048_0_1_2_3
    (broadcastInDim S2x8x2048x1 ![0, 1, 2] bcast_S2x8x2048_S2x8x2048x1_0_1_2 (topP X0 X1 X2 X3))))
def normsP : FVec Ideal S2x8x2048x1 .f32 :=
  broadcastInDim S2x8x2048x1 ![0, 1, 2] bcast_S2x8x2048_S2x8x2048x1_0_1_2
    (Host.reduceAdd (expsP X0 X1 X2 X3) (constant S_ .f32 0x00000000#32) reducesTo_S2x8x2048x2048_S2x8x2048_d3 h_S_)
/-- A number per query, along the keys. -/
def along (x : FVec Ideal S2x8x2048x1 .f32) : Square := broadcastInDim S2x8x2048x2048 ![0, 1, 2, 3] bcast_S2x8x2048x1_S2x8x2048x2048_0_1_2_3 x
def probsP : Square := Host.divf (expsP X0 X1 X2 X3) (along (normsP X0 X1 X2 X3))
def outsP : FVec Ideal S2x2048x8x128 .f32 :=
  transpose S2x2048x8x128 [0, 3, 1, 2] (Host.dotGeneral dot_S2x2048x8x128_S2x8x2048x2048_S2x8x128x2048_1_3_3_2_02_01 none (valuesP X2) (probsP X0 X1 X2 X3))
    transposes_S2x8x128x2048_S2x2048x8x128_0_3_1_2
def gradsP : FVec Ideal S2x8x128x2048 .f32 := transpose S2x8x128x2048 [0, 2, 3, 1] X4 transposes_S2x2048x8x128_S2x8x128x2048_0_2_3_1
def dprobsP : Square := Host.dotGeneral dot_S2x8x128x2048_S2x2048x8x128_S2x8x2048x2048_2_3_3_1_01_02 none (gradsP X4) (valuesP X2)
def dvaluesP : FVec Ideal S2x2048x8x128 .f32 :=
  transpose S2x2048x8x128 [0, 3, 1, 2] (Host.dotGeneral dot_S2x8x128x2048_S2x8x2048x2048_S2x8x128x2048_3_2_2_3_01_01 none (gradsP X4) (probsP X0 X1 X2 X3))
    transposes_S2x8x128x2048_S2x2048x8x128_0_3_1_2
/-- The gradient of the sums, negated twice over the single column. -/
def dnormsP : FVec Ideal S2x8x2048 .f32 :=
  Host.reduceAdd (Host.negf (shapeCast S2x8x2048x1 (Host.reduceAdd (mulf (mulf (dprobsP X4 X2) (along (Host.divf (broadcastInDim S2x8x2048x1 ![] bcast_S_S2x8x2048x1 (constant S_ .f32 0x3F800000#32))
      (mulf (normsP X0 X1 X2 X3) (normsP X0 X1 X2 X3))))) (expsP X0 X1 X2 X3)) (constant S_ .f32 0x00000000#32) reducesTo_S2x8x2048x2048_S2x8x2048_d3 h_S_)
    shapeCasts_S2x8x2048_S2x8x2048x1)) (constant S_ .f32 0x00000000#32) reducesTo_S2x8x2048x1_S2x8x2048_d3 h_S_
/-- The gradient of the scores before their scale. -/
def dscoresP : Square :=
  mulf (select seenP (mulf (addf (Host.divf (dprobsP X4 X2) (along (normsP X0 X1 X2 X3)))
      (broadcastInDim S2x8x2048x2048 ![0, 1, 2] bcast_S2x8x2048_S2x8x2048x2048_0_1_2 (dnormsP X0 X4 X1 X2 X3))) (expsP X0 X1 X2 X3))
      (broadcastInDim S2x8x2048x2048 ![] bcast_S_S2x8x2048x2048 (constant S_ .f32 0x00000000#32)))
    (broadcastInDim S2x8x2048x2048 ![] bcast_S_S2x8x2048x2048 scaleP)
def turnedP : FVec Ideal S2x2048x2048x8 .f32 := transpose S2x2048x2048x8 [0, 3, 2, 1] (dscoresP X0 X4 X1 X2 X3) transposes_S2x8x2048x2048_S2x2048x2048x8_0_3_2_1
def dplacedP : FVec Ideal S2x2048x8x64 .f32 := Host.dotGeneral dot_S2x2048x2048x8_S2x2048x64_S2x2048x8x64_1_1_23_2_0_0 none (turnedP X0 X4 X1 X2 X3) X3
def dsharedP : FVec Ideal S2x2048x64 .f32 := Host.dotGeneral dot_S2x2048x2048x8_S2x2048x8x64_S2x2048x64_23_12_1_3_0_0 none (turnedP X0 X4 X1 X2 X3) X1
def dkeysP : FVec Ideal S2x2048x8x128 .f32 :=
  transpose S2x2048x8x128 [0, 2, 1, 3] (Host.dotGeneral dot_S2x8x2048x2048_S2x2048x8x128_S2x8x2048x128_2_1_3_3_01_02 none (dscoresP X0 X4 X1 X2 X3) X0)
    transposes_S2x8x2048x128_S2x2048x8x128_0_2_1_3
def dqueriesP : FVec Ideal S2x2048x8x128 .f32 :=
  transpose S2x2048x8x128 [0, 2, 1, 3] (Host.dotGeneral dot_S2x8x2048x2048_S2x2048x8x128_S2x8x2048x128_3_1_2_3_01_02 none (dscoresP X0 X4 X1 X2 X3) (keysP X2))
    transposes_S2x8x2048x128_S2x2048x8x128_0_2_1_3
/-- The gradient of the keys and values, side by side. -/
def dkvP : FVec Ideal S2x2048x8x256 .f32 :=
  addf (pad S2x2048x8x256 ![0, 0, 0, 128] ![0, 0, 0, 0] ![0, 0, 0, 0] (dvaluesP X0 X4 X1 X2 X3) (constant S_ .f32 0x00000000#32) pads_S2x2048x8x128_S2x2048x8x256_000_000_000_12800 h_S_)
    (pad S2x2048x8x256 ![0, 0, 0, 0] ![0, 0, 0, 128] ![0, 0, 0, 0] (dkeysP X0 X4 X1 X2 X3) (constant S_ .f32 0x00000000#32) pads_S2x2048x8x128_S2x2048x8x256_000_000_000_01280 h_S_)
def dqP : FVec Ideal S2x2048x8x256 .f32 :=
  concatenate S2x2048x8x256 3 [⟨S2x2048x8x128, dqueriesP X0 X4 X1 X2 X3⟩, ⟨S2x2048x8x64, dplacedP X0 X4 X1 X2 X3⟩,
    ⟨S2x2048x8x64, broadcastInDim S2x2048x8x64 ![] bcast_S_S2x2048x8x64 (constant (F := Ideal) S_ FTy.f32 0x00000000#32)⟩] concatenates_S2x2048x8x128_S2x2048x8x64_S2x2048x8x64_S2x2048x8x256_d3
def dkrP : FVec Ideal S2x2048x128 .f32 :=
  concatenate S2x2048x128 2 [⟨S2x2048x64, dsharedP X0 X4 X1 X2 X3⟩, ⟨S2x2048x64, broadcastInDim S2x2048x64 ![] bcast_S_S2x2048x64 (constant (F := Ideal) S_ FTy.f32 0x00000000#32)⟩]
    concatenates_S2x2048x64_S2x2048x64_S2x2048x128_d2
end

variable (m : (ℓ : Loc nD τ sig) → Buf (Elt Ideal) ℓ) (c : Dev nD)

theorem outs_eq : Value.res_out0 m c = (truncf .bf16 (shapeCast S4096x1024 (outsP (m ((c.tc : Thread nD τ).loc main_arg0)) (m ((c.tc : Thread nD τ).loc main_arg1))
    (m ((c.tc : Thread nD τ).loc main_arg2)) (m ((c.tc : Thread nD τ).loc main_arg3))) shapeCasts_S2x2048x8x128_S4096x1024) bitsLt_bf16_f32 : FVec Ideal S4096x1024 .bf16) := rfl
theorem dq_eq : Value.res_out1 m c = (truncf .bf16 (shapeCast S4096x2048 (dqP (m ((c.tc : Thread nD τ).loc main_arg0)) (m ((c.tc : Thread nD τ).loc main_arg4)) (m ((c.tc : Thread nD τ).loc main_arg1))
    (m ((c.tc : Thread nD τ).loc main_arg2)) (m ((c.tc : Thread nD τ).loc main_arg3))) shapeCasts_S2x2048x8x256_S4096x2048) bitsLt_bf16_f32 : FVec Ideal S4096x2048 .bf16) := rfl
theorem dkv_eq : Value.res_out2 m c = (truncf .bf16 (shapeCast S4096x2048 (dkvP (m ((c.tc : Thread nD τ).loc main_arg0)) (m ((c.tc : Thread nD τ).loc main_arg4)) (m ((c.tc : Thread nD τ).loc main_arg1))
    (m ((c.tc : Thread nD τ).loc main_arg2)) (m ((c.tc : Thread nD τ).loc main_arg3))) shapeCasts_S2x2048x8x256_S4096x2048) bitsLt_bf16_f32 : FVec Ideal S4096x2048 .bf16) := rfl
theorem dkr_eq : Value.res_out3 m c = (shapeCast S4096x128 (dkrP (m ((c.tc : Thread nD τ).loc main_arg0)) (m ((c.tc : Thread nD τ).loc main_arg4)) (m ((c.tc : Thread nD τ).loc main_arg1))
    (m ((c.tc : Thread nD τ).loc main_arg2)) (m ((c.tc : Thread nD τ).loc main_arg3))) shapeCasts_S2x2048x128_S4096x128 : FVec Ideal S4096x128 .f32) := rfl

end Cert.Attn

end
-- ==== Proof.Attn.Arrays.lean ====
/- What the forward kernel's two arrays hold: the heads' outputs and the logarithms of the sums of their weights. -/
module

public import proofs.«01_k».proof.Proof.Attn.Inputs

@[expose] public section

set_option maxRecDepth 16384

noncomputable section

namespace Cert.Attn

open Idealize Idealize.ShloMosaic Idealize.SL.Sem Cert.AttnKernelIdeal Cert.AttnKernelIdeal.Gen

/-- The sequence and the head of grid point `t`. -/
def bat (t : ℕ) (h : t < 16) : Fin 2 := ⟨t / 8, by omega⟩
def hd (t : ℕ) : Fin 8 := ⟨t % 8, by omega⟩

/-- The sequence and the token of a row, the head and the place of a column. -/
def rowB (r : Fin 4096) : Fin 2 := ⟨r.val / 2048, by omega⟩
def rowT (r : Fin 4096) : Fin 2048 := ⟨r.val % 2048, by omega⟩
def colH (k : Fin 1024) : Fin 8 := ⟨k.val / 128, by omega⟩
def colD (k : Fin 1024) : Fin 128 := ⟨k.val % 128, by omega⟩
def wideH (k : Fin 2048) : Fin 8 := ⟨k.val / 256, by omega⟩
def wideE (k : Fin 2048) : Fin 256 := ⟨k.val % 256, by omega⟩

theorem row_tok (b : Fin 2) (r : Fin 2048) : rowB (tok b r) = b ∧ rowT (tok b r) = r :=
  ⟨Fin.ext (show (b.val * 2048 + r.val) / 2048 = b.val by omega), Fin.ext (show (b.val * 2048 + r.val) % 2048 = r.val by omega)⟩
theorem col_narrow (h : Fin 8) (d : Fin 128) : colH (ncol h d) = h ∧ colD (ncol h d) = d :=
  ⟨Fin.ext (show (h.val * 128 + d.val) / 128 = h.val by omega), Fin.ext (show (h.val * 128 + d.val) % 128 = d.val by omega)⟩
theorem col_wide (h : Fin 8) (e : Fin 256) : wideH (col h e) = h ∧ wideE (col h e) = e :=
  ⟨Fin.ext (show (h.val * 256 + e.val) / 256 = h.val by omega), Fin.ext (show (h.val * 256 + e.val) % 256 = e.val by omega)⟩

theorem points (t : Fin cfg0.N) : t.val < 16 := t.isLt
theorem points' (t : Fin cfg1.N) : t.val < 16 := t.isLt

/-- Where each window's block lies at grid point `t`. -/
theorem places0 : ∀ t : Fin cfg0.N, win0_0.index t = ![t.val / 8, t.val % 8] ∧ win0_1.index t = ![t.val / 8, 2 * (t.val % 8)] ∧
    win0_2.index t = ![t.val / 8, 2 * (t.val % 8) + 1] ∧ win0_3.index t = ![t.val / 8, 0] ∧
    win0_4.index t = ![t.val / 8, t.val % 8] ∧ win0_5.index t = ![t.val / 8, t.val % 8] :=
  (by decide +kernel : ∀ t : Fin grid0.N, _)

theorem places1 : ∀ t : Fin cfg1.N, win1_0.index t = ![t.val / 8, t.val % 8] ∧ win1_1.index t = ![t.val / 8, 2 * (t.val % 8)] ∧
    win1_2.index t = ![t.val / 8, 2 * (t.val % 8) + 1] ∧ win1_3.index t = ![t.val / 8, 0] ∧
    win1_4.index t = ![t.val / 8, t.val % 8] ∧ win1_5.index t = ![t.val / 8, t.val % 8] ∧ win1_6.index t = ![t.val / 8, t.val % 8] ∧
    win1_7.index t = ![t.val / 8, t.val % 8] ∧ win1_8.index t = ![t.val / 8, t.val % 8] ∧ win1_9.index t = ![t.val / 8, 0] :=
  (by decide +kernel : ∀ t : Fin grid1.N, _)

namespace Args
variable (a : Args) (b : Fin 2) (h : Fin 8)
/-- A head's keys: its own and the shared ones. -/
def KZ : Fin 2048 → Fin 256 → ℝ := beside (a.K b h) (a.Z b)
/-- A head's output. -/
def O (r : Fin 2048) (d : Fin 128) : ℝ := mean (a.Q b h) (a.KZ b h) (a.A b h) r d
end Args

variable {m : (ℓ : Loc nD τ sig) → Buf (Elt Ideal) ℓ} (ρ : Dev nD → PrngReg) {c : Dev nD} {a : Args}

theorem blocks0 (G : Given m c a) (t : Fin cfg0.N) :
    Blocks (V1 m ρ) c t (a.Q (bat t.val t.isLt) (hd t.val)) (a.K (bat t.val t.isLt) (hd t.val)) (a.Z (bat t.val t.isLt)) (a.A (bat t.val t.isLt) (hd t.val)) := by
  have ht := points t
  refine ⟨fun R e => ?_, fun R e => ?_, fun R e => ?_, fun R e => ?_⟩
  · have p : (win0_0.blk t).view.emb (ix2 R e) = ix2 (tok (bat t.val t.isLt) R) (col (hd t.val) e) := by blk_ext [places0 t, tok, col, bat, hd]
    show (V1 m ρ c main_v3 : FVec Ideal S4096x2048 .bf16) ((win0_0.blk t).view.emb (ix2 R e)) = _
    rw [p]
    exact queries_in ρ G _ _ _ _
  · have p : (win0_1.blk t).view.emb (ix2 R e) = ix2 (tok (bat t.val t.isLt) R) (col (hd t.val) ⟨e.val, by omega⟩) := by blk_ext [places0 t, tok, col, bat, hd]
    show (V1 m ρ c main_v5 : FVec Ideal S4096x2048 .bf16) ((win0_1.blk t).view.emb (ix2 R e)) = _
    rw [p]
    exact keys_in ρ G _ _ _ _
  · have p : (win0_3.blk t).view.emb (ix2 R e) = ix2 (tok (bat t.val t.isLt) R) e := by blk_ext [places0 t, tok, bat]
    show (V1 m ρ c main_v9 : FVec Ideal S4096x128 .bf16) ((win0_3.blk t).view.emb (ix2 R e)) = _
    rw [p]
    exact shared_in ρ G _ _ _
  · have p : (win0_2.blk t).view.emb (ix2 R e) = ix2 (tok (bat t.val t.isLt) R) (col (hd t.val) ⟨128 + e.val, by omega⟩) := by blk_ext [places0 t, tok, col, bat, hd]
    show (V1 m ρ c main_v5 : FVec Ideal S4096x2048 .bf16) ((win0_2.blk t).view.emb (ix2 R e)) = _
    rw [p]
    exact keys_in ρ G _ _ _ _

/-- The heads' outputs, laid side by side. -/
theorem out_final (G : Given m c a) : (dat0 (V1 m ρ) c).arrAt 4 cfg0.N =
    fun i : S4096x1024.Idx => ((a.O (rowB (i 0)) (colH (i 1)) (rowT (i 0)) (colD (i 1)) : ℝ) : EReal) := by
  refine (dat0 (V1 m ρ) c).arrAt_eq_of_covers 4 _ (by decide +kernel) fun t hf y => ?_
  have ht := points t
  blk_simp
  rw [after0_4]
  dsimp only
  obtain ⟨R, d, rfl⟩ : ∃ (R : Fin 2048) (d : Fin 128), y = ix2 R d := ⟨y 0, y 1, eq_ix2 y⟩
  have p : (win0_4.blk t).view.emb (ix2 R d) = ix2 (tok (bat t.val t.isLt) R) (ncol (hd t.val) d) := by blk_ext [places0 t, tok, ncol, bat, hd]
  rw [p, out_block (blocks0 ρ G t)]
  dsimp only
  show _ = ((a.O (rowB (tok (bat t.val t.isLt) R)) (colH (ncol (hd t.val) d)) (rowT (tok (bat t.val t.isLt) R)) (colD (ncol (hd t.val) d)) : ℝ) : EReal)
  rw [(row_tok _ _).1, (row_tok _ _).2, (col_narrow _ _).1, (col_narrow _ _).2]
  rfl

/-- The logarithms of the sums of the weights, one head's repeated over its columns. -/
theorem lse_final (G : Given m c a) : (dat0 (V1 m ρ) c).arrAt 5 cfg0.N =
    fun i : S4096x1024.Idx => ((logsum (a.Q (rowB (i 0)) (colH (i 1))) (a.KZ (rowB (i 0)) (colH (i 1))) (rowT (i 0)) : ℝ) : EReal) := by
  refine (dat0 (V1 m ρ) c).arrAt_eq_of_covers 5 _ (by decide +kernel) fun t hf y => ?_
  have ht := points t
  blk_simp
  rw [after0_5]
  dsimp only
  obtain ⟨R, d, rfl⟩ : ∃ (R : Fin 2048) (d : Fin 128), y = ix2 R d := ⟨y 0, y 1, eq_ix2 y⟩
  have p : (win0_5.blk t).view.emb (ix2 R d) = ix2 (tok (bat t.val t.isLt) R) (ncol (hd t.val) d) := by blk_ext [places0 t, tok, ncol, bat, hd]
  rw [p, lse_block (blocks0 ρ G t)]
  show _ = ((logsum (a.Q (rowB (tok (bat t.val t.isLt) R)) (colH (ncol (hd t.val) d))) (a.KZ (rowB (tok (bat t.val t.isLt) R)) (colH (ncol (hd t.val) d))) (rowT (tok (bat t.val t.isLt) R)) : ℝ) : EReal)
  rw [(row_tok _ _).1, (row_tok _ _).2, (col_narrow _ _).1]
  rfl

theorem kept3 : V2 m ρ c main_v3 = V1 m ρ c main_v3 := W2_of m ρ c main_v3 (by decide +kernel)
theorem kept5 : V2 m ρ c main_v5 = V1 m ρ c main_v5 := W2_of m ρ c main_v5 (by decide +kernel)
theorem kept9 : V2 m ρ c main_v9 = V1 m ρ c main_v9 := W2_of m ρ c main_v9 (by decide +kernel)
theorem kept11 : V2 m ρ c main_v11 = V1 m ρ c main_v11 := W2_of m ρ c main_v11 (by decide +kernel)
theorem made0 : V2 m ρ c main_v12_0 = (dat0 (V1 m ρ) c).arrAt 4 cfg0.N := W2_arr m ρ c 4
theorem made1 : V2 m ρ c main_v12_1 = (dat0 (V1 m ρ) c).arrAt 5 cfg0.N := W2_arr m ρ c 5

theorem blocks1 (G : Given m c a) (t : Fin cfg1.N) :
    BackBlocks (V2 m ρ) c t (a.Q (bat t.val t.isLt) (hd t.val)) (a.K (bat t.val t.isLt) (hd t.val)) (a.Z (bat t.val t.isLt)) (a.A (bat t.val t.isLt) (hd t.val))
      (a.G (bat t.val t.isLt) (hd t.val)) (a.O (bat t.val t.isLt) (hd t.val)) := by
  have ht := points' t
  refine ⟨fun R e => ?_, fun R e => ?_, fun R e => ?_, fun R e => ?_, fun R e => ?_, fun R e => ?_, fun R e => ?_⟩
  · have p : (win1_0.blk t).view.emb (ix2 R e) = ix2 (tok (bat t.val t.isLt) R) (col (hd t.val) e) := by blk_ext [places1 t, tok, col, bat, hd]
    show (V2 m ρ c main_v3 : FVec Ideal S4096x2048 .bf16) ((win1_0.blk t).view.emb (ix2 R e)) = _
    rw [p, kept3]
    exact queries_in ρ G _ _ _ _
  · have p : (win1_1.blk t).view.emb (ix2 R e) = ix2 (tok (bat t.val t.isLt) R) (col (hd t.val) ⟨e.val, by omega⟩) := by blk_ext [places1 t, tok, col, bat, hd]
    show (V2 m ρ c main_v5 : FVec Ideal S4096x2048 .bf16) ((win1_1.blk t).view.emb (ix2 R e)) = _
    rw [p, kept5]
    exact keys_in ρ G _ _ _ _
  · have p : (win1_2.blk t).view.emb (ix2 R e) = ix2 (tok (bat t.val t.isLt) R) (col (hd t.val) ⟨128 + e.val, by omega⟩) := by blk_ext [places1 t, tok, col, bat, hd]
    show (V2 m ρ c main_v5 : FVec Ideal S4096x2048 .bf16) ((win1_2.blk t).view.emb (ix2 R e)) = _
    rw [p, kept5]
    exact keys_in ρ G _ _ _ _
  · have p : (win1_3.blk t).view.emb (ix2 R e) = ix2 (tok (bat t.val t.isLt) R) e := by blk_ext [places1 t, tok, bat]
    show (V2 m ρ c main_v9 : FVec Ideal S4096x128 .bf16) ((win1_3.blk t).view.emb (ix2 R e)) = _
    rw [p, kept9]
    exact shared_in ρ G _ _ _
  · have p : (win1_4.blk t).view.emb (ix2 R e) = ix2 (tok (bat t.val t.isLt) R) (ncol (hd t.val) e) := by blk_ext [places1 t, tok, ncol, bat, hd]
    show (V2 m ρ c main_v12_0 : FVec Ideal S4096x1024 .bf16) ((win1_4.blk t).view.emb (ix2 R e)) = _
    rw [p, made0, out_final ρ G]
    show ((a.O (rowB (tok (bat t.val t.isLt) R)) (colH (ncol (hd t.val) e)) (rowT (tok (bat t.val t.isLt) R)) (colD (ncol (hd t.val) e)) : ℝ) : EReal) = _
    rw [(row_tok _ _).1, (row_tok _ _).2, (col_narrow _ _).1, (col_narrow _ _).2]
  · have p : (win1_5.blk t).view.emb (ix2 R e) = ix2 (tok (bat t.val t.isLt) R) (ncol (hd t.val) e) := by blk_ext [places1 t, tok, ncol, bat, hd]
    show (V2 m ρ c main_v11 : FVec Ideal S4096x1024 .bf16) ((win1_5.blk t).view.emb (ix2 R e)) = _
    rw [p, kept11]
    exact grads_in ρ G _ _ _ _
  · have p : (win1_6.blk t).view.emb (ix2 R e) = ix2 (tok (bat t.val t.isLt) R) (ncol (hd t.val) e) := by blk_ext [places1 t, tok, ncol, bat, hd]
    show (V2 m ρ c main_v12_1 : FVec Ideal S4096x1024 .f32) ((win1_6.blk t).view.emb (ix2 R e)) = _
    rw [p, made1, lse_final ρ G]
    show ((logsum (a.Q (rowB (tok (bat t.val t.isLt) R)) (colH (ncol (hd t.val) e))) (a.KZ (rowB (tok (bat t.val t.isLt) R)) (colH (ncol (hd t.val) e))) (rowT (tok (bat t.val t.isLt) R)) : ℝ) : EReal) = _
    rw [(row_tok _ _).1, (row_tok _ _).2, (col_narrow _ _).1]
    rfl

/-- The gradients of the heads' queries. -/
theorem dq_final (G : Given m c a) : (dat1 (V2 m ρ) c).arrAt 7 cfg1.N =
    fun i : S4096x2048.Idx => ((dquery (a.Q (rowB (i 0)) (wideH (i 1))) (a.KZ (rowB (i 0)) (wideH (i 1))) (a.A (rowB (i 0)) (wideH (i 1)))
      (a.G (rowB (i 0)) (wideH (i 1))) (a.O (rowB (i 0)) (wideH (i 1))) (rowT (i 0)) (wideE (i 1)) : ℝ) : EReal) := by
  refine (dat1 (V2 m ρ) c).arrAt_eq_of_covers 7 _ (by decide +kernel) fun t hf y => ?_
  have ht := points' t
  blk_simp
  rw [after1_7]
  dsimp only
  obtain ⟨R, e, rfl⟩ : ∃ (R : Fin 2048) (e : Fin 256), y = ix2 R e := ⟨y 0, y 1, eq_ix2 y⟩
  have p : (win1_7.blk t).view.emb (ix2 R e) = ix2 (tok (bat t.val t.isLt) R) (col (hd t.val) e) := by blk_ext [places1 t, tok, col, bat, hd]
  rw [p, dq_block (blocks1 ρ G t)]
  show _ = ((dquery (a.Q (rowB (tok (bat t.val t.isLt) R)) (wideH (col (hd t.val) e))) (a.KZ (rowB (tok (bat t.val t.isLt) R)) (wideH (col (hd t.val) e)))
    (a.A (rowB (tok (bat t.val t.isLt) R)) (wideH (col (hd t.val) e))) (a.G (rowB (tok (bat t.val t.isLt) R)) (wideH (col (hd t.val) e)))
    (a.O (rowB (tok (bat t.val t.isLt) R)) (wideH (col (hd t.val) e))) (rowT (tok (bat t.val t.isLt) R)) (wideE (col (hd t.val) e)) : ℝ) : EReal)
  rw [(row_tok _ _).1, (row_tok _ _).2, (col_wide _ _).1, (col_wide _ _).2]
  rfl

/-- The gradients of the heads' keys and values. -/
theorem dkv_final (G : Given m c a) : (dat1 (V2 m ρ) c).arrAt 8 cfg1.N =
    fun i : S4096x2048.Idx => ((dkeyval (a.Q (rowB (i 0)) (wideH (i 1))) (a.KZ (rowB (i 0)) (wideH (i 1))) (a.A (rowB (i 0)) (wideH (i 1)))
      (a.G (rowB (i 0)) (wideH (i 1))) (a.O (rowB (i 0)) (wideH (i 1))) (rowT (i 0)) (wideE (i 1)) : ℝ) : EReal) := by
  refine (dat1 (V2 m ρ) c).arrAt_eq_of_covers 8 _ (by decide +kernel) fun t hf y => ?_
  have ht := points' t
  blk_simp
  rw [after1_8]
  dsimp only
  obtain ⟨R, e, rfl⟩ : ∃ (R : Fin 2048) (e : Fin 256), y = ix2 R e := ⟨y 0, y 1, eq_ix2 y⟩
  have p : (win1_8.blk t).view.emb (ix2 R e) = ix2 (tok (bat t.val t.isLt) R) (col (hd t.val) e) := by blk_ext [places1 t, tok, col, bat, hd]
  rw [p, dkv_block (blocks1 ρ G t)]
  show _ = ((dkeyval (a.Q (rowB (tok (bat t.val t.isLt) R)) (wideH (col (hd t.val) e))) (a.KZ (rowB (tok (bat t.val t.isLt) R)) (wideH (col (hd t.val) e)))
    (a.A (rowB (tok (bat t.val t.isLt) R)) (wideH (col (hd t.val) e))) (a.G (rowB (tok (bat t.val t.isLt) R)) (wideH (col (hd t.val) e)))
    (a.O (rowB (tok (bat t.val t.isLt) R)) (wideH (col (hd t.val) e))) (rowT (tok (bat t.val t.isLt) R)) (wideE (col (hd t.val) e)) : ℝ) : EReal)
  rw [(row_tok _ _).1, (row_tok _ _).2, (col_wide _ _).1, (col_wide _ _).2]
  rfl

/-- One head's part of the shared keys' gradient. -/
def sharePart (a : Args) (b : Fin 2) (h : Fin 8) (C : Fin 2048) (d : Fin 128) : ℝ :=
  dshared (a.Q b h) (a.KZ b h) (a.A b h) (a.G b h) (a.O b h) C d

/-- After grid point `t` the running gradient is the sum of the parts of the heads up to its own. -/
theorem dkr_running (G : Given m c a) : ∀ (t : ℕ) (ht : t < cfg1.N) (C : Fin 2048) (d : Fin 128),
    (outsAt1 (V2 m ρ) c t ht).2.2 (ix2 C d) = ((∑ h : Fin 8, if h.val ≤ t % 8 then sharePart a (bat t ht) h C d else 0 : ℝ) : EReal) := by
  intro t
  induction t with
  | zero =>
    intro ht C d
    rw [dkr_first (blocks1 ρ G ⟨0, ht⟩) (by rfl)]
    congr 1
    rw [zero_add, Fin.sum_univ_succ]
    simp only [Fin.val_succ, Nat.zero_mod]
    simp
    rfl
  | succ t ih =>
    intro ht C d
    have h16 : t + 1 < 16 := ht
    by_cases hA : (t + 1) % 8 = 0
    · rw [dkr_first (blocks1 ρ G ⟨t + 1, ht⟩) hA]
      congr 1
      rw [zero_add, Fin.sum_univ_succ, hA]
      have : hd (t + 1) = 0 := Fin.ext hA
      simp [this, sharePart, Args.KZ]
    · have e : bat (t + 1) ht = bat t (by omega) := Fin.ext (show (t + 1) / 8 = t / 8 by omega)
      rw [dkr_next (blocks1 ρ G ⟨t + 1, ht⟩) hA (f := fun C d => ∑ h : Fin 8, if h.val ≤ t % 8 then sharePart a (bat t (by omega)) h C d else 0) (ih (by omega))]
      congr 1
      have hs : ∀ h : Fin 8, (if h.val ≤ (t + 1) % 8 then sharePart a (bat (t + 1) ht) h C d else 0) =
          (if h.val ≤ t % 8 then sharePart a (bat t (by omega)) h C d else 0) + if h = hd (t + 1) then sharePart a (bat (t + 1) ht) (hd (t + 1)) C d else 0 := by
        intro h
        by_cases h1 : h = hd (t + 1)
        · subst h1
          have : ¬(hd (t + 1)).val ≤ t % 8 := by show ¬((t + 1) % 8 ≤ t % 8); omega
          rw [if_neg this, if_pos rfl, zero_add]
          exact if_pos (le_refl ((t + 1) % 8))
        · rw [if_neg h1, add_zero, e]
          have h2 : h.val ≠ (t + 1) % 8 := fun h' => h1 (Fin.ext h')
          congr 1
          apply propext
          omega
      simp only [hs]
      rw [Finset.sum_add_distrib, Finset.sum_ite_eq' Finset.univ (hd (t + 1)), if_pos (Finset.mem_univ _)]
      rfl

theorem flush_end : ∀ t : Fin cfg1.N, (cfg1.win 9).flush t = true → t.val % 8 = 7 := (by decide +kernel : ∀ t : Fin grid1.N, _)

/-- The gradient of the shared keys: the sum of the heads' parts. -/
theorem dkr_final (G : Given m c a) : (dat1 (V2 m ρ) c).arrAt 9 cfg1.N =
    fun i : S4096x128.Idx => ((∑ h : Fin 8, sharePart a (rowB (i 0)) h (rowT (i 0)) (i 1) : ℝ) : EReal) := by
  refine (dat1 (V2 m ρ) c).arrAt_eq_of_covers 9 _ (by decide +kernel) fun t hf y => ?_
  have ht := points' t
  have h7 := flush_end t hf
  blk_simp
  rw [after1_9]
  dsimp only
  obtain ⟨C, d, rfl⟩ : ∃ (C : Fin 2048) (d : Fin 128), y = ix2 C d := ⟨y 0, y 1, eq_ix2 y⟩
  have p : (win1_9.blk t).view.emb (ix2 C d) = ix2 (tok (bat t.val t.isLt) C) d := by blk_ext [places1 t, tok, bat]
  rw [p, dkr_running ρ G]
  show _ = ((∑ h : Fin 8, sharePart a (rowB (tok (bat t.val t.isLt) C)) h (rowT (tok (bat t.val t.isLt) C)) d : ℝ) : EReal)
  rw [(row_tok _ _).1, (row_tok _ _).2, h7]
  congr 1

end Cert.Attn

end
-- ==== Proof.Attn.Weights.lean ====
/- The plain program's forward arrays when the arguments are real: its scores, its weights and their sums, and the output. -/
module

public import proofs.«01_k».proof.Proof.Attn.Plain
public import proofs.«01_k».proof.Proof.Attn.Arrays

@[expose] public section

set_option maxRecDepth 16384

noncomputable section

namespace Cert.Attn

open Idealize Idealize.ShloMosaic Idealize.SL.Sem Cert.AttnReferenceIdeal Cert.AttnReferenceIdeal.Gen
open Cert.Finite
open scoped BigOperators

theorem bottom_word : Ideal.ofBits FTy.f32 0xFF800000#32 = (⊥ : EReal) := by simp [Ideal.ofBits, Ideal.ieee]
theorem scale_real : scaleP ix0 = (((Real.sqrt 192)⁻¹ : ℝ) : EReal) := by
  show Ideal.rsqrt (Ideal.ofBits FTy.f32 0x43400000#32) = _
  rw [show Ideal.ofBits FTy.f32 0x43400000#32 = ((192 : ℝ) : EReal) by simp [Ideal.ofBits, Ideal.ieee, ← EReal.coe_mul]; norm_num, Ideal.rsqrt_coe,
    if_neg (by norm_num), if_neg (by norm_num)]

theorem folded (x : Square) (b : Fin 2) (h : Fin 8) (q : Fin 2048) :
    Host.reduce FloatOps.maximumf x (constant S_ .f32 0xFF800000#32) reducesTo_S2x8x2048x2048_S2x8x2048_d3 h_S_ (ix3 b h q) =
      Finset.fold max (Ideal.ofBits FTy.f32 0xFF800000#32) (fun k => x (ix4 b h q k)) Finset.univ := by
  pointwise
theorem above_bottom (y : FVec Ideal S2x8x2048 .f32) (i : S2x8x2048.Idx) :
    maximumf (broadcastInDim S2x8x2048 ![] bcast_S_S2x8x2048 (constant S_ .f32 0xFF800000#32)) y i = max (Ideal.ofBits FTy.f32 0xFF800000#32) (y i) := rfl
theorem largest_apply (x : Square) (b : Fin 2) (h : Fin 8) (q : Fin 2048) :
    largest x (ix3 b h q) = max ⊥ (Finset.fold max ⊥ (fun k => x (ix4 b h q k)) Finset.univ) := by
  unfold largest
  rw [above_bottom, folded, bottom_word]

theorem seenP_apply (b : Fin 2) (h : Fin 8) (q k : Fin 2048) : seenP (ix4 b h q k) = if k.val ≤ q.val then 1#1 else 0#1 := by
  pointwise [seenP]
  rw [WordCmp.cmpi_sge_ofNat (by omega) (by omega)]
  split <;> simp [*]

/-- A sum over 256 places in two halves. -/
theorem two_halves (f : Fin 256 → ℝ) : ∑ e, f e = ∑ d : Fin 128, f ⟨d.val, by omega⟩ + ∑ d : Fin 128, f ⟨128 + d.val, by omega⟩ :=
  Fin.sum_univ_add (a := 128) (b := 128) f
/-- A sum over 128 places whose last 64 are zero. -/
theorem half_zero (f : Fin 128 → ℝ) (hf : ∀ d : Fin 128, 64 ≤ d.val → f d = 0) : ∑ d, f d = ∑ r : Fin 64, f ⟨r.val, by omega⟩ := by
  refine (Fin.sum_univ_add (a := 64) (b := 64) f).trans ?_
  have h0 : ∑ i : Fin 64, f (Fin.natAdd 64 i) = 0 := Finset.sum_eq_zero fun i _ => hf _ (Nat.le_add_right _ _)
  exact (congrArg _ h0).trans (add_zero _)

namespace Args
variable (a : Args) (b : Fin 2) (h : Fin 8)
/-- A score as the plain program takes it. -/
def score (q k : Fin 2048) : ℝ := ((∑ d, a.qn b q h d * a.K b h k d) + ∑ r, a.kr b k r * a.qr b q h r) * (Real.sqrt 192)⁻¹
/-- The weight of a key, its sum over the keys, and the share of a key, of one head. -/
def w (q k : Fin 2048) : ℝ := wt (a.Q b h) (a.KZ b h) q k
def n (q : Fin 2048) : ℝ := norm (a.Q b h) (a.KZ b h) q
def p (q k : Fin 2048) : ℝ := prob (a.Q b h) (a.KZ b h) q k

theorem score_sigma (q k : Fin 2048) : a.score b h q k = Real.log 2 * sigma (a.Q b h) (a.KZ b h) q k := by
  have h0 := log_two_ne
  rw [sigma, two_halves, half_zero (fun d => a.Q b h q ⟨128 + d.val, by omega⟩ * a.KZ b h k ⟨128 + d.val, by omega⟩) fun d hd => ?_]
  · have e1 : ∀ d : Fin 128, a.Q b h q ⟨d.val, by omega⟩ * a.KZ b h k ⟨d.val, by omega⟩ = a.qn b q h d * a.K b h k d := fun d => by
      unfold Q KZ beside
      rw [dif_pos d.isLt, dif_pos d.isLt]
    have e2 : ∀ r : Fin 64, a.Q b h q ⟨128 + r.val, by omega⟩ * a.KZ b h k ⟨128 + r.val, by omega⟩ = a.kr b k r * a.qr b q h r := fun r => by
      unfold Q KZ beside Z
      rw [dif_neg (by dsimp only; omega), dif_pos (by dsimp only; omega), dif_neg (by dsimp only; omega), dif_pos (by dsimp only; omega), mul_comm]
      simp only [Nat.add_sub_cancel_left]
    rw [score, Finset.sum_congr rfl fun d _ => e1 d, Finset.sum_congr rfl fun r _ => e2 r]
    field_simp
  · unfold KZ beside Z
    rw [dif_neg (by dsimp only; omega), dif_neg (by dsimp only; omega), mul_zero]
end Args

section
variable {X0 X4 : FVec Ideal S2x2048x8x128 .f32} {X1 : FVec Ideal S2x2048x8x64 .f32} {X2 : FVec Ideal S2x2048x8x256 .f32} {X3 : FVec Ideal S2x2048x64 .f32}
variable {a : Args} (H : a.Reads X0 X1 X2 X3 X4) (b : Fin 2) (h : Fin 8)

include H

theorem keys_real (k : Fin 2048) (d : Fin 128) : keysP X2 (ix4 b k h d) = (a.K b h k d : EReal) := by
  pointwise [keysP]
  exact H.h2 ..
theorem values_real (k : Fin 2048) (d : Fin 128) : valuesP X2 (ix4 b k h d) = (a.A b h k d : EReal) := by
  pointwise [valuesP]
  exact H.h2 ..

theorem scores_real (q k : Fin 2048) : scoresP X0 X1 X2 X3 (ix4 b h q k) = (a.score b h q k : EReal) := by
  pointwise [scoresP]
  rw [scale_real, sum_mul_coe (fun d => H.h0 b q h d) (keys_real H b h k), sum_mul_coe (fun r => H.h3 b k r) (fun r => H.h1 b q h r), ← EReal.coe_add, ← EReal.coe_mul]
  rfl

theorem masked_real (q k : Fin 2048) : maskedP X0 X1 X2 X3 (ix4 b h q k) = if k.val ≤ q.val then (a.score b h q k : EReal) else ⊥ := by
  pointwise [maskedP]
  rw [seenP_apply, scores_real H]
  split
  · simp [Scalar.select, *]
  · simp [Scalar.select, *]
    exact bottom_word

/-- The largest score of a query is a number: its own key is always seen. -/
theorem top_real (q : Fin 2048) : ∃ μ : ℝ, topP X0 X1 X2 X3 (ix3 b h q) = (μ : EReal) := by
  unfold topP
  rw [largest_apply]
  have e := fun k => masked_real H b h q k
  have ht : max ⊥ (Finset.fold max ⊥ (fun k => maskedP X0 X1 X2 X3 (ix4 b h q k)) Finset.univ) < ⊤ :=
    max_lt bot_lt_top (Finset.fold_max_lt _ |>.mpr ⟨bot_lt_top, fun k _ => by rw [e]; split; exacts [EReal.coe_lt_top _, bot_lt_top]⟩)
  have hb : ⊥ < max ⊥ (Finset.fold max ⊥ (fun k => maskedP X0 X1 X2 X3 (ix4 b h q k)) Finset.univ) :=
    lt_max_of_lt_right (Finset.lt_fold_max _ |>.mpr (Or.inr ⟨q, Finset.mem_univ q, by rw [e, if_pos le_rfl]; exact EReal.bot_lt_coe _⟩))
  exact ⟨_, (EReal.coe_toReal ht.ne hb.ne').symm⟩

/-- The exponentials are the weights, all multiplied by one positive number. -/
theorem exps_real (q : Fin 2048) : ∃ s : ℝ, 0 < s ∧ (∀ k, expsP X0 X1 X2 X3 (ix4 b h q k) = ((a.w b h q k * s : ℝ) : EReal)) ∧
    normsP X0 X1 X2 X3 (ix4 b h q 0) = ((a.n b h q * s : ℝ) : EReal) := by
  obtain ⟨μ, hμ⟩ := top_real H b h q
  have key : ∀ k, expsP X0 X1 X2 X3 (ix4 b h q k) = ((a.w b h q k * Real.exp (-μ) : ℝ) : EReal) := fun k => by
    pointwise [expsP]
    rw [hμ, masked_real H, Args.w, wt, weight]
    split
    · rw [← EReal.coe_sub, Ideal.exp_coe, two_eq_exp, ← Args.score_sigma, ← Real.exp_add, sub_eq_add_neg]
    · rw [zero_mul]
      exact Ideal.exp_bot
  refine ⟨Real.exp (-μ), Real.exp_pos _, key, ?_⟩
  pointwise [normsP]
  rw [Args.n, norm, Finset.sum_mul, coe_sum]
  exact Finset.sum_congr rfl fun k _ => key k

theorem probs_real (q k : Fin 2048) : probsP X0 X1 X2 X3 (ix4 b h q k) = (a.p b h q k : EReal) := by
  obtain ⟨s, hs, h1, h2⟩ := exps_real H b h q
  have h0 : a.n b h q ≠ 0 := (norm_pos _ _ q).ne'
  pointwise [probsP, along]
  rw [h1, h2, Ideal.div_coe (mul_ne_zero h0 hs.ne'), ← EReal.coe_mul]
  congr 1
  rw [Args.p, prob]
  show a.w b h q k * s * (1 / (a.n b h q * s)) = a.w b h q k / a.n b h q
  field_simp

theorem outs_real (q : Fin 2048) (d : Fin 128) : outsP X0 X1 X2 X3 (ix4 b q h d) = (a.O b h q d : EReal) := by
  pointwise [outsP]
  rw [sum_mul_coe (fun k => values_real H b h k d) (fun k => probs_real H b h q k)]
  congr 1
  rw [Args.O, mean, Finset.sum_div]
  refine Finset.sum_congr rfl fun k _ => ?_
  rw [Args.p, prob]
  ring
end

end Cert.Attn

end
-- ==== Proof.Attn.Gradients.lean ====
/- The plain program's gradients when the arguments are real: the same reals as the kernel's. -/
module

public import proofs.«01_k».proof.Proof.Attn.Weights

@[expose] public section

set_option maxRecDepth 16384

noncomputable section

namespace Cert.Attn

open Idealize Idealize.ShloMosaic Idealize.SL.Sem Cert.AttnReferenceIdeal Cert.AttnReferenceIdeal.Gen
open Cert.Finite
open scoped BigOperators

namespace Args
variable (a : Args) (b : Fin 2) (h : Fin 8)
/-- The gradient of the share of a key. -/
def dp (q k : Fin 2048) : ℝ := ∑ d, a.G b h q d * a.A b h k d
/-- The gradient of a score before its scale, of one head. -/
def ds (q k : Fin 2048) : ℝ := dscore (a.Q b h) (a.KZ b h) (a.A b h) (a.G b h) (a.O b h) q k

/-- The gradients of the shares, averaged, are the output under its own gradient. -/
theorem dp_mean (q : Fin 2048) : ∑ k, a.dp b h q k * a.p b h q k = ∑ d, a.G b h q d * a.O b h q d := by
  have e : ∀ d, a.G b h q d * a.O b h q d = ∑ k, a.G b h q d * a.A b h k d * a.p b h q k := fun d => by
    rw [O, mean, Finset.sum_div, Finset.mul_sum]
    refine Finset.sum_congr rfl fun k _ => ?_
    rw [p, prob]
    ring
  rw [Finset.sum_congr rfl fun d _ => e d, Finset.sum_comm]
  exact Finset.sum_congr rfl fun k _ => Finset.sum_mul ..

/-- The gradient of a score as the plain program takes it. -/
theorem ds_plain (q k : Fin 2048) {s : ℝ} (hs : 0 < s) :
    (a.dp b h q k * (1 / (a.n b h q * s)) + -∑ k, a.dp b h q k * (1 / (a.n b h q * s * (a.n b h q * s))) * (a.w b h q k * s)) * (a.w b h q k * s) * (Real.sqrt 192)⁻¹ = a.ds b h q k := by
  have h0 : a.n b h q ≠ 0 := (norm_pos _ _ q).ne'
  have e : ∑ k, a.dp b h q k * (1 / (a.n b h q * s * (a.n b h q * s))) * (a.w b h q k * s) = (∑ k, a.dp b h q k * a.p b h q k) * (1 / (a.n b h q * s)) := by
    rw [Finset.sum_mul]
    refine Finset.sum_congr rfl fun k _ => ?_
    show _ = a.dp b h q k * (a.w b h q k / a.n b h q) * _
    field_simp
  rw [e, dp_mean, ds, dscore]
  show _ = a.w b h q k / a.n b h q * (a.dp b h q k - _) * _
  field_simp
  ring
end Args

section
variable {X0 X4 : FVec Ideal S2x2048x8x128 .f32} {X1 : FVec Ideal S2x2048x8x64 .f32} {X2 : FVec Ideal S2x2048x8x256 .f32} {X3 : FVec Ideal S2x2048x64 .f32}
variable {a : Args} (H : a.Reads X0 X1 X2 X3 X4) (b : Fin 2) (h : Fin 8)

include H

theorem dprobs_real (q k : Fin 2048) : dprobsP X4 X2 (ix4 b h q k) = (a.dp b h q k : EReal) := by
  pointwise [dprobsP, gradsP]
  exact sum_mul_coe (fun d => H.h4 b q h d) (fun d => values_real H b h k d)

theorem dvalues_real (k : Fin 2048) (d : Fin 128) : dvaluesP X0 X4 X1 X2 X3 (ix4 b k h d) = ((∑ q, a.p b h q k * a.G b h q d : ℝ) : EReal) := by
  pointwise [dvaluesP, gradsP]
  rw [sum_mul_coe (fun q => H.h4 b q h d) (fun q => probs_real H b h q k)]
  congr 1
  exact Finset.sum_congr rfl fun q _ => mul_comm _ _

theorem dscores_real (q k : Fin 2048) : dscoresP X0 X4 X1 X2 X3 (ix4 b h q k) = (a.ds b h q k : EReal) := by
  obtain ⟨s, hs, h1, h2⟩ := exps_real H b h q
  have h0 : a.n b h q ≠ 0 := (norm_pos _ _ q).ne'
  have hN := mul_ne_zero h0 hs.ne'
  have hd : dnormsP X0 X4 X1 X2 X3 (ix3 b h q) =
      ((-∑ k, a.dp b h q k * (1 / (a.n b h q * s * (a.n b h q * s))) * (a.w b h q k * s) : ℝ) : EReal) := by
    pointwise [dnormsP, along]
    rw [Finset.univ_unique, Finset.sum_singleton, h2, ← EReal.coe_mul, Ideal.div_coe (mul_ne_zero hN hN), one_mul, EReal.coe_neg]
    congr 1
    exact sum_mul_coe (fun k => by rw [dprobs_real H, ← EReal.coe_mul]) h1
  pointwise [dscoresP, along]
  rw [seenP_apply]
  split
  · show (_ : EReal) = _
    refine (if_pos rfl).trans ?_
    rw [h1, h2, hd, dprobs_real H, Ideal.div_coe hN, scale_real, ← EReal.coe_mul, ← EReal.coe_add, ← EReal.coe_mul, ← EReal.coe_mul, Args.ds_plain _ _ _ _ _ hs]
  · rename_i hn
    rw [Args.ds, dscore_not _ _ _ _ _ hn]
    rfl

theorem dplaced_real (q : Fin 2048) (r : Fin 64) : dplacedP X0 X4 X1 X2 X3 (ix4 b q h r) = ((∑ k, a.ds b h q k * a.kr b k r : ℝ) : EReal) := by
  pointwise [dplacedP, turnedP]
  exact sum_mul_coe (fun k => dscores_real H b h q k) (fun k => H.h3 b k r)
theorem dshared_real (k : Fin 2048) (r : Fin 64) : dsharedP X0 X4 X1 X2 X3 (ix3 b k r) = ((∑ h, ∑ q, a.ds b h q k * a.qr b q h r : ℝ) : EReal) := by
  pointwise [dsharedP, turnedP]
  rw [Finset.sum_comm, coe_sum]
  exact Finset.sum_congr rfl fun h _ => sum_mul_coe (fun q => dscores_real H b h q k) (fun q => H.h1 b q h r)
theorem dkeys_real (k : Fin 2048) (d : Fin 128) : dkeysP X0 X4 X1 X2 X3 (ix4 b k h d) = ((∑ q, a.ds b h q k * a.qn b q h d : ℝ) : EReal) := by
  pointwise [dkeysP]
  exact sum_mul_coe (fun q => dscores_real H b h q k) (fun q => H.h0 b q h d)
theorem dqueries_real (q : Fin 2048) (d : Fin 128) : dqueriesP X0 X4 X1 X2 X3 (ix4 b q h d) = ((∑ k, a.ds b h q k * a.K b h k d : ℝ) : EReal) := by
  pointwise [dqueriesP]
  exact sum_mul_coe (fun k => dscores_real H b h q k) (fun k => keys_real H b h k d)

/-- The gradient of the queries, filled up with zeros. -/
theorem dq_plain (q : Fin 2048) (e : Fin 256) :
    dqP X0 X4 X1 X2 X3 (ix4 b q h e) = (dquery (a.Q b h) (a.KZ b h) (a.A b h) (a.G b h) (a.O b h) q e : EReal) := by
  pointwise [dqP]
  rw [dquery]
  unfold Args.KZ beside Args.Z
  split
  · exact dqueries_real H b h q _
  · split
    · exact dplaced_real H b h q _
    · simp

/-- The gradient of the keys and of the values. -/
theorem dkv_plain (k : Fin 2048) (e : Fin 256) :
    dkvP X0 X4 X1 X2 X3 (ix4 b k h e) = (dkeyval (a.Q b h) (a.KZ b h) (a.A b h) (a.G b h) (a.O b h) k e : EReal) := by
  pointwise [dkvP]
  rw [dkeyval]
  by_cases he : e.val < 128
  · rw [dif_neg (by omega), dif_pos he, if_pos he, zero_add, dkeys_real H]
    congr 1
    refine Finset.sum_congr rfl fun q _ => ?_
    unfold Args.Q
    rw [dif_pos he]
    rfl
  · rw [dif_pos (by omega), dif_neg he, if_neg he, add_zero, dvalues_real H]
    rfl

/-- The gradient of the shared keys, filled up with zeros. -/
theorem dkr_plain (k : Fin 2048) (d : Fin 128) : dkrP X0 X4 X1 X2 X3 (ix3 b k d) = ((∑ h, sharePart a b h k d : ℝ) : EReal) := by
  pointwise [dkrP]
  unfold sharePart dshared Args.Q
  split
  · rename_i hd
    rw [dshared_real H]
    congr 1
    refine Finset.sum_congr rfl fun h _ => Finset.sum_congr rfl fun q _ => ?_
    rw [dif_neg (by dsimp only; omega), dif_pos (by dsimp only; omega)]
    simp only [Nat.add_sub_cancel_left]
    rfl
  · rename_i hd
    rw [Finset.sum_eq_zero fun h _ => Finset.sum_eq_zero fun q _ => ?_]
    · rfl
    · rw [dif_neg (by dsimp only; omega), dif_neg (by dsimp only; omega), mul_zero]
end

end Cert.Attn

end
-- ==== Proof.Attn.Run.lean ====
/- A run of the attention program leaves the arrays that the two kernels write, and the arguments. -/
module

public import proofs.«01_k».proof.Proof.Gen.AttnKernelIdeal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnKernelIdeal Cert.AttnKernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer of the host ends as the fold of the program's steps leaves it. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨H, -, O, -, P, -⟩, -⟩
      imodintro
      isplitl [H]
      · iexact H
      · isplitl [P]
        · iexists _; iexact P
        · iexists ∅; iexact O)
    (QY := fun c s => ∀ b ∈ Pipeline.ucRefs τ sig, s.mem (((c : Thread nD τ)).1, b) = W3 m ρ c b)
    (hfin := fun c s => by
      iintro ⟨⟨H, -⟩, S⟩
      unfold StableHlo.held
      imodintro
      iapply (pointsTo_read_all (Pipeline.ucRefs τ sig) (fun b => (((c : Thread nD τ)).1, b)) (W3 m ρ c) s)
      isplitl [H] <;> iassumption)
    (hQ := fun _ h _ => h)

/-- The four results and the five arguments at the end. -/
theorem run_arrays : θ_run defs (onTc (τ := τ) (main (F := Ideal))) ⟨m, fun _ => 0, ρ⟩ (fun r => ∀ c : Dev nD,
      r.2.mem ((c.tc : Thread nD τ).loc main_v12_0) = (dat0 (V1 m ρ) c).arrAt 4 cfg0.N
      ∧ r.2.mem ((c.tc : Thread nD τ).loc main_v13_0) = (dat1 (V2 m ρ) c).arrAt 7 cfg1.N
      ∧ r.2.mem ((c.tc : Thread nD τ).loc main_v13_1) = (dat1 (V2 m ρ) c).arrAt 8 cfg1.N
      ∧ r.2.mem ((c.tc : Thread nD τ).loc main_v13_2) = (dat1 (V2 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v12_0 (by decide))).trans ((W3_of m ρ c main_v12_0 (by decide +kernel)).trans (W2_arr m ρ c 4)),
      (h c _ (mem_uc main_v13_0 (by decide))).trans (W3_arr m ρ c 7),
      (h c _ (mem_uc main_v13_1 (by decide))).trans (W3_arr m ρ c 8),
      (h c _ (mem_uc main_v13_2 (by decide))).trans (W3_arr m ρ c 9),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c)⟩) (run_all m ρ)

end Cert.Attn

end
-- ==== Proof.Attn.Final.lean ====
/- The plain program's four results are the kernels' four arrays. -/
module

public import proofs.«01_k».proof.Proof.Attn.Gradients
public import proofs.«01_k».proof.Proof.Attn.Run
public import proofs.«01_k».proof.Proof.Pool.Final
public import proofs.«01_k».proof.Pre_attn_finite

@[expose] public section

set_option maxRecDepth 16384

noncomputable section

namespace Cert.Attn

open Idealize Idealize.ShloMosaic Idealize.SL.Sem Cert.AttnReferenceIdeal Cert.AttnReferenceIdeal.Gen
open Cert.Finite
open scoped BigOperators

/-- The side conditions of the precondition's operations. -/
instance finiteFacts : Cert.Pre_attn_finite.Facts where
  bcast_S_S2x2048x8x128 := by decide
  reducesTo_S2x2048x8x128_S_d0_1_2_3 := by decide
  h_S_ := by decide
  bcast_S_S2x2048x8x64 := by decide
  reducesTo_S2x2048x8x64_S_d0_1_2_3 := by decide
  bcast_S_S2x2048x8x256 := by decide
  reducesTo_S2x2048x8x256_S_d0_1_2_3 := by decide
  bcast_S_S2x2048x64 := by decide
  reducesTo_S2x2048x64_S_d0_1_2 := by decide

section
variable {X0 X4 : FVec Ideal S2x2048x8x128 .f32} {X1 : FVec Ideal S2x2048x8x64 .f32} {X2 : FVec Ideal S2x2048x8x256 .f32} {X3 : FVec Ideal S2x2048x64 .f32}

/-- Under the precondition the arguments are reals. -/
theorem args_real [Cert.Pre_attn_finite.Facts] (h : Cert.Pre_attn_finite.fn (F := Ideal) X0 X1 X2 X3 X4 = fun _ => 1#1) : ∃ a : Args, a.Reads X0 X1 X2 X3 X4 := by
  have e := congrFun h ix0
  obtain ⟨e, e4⟩ := andi_ones e
  obtain ⟨e, e3⟩ := andi_ones e
  obtain ⟨e, e2⟩ := andi_ones e
  obtain ⟨e0, e1⟩ := andi_ones e
  obtain ⟨x0, h0⟩ := Classical.axiomOfChoice (allReal_of_reduce X0 _ (infinity_apply _) _ _ _ e0)
  obtain ⟨x1, h1⟩ := Classical.axiomOfChoice (allReal_of_reduce X1 _ (infinity_apply _) _ _ _ e1)
  obtain ⟨x2, h2⟩ := Classical.axiomOfChoice (allReal_of_reduce X2 _ (infinity_apply _) _ _ _ e2)
  obtain ⟨x3, h3⟩ := Classical.axiomOfChoice (allReal_of_reduce X3 _ (infinity_apply _) _ _ _ e3)
  obtain ⟨x4, h4⟩ := Classical.axiomOfChoice (allReal_of_reduce X4 _ (infinity_apply _) _ _ _ e4)
  exact ⟨⟨fun b s h d => x0 (ix4 b s h d), fun b s h d => x1 (ix4 b s h d), fun b s h d => x2 (ix4 b s h d), fun b s d => x3 (ix3 b s d), fun b s h d => x4 (ix4 b s h d)⟩,
    ⟨fun _ _ _ _ => h0 _, fun _ _ _ _ => h1 _, fun _ _ _ _ => h2 _, fun _ _ _ => h3 _, fun _ _ _ _ => h4 _⟩⟩

theorem row_split (r : Fin 4096) : r = tok (rowB r) (rowT r) := Fin.ext (show r.val = r.val / 2048 * 2048 + r.val % 2048 by omega)
theorem narrow_split (k : Fin 1024) : k = ncol (colH k) (colD k) := Fin.ext (show k.val = k.val / 128 * 128 + k.val % 128 by omega)
theorem wide_split (k : Fin 2048) : k = col (wideH k) (wideE k) := Fin.ext (show k.val = k.val / 256 * 256 + k.val % 256 by omega)

variable {a : Args} (H : a.Reads X0 X1 X2 X3 X4)
include H

theorem outs_result : (truncf .bf16 (shapeCast S4096x1024 (outsP X0 X1 X2 X3) shapeCasts_S2x2048x8x128_S4096x1024) bitsLt_bf16_f32 : FVec Ideal S4096x1024 .bf16) =
    fun i : S4096x1024.Idx => ((a.O (rowB (i 0)) (colH (i 1)) (rowT (i 0)) (colD (i 1)) : ℝ) : EReal) := by
  funext i
  obtain ⟨r, k, rfl⟩ : ∃ (r : Fin 4096) (k : Fin 1024), i = ix2 r k := ⟨i 0, i 1, Idealize.ShloMosaic.eq_ix2 i⟩
  show shapeCast S4096x1024 (outsP X0 X1 X2 X3) shapeCasts_S2x2048x8x128_S4096x1024 (ix2 r k) = ((a.O (rowB r) (colH k) (rowT r) (colD k) : ℝ) : EReal)
  conv_lhs => rw [row_split r, narrow_split k]
  exact (narrow_apply _ _ _ _ _).trans (outs_real H ..)

theorem dq_result : (truncf .bf16 (shapeCast S4096x2048 (dqP X0 X4 X1 X2 X3) shapeCasts_S2x2048x8x256_S4096x2048) bitsLt_bf16_f32 : FVec Ideal S4096x2048 .bf16) =
    fun i : S4096x2048.Idx => ((dquery (a.Q (rowB (i 0)) (wideH (i 1))) (a.KZ (rowB (i 0)) (wideH (i 1))) (a.A (rowB (i 0)) (wideH (i 1)))
      (a.G (rowB (i 0)) (wideH (i 1))) (a.O (rowB (i 0)) (wideH (i 1))) (rowT (i 0)) (wideE (i 1)) : ℝ) : EReal) := by
  funext i
  obtain ⟨r, k, rfl⟩ : ∃ (r : Fin 4096) (k : Fin 2048), i = ix2 r k := ⟨i 0, i 1, Idealize.ShloMosaic.eq_ix2 i⟩
  show shapeCast S4096x2048 (dqP X0 X4 X1 X2 X3) shapeCasts_S2x2048x8x256_S4096x2048 (ix2 r k) =
    ((dquery (a.Q (rowB r) (wideH k)) (a.KZ (rowB r) (wideH k)) (a.A (rowB r) (wideH k)) (a.G (rowB r) (wideH k)) (a.O (rowB r) (wideH k)) (rowT r) (wideE k) : ℝ) : EReal)
  conv_lhs => rw [row_split r, wide_split k]
  exact (heads_apply _ _ _ _ _).trans (dq_plain H ..)

theorem dkv_result : (truncf .bf16 (shapeCast S4096x2048 (dkvP X0 X4 X1 X2 X3) shapeCasts_S2x2048x8x256_S4096x2048) bitsLt_bf16_f32 : FVec Ideal S4096x2048 .bf16) =
    fun i : S4096x2048.Idx => ((dkeyval (a.Q (rowB (i 0)) (wideH (i 1))) (a.KZ (rowB (i 0)) (wideH (i 1))) (a.A (rowB (i 0)) (wideH (i 1)))
      (a.G (rowB (i 0)) (wideH (i 1))) (a.O (rowB (i 0)) (wideH (i 1))) (rowT (i 0)) (wideE (i 1)) : ℝ) : EReal) := by
  funext i
  obtain ⟨r, k, rfl⟩ : ∃ (r : Fin 4096) (k : Fin 2048), i = ix2 r k := ⟨i 0, i 1, Idealize.ShloMosaic.eq_ix2 i⟩
  show shapeCast S4096x2048 (dkvP X0 X4 X1 X2 X3) shapeCasts_S2x2048x8x256_S4096x2048 (ix2 r k) =
    ((dkeyval (a.Q (rowB r) (wideH k)) (a.KZ (rowB r) (wideH k)) (a.A (rowB r) (wideH k)) (a.G (rowB r) (wideH k)) (a.O (rowB r) (wideH k)) (rowT r) (wideE k) : ℝ) : EReal)
  conv_lhs => rw [row_split r, wide_split k]
  exact (heads_apply _ _ _ _ _).trans (dkv_plain H ..)

theorem dkr_result : (shapeCast S4096x128 (dkrP X0 X4 X1 X2 X3) shapeCasts_S2x2048x128_S4096x128 : FVec Ideal S4096x128 .f32) =
    fun i : S4096x128.Idx => ((∑ h : Fin 8, sharePart a (rowB (i 0)) h (rowT (i 0)) (i 1) : ℝ) : EReal) := by
  funext i
  obtain ⟨r, k, rfl⟩ : ∃ (r : Fin 4096) (k : Fin 128), i = ix2 r k := ⟨i 0, i 1, Idealize.ShloMosaic.eq_ix2 i⟩
  show shapeCast S4096x128 (dkrP X0 X4 X1 X2 X3) shapeCasts_S2x2048x128_S4096x128 (ix2 r k) = ((∑ h : Fin 8, sharePart a (rowB r) h (rowT r) k : ℝ) : EReal)
  conv_lhs => rw [row_split r]
  exact (shared_apply _ _ _ _).trans (dkr_plain H ..)
end

end Cert.Attn

end
-- ==== Proof.Loss.Block.lean ====
/- What one block of rows gives: the gradient of its rows, and its parts of the gain's gradient and of the loss. -/
module

public import proofs.«01_k».proof.Proof.Norm
public import proofs.«01_k».proof.Proof.Layout
public import proofs.«01_k».proof.Proof.Gen.LossKernelIdeal.Value
public import Idealize.ShloMosaic.Lib.Pointwise

@[expose] public section

set_option maxRecDepth 16384

noncomputable section

namespace Cert.Loss

open Idealize Idealize.ShloMosaic Idealize.SL.Sem Cert.LossKernelIdeal Cert.LossKernelIdeal.Gen Cert.Norm Cert.Layout
open scoped BigOperators

section
variable (x g t : Fin 1024 → EReal)

/-- The error of a row: the row scaled and weighted by the gain, less its target. -/
def err (d : Fin 1024) : EReal := scaled x d * g d - t d
/-- The gradient of the error's half mean square. -/
def slope (d : Fin 1024) : EReal := err x g t d * invLen 1024
/-- The gradient of the row. -/
def drow : Fin 1024 → EReal := pull x fun e => slope x g t e * g e
/-- The row's part of the gain's gradient. -/
def dgain (d : Fin 1024) : EReal := slope x g t d * scaled x d
/-- The row's sum of squared errors. -/
def squares : EReal := ∑ d, err x g t d * err x g t d
end

theorem width_inverse_word : Ideal.ofBits .f32 0x3A800000#32 = invLen 1024 := by
  simp [Ideal.ofBits, Ideal.ieee, ← EReal.coe_mul, invLen]
  norm_num
theorem half_width_inverse_word : Ideal.ofBits .f32 0x3A000000#32 = ((1 / 2048 : ℝ) : EReal) := by
  simp [Ideal.ofBits, Ideal.ieee, ← EReal.coe_mul]
  norm_num

variable (X T : FVec Ideal S512x1024 .f32) (G : FVec Ideal S1x1024 .f32)

theorem factor_block (r : Fin 512) : k0_pay6 (F := Ideal) X (ix2 r 0) = factor (line X r) := by
  pointwise [k0_pay6, k0_pay4]
  rw [div_width]
  rfl

theorem scaled_block (r : Fin 512) (d : Fin 1024) : k0_pay7 (F := Ideal) X (ix2 r d) = scaled (line X r) d := by
  pointwise [k0_pay7, k0_pay4]
  rw [factor_block]
  rfl

theorem err_block (r : Fin 512) (d : Fin 1024) : k0_pay8 (F := Ideal) X G T (ix2 r d) = err (line X r) (only G) (line T r) d := by
  pointwise [k0_pay8, k0_pay5]
  rw [scaled_block]
  rfl

theorem slope_block (r : Fin 512) (d : Fin 1024) : k0_pay9 (F := Ideal) X G T (ix2 r d) = slope (line X r) (only G) (line T r) d := by
  pointwise [k0_pay9]
  rw [err_block, width_inverse_word]
  rfl

theorem drow_block (r : Fin 512) (d : Fin 1024) : k0_pay10 (F := Ideal) X G T (ix2 r d) = drow (line X r) (only G) (line T r) d := by
  pointwise [k0_pay10, k0_pay5]
  simp only [factor_block, slope_block, scaled_block, div_width]
  rfl

theorem dgain_block (d : Fin 1024) : k0_pay11 (F := Ideal) X G T (ix2 0 d) = ∑ r, dgain (line X r) (only G) (line T r) d := by
  pointwise [k0_pay11]
  simp only [slope_block, scaled_block]
  rfl

/-- A row's part of the loss. -/
def lossPart (x g t : Fin 1024 → EReal) : EReal := ((1 / 2048 : ℝ) : EReal) * squares x g t

theorem loss_block (k : Fin 128) : k0_pay1 (F := Ideal) k0_pay12 (k0_pay13 X G T) (ix2 0 k) = ∑ r, lossPart (line X r) (only G) (line T r) := by
  pointwise [k0_pay1, k0_pay12, k0_pay13]
  simp only [err_block]
  rw [half_width_inverse_word, mul_sum_real _ (by norm_num)]
  rfl

theorem next_gain (p : FVec Ideal S1x1024 .f32) (q : Vec Ideal S1x1024 .f32) (d : Fin 1024) : k0_pay2 p q (ix2 0 d) = q (ix2 0 d) + p (ix2 0 d) := by
  pointwise [k0_pay2]
theorem next_loss (a : FVec Ideal S1x128 .f32) (b : FVec Ideal S1 .f32) (q : Vec Ideal S1x128 .f32) (k : Fin 128) :
    k0_pay3 a b q (ix2 0 k) = q (ix2 0 k) + k0_pay1 a b (ix2 0 k) := by
  pointwise [k0_pay3]

end Cert.Loss

end
-- ==== Proof.Loss.Arrays.lean ====
/- The three result arrays after the run: each block's gradient in its place, the blocks' parts of the gain's gradient and of the loss added up. -/
module

public import proofs.«01_k».proof.Proof.Loss.Block
public import Idealize.ShloMosaic.Lib.Claim
public import Idealize.ShloMosaic.Lib.Pipeline.ValueKit

@[expose] public section

set_option maxRecDepth 16384

noncomputable section

namespace Cert.Loss

open Idealize Idealize.ShloMosaic Idealize.SL.Sem Cert.LossKernelIdeal Cert.LossKernelIdeal.Gen Cert.Norm Cert.Rows Cert.Layout
open scoped BigOperators

variable (m : (ℓ : Loc nD τ sig) → Buf (Elt Ideal) ℓ) (c : Dev nD)

/-- The rows the program is launched with. -/
abbrev argX : FVec Ideal S2x2048x1024 .f32 := m ((c.tc : Thread nD τ).loc main_arg0)
/-- The gain. -/
abbrev argG : FVec Ideal S1024 .f32 := m ((c.tc : Thread nD τ).loc main_arg1)
/-- The target's rows. -/
abbrev argT : FVec Ideal S2x2048x1024 .f32 := m ((c.tc : Thread nD τ).loc main_arg2)

/-- Where each window's block lies at grid point `t`. -/
theorem places_of_blocks : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![0, 0] :=
  (by decide +kernel : ∀ t : Fin grid0.N, _)

/-- Row `r` of the block at point `t`. -/
abbrev blockRow (t : Fin cfg0.N) (r : Fin 512) : Fin 4096 := rowOf (m := 8) (n := 512) rfl ⟨t.val, t.isLt⟩ r

theorem rows_block (t : Fin cfg0.N) (r : Fin 512) : line (iblk m c 0 t) r = rowAt (argX m c) (blockRow t r) := by
  funext d
  have e : (win0_0.blk t).view.emb (ix2 r d) = ix2 (blockRow t r) d := by blk_ext [places_of_blocks t]
  show V m c main_v0 ((win0_0.blk t).view.emb (ix2 r d)) = _
  rw [e]
  entry_read
  exact stacked_apply _ _ _ _

theorem gain_block (t : Fin cfg0.N) : only (iblk m c 1 t) = gainRow (argG m c) := by
  funext d
  have e : (win0_1.blk t).view.emb (ix2 0 d) = ix2 0 d := by blk_ext [places_of_blocks t]
  show V m c main_v2 ((win0_1.blk t).view.emb (ix2 0 d)) = _
  rw [e]
  entry_read
  exact row_apply _ _ _

theorem target_block (t : Fin cfg0.N) (r : Fin 512) : line (iblk m c 2 t) r = rowAt (argT m c) (blockRow t r) := by
  funext d
  have e : (win0_2.blk t).view.emb (ix2 r d) = ix2 (blockRow t r) d := by blk_ext [places_of_blocks t]
  show V m c main_v1 ((win0_2.blk t).view.emb (ix2 r d)) = _
  rw [e]
  entry_read
  exact stacked_apply _ _ _ _

/-- The gradient of row `r`. -/
def drowAt (X T : FVec Ideal S2x2048x1024 .f32) (G : FVec Ideal S1024 .f32) (r : Fin 4096) : Fin 1024 → EReal := drow (rowAt X r) (gainRow G) (rowAt T r)
/-- Row `r`'s part of the gain's gradient. -/
def dgainAt (X T : FVec Ideal S2x2048x1024 .f32) (G : FVec Ideal S1024 .f32) (d : Fin 1024) (r : Fin 4096) : EReal := dgain (rowAt X r) (gainRow G) (rowAt T r) d
/-- Row `r`'s part of the loss. -/
def lossAt (X T : FVec Ideal S2x2048x1024 .f32) (G : FVec Ideal S1024 .f32) (r : Fin 4096) : EReal := lossPart (rowAt X r) (gainRow G) (rowAt T r)

theorem drow_read (t : Fin cfg0.N) (r : Fin 512) (d : Fin 1024) :
    k0_pay10 (F := Ideal) (iblk m c 0 t) (iblk m c 1 t) (iblk m c 2 t) (ix2 r d) = drowAt (argX m c) (argT m c) (argG m c) (blockRow t r) d := by
  refine (drow_block ..).trans ?_
  rw [rows_block, gain_block, target_block]
  rfl

theorem dgain_read (t : Fin cfg0.N) (d : Fin 1024) :
    k0_pay11 (F := Ideal) (iblk m c 0 t) (iblk m c 1 t) (iblk m c 2 t) (ix2 0 d) = tile 512 (dgainAt (argX m c) (argT m c) (argG m c) d) t.val := by
  refine (dgain_block ..).trans (Eq.trans ?_ (tile_eq (m := 8) rfl _ ⟨t.val, t.isLt⟩).symm)
  exact Finset.sum_congr rfl fun r _ => by rw [rows_block, gain_block, target_block]; rfl

theorem loss_read (t : Fin cfg0.N) (k : Fin 128) :
    k0_pay1 (F := Ideal) k0_pay12 (k0_pay13 (iblk m c 0 t) (iblk m c 1 t) (iblk m c 2 t)) (ix2 0 k) = tile 512 (lossAt (argX m c) (argT m c) (argG m c)) t.val := by
  refine (loss_block ..).trans (Eq.trans ?_ (tile_eq (m := 8) rfl _ ⟨t.val, t.isLt⟩).symm)
  exact Finset.sum_congr rfl fun r _ => by rw [rows_block, gain_block, target_block]; rfl

theorem drow_point (t : Fin cfg0.N) (i : S512x1024.Idx) :
    (outsAt0 m c t.val t.isLt).1 i = drowAt (argX m c) (argT m c) (argG m c) (blockRow t (i 0)) (i 1) := by
  obtain ⟨r, d, rfl⟩ : ∃ (r : Fin 512) (d : Fin 1024), i = ix2 r d := ⟨i 0, i 1, Idealize.ShloMosaic.eq_ix2 i⟩
  by_cases h : t.val % 8 = 0
  · rw [outsAt0_A m c t h (by have : t.val < 8 := t.isLt; omega)]
    frame_out
    exact drow_read m c t r d
  · rw [outsAt0_B m c t h (by omega)]
    frame_out
    exact drow_read m c t r d

theorem gain_point (d : Fin 1024) (n : ℕ) (hn : n < cfg0.N) :
    (outsAt0 m c n hn).2.1 (ix2 0 d) = ∑ t ∈ Finset.range (n + 1), tile 512 (dgainAt (argX m c) (argT m c) (argG m c) d) t := by
  refine grown (A := fun n hn => (outsAt0 m c n hn).2.1 (ix2 0 d)) (fun h => ?_) (fun n h => ?_) n hn
  · show _ = _
    rw [outsAt0_A m c ⟨0, h⟩ rfl (Nat.not_succ_le_zero 0)]
    frame_out
    exact dgain_read m c ⟨0, h⟩ d
  · have hn : n + 1 < 8 := h
    show _ = _
    rw [outsAt0_B m c ⟨n + 1, h⟩ (by show ¬(n + 1) % 8 = 0; omega) (Nat.le_add_left 1 n)]
    frame_out
    refine (next_gain _ _ d).trans ?_
    rw [dgain_read]
    rfl

theorem loss_point (k : Fin 128) (n : ℕ) (hn : n < cfg0.N) :
    (outsAt0 m c n hn).2.2 (ix2 0 k) = ∑ t ∈ Finset.range (n + 1), tile 512 (lossAt (argX m c) (argT m c) (argG m c)) t := by
  refine grown (A := fun n hn => (outsAt0 m c n hn).2.2 (ix2 0 k)) (fun h => ?_) (fun n h => ?_) n hn
  · show _ = _
    rw [outsAt0_A m c ⟨0, h⟩ rfl (Nat.not_succ_le_zero 0)]
    frame_out
    exact loss_read m c ⟨0, h⟩ k
  · have hn : n + 1 < 8 := h
    show _ = _
    rw [outsAt0_B m c ⟨n + 1, h⟩ (by show ¬(n + 1) % 8 = 0; omega) (Nat.le_add_left 1 n)]
    frame_out
    refine (next_loss _ _ _ k).trans ?_
    rw [loss_read]
    rfl

/-- The two accumulated windows are written back at the last point only. -/
theorem flush_last : ∀ t : Fin cfg0.N, ((cfg0.win 4).flush t = true → t.val = 7) ∧ ((cfg0.win 5).flush t = true → t.val = 7) :=
  (by decide +kernel : ∀ t : Fin grid0.N, _)

theorem drow_final : (dats m 0 c).arrAt 3 cfg0.N = fun i : S4096x1024.Idx => drowAt (argX m c) (argT m c) (argG m c) (i 0) (i 1) := by
  refine (dats m 0 c).arrAt_eq_of_covers 3 _ (by decide +kernel) fun t hf y => ?_
  blk_simp
  rw [after0_3]
  dsimp only
  rw [drow_point m c t]
  have e0 : (win0_3.blk t).view.emb y 0 = blockRow t (y 0) := by
    apply Fin.ext
    blk_simp [places_of_blocks t]
    try rfl
  have e1 : (win0_3.blk t).view.emb y 1 = y 1 := by
    apply Fin.ext
    blk_simp [places_of_blocks t]
  rw [e0, e1]

theorem gain_final : (dats m 0 c).arrAt 4 cfg0.N = fun i : S1x1024.Idx => ∑ r, dgainAt (argX m c) (argT m c) (argG m c) (i 1) r := by
  refine (dats m 0 c).arrAt_eq_of_covers 4 _ (by decide +kernel) fun t hf y => ?_
  blk_simp
  rw [after0_4]
  dsimp only
  have e : (win0_4.blk t).view.emb y = y := by blk_ext [places_of_blocks t]
  obtain ⟨d, rfl⟩ : ∃ d : Fin 1024, y = ix2 0 d := one_row y
  rw [e]
  refine (gain_point m c d t.val t.isLt).trans ?_
  rw [(flush_last t).1 hf, sum_tiles (m := 8) rfl]
  rfl

theorem loss_final : (dats m 0 c).arrAt 5 cfg0.N = fun _ : S1x128.Idx => ∑ r, lossAt (argX m c) (argT m c) (argG m c) r := by
  refine (dats m 0 c).arrAt_eq_of_covers 5 _ (by decide +kernel) fun t hf y => ?_
  blk_simp
  rw [after0_5]
  dsimp only
  obtain ⟨k, rfl⟩ : ∃ k : Fin 128, y = ix2 0 k := one_row y
  refine (loss_point m c k t.val t.isLt).trans ?_
  rw [(flush_last t).2 hf, sum_tiles (m := 8) rfl]

end Cert.Loss

end
-- ==== Proof.NormPlain.lean ====
/- The scaling of rows and its gradient as a host program's array operations write them, for both sequences' rows of any length. -/
module

public import proofs.«01_k».proof.Proof.Norm
public import proofs.«01_k».proof.Proof.Layout

@[expose] public section

noncomputable section

namespace Cert.NormPlain

open Idealize.ShloMosaic Cert.Norm Cert.Rows Cert.Layout
open scoped BigOperators

/-- Rows of both sequences. -/
abbrev Rows (n : ℕ) := FVec Ideal ⟨3, ![2, 2048, n]⟩ .f32
/-- A number per row. -/
abbrev Col := FVec Ideal ⟨3, ![2, 2048, 1]⟩ .f32
/-- A number per column. -/
abbrev Gain (n : ℕ) := FVec Ideal ⟨1, ![n]⟩ .f32

/-- What the array operations ask of the shapes. -/
structure Sides (n : ℕ) : Prop where
  along : (⟨3, ![2, 2048, 1]⟩ : Shape).BroadcastsInDim ⟨3, ![2, 2048, n]⟩ ![0, 1, 2]
  every : (⟨0, ![]⟩ : Shape).BroadcastsInDim ⟨3, ![2, 2048, 1]⟩ ![]
  column : (⟨2, ![2, 2048]⟩ : Shape).BroadcastsInDim ⟨3, ![2, 2048, 1]⟩ ![0, 1]
  sum : (⟨3, ![2, 2048, n]⟩ : Shape).ReducesTo [2] ⟨2, ![2, 2048]⟩
  one : 0 < (⟨0, ![]⟩ : Shape).numel
  keep : (⟨2, ![2, 2048]⟩ : Shape).ShapeCasts ⟨3, ![2, 2048, 1]⟩
  rows : (⟨2, ![2, 2048]⟩ : Shape).BroadcastsInDim ⟨3, ![2, 2048, n]⟩ ![0, 1]
  gain : (⟨1, ![n]⟩ : Shape).BroadcastsInDim ⟨3, ![1, 1, n]⟩ ![2]
  gains : (⟨3, ![1, 1, n]⟩ : Shape).BroadcastsInDim ⟨3, ![2, 2048, n]⟩ ![0, 1, 2]
  last : (⟨3, ![2, 2048, 1]⟩ : Shape).ReducesTo [2] ⟨2, ![2, 2048]⟩
  lead : (⟨3, ![2, 2048, n]⟩ : Shape).ReducesTo [0, 1] ⟨1, ![n]⟩
  cast : (⟨1, ![n]⟩ : Shape).ShapeCasts ⟨3, ![1, 1, n]⟩
  ones : (⟨3, ![1, 1, n]⟩ : Shape).ReducesTo [0, 1] ⟨1, ![n]⟩

theorem sides : Sides 1024 := by constructor <;> decide

variable {n : ℕ} (H : Sides n) (w : BitVec 32) (X T : Rows n) (G : Gain n)

/-- A number per row, along the row. -/
def alongC (x : Col) : Rows n := broadcastInDim ⟨3, ![2, 2048, n]⟩ ![0, 1, 2] H.along x
/-- One number, for every row. -/
def everyC (w : BitVec 32) : Col := broadcastInDim ⟨3, ![2, 2048, 1]⟩ ![] H.every (constant ⟨0, ![]⟩ .f32 w)
/-- The sum of each row. -/
def rowSum (x : Rows n) : FVec Ideal ⟨2, ![2, 2048]⟩ .f32 := Host.reduceAdd x (constant ⟨0, ![]⟩ .f32 0x00000000#32) H.sum H.one
/-- The gain, for every row. -/
def gainP : Rows n := broadcastInDim ⟨3, ![2, 2048, n]⟩ ![0, 1, 2] H.gains (broadcastInDim ⟨3, ![1, 1, n]⟩ ![2] H.gain G)
/-- Each row's mean square, the small number added; `w` is the word of the rows' length. -/
def meanP : Col := addf (Host.divf (broadcastInDim ⟨3, ![2, 2048, 1]⟩ ![0, 1] H.column (rowSum H (mulf X X))) (everyC H w)) (everyC H 0x358637BD#32)
def factorP : Col := Host.rsqrt (meanP H w X)
def scaledP : Rows n := mulf X (alongC H (factorP H w X))
/-- The scaled rows, weighted by the gain. -/
def weightedP : Rows n := mulf (scaledP H w X) (gainP H G)
/-- The gradient that reaches each row through its mean square, but for the row itself; `T` is that of the scaled rows. -/
def throughP : Rows n :=
  broadcastInDim ⟨3, ![2, 2048, n]⟩ ![0, 1] H.rows (Host.reduceAdd (Host.divf (mulf (shapeCast ⟨3, ![2, 2048, 1]⟩ (rowSum H (mulf X T)) H.keep)
    (mulf (everyC H 0xBF000000#32) (Host.divf (factorP H w X) (meanP H w X)))) (everyC H w)) (constant ⟨0, ![]⟩ .f32 0x00000000#32) H.last H.one)
/-- The gradient of the rows. -/
def pullP : Rows n := addf (addf (mulf T (alongC H (factorP H w X))) (mulf X (throughP H w X T))) (mulf (throughP H w X T) X)
/-- The gradient of the gain; `D` is that of the weighted rows. -/
def dgainP (D : Rows n) : Gain n :=
  Host.reduceAdd (shapeCast ⟨3, ![1, 1, n]⟩ (Host.reduceAdd (mulf (scaledP H w X) D) (constant ⟨0, ![]⟩ .f32 0x00000000#32) H.lead H.one) H.cast) (constant ⟨0, ![]⟩ .f32 0x00000000#32) H.ones H.one

theorem alongC_apply (x : Col) (b : Fin 2) (s : Fin 2048) (d : Fin n) : alongC H x (ix3 b s d) = x (ix3 b s 0) := by
  pointwise [alongC]
theorem everyC_apply (b : Fin 2) (s : Fin 2048) : everyC H w (ix3 b s 0) = Ideal.ofBits .f32 w := by
  pointwise [everyC]
theorem rowSum_apply (x : Rows n) (b : Fin 2) (s : Fin 2048) : rowSum H x (ix2 b s) = ∑ d, x (ix3 b s d) := by
  pointwise [rowSum]

variable {w} (hn : 0 < n) (hw : Ideal.ofBits .f32 w = ((n : ℝ) : EReal)) (b : Fin 2) (s : Fin 2048) (d : Fin n)

theorem gain_plain : gainP H G (ix3 b s d) = gainRow G d := by
  refine congrArg G (funext fun a => ?_)
  fin_cases a
  apply Fin.ext
  by_cases h : n = 1
  · subst h
    exact congrArg Fin.val (Subsingleton.elim (α := Fin 1) _ _)
  · exact (congrArg Fin.val (dif_neg h)).trans (congrArg Fin.val (dif_neg h))

include hn hw

theorem mean_plain : meanP H w X (ix3 b s 0) = meanSq (tokRow X b s) := by
  pointwise [meanP]
  rw [everyC_apply, everyC_apply, rowSum_apply, div_word hn hw]
  rfl
theorem factor_plain : factorP H w X (ix3 b s 0) = factor (tokRow X b s) := by
  pointwise [factorP]
  rw [mean_plain H X hn hw]
  rfl
theorem scaled_plain : scaledP H w X (ix3 b s d) = scaled (tokRow X b s) d := by
  pointwise [scaledP]
  rw [alongC_apply, factor_plain H X hn hw]
  rfl
theorem weighted_plain : weightedP H w X G (ix3 b s d) = scaled (tokRow X b s) d * gainRow G d := by
  pointwise [weightedP]
  rw [scaled_plain H X hn hw, gain_plain]
theorem through_plain : throughP H w X T (ix3 b s d) =
    (∑ e, tokRow X b s e * tokRow T b s e) * (Ideal.ofBits .f32 0xBF000000#32 * Ideal.div (factor (tokRow X b s)) (meanSq (tokRow X b s))) * invLen n := by
  pointwise [throughP]
  refine (Fin.sum_univ_one _).trans ?_
  have e : rowSum H (mulf X T) (ix2 b s) = ∑ e, tokRow X b s e * tokRow T b s e := rowSum_apply H _ b s
  rw [e, everyC_apply, everyC_apply, factor_plain H X hn hw, mean_plain H X hn hw, div_word hn hw]
theorem pull_at : pullP H w X T (ix3 b s d) = pull (tokRow X b s) (tokRow T b s) d := by
  pointwise [pullP]
  rw [alongC_apply, factor_plain H X hn hw]
  exact pull_plain _ d (through_plain H X T hn hw b s d)
omit b s in
theorem dgain_at (D : Rows n) : dgainP H w X D (ix1 d) = ∑ r, rowAt D r d * scaled (rowAt X r) d := by
  refine (sumRows_apply H.lead H.ones H.cast H.one _ d).trans (Finset.sum_congr rfl fun r _ => ?_)
  show scaledP H w X _ * D _ = _
  rw [scaled_plain H X hn hw, mul_comm]

end Cert.NormPlain

end
-- ==== Proof.Loss.Plain.lean ====
/- What the plain program computes: its intermediate arrays by name, and their entries. -/
module

public import proofs.«01_k».proof.Proof.Gen.LossReferenceIdeal.Run
public import proofs.«01_k».proof.Proof.Loss.Arrays
public import proofs.«01_k».proof.Proof.NormPlain

@[expose] public section

set_option maxRecDepth 16384

noncomputable section

namespace Cert.Loss

open Idealize Idealize.ShloMosaic Idealize.SL.Sem Cert.LossReferenceIdeal Cert.LossReferenceIdeal.Gen Cert.Norm Cert.Rows Cert.Layout Cert.NormPlain
open scoped BigOperators

section
variable (X : Rows 1024) (G : Gain 1024) (T : Rows 1024)

def errP : Rows 1024 := subf (weightedP sides 0x44800000#32 X G) T
def slopeP : Rows 1024 :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32)))
    (broadcastInDim S2x2048 ![] bcast_S_S2x2048 (constant S_ .f32 0x44800000#32)))) (mulf (broadcastInDim S2x2048x1024 ![] bcast_S_S2x2048x1024 (constant S_ .f32 0x40000000#32)) (errP X G T))
/-- The gradient of the scaled rows. -/
def outerP : Rows 1024 := mulf (slopeP X G T) (gainP sides G)
def drowP : Rows 1024 := pullP sides 0x44800000#32 X (outerP X G T)
def lossP : FVec Ideal S_ .f32 :=
  mulf (constant S_ .f32 0x3F000000#32) (Host.reduceAdd (Host.divf (rowSum sides (mulf (errP X G T) (errP X G T))) (broadcastInDim S2x2048 ![] bcast_S_S2x2048 (constant S_ .f32 0x44800000#32)))
    (constant S_ .f32 0x00000000#32) reducesTo_S2x2048_S_d0_1 h_S_)
end

theorem drow_eq (m : (ℓ : Loc nD τ sig) → Buf (Elt Ideal) ℓ) (c : Dev nD) : Value.res_out0 m c =
    (shapeCast S4096x1024 (drowP (m ((c.tc : Thread nD τ).loc main_arg0)) (m ((c.tc : Thread nD τ).loc main_arg1)) (m ((c.tc : Thread nD τ).loc main_arg2)))
      shapeCasts_S2x2048x1024_S4096x1024 : FVec Ideal S4096x1024 .f32) := rfl

variable (X T : Rows 1024) (G : Gain 1024) (b : Fin 2) (s : Fin 2048) (d : Fin 1024)

theorem err_plain : errP X G T (ix3 b s d) = err (tokRow X b s) (gainRow G) (tokRow T b s) d := by
  pointwise [errP]
  rw [weighted_plain sides X G (by norm_num) width_word]
  rfl
theorem slope_plain : slopeP X G T (ix3 b s d) = slope (tokRow X b s) (gainRow G) (tokRow T b s) d := by
  pointwise [slopeP]
  rw [err_plain, div_width, invLen, half_word, two_word, ← EReal.coe_mul, ← mul_assoc, ← EReal.coe_mul, mul_comm]
  unfold slope invLen
  congr 2
  norm_num
theorem outer_plain : outerP X G T (ix3 b s d) = slope (tokRow X b s) (gainRow G) (tokRow T b s) d * gainRow G d := by
  pointwise [outerP]
  rw [slope_plain, gain_plain]
theorem drow_plain : drowP X G T (ix3 b s d) = drow (tokRow X b s) (gainRow G) (tokRow T b s) d :=
  (pull_at sides X _ (by norm_num) width_word b s d).trans (congrArg (pull (tokRow X b s) · d) (funext fun e => outer_plain X T G b s e))
theorem dgain_plain : dgainP sides 0x44800000#32 X (slopeP X G T) (ix1 d) = ∑ r, dgainAt X T G d r :=
  (dgain_at sides X (by norm_num) width_word d _).trans (Finset.sum_congr rfl fun r _ => congrArg (· * scaled (rowAt X r) d) (slope_plain X T G _ _ d))
theorem loss_plain : lossP X G T ix0 = ∑ r, lossAt X T G r := by
  pointwise [lossP]
  have e (b : Fin 2) (s : Fin 2048) : ((1 / 2 : ℝ) : EReal) * Ideal.div (rowSum sides (mulf (errP X G T) (errP X G T)) (ix2 b s)) (Ideal.ofBits FTy.f32 0x44800000#32) =
      lossAt X T G (rowOf (N := 4096) rfl b s) := by
    have e2 : rowSum sides (mulf (errP X G T) (errP X G T)) (ix2 b s) = squares (tokRow X b s) (gainRow G) (tokRow T b s) :=
      (rowSum_apply sides _ b s).trans (Finset.sum_congr rfl fun e _ => congrArg (fun z => z * z) (err_plain X T G b s e))
    rw [e2, div_width, invLen, mul_left_comm, ← EReal.coe_mul, lossAt, rowAt_tok, rowAt_tok, lossPart, mul_comm]
    congr 2
    norm_num
  rw [half_word, ← sum_rows (m := 2) (n := 2048) rfl, mul_sum_real _ (by norm_num)]
  refine Finset.sum_congr rfl fun b _ => ?_
  rw [mul_sum_real _ (by norm_num)]
  exact Finset.sum_congr rfl fun s _ => e b s

theorem drow_result : (shapeCast S4096x1024 (drowP X G T) shapeCasts_S2x2048x1024_S4096x1024 : FVec Ideal S4096x1024 .f32) =
    fun i : S4096x1024.Idx => drowAt X T G (i 0) (i 1) :=
  stacked_eq _ _ fun r d => drow_plain X T G _ _ d

theorem dgain_result : (shapeCast S1x1024 (dgainP sides 0x44800000#32 X (slopeP X G T)) shapeCasts_S1024_S1x1024 : FVec Ideal S1x1024 .f32) =
    fun i : S1x1024.Idx => ∑ r, dgainAt X T G (i 1) r :=
  row_eq _ _ fun d => dgain_plain X T G d

theorem loss_result : (broadcastInDim S1x128 ![] bcast_S_S1x128 (lossP X G T) : FVec Ideal S1x128 .f32) = fun _ : S1x128.Idx => ∑ r, lossAt X T G r := by
  funext i
  pointwise
  exact loss_plain X T G

end Cert.Loss

end
-- ==== Proof.Ffn.Block.lean ====
/- What one block of rows gives: the gradients of the two halves of the inner rows, of the rows, and its part of the gain's gradient. -/
module

public import proofs.«01_k».proof.Proof.Norm
public import proofs.«01_k».proof.Proof.Layout
public import proofs.«01_k».proof.Proof.Gen.FfnKernelIdeal.Value
public import Idealize.ShloMosaic.Lib.Pointwise

@[expose] public section

set_option maxRecDepth 16384

noncomputable section

namespace Cert.Ffn

open Idealize Idealize.ShloMosaic Idealize.SL.Sem Cert.FfnKernelIdeal Cert.FfnKernelIdeal.Gen Cert.Norm Cert.Layout
open scoped BigOperators

section
variable (t : Fin 1024 → EReal) (D : FVec Ideal S2816x1024 .f32) (a u : Fin 2816 → EReal)

/-- The gradient of the gated inner row: half the row's gradient, times the inner matrix turned over. -/
def inner (k : Fin 2816) : EReal := turned t D k * Ideal.ofBits .f32 0x3F000000#32
/-- The gradient of the gate's half of the inner row. -/
def dgate (k : Fin 2816) : EReal := inner t D k * u k * (Ideal.logistic (a k) * (1 + a k * (1 - Ideal.logistic (a k))))
/-- The gradient of the other half. -/
def dup (k : Fin 2816) : EReal := inner t D k * (a k * Ideal.logistic (a k))
/-- The gradient of the weighted row, from the two halves' gradients and matrices. -/
def back (p q : Fin 2816 → EReal) (A B : Fin 2816 → Fin 1024 → EReal) (d : Fin 1024) : EReal := ∑ k, p k * A k d + ∑ k, q k * B k d
/-- The gradient of the row: its own, and through the inner rows; `h` is that of the weighted row. -/
def drow (x g h : Fin 1024 → EReal) (d : Fin 1024) : EReal := t d + pull x (fun e => h e * g e) d
end

variable (T : FVec Ideal S256x1024 .f32) (D A B : FVec Ideal S2816x1024 .f32) (a u : FVec Ideal S256x2816 .f32) (X : FVec Ideal S256x1024 .f32) (G : FVec Ideal S1x1024 .f32) (p q : FVec Ideal S256x1024 .f32)
  (r : Fin 256) (k : Fin 2816) (d : Fin 1024)

theorem inner_block : k0_pay9 (F := Ideal) T D (ix2 r k) = inner (line T r) D k := by
  pointwise [k0_pay9, k0_pay8]
  rfl
theorem dgate_block : k0_pay12 (F := Ideal) T D a u (ix2 r k) = dgate (line T r) D (line a r) (line u r) k := by
  pointwise [k0_pay12, k0_pay10, k0_pay11]
  rw [inner_block]
  rfl
theorem dup_block : k0_pay13 (F := Ideal) T D a (ix2 r k) = dup (line T r) D (line a r) k := by
  pointwise [k0_pay13, k0_pay10, k0_pay11]
  rw [inner_block]
  rfl
theorem back_block : k0_pay1 (F := Ideal) (k0_pay14 (F := Ideal) T D a u A) (k0_pay15 (F := Ideal) T D a B) (ix2 r d) =
    back (dgate (line T r) D (line a r) (line u r)) (dup (line T r) D (line a r)) (fun k d => A (ix2 k d)) (fun k d => B (ix2 k d)) d := by
  pointwise [k0_pay1, k0_pay14, k0_pay15]
  simp only [dgate_block, dup_block]
  rfl
theorem factor_block : k0_pay3 (F := Ideal) X (ix2 r 0) = factor (line X r) := by
  pointwise [k0_pay3, k0_pay2]
  rw [div_width]
  rfl
theorem scaled_block : k0_pay4 (F := Ideal) X (ix2 r d) = scaled (line X r) d := by
  pointwise [k0_pay4, k0_pay2]
  rw [factor_block]
  rfl
theorem drow_block {h : Fin 1024 → EReal} (hh : ∀ d, k0_pay1 (F := Ideal) p q (ix2 r d) = h d) :
    k0_pay5 (F := Ideal) (k0_pay8 (F := Ideal) T) p q X G (ix2 r d) = drow (line T r) (line X r) (only G) h d := by
  pointwise [k0_pay5, k0_pay8]
  simp only [factor_block, scaled_block, div_width, hh]
  rfl
theorem dgain_block {h : Fin 256 → Fin 1024 → EReal} (hh : ∀ r d, k0_pay1 (F := Ideal) p q (ix2 r d) = h r d) :
    k0_pay6 (F := Ideal) p q X (ix2 0 d) = ∑ r, h r d * scaled (line X r) d := by
  pointwise [k0_pay6]
  simp only [scaled_block, hh]
theorem next_gain (s : FVec Ideal S1x1024 .f32) : k0_pay7 (F := Ideal) p q X s (ix2 0 d) = s (ix2 0 d) + k0_pay6 (F := Ideal) p q X (ix2 0 d) := by
  pointwise [k0_pay7]

end Cert.Ffn

end
-- ==== Proof.Ffn.Arrays.lean ====
/- The arrays the program works on, and the blocks of them that each grid point reads. -/
module

public import proofs.«01_k».proof.Proof.Ffn.Block
public import Idealize.ShloMosaic.Lib.Claim
public import Idealize.ShloMosaic.Lib.Pipeline.ValueKit

@[expose] public section

set_option maxRecDepth 16384

noncomputable section

namespace Cert.Ffn

open Idealize Idealize.ShloMosaic Idealize.SL.Sem Cert.FfnKernelIdeal Cert.FfnKernelIdeal.Gen Cert.Norm Cert.Rows Cert.Layout
open scoped BigOperators

/-- The column of the gate's half, and of the other. -/
abbrev low (k : Fin 2816) : Fin 5632 := ⟨k.val, by omega⟩
abbrev high (k : Fin 2816) : Fin 5632 := ⟨2816 + k.val, by omega⟩

section
variable (X : FVec Ideal S2x2048x1024 .f32) (G : FVec Ideal S1024 .f32) (W : FVec Ideal S1024x5632 .f32)

/-- The rows scaled and weighted, and the inner rows, as both programs compute them before anything else. -/
def weightedH : FVec Ideal S2x2048x1024 .f32 :=
  mulf (mulf X (broadcastInDim S2x2048x1024 ![0, 1, 2] bcast_S2x2048x1_S2x2048x1024_0_1_2 (Host.rsqrt (addf (Host.divf (broadcastInDim S2x2048x1 ![0, 1] bcast_S2x2048_S2x2048x1_0_1
    (Host.reduceAdd (mulf X X) (constant S_ .f32 0x00000000#32) reducesTo_S2x2048x1024_S2x2048_d2 h_S_)) (broadcastInDim S2x2048x1 ![] bcast_S_S2x2048x1 (constant S_ .f32 0x44800000#32)))
    (broadcastInDim S2x2048x1 ![] bcast_S_S2x2048x1 (constant S_ .f32 0x358637BD#32))))))
    (broadcastInDim S2x2048x1024 ![0, 1, 2] bcast_S1x1x1024_S2x2048x1024_0_1_2 (broadcastInDim S1x1x1024 ![2] bcast_S1024_S1x1x1024_2 G))
def innerH : FVec Ideal S2x2048x5632 .f32 := Host.dotGeneral dot_S2x2048x1024_S1024x5632_S2x2048x5632_2_0_01_1_n_n none (weightedH X G) W
/-- The gate's half of the inner rows, and the other. -/
def gateH : FVec Ideal S2x2048x2816 .f32 := extractStridedSlice S2x2048x2816 ![0, 0, 0] (innerH X G W) slices_S2x2048x5632_S2x2048x2816_0_0_0
def upH : FVec Ideal S2x2048x2816 .f32 := extractStridedSlice S2x2048x2816 ![0, 0, 2816] (innerH X G W) slices_S2x2048x5632_S2x2048x2816_0_0_2816
end

variable (m : (ℓ : Loc nD τ sig) → Buf (Elt Ideal) ℓ) (c : Dev nD)

abbrev argX : FVec Ideal S2x2048x1024 .f32 := m ((c.tc : Thread nD τ).loc main_arg0)
abbrev argG : FVec Ideal S1024 .f32 := m ((c.tc : Thread nD τ).loc main_arg1)
abbrev argUp : FVec Ideal S1024x5632 .f32 := m ((c.tc : Thread nD τ).loc main_arg2)
abbrev argDown : FVec Ideal S2816x1024 .f32 := m ((c.tc : Thread nD τ).loc main_arg3)
abbrev argCt : FVec Ideal S2x2048x1024 .f32 := m ((c.tc : Thread nD τ).loc main_arg4)
abbrev gate : FVec Ideal S2x2048x2816 .f32 := gateH (argX m c) (argG m c) (argUp m c)
abbrev up : FVec Ideal S2x2048x2816 .f32 := upH (argX m c) (argG m c) (argUp m c)

/-- Where each window's block lies at grid point `t`. -/
theorem places_of_blocks : ∀ t : Fin cfg0.N, win0_0.index t = ![t.val, 0] ∧ win0_1.index t = ![0, 0] ∧ win0_2.index t = ![0, 0] ∧ win0_3.index t = ![1, 0] ∧
    win0_4.index t = ![t.val, 0] ∧ win0_5.index t = ![t.val, 0] ∧ win0_6.index t = ![t.val, 0] ∧ win0_7.index t = ![0, 0] ∧
    win0_8.index t = ![t.val, 0] ∧ win0_9.index t = ![t.val, 0] ∧ win0_10.index t = ![t.val, 0] ∧ win0_11.index t = ![0, 0] :=
  (by decide +kernel : ∀ t : Fin grid0.N, _)

/-- Row `r` of the block at point `t`. -/
abbrev blockRow (t : Fin cfg0.N) (r : Fin 256) : Fin 4096 := rowOf (m := 16) (n := 256) rfl ⟨t.val, t.isLt⟩ r

variable (t : Fin cfg0.N) (r : Fin 256)

theorem ct_block : line (iblk m c 0 t) r = rowAt (argCt m c) (blockRow t r) := by
  funext d
  have e : (win0_0.blk t).view.emb (ix2 r d) = ix2 (blockRow t r) d := by blk_ext [places_of_blocks t]
  show V m c main_v19 ((win0_0.blk t).view.emb (ix2 r d)) = _
  rw [e]
  entry_read
  exact stacked_apply _ _ _ _
theorem down_block : (iblk m c 1 t : FVec Ideal S2816x1024 .f32) = argDown m c := by
  funext i
  have e : (win0_1.blk t).view.emb i = i := by blk_ext [places_of_blocks t]
  show V m c main_v2 ((win0_1.blk t).view.emb i) = _
  rw [e]
  entry_read
  rfl
theorem low_block (k : Fin 2816) (d : Fin 1024) : (iblk m c 2 t : FVec Ideal S2816x1024 .f32) (ix2 k d) = argUp m c (ix2 d (low k)) := by
  have e : (win0_2.blk t).view.emb (ix2 k d) = ix2 (low k) d := by blk_ext [places_of_blocks t]
  show V m c main_v1 ((win0_2.blk t).view.emb (ix2 k d)) = _
  rw [e]
  entry_read
  pointwise
theorem high_block (k : Fin 2816) (d : Fin 1024) : (iblk m c 3 t : FVec Ideal S2816x1024 .f32) (ix2 k d) = argUp m c (ix2 d (high k)) := by
  have e : (win0_3.blk t).view.emb (ix2 k d) = ix2 (high k) d := by blk_ext [places_of_blocks t]
  show V m c main_v1 ((win0_3.blk t).view.emb (ix2 k d)) = _
  rw [e]
  entry_read
  pointwise
theorem gate_block : line (iblk m c 4 t) r = rowAt (gate m c) (blockRow t r) := by
  funext d
  have e : (win0_4.blk t).view.emb (ix2 r d) = ix2 (blockRow t r) d := by blk_ext [places_of_blocks t]
  show V m c main_v21 ((win0_4.blk t).view.emb (ix2 r d)) = _
  rw [e]
  entry_read
  show shapeCast S4096x2816 (gate m c) _ (ix2 _ d) = _
  exact stacked_apply _ _ _ _
theorem up_block : line (iblk m c 5 t) r = rowAt (up m c) (blockRow t r) := by
  funext d
  have e : (win0_5.blk t).view.emb (ix2 r d) = ix2 (blockRow t r) d := by blk_ext [places_of_blocks t]
  show V m c main_v23 ((win0_5.blk t).view.emb (ix2 r d)) = _
  rw [e]
  entry_read
  show shapeCast S4096x2816 (up m c) _ (ix2 _ d) = _
  exact stacked_apply _ _ _ _
theorem rows_block : line (iblk m c 6 t) r = rowAt (argX m c) (blockRow t r) := by
  funext d
  have e : (win0_6.blk t).view.emb (ix2 r d) = ix2 (blockRow t r) d := by blk_ext [places_of_blocks t]
  show V m c main_v24 ((win0_6.blk t).view.emb (ix2 r d)) = _
  rw [e]
  entry_read
  exact stacked_apply _ _ _ _
theorem gain_block : only (iblk m c 7 t) = gainRow (argG m c) := by
  funext d
  have e : (win0_7.blk t).view.emb (ix2 0 d) = ix2 0 d := by blk_ext [places_of_blocks t]
  show V m c main_v25 ((win0_7.blk t).view.emb (ix2 0 d)) = _
  rw [e]
  entry_read
  exact row_apply _ _ _

end Cert.Ffn

end
-- ==== Proof.Ffn.Points.lean ====
/- The four result arrays after the run: each block's gradients in their place, the blocks' parts of the gain's gradient added up. -/
module

public import proofs.«01_k».proof.Proof.Ffn.Arrays

@[expose] public section

set_option maxRecDepth 16384

noncomputable section

namespace Cert.Ffn

open Idealize Idealize.ShloMosaic Idealize.SL.Sem Cert.FfnKernelIdeal Cert.FfnKernelIdeal.Gen Cert.Norm Cert.Rows Cert.Layout
open scoped BigOperators

section
variable (X C : FVec Ideal S2x2048x1024 .f32) (G : FVec Ideal S1024 .f32) (W : FVec Ideal S1024x5632 .f32) (D : FVec Ideal S2816x1024 .f32) (a u : FVec Ideal S2x2048x2816 .f32) (r : Fin 4096)

/-- The gradients at row `r`: of the two halves of the inner row, of the weighted row, and of the row. -/
def dgateAt (k : Fin 2816) : EReal := dgate (rowAt C r) D (rowAt a r) (rowAt u r) k
def dupAt (k : Fin 2816) : EReal := dup (rowAt C r) D (rowAt a r) k
def backAt (d : Fin 1024) : EReal := back (dgateAt C D a u r) (dupAt C D a r) (fun k d => W (ix2 d (low k))) (fun k d => W (ix2 d (high k))) d
def drowAt (d : Fin 1024) : EReal := drow (rowAt C r) (rowAt X r) (gainRow G) (backAt C W D a u r) d
/-- Row `r`'s part of the gain's gradient. -/
def dgainAt (d : Fin 1024) : EReal := backAt C W D a u r d * scaled (rowAt X r) d
end

variable (m : (ℓ : Loc nD τ sig) → Buf (Elt Ideal) ℓ) (c : Dev nD) (t : Fin cfg0.N) (r : Fin 256) (k : Fin 2816) (d : Fin 1024)

abbrev backOf (r : Fin 4096) (d : Fin 1024) : EReal := backAt (argCt m c) (argUp m c) (argDown m c) (gate m c) (up m c) r d
abbrev partOf (d : Fin 1024) (r : Fin 4096) : EReal := dgainAt (argX m c) (argCt m c) (argUp m c) (argDown m c) (gate m c) (up m c) r d

theorem dgate_read : k0_pay12 (F := Ideal) (iblk m c 0 t) (iblk m c 1 t) (iblk m c 4 t) (iblk m c 5 t) (ix2 r k) = dgateAt (argCt m c) (argDown m c) (gate m c) (up m c) (blockRow t r) k := by
  refine (dgate_block ..).trans ?_
  rw [ct_block, gate_block, up_block, down_block]
  rfl
theorem dup_read : k0_pay13 (F := Ideal) (iblk m c 0 t) (iblk m c 1 t) (iblk m c 4 t) (ix2 r k) = dupAt (argCt m c) (argDown m c) (gate m c) (blockRow t r) k := by
  refine (dup_block ..).trans ?_
  rw [ct_block, gate_block, down_block]
  rfl
theorem back_read : k0_pay1 (F := Ideal) (k0_pay14 (F := Ideal) (iblk m c 0 t) (iblk m c 1 t) (iblk m c 4 t) (iblk m c 5 t) (iblk m c 2 t))
    (k0_pay15 (F := Ideal) (iblk m c 0 t) (iblk m c 1 t) (iblk m c 4 t) (iblk m c 3 t)) (ix2 r d) = backOf m c (blockRow t r) d := by
  refine (back_block ..).trans ?_
  simp only [low_block, high_block]
  rw [ct_block, gate_block, up_block, down_block]
  rfl
theorem drow_read : k0_pay5 (F := Ideal) (k0_pay8 (F := Ideal) (iblk m c 0 t)) (k0_pay14 (F := Ideal) (iblk m c 0 t) (iblk m c 1 t) (iblk m c 4 t) (iblk m c 5 t) (iblk m c 2 t))
    (k0_pay15 (F := Ideal) (iblk m c 0 t) (iblk m c 1 t) (iblk m c 4 t) (iblk m c 3 t)) (iblk m c 6 t) (iblk m c 7 t) (ix2 r d) =
    drowAt (argX m c) (argCt m c) (argG m c) (argUp m c) (argDown m c) (gate m c) (up m c) (blockRow t r) d := by
  refine (drow_block _ _ _ _ _ r d fun d => back_read m c t r d).trans ?_
  rw [ct_block, rows_block, gain_block]
  rfl
theorem dgain_read : k0_pay6 (F := Ideal) (k0_pay14 (F := Ideal) (iblk m c 0 t) (iblk m c 1 t) (iblk m c 4 t) (iblk m c 5 t) (iblk m c 2 t))
    (k0_pay15 (F := Ideal) (iblk m c 0 t) (iblk m c 1 t) (iblk m c 4 t) (iblk m c 3 t)) (iblk m c 6 t) (ix2 0 d) = tile 256 (partOf m c d) t.val := by
  refine (dgain_block _ _ _ d fun r d => back_read m c t r d).trans (Eq.trans ?_ (tile_eq (m := 16) rfl _ ⟨t.val, t.isLt⟩).symm)
  exact Finset.sum_congr rfl fun r _ => by rw [rows_block]; rfl

theorem dgate_point (i : S256x2816.Idx) : (outsAt0 m c t.val t.isLt).1 i = dgateAt (argCt m c) (argDown m c) (gate m c) (up m c) (blockRow t (i 0)) (i 1) := by
  obtain ⟨r, k, rfl⟩ : ∃ (r : Fin 256) (k : Fin 2816), i = ix2 r k := ⟨i 0, i 1, Idealize.ShloMosaic.eq_ix2 i⟩
  by_cases h : t.val % 16 = 0
  · rw [outsAt0_A m c t h (by have : t.val < 16 := t.isLt; omega)]
    frame_out
    exact dgate_read m c t r k
  · rw [outsAt0_B m c t h (by omega)]
    frame_out
    exact dgate_read m c t r k
theorem dup_point (i : S256x2816.Idx) : (outsAt0 m c t.val t.isLt).2.1 i = dupAt (argCt m c) (argDown m c) (gate m c) (blockRow t (i 0)) (i 1) := by
  obtain ⟨r, k, rfl⟩ : ∃ (r : Fin 256) (k : Fin 2816), i = ix2 r k := ⟨i 0, i 1, Idealize.ShloMosaic.eq_ix2 i⟩
  by_cases h : t.val % 16 = 0
  · rw [outsAt0_A m c t h (by have : t.val < 16 := t.isLt; omega)]
    frame_out
    exact dup_read m c t r k
  · rw [outsAt0_B m c t h (by omega)]
    frame_out
    exact dup_read m c t r k
theorem drow_point (i : S256x1024.Idx) : (outsAt0 m c t.val t.isLt).2.2.1 i =
    drowAt (argX m c) (argCt m c) (argG m c) (argUp m c) (argDown m c) (gate m c) (up m c) (blockRow t (i 0)) (i 1) := by
  obtain ⟨r, d, rfl⟩ : ∃ (r : Fin 256) (d : Fin 1024), i = ix2 r d := ⟨i 0, i 1, Idealize.ShloMosaic.eq_ix2 i⟩
  by_cases h : t.val % 16 = 0
  · rw [outsAt0_A m c t h (by have : t.val < 16 := t.isLt; omega)]
    frame_out
    exact drow_read m c t r d
  · rw [outsAt0_B m c t h (by omega)]
    frame_out
    exact drow_read m c t r d
theorem gain_point (n : ℕ) (hn : n < cfg0.N) : (outsAt0 m c n hn).2.2.2 (ix2 0 d) = ∑ t ∈ Finset.range (n + 1), tile 256 (partOf m c d) t := by
  refine grown (A := fun n hn => (outsAt0 m c n hn).2.2.2 (ix2 0 d)) (fun h => ?_) (fun n h => ?_) n hn
  · show _ = _
    rw [outsAt0_A m c ⟨0, h⟩ rfl (Nat.not_succ_le_zero 0)]
    frame_out
    exact dgain_read m c ⟨0, h⟩ d
  · have hn : n + 1 < 16 := h
    show _ = _
    rw [outsAt0_B m c ⟨n + 1, h⟩ (by show ¬(n + 1) % 16 = 0; omega) (Nat.le_add_left 1 n)]
    frame_out
    refine (next_gain _ _ _ d _).trans ?_
    rw [dgain_read]
    rfl

/-- The accumulated window is written back at the last point only. -/
theorem flush_last : ∀ t : Fin cfg0.N, (cfg0.win 11).flush t = true → t.val = 15 :=
  (by decide +kernel : ∀ t : Fin grid0.N, _)

theorem dgate_final : (dats m 0 c).arrAt 8 cfg0.N = fun i : S4096x2816.Idx => dgateAt (argCt m c) (argDown m c) (gate m c) (up m c) (i 0) (i 1) := by
  refine (dats m 0 c).arrAt_eq_of_covers 8 _ (by decide +kernel) fun t hf y => ?_
  blk_simp
  rw [after0_8]
  dsimp only
  rw [dgate_point m c t]
  have e0 : (win0_8.blk t).view.emb y 0 = blockRow t (y 0) := by
    apply Fin.ext
    blk_simp [places_of_blocks t]
    try rfl
  have e1 : (win0_8.blk t).view.emb y 1 = y 1 := by
    apply Fin.ext
    blk_simp [places_of_blocks t]
  rw [e0, e1]
theorem dup_final : (dats m 0 c).arrAt 9 cfg0.N = fun i : S4096x2816.Idx => dupAt (argCt m c) (argDown m c) (gate m c) (i 0) (i 1) := by
  refine (dats m 0 c).arrAt_eq_of_covers 9 _ (by decide +kernel) fun t hf y => ?_
  blk_simp
  rw [after0_9]
  dsimp only
  rw [dup_point m c t]
  have e0 : (win0_9.blk t).view.emb y 0 = blockRow t (y 0) := by
    apply Fin.ext
    blk_simp [places_of_blocks t]
    try rfl
  have e1 : (win0_9.blk t).view.emb y 1 = y 1 := by
    apply Fin.ext
    blk_simp [places_of_blocks t]
  rw [e0, e1]
theorem drow_final : (dats m 0 c).arrAt 10 cfg0.N =
    fun i : S4096x1024.Idx => drowAt (argX m c) (argCt m c) (argG m c) (argUp m c) (argDown m c) (gate m c) (up m c) (i 0) (i 1) := by
  refine (dats m 0 c).arrAt_eq_of_covers 10 _ (by decide +kernel) fun t hf y => ?_
  blk_simp
  rw [after0_10]
  dsimp only
  rw [drow_point m c t]
  have e0 : (win0_10.blk t).view.emb y 0 = blockRow t (y 0) := by
    apply Fin.ext
    blk_simp [places_of_blocks t]
    try rfl
  have e1 : (win0_10.blk t).view.emb y 1 = y 1 := by
    apply Fin.ext
    blk_simp [places_of_blocks t]
  rw [e0, e1]
theorem gain_final : (dats m 0 c).arrAt 11 cfg0.N = fun i : S1x1024.Idx => ∑ r, partOf m c (i 1) r := by
  refine (dats m 0 c).arrAt_eq_of_covers 11 _ (by decide +kernel) fun t hf y => ?_
  blk_simp
  rw [after0_11]
  dsimp only
  have e : (win0_11.blk t).view.emb y = y := by blk_ext [places_of_blocks t]
  obtain ⟨d, rfl⟩ : ∃ d : Fin 1024, y = ix2 0 d := one_row y
  rw [e]
  refine (gain_point m c d t.val t.isLt).trans ?_
  rw [flush_last t hf, sum_tiles (m := 16) rfl]
  rfl

end Cert.Ffn

end
-- ==== Proof.Ffn.Plain.lean ====
/- What the plain program computes: its intermediate arrays by name, their entries, and its four results. -/
module

public import proofs.«01_k».proof.Proof.Gen.FfnReferenceIdeal.Run
public import proofs.«01_k».proof.Proof.Ffn.Points
public import proofs.«01_k».proof.Proof.NormPlain

@[expose] public section

set_option maxRecDepth 16384

noncomputable section

namespace Cert.Ffn

open Idealize Idealize.ShloMosaic Idealize.SL.Sem Cert.FfnReferenceIdeal Cert.FfnReferenceIdeal.Gen Cert.Norm Cert.Rows Cert.Layout Cert.NormPlain Cert.Finite
open scoped BigOperators

/-- Halves of the inner rows. -/
abbrev Half := FVec Ideal S2x2048x2816 .f32

section
variable (X C : Rows 1024) (G : Gain 1024) (W : FVec Ideal S1024x5632 .f32) (D : FVec Ideal S2816x1024 .f32) (a u : Half)

/-- The number one everywhere. -/
def onesP : Half := broadcastInDim S2x2048x2816 ![] bcast_S_S2x2048x2816 (constant S_ .f32 0x3F800000#32)
/-- The logistic of the gates. -/
def sigP : Half := Host.divf onesP (addf onesP (Host.exp (Host.negf a)))
/-- The gradient of the gated inner rows. -/
def gatedP : Half :=
  Host.dotGeneral dot_S2x2048x1024_S2816x1024_S2x2048x2816_2_1_01_0_n_n none (mulf (broadcastInDim S2x2048x1024 ![] bcast_S_S2x2048x1024 (constant S_ .f32 0x3F000000#32)) C) D
def dgateP : Half := addf (mulf (mulf (gatedP C D) u) (sigP a)) (mulf (mulf a (mulf (gatedP C D) u)) (mulf (sigP a) (subf onesP (sigP a))))
def dupP : Half := mulf (mulf a (sigP a)) (gatedP C D)
/-- The gradient of the weighted rows. -/
def backP : Rows 1024 :=
  Host.dotGeneral dot_S2x2048x5632_S1024x5632_S2x2048x1024_2_1_01_0_n_n none
    (concatenate S2x2048x5632 2 [⟨S2x2048x2816, dgateP C D a u⟩, ⟨S2x2048x2816, dupP C D a⟩] concatenates_S2x2048x2816_S2x2048x2816_S2x2048x5632_d2) W
def drowP : Rows 1024 := addf C (pullP sides 0x44800000#32 X (mulf (backP C W D a u) (gainP sides G)))
end

variable (X C : Rows 1024) (G : Gain 1024) (W : FVec Ideal S1024x5632 .f32) (D : FVec Ideal S2816x1024 .f32) (a u : Half) (r : Fin 4096) (b : Fin 2) (s : Fin 2048) (k : Fin 2816) (d : Fin 1024)

theorem sig_plain : sigP a (ix3 b s k) = Ideal.logistic (a (ix3 b s k)) := by
  pointwise [sigP, onesP]
  rfl
theorem gated_plain : rowAt (gatedP C D) r k = inner (rowAt C r) D k := by
  show gatedP C D (ix3 _ _ k) = _
  pointwise [gatedP]
  unfold inner turned
  rw [half_word, mul_comm, mul_sum_real _ (by norm_num)]
  exact Finset.sum_congr rfl fun e _ => (mul_assoc (_ : EReal) _ _)
theorem dup_plain : rowAt (dupP C D a) r k = dupAt C D a r k := by
  show dupP C D a (ix3 _ _ k) = _
  pointwise [dupP]
  rw [sig_plain, show gatedP C D (ix3 _ _ k) = _ from gated_plain C D r k, mul_comm]
  rfl

/-- The two ways to write the gradient through the gate. -/
theorem gate_same {p a : EReal} (hp : ∃ r : ℝ, p = (r : EReal)) (ha : ∃ r : ℝ, a = (r : EReal)) :
    p * Ideal.logistic a + a * p * (Ideal.logistic a * (1 - Ideal.logistic a)) = p * (Ideal.logistic a * (1 + a * (1 - Ideal.logistic a))) := by
  obtain ⟨p, rfl⟩ := hp
  obtain ⟨a, rfl⟩ := ha
  rw [Ideal.logistic_coe, ← EReal.coe_one]
  simp only [← EReal.coe_mul, ← EReal.coe_add, ← EReal.coe_sub]
  congr 1
  ring

theorem inner_plain (k : Fin 5632) : innerH X G W (ix3 b s k) = ∑ d, scaled (tokRow X b s) d * gainRow G d * W (ix2 d k) := by
  have e (d : Fin 1024) : weightedH X G (ix3 b s d) = scaled (tokRow X b s) d * gainRow G d := weighted_plain sides X G (by norm_num) width_word b s d
  pointwise [innerH]
  exact Finset.sum_congr rfl fun d _ => congrArg (· * _) (e d)
theorem inner_real (hG : AllReal G) (hW : AllReal W) (k : Fin 5632) : ∃ r : ℝ, innerH X G W (ix3 b s k) = (r : EReal) := by
  rw [inner_plain]
  exact real_sum _ fun d => real_mul (real_mul (scaled_real d) (hG _)) (hW _)
theorem gate_plain : gateH X G W (ix3 b s k) = innerH X G W (ix3 b s (low k)) := by
  pointwise [gateH]
theorem up_plain : upH X G W (ix3 b s k) = innerH X G W (ix3 b s (high k)) := by
  pointwise [upH]
theorem gated_real (hC : AllReal C) (hD : AllReal D) : ∃ x : ℝ, inner (rowAt C r) D k = (x : EReal) :=
  real_mul (real_sum _ fun d => real_mul (hC _) (hD _)) ⟨_, half_word⟩

variable {a u} (ha : AllReal a) (hu : AllReal u) {C D} (hC : AllReal C) (hD : AllReal D)
include ha hu hC hD

theorem dgate_plain : rowAt (dgateP C D a u) r k = dgateAt C D a u r k := by
  show dgateP C D a u (ix3 _ _ k) = _
  pointwise [dgateP]
  rw [sig_plain, show gatedP C D (ix3 _ _ k) = _ from gated_plain C D r k]
  have e : onesP (ix3 ⟨r.val / 2048, by omega⟩ ⟨r.val % 2048, by omega⟩ k) = 1 := by pointwise [onesP]
  rw [e]
  exact gate_same (real_mul (gated_real _ _ r k hC hD) (hu _)) (ha _)
theorem back_plain : rowAt (backP C W D a u) r d = backAt C W D a u r d := by
  show backP C W D a u (ix3 _ _ d) = _
  pointwise [backP]
  refine congrArg₂ (· + ·) (Finset.sum_congr rfl fun k _ => congrArg (· * W (ix2 d (low k))) ?_) (Finset.sum_congr rfl fun k _ => congrArg (· * W (ix2 d (high k))) ?_)
  · exact dgate_plain r k ha hu hC hD
  · exact dup_plain C D a r k
theorem drow_plain : rowAt (drowP X C G W D a u) r d = drowAt X C G W D a u r d := by
  refine congrArg (C _ + ·) ((pull_at sides X _ (by norm_num) width_word _ _ d).trans (congrArg (pull (rowAt X r) · d) (funext fun e => ?_)))
  show backP C W D a u _ * gainP sides G _ = _
  rw [gain_plain, show backP C W D a u (ix3 _ _ e) = _ from back_plain W r e ha hu hC hD]

theorem dgate_result : (shapeCast S4096x2816 (dgateP C D a u) shapeCasts_S2x2048x2816_S4096x2816 : FVec Ideal S4096x2816 .f32) = fun i : S4096x2816.Idx => dgateAt C D a u (i 0) (i 1) :=
  stacked_eq _ _ fun r k => dgate_plain r k ha hu hC hD
omit ha hu hC hD in
theorem dup_result : (shapeCast S4096x2816 (dupP C D a) shapeCasts_S2x2048x2816_S4096x2816 : FVec Ideal S4096x2816 .f32) = fun i : S4096x2816.Idx => dupAt C D a (i 0) (i 1) :=
  stacked_eq _ _ fun r k => dup_plain C D a r k
theorem drow_result : (shapeCast S4096x1024 (drowP X C G W D a u) shapeCasts_S2x2048x1024_S4096x1024 : FVec Ideal S4096x1024 .f32) =
    fun i : S4096x1024.Idx => drowAt X C G W D a u (i 0) (i 1) :=
  stacked_eq _ _ fun r d => drow_plain X G W r d ha hu hC hD
theorem dgain_result : (shapeCast S1x1024 (dgainP sides 0x44800000#32 X (backP C W D a u)) shapeCasts_S1024_S1x1024 : FVec Ideal S1x1024 .f32) =
    fun i : S1x1024.Idx => ∑ r, dgainAt X C W D a u r (i 1) :=
  row_eq _ _ fun d => (dgain_at sides X (by norm_num) width_word d _).trans
    (Finset.sum_congr rfl fun r _ => congrArg (· * scaled (rowAt X r) d) (back_plain W r d ha hu hC hD))

end Cert.Ffn

end
-- ==== Proof.Ffn.Final.lean ====
/- The gated two-layer map: the two programs, launched over the same arguments, end with the same four results. -/
module

public import proofs.«01_k».proof.Defs
public import proofs.«01_k».proof.Proof.Ffn.Plain

@[expose] public section

set_option maxRecDepth 16384

noncomputable section

namespace Cert.Ffn

open Idealize Idealize.ShloMosaic Idealize.SL.Sem Cert.FfnReferenceIdeal Cert.FfnReferenceIdeal.Gen Cert.Finite Cert.NormPlain
open scoped BigOperators

/-- The side conditions of the precondition's operations. -/
instance finiteFacts : Cert.Pre_ffn_finite.Facts where
  bcast_S_S1024 := by decide
  reducesTo_S1024_S_d0 := by decide
  h_S_ := by decide
  bcast_S_S1024x5632 := by decide
  reducesTo_S1024x5632_S_d0_1 := by decide
  bcast_S_S2816x1024 := by decide
  reducesTo_S2816x1024_S_d0_1 := by decide
  bcast_S_S2x2048x1024 := by decide
  reducesTo_S2x2048x1024_S_d0_1_2 := by decide

section
variable [Cert.Pre_ffn_finite.Facts] {X C : Rows 1024} {G : Gain 1024} {W : FVec Ideal S1024x5632 .f32} {D : FVec Ideal S2816x1024 .f32}

/-- Under the precondition all arguments but the rows are reals. -/
theorem args_real (h : Cert.Pre_ffn_finite.fn (F := Ideal) X G W D C = fun _ => 1#1) : AllReal G ∧ AllReal W ∧ AllReal D ∧ AllReal C := by
  obtain ⟨e, hC⟩ := andi_ones (congrFun h ix0)
  obtain ⟨e, hD⟩ := andi_ones e
  obtain ⟨hG, hW⟩ := andi_ones e
  exact ⟨allReal_of_reduce G _ (infinity_apply _) _ _ _ hG, allReal_of_reduce W _ (infinity_apply _) _ _ _ hW,
    allReal_of_reduce D _ (infinity_apply _) _ _ _ hD, allReal_of_reduce C _ (infinity_apply _) _ _ _ hC⟩
end

theorem entry {p : S2x2048x2816.Idx → Prop} (h : ∀ b s k, p (ix3 b s k)) (i : S2x2048x2816.Idx) : p i := by
  rw [Idealize.ShloMosaic.eq_ix3 i]
  exact h _ _ _

/-- The plain program declares no semaphore, so a run of it that leaves the arguments unchanged is the whole frame. -/
theorem reference : Cert.quiescent_FfnReferenceIdeal := fun m g _ =>
  (θ_run _ _ _).mono (fun _ h => ⟨fun c => (h c).2.2.2.2, funext fun s => by rcases s with ⟨_, s | s⟩ <;> exact Fin.elim0 s⟩)
    (Cert.FfnReferenceIdeal.Value.run m g)

variable [Cert.Pre_ffn_finite.Facts]

set_option maxHeartbeats 2000000 in
/-- Launched over the same arguments, all but the rows real, the two programs end with the same four results. -/
theorem value : Cert.algebraic_FfnKernelIdeal_FfnReferenceIdeal_pre_ffn_finite := by
  intro m g m' g' hpre hagree
  refine ⟨fun c => (Cert.FfnKernelIdeal.Gen.dats m 0 c).arrAt 8 Cert.FfnKernelIdeal.cfg0.N, fun c => (Cert.FfnKernelIdeal.Gen.dats m 0 c).arrAt 9 Cert.FfnKernelIdeal.cfg0.N,
    fun c => (Cert.FfnKernelIdeal.Gen.dats m 0 c).arrAt 10 Cert.FfnKernelIdeal.cfg0.N, fun c => (Cert.FfnKernelIdeal.Gen.dats m 0 c).arrAt 11 Cert.FfnKernelIdeal.cfg0.N,
    Cert.FfnKernelIdeal.Value.run_blocks m g, ?_⟩
  refine (θ_run _ _ _).mono (fun r h c => ?_) (Cert.FfnReferenceIdeal.Value.run m' g')
  obtain ⟨h0, h1, h2, h3, h4⟩ := h c
  obtain ⟨a0, a1, a2, a3, a4⟩ := hagree c
  obtain ⟨hG, hW, hD, hC⟩ := args_real (hpre c)
  have ha : AllReal (gate m c) := entry fun b s k => by
    rw [gate, gate_plain]
    exact inner_real _ _ _ b s hG hW _
  have hu : AllReal (up m c) := entry fun b s k => by
    rw [up, up_plain]
    exact inner_real _ _ _ b s hG hW _
  unfold Cert.FfnReferenceIdeal.Value.res_main_v53 at h0
  unfold Cert.FfnReferenceIdeal.Value.res_main_v57 at h2
  unfold Cert.FfnReferenceIdeal.Value.res_main_v58 at h3
  rw [a0, a1, a2, a3, a4] at h0 h1 h2 h3
  refine ⟨h0.trans ?_, h1.trans ?_, h2.trans ?_, h3.trans ?_, h4⟩
  · exact Eq.trans (dgate_result ha hu hC hD) (dgate_final m c).symm
  · exact Eq.trans (dup_result (C := argCt m c) (D := argDown m c) (a := gate m c)) (dup_final m c).symm
  · exact Eq.trans (drow_result (argX m c) (argG m c) (argUp m c) ha hu hC hD) (drow_final m c).symm
  · exact Eq.trans (dgain_result (argX m c) (argUp m c) ha hu hC hD) (gain_final m c).symm

end Cert.Ffn

end
-- ==== Proof.Merge.Block.lean ====
/- What one block of rows gives: the two branches' gradients, the gates' and what reaches the branches' inputs. -/
module

public import proofs.«01_k».proof.Proof.Layout
public import proofs.«01_k».proof.Proof.Gen.MergeKernelIdeal.Value
public import Idealize.ShloMosaic.Lib.Pointwise

@[expose] public section

set_option maxRecDepth 16384

noncomputable section

namespace Cert.Merge

open Idealize Idealize.ShloMosaic Idealize.SL.Sem Cert.MergeKernelIdeal Cert.MergeKernelIdeal.Gen Cert.Layout
open scoped BigOperators

/-- The part of the gates' gradient that a branch gives: the merged row's gradient, the branch's row, the gate. -/
def throughGate (dm a g : EReal) : EReal := dm * a * (g * (1 - g))

variable (C : FVec Ideal S512x1024 .f32) (W : FVec Ideal S1024x1024 .f32) (g a : FVec Ideal S512x1024 .f32) (r : Fin 512) (d : Fin 1024)

theorem merged_block : k0_pay9 (F := Ideal) C W (ix2 r d) = turned (line C r) W d := by
  pointwise [k0_pay9]
  rfl
theorem first_block : k0_pay12 (F := Ideal) C W g (ix2 r d) = turned (line C r) W d * g (ix2 r d) := by
  pointwise [k0_pay12, k0_pay10]
  rw [merged_block]
theorem second_block : k0_pay13 (F := Ideal) C W g (ix2 r d) = turned (line C r) W d * g (ix2 r d) := by
  pointwise [k0_pay13, k0_pay11]
  rw [merged_block]
theorem into_first_block (U : FVec Ideal S512x1024 .f32) (j : Fin 512) :
    k0_pay14 (F := Ideal) C W g U (ix2 r j) = turned (fun d => turned (line C r) W d * g (ix2 r d)) U j := by
  pointwise [k0_pay14]
  simp only [first_block]
  rfl
theorem into_second_block (U : FVec Ideal S1024x1024 .f32) (j : Fin 1024) :
    k0_pay15 (F := Ideal) C W g U (ix2 r j) = turned (fun d => turned (line C r) W d * g (ix2 r d)) U j := by
  pointwise [k0_pay15]
  simp only [second_block]
  rfl
theorem first_gate_block : k0_pay1 (F := Ideal) (k0_pay9 (F := Ideal) C W) (k0_pay10 (F := Ideal) g) (k0_pay16 (F := Ideal) a) (ix2 r d) =
    throughGate (turned (line C r) W d) (a (ix2 r d)) (g (ix2 r d)) := by
  pointwise [k0_pay1, k0_pay10, k0_pay16]
  rw [merged_block]
  rfl
theorem second_gate_block : k0_pay2 (F := Ideal) (k0_pay9 (F := Ideal) C W) (k0_pay11 (F := Ideal) g) a (ix2 r d) =
    throughGate (turned (line C r) W d) (a (ix2 r d)) (g (ix2 r d)) := by
  pointwise [k0_pay2, k0_pay11]
  rw [merged_block]
  rfl
theorem first_sum_block : k0_pay5 (F := Ideal) (k0_pay9 (F := Ideal) C W) (k0_pay10 (F := Ideal) g) (k0_pay16 (F := Ideal) a) (ix2 0 d) =
    ∑ r, throughGate (turned (line C r) W d) (a (ix2 r d)) (g (ix2 r d)) := by
  pointwise [k0_pay5]
  simp only [first_gate_block]
theorem second_sum_block : k0_pay6 (F := Ideal) (k0_pay9 (F := Ideal) C W) (k0_pay11 (F := Ideal) g) a (ix2 0 d) =
    ∑ r, throughGate (turned (line C r) W d) (a (ix2 r d)) (g (ix2 r d)) := by
  pointwise [k0_pay6]
  simp only [second_gate_block]

end Cert.Merge

end
-- ==== Proof.Merge.Arrays.lean ====
/- What each block is read from: the arguments, the gates and the branches; and how a block stored in two halves is read. -/
module

public import proofs.«01_k».proof.Proof.Merge.Block
public import Idealize.ShloMosaic.Lib.Claim
public import Idealize.ShloMosaic.Lib.Pipeline.ValueKit

@[expose] public section

set_option maxRecDepth 16384

noncomputable section

namespace Cert.Merge

open Idealize Idealize.ShloMosaic Idealize.SL.Sem Cert.MergeKernelIdeal Cert.MergeKernelIdeal.Gen Cert.Rows Cert.Layout
open scoped BigOperators

/-- Column `d` of the first half of the gates, and of the second. -/
abbrev low (d : Fin 1024) : Fin 2048 := ⟨d.val, by omega⟩
abbrev high (d : Fin 1024) : Fin 2048 := ⟨1024 + d.val, by omega⟩
theorem half (k : Fin 2048) : (∃ d, k = low d) ∨ ∃ d, k = high d := by
  by_cases h : k.val < 1024
  · exact .inl ⟨⟨k.val, h⟩, rfl⟩
  · exact .inr ⟨⟨k.val - 1024, by omega⟩, Fin.ext (by show k.val = 1024 + (k.val - 1024); omega)⟩

/-- The gates: the logistic of the rows times the gates' columns of the input matrix, the bias added. -/
def gatesH (X : FVec Ideal S2x2048x1024 .f32) (W : FVec Ideal S1024x3264 .f32) (B : FVec Ideal S2048 .f32) : FVec Ideal S2x2048x2048 .f32 :=
  Host.divf (broadcastInDim S2x2048x2048 ![] bcast_S_S2x2048x2048 (constant S_ .f32 0x3F800000#32))
    (addf (broadcastInDim S2x2048x2048 ![] bcast_S_S2x2048x2048 (constant S_ .f32 0x3F800000#32)) (Host.exp (Host.negf
      (addf (Host.dotGeneral dot_S2x2048x1024_S1024x2048_S2x2048x2048_2_0_01_1_n_n none X (extractStridedSlice S1024x2048 ![0, 1216] W slices_S1024x3264_S1024x2048_0_1216))
        (broadcastInDim S2x2048x2048 ![0, 1, 2] bcast_S1x1x2048_S2x2048x2048_0_1_2 (broadcastInDim S1x1x2048 ![2] bcast_S2048_S1x1x2048_2 B))))))
/-- The first branch's rows. -/
def firstH (P : FVec Ideal S2x2048x512 .f32) (U : FVec Ideal S512x1024 .f32) : FVec Ideal S2x2048x1024 .f32 :=
  Host.dotGeneral dot_S2x2048x512_S512x1024_S2x2048x1024_2_0_01_1_n_n none P U
/-- The second branch's rows. -/
def secondH (O : FVec Ideal S2x2048x1024 .f32) (U : FVec Ideal S1024x1024 .f32) : FVec Ideal S2x2048x1024 .f32 :=
  Host.dotGeneral dot_S2x2048x1024_S1024x1024_S2x2048x1024_2_0_01_1_n_n none O U

variable (m : (ℓ : Loc nD τ sig) → Buf (Elt Ideal) ℓ) (c : Dev nD)

/-- The gates the program computes. -/
abbrev gates : FVec Ideal S2x2048x2048 .f32 :=
  gatesH (m ((c.tc : Thread nD τ).loc main_arg0)) (m ((c.tc : Thread nD τ).loc main_arg1)) (m ((c.tc : Thread nD τ).loc main_arg2))
abbrev first : FVec Ideal S2x2048x1024 .f32 := firstH (m ((c.tc : Thread nD τ).loc main_arg3)) (m ((c.tc : Thread nD τ).loc main_arg5))
abbrev second : FVec Ideal S2x2048x1024 .f32 := secondH (m ((c.tc : Thread nD τ).loc main_arg4)) (m ((c.tc : Thread nD τ).loc main_arg6))
abbrev argPool : FVec Ideal S512x1024 .f32 := m ((c.tc : Thread nD τ).loc main_arg5)
abbrev argAttn : FVec Ideal S1024x1024 .f32 := m ((c.tc : Thread nD τ).loc main_arg6)
abbrev argOut : FVec Ideal S1024x1024 .f32 := m ((c.tc : Thread nD τ).loc main_arg7)
abbrev argCt : FVec Ideal S2x2048x1024 .f32 := m ((c.tc : Thread nD τ).loc main_arg8)

/-- Where each window's block lies at grid point `t`. -/
theorem places_of_blocks : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![t.val, 0] ∧ win0_6.index t = ![t.val, 0] ∧ win0_7.index t = ![t.val, 0] ∧
    win0_8.index t = ![t.val, 0] ∧ win0_9.index t = ![t.val, 0] ∧ win0_10.index t = ![0, 0] ∧ win0_11.index t = ![t.val, 0] ∧ win0_12.index t = ![t.val, 0] :=
  (by decide +kernel : ∀ t : Fin grid0.N, _)

/-- Row `r` of the block at point `t`. -/
abbrev blockRow (t : Fin cfg0.N) (r : Fin 512) : Fin 4096 := rowOf (m := 8) (n := 512) rfl ⟨t.val, t.isLt⟩ r

theorem ct_block (t : Fin cfg0.N) (r : Fin 512) : line (iblk m c 0 t) r = rowAt (argCt m c) (blockRow t r) := by
  funext d
  have e : (win0_0.blk t).view.emb (ix2 r d) = ix2 (blockRow t r) d := by blk_ext [places_of_blocks t]
  show V m c main_v16 ((win0_0.blk t).view.emb (ix2 r d)) = _
  rw [e]
  entry_read
  exact stacked_apply _ _ _ _

theorem out_block (t : Fin cfg0.N) : iblk m c 1 t = argOut m c := by
  funext i
  have e : (win0_1.blk t).view.emb i = i := by blk_ext [places_of_blocks t]
  show V m c main_v17 ((win0_1.blk t).view.emb i) = _
  rw [e]
  entry_read
  rfl

theorem pool_block (t : Fin cfg0.N) : iblk m c 2 t = argPool m c := by
  funext i
  have e : (win0_2.blk t).view.emb i = i := by blk_ext [places_of_blocks t]
  show V m c main_v18 ((win0_2.blk t).view.emb i) = _
  rw [e]
  entry_read
  rfl

theorem attn_block (t : Fin cfg0.N) : iblk m c 3 t = argAttn m c := by
  funext i
  have e : (win0_3.blk t).view.emb i = i := by blk_ext [places_of_blocks t]
  show V m c main_v19 ((win0_3.blk t).view.emb i) = _
  rw [e]
  entry_read
  rfl

theorem gates_block (t : Fin cfg0.N) (r : Fin 512) (k : Fin 2048) : iblk m c 4 t (ix2 r k) = rowAt (gates m c) (blockRow t r) k := by
  have e : (win0_4.blk t).view.emb (ix2 r k) = ix2 (blockRow t r) k := by blk_ext [places_of_blocks t]
  show V m c main_v20 ((win0_4.blk t).view.emb (ix2 r k)) = _
  rw [e]
  entry_read
  show shapeCast S4096x2048 (gates m c) shapeCasts_S2x2048x2048_S4096x2048 (ix2 (blockRow t r) k) = _
  exact stacked_apply _ _ _ _

theorem first_rows (t : Fin cfg0.N) (r : Fin 512) (d : Fin 1024) : iblk m c 5 t (ix2 r d) = rowAt (first m c) (blockRow t r) d := by
  have e : (win0_5.blk t).view.emb (ix2 r d) = ix2 (blockRow t r) d := by blk_ext [places_of_blocks t]
  show V m c main_v21 ((win0_5.blk t).view.emb (ix2 r d)) = _
  rw [e]
  entry_read
  show shapeCast S4096x1024 (first m c) shapeCasts_S2x2048x1024_S4096x1024 (ix2 (blockRow t r) d) = _
  exact stacked_apply _ _ _ _

theorem second_rows (t : Fin cfg0.N) (r : Fin 512) (d : Fin 1024) : iblk m c 6 t (ix2 r d) = rowAt (second m c) (blockRow t r) d := by
  have e : (win0_6.blk t).view.emb (ix2 r d) = ix2 (blockRow t r) d := by blk_ext [places_of_blocks t]
  show V m c main_v22 ((win0_6.blk t).view.emb (ix2 r d)) = _
  rw [e]
  entry_read
  show shapeCast S4096x1024 (second m c) shapeCasts_S2x2048x1024_S4096x1024 (ix2 (blockRow t r) d) = _
  exact stacked_apply _ _ _ _

section
variable (Q P : FVec Ideal S512x1024 .bf16) (Q1 P1 : FVec Ideal S1x1024 .f32) (r : Fin 512) (d : Fin 1024)

/-- A block stored in two halves. -/
abbrev stored : FVec Ideal S512x2048 .bf16 :=
  View.canon (Val := Elt Ideal) (s := S512x2048) (e := .bf16) [⟨Rect.unit ![0, 1024] ![512, 1024] inb_S512x2048_S512x1024_0_1024, P⟩, ⟨Rect.unit ![0, 0] ![512, 1024] inb_S512x2048_S512x1024_0_0, Q⟩]
abbrev storedRow : FVec Ideal S1x2048 .f32 :=
  View.canon (Val := Elt Ideal) (s := S1x2048) (e := .f32) [⟨Rect.unit ![0, 1024] ![1, 1024] inb_S1x2048_S1x1024_0_1024, P1⟩, ⟨Rect.unit ![0, 0] ![1, 1024] inb_S1x2048_S1x1024_0_0, Q1⟩]

theorem stored_low : stored Q P (ix2 r (low d)) = Q (ix2 r d) := by
  canon_tiles x h
  · exact absurd (show d.val = 1024 + (x 1).val from h1) (by omega)
  · exact congrArg Q ((eq_ix2 x).trans (congrArg₂ ix2 (Fin.ext h0.symm) (Fin.ext h1.symm)))
theorem stored_high : stored Q P (ix2 r (high d)) = P (ix2 r d) := by
  canon_tiles x h
  · exact congrArg P ((eq_ix2 x).trans (congrArg₂ ix2 (Fin.ext h0.symm) (Fin.ext (Nat.add_left_cancel h1).symm)))
  · exact absurd (show 1024 + d.val = (x 1).val from h1) (by omega)
theorem storedRow_low : storedRow Q1 P1 (ix2 0 (low d)) = Q1 (ix2 0 d) := by
  canon_tiles x h
  · exact absurd (show d.val = 1024 + (x 1).val from h1) (by omega)
  · exact congrArg Q1 ((eq_ix2 x).trans (congrArg₂ ix2 (Fin.ext h0.symm) (Fin.ext h1.symm)))
theorem storedRow_high : storedRow Q1 P1 (ix2 0 (high d)) = P1 (ix2 0 d) := by
  canon_tiles x h
  · exact congrArg P1 ((eq_ix2 x).trans (congrArg₂ ix2 (Fin.ext h0.symm) (Fin.ext (Nat.add_left_cancel h1).symm)))
  · exact absurd (show 1024 + d.val = (x 1).val from h1) (by omega)
end

end Cert.Merge

end
-- ==== Proof.Merge.Points.lean ====
/- The six result arrays after the run: each block's gradients in their places, the blocks' parts of the gates' bias gradient added up. -/
module

public import proofs.«01_k».proof.Proof.Merge.Arrays

@[expose] public section

set_option maxRecDepth 16384

noncomputable section

namespace Cert.Merge

open Idealize Idealize.ShloMosaic Idealize.SL.Sem Cert.MergeKernelIdeal Cert.MergeKernelIdeal.Gen Cert.Rows Cert.Layout
open scoped BigOperators

section
variable (C : FVec Ideal S2x2048x1024 .f32) (W : FVec Ideal S1024x1024 .f32) (g : FVec Ideal S2x2048x2048 .f32) (a b : FVec Ideal S2x2048x1024 .f32) (r : Fin 4096)

/-- The gradient of row `r` of the branches' gated sum. -/
def merged : Fin 1024 → EReal := turned (rowAt C r) W
/-- The gradients of the two branches' rows. -/
def dfirst (d : Fin 1024) : EReal := merged C W r d * rowAt g r (low d)
def dsecond (d : Fin 1024) : EReal := merged C W r d * rowAt g r (high d)
/-- The gradient of the gates before the logistic. -/
def dgate (k : Fin 2048) : EReal :=
  if h : k.val < 1024 then throughGate (merged C W r ⟨k.val, h⟩) (rowAt a r ⟨k.val, h⟩) (rowAt g r k)
  else throughGate (merged C W r ⟨k.val - 1024, by omega⟩) (rowAt b r ⟨k.val - 1024, by omega⟩) (rowAt g r k)

variable (d : Fin 1024)
theorem dgate_low : dgate C W g a b r (low d) = throughGate (merged C W r d) (rowAt a r d) (rowAt g r (low d)) := dif_pos d.isLt
theorem dgate_high : dgate C W g a b r (high d) = throughGate (merged C W r d) (rowAt b r d) (rowAt g r (high d)) := by
  have e : (⟨1024 + d.val - 1024, by omega⟩ : Fin 1024) = d := Fin.ext (by show 1024 + d.val - 1024 = d.val; omega)
  refine (dif_neg (by show ¬1024 + d.val < 1024; omega)).trans ?_
  rw [e]
end

variable (m : (ℓ : Loc nD τ sig) → Buf (Elt Ideal) ℓ) (c : Dev nD) (t : Fin cfg0.N) (r : Fin 512) (d : Fin 1024)

/-- The gradient of the gates at row `r`, of the program's own arguments. -/
abbrev gateAt (r : Fin 4096) (k : Fin 2048) : EReal := dgate (argCt m c) (argOut m c) (gates m c) (first m c) (second m c) r k

/-- The two halves of a block of gates. -/
abbrev lowBlock (t : Fin cfg0.N) : FVec Ideal S512x1024 .f32 := View.ld (iblk m c 4 t) (Rect.unit (s := S512x2048) ![0, 0] ![512, 1024] inb_S512x2048_S512x1024_0_0)
abbrev highBlock (t : Fin cfg0.N) : FVec Ideal S512x1024 .f32 := View.ld (iblk m c 4 t) (Rect.unit (s := S512x2048) ![0, 1024] ![512, 1024] inb_S512x2048_S512x1024_0_1024)

theorem low_read : lowBlock m c t (ix2 r d) = rowAt (gates m c) (blockRow t r) (low d) := by
  refine Eq.trans ?_ (gates_block m c t r (low d))
  unfold lowBlock
  pointwise
theorem high_read : highBlock m c t (ix2 r d) = rowAt (gates m c) (blockRow t r) (high d) := by
  refine Eq.trans ?_ (gates_block m c t r (high d))
  unfold highBlock
  pointwise

theorem merged_read : turned (line (iblk m c 0 t) r) (iblk m c 1 t) = merged (argCt m c) (argOut m c) (blockRow t r) := by
  rw [ct_block, out_block]
  rfl

theorem first_read : k0_pay12 (F := Ideal) (iblk m c 0 t) (iblk m c 1 t) (lowBlock m c t) (ix2 r d) = dfirst (argCt m c) (argOut m c) (gates m c) (blockRow t r) d := by
  refine (first_block _ _ _ r d).trans ?_
  rw [low_read, merged_read]
  rfl
theorem second_read : k0_pay13 (F := Ideal) (iblk m c 0 t) (iblk m c 1 t) (highBlock m c t) (ix2 r d) = dsecond (argCt m c) (argOut m c) (gates m c) (blockRow t r) d := by
  refine (second_block _ _ _ r d).trans ?_
  rw [high_read, merged_read]
  rfl
theorem into_first_read (j : Fin 512) : k0_pay14 (F := Ideal) (iblk m c 0 t) (iblk m c 1 t) (lowBlock m c t) (iblk m c 2 t) (ix2 r j) =
    turned (dfirst (argCt m c) (argOut m c) (gates m c) (blockRow t r)) (argPool m c) j := by
  refine (into_first_block _ _ _ r _ j).trans ?_
  simp only [low_read, merged_read, pool_block]
  rfl
theorem into_second_read : k0_pay15 (F := Ideal) (iblk m c 0 t) (iblk m c 1 t) (highBlock m c t) (iblk m c 3 t) (ix2 r d) =
    turned (dsecond (argCt m c) (argOut m c) (gates m c) (blockRow t r)) (argAttn m c) d := by
  refine (into_second_block _ _ _ r _ d).trans ?_
  simp only [high_read, merged_read, attn_block]
  rfl
theorem first_part : throughGate (turned (line (iblk m c 0 t) r) (iblk m c 1 t) d) (iblk m c 5 t (ix2 r d)) (lowBlock m c t (ix2 r d)) = gateAt m c (blockRow t r) (low d) := by
  rw [low_read, merged_read, first_rows]
  exact (dgate_low _ _ _ _ _ _ d).symm
theorem second_part : throughGate (turned (line (iblk m c 0 t) r) (iblk m c 1 t) d) (iblk m c 6 t (ix2 r d)) (highBlock m c t (ix2 r d)) = gateAt m c (blockRow t r) (high d) := by
  rw [high_read, merged_read, second_rows]
  exact (dgate_high _ _ _ _ _ _ d).symm
theorem first_sum : k0_pay5 (F := Ideal) (k0_pay9 (F := Ideal) (iblk m c 0 t) (iblk m c 1 t)) (k0_pay10 (F := Ideal) (lowBlock m c t)) (k0_pay16 (F := Ideal) (iblk m c 5 t)) (ix2 0 d) =
    tile 512 (fun r => gateAt m c r (low d)) t.val := by
  refine (first_sum_block ..).trans (Eq.trans ?_ (tile_eq (m := 8) rfl _ ⟨t.val, t.isLt⟩).symm)
  exact Finset.sum_congr rfl fun r _ => first_part m c t r d
theorem second_sum : k0_pay6 (F := Ideal) (k0_pay9 (F := Ideal) (iblk m c 0 t) (iblk m c 1 t)) (k0_pay11 (F := Ideal) (highBlock m c t)) (iblk m c 6 t) (ix2 0 d) =
    tile 512 (fun r => gateAt m c r (high d)) t.val := by
  refine (second_sum_block ..).trans (Eq.trans ?_ (tile_eq (m := 8) rfl _ ⟨t.val, t.isLt⟩).symm)
  exact Finset.sum_congr rfl fun r _ => second_part m c t r d

/-- Either case of a grid point leaves the blocks that are stored whole as these. -/
theorem whole_points : (outsAt0 m c t.val t.isLt).1 = k0_pay12 (F := Ideal) (iblk m c 0 t) (iblk m c 1 t) (lowBlock m c t) ∧
    (outsAt0 m c t.val t.isLt).2.1 = k0_pay13 (F := Ideal) (iblk m c 0 t) (iblk m c 1 t) (highBlock m c t) ∧
    (outsAt0 m c t.val t.isLt).2.2.1 = stored (k0_pay3 (k0_pay9 (F := Ideal) (iblk m c 0 t) (iblk m c 1 t)) (k0_pay10 (F := Ideal) (lowBlock m c t)) (k0_pay16 (F := Ideal) (iblk m c 5 t)))
      (k0_pay4 (k0_pay9 (F := Ideal) (iblk m c 0 t) (iblk m c 1 t)) (k0_pay11 (F := Ideal) (highBlock m c t)) (iblk m c 6 t)) ∧
    (outsAt0 m c t.val t.isLt).2.2.2.2.1 = k0_pay14 (F := Ideal) (iblk m c 0 t) (iblk m c 1 t) (lowBlock m c t) (iblk m c 2 t) ∧
    (outsAt0 m c t.val t.isLt).2.2.2.2.2 = k0_pay15 (F := Ideal) (iblk m c 0 t) (iblk m c 1 t) (highBlock m c t) (iblk m c 3 t) := by
  by_cases h : t.val % 8 = 0
  · rw [outsAt0_A m c t h (by have : t.val < 8 := t.isLt; omega)]
    refine ⟨?_, ?_, ?_, ?_, ?_⟩ <;> (frame_out; rfl)
  · rw [outsAt0_B m c t h (by omega)]
    refine ⟨?_, ?_, ?_, ?_, ?_⟩ <;> (frame_out; rfl)

theorem gate_point (k : Fin 2048) : (outsAt0 m c t.val t.isLt).2.2.1 (ix2 r k) = gateAt m c (blockRow t r) k := by
  rw [(whole_points m c t).2.2.1]
  rcases half k with ⟨d, rfl⟩ | ⟨d, rfl⟩
  · exact (stored_low _ _ r d).trans ((first_gate_block ..).trans (first_part m c t r d))
  · exact (stored_high _ _ r d).trans ((second_gate_block ..).trans (second_part m c t r d))

theorem bias_point (k : Fin 2048) (n : ℕ) (hn : n < cfg0.N) :
    (outsAt0 m c n hn).2.2.2.1 (ix2 0 k) = ∑ t ∈ Finset.range (n + 1), tile 512 (fun r => gateAt m c r k) t := by
  refine grown (A := fun n hn => (outsAt0 m c n hn).2.2.2.1 (ix2 0 k)) (fun h => ?_) (fun n h => ?_) n hn
  · show _ = _
    rw [outsAt0_A m c ⟨0, h⟩ rfl (Nat.not_succ_le_zero 0)]
    frame_out
    rcases half k with ⟨d, rfl⟩ | ⟨d, rfl⟩
    · exact (storedRow_low _ _ d).trans (first_sum m c ⟨0, h⟩ d)
    · exact (storedRow_high _ _ d).trans (second_sum m c ⟨0, h⟩ d)
  · have hn : n + 1 < 8 := h
    show _ = _
    rw [outsAt0_B m c ⟨n + 1, h⟩ (by show ¬(n + 1) % 8 = 0; omega) (Nat.le_add_left 1 n)]
    frame_out
    rcases half k with ⟨d, rfl⟩ | ⟨d, rfl⟩
    · refine (storedRow_low _ _ d).trans ?_
      refine Eq.trans ?_ (congrArg₂ (· + ·) rfl (first_sum m c ⟨n + 1, h⟩ d))
      pointwise [k0_pay7]
      rfl
    · refine (storedRow_high _ _ d).trans ?_
      refine Eq.trans ?_ (congrArg₂ (· + ·) rfl (second_sum m c ⟨n + 1, h⟩ d))
      pointwise [k0_pay8]
      rfl

/-- The accumulated window is written back at the last point only. -/
theorem flush_last : ∀ t : Fin cfg0.N, (cfg0.win 10).flush t = true → t.val = 7 :=
  (by decide +kernel : ∀ t : Fin grid0.N, _)

theorem dfirst_final : (dats m 0 c).arrAt 7 cfg0.N = fun i : S4096x1024.Idx => dfirst (argCt m c) (argOut m c) (gates m c) (i 0) (i 1) := by
  refine (dats m 0 c).arrAt_eq_of_covers 7 _ (by decide +kernel) fun t hf y => ?_
  blk_simp
  rw [after0_7]
  dsimp only
  obtain ⟨r, d, rfl⟩ : ∃ (r : Fin 512) (d : Fin 1024), y = ix2 r d := ⟨y 0, y 1, Idealize.ShloMosaic.eq_ix2 y⟩
  have e : (win0_7.blk t).view.emb (ix2 r d) = ix2 (blockRow t r) d := by blk_ext [places_of_blocks t]
  rw [e]
  exact (congrFun (whole_points m c t).1 _).trans (first_read m c t r d)

theorem dsecond_final : (dats m 0 c).arrAt 8 cfg0.N = fun i : S4096x1024.Idx => dsecond (argCt m c) (argOut m c) (gates m c) (i 0) (i 1) := by
  refine (dats m 0 c).arrAt_eq_of_covers 8 _ (by decide +kernel) fun t hf y => ?_
  blk_simp
  rw [after0_8]
  dsimp only
  obtain ⟨r, d, rfl⟩ : ∃ (r : Fin 512) (d : Fin 1024), y = ix2 r d := ⟨y 0, y 1, Idealize.ShloMosaic.eq_ix2 y⟩
  have e : (win0_8.blk t).view.emb (ix2 r d) = ix2 (blockRow t r) d := by blk_ext [places_of_blocks t]
  rw [e]
  exact (congrFun (whole_points m c t).2.1 _).trans (second_read m c t r d)

theorem dgate_final : (dats m 0 c).arrAt 9 cfg0.N = fun i : S4096x2048.Idx => gateAt m c (i 0) (i 1) := by
  refine (dats m 0 c).arrAt_eq_of_covers 9 _ (by decide +kernel) fun t hf y => ?_
  blk_simp
  rw [after0_9]
  dsimp only
  obtain ⟨r, d, rfl⟩ : ∃ (r : Fin 512) (d : Fin 2048), y = ix2 r d := ⟨y 0, y 1, Idealize.ShloMosaic.eq_ix2 y⟩
  have e : (win0_9.blk t).view.emb (ix2 r d) = ix2 (blockRow t r) d := by blk_ext [places_of_blocks t]
  rw [e]
  exact gate_point m c t r d

theorem dbias_final : (dats m 0 c).arrAt 10 cfg0.N = fun i : S1x2048.Idx => ∑ r, gateAt m c r (i 1) := by
  refine (dats m 0 c).arrAt_eq_of_covers 10 _ (by decide +kernel) fun t hf y => ?_
  blk_simp
  rw [after0_10]
  dsimp only
  have e : (win0_10.blk t).view.emb y = y := by blk_ext [places_of_blocks t]
  obtain ⟨d, rfl⟩ : ∃ d : Fin 2048, y = ix2 0 d := one_row y
  rw [e]
  refine (bias_point m c d t.val t.isLt).trans ?_
  rw [flush_last t hf, sum_tiles (m := 8) rfl]
  rfl

theorem into_first_final : (dats m 0 c).arrAt 11 cfg0.N = fun i : S4096x512.Idx => turned (dfirst (argCt m c) (argOut m c) (gates m c) (i 0)) (argPool m c) (i 1) := by
  refine (dats m 0 c).arrAt_eq_of_covers 11 _ (by decide +kernel) fun t hf y => ?_
  blk_simp
  rw [after0_11]
  dsimp only
  obtain ⟨r, d, rfl⟩ : ∃ (r : Fin 512) (d : Fin 512), y = ix2 r d := ⟨y 0, y 1, Idealize.ShloMosaic.eq_ix2 y⟩
  have e : (win0_11.blk t).view.emb (ix2 r d) = ix2 (blockRow t r) d := by blk_ext [places_of_blocks t]
  rw [e]
  exact (congrFun (whole_points m c t).2.2.2.1 _).trans (into_first_read m c t r d)

theorem into_second_final : (dats m 0 c).arrAt 12 cfg0.N = fun i : S4096x1024.Idx => turned (dsecond (argCt m c) (argOut m c) (gates m c) (i 0)) (argAttn m c) (i 1) := by
  refine (dats m 0 c).arrAt_eq_of_covers 12 _ (by decide +kernel) fun t hf y => ?_
  blk_simp
  rw [after0_12]
  dsimp only
  obtain ⟨r, d, rfl⟩ : ∃ (r : Fin 512) (d : Fin 1024), y = ix2 r d := ⟨y 0, y 1, Idealize.ShloMosaic.eq_ix2 y⟩
  have e : (win0_12.blk t).view.emb (ix2 r d) = ix2 (blockRow t r) d := by blk_ext [places_of_blocks t]
  rw [e]
  exact (congrFun (whole_points m c t).2.2.2.2 _).trans (into_second_read m c t r d)

end Cert.Merge

end
-- ==== Proof.Merge.Plain.lean ====
/- What the plain program computes: its intermediate arrays by name, their entries, and its six results. -/
module

public import proofs.«01_k».proof.Proof.Gen.MergeReferenceIdeal.Run
public import proofs.«01_k».proof.Proof.Merge.Points

@[expose] public section

set_option maxRecDepth 16384

noncomputable section

namespace Cert.Merge

open Idealize Idealize.ShloMosaic Idealize.SL.Sem Cert.MergeReferenceIdeal Cert.MergeReferenceIdeal.Gen Cert.Rows Cert.Layout
open scoped BigOperators

/-- Rows of both sequences. -/
abbrev Rows := FVec Ideal S2x2048x1024 .f32

section
variable (C : Rows) (W : FVec Ideal S1024x1024 .f32) (g : FVec Ideal S2x2048x2048 .f32) (a b : Rows)

/-- The gradient of the branches' gated sum. -/
def mergedP : Rows := Host.dotGeneral dot_S2x2048x1024_S1024x1024_S2x2048x1024_2_1_01_0_n_n none C W
def splitP : FVec Ideal S2x2048x2x1024 .f32 := shapeCast S2x2048x2x1024 g shapeCasts_S2x2048x2048_S2x2048x2x1024
/-- The gates of the first branch, and of the second. -/
def lowP : Rows := shapeCast S2x2048x1024 (extractStridedSlice S2x2048x1x1024 ![0, 0, 0, 0] (splitP g) slices_S2x2048x2x1024_S2x2048x1x1024_0_0_0_0) shapeCasts_S2x2048x1x1024_S2x2048x1024
def highP : Rows := shapeCast S2x2048x1024 (extractStridedSlice S2x2048x1x1024 ![0, 0, 1, 0] (splitP g) slices_S2x2048x2x1024_S2x2048x1x1024_0_0_1_0) shapeCasts_S2x2048x1x1024_S2x2048x1024
def dfirstP : Rows := mulf (lowP g) (mergedP C W)
def dsecondP : Rows := mulf (highP g) (mergedP C W)
/-- Rows as the one half of an array of halves. -/
def aloneP (x : Rows) : FVec Ideal S2x2048x1x1024 .f32 := broadcastInDim S2x2048x1x1024 ![0, 1, 3] bcast_S2x2048x1024_S2x2048x1x1024_0_1_3 x
/-- The gradient of the gates. -/
def halvesP : FVec Ideal S2x2048x2x1024 .f32 :=
  addf (pad S2x2048x2x1024 ![0, 0, 1, 0] ![0, 0, 0, 0] ![0, 0, 0, 0] (aloneP (mulf (mergedP C W) b)) (constant S_ .f32 0x00000000#32) pads_S2x2048x1x1024_S2x2048x2x1024_000_000_100_000 h_S_)
    (pad S2x2048x2x1024 ![0, 0, 0, 0] ![0, 0, 1, 0] ![0, 0, 0, 0] (aloneP (mulf (mergedP C W) a)) (constant S_ .f32 0x00000000#32) pads_S2x2048x1x1024_S2x2048x2x1024_000_000_010_000 h_S_)
/-- The gradient of the gates before the logistic. -/
def dgateP : FVec Ideal S2x2048x2048 .f32 :=
  mulf (shapeCast S2x2048x2048 (halvesP C W a b) shapeCasts_S2x2048x2x1024_S2x2048x2048) (mulf g (subf (broadcastInDim S2x2048x2048 ![] bcast_S_S2x2048x2048 (constant S_ .f32 0x3F800000#32)) g))
def dbiasP : FVec Ideal S2048 .f32 :=
  Host.reduceAdd (shapeCast S1x1x2048 (Host.reduceAdd (dgateP C W g a b) (constant S_ .f32 0x00000000#32) reducesTo_S2x2048x2048_S2048_d0_1 h_S_) shapeCasts_S2048_S1x1x2048)
    (constant S_ .f32 0x00000000#32) reducesTo_S1x1x2048_S2048_d0_1 h_S_
def intoFirstP (U : FVec Ideal S512x1024 .f32) : FVec Ideal S2x2048x512 .f32 := Host.dotGeneral dot_S2x2048x1024_S512x1024_S2x2048x512_2_1_01_0_n_n none (dfirstP C W g) U
def intoSecondP (U : FVec Ideal S1024x1024 .f32) : Rows := Host.dotGeneral dot_S2x2048x1024_S1024x1024_S2x2048x1024_2_1_01_0_n_n none (dsecondP C W g) U
end

variable (C : Rows) (W : FVec Ideal S1024x1024 .f32) (g : FVec Ideal S2x2048x2048 .f32) (a b : Rows) (r : Fin 4096) (s : Fin 2) (q : Fin 2048) (d : Fin 1024)

theorem turned_plain (x : Rows) (U : FVec Ideal S1024x1024 .f32) :
    (Host.dotGeneral dot_S2x2048x1024_S1024x1024_S2x2048x1024_2_1_01_0_n_n none x U : Rows) (ix3 s q d) = turned (tokRow x s q) U d := by
  pointwise
  rfl
theorem low_plain : lowP g (ix3 s q d) = g (ix3 s q (low d)) := by
  pointwise [lowP, splitP]
theorem high_plain : highP g (ix3 s q d) = g (ix3 s q (high d)) := by
  pointwise [highP, splitP]
theorem dfirst_plain : rowAt (dfirstP C W g) r d = dfirst C W g r d := by
  pointwise [dfirstP]
  rw [low_plain, mul_comm]
  exact congrArg (· * _) (turned_plain _ _ d C W)
theorem dsecond_plain : rowAt (dsecondP C W g) r d = dsecond C W g r d := by
  pointwise [dsecondP]
  rw [high_plain, mul_comm]
  exact congrArg (· * _) (turned_plain _ _ d C W)
theorem halves_low : shapeCast S2x2048x2048 (halvesP C W a b) shapeCasts_S2x2048x2x1024_S2x2048x2048 (ix3 s q (low d)) = mergedP C W (ix3 s q d) * a (ix3 s q d) := by
  pointwise [halvesP, aloneP]
  have e : (⟨d.val % 1024, by omega⟩ : Fin 1024) = d := Fin.ext (by show d.val % 1024 = d.val; omega)
  refine (congrArg₂ (· + ·) (dif_neg (by omega)) (dif_pos (by omega))).trans ((zero_add _).trans ?_)
  rw [e]
theorem halves_high : shapeCast S2x2048x2048 (halvesP C W a b) shapeCasts_S2x2048x2x1024_S2x2048x2048 (ix3 s q (high d)) = mergedP C W (ix3 s q d) * b (ix3 s q d) := by
  pointwise [halvesP, aloneP]
  have e : (⟨(1024 + d.val) % 1024, by omega⟩ : Fin 1024) = d := Fin.ext (by show (1024 + d.val) % 1024 = d.val; omega)
  refine (congrArg₂ (· + ·) (dif_pos (by omega)) (dif_neg (by omega))).trans ((add_zero _).trans ?_)
  rw [e]
theorem dgate_plain (k : Fin 2048) : rowAt (dgateP C W g a b) r k = dgate C W g a b r k := by
  have h (x : FVec Ideal S2x2048x2048 .f32) (s : Fin 2) (q : Fin 2048) (k : Fin 2048) :
      mulf x (mulf g (subf (broadcastInDim S2x2048x2048 ![] bcast_S_S2x2048x2048 (constant (F := Ideal) S_ .f32 0x3F800000#32)) g)) (ix3 s q k) =
        x (ix3 s q k) * (g (ix3 s q k) * (1 - g (ix3 s q k))) := by pointwise
  refine (h _ _ _ k).trans ?_
  rcases half k with ⟨d, rfl⟩ | ⟨d, rfl⟩
  · rw [halves_low, dgate_low]
    unfold throughGate
    rw [show mergedP C W (ix3 _ _ d) = merged C W r d from turned_plain _ _ d C W]
  · rw [halves_high, dgate_high]
    unfold throughGate
    rw [show mergedP C W (ix3 _ _ d) = merged C W r d from turned_plain _ _ d C W]

theorem dfirst_result : (shapeCast S4096x1024 (dfirstP C W g) shapeCasts_S2x2048x1024_S4096x1024 : FVec Ideal S4096x1024 .f32) =
    fun i : S4096x1024.Idx => dfirst C W g (i 0) (i 1) :=
  stacked_eq _ _ fun r d => dfirst_plain C W g r d
theorem dsecond_result : (shapeCast S4096x1024 (dsecondP C W g) shapeCasts_S2x2048x1024_S4096x1024 : FVec Ideal S4096x1024 .f32) =
    fun i : S4096x1024.Idx => dsecond C W g (i 0) (i 1) :=
  stacked_eq _ _ fun r d => dsecond_plain C W g r d
theorem dgate_result : (shapeCast S4096x2048 (dgateP C W g a b) shapeCasts_S2x2048x2048_S4096x2048 : FVec Ideal S4096x2048 .f32) =
    fun i : S4096x2048.Idx => dgate C W g a b (i 0) (i 1) :=
  stacked_eq _ _ fun r k => dgate_plain C W g a b r k
theorem dbias_result : (shapeCast S1x2048 (dbiasP C W g a b) shapeCasts_S2048_S1x2048 : FVec Ideal S1x2048 .f32) =
    fun i : S1x2048.Idx => ∑ r, dgate C W g a b r (i 1) :=
  row_eq _ _ fun k => (sumRows_apply reducesTo_S2x2048x2048_S2048_d0_1 reducesTo_S1x1x2048_S2048_d0_1 shapeCasts_S2048_S1x1x2048 h_S_ _ k).trans
    (Finset.sum_congr rfl fun r _ => dgate_plain C W g a b r k)
theorem into_first_result (U : FVec Ideal S512x1024 .f32) : (shapeCast S4096x512 (intoFirstP C W g U) shapeCasts_S2x2048x512_S4096x512 : FVec Ideal S4096x512 .f32) =
    fun i : S4096x512.Idx => turned (dfirst C W g (i 0)) U (i 1) :=
  stacked_eq (X := intoFirstP C W g U) shapeCasts_S2x2048x512_S4096x512 (f := fun r j => turned (dfirst C W g r) U j) fun r j => by
    show intoFirstP C W g U (ix3 _ _ j) = _
    pointwise [intoFirstP]
    exact Finset.sum_congr rfl fun d _ => congrArg (· * _) (dfirst_plain C W g r d)
theorem into_second_result (U : FVec Ideal S1024x1024 .f32) : (shapeCast S4096x1024 (intoSecondP C W g U) shapeCasts_S2x2048x1024_S4096x1024 : FVec Ideal S4096x1024 .f32) =
    fun i : S4096x1024.Idx => turned (dsecond C W g (i 0)) U (i 1) :=
  stacked_eq _ _ fun r j => (turned_plain _ _ j _ U).trans (Finset.sum_congr rfl fun d _ => congrArg (· * _) (dsecond_plain C W g r d))

end Cert.Merge

end
-- ==== Proof.Merge.Final.lean ====
/- The gated merge: the two programs, launched over the same arguments, end with the same six results. -/
module

public import proofs.«01_k».proof.Defs
public import proofs.«01_k».proof.Proof.Merge.Plain

@[expose] public section

set_option maxRecDepth 16384

noncomputable section

namespace Cert.Merge

open Idealize.ShloMosaic Idealize.SL.Sem

/-- The plain program declares no semaphore, so a run of it that leaves the arguments unchanged is the whole frame. -/
theorem reference : Cert.quiescent_MergeReferenceIdeal := fun m g _ =>
  (θ_run _ _ _).mono (fun _ h => ⟨fun c => (h c).2.2.2.2.2.2, funext fun s => by rcases s with ⟨_, s | s⟩ <;> exact Fin.elim0 s⟩)
    (Cert.MergeReferenceIdeal.Value.run m g)

set_option maxHeartbeats 2000000 in
/-- Launched over the same arguments, whatever they are, the two programs end with the same six results. -/
theorem value : Cert.algebraic_MergeKernelIdeal_MergeReferenceIdeal := by
  intro m g m' g' _ hagree
  refine ⟨fun c => (Cert.MergeKernelIdeal.Gen.dats m 0 c).arrAt 7 Cert.MergeKernelIdeal.cfg0.N, fun c => (Cert.MergeKernelIdeal.Gen.dats m 0 c).arrAt 8 Cert.MergeKernelIdeal.cfg0.N,
    fun c => (Cert.MergeKernelIdeal.Gen.dats m 0 c).arrAt 9 Cert.MergeKernelIdeal.cfg0.N, fun c => (Cert.MergeKernelIdeal.Gen.dats m 0 c).arrAt 10 Cert.MergeKernelIdeal.cfg0.N,
    fun c => (Cert.MergeKernelIdeal.Gen.dats m 0 c).arrAt 11 Cert.MergeKernelIdeal.cfg0.N, fun c => (Cert.MergeKernelIdeal.Gen.dats m 0 c).arrAt 12 Cert.MergeKernelIdeal.cfg0.N,
    Cert.MergeKernelIdeal.Value.run_blocks m g, ?_⟩
  refine (θ_run _ _ _).mono (fun r h c => ?_) (Cert.MergeReferenceIdeal.Value.run m' g')
  obtain ⟨h0, h1, h2, h3, h4, h5, h6⟩ := h c
  obtain ⟨a0, a1, a2, a3, a4, a5, a6, a7, a8⟩ := hagree c
  rw [a0, a1, a2, a7, a8] at h0 h1
  rw [a0, a1, a2, a3, a4, a5, a6, a7, a8] at h2 h3
  rw [a0, a1, a2, a5, a7, a8] at h4
  rw [a0, a1, a2, a6, a7, a8] at h5
  refine ⟨h0.trans ?_, h1.trans ?_, h2.trans ?_, h3.trans ?_, h4.trans ?_, h5.trans ?_, h6⟩
  · exact Eq.trans (dfirst_result (argCt m c) (argOut m c) (gates m c)) (dfirst_final m c).symm
  · exact Eq.trans (dsecond_result (argCt m c) (argOut m c) (gates m c)) (dsecond_final m c).symm
  · exact Eq.trans (dgate_result (argCt m c) (argOut m c) (gates m c) (first m c) (second m c)) (dgate_final m c).symm
  · exact Eq.trans (dbias_result (argCt m c) (argOut m c) (gates m c) (first m c) (second m c)) (dbias_final m c).symm
  · exact Eq.trans (into_first_result (argCt m c) (argOut m c) (gates m c) (argPool m c)) (into_first_final m c).symm
  · exact Eq.trans (into_second_result (argCt m c) (argOut m c) (gates m c) (argAttn m c)) (into_second_final m c).symm

end Cert.Merge

end
-- ==== Proof.Mixer.Stage.lean ====
/-
  The backward of the mixer's input, one grid point at a time: the buffers a point works on, the blocks it finds
  in the input buffers, and what "a run of the body" means.  The body reads eighteen blocks and fills six output
  buffers; three of the outputs are sums over the points, which the first point starts and the others add to.
-/
module

public import proofs.«01_k».proof.Proof.Gen.MixerKernelIdeal.Frame.Runs
public import Idealize.ShloMosaic.Lib.Claim

@[expose] public section

set_option maxRecDepth 16384

noncomputable section

namespace Cert.Mixer

open Cert.MixerKernelIdeal Cert.MixerKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The state assertions speak of: the memory of the cores, with values in `Elt F`. -/
abbrev State (F : FTy → Type) [FloatOps F] := MT nD τ sig Unit (Elt F) ℕ (UR sig nD τ) ℕ

/-- A buffer next to the core, for blocks of the given shape. -/
abbrev Buffer (sh : Shape) (e : EltTy) := Memref sig .tc .vmem sh e

/-- The twenty-four buffers of one point: eighteen inputs, then the six outputs; each is whole. -/
structure Stage where
  a1 : Buffer S256x2048 .bf16
  h1 : a1.IsWhole
  a2 : Buffer S256x2048 .bf16
  h2 : a2.IsWhole
  a3 : Buffer S256x128 .f32
  h3 : a3.IsWhole
  a4 : Buffer S256x384 .f32
  h4 : a4.IsWhole
  a5 : Buffer S256x256 .f32
  h5 : a5.IsWhole
  a6 : Buffer S256x512 .f32
  h6 : a6.IsWhole
  a7 : Buffer S256x2048 .bf16
  h7 : a7.IsWhole
  a8 : Buffer S256x1024 .f32
  h8 : a8.IsWhole
  a9 : Buffer S256x1024 .f32
  h9 : a9.IsWhole
  a10 : Buffer S3264x1024 .bf16
  h10 : a10.IsWhole
  a11 : Buffer S2048x384 .bf16
  h11 : a11.IsWhole
  a12 : Buffer S256x2048 .bf16
  h12 : a12.IsWhole
  a13 : Buffer S1x1024 .f32
  h13 : a13.IsWhole
  a14 : Buffer S1x384 .f32
  h14 : a14.IsWhole
  a15 : Buffer S1x256 .f32
  h15 : a15.IsWhole
  a16 : Buffer S256x128 .f32
  h16 : a16.IsWhole
  a17 : Buffer S256x128 .f32
  h17 : a17.IsWhole
  a18 : Buffer S256x128 .f32
  h18 : a18.IsWhole
  a19 : Buffer S256x1280 .bf16
  h19 : a19.IsWhole
  a20 : Buffer S256x2048 .bf16
  h20 : a20.IsWhole
  a21 : Buffer S1x384 .f32
  h21 : a21.IsWhole
  a22 : Buffer S1x256 .f32
  h22 : a22.IsWhole
  a23 : Buffer S256x1024 .f32
  h23 : a23.IsWhole
  a24 : Buffer S1x1024 .f32
  h24 : a24.IsWhole

variable {F : FTy → Type} [FloatOps F]

/-- The blocks the input buffers hold. -/
structure Held (F : FTy → Type) [FloatOps F] where
  x0 : Vec F S256x2048 .bf16
  x1 : Vec F S256x2048 .bf16
  x2 : Vec F S256x128 .f32
  x3 : Vec F S256x384 .f32
  x4 : Vec F S256x256 .f32
  x5 : Vec F S256x512 .f32
  x6 : Vec F S256x2048 .bf16
  x7 : Vec F S256x1024 .f32
  x8 : Vec F S256x1024 .f32
  x9 : Vec F S3264x1024 .bf16
  x10 : Vec F S2048x384 .bf16
  x11 : Vec F S256x2048 .bf16
  x12 : Vec F S1x1024 .f32
  x13 : Vec F S1x384 .f32
  x14 : Vec F S1x256 .f32
  x15 : Vec F S256x128 .f32
  x16 : Vec F S256x128 .f32
  x17 : Vec F S256x128 .f32

/-- What a run writes: for each output buffer the pieces stored, the last one first. -/
structure Left (F : FTy → Type) [FloatOps F] where
  l18 : List (View.Piece (Elt F) S256x1280 .bf16)
  l19 : List (View.Piece (Elt F) S256x2048 .bf16)
  l20 : List (View.Piece (Elt F) S1x384 .f32)
  l21 : List (View.Piece (Elt F) S1x256 .f32)
  l22 : List (View.Piece (Elt F) S256x1024 .f32)
  l23 : List (View.Piece (Elt F) S1x1024 .f32)

/-- The contents of the six output buffers. -/
structure Outs (F : FTy → Type) [FloatOps F] where
  o18 : Vec F S256x1280 .bf16
  o19 : Vec F S256x2048 .bf16
  o20 : Vec F S1x384 .f32
  o21 : Vec F S1x256 .f32
  o22 : Vec F S256x1024 .f32
  o23 : Vec F S1x1024 .f32

/-- Pieces read back, over contents that do not matter once the pieces cover the buffer. -/
def Left.read (L : Left F) : Outs F where
  o18 := VO0_18.read (Elt F) (VO0_18.writes (Elt F) VO0_18.junk L.l18)
  o19 := VO0_19.read (Elt F) (VO0_19.writes (Elt F) VO0_19.junk L.l19)
  o20 := VO0_20.read (Elt F) (VO0_20.writes (Elt F) VO0_20.junk L.l20)
  o21 := VO0_21.read (Elt F) (VO0_21.writes (Elt F) VO0_21.junk L.l21)
  o22 := VO0_22.read (Elt F) (VO0_22.writes (Elt F) VO0_22.junk L.l22)
  o23 := VO0_23.read (Elt F) (VO0_23.writes (Elt F) VO0_23.junk L.l23)

/-- Every entry of every output buffer is written. -/
structure Left.Full (L : Left F) : Prop where
  f18 : ∀ y, ∃ p ∈ L.l18, y ∈ p.1.set
  f19 : ∀ y, ∃ p ∈ L.l19, y ∈ p.1.set
  f20 : ∀ y, ∃ p ∈ L.l20, y ∈ p.1.set
  f21 : ∀ y, ∃ p ∈ L.l21, y ∈ p.1.set
  f22 : ∀ y, ∃ p ∈ L.l22, y ∈ p.1.set
  f23 : ∀ y, ∃ p ∈ L.l23, y ∈ p.1.set

/-- The core holds a whole buffer with a known block in it. -/
abbrev full (c : Dev nD) {sh : Shape} {e : EltTy} (a : Buffer sh e) (h : a.IsWhole) (x : Vec F sh e) : sProp (State F) :=
  iprop(a.view.loc (c : Thread nD τ) ↦[a.view.set]{fullShare} h.unread x)

/-- The core holds a buffer, whatever is in it. -/
abbrev hold (c : Dev nD) {sh : Shape} {e : EltTy} (a : Buffer sh e) : sProp (State F) :=
  iprop(∃ f, a.view.loc (c : Thread nD τ) ↦[a.view.set]{fullShare} f)

/-- The core holds a buffer into which the pieces have been stored. -/
abbrev wrote (c : Dev nD) {sh : Shape} {e : EltTy} (a : Buffer sh e) (L : List (View.Piece (Elt F) sh e)) : sProp (State F) :=
  iprop(∃ f, a.view.loc (c : Thread nD τ) ↦[a.view.set]{fullShare} a.view.writes (Elt F) f L)

/-- The input buffers, at their blocks. -/
abbrev inputs (c : Dev nD) (s : Stage) (x : Held F) : sProp (State F) :=
  iprop(full c s.a1 s.h1 x.x0 ∗ full c s.a2 s.h2 x.x1 ∗ full c s.a3 s.h3 x.x2 ∗ full c s.a4 s.h4 x.x3
    ∗ full c s.a5 s.h5 x.x4 ∗ full c s.a6 s.h6 x.x5 ∗ full c s.a7 s.h7 x.x6 ∗ full c s.a8 s.h8 x.x7
    ∗ full c s.a9 s.h9 x.x8 ∗ full c s.a10 s.h10 x.x9 ∗ full c s.a11 s.h11 x.x10 ∗ full c s.a12 s.h12 x.x11
    ∗ full c s.a13 s.h13 x.x12 ∗ full c s.a14 s.h14 x.x13 ∗ full c s.a15 s.h15 x.x14 ∗ full c s.a16 s.h16 x.x15
    ∗ full c s.a17 s.h17 x.x16 ∗ full c s.a18 s.h18 x.x17)

/-- The output buffers before the first point: anything is in them. -/
abbrev fresh (c : Dev nD) (s : Stage) : sProp (State F) :=
  iprop(hold (F := F) c s.a19 ∗ hold (F := F) c s.a20 ∗ hold (F := F) c s.a21 ∗ hold (F := F) c s.a22
    ∗ hold (F := F) c s.a23 ∗ hold (F := F) c s.a24)

/-- The output buffers before a later point: the three sums as the point before left them. -/
abbrev carried (c : Dev nD) (s : Stage) (o : Outs F) : sProp (State F) :=
  iprop(hold (F := F) c s.a19 ∗ hold (F := F) c s.a20 ∗ full c s.a21 s.h21 o.o20 ∗ full c s.a22 s.h22 o.o21
    ∗ hold (F := F) c s.a23 ∗ full c s.a24 s.h24 o.o23)

/-- The output buffers after a point. -/
abbrev written (c : Dev nD) (s : Stage) (L : Left F) : sProp (State F) :=
  iprop(wrote c s.a19 L.l18 ∗ wrote c s.a20 L.l19 ∗ wrote c s.a21 L.l20 ∗ wrote c s.a22 L.l21 ∗ wrote c s.a23 L.l22
    ∗ wrote c s.a24 L.l23)

/-- The body of the kernel at the point with the coordinates `i`. -/
abbrev bodyOn (i : grid0.Coords) (s : Stage) :=
  cc0_mix_in_bwd (F := F) i s.a1 s.h1 s.a2 s.h2 s.a3 s.h3 s.a4 s.h4 s.a5 s.h5 s.a6 s.h6 s.a7 s.h7 s.a8 s.h8 s.a9 s.h9
    s.a10 s.h10 s.a11 s.h11 s.a12 s.h12 s.a13 s.h13 s.a14 s.h14 s.a15 s.h15 s.a16 s.h16 s.a17 s.h17 s.a18 s.h18
    s.a19 s.h19 s.a20 s.h20 s.a21 s.h21 s.a22 s.h22 s.a23 s.h23 s.a24 s.h24

/-- The body, started with the output buffers in the state `P`, ends, leaves the inputs as they were and has stored
    the pieces `L`. -/
def Runs (c : Dev nD) (i : grid0.Coords) (s : Stage) (x : Held F) (P : sProp (State F)) (L : Left F) : Prop :=
  ∀ (E : Set ℕ) (K : PUnit → sProp (State F)),
    iprop(inputs c s x ∗ P ∗ (iprop(inputs c s x ∗ written c s L) -∗ K ⟨⟩))
      ⊢ wp frame (wpE (defs₀ (F := F)) Variants.none c none) E (bodyOn i s) K

end Cert.Mixer

end
-- ==== Proof.Mixer.Run.lean ====
/-
  The body of the mixer's backward, run at the first point (it starts the three sums) and at a later point (it
  adds to them).  A run finds the pieces each output buffer is left with.
-/
module

public import proofs.«01_k».proof.Proof.Mixer.Stage

@[expose] public section

set_option maxRecDepth 16384

noncomputable section

namespace Cert.Mixer

open Cert.MixerKernelIdeal Cert.MixerKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

set_option maxHeartbeats 2000000 in
/-- The body at a first point runs, from any contents of the output buffers, and these are the pieces it stores. -/
noncomputable def firstRun (c : Dev nD) (i : grid0.Coords) (s : Stage) (x : Held F) (hc0 : cond0_0 i) (hc1 : ¬cond0_1 i) :
    { L : Left F // Runs c i s x (fresh c s) L } := by
  refine ⟨⟨?_, ?_, ?_, ?_, ?_, ?_⟩, fun E K => ?run⟩
  case run =>
    dsimp only [full, hold, wrote, inputs, fresh, written, bodyOn]
    simp only [cc0_mix_in_bwd_eq_skeleton]
    unfold cc0_mix_in_bwd_skel
    simp only [k0_part1_eq_skeleton, k0_part2_eq_skeleton, k0_part3_eq_skeleton, k0_part4_eq_skeleton,
      k0_part5_eq_skeleton, k0_part6_eq_skeleton, k0_part7_eq_skeleton]
    iintro ⟨⟨A0, A1, A2, A3, A4, A5, A6, A7, A8, A9, A10, A11, A12, A13, A14, A15, A16, A17⟩,
      ⟨⟨%f18, B18⟩, ⟨%f19, B19⟩, ⟨%f20, B20⟩, ⟨%f21, B21⟩, ⟨%f22, B22⟩, ⟨%f23, B23⟩⟩, Hk⟩
    sl_exec (disch := first | sl_exact hc0 | sl_exact hc1)
    sl_step
    iapply Hk
    isplitl [A0 A1 A2 A3 A4 A5 A6 A7 A8 A9 A10 A11 A12 A13 A14 A15 A16 A17]
    · iframe
    isplitl [B18]; · iexists _; iexact B18
    isplitl [B19]; · iexists _; iexact B19
    isplitl [B20]; · iexists _; iexact B20
    isplitl [B21]; · iexists _; iexact B21
    isplitl [B22]; · iexists _; iexact B22
    iexists _; iexact B23

set_option maxHeartbeats 2000000 in
/-- The body at a later point runs, from the sums `o` the point before left, and these are the pieces it stores. -/
noncomputable def laterRun (c : Dev nD) (i : grid0.Coords) (s : Stage) (x : Held F) (o : Outs F) (hc0 : ¬cond0_0 i)
    (hc1 : cond0_1 i) : { L : Left F // Runs c i s x (carried c s o) L } := by
  refine ⟨⟨?_, ?_, ?_, ?_, ?_, ?_⟩, fun E K => ?run⟩
  case run =>
    dsimp only [full, hold, wrote, inputs, carried, written, bodyOn]
    simp only [cc0_mix_in_bwd_eq_skeleton]
    unfold cc0_mix_in_bwd_skel
    simp only [k0_part1_eq_skeleton, k0_part2_eq_skeleton, k0_part3_eq_skeleton, k0_part4_eq_skeleton,
      k0_part5_eq_skeleton, k0_part6_eq_skeleton, k0_part7_eq_skeleton]
    iintro ⟨⟨A0, A1, A2, A3, A4, A5, A6, A7, A8, A9, A10, A11, A12, A13, A14, A15, A16, A17⟩,
      ⟨⟨%f18, B18⟩, ⟨%f19, B19⟩, B20, B21, ⟨%f22, B22⟩, B23⟩, Hk⟩
    sl_exec (disch := first | sl_exact hc0 | sl_exact hc1)
    sl_step
    iapply Hk
    isplitl [A0 A1 A2 A3 A4 A5 A6 A7 A8 A9 A10 A11 A12 A13 A14 A15 A16 A17]
    · iframe
    isplitl [B18]; · iexists _; iexact B18
    isplitl [B19]; · iexists _; iexact B19
    isplitl [B20]; · iexists _; iexact B20
    isplitl [B21]; · iexists _; iexact B21
    isplitl [B22]; · iexists _; iexact B22
    iexists _; iexact B23

end Cert.Mixer

end
-- ==== Proof.Mixer.Contents.lean ====
/-
  The backward of the mixer's input, sixteen points: the first run once and the later run fifteen times.  The pieces of
  a run fill the output buffers, so what each buffer holds after each point is known.
-/
module

public import proofs.«01_k».proof.Proof.Mixer.Run

@[expose] public section

set_option maxRecDepth 16384

noncomputable section

namespace Cert.Mixer

open Cert.MixerKernelIdeal Cert.MixerKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ## The pieces cover the outputs -/

theorem firstRun_full (c : Dev nD) (i : grid0.Coords) (s : Stage) (x : Held F) (hc0 : cond0_0 i) (hc1 : ¬cond0_1 i) :
    (firstRun c i s x hc0 hc1).1.Full where
  f18 := View.cover_of_tiledBy _ ![256, 128] (by sl_kernel_rfl)
  f19 := View.cover_of_tiledL _ S256x128.size (by sl_kernel_rfl)
  f20 := View.cover_of_tiledL _ S1x384.size (by sl_kernel_rfl)
  f21 := View.cover_of_tiledL _ S1x256.size (by sl_kernel_rfl)
  f22 := View.cover_of_tiledL _ S256x1024.size (by sl_kernel_rfl)
  f23 := View.cover_of_tiledL _ S1x1024.size (by sl_kernel_rfl)

theorem laterRun_full (c : Dev nD) (i : grid0.Coords) (s : Stage) (x : Held F) (o : Outs F) (hc0 : ¬cond0_0 i)
    (hc1 : cond0_1 i) : (laterRun c i s x o hc0 hc1).1.Full where
  f18 := View.cover_of_tiledBy _ ![256, 128] (by sl_kernel_rfl)
  f19 := View.cover_of_tiledL _ S256x128.size (by sl_kernel_rfl)
  f20 := View.cover_of_tiledL _ S1x384.size (by sl_kernel_rfl)
  f21 := View.cover_of_tiledL _ S1x256.size (by sl_kernel_rfl)
  f22 := View.cover_of_tiledL _ S256x1024.size (by sl_kernel_rfl)
  f23 := View.cover_of_tiledL _ S1x1024.size (by sl_kernel_rfl)

/-! ## Point by point -/

/-- The buffers in use at point `t`. -/
noncomputable def slots (t : Fin cfg0.N) : Stage :=
  ⟨ms0_0 t, hs0_0 t, ms0_1 t, hs0_1 t, ms0_2 t, hs0_2 t, ms0_3 t, hs0_3 t, ms0_4 t, hs0_4 t, ms0_5 t, hs0_5 t,
   ms0_6 t, hs0_6 t, ms0_7 t, hs0_7 t, ms0_8 t, hs0_8 t, ms0_9 t, hs0_9 t, ms0_10 t, hs0_10 t, ms0_11 t, hs0_11 t,
   ms0_12 t, hs0_12 t, ms0_13 t, hs0_13 t, ms0_14 t, hs0_14 t, ms0_15 t, hs0_15 t, ms0_16 t, hs0_16 t,
   ms0_17 t, hs0_17 t, ms0_18 t, hs0_18 t, ms0_19 t, hs0_19 t, ms0_20 t, hs0_20 t, ms0_21 t, hs0_21 t,
   ms0_22 t, hs0_22 t, ms0_23 t, hs0_23 t⟩

variable (m : (ℓ : Loc nD τ sig) → Buf (Elt F) ℓ) (ρ : Dev nD → PrngReg)

/-- The blocks of the input arrays at point `t`. -/
noncomputable def blocks (c : Dev nD) (t : Fin cfg0.N) : Held F :=
  ⟨iblk m c 0 t, iblk m c 1 t, iblk m c 2 t, iblk m c 3 t, iblk m c 4 t, iblk m c 5 t, iblk m c 6 t, iblk m c 7 t,
   iblk m c 8 t, iblk m c 9 t, iblk m c 10 t, iblk m c 11 t, iblk m c 12 t, iblk m c 13 t, iblk m c 14 t,
   iblk m c 15 t, iblk m c 16 t, iblk m c 17 t⟩

theorem at_first (t : Fin cfg0.N) (h : t.val = 0) : cond0_0 (grid0.coords t) ∧ ¬cond0_1 (grid0.coords t) :=
  ⟨(hcond0_0 t).2 (by omega), fun g => absurd ((hcond0_1 t).1 g) (by omega)⟩

theorem at_later (t : Fin cfg0.N) (h : t.val ≠ 0) : ¬cond0_0 (grid0.coords t) ∧ cond0_1 (grid0.coords t) := by
  have hN : t.val < 16 := lt_of_lt_of_eq t.isLt N_0
  exact ⟨fun g => absurd ((hcond0_0 t).1 g) (by omega), (hcond0_1 t).2 (by omega)⟩

/-- The pieces stored at the first point. -/
noncomputable def firstPieces (c : Dev nD) (t : Fin cfg0.N) (h : t.val = 0) : Left F :=
  (firstRun c (grid0.coords t) (slots t) (blocks m c t) (at_first t h).1 (at_first t h).2).1

/-- The pieces stored at a later point, over the outputs `o` the point before left. -/
noncomputable def laterPieces (c : Dev nD) (t : Fin cfg0.N) (o : Outs F) (h : t.val ≠ 0) : Left F :=
  (laterRun c (grid0.coords t) (slots t) (blocks m c t) o (at_later t h).1 (at_later t h).2).1

/-- What the output buffers hold after point `n`. -/
noncomputable def outsAt (c : Dev nD) : (n : ℕ) → n < cfg0.N → Outs F
  | 0, hn => (firstPieces m c ⟨0, hn⟩ rfl).read
  | n + 1, hn => (laterPieces m c ⟨n + 1, hn⟩ (outsAt c n (Nat.lt_of_succ_lt hn)) (Nat.succ_ne_zero n)).read

/-- The outputs the point before `t` left. -/
noncomputable def outsBefore (c : Dev nD) (t : Fin cfg0.N) : Outs F :=
  outsAt m c (t.val - 1) (Nat.lt_of_le_of_lt (Nat.sub_le _ _) t.isLt)

theorem outsAt_first (c : Dev nD) : ∀ (t : Fin cfg0.N) (h : t.val = 0),
    outsAt m c t.val t.isLt = (firstPieces m c t h).read
  | ⟨0, _⟩, _ => rfl

theorem outsAt_later (c : Dev nD) : ∀ (t : Fin cfg0.N) (h : t.val ≠ 0),
    outsAt m c t.val t.isLt = (laterPieces m c t (outsBefore m c t) h).read
  | ⟨0, _⟩, h => absurd rfl h
  | ⟨n + 1, _⟩, _ => rfl

/-- The contents the launch is proved with: an input buffer holds its block, an output buffer what the points so far
    left in it. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt m c t.val t.isLt).o18
    | ⟨19, _⟩ => (outsAt m c t.val t.isLt).o19
    | ⟨20, _⟩ => (outsAt m c t.val t.isLt).o20
    | ⟨21, _⟩ => (outsAt m c t.val t.isLt).o21
    | ⟨22, _⟩ => (outsAt m c t.val t.isLt).o22
    | ⟨23, _⟩ => (outsAt m c t.val t.isLt).o23
    | ⟨_ + 24, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

end Cert.Mixer

end
-- ==== Proof.Mixer.Frame.lean ====
/-
  The backward of the mixer's input as a whole launch: from the runs of the body follow that the launch ends
  with its arguments unchanged and nothing in flight, and what the output arrays then are.
-/
module

public import proofs.«01_k».proof.Proof.Mixer.Contents

@[expose] public section

set_option maxRecDepth 16384

noncomputable section

namespace Cert.Mixer

open Cert.MixerKernelIdeal Cert.MixerKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## Buffers in and out of a point -/

theorem both {P P' Q Q' : sProp (State F)} (h : P ⊢ P') (k : Q ⊢ Q') : iprop(P ∗ Q) ⊢ iprop(P' ∗ Q') :=
  BIClass.sep_mono h k

theorem regroup (P Q R : sProp (State F)) : iprop((P ∗ Q) ∗ R) = iprop(P ∗ Q ∗ R) :=
  equiv_iff.mp ⟨BI.sep_assoc, BI.sep_assoc'⟩

theorem full_of_found {c : Dev nD} {sh : Shape} {e : EltTy} {a : Buffer sh e} (h : a.IsWhole) {x : Vec F sh e}
    {g : Vec F sh e → Vec F sh e} (hg : ∀ d, g d = x) :
    iprop(∃ d, owns (c : Thread nD τ) a fullShare (g d)) ⊢ (full c a h x : sProp (State F)) := by
  unfold owns
  iintro ⟨%d, %f, %hf, H⟩
  obtain rfl := h.eq_unread (hf.trans (hg d))
  iexact H

theorem hold_of_found {c : Dev nD} {sh : Shape} {e : EltTy} {a : Buffer sh e} {g : Vec F sh e → Vec F sh e} :
    iprop(∃ d, owns (c : Thread nD τ) a fullShare (g d)) ⊢ (hold (F := F) c a : sProp (State F)) := by
  unfold owns
  iintro ⟨%d, %f, -, H⟩
  iexists f
  iexact H

/-- What the body finds in the buffer of window `w`, and what it must leave there. -/
noncomputable abbrev found (c : Dev nD) (t : Fin cfg0.N) (w : Fin cfg0.W) : sProp (State F) :=
  iprop(∃ d, owns (c : Thread nD τ) ((cfg0.win w).stage (cfg0.slots t w)) fullShare ((dats m 0 c).before w t d))

noncomputable abbrev left (c : Dev nD) (t : Fin cfg0.N) (w : Fin cfg0.W) : sProp (State F) := (dats m 0 c).leavesExact w t

theorem left_eq (c : Dev nD) (t : Fin cfg0.N) (w : Fin cfg0.W) (hl : cfg0.idle w (grid0.coords t) = false) :
    left m c t w = owns (c : Thread nD τ) ((cfg0.win w).stage (cfg0.slots t w)) fullShare ((dats m 0 c).after w t) := by
  unfold left Dat.leavesExact
  rw [hl]

theorem owns_of_full {c : Dev nD} {sh : Shape} {e : EltTy} {a : Buffer sh e} (h : a.IsWhole) {x : Vec F sh e} :
    (full c a h x : sProp (State F)) ⊢ owns (c : Thread nD τ) a fullShare x := by
  unfold owns
  iintro H
  iexists _
  isplitr
  · ipureintro; exact h.read_unread _
  iexact H

theorem owns_of_wrote {c : Dev nD} {sh : Shape} {e : EltTy} {a : Buffer sh e} {L : List (View.Piece (Elt F) sh e)}
    (v : View sig .tc .vmem sh e) (hL : ∀ y, ∃ p ∈ L, y ∈ p.1.set) {x : Vec F sh e}
    (hx : x = v.read (Elt F) (v.writes (Elt F) v.junk L)) :
    (wrote c a L : sProp (State F)) ⊢ owns (c : Thread nD τ) a fullShare x := by
  subst hx
  unfold owns
  iintro ⟨%f, H⟩
  iexists a.view.writes (Elt F) f L
  isplitr
  · ipureintro; exact View.read_writes_of_cover _ _ _ _ _ hL
  iexact H

set_option maxHeartbeats 8000000 in
theorem inputs_found (c : Dev nD) (t : Fin cfg0.N) :
    iprop(found m c t 0 ∗ found m c t 1 ∗ found m c t 2 ∗ found m c t 3 ∗ found m c t 4 ∗ found m c t 5 ∗
      found m c t 6 ∗ found m c t 7 ∗ found m c t 8 ∗ found m c t 9 ∗ found m c t 10 ∗ found m c t 11 ∗
      found m c t 12 ∗ found m c t 13 ∗ found m c t 14 ∗ found m c t 15 ∗ found m c t 16 ∗ found m c t 17) ⊢ inputs c (slots t) (blocks m c t) :=
  by
  refine both ?_ <| both ?_ <| both ?_ <| both ?_ <| both ?_ <| both ?_ <| both ?_ <| both ?_ <| both ?_ <| both ?_ <|
    both ?_ <| both ?_ <| both ?_ <| both ?_ <| both ?_ <| both ?_ <| both ?_ <| ?_
  · exact full_of_found (hs0_0 t) (before0_0_of m (dats m 0 c) (A_eq m c 0) (fun _ => by dsimp only [dats]) t)
  · exact full_of_found (hs0_1 t) (before0_1_of m (dats m 0 c) (A_eq m c 1) (fun _ => by dsimp only [dats]) t)
  · exact full_of_found (hs0_2 t) (before0_2_of m (dats m 0 c) (A_eq m c 2) (fun _ => by dsimp only [dats]) t)
  · exact full_of_found (hs0_3 t) (before0_3_of m (dats m 0 c) (A_eq m c 3) (fun _ => by dsimp only [dats]) t)
  · exact full_of_found (hs0_4 t) (before0_4_of m (dats m 0 c) (A_eq m c 4) (fun _ => by dsimp only [dats]) t)
  · exact full_of_found (hs0_5 t) (before0_5_of m (dats m 0 c) (A_eq m c 5) (fun _ => by dsimp only [dats]) t)
  · exact full_of_found (hs0_6 t) (before0_6_of m (dats m 0 c) (A_eq m c 6) (fun _ => by dsimp only [dats]) t)
  · exact full_of_found (hs0_7 t) (before0_7_of m (dats m 0 c) (A_eq m c 7) (fun _ => by dsimp only [dats]) t)
  · exact full_of_found (hs0_8 t) (before0_8_of m (dats m 0 c) (A_eq m c 8) (fun _ => by dsimp only [dats]) t)
  · exact full_of_found (hs0_9 t) (before0_9_of m (dats m 0 c) (A_eq m c 9) (fun _ => by dsimp only [dats]) t)
  · exact full_of_found (hs0_10 t) (before0_10_of m (dats m 0 c) (A_eq m c 10) (fun _ => by dsimp only [dats]) t)
  · exact full_of_found (hs0_11 t) (before0_11_of m (dats m 0 c) (A_eq m c 11) (fun _ => by dsimp only [dats]) t)
  · exact full_of_found (hs0_12 t) (before0_12_of m (dats m 0 c) (A_eq m c 12) (fun _ => by dsimp only [dats]) t)
  · exact full_of_found (hs0_13 t) (before0_13_of m (dats m 0 c) (A_eq m c 13) (fun _ => by dsimp only [dats]) t)
  · exact full_of_found (hs0_14 t) (before0_14_of m (dats m 0 c) (A_eq m c 14) (fun _ => by dsimp only [dats]) t)
  · exact full_of_found (hs0_15 t) (before0_15_of m (dats m 0 c) (A_eq m c 15) (fun _ => by dsimp only [dats]) t)
  · exact full_of_found (hs0_16 t) (before0_16_of m (dats m 0 c) (A_eq m c 16) (fun _ => by dsimp only [dats]) t)
  · exact full_of_found (hs0_17 t) (before0_17_of m (dats m 0 c) (A_eq m c 17) (fun _ => by dsimp only [dats]) t)

theorem inputs_left (c : Dev nD) (t : Fin cfg0.N) : inputs c (slots t) (blocks m c t)
    ⊢ iprop(left m c t 0 ∗ left m c t 1 ∗ left m c t 2 ∗ left m c t 3 ∗ left m c t 4 ∗ left m c t 5 ∗ left m c t 6 ∗
      left m c t 7 ∗ left m c t 8 ∗ left m c t 9 ∗ left m c t 10 ∗ left m c t 11 ∗ left m c t 12 ∗ left m c t 13 ∗
      left m c t 14 ∗ left m c t 15 ∗ left m c t 16 ∗ left m c t 17) :=
  have e (w : Fin cfg0.W) (hl : cfg0.idle w (grid0.coords t) = false) := (left_eq m c t w hl).symm
  both ((owns_of_full (hs0_0 t)).trans (.of_eq (e 0 rfl))) <|
    both ((owns_of_full (hs0_1 t)).trans (.of_eq (e 1 rfl))) <|
    both ((owns_of_full (hs0_2 t)).trans (.of_eq (e 2 rfl))) <|
    both ((owns_of_full (hs0_3 t)).trans (.of_eq (e 3 rfl))) <|
    both ((owns_of_full (hs0_4 t)).trans (.of_eq (e 4 rfl))) <|
    both ((owns_of_full (hs0_5 t)).trans (.of_eq (e 5 rfl))) <|
    both ((owns_of_full (hs0_6 t)).trans (.of_eq (e 6 rfl))) <|
    both ((owns_of_full (hs0_7 t)).trans (.of_eq (e 7 rfl))) <|
    both ((owns_of_full (hs0_8 t)).trans (.of_eq (e 8 rfl))) <|
    both ((owns_of_full (hs0_9 t)).trans (.of_eq (e 9 rfl))) <|
    both ((owns_of_full (hs0_10 t)).trans (.of_eq (e 10 rfl))) <|
    both ((owns_of_full (hs0_11 t)).trans (.of_eq (e 11 rfl))) <|
    both ((owns_of_full (hs0_12 t)).trans (.of_eq (e 12 rfl))) <|
    both ((owns_of_full (hs0_13 t)).trans (.of_eq (e 13 rfl))) <|
    both ((owns_of_full (hs0_14 t)).trans (.of_eq (e 14 rfl))) <|
    both ((owns_of_full (hs0_15 t)).trans (.of_eq (e 15 rfl))) <|
    both ((owns_of_full (hs0_16 t)).trans (.of_eq (e 16 rfl))) <|
    (owns_of_full (hs0_17 t)).trans (.of_eq (e 17 rfl))

/-! ## The six outputs -/

theorem live20 (t : Fin cfg0.N) : cfg0.idle 20 (grid0.coords t) = false := by
  by_cases h : t.val = 0
  · exact liveAt0_20_A t (at_first t h).1 (at_first t h).2
  · exact liveAt0_20_B t (at_later t h).1 (at_later t h).2

theorem live21 (t : Fin cfg0.N) : cfg0.idle 21 (grid0.coords t) = false := by
  by_cases h : t.val = 0
  · exact liveAt0_21_A t (at_first t h).1 (at_first t h).2
  · exact liveAt0_21_B t (at_later t h).1 (at_later t h).2

theorem live23 (t : Fin cfg0.N) : cfg0.idle 23 (grid0.coords t) = false := by
  by_cases h : t.val = 0
  · exact liveAt0_23_A t (at_first t h).1 (at_first t h).2
  · exact liveAt0_23_B t (at_later t h).1 (at_later t h).2

/-- An output stored into at every point is found, at a later point, as the point before left it. -/
theorem before_later (c : Dev nD) (w : Fin cfg0.W) (hw : (cfg0.win w).isOut = true)
    (hclip : ∀ (i : cfg0.grid.Coords) a, (cfg0.win w).clip i a = none)
    (hl : ∀ t, cfg0.idle w (grid0.coords t) = false) (t : Fin cfg0.N) (hf : cfg0.fresh w t.val = false) (d) :
    (dats m 0 c).before w t d = (dats m 0 c).after w ⟨t.val - 1, Nat.lt_of_le_of_lt (Nat.sub_le _ _) t.isLt⟩ := by
  rw [Dat.before_out_traj _ w hw hclip (fun t _ hi _ => absurd (hi.symm.trans (hl t)) (by decide)) t.val t rfl d,
    if_neg (by rw [hf]; decide)]

theorem outs_first (c : Dev nD) (t : Fin cfg0.N) :
    iprop(found m c t 18 ∗ found m c t 19 ∗ found m c t 20 ∗ found m c t 21 ∗ found m c t 22 ∗ found m c t 23) ⊢ fresh c (slots t) :=
  both hold_of_found <| both hold_of_found <| both hold_of_found <| both hold_of_found <|
    both hold_of_found hold_of_found

theorem outs_later (c : Dev nD) (t : Fin cfg0.N) (h : t.val ≠ 0) :
    iprop(found m c t 18 ∗ found m c t 19 ∗ found m c t 20 ∗ found m c t 21 ∗ found m c t 22 ∗ found m c t 23) ⊢ carried c (slots t) (outsBefore m c t) :=
  have k := at_later t h
  both hold_of_found <| both hold_of_found <|
    both (full_of_found (hs0_20 t) (before_later m c 20 rfl (fun _ _ => rfl) live20 t (notFresh0_20_B t k.1 k.2))) <|
    both (full_of_found (hs0_21 t) (before_later m c 21 rfl (fun _ _ => rfl) live21 t (notFresh0_21_B t k.1 k.2))) <|
    both hold_of_found
      (full_of_found (hs0_23 t) (before_later m c 23 rfl (fun _ _ => rfl) live23 t (notFresh0_23_B t k.1 k.2)))

theorem outs_left (c : Dev nD) (t : Fin cfg0.N) (L : Left F) (hL : L.Full) (ho : outsAt m c t.val t.isLt = L.read) :
    written c (slots t) L ⊢ iprop(left m c t 18 ∗ left m c t 19 ∗ left m c t 20 ∗ left m c t 21 ∗ left m c t 22 ∗ left m c t 23) :=
  have e (w : Fin cfg0.W) (hl : cfg0.idle w (grid0.coords t) = false) := (left_eq m c t w hl).symm
  both ((owns_of_wrote VO0_18 hL.f18 (congrArg Outs.o18 ho)).trans (.of_eq (e 18 rfl))) <|
    both ((owns_of_wrote VO0_19 hL.f19 (congrArg Outs.o19 ho)).trans (.of_eq (e 19 rfl))) <|
    both ((owns_of_wrote VO0_20 hL.f20 (congrArg Outs.o20 ho)).trans (.of_eq (e 20 (live20 t)))) <|
    both ((owns_of_wrote VO0_21 hL.f21 (congrArg Outs.o21 ho)).trans (.of_eq (e 21 (live21 t)))) <|
    both ((owns_of_wrote VO0_22 hL.f22 (congrArg Outs.o22 ho)).trans (.of_eq (e 22 rfl)))
      ((owns_of_wrote VO0_23 hL.f23 (congrArg Outs.o23 ho)).trans (.of_eq (e 23 (live23 t))))

/-! ## The body at a point -/

/-- A run of the body, with the buffers before and after it restated and the rest of the state kept. -/
theorem Runs.around {c : Dev nD} {i : grid0.Coords} {s : Stage} {x : Held F} {P : sProp (State F)} {L : Left F}
    (r : Runs c i s x P L) {R I O I' O' : sProp (State F)} (hi : I ⊢ inputs c s x) (ho : O ⊢ P)
    (hi' : inputs c s x ⊢ I') (ho' : written c s L ⊢ O') :
    iprop(R ∗ I ∗ O) ⊢ wp frame (wpE (defs₀ (F := F)) Variants.none c none) Set.univ (bodyOn i s)
      fun _ => iprop(R ∗ I' ∗ O') := by
  refine (both .rfl (both hi ho)).trans (BIBase.Entails.trans ?_ (r Set.univ _))
  iintro ⟨HR, HI, HO⟩
  isplitl [HI]; · iexact HI
  isplitl [HO]; · iexact HO
  iintro H
  isplitl [HR]; · iexact HR
  iapply (both hi' ho') $$ H

theorem body_first (c : Dev nD) (t : Fin cfg0.N) (h : t.val = 0) (R : sProp (State F)) :
    iprop(R ∗ (found m c t 0 ∗ found m c t 1 ∗ found m c t 2 ∗ found m c t 3 ∗ found m c t 4 ∗ found m c t 5 ∗
      found m c t 6 ∗ found m c t 7 ∗ found m c t 8 ∗ found m c t 9 ∗ found m c t 10 ∗ found m c t 11 ∗
      found m c t 12 ∗ found m c t 13 ∗ found m c t 14 ∗ found m c t 15 ∗ found m c t 16 ∗ found m c t 17) ∗ (found m c t 18 ∗ found m c t 19 ∗ found m c t 20 ∗ found m c t 21 ∗ found m c t 22 ∗ found m c t 23))
      ⊢ wp frame (wpE (defs₀ (F := F)) Variants.none c none) Set.univ (bodyAt0 t) fun _ =>
        iprop(R ∗ (left m c t 0 ∗ left m c t 1 ∗ left m c t 2 ∗ left m c t 3 ∗ left m c t 4 ∗ left m c t 5 ∗ left m c t 6 ∗
      left m c t 7 ∗ left m c t 8 ∗ left m c t 9 ∗ left m c t 10 ∗ left m c t 11 ∗ left m c t 12 ∗ left m c t 13 ∗
      left m c t 14 ∗ left m c t 15 ∗ left m c t 16 ∗ left m c t 17) ∗ (left m c t 18 ∗ left m c t 19 ∗ left m c t 20 ∗ left m c t 21 ∗ left m c t 22 ∗ left m c t 23)) :=
  (firstRun c (grid0.coords t) (slots t) (blocks m c t) (at_first t h).1 (at_first t h).2).2.around
    (inputs_found m c t) (outs_first m c t) (inputs_left m c t)
    (outs_left m c t _ (firstRun_full ..) (outsAt_first m c t h))

theorem body_later (c : Dev nD) (t : Fin cfg0.N) (h : t.val ≠ 0) (R : sProp (State F)) :
    iprop(R ∗ (found m c t 0 ∗ found m c t 1 ∗ found m c t 2 ∗ found m c t 3 ∗ found m c t 4 ∗ found m c t 5 ∗
      found m c t 6 ∗ found m c t 7 ∗ found m c t 8 ∗ found m c t 9 ∗ found m c t 10 ∗ found m c t 11 ∗
      found m c t 12 ∗ found m c t 13 ∗ found m c t 14 ∗ found m c t 15 ∗ found m c t 16 ∗ found m c t 17) ∗ (found m c t 18 ∗ found m c t 19 ∗ found m c t 20 ∗ found m c t 21 ∗ found m c t 22 ∗ found m c t 23))
      ⊢ wp frame (wpE (defs₀ (F := F)) Variants.none c none) Set.univ (bodyAt0 t) fun _ =>
        iprop(R ∗ (left m c t 0 ∗ left m c t 1 ∗ left m c t 2 ∗ left m c t 3 ∗ left m c t 4 ∗ left m c t 5 ∗ left m c t 6 ∗
      left m c t 7 ∗ left m c t 8 ∗ left m c t 9 ∗ left m c t 10 ∗ left m c t 11 ∗ left m c t 12 ∗ left m c t 13 ∗
      left m c t 14 ∗ left m c t 15 ∗ left m c t 16 ∗ left m c t 17) ∗ (left m c t 18 ∗ left m c t 19 ∗ left m c t 20 ∗ left m c t 21 ∗ left m c t 22 ∗ left m c t 23)) :=
  (laterRun c (grid0.coords t) (slots t) (blocks m c t) (outsBefore m c t) (at_later t h).1 (at_later t h).2).2.around
    (inputs_found m c t) (outs_later m c t h) (inputs_left m c t)
    (outs_left m c t _ (laterRun_full ..) (outsAt_later m c t h))

theorem defs₀_row (t : Fin cfg0.N) :
    defs₀ (F := F) .tc cfg0.body (cfg0.bodyArgs t (cfg0.slots t)) = bodyAt0 t := by
  unfold defs₀; rw [Defs.onTc_tc]

theorem body_at (c : Dev nD) (t : Fin cfg0.N) (R R' : sProp (State F)) :
    iprop(R ∗ R' ∗ found m c t 0 ∗ found m c t 1 ∗ found m c t 2 ∗ found m c t 3 ∗ found m c t 4 ∗ found m c t 5 ∗
      found m c t 6 ∗ found m c t 7 ∗ found m c t 8 ∗ found m c t 9 ∗ found m c t 10 ∗ found m c t 11 ∗
      found m c t 12 ∗ found m c t 13 ∗ found m c t 14 ∗ found m c t 15 ∗ found m c t 16 ∗ found m c t 17 ∗
      found m c t 18 ∗ found m c t 19 ∗ found m c t 20 ∗ found m c t 21 ∗ found m c t 22 ∗ found m c t 23)
      ⊢ wp frame (wpE (defs₀ (F := F)) Variants.none c none) Set.univ (bodyAt0 t) fun _ =>
        iprop(R ∗ R' ∗ left m c t 0 ∗ left m c t 1 ∗ left m c t 2 ∗ left m c t 3 ∗ left m c t 4 ∗ left m c t 5 ∗ left m c t 6 ∗
      left m c t 7 ∗ left m c t 8 ∗ left m c t 9 ∗ left m c t 10 ∗ left m c t 11 ∗ left m c t 12 ∗ left m c t 13 ∗
      left m c t 14 ∗ left m c t 15 ∗ left m c t 16 ∗ left m c t 17 ∗ left m c t 18 ∗ left m c t 19 ∗
      left m c t 20 ∗ left m c t 21 ∗ left m c t 22 ∗ left m c t 23) := by
  by_cases h : t.val = 0
  · simpa only [regroup] using body_first m c t h iprop(R ∗ R')
  · simpa only [regroup] using body_later m c t h iprop(R ∗ R')

set_option maxHeartbeats 1000000 in
theorem body_obligation (c : Dev nD) :
    BodyObligation (dats (F := F) m 0 c) (defs₀ (F := F)) Variants.none () Set.univ := fun t => by
  rw [bigSep_W0, bigSep_W0, defs₀_row]
  exact triple_restated (body_at m c t ((dats m 0 c).Φ t.castSucc) ((dats m 0 c).owesAt () t.castSucc)) rfl .rfl
    fun _ => .rfl

/-! ## The launch -/

set_option backward.isDefEq.respectTransparency.types false in
/-- The launch ends, with every array at the contents named above and nothing in flight. -/
theorem launch_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem launch : θ_run defs (onTc (τ := τ) (main (F := F))) (s₀ m ρ) (Pipeline.FramePost cfgs (dats m) 0 (V m)) :=
  (θ_run defs _ _).mono (fun _ h => h.1) (launch_quiet m ρ)

/-- The launch leaves its arguments as they were and ends quiet. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (launch m ρ)) ((θ_run defs _ _).mono (fun _ h => h.2) (launch_quiet m ρ))

/-- What the output arrays hold after the launch. -/
theorem arrays_run : θ_run defs (onTc (τ := τ) (main (F := F))) ⟨m, fun _ => 0, ρ⟩ fun r => ∀ c : Dev nD,
      r.2.mem ((c : Thread nD τ).loc main_v65_0) = (dats m 0 c).arrAt 18 cfg0.N
      ∧ r.2.mem ((c : Thread nD τ).loc main_v65_1) = (dats m 0 c).arrAt 19 cfg0.N
      ∧ r.2.mem ((c : Thread nD τ).loc main_v65_2) = (dats m 0 c).arrAt 20 cfg0.N
      ∧ r.2.mem ((c : Thread nD τ).loc main_v65_3) = (dats m 0 c).arrAt 21 cfg0.N
      ∧ r.2.mem ((c : Thread nD τ).loc main_v65_4) = (dats m 0 c).arrAt 22 cfg0.N
      ∧ r.2.mem ((c : Thread nD τ).loc main_v65_5) = (dats m 0 c).arrAt 23 cfg0.N :=
  (θ_run defs _ _).mono (fun _ h c => ⟨(h c).1 18, (h c).1 19, (h c).1 20, (h c).1 21, (h c).1 22, (h c).1 23⟩)
    (launch m ρ)

end Cert.Mixer

end
-- ==== Proof.Mixer.Quiet.lean ====
/-
  The two mixer kernels, the one as it runs and the one read over the extended reals, end quietly.  They are the same
  program but for the values it computes with, and the frame was proved for values of any kind; so the first claim is
  the frame at machine numbers and the second the frame at extended reals.
-/
module

public import proofs.«01_k».proof.Defs
public import proofs.«01_k».proof.Proof.Gen.MixerKernel
public import proofs.«01_k».proof.Proof.Mixer.Frame

@[expose] public section

set_option maxRecDepth 16384

noncomputable section

namespace Cert.Mixer

open Idealize.ShloMosaic Idealize.ShloMosaic.TcCoe Idealize.SL.Sem

set_option maxHeartbeats 8000000 in
theorem rows_same : Cert.MixerKernelIdeal.defs₀ (F := Bits) = Cert.MixerKernel.defs₀ (F := Bits) := by
  unfold Cert.MixerKernelIdeal.defs₀ Cert.MixerKernel.defs₀
  refine congrArg Defs.onTc ?_
  funext l x
  match l, x with
  | 0, (t, s) => rfl
  | ⟨_ + 1, h⟩, _ => exact absurd h (Nat.not_lt.2 (Nat.le_add_left _ _))

set_option maxHeartbeats 8000000 in
theorem defs_same : Cert.MixerKernelIdeal.defs (F := Bits) = Cert.MixerKernel.defs (F := Bits) :=
  congrArg (Pipeline.defs (Cert.MixerKernelIdeal.pcfgs (F := Bits))) rows_same

set_option maxHeartbeats 8000000 in
theorem kernel_quiet : Cert.quiescent_MixerKernel := fun m ρ _ => by
  have h := frame_run (F := Bits) m ρ
  rw [defs_same] at h
  exact h

theorem ideal_quiet : Cert.quiescent_MixerKernelIdeal := fun m ρ _ => frame_run (F := Ideal) m ρ

end Cert.Mixer

end
-- ==== Proof.Mixer.Block.lean ====
/- What one block of rows gives: the joined gradient of the projected rows, that of the heads, and the parts of the gains' gradients. -/
module

public import proofs.«01_k».proof.Proof.Norm
public import proofs.«01_k».proof.Proof.Layout
public import proofs.«01_k».proof.Proof.Mixer.Contents
public import Idealize.ShloMosaic.Lib.Pointwise

@[expose] public section

set_option maxRecDepth 16384

noncomputable section

namespace Cert.Mixer

open Idealize Idealize.ShloMosaic Idealize.SL.Sem Cert.MixerKernelIdeal Cert.MixerKernelIdeal.Gen Cert.Norm Cert.Layout
open scoped BigOperators

theorem width384 : Ideal.ofBits .f32 0x43C00000#32 = ((384 : ℕ) : ℝ) := by
  simp [Ideal.ofBits, Ideal.ieee, ← EReal.coe_mul]
  norm_num
theorem width256 : Ideal.ofBits .f32 0x43800000#32 = ((256 : ℕ) : ℝ) := by
  simp [Ideal.ofBits, Ideal.ieee, ← EReal.coe_mul]
  norm_num
theorem div384 (x : EReal) : Ideal.div x (Ideal.ofBits .f32 0x43C00000#32) = x * invLen 384 := div_word (by norm_num) width384 x
theorem div256 (x : EReal) : Ideal.div x (Ideal.ofBits .f32 0x43800000#32) = x * invLen 256 := div_word (by norm_num) width256 x

/-- What is read for one token: the angles' tables, the gradients that arrive, and the saved rows. -/
structure Token where
  c : Fin 128 → EReal
  a : Fin 128 → EReal
  b : Fin 128 → EReal
  dq : Fin 2048 → EReal
  dkv : Fin 2048 → EReal
  dkr : Fin 128 → EReal
  ql : Fin 384 → EReal
  kl : Fin 256 → EReal
  dxp : Fin 512 → EReal
  dgl : Fin 2048 → EReal
  x : Fin 1024 → EReal
  dxo : Fin 1024 → EReal

/-- The matrices and the gains. -/
structure Weights where
  win : Fin 3264 → Fin 1024 → EReal
  wq : Fin 2048 → Fin 384 → EReal
  wkv : Fin 256 → Fin 2048 → EReal
  gm : Fin 1024 → EReal
  gq : Fin 384 → EReal
  gk : Fin 256 → EReal

/-- Pairs of numbers turned back by their angles. -/
def turnBack (c a b q : Fin 128 → EReal) (j : Fin 128) : EReal :=
  q j * c j - (q ⟨(j.val + 128 - 32) % 128, Nat.mod_lt _ (by decide)⟩ * a j + q ⟨(j.val + 128 - 96) % 128, Nat.mod_lt _ (by decide)⟩ * b j)

/-- The heads' rows: the second half of each turned back. -/
def heads (c a b : Fin 128 → EReal) (q : Fin 2048 → EReal) (k : Fin 2048) : EReal :=
  if k.val % 256 < 128 then q k
  else turnBack c a b (fun j => q ⟨k.val / 256 * 256 + 128 + j.val, by omega⟩) ⟨k.val % 256 - 128, by omega⟩

/-- Four rows, one after the other. -/
def joined (p : Fin 512 → EReal) (q : Fin 384 → EReal) (k : Fin 256 → EReal) (t : Fin 128 → EReal) (j : Fin 1280) : EReal :=
  if h : j.val < 512 then p ⟨j.val, h⟩ else if h : j.val < 896 then q ⟨j.val - 512, by omega⟩ else if h : j.val < 1152 then k ⟨j.val - 896, by omega⟩ else t ⟨j.val - 1152, by omega⟩

namespace Token
variable (T : Token) (w : Weights)

def dheads (k : Fin 2048) : EReal := heads T.c T.a T.b T.dq k
/-- The gradients of the scaled and weighted latent rows. -/
def dqn (k : Fin 384) : EReal := ∑ j, T.dheads j * w.wq j k
def dkn (k : Fin 256) : EReal := ∑ j, T.dkv j * w.wkv k j
/-- The gradients of the latent rows. -/
def dql (k : Fin 384) : EReal := pull T.ql (fun e => T.dqn w e * w.gq e) k
def dkl (k : Fin 256) : EReal := pull T.kl (fun e => T.dkn w e * w.gk e) k
def dproj (j : Fin 1280) : EReal := joined T.dxp (T.dql w) (T.dkl w) (turnBack T.c T.a T.b T.dkr) j
/-- The gradient of the scaled and weighted row. -/
def dh (d : Fin 1024) : EReal := ∑ j : Fin 1280, T.dproj w j * w.win ⟨j.val, by omega⟩ d + ∑ j : Fin 2048, T.dgl j * w.win ⟨1216 + j.val, by omega⟩ d
def dx (d : Fin 1024) : EReal := T.dxo d + pull T.x (fun e => T.dh w e * w.gm e) d
/-- The token's parts of the gains' gradients. -/
def partQ (k : Fin 384) : EReal := T.dqn w k * scaled T.ql k
def partK (k : Fin 256) : EReal := T.dkn w k * scaled T.kl k
def partM (d : Fin 1024) : EReal := T.dh w d * scaled T.x d
end Token

/-- What a block holds for its row `r`, and the matrices and gains it holds. -/
def tokenOf (x : Held Ideal) (r : Fin 256) : Token :=
  ⟨line x.x15 r, line x.x16 r, line x.x17 r, line x.x0 r, line x.x1 r, line x.x2 r, line x.x3 r, line x.x4 r, line x.x5 r, line x.x6 r, line x.x7 r, line x.x8 r⟩
def weightsOf (x : Held Ideal) : Weights :=
  ⟨fun j d => x.x9 (ix2 j d), fun j k => x.x10 (ix2 j k), fun k j => x.x11 (ix2 k j), only x.x12, only x.x13, only x.x14⟩

section
variable (C A B q : FVec Ideal S256x128 .f32) (r : Fin 256)

theorem turn_block (j : Fin 128) : k0_pay16 (F := Ideal) C A B q (ix2 r j) = turnBack (line C r) (line A r) (line B r) (line q r) j := by
  pointwise [k0_pay16]
  rfl

variable (H : FVec Ideal S256x2048 .f32) (Wq : FVec Ideal S2048x384 .f32) (L : FVec Ideal S256x384 .f32) (D : FVec Ideal S256x384 .f32) (G : FVec Ideal S1x384 .f32)

theorem dqn_block (k : Fin 384) : k0_pay27 (F := Ideal) H Wq (ix2 r k) = ∑ j, H (ix2 r j) * Wq (ix2 j k) := by
  pointwise [k0_pay27]
theorem qfactor_block : k0_pay30 (F := Ideal) L (ix2 r 0) = factor (line L r) := by
  pointwise [k0_pay30, k0_pay29]
  rw [div384]
  rfl
theorem qscaled_block (k : Fin 384) : k0_pay31 (F := Ideal) L (ix2 r k) = scaled (line L r) k := by
  pointwise [k0_pay31, k0_pay29]
  rw [qfactor_block]
  rfl
theorem dql_block (k : Fin 384) : k0_pay32 (F := Ideal) D L G (ix2 r k) = pull (line L r) (fun e => D (ix2 r e) * only G e) k := by
  pointwise [k0_pay32]
  simp only [qfactor_block, qscaled_block, div384]
  rfl
theorem partQ_block (k : Fin 384) : k0_pay33 (F := Ideal) D L (ix2 0 k) = ∑ r, D (ix2 r k) * scaled (line L r) k := by
  pointwise [k0_pay33]
  simp only [qscaled_block]
end

section
variable (r : Fin 256) (k : Fin 256) (H : FVec Ideal S256x2048 .f32) (W : FVec Ideal S256x2048 .f32) (L D : FVec Ideal S256x256 .f32) (G : FVec Ideal S1x256 .f32)

theorem dkn_block : k0_pay28 (F := Ideal) H W (ix2 r k) = ∑ j, H (ix2 r j) * W (ix2 k j) := by
  pointwise [k0_pay28]
theorem kfactor_block : k0_pay37 (F := Ideal) (k0_pay36 (F := Ideal) L) (ix2 r 0) = factor (line L r) := by
  pointwise [k0_pay37, k0_pay36, k0_pay34]
  rw [div256]
  rfl
theorem kscaled_block : k0_pay38 (F := Ideal) (k0_pay34 (F := Ideal) L) (k0_pay36 (F := Ideal) L) (ix2 r k) = scaled (line L r) k := by
  pointwise [k0_pay38, k0_pay34]
  rw [kfactor_block]
  rfl
theorem dkl_block : k0_pay42 (F := Ideal) D (k0_pay34 (F := Ideal) L) (k0_pay35 (F := Ideal) G) (k0_pay36 (F := Ideal) L) (ix2 r k) =
    pull (line L r) (fun e => D (ix2 r e) * only G e) k := by
  pointwise [k0_pay42, k0_pay35]
  simp only [kfactor_block, kscaled_block, div256]
  rfl
theorem partK_block : k0_pay39 (F := Ideal) D (k0_pay34 (F := Ideal) L) (k0_pay36 (F := Ideal) L) (ix2 0 k) = ∑ r, D (ix2 r k) * scaled (line L r) k := by
  pointwise [k0_pay39]
  simp only [kscaled_block]
end

section
variable (r : Fin 256) (d : Fin 1024) (P : FVec Ideal S256x1280 .f32) (Wp : FVec Ideal S1280x1024 .f32) (U : FVec Ideal S256x2048 .f32) (Wu : FVec Ideal S2048x1024 .f32)
  (X O Dh : FVec Ideal S256x1024 .f32) (G : FVec Ideal S1x1024 .f32)

theorem dh_block : k0_pay44 (F := Ideal) P Wp U Wu (ix2 r d) = ∑ j, P (ix2 r j) * Wp (ix2 j d) + ∑ j, U (ix2 r j) * Wu (ix2 j d) := by
  pointwise [k0_pay44]
theorem factor_block : k0_pay46 (F := Ideal) X (ix2 r 0) = factor (line X r) := by
  pointwise [k0_pay46, k0_pay45]
  rw [div_width]
  rfl
theorem scaled_block : k0_pay47 (F := Ideal) X (ix2 r d) = scaled (line X r) d := by
  pointwise [k0_pay47, k0_pay45]
  rw [factor_block]
  rfl
theorem dx_block : k0_pay1 (F := Ideal) (k0_pay46 (F := Ideal) X) (k0_pay47 (F := Ideal) X) (k0_pay48 (F := Ideal) P Wp U Wu G) (k0_pay49 (F := Ideal) O) (k0_pay50 (F := Ideal) P Wp U Wu X G) (ix2 r d) =
    O (ix2 r d) + pull (line X r) (fun e => k0_pay44 (F := Ideal) P Wp U Wu (ix2 r e) * only G e) d := by
  pointwise [k0_pay1, k0_pay48, k0_pay49, k0_pay50]
  simp only [factor_block, scaled_block, div_width]
  rfl
theorem partM_block : k0_pay2 (F := Ideal) Dh (k0_pay47 (F := Ideal) X) (ix2 0 d) = ∑ r, Dh (ix2 r d) * scaled (line X r) d := by
  pointwise [k0_pay2]
  simp only [scaled_block]
theorem nextM : k0_pay5 (F := Ideal) Dh (k0_pay47 (F := Ideal) X) G (ix2 0 d) = G (ix2 0 d) + k0_pay2 (F := Ideal) Dh (k0_pay47 (F := Ideal) X) (ix2 0 d) := by
  pointwise [k0_pay5]
theorem nextQ (p s : FVec Ideal S1x384 .f32) (k : Fin 384) : k0_pay3 (F := Ideal) p s (ix2 0 k) = s (ix2 0 k) + p (ix2 0 k) := by
  pointwise [k0_pay3]
theorem nextK (p s : FVec Ideal S1x256 .f32) (k : Fin 256) : k0_pay4 (F := Ideal) p s (ix2 0 k) = s (ix2 0 k) + p (ix2 0 k) := by
  pointwise [k0_pay4]
end

end Cert.Mixer

end
-- ==== Proof.Mixer.Stored.lean ====
/- What one grid point leaves in its six output buffers, row by row. -/
module

public import proofs.«01_k».proof.Proof.Mixer.Block
public import Idealize.ShloMosaic.Lib.Pipeline.ValueKit

@[expose] public section

set_option maxRecDepth 16384

noncomputable section

namespace Cert.Mixer

open Idealize Idealize.ShloMosaic Idealize.SL.Sem Cert.MixerKernelIdeal Cert.MixerKernelIdeal.Gen Cert.Norm Cert.Layout
open scoped BigOperators

/-- Part of the columns of a block. -/
theorem part_at {n w off : ℕ} (X : FVec Ideal ⟨2, ![256, n]⟩ .f32) (inb) (r : Fin 256) (j : Fin w) (k : Fin n) (hk : k.val = off + j.val) :
    View.ld (Val := Elt Ideal) (S := ⟨2, ![256, n]⟩) (e' := .f32) X (Rect.unit (s := ⟨2, ![256, n]⟩) ![0, off] ![256, w] inb) (ix2 r j : Shape.Idx ⟨2, ![256, w]⟩) = X (ix2 r k) :=
  View.ld_unit_apply_of _ _ _ _ _ _ fun a => by
    fin_cases a
    · show r.val = 0 + r.val
      omega
    · exact hk
/-- Part of the rows of a matrix. -/
theorem rows_at {n N w off : ℕ} (X : FVec Ideal ⟨2, ![N, n]⟩ .f32) (inb) (r : Fin w) (j : Fin n) (k : Fin N) (hk : k.val = off + r.val) :
    View.ld (Val := Elt Ideal) (S := ⟨2, ![N, n]⟩) (e' := .f32) X (Rect.unit (s := ⟨2, ![N, n]⟩) ![off, 0] ![w, n] inb) (ix2 r j : Shape.Idx ⟨2, ![w, n]⟩) = X (ix2 k j) :=
  View.ld_unit_apply_of _ _ _ _ _ _ fun a => by
    fin_cases a
    · exact hk
    · show j.val = 0 + j.val
      omega

/-- An index of a block of columns. -/
theorem split_piece {w off j : ℕ} (y : Shape.Idx ⟨2, ![256, w]⟩) {r : Fin 256} (h0 : r.val = (y 0).val) (h1 : j = off + (y 1).val) : ∃ k : Fin w, y = ix2 r k ∧ j = off + k.val := by
  obtain ⟨p, k, rfl⟩ : ∃ (p : Fin 256) (k : Fin w), y = ix2 p k := ⟨y 0, y 1, Idealize.ShloMosaic.eq_ix2 y⟩
  obtain rfl : r = p := Fin.ext h0
  exact ⟨k, rfl, h1⟩

/-- What is read back of the pieces stored. -/
theorem left18 (L : Left Ideal) : L.read.o18 = View.canon L.l18 := by
  dsimp only [Left.read]
  exact View.read_writes_junk_eq_canon _ _
theorem left19 (L : Left Ideal) : L.read.o19 = View.canon L.l19 := by
  dsimp only [Left.read]
  exact View.read_writes_junk_eq_canon _ _
theorem left20 (L : Left Ideal) : L.read.o20 = View.canon L.l20 := by
  dsimp only [Left.read]
  exact View.read_writes_junk_eq_canon _ _
theorem left21 (L : Left Ideal) : L.read.o21 = View.canon L.l21 := by
  dsimp only [Left.read]
  exact View.read_writes_junk_eq_canon _ _
theorem left22 (L : Left Ideal) : L.read.o22 = View.canon L.l22 := by
  dsimp only [Left.read]
  exact View.read_writes_junk_eq_canon _ _
theorem left23 (L : Left Ideal) : L.read.o23 = View.canon L.l23 := by
  dsimp only [Left.read]
  exact View.read_writes_junk_eq_canon _ _

section
variable {c a b p : Fin 128 → EReal} {q : Fin 2048 → EReal} {k : Fin 2048}

theorem heads_plain (h : k.val % 256 < 128) : heads c a b q k = q k := dif_pos h
theorem heads_turned {j : Fin 128} {n : ℕ} (hn : n % 256 = 128) (hk : k.val = n + j.val) (hp : ∀ (j : Fin 128) (k : Fin 2048), k.val = n + j.val → p j = q k) :
    turnBack c a b p j = heads c a b q k := by
  have e : p = fun j => q ⟨k.val / 256 * 256 + 128 + j.val, by omega⟩ := funext fun i => hp _ _ (by show k.val / 256 * 256 + 128 + i.val = n + i.val; omega)
  have ej : j = ⟨k.val % 256 - 128, by omega⟩ := Fin.ext (by show j.val = k.val % 256 - 128; omega)
  rw [e]
  refine Eq.trans ?_ (if_neg (by omega)).symm
  exact congrArg _ ej
end

variable (s : Stage) (x : Held Ideal)

/-- The heads' rows of a block, and its joined rows. -/
def headsOf : FVec Ideal S256x2048 .bf16 := fun i => (tokenOf x (i 0)).dheads (i 1)
def projOf : FVec Ideal S256x1280 .bf16 := fun i => (tokenOf x (i 0)).dproj (weightsOf x) (i 1)

section
variable {n : ℕ} {r : Fin 256} {j : Fin 128} {k : Fin 2048}

theorem plain_piece (hn : n % 256 = 0) (inb) (hk : k.val = n + j.val) :
    k0_pay9 (F := Ideal) (View.ld (Val := Elt Ideal) (S := S256x2048) (e' := .f32) x.x0 (Rect.unit (s := S256x2048) ![0, n] ![256, 128] inb)) (ix2 r j) = headsOf x (ix2 r k) :=
  (congrFun (shapeCast_self _ _) _).trans ((part_at x.x0 inb r j k hk).trans (heads_plain (q := line x.x0 r) (by omega)).symm)

theorem table_c : k0_pay6 x.x15 = x.x15 := shapeCast_self _ _
theorem table_a : k0_pay7 x.x16 = x.x16 := shapeCast_self _ _
theorem table_b : k0_pay8 x.x17 = x.x17 := shapeCast_self _ _

theorem turned_piece (hn : n % 256 = 128) (inb) (hk : k.val = n + j.val) :
    k0_pay16 (F := Ideal) (k0_pay6 x.x15) (k0_pay7 x.x16) (k0_pay8 x.x17) (View.ld (Val := Elt Ideal) (S := S256x2048) (e' := .f32) x.x0 (Rect.unit (s := S256x2048) ![0, n] ![256, 128] inb)) (ix2 r j) =
      headsOf x (ix2 r k) :=
  (turn_block _ _ _ _ r j).trans <| by
    rw [table_c, table_a, table_b]
    exact heads_turned (q := line x.x0 r) hn hk fun j k hk => part_at x.x0 inb r j k hk
end

theorem heads_canon : View.canon (firstRun.sl.B19_16 s x) = headsOf x := by
  funext i
  unfold firstRun.sl.B19_16
  canon_tiles y h
  all_goals
    obtain ⟨r, k, rfl⟩ : ∃ (r : Fin 256) (k : Fin 2048), i = ix2 r k := ⟨i 0, i 1, Idealize.ShloMosaic.eq_ix2 i⟩
    obtain ⟨p, j, rfl⟩ : ∃ (r : Fin 256) (k : Fin 128), y = ix2 r k := ⟨y 0, y 1, Idealize.ShloMosaic.eq_ix2 y⟩
    obtain rfl : r = p := Fin.ext h0
    try simp only [firstRun.sl.r_3, firstRun.sl.r_4, firstRun.sl.r_5, firstRun.sl.r_6, firstRun.sl.r_7, firstRun.sl.r_8, firstRun.sl.r_9, firstRun.sl.r_10, firstRun.sl.r_11, firstRun.sl.r_12]
    simp (disch := decide) only [firstRun.sl.r, firstRun.sl.r_1, firstRun.sl.r_2, Memref.IsWhole.read_unread, View.ld_unit_lit', View.readAt_eq_ld]
    first
      | exact plain_piece x (by decide) _ h1
      | exact turned_piece x (by decide) _ h1
      | exact plain_piece x (n := 0) (by decide) _ (h1.trans (Nat.zero_add _).symm)

/-- The heads' rows as they are read back. -/
theorem heads_back : firstRun.sl.v126 s x = headsOf x := by
  have e := View.readCov_eq_canon_ld s.a20.view (firstRun.sl.B19_16 s x) (Rect.unit ![0, 0] S256x2048.size inb_S256x2048_S256x2048_0_0) (View.cover_of_tiledL _ S256x128.size (by sl_kernel_rfl))
  rw [heads_canon, View.ld_unit_zero (by funext a; fin_cases a <;> rfl)] at e
  exact e

section
variable {p : Fin 512 → EReal} {q : Fin 384 → EReal} {k : Fin 256 → EReal} {t : Fin 128 → EReal} {j : Fin 1280}
theorem joined_p {i : Fin 512} (h : j.val = i.val) : joined p q k t j = p i :=
  (dif_pos (by omega)).trans (congrArg p (Fin.ext h))
theorem joined_q {i : Fin 384} (h : j.val = 512 + i.val) : joined p q k t j = q i :=
  (dif_neg (by omega)).trans ((dif_pos (by omega)).trans (congrArg q (Fin.ext (by show j.val - 512 = i.val; omega))))
theorem joined_k {i : Fin 256} (h : j.val = 896 + i.val) : joined p q k t j = k i :=
  (dif_neg (by omega)).trans ((dif_neg (by omega)).trans ((dif_pos (by omega)).trans (congrArg k (Fin.ext (by show j.val - 896 = i.val; omega)))))
theorem joined_t {i : Fin 128} (h : j.val = 1152 + i.val) : joined p q k t j = t i :=
  (dif_neg (by omega)).trans ((dif_neg (by omega)).trans ((dif_neg (by omega)).trans (congrArg t (Fin.ext (by show j.val - 1152 = i.val; omega)))))
end

theorem dqn_found (r : Fin 256) (k : Fin 384) : k0_pay27 (F := Ideal) (headsOf x) x.x10 (ix2 r k) = (tokenOf x r).dqn (weightsOf x) k := (dqn_block _ _ _ _).trans rfl
theorem dkn_found (r k : Fin 256) : k0_pay28 (F := Ideal) x.x1 x.x11 (ix2 r k) = (tokenOf x r).dkn (weightsOf x) k := (dkn_block _ _ _ _).trans rfl

theorem proj_canon : View.canon (firstRun.sl.B18_4 s x) = projOf x := by
  funext i
  unfold firstRun.sl.B18_4
  canon_tiles y h using (View.cover_of_tiledBy (firstRun.sl.B18_4 s x) ![256, 128] (by sl_kernel_rfl) i)
  all_goals
    obtain ⟨r, j, rfl⟩ : ∃ (r : Fin 256) (k : Fin 1280), i = ix2 r k := ⟨i 0, i 1, Idealize.ShloMosaic.eq_ix2 i⟩
    simp only [firstRun.sl.r_9, firstRun.sl.r_8, firstRun.sl.r_11, firstRun.sl.r_12, firstRun.sl.r_13, firstRun.sl.r_15, firstRun.sl.r_7, heads_back, firstRun.sl.r, firstRun.sl.r_1, firstRun.sl.r_2, View.readAt_eq_ld]
    simp (disch := decide) only [Memref.IsWhole.read_unread, View.ld_unit_lit']
  case piece0 =>
    obtain ⟨k, rfl, h1⟩ := split_piece (r := r) y h0 h1
    rw [table_c, table_a, table_b]
    exact (turn_block _ _ _ _ _ _).trans (joined_t h1).symm
  case piece1 =>
    obtain ⟨k, rfl, h1⟩ := split_piece (r := r) y h0 h1
    refine (dkl_block _ _ _ _ _).trans (Eq.trans ?_ (joined_k h1).symm)
    simp only [dkn_found]
    rfl
  case piece2 =>
    obtain ⟨k, rfl, h1⟩ := split_piece (r := r) y h0 h1
    refine (dql_block _ _ _ _ _).trans (Eq.trans ?_ (joined_q h1).symm)
    simp only [dqn_found]
    rfl
  case piece3 =>
    obtain ⟨k, rfl, h2⟩ := split_piece (r := r) (off := 0) y h0 (h1.trans (Nat.zero_add _).symm)
    refine (congrFun (shapeCast_self _ _) _).trans (Eq.trans ?_ (joined_p (i := k) (h2.trans (Nat.zero_add _))).symm)
    rfl

/-- The joined rows as they are read back. -/
theorem proj_back : firstRun.sl.v213 s x = projOf x := by
  have e := View.readCov_eq_canon_ld s.a19.view (firstRun.sl.B18_4 s x) (Rect.unit ![0, 0] S256x1280.size inb_S256x1280_S256x1280_0_0) (View.cover_of_tiledBy _ ![256, 128] (by sl_kernel_rfl))
  rw [proj_canon, View.ld_unit_zero (by funext a; fin_cases a <;> rfl)] at e
  exact e

theorem dh_found (inb inb') (r : Fin 256) (d : Fin 1024) :
    k0_pay44 (F := Ideal) (projOf x) (View.ld (Val := Elt Ideal) (S := S3264x1024) (e' := .f32) x.x9 (Rect.unit (s := S3264x1024) ![0, 0] ![1280, 1024] inb)) x.x6
      (View.ld (Val := Elt Ideal) (S := S3264x1024) (e' := .f32) x.x9 (Rect.unit (s := S3264x1024) ![1216, 0] ![2048, 1024] inb')) (ix2 r d) = (tokenOf x r).dh (weightsOf x) d := by
  rw [dh_block]
  refine congrArg₂ (· + ·) (Finset.sum_congr rfl fun j _ => congrArg₂ (· * ·) rfl ?_) (Finset.sum_congr rfl fun j _ => congrArg₂ (· * ·) rfl ?_)
  · exact rows_at x.x9 inb j d _ (Nat.zero_add _).symm
  · exact rows_at x.x9 inb' j d _ rfl

variable (c : Dev nD) (i : grid0.Coords)

theorem partQ_found (k : Fin 384) : firstRun.sl.r_10 s x (ix2 0 k) = ∑ r, (tokenOf x r).partQ (weightsOf x) k := by
  simp only [firstRun.sl.r_10, firstRun.sl.r_7, heads_back, View.readAt_eq_ld]
  simp (disch := decide) only [Memref.IsWhole.read_unread, View.ld_unit_lit']
  rw [partQ_block]
  simp only [dqn_found]
  rfl
theorem partK_found (k : Fin 256) : firstRun.sl.r_14 s x (ix2 0 k) = ∑ r, (tokenOf x r).partK (weightsOf x) k := by
  simp only [firstRun.sl.r_14, firstRun.sl.r_8, firstRun.sl.r_11, firstRun.sl.r_13, View.readAt_eq_ld]
  simp (disch := decide) only [Memref.IsWhole.read_unread, View.ld_unit_lit']
  rw [partK_block]
  simp only [dkn_found]
  rfl
theorem partM_found (d : Fin 1024) : k0_pay2 (F := Ideal) (firstRun.sl.r_16 s x) (firstRun.sl.r_18 s x) (ix2 0 d) = ∑ r, (tokenOf x r).partM (weightsOf x) d := by
  simp only [firstRun.sl.r_16, firstRun.sl.r_18, proj_back, View.readAt_eq_ld]
  simp (disch := decide) only [Memref.IsWhole.read_unread, View.ld_unit_lit']
  refine (partM_block _ _ _).trans (Finset.sum_congr rfl fun r _ => ?_)
  exact congrArg₂ (· * ·) (dh_found x _ _ r d) rfl
theorem dx_found (r : Fin 256) (d : Fin 1024) :
    k0_pay1 (F := Ideal) (firstRun.sl.r_17 s x) (firstRun.sl.r_18 s x) (firstRun.sl.r_19 s x) (firstRun.sl.r_20 s x) (firstRun.sl.r_21 s x) (ix2 r d) = (tokenOf x r).dx (weightsOf x) d := by
  simp only [firstRun.sl.r_17, firstRun.sl.r_18, firstRun.sl.r_19, firstRun.sl.r_20, firstRun.sl.r_21, proj_back, View.readAt_eq_ld]
  simp (disch := decide) only [Memref.IsWhole.read_unread, View.ld_unit_lit']
  refine (dx_block _ _ _ _ _ _ _ _ _).trans (congrArg₂ (· + ·) rfl (congrArg (fun t => pull _ t d) (funext fun e => congrArg₂ (· * ·) (dh_found x _ _ r e) rfl)))

section
variable (hc0 : cond0_0 i) (hc1 : ¬cond0_1 i)

theorem first_proj : (firstRun c i s x hc0 hc1).1.read.o18 = projOf x := (left18 _).trans (proj_canon s x)
theorem first_heads : (firstRun c i s x hc0 hc1).1.read.o19 = headsOf x := (left19 _).trans (heads_canon s x)
theorem first_partQ (k : Fin 384) : (firstRun c i s x hc0 hc1).1.read.o20 (ix2 0 k) = ∑ r, (tokenOf x r).partQ (weightsOf x) k := by
  rw [left20]
  dsimp only [firstRun]
  rw [View.canon_cons_unit_lit' (h := by decide)]
  exact partQ_found s x k
theorem first_partK (k : Fin 256) : (firstRun c i s x hc0 hc1).1.read.o21 (ix2 0 k) = ∑ r, (tokenOf x r).partK (weightsOf x) k := by
  rw [left21]
  dsimp only [firstRun]
  rw [View.canon_cons_unit_lit' (h := by decide)]
  exact partK_found s x k
theorem first_dx (r : Fin 256) (d : Fin 1024) : (firstRun c i s x hc0 hc1).1.read.o22 (ix2 r d) = (tokenOf x r).dx (weightsOf x) d := by
  rw [left22]
  dsimp only [firstRun]
  rw [View.canon_cons_unit_lit' (h := by decide)]
  exact dx_found s x r d
theorem first_partM (d : Fin 1024) : (firstRun c i s x hc0 hc1).1.read.o23 (ix2 0 d) = ∑ r, (tokenOf x r).partM (weightsOf x) d := by
  rw [left23]
  dsimp only [firstRun]
  rw [View.canon_cons_unit_lit' (h := by decide)]
  exact partM_found s x d
end

section
variable (o : Outs Ideal) (hc0 : ¬cond0_0 i) (hc1 : cond0_1 i)

theorem later_proj : (laterRun c i s x o hc0 hc1).1.read.o18 = projOf x := (left18 _).trans (proj_canon s x)
theorem later_heads : (laterRun c i s x o hc0 hc1).1.read.o19 = headsOf x := (left19 _).trans (heads_canon s x)
theorem later_partQ (k : Fin 384) : (laterRun c i s x o hc0 hc1).1.read.o20 (ix2 0 k) = o.o20 (ix2 0 k) + ∑ r, (tokenOf x r).partQ (weightsOf x) k := by
  rw [left20]
  dsimp only [laterRun]
  rw [View.canon_cons_unit_lit' (h := by decide), nextQ, View.readAt_eq_ld, Memref.IsWhole.read_unread, View.ld_unit_lit' (h := by decide)]
  exact congrArg _ (partQ_found s x k)
theorem later_partK (k : Fin 256) : (laterRun c i s x o hc0 hc1).1.read.o21 (ix2 0 k) = o.o21 (ix2 0 k) + ∑ r, (tokenOf x r).partK (weightsOf x) k := by
  rw [left21]
  dsimp only [laterRun]
  rw [View.canon_cons_unit_lit' (h := by decide), nextK, View.readAt_eq_ld, Memref.IsWhole.read_unread, View.ld_unit_lit' (h := by decide)]
  exact congrArg _ (partK_found s x k)
theorem later_dx (r : Fin 256) (d : Fin 1024) : (laterRun c i s x o hc0 hc1).1.read.o22 (ix2 r d) = (tokenOf x r).dx (weightsOf x) d := by
  rw [left22]
  dsimp only [laterRun]
  rw [View.canon_cons_unit_lit' (h := by decide)]
  exact dx_found s x r d
theorem later_partM (d : Fin 1024) : (laterRun c i s x o hc0 hc1).1.read.o23 (ix2 0 d) = o.o23 (ix2 0 d) + ∑ r, (tokenOf x r).partM (weightsOf x) d := by
  rw [left23]
  dsimp only [laterRun]
  rw [View.canon_cons_unit_lit' (h := by decide)]
  refine (nextM _ _ _ _).trans (congrArg₂ (· + ·) ?_ (partM_found s x d))
  rw [View.readAt_eq_ld, Memref.IsWhole.read_unread, View.ld_unit_lit' (h := by decide)]
end
end Cert.Mixer

end
-- ==== Proof.Mixer.Arrays.lean ====
/- The arrays the program works on, and the blocks of them that each grid point reads. -/
module

public import proofs.«01_k».proof.Proof.Mixer.Stored
public import Idealize.ShloMosaic.Lib.Claim
public import Idealize.ShloMosaic.Lib.Pipeline.ValueKit

@[expose] public section

set_option maxRecDepth 16384

noncomputable section

namespace Cert.Mixer

open Idealize Idealize.ShloMosaic Idealize.SL.Sem Cert.MixerKernelIdeal Cert.MixerKernelIdeal.Gen Cert.Norm Cert.Rows Cert.Layout
open scoped BigOperators

variable (m : (ℓ : Loc nD τ sig) → Buf (Elt Ideal) ℓ) (c : Dev nD)

abbrev argX : FVec Ideal S2x2048x1024 .f32 := m ((c.tc : Thread nD τ).loc main_arg0)
abbrev argPos : IVec S2x2048 32 := m ((c.tc : Thread nD τ).loc main_arg1)
abbrev argGm : FVec Ideal S1024 .f32 := m ((c.tc : Thread nD τ).loc main_arg2)
abbrev argWin : FVec Ideal S1024x3264 .f32 := m ((c.tc : Thread nD τ).loc main_arg3)
abbrev argGq : FVec Ideal S384 .f32 := m ((c.tc : Thread nD τ).loc main_arg4)
abbrev argWq : FVec Ideal S384x1536 .f32 := m ((c.tc : Thread nD τ).loc main_arg5)
abbrev argGk : FVec Ideal S256 .f32 := m ((c.tc : Thread nD τ).loc main_arg6)
abbrev argWkv : FVec Ideal S256x2048 .f32 := m ((c.tc : Thread nD τ).loc main_arg7)
abbrev argDxp : FVec Ideal S2x2048x512 .f32 := m ((c.tc : Thread nD τ).loc main_arg8)
abbrev argDq : FVec Ideal S2x2048x8x192 .f32 := m ((c.tc : Thread nD τ).loc main_arg9)
abbrev argDkv : FVec Ideal S2x2048x2048 .f32 := m ((c.tc : Thread nD τ).loc main_arg10)
abbrev argDkr : FVec Ideal S2x2048x64 .f32 := m ((c.tc : Thread nD τ).loc main_arg11)
abbrev argDgl : FVec Ideal S2x2048x2048 .f32 := m ((c.tc : Thread nD τ).loc main_arg12)
abbrev argDxo : FVec Ideal S2x2048x1024 .f32 := m ((c.tc : Thread nD τ).loc main_arg13)

theorem places_of_blocks : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] ∧ win0_8.index t = ![t.val, 0] ∧
    win0_9.index t = ![0, 0] ∧ win0_10.index t = ![0, 0] ∧ win0_11.index t = ![0, 0] ∧ win0_12.index t = ![0, 0] ∧ win0_13.index t = ![0, 0] ∧ win0_14.index t = ![0, 0] ∧
    win0_15.index t = ![t.val, 0] ∧ win0_16.index t = ![t.val, 0] ∧ win0_17.index t = ![t.val, 0] ∧ win0_18.index t = ![t.val, 0] ∧ win0_19.index t = ![t.val, 0] ∧
    win0_20.index t = ![0, 0] ∧ win0_21.index t = ![0, 0] ∧ win0_22.index t = ![t.val, 0] ∧ win0_23.index t = ![0, 0] :=
  (by decide +kernel : ∀ t : Fin grid0.N, _)

/-- Row `r` of the block at point `t`. -/
abbrev blockRow (t : Fin cfg0.N) (r : Fin 256) : Fin 4096 := rowOf (m := 16) (n := 256) rfl ⟨t.val, t.isLt⟩ r

/-- The contents of the buffers after each stretch of the host program. -/
def after0 : Valuation τ sig (Elt Ideal) := StableHlo.after hostOps0 fun b => m (c, b)
def after1 : Valuation τ sig (Elt Ideal) := StableHlo.after hostOps0_1 (after0 m c)
def after2 : Valuation τ sig (Elt Ideal) := StableHlo.after hostOps0_2 (after1 m c)
def after3 : Valuation τ sig (Elt Ideal) := StableHlo.after hostOps0_3 (after2 m c)
def after4 : Valuation τ sig (Elt Ideal) := StableHlo.after hostOps0_4 (after3 m c)
def after5 : Valuation τ sig (Elt Ideal) := StableHlo.after hostOps0_5 (after4 m c)
theorem V_eq (b : Ref sig .tc) : V m c b = StableHlo.after hostOps0_6 (after5 m c) (Proc.devRef .tc b) := by
  unfold V after5 after4 after3 after2 after1 after0
  rw [List.flatten_cons, StableHlo.after_append, List.flatten_cons, StableHlo.after_append, List.flatten_cons, StableHlo.after_append, List.flatten_cons, StableHlo.after_append, List.flatten_cons, StableHlo.after_append, List.flatten_cons, StableHlo.after_append, List.flatten_cons, List.flatten_nil, List.append_nil]

/-- The angles of every token, and the tables of their cosines and sines. -/
def angles (pos : IVec S2x2048 32) : FVec Ideal S4096x32 .f32 :=
  mulf (broadcastInDim S4096x32 ![0, 1] bcast_S4096x1_S4096x32_0_1 (broadcastInDim S4096x1 ![0] bcast_S4096_S4096x1_0 (sitofp .f32 (shapeCast S4096 pos shapeCasts_S2x2048_S4096))))
    (broadcastInDim S4096x32 ![0, 1] bcast_S1x32_S4096x32_0_1 (broadcastInDim S1x32 ![1] bcast_S32_S1x32_1 (Host.powf (broadcastInDim S32 ![] bcast_S_S32 (constant S_ .f32 0x461C4000#32))
      (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0)))))
        (broadcastInDim S32 ![] bcast_S_S32 (constant S_ .f32 0x42800000#32))))))
/-- Three parts of a table. -/
def table (x y : FVec Ideal S4096x32 .f32) : FVec Ideal S4096x128 .f32 :=
  concatenate S4096x128 1 [⟨S4096x32, x⟩, ⟨S4096x32, y⟩, ⟨S4096x64, broadcastInDim S4096x64 ![] bcast_S_S4096x64 (constant (F := Ideal) S_ .f32 0x00000000#32)⟩] concatenates_S4096x32_S4096x32_S4096x64_S4096x128_d1
def zeros32 : FVec Ideal S4096x32 .f32 := broadcastInDim S4096x32 ![] bcast_S_S4096x32 (constant (F := Ideal) S_ .f32 0x00000000#32)

/-- The projections of the scaled and weighted rows, and the latent rows among them. -/
def projectedH (X : FVec Ideal S2x2048x1024 .f32) (G : FVec Ideal S1024 .f32) (W : FVec Ideal S1024x3264 .f32) : FVec Ideal S2x2048x3264 .f32 :=
  Host.dotGeneral dot_S2x2048x1024_S1024x3264_S2x2048x3264_2_0_01_1_n_n none (mulf (mulf X (broadcastInDim S2x2048x1024 ![0, 1, 2] bcast_S2x2048x1_S2x2048x1024_0_1_2
    (Host.rsqrt (addf (Host.divf (broadcastInDim S2x2048x1 ![0, 1] bcast_S2x2048_S2x2048x1_0_1 (Host.reduceAdd (mulf X X) (constant S_ .f32 0x00000000#32) reducesTo_S2x2048x1024_S2x2048_d2 h_S_))
      (broadcastInDim S2x2048x1 ![] bcast_S_S2x2048x1 (constant S_ .f32 0x44800000#32))) (broadcastInDim S2x2048x1 ![] bcast_S_S2x2048x1 (constant S_ .f32 0x358637BD#32))))))
    (broadcastInDim S2x2048x1024 ![0, 1, 2] bcast_S1x1x1024_S2x2048x1024_0_1_2 (broadcastInDim S1x1x1024 ![2] bcast_S1024_S1x1x1024_2 G))) W
abbrev projected : FVec Ideal S2x2048x3264 .f32 := projectedH (argX m c) (argGm m c) (argWin m c)
/-- The gradients of the queries and of the shared key, and the matrix of the queries, zeros filled in after each head. -/
def padQ (x : FVec Ideal S2x2048x8x192 .f32) : FVec Ideal S2x2048x8x256 .f32 :=
  pad S2x2048x8x256 ![0, 0, 0, 0] ![0, 0, 0, 64] ![0, 0, 0, 0] x (sitofp .f32 (constantI S_ 32 0#32)) pads_S2x2048x8x192_S2x2048x8x256_000_000_000_0640 h_S_
def padW (x : FVec Ideal S384x1536 .f32) : FVec Ideal S384x8x256 .f32 :=
  pad S384x8x256 ![0, 0, 0] ![0, 0, 64] ![0, 0, 0] (shapeCast S384x8x192 x shapeCasts_S384x1536_S384x8x192) (sitofp .f32 (constantI S_ 32 0#32)) pads_S384x8x192_S384x8x256_000_000_0640 h_S_
def padR (x : FVec Ideal S2x2048x64 .f32) : FVec Ideal S4096x128 .f32 :=
  pad S4096x128 ![0, 0] ![0, 64] ![0, 0] (shapeCast S4096x64 x shapeCasts_S2x2048x64_S4096x64) (sitofp .f32 (constantI S_ 32 0#32)) pads_S4096x64_S4096x128_000_0640 h_S_

variable {m c}
set_option maxHeartbeats 1600000 in
theorem c_host : after0 m c (Proc.devRef .tc main_v21) = table (Host.cos (angles (argPos m c))) (Host.cos (angles (argPos m c))) := by
  unfold after0
  after_results_simp
  rfl
set_option maxHeartbeats 1600000 in
theorem a_host : after0 m c (Proc.devRef .tc main_v22) = table zeros32 (Host.sin (angles (argPos m c))) := by
  unfold after0
  after_results_simp
  rfl
set_option maxHeartbeats 1600000 in
theorem b_host : after0 m c (Proc.devRef .tc main_v24) = table (Host.negf (Host.sin (angles (argPos m c)))) zeros32 := by
  unfold after0
  after_results_simp
  rfl
theorem projected_host : after2 m c (Proc.devRef .tc main_v44) = shapeCast S4096x3264 (projected m c) shapeCasts_S2x2048x3264_S4096x3264 := by
  unfold after2 after1 after0
  entry_read
  rfl
theorem dq_host : after3 m c (Proc.devRef .tc main_v45) = padQ (argDq m c) := by
  unfold after3 after2 after1 after0
  entry_read
  rfl
theorem wq_host : after1 m c (Proc.devRef .tc main_v26) = padW (argWq m c) := by
  unfold after1 after0
  entry_read
  rfl
theorem dkr_host : after5 m c (Proc.devRef .tc main_v49) = padR (argDkr m c) := by
  unfold after5 after4 after3 after2 after1 after0
  entry_read
  rfl

theorem zero_word : (FloatOps.sitofp (F := Ideal) .f32 (0#32 : BitVec 32)) = (0 : EReal) := by
  show (((0#32 : BitVec 32).toInt : ℝ) : EReal) = 0
  simp

/-- Three parts of a table's row. -/
def tab (x y : Fin 32 → EReal) (k : Fin 128) : EReal := if h : k.val < 32 then x ⟨k.val, h⟩ else if h : k.val - 32 < 32 then y ⟨k.val - 32, h⟩ else 0
/-- A number for each pair of coordinates of a head below 192, and zeros after them. -/
def filled (x : Fin 8 → Fin 192 → EReal) (k : Fin 2048) : EReal := if h : k.val % 256 < 192 then x ⟨k.val / 256, by omega⟩ ⟨k.val % 256, h⟩ else 0
def filled64 (x : Fin 64 → EReal) (k : Fin 128) : EReal := if h : k.val < 64 then x ⟨k.val, h⟩ else 0

section
variable (r : Fin 4096)

abbrev angleRow (pos : IVec S2x2048 32) (k : Fin 32) : EReal := angles pos (ix2 r k)
theorem table_entry (x y : FVec Ideal S4096x32 .f32) (k : Fin 128) : table x y (ix2 r k) = tab (fun k => x (ix2 r k)) (fun k => y (ix2 r k)) k := by
  pointwise [table]
  rfl
theorem padQ_entry (x : FVec Ideal S2x2048x8x192 .f32) (k : Fin 2048) : (shapeCast S4096x2048 (padQ x) shapeCasts_S2x2048x8x256_S4096x2048 : FVec Ideal S4096x2048 .f32) (ix2 r k) =
    filled (fun h j => x (ix4 ⟨r.val / 2048, by omega⟩ ⟨r.val % 2048, by omega⟩ h j)) k := by
  pointwise [padQ]
  unfold filled
  by_cases h : k.val % 256 < 192
  · rw [dif_pos h]
    exact dif_pos ⟨by omega, by omega, by omega, h⟩
  · have g : ¬(r.val / 2048 < 2 ∧ r.val % 2048 < 2048 ∧ k.val / 256 < 8 ∧ k.val % 256 < 192) := fun g => h g.2.2.2
    rw [dif_neg g, dif_neg h]
    exact zero_word
theorem padR_entry (x : FVec Ideal S2x2048x64 .f32) (k : Fin 128) : padR x (ix2 r k) = filled64 (rowAt x r) k := by
  pointwise [padR]
  unfold filled64
  by_cases h : k.val < 64
  · rw [dif_pos h, dif_pos h]
  · rw [dif_neg h, dif_neg h]
    exact zero_word
theorem padW_entry (x : FVec Ideal S384x1536 .f32) (d : Fin 384) (k : Fin 2048) : (transpose S2048x384 [1, 0] (shapeCast S384x2048 (padW x) shapeCasts_S384x8x256_S384x2048) transposes_S384x2048_S2048x384_1_0 : FVec Ideal S2048x384 .f32) (ix2 k d) =
    filled (fun h j => x (ix2 d ⟨h.val * 192 + j.val, by omega⟩)) k := by
  pointwise [padW]
  unfold filled
  by_cases h : k.val % 256 < 192
  · rw [dif_pos h]
    exact dif_pos ⟨by omega, h⟩
  · rw [dif_neg h]
    exact (dif_neg fun g => h g.2).trans zero_word
end

/-- What is read for token `r`, and the matrices and gains. -/
def tokenAt (m : (ℓ : Loc nD τ sig) → Buf (Elt Ideal) ℓ) (c : Dev nD) (r : Fin 4096) : Token where
  c := tab (fun k => Ideal.cos (angleRow r (argPos m c) k)) (fun k => Ideal.cos (angleRow r (argPos m c) k))
  a := tab (fun _ => 0) (fun k => Ideal.sin (angleRow r (argPos m c) k))
  b := tab (fun k => -Ideal.sin (angleRow r (argPos m c) k)) (fun _ => 0)
  dq := filled fun h j => argDq m c (ix4 ⟨r.val / 2048, by omega⟩ ⟨r.val % 2048, by omega⟩ h j)
  dkv := rowAt (argDkv m c) r
  dkr := filled64 (rowAt (argDkr m c) r)
  ql := fun k => rowAt (projected m c) r ⟨512 + k.val, by omega⟩
  kl := fun k => rowAt (projected m c) r ⟨896 + k.val, by omega⟩
  dxp := rowAt (argDxp m c) r
  dgl := rowAt (argDgl m c) r
  x := rowAt (argX m c) r
  dxo := rowAt (argDxo m c) r
def weightsAt (m : (ℓ : Loc nD τ sig) → Buf (Elt Ideal) ℓ) (c : Dev nD) : Weights where
  win := fun j d => argWin m c (ix2 d j)
  wq := fun j k => filled (fun h i => argWq m c (ix2 k ⟨h.val * 192 + i.val, by omega⟩)) j
  wkv := fun k j => argWkv m c (ix2 k j)
  gm := gainRow (argGm m c)
  gq := gainRow (argGq m c)
  gk := gainRow (argGk m c)

variable (t : Fin cfg0.N) (r : Fin 256)

theorem at0 : line (iblk m c 0 t) r = (tokenAt m c (blockRow t r)).dq := by
  funext d
  have e : (win0_0.blk t).view.emb (ix2 r d) = ix2 (blockRow t r) d := by blk_ext [places_of_blocks t]
  show V m c main_v47 ((win0_0.blk t).view.emb (ix2 r d)) = _
  rw [e, V_eq]
  entry_read
  unfold after5
  entry_read
  unfold after4
  entry_read
  rw [dq_host]
  exact padQ_entry _ _ _
theorem at1 : line (iblk m c 1 t) r = (tokenAt m c (blockRow t r)).dkv := by
  funext d
  have e : (win0_1.blk t).view.emb (ix2 r d) = ix2 (blockRow t r) d := by blk_ext [places_of_blocks t]
  show V m c main_v51 ((win0_1.blk t).view.emb (ix2 r d)) = _
  rw [e, V_eq]
  entry_read
  unfold after5 after4 after3 after2 after1 after0
  entry_read
  exact stacked_apply _ _ _ _
theorem at2 : line (iblk m c 2 t) r = (tokenAt m c (blockRow t r)).dkr := by
  funext d
  have e : (win0_2.blk t).view.emb (ix2 r d) = ix2 (blockRow t r) d := by blk_ext [places_of_blocks t]
  show V m c main_v49 ((win0_2.blk t).view.emb (ix2 r d)) = _
  rw [e, V_eq]
  entry_read
  rw [dkr_host]
  exact padR_entry _ _ _
theorem at3 : line (iblk m c 3 t) r = (tokenAt m c (blockRow t r)).ql := by
  funext d
  have e : (win0_3.blk t).view.emb (ix2 r d) = ix2 (blockRow t r) d := by blk_ext [places_of_blocks t]
  show V m c main_v52 ((win0_3.blk t).view.emb (ix2 r d)) = _
  rw [e, V_eq]
  entry_read
  unfold after5 after4 after3
  entry_read
  rw [projected_host]
  pointwise
  rfl
theorem at4 : line (iblk m c 4 t) r = (tokenAt m c (blockRow t r)).kl := by
  funext d
  have e : (win0_4.blk t).view.emb (ix2 r d) = ix2 (blockRow t r) d := by blk_ext [places_of_blocks t]
  show V m c main_v53 ((win0_4.blk t).view.emb (ix2 r d)) = _
  rw [e, V_eq]
  entry_read
  unfold after5 after4 after3
  entry_read
  rw [projected_host]
  pointwise
  rfl
theorem at5 : line (iblk m c 5 t) r = (tokenAt m c (blockRow t r)).dxp := by
  funext d
  have e : (win0_5.blk t).view.emb (ix2 r d) = ix2 (blockRow t r) d := by blk_ext [places_of_blocks t]
  show V m c main_v54 ((win0_5.blk t).view.emb (ix2 r d)) = _
  rw [e, V_eq]
  entry_read
  unfold after5 after4 after3 after2 after1 after0
  entry_read
  exact stacked_apply _ _ _ _
theorem at6 : line (iblk m c 6 t) r = (tokenAt m c (blockRow t r)).dgl := by
  funext d
  have e : (win0_6.blk t).view.emb (ix2 r d) = ix2 (blockRow t r) d := by blk_ext [places_of_blocks t]
  show V m c main_v56 ((win0_6.blk t).view.emb (ix2 r d)) = _
  rw [e, V_eq]
  entry_read
  unfold after5 after4 after3 after2 after1 after0
  entry_read
  exact stacked_apply _ _ _ _
theorem at7 : line (iblk m c 7 t) r = (tokenAt m c (blockRow t r)).x := by
  funext d
  have e : (win0_7.blk t).view.emb (ix2 r d) = ix2 (blockRow t r) d := by blk_ext [places_of_blocks t]
  show V m c main_v57 ((win0_7.blk t).view.emb (ix2 r d)) = _
  rw [e, V_eq]
  entry_read
  unfold after5 after4 after3 after2 after1 after0
  entry_read
  exact stacked_apply _ _ _ _
theorem at8 : line (iblk m c 8 t) r = (tokenAt m c (blockRow t r)).dxo := by
  funext d
  have e : (win0_8.blk t).view.emb (ix2 r d) = ix2 (blockRow t r) d := by blk_ext [places_of_blocks t]
  show V m c main_v58 ((win0_8.blk t).view.emb (ix2 r d)) = _
  rw [e, V_eq]
  entry_read
  unfold after5 after4 after3 after2 after1 after0
  entry_read
  exact stacked_apply _ _ _ _
theorem at9 (j : Fin 3264) (d : Fin 1024) : (iblk m c 9 t : FVec Ideal S3264x1024 .f32) (ix2 j d) = (weightsAt m c).win j d := by
  have e : (win0_9.blk t).view.emb (ix2 j d) = ix2 j d := by blk_ext [places_of_blocks t]
  show V m c main_v60 ((win0_9.blk t).view.emb (ix2 j d)) = _
  rw [e, V_eq]
  entry_read
  unfold after5 after4 after3 after2 after1 after0
  entry_read
  pointwise
  rfl
theorem at10 (j : Fin 2048) (k : Fin 384) : (iblk m c 10 t : FVec Ideal S2048x384 .f32) (ix2 j k) = (weightsAt m c).wq j k := by
  have e : (win0_10.blk t).view.emb (ix2 j k) = ix2 j k := by blk_ext [places_of_blocks t]
  show V m c main_v29 ((win0_10.blk t).view.emb (ix2 j k)) = _
  rw [e, V_eq]
  entry_read
  unfold after5 after4 after3 after2
  entry_read
  rw [wq_host]
  exact padW_entry _ _ _
theorem at11 (k : Fin 256) (j : Fin 2048) : (iblk m c 11 t : FVec Ideal S256x2048 .f32) (ix2 k j) = (weightsAt m c).wkv k j := by
  have e : (win0_11.blk t).view.emb (ix2 k j) = ix2 k j := by blk_ext [places_of_blocks t]
  show V m c main_v61 ((win0_11.blk t).view.emb (ix2 k j)) = _
  rw [e, V_eq]
  entry_read
  unfold after5 after4 after3 after2 after1 after0
  entry_read
  rfl
theorem at12 : only (iblk m c 12 t) = (weightsAt m c).gm := by
  funext d
  have e : (win0_12.blk t).view.emb (ix2 0 d) = ix2 0 d := by blk_ext [places_of_blocks t]
  show V m c main_v62 ((win0_12.blk t).view.emb (ix2 0 d)) = _
  rw [e, V_eq]
  entry_read
  unfold after5 after4 after3 after2 after1 after0
  entry_read
  exact row_apply _ _ _
theorem at13 : only (iblk m c 13 t) = (weightsAt m c).gq := by
  funext d
  have e : (win0_13.blk t).view.emb (ix2 0 d) = ix2 0 d := by blk_ext [places_of_blocks t]
  show V m c main_v63 ((win0_13.blk t).view.emb (ix2 0 d)) = _
  rw [e, V_eq]
  entry_read
  unfold after5 after4 after3 after2 after1 after0
  entry_read
  exact row_apply _ _ _
theorem at14 : only (iblk m c 14 t) = (weightsAt m c).gk := by
  funext d
  have e : (win0_14.blk t).view.emb (ix2 0 d) = ix2 0 d := by blk_ext [places_of_blocks t]
  show V m c main_v64 ((win0_14.blk t).view.emb (ix2 0 d)) = _
  rw [e, V_eq]
  entry_read
  unfold after5 after4 after3 after2 after1 after0
  entry_read
  exact row_apply _ _ _
theorem at15 : line (iblk m c 15 t) r = (tokenAt m c (blockRow t r)).c := by
  funext d
  have e : (win0_15.blk t).view.emb (ix2 r d) = ix2 (blockRow t r) d := by blk_ext [places_of_blocks t]
  show V m c main_v21 ((win0_15.blk t).view.emb (ix2 r d)) = _
  rw [e, V_eq]
  entry_read
  unfold after5 after4 after3 after2 after1
  entry_read
  rw [c_host]
  refine (table_entry _ _ _ _).trans ?_
  rfl
theorem at16 : line (iblk m c 16 t) r = (tokenAt m c (blockRow t r)).a := by
  funext d
  have e : (win0_16.blk t).view.emb (ix2 r d) = ix2 (blockRow t r) d := by blk_ext [places_of_blocks t]
  show V m c main_v22 ((win0_16.blk t).view.emb (ix2 r d)) = _
  rw [e, V_eq]
  entry_read
  unfold after5 after4 after3 after2 after1
  entry_read
  rw [a_host]
  refine (table_entry _ _ _ _).trans ?_
  dsimp only [tokenAt]
  rw [show (fun k => zeros32 (ix2 (blockRow t r) k)) = fun _ => (0 : EReal) from funext fun k => Ideal.ofBits_zero .f32]
  rfl
theorem at17 : line (iblk m c 17 t) r = (tokenAt m c (blockRow t r)).b := by
  funext d
  have e : (win0_17.blk t).view.emb (ix2 r d) = ix2 (blockRow t r) d := by blk_ext [places_of_blocks t]
  show V m c main_v24 ((win0_17.blk t).view.emb (ix2 r d)) = _
  rw [e, V_eq]
  entry_read
  unfold after5 after4 after3 after2 after1
  entry_read
  rw [b_host]
  refine (table_entry _ _ _ _).trans ?_
  dsimp only [tokenAt]
  rw [show (fun k => zeros32 (ix2 (blockRow t r) k)) = fun _ => (0 : EReal) from funext fun k => Ideal.ofBits_zero .f32]
  rfl

attribute [ext] Token Weights

set_option maxHeartbeats 2000000 in
theorem token_block : tokenOf (blocks m c t) r = tokenAt m c (blockRow t r) :=
  Token.ext (at15 t r) (at16 t r) (at17 t r) (at0 t r) (at1 t r) (at2 t r) (at3 t r) (at4 t r) (at5 t r) (at6 t r) (at7 t r) (at8 t r)
set_option maxHeartbeats 2000000 in
theorem weights_block : weightsOf (blocks m c t) = weightsAt m c :=
  Weights.ext (funext fun j => funext fun d => at9 t j d) (funext fun j => funext fun k => at10 t j k) (funext fun k => funext fun j => at11 t k j) (at12 t) (at13 t) (at14 t)

end Cert.Mixer

end
-- ==== Proof.Mixer.Points.lean ====
/- The six result arrays after the run: each block's rows in their place, the blocks' parts of the gains' gradients added up. -/
module

public import proofs.«01_k».proof.Proof.Mixer.Arrays

@[expose] public section

set_option maxRecDepth 16384

noncomputable section

namespace Cert.Mixer

open Idealize Idealize.ShloMosaic Idealize.SL.Sem Cert.MixerKernelIdeal Cert.MixerKernelIdeal.Gen Cert.Norm Cert.Rows Cert.Layout
open scoped BigOperators

variable (m : (ℓ : Loc nD τ sig) → Buf (Elt Ideal) ℓ) (c : Dev nD)

/-- The gradients of the projected row and of the heads' row of token `r`, of its row, and its parts of the gains' gradients. -/
def projAt (r : Fin 4096) (j : Fin 1280) : EReal := (tokenAt m c r).dproj (weightsAt m c) j
def headsAt (r : Fin 4096) (k : Fin 2048) : EReal := (tokenAt m c r).dheads k
def dxAt (r : Fin 4096) (d : Fin 1024) : EReal := (tokenAt m c r).dx (weightsAt m c) d
def partQAt (k : Fin 384) (r : Fin 4096) : EReal := (tokenAt m c r).partQ (weightsAt m c) k
def partKAt (k : Fin 256) (r : Fin 4096) : EReal := (tokenAt m c r).partK (weightsAt m c) k
def partMAt (d : Fin 1024) (r : Fin 4096) : EReal := (tokenAt m c r).partM (weightsAt m c) d

variable (t : Fin cfg0.N) (r : Fin 256) (k : Fin 384) (e : Fin 256) (d : Fin 1024)

theorem projOf_block (i : S256x1280.Idx) : projOf (blocks m c t) i = projAt m c (blockRow t (i 0)) (i 1) := by
  obtain ⟨r, j, rfl⟩ : ∃ (r : Fin 256) (j : Fin 1280), i = ix2 r j := ⟨i 0, i 1, Idealize.ShloMosaic.eq_ix2 i⟩
  show (tokenOf (blocks m c t) r).dproj (weightsOf (blocks m c t)) j = _
  rw [token_block, weights_block]
  rfl
theorem headsOf_block (i : S256x2048.Idx) : headsOf (blocks m c t) i = headsAt m c (blockRow t (i 0)) (i 1) := by
  obtain ⟨r, j, rfl⟩ : ∃ (r : Fin 256) (j : Fin 2048), i = ix2 r j := ⟨i 0, i 1, Idealize.ShloMosaic.eq_ix2 i⟩
  show (tokenOf (blocks m c t) r).dheads j = _
  rw [token_block]
  rfl
theorem dx_blocks : (tokenOf (blocks m c t) r).dx (weightsOf (blocks m c t)) d = dxAt m c (blockRow t r) d := by
  rw [token_block, weights_block]
  rfl
theorem partQ_blocks : ∑ r, (tokenOf (blocks m c t) r).partQ (weightsOf (blocks m c t)) k = tile 256 (partQAt m c k) t.val := by
  refine Eq.trans ?_ (tile_eq (m := 16) rfl _ ⟨t.val, t.isLt⟩).symm
  exact Finset.sum_congr rfl fun r _ => by rw [token_block, weights_block]; rfl
theorem partK_blocks : ∑ r, (tokenOf (blocks m c t) r).partK (weightsOf (blocks m c t)) e = tile 256 (partKAt m c e) t.val := by
  refine Eq.trans ?_ (tile_eq (m := 16) rfl _ ⟨t.val, t.isLt⟩).symm
  exact Finset.sum_congr rfl fun r _ => by rw [token_block, weights_block]; rfl
theorem partM_blocks : ∑ r, (tokenOf (blocks m c t) r).partM (weightsOf (blocks m c t)) d = tile 256 (partMAt m c d) t.val := by
  refine Eq.trans ?_ (tile_eq (m := 16) rfl _ ⟨t.val, t.isLt⟩).symm
  exact Finset.sum_congr rfl fun r _ => by rw [token_block, weights_block]; rfl

theorem proj_point (i : S256x1280.Idx) : (outsAt m c t.val t.isLt).o18 i = projAt m c (blockRow t (i 0)) (i 1) := by
  refine Eq.trans ?_ (projOf_block m c t i)
  by_cases h : t.val = 0
  · rw [outsAt_first m c t h]
    exact congrFun (first_proj (slots t) (blocks m c t) c (grid0.coords t) (at_first t h).1 (at_first t h).2) i
  · rw [outsAt_later m c t h]
    exact congrFun (later_proj (slots t) (blocks m c t) c (grid0.coords t) (outsBefore m c t) (at_later t h).1 (at_later t h).2) i
theorem heads_point (i : S256x2048.Idx) : (outsAt m c t.val t.isLt).o19 i = headsAt m c (blockRow t (i 0)) (i 1) := by
  refine Eq.trans ?_ (headsOf_block m c t i)
  by_cases h : t.val = 0
  · rw [outsAt_first m c t h]
    exact congrFun (first_heads (slots t) (blocks m c t) c (grid0.coords t) (at_first t h).1 (at_first t h).2) i
  · rw [outsAt_later m c t h]
    exact congrFun (later_heads (slots t) (blocks m c t) c (grid0.coords t) (outsBefore m c t) (at_later t h).1 (at_later t h).2) i
theorem dx_point (i : S256x1024.Idx) : (outsAt m c t.val t.isLt).o22 i = dxAt m c (blockRow t (i 0)) (i 1) := by
  obtain ⟨r, d, rfl⟩ : ∃ (r : Fin 256) (d : Fin 1024), i = ix2 r d := ⟨i 0, i 1, Idealize.ShloMosaic.eq_ix2 i⟩
  refine Eq.trans ?_ (dx_blocks m c t r d)
  by_cases h : t.val = 0
  · rw [outsAt_first m c t h]
    exact first_dx (slots t) (blocks m c t) c (grid0.coords t) (at_first t h).1 (at_first t h).2 r d
  · rw [outsAt_later m c t h]
    exact later_dx (slots t) (blocks m c t) c (grid0.coords t) (outsBefore m c t) (at_later t h).1 (at_later t h).2 r d
theorem partQ_point (n : ℕ) (hn : n < cfg0.N) : (outsAt m c n hn).o20 (ix2 0 k) = ∑ t ∈ Finset.range (n + 1), tile 256 (partQAt m c k) t := by
  refine grown (A := fun n hn => (outsAt m c n hn).o20 (ix2 0 k)) (fun h => ?_) (fun n h => ?_) n hn
  · exact (first_partQ (slots ⟨0, h⟩) (blocks m c ⟨0, h⟩) c (grid0.coords ⟨0, h⟩) (at_first ⟨0, h⟩ rfl).1 (at_first ⟨0, h⟩ rfl).2 k).trans (partQ_blocks m c ⟨0, h⟩ k)
  · exact (later_partQ (slots ⟨n + 1, h⟩) (blocks m c ⟨n + 1, h⟩) c (grid0.coords ⟨n + 1, h⟩) (outsAt m c n (Nat.lt_of_succ_lt h)) (at_later ⟨n + 1, h⟩ (Nat.succ_ne_zero n)).1
      (at_later ⟨n + 1, h⟩ (Nat.succ_ne_zero n)).2 k).trans (congrArg _ (partQ_blocks m c ⟨n + 1, h⟩ k))
theorem partK_point (n : ℕ) (hn : n < cfg0.N) : (outsAt m c n hn).o21 (ix2 0 e) = ∑ t ∈ Finset.range (n + 1), tile 256 (partKAt m c e) t := by
  refine grown (A := fun n hn => (outsAt m c n hn).o21 (ix2 0 e)) (fun h => ?_) (fun n h => ?_) n hn
  · exact (first_partK (slots ⟨0, h⟩) (blocks m c ⟨0, h⟩) c (grid0.coords ⟨0, h⟩) (at_first ⟨0, h⟩ rfl).1 (at_first ⟨0, h⟩ rfl).2 e).trans (partK_blocks m c ⟨0, h⟩ e)
  · exact (later_partK (slots ⟨n + 1, h⟩) (blocks m c ⟨n + 1, h⟩) c (grid0.coords ⟨n + 1, h⟩) (outsAt m c n (Nat.lt_of_succ_lt h)) (at_later ⟨n + 1, h⟩ (Nat.succ_ne_zero n)).1
      (at_later ⟨n + 1, h⟩ (Nat.succ_ne_zero n)).2 e).trans (congrArg _ (partK_blocks m c ⟨n + 1, h⟩ e))
theorem partM_point (n : ℕ) (hn : n < cfg0.N) : (outsAt m c n hn).o23 (ix2 0 d) = ∑ t ∈ Finset.range (n + 1), tile 256 (partMAt m c d) t := by
  refine grown (A := fun n hn => (outsAt m c n hn).o23 (ix2 0 d)) (fun h => ?_) (fun n h => ?_) n hn
  · exact (first_partM (slots ⟨0, h⟩) (blocks m c ⟨0, h⟩) c (grid0.coords ⟨0, h⟩) (at_first ⟨0, h⟩ rfl).1 (at_first ⟨0, h⟩ rfl).2 d).trans (partM_blocks m c ⟨0, h⟩ d)
  · exact (later_partM (slots ⟨n + 1, h⟩) (blocks m c ⟨n + 1, h⟩) c (grid0.coords ⟨n + 1, h⟩) (outsAt m c n (Nat.lt_of_succ_lt h)) (at_later ⟨n + 1, h⟩ (Nat.succ_ne_zero n)).1
      (at_later ⟨n + 1, h⟩ (Nat.succ_ne_zero n)).2 d).trans (congrArg _ (partM_blocks m c ⟨n + 1, h⟩ d))

/-- The accumulated windows are written back at the last point only. -/
theorem flush_last : ∀ t : Fin cfg0.N, ((cfg0.win 20).flush t = true → t.val = 15) ∧ ((cfg0.win 21).flush t = true → t.val = 15) ∧ ((cfg0.win 23).flush t = true → t.val = 15) :=
  (by decide +kernel : ∀ t : Fin grid0.N, _)

theorem proj_final : (dats m 0 c).arrAt 18 cfg0.N = fun i : S4096x1280.Idx => projAt m c (i 0) (i 1) := by
  refine (dats m 0 c).arrAt_eq_of_covers 18 _ (by decide +kernel) fun t hf y => ?_
  blk_simp
  dsimp only [dats]
  refine (proj_point m c t y).trans ?_
  have e0 : (win0_18.blk t).view.emb y 0 = blockRow t (y 0) := by
    apply Fin.ext
    blk_simp [places_of_blocks t]
    try rfl
  have e1 : (win0_18.blk t).view.emb y 1 = y 1 := by
    apply Fin.ext
    blk_simp [places_of_blocks t]
  rw [e0, e1]
theorem heads_final : (dats m 0 c).arrAt 19 cfg0.N = fun i : S4096x2048.Idx => headsAt m c (i 0) (i 1) := by
  refine (dats m 0 c).arrAt_eq_of_covers 19 _ (by decide +kernel) fun t hf y => ?_
  blk_simp
  dsimp only [dats]
  refine (heads_point m c t y).trans ?_
  have e0 : (win0_19.blk t).view.emb y 0 = blockRow t (y 0) := by
    apply Fin.ext
    blk_simp [places_of_blocks t]
    try rfl
  have e1 : (win0_19.blk t).view.emb y 1 = y 1 := by
    apply Fin.ext
    blk_simp [places_of_blocks t]
  rw [e0, e1]
theorem dx_final : (dats m 0 c).arrAt 22 cfg0.N = fun i : S4096x1024.Idx => dxAt m c (i 0) (i 1) := by
  refine (dats m 0 c).arrAt_eq_of_covers 22 _ (by decide +kernel) fun t hf y => ?_
  blk_simp
  dsimp only [dats]
  refine (dx_point m c t y).trans ?_
  have e0 : (win0_22.blk t).view.emb y 0 = blockRow t (y 0) := by
    apply Fin.ext
    blk_simp [places_of_blocks t]
    try rfl
  have e1 : (win0_22.blk t).view.emb y 1 = y 1 := by
    apply Fin.ext
    blk_simp [places_of_blocks t]
  rw [e0, e1]
theorem partQ_final : (dats m 0 c).arrAt 20 cfg0.N = fun i : S1x384.Idx => ∑ r, partQAt m c (i 1) r := by
  refine (dats m 0 c).arrAt_eq_of_covers 20 _ (by decide +kernel) fun t hf y => ?_
  blk_simp
  dsimp only [dats]
  have e : (win0_20.blk t).view.emb y = y := by blk_ext [places_of_blocks t]
  obtain ⟨d, rfl⟩ : ∃ d : Fin 384, y = ix2 0 d := one_row y
  rw [e]
  refine (partQ_point m c d t.val t.isLt).trans ?_
  rw [(flush_last t).1 hf, sum_tiles (m := 16) rfl]
  rfl
theorem partK_final : (dats m 0 c).arrAt 21 cfg0.N = fun i : S1x256.Idx => ∑ r, partKAt m c (i 1) r := by
  refine (dats m 0 c).arrAt_eq_of_covers 21 _ (by decide +kernel) fun t hf y => ?_
  blk_simp
  dsimp only [dats]
  have e : (win0_21.blk t).view.emb y = y := by blk_ext [places_of_blocks t]
  obtain ⟨d, rfl⟩ : ∃ d : Fin 256, y = ix2 0 d := one_row y
  rw [e]
  refine (partK_point m c d t.val t.isLt).trans ?_
  rw [(flush_last t).2.1 hf, sum_tiles (m := 16) rfl]
  rfl
theorem partM_final : (dats m 0 c).arrAt 23 cfg0.N = fun i : S1x1024.Idx => ∑ r, partMAt m c (i 1) r := by
  refine (dats m 0 c).arrAt_eq_of_covers 23 _ (by decide +kernel) fun t hf y => ?_
  blk_simp
  dsimp only [dats]
  have e : (win0_23.blk t).view.emb y = y := by blk_ext [places_of_blocks t]
  obtain ⟨d, rfl⟩ : ∃ d : Fin 1024, y = ix2 0 d := one_row y
  rw [e]
  refine (partM_point m c d t.val t.isLt).trans ?_
  rw [(flush_last t).2.2 hf, sum_tiles (m := 16) rfl]
  rfl

end Cert.Mixer

end
-- ==== Proof.Mixer.Turn.lean ====
/- The pairs of coordinates turned back by their angles, as the plain program does it. -/
module

public import proofs.«01_k».proof.Proof.Gen.MixerReferenceIdeal.Run
public import proofs.«01_k».proof.Proof.Mixer.Points

@[expose] public section

set_option maxRecDepth 16384

noncomputable section

namespace Cert.Mixer

open Idealize Idealize.ShloMosaic Idealize.SL.Sem Cert.MixerReferenceIdeal Cert.MixerReferenceIdeal.Gen Cert.Norm Cert.Rows Cert.Layout
open scoped BigOperators

/-- One number for each of 32 pairs of coordinates of each token, and rows of heads. -/
abbrev Pairs := FVec Ideal S2x2048x32 .f32
abbrev Heads := FVec Ideal S2x2048x8x192 .f32

section
variable (pos : IVec S2x2048 32) (DQ : Heads) (DR : FVec Ideal S2x2048x64 .f32)

/-- The angles of every token. -/
def angleP : Pairs :=
  mulf (broadcastInDim S2x2048x32 ![0, 1, 2] bcast_S2x2048x1_S2x2048x32_0_1_2 (broadcastInDim S2x2048x1 ![0, 1] bcast_S2x2048_S2x2048x1_0_1 (sitofp .f32 pos)))
    (broadcastInDim S2x2048x32 ![0, 1, 2] bcast_S1x1x32_S2x2048x32_0_1_2 (broadcastInDim S1x1x32 ![2] bcast_S32_S1x1x32_2 (Host.powf (broadcastInDim S32 ![] bcast_S_S32 (constant S_ .f32 0x461C4000#32))
      (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0)))))
        (broadcastInDim S32 ![] bcast_S_S32 (constant S_ .f32 0x42800000#32))))))
/-- Each head's pairs of coordinates, and a number for each pair the same for every head. -/
def firstP : FVec Ideal S2x2048x8x32 .f32 :=
  extractStridedSlice S2x2048x8x32 ![0, 0, 0, 0] (extractStridedSlice S2x2048x8x64 ![0, 0, 0, 128] DQ slices_S2x2048x8x192_S2x2048x8x64_0_0_0_128) slices_S2x2048x8x64_S2x2048x8x32_0_0_0_0
def secondP : FVec Ideal S2x2048x8x32 .f32 :=
  extractStridedSlice S2x2048x8x32 ![0, 0, 0, 32] (extractStridedSlice S2x2048x8x64 ![0, 0, 0, 128] DQ slices_S2x2048x8x192_S2x2048x8x64_0_0_0_128) slices_S2x2048x8x64_S2x2048x8x32_0_0_0_32
def eachP (x : Pairs) : FVec Ideal S2x2048x8x32 .f32 :=
  broadcastInDim S2x2048x8x32 ![0, 1, 2, 3] bcast_S2x2048x1x32_S2x2048x8x32_0_1_2_3 (broadcastInDim S2x2048x1x32 ![0, 1, 3] bcast_S2x2048x32_S2x2048x1x32_0_1_3 x)
/-- The heads' rows with the pairs turned back. -/
def headsP : Heads :=
  addf (pad S2x2048x8x192 ![0, 0, 0, 128] ![0, 0, 0, 0] ![0, 0, 0, 0] (concatenate S2x2048x8x64 3
      [⟨S2x2048x8x32, addf (mulf (secondP DQ) (eachP (Host.sin (angleP pos)))) (mulf (firstP DQ) (eachP (Host.cos (angleP pos))))⟩,
       ⟨S2x2048x8x32, addf (mulf (secondP DQ) (eachP (Host.cos (angleP pos)))) (mulf (Host.negf (firstP DQ)) (eachP (Host.sin (angleP pos))))⟩]
      concatenates_S2x2048x8x32_S2x2048x8x32_S2x2048x8x64_d3) (constant S_ .f32 0x00000000#32) pads_S2x2048x8x64_S2x2048x8x192_000_000_000_12800 h_S_)
    (pad S2x2048x8x192 ![0, 0, 0, 0] ![0, 0, 0, 64] ![0, 0, 0, 0] (extractStridedSlice S2x2048x8x128 ![0, 0, 0, 0] DQ slices_S2x2048x8x192_S2x2048x8x128_0_0_0_0) (constant S_ .f32 0x00000000#32)
      pads_S2x2048x8x128_S2x2048x8x192_000_000_000_0640 h_S_)
def keyFirstP : Pairs := extractStridedSlice S2x2048x32 ![0, 0, 0] DR slices_S2x2048x64_S2x2048x32_0_0_0
def keySecondP : Pairs := extractStridedSlice S2x2048x32 ![0, 0, 32] DR slices_S2x2048x64_S2x2048x32_0_0_32
/-- The shared key's rows with the pairs turned back. -/
def keyP : FVec Ideal S2x2048x64 .f32 :=
  concatenate S2x2048x64 2 [⟨S2x2048x32, addf (mulf (keySecondP DR) (Host.sin (angleP pos))) (mulf (keyFirstP DR) (Host.cos (angleP pos)))⟩,
    ⟨S2x2048x32, addf (mulf (keySecondP DR) (Host.cos (angleP pos))) (mulf (Host.negf (keyFirstP DR)) (Host.sin (angleP pos)))⟩] concatenates_S2x2048x32_S2x2048x32_S2x2048x64_d2
end

/-- Pairs of numbers turned back by their angles. -/
def turnedPair (cs sn : Fin 32 → EReal) (q : Fin 64 → EReal) (j : Fin 64) : EReal :=
  if h : j.val < 32 then q ⟨32 + j.val, by omega⟩ * sn ⟨j.val, h⟩ + q ⟨j.val, by omega⟩ * cs ⟨j.val, h⟩
  else q ⟨32 + (j.val - 32), by omega⟩ * cs ⟨j.val - 32, by omega⟩ + -q ⟨j.val - 32, by omega⟩ * sn ⟨j.val - 32, by omega⟩

theorem turn_pair (cs sn : Fin 32 → EReal) (q : Fin 64 → EReal) (p : Fin 128 → EReal) (hp : ∀ (j : Fin 128) (h : j.val < 64), p j = q ⟨j.val, h⟩) (j : Fin 128) :
    turnBack (tab cs cs) (tab (fun _ => 0) sn) (tab (fun k => -sn k) (fun _ => 0)) p j = filled64 (turnedPair cs sn q) j := by
  unfold turnBack filled64 turnedPair tab
  by_cases h : j.val < 32
  · have h' : j.val < 64 := by omega
    simp only [h, h', dif_pos, mul_zero, zero_add, mul_neg]
    rw [hp j h', hp ⟨(j.val + 128 - 96) % 128, Nat.mod_lt _ (by decide)⟩ (by show (j.val + 128 - 96) % 128 < 64; omega), sub_eq_add_neg, neg_neg]
    refine (add_comm _ _).trans (congrArg (fun i => q i * _ + _) ?_)
    apply Fin.ext
    show (j.val + 128 - 96) % 128 = 32 + j.val
    omega
  · by_cases h' : j.val < 64
    · have h2 : j.val - 32 < 32 := by omega
      simp only [h, h', h2, dif_pos, dif_neg, not_false_eq_true, mul_zero, add_zero]
      rw [hp j h', hp ⟨(j.val + 128 - 32) % 128, Nat.mod_lt _ (by decide)⟩ (by show (j.val + 128 - 32) % 128 < 64; omega), sub_eq_add_neg, neg_mul]
      refine congrArg₂ (fun i i' => q i * _ + -(q i' * _)) ?_ ?_
      · apply Fin.ext
        show j.val = 32 + (j.val - 32)
        omega
      · apply Fin.ext
        show (j.val + 128 - 32) % 128 = j.val - 32
        omega
    · have h2 : ¬j.val - 32 < 32 := by omega
      simp only [h, h', h2, dif_neg, not_false_eq_true, mul_zero, add_zero, sub_zero]

theorem filled_at (x : Fin 8 → Fin 192 → EReal) {k : Fin 2048} {h : Fin 8} {j : Fin 192} (hk : k.val = h.val * 256 + j.val) : filled x k = x h j := by
  unfold filled
  rw [dif_pos (by omega)]
  exact congrArg₂ x (Fin.ext (by show k.val / 256 = h.val; omega)) (Fin.ext (by show k.val % 256 = j.val; omega))
theorem filled_not (x : Fin 8 → Fin 192 → EReal) {k : Fin 2048} (hk : ¬k.val % 256 < 192) : filled x k = 0 := dif_neg hk

/-- A sum over the coordinates of the heads with the zeros filled in. -/
theorem sum_filled (x y : Fin 8 → Fin 192 → EReal) :
    ∑ j, filled x j * filled y j = ∑ j : Fin 1536, x ⟨j.val / 192, by omega⟩ ⟨j.val % 192, by omega⟩ * y ⟨j.val / 192, by omega⟩ ⟨j.val % 192, by omega⟩ := by
  rw [← sum_rows (m := 8) (n := 256) rfl, ← sum_rows (m := 8) (n := 192) rfl]
  refine Finset.sum_congr rfl fun h _ => ?_
  refine (Fin.sum_univ_add (a := 192) (b := 64) _).trans ?_
  have e : ∑ i : Fin 64, filled x (rowOf (m := 8) (n := 256) rfl h (Fin.natAdd 192 i)) * filled y (rowOf (m := 8) (n := 256) rfl h (Fin.natAdd 192 i)) = 0 := by
    refine Finset.sum_eq_zero fun i _ => ?_
    rw [filled_not x (by show ¬(h.val * 256 + (192 + i.val)) % 256 < 192; omega), zero_mul]
  rw [e, add_zero]
  refine Finset.sum_congr rfl fun i _ => ?_
  have f (z : Fin 8 → Fin 192 → EReal) : filled z (rowOf (m := 8) (n := 256) rfl h (Fin.castAdd 64 i)) = z ⟨(h.val * 192 + i.val) / 192, by omega⟩ ⟨(h.val * 192 + i.val) % 192, by omega⟩ :=
    filled_at z (by
      show h.val * 256 + i.val = (h.val * 192 + i.val) / 192 * 256 + (h.val * 192 + i.val) % 192
      omega)
  rw [f x, f y]

section
variable (pos : IVec S2x2048 32) (DQ : Heads) (DR : FVec Ideal S2x2048x64 .f32) (r : Fin 4096) (b : Fin 2) (s : Fin 2048)

theorem angle_plain (k : Fin 32) : rowAt (angleP pos) r k = angleRow r pos k := by
  show angleP pos (ix3 _ _ k) = angles pos (ix2 r k)
  pointwise [angleP, angles]
abbrev cosRow (k : Fin 32) : EReal := Ideal.cos (angleP pos (ix3 b s k))
abbrev sinRow (k : Fin 32) : EReal := Ideal.sin (angleP pos (ix3 b s k))
theorem key_plain (j : Fin 64) : keyP pos DR (ix3 b s j) = turnedPair (cosRow pos b s) (sinRow pos b s) (tokRow DR b s) j := by
  pointwise [keyP, keyFirstP, keySecondP]
  rfl
theorem heads_entry (h : Fin 8) (j : Fin 192) : headsP pos DQ (ix4 b s h j) =
    if g : j.val < 128 then DQ (ix4 b s h j) else turnedPair (cosRow pos b s) (sinRow pos b s) (fun i => DQ (ix4 b s h ⟨128 + i.val, by omega⟩)) ⟨j.val - 128, by omega⟩ := by
  pointwise [headsP, firstP, secondP, eachP]
  by_cases g : j.val < 128
  · have g' : ¬(128 ≤ j.val ∧ j.val - 128 < 64) := by omega
    refine Eq.trans ?_ (dif_pos g).symm
    exact (congrArg₂ (· + ·) (dif_neg g') (dif_pos g)).trans (zero_add _)
  · have g' : 128 ≤ j.val ∧ j.val - 128 < 64 := by omega
    refine Eq.trans ?_ (dif_neg g).symm
    exact (congrArg₂ (· + ·) (dif_pos g') (dif_neg g)).trans (add_zero _)
end

variable (m : (ℓ : Loc Cert.MixerKernelIdeal.nD Cert.MixerKernelIdeal.τ Cert.MixerKernelIdeal.sig) → Buf (Elt Ideal) ℓ) (c : Dev Cert.MixerKernelIdeal.nD)
variable (r : Fin 4096)

/-- The sequence and the place of token `r`. -/
abbrev seqOf : Fin 2 := ⟨r.val / 2048, by omega⟩
abbrev placeOf : Fin 2048 := ⟨r.val % 2048, by omega⟩

theorem token_tables : (tokenAt m c r).c = tab (cosRow (argPos m c) (seqOf r) (placeOf r)) (cosRow (argPos m c) (seqOf r) (placeOf r)) ∧
    (tokenAt m c r).a = tab (fun _ => 0) (sinRow (argPos m c) (seqOf r) (placeOf r)) ∧ (tokenAt m c r).b = tab (fun k => -sinRow (argPos m c) (seqOf r) (placeOf r) k) (fun _ => 0) := by
  have e (k : Fin 32) : angles (argPos m c) (ix2 r k) = angleP (argPos m c) (ix3 (seqOf r) (placeOf r) k) := (angle_plain (argPos m c) r k).symm
  dsimp only [tokenAt]
  simp only [e]
  exact ⟨trivial, trivial, trivial⟩
theorem key_turned (j : Fin 128) : turnBack (tokenAt m c r).c (tokenAt m c r).a (tokenAt m c r).b (tokenAt m c r).dkr j = filled64 (rowAt (keyP (argPos m c) (argDkr m c)) r) j := by
  obtain ⟨hc, ha, hb⟩ := token_tables m c r
  rw [hc, ha, hb]
  refine (turn_pair _ _ (rowAt (argDkr m c) r) _ (fun j h => dif_pos h) j).trans ?_
  exact congrArg (filled64 · j) (funext fun i => (key_plain _ _ _ _ i).symm)
theorem heads_turned_back (k : Fin 2048) : headsAt m c r k = filled (fun h j => headsP (argPos m c) (argDq m c) (ix4 (seqOf r) (placeOf r) h j)) k := by
  obtain ⟨hc, ha, hb⟩ := token_tables m c r
  show heads _ _ _ _ k = _
  rw [hc, ha, hb]
  unfold heads
  have hk : k.val = (⟨k.val / 256, by omega⟩ : Fin 8).val * 256 + k.val % 256 := by
    show k.val = k.val / 256 * 256 + k.val % 256
    omega
  have ht (h : k.val % 256 < 192) := (filled_at (fun h j => headsP (argPos m c) (argDq m c) (ix4 (seqOf r) (placeOf r) h j)) (j := ⟨k.val % 256, h⟩) hk).trans
    (heads_entry (argPos m c) (argDq m c) (seqOf r) (placeOf r) ⟨k.val / 256, by omega⟩ ⟨k.val % 256, h⟩)
  by_cases g : k.val % 256 < 128
  · rw [if_pos g, ht (by omega)]
    refine Eq.trans ?_ (dif_pos (show (⟨k.val % 256, by omega⟩ : Fin 192).val < 128 from g)).symm
    exact filled_at (fun h j => argDq m c (ix4 (seqOf r) (placeOf r) h j)) (j := ⟨k.val % 256, by omega⟩) hk
  · rw [if_neg g]
    refine (turn_pair _ _ (fun i => argDq m c (ix4 (seqOf r) (placeOf r) ⟨k.val / 256, by omega⟩ ⟨128 + i.val, by omega⟩)) _ (fun j h => ?_) _).trans ?_
    · exact filled_at (fun h j => argDq m c (ix4 (seqOf r) (placeOf r) h j)) (k := ⟨k.val / 256 * 256 + 128 + j.val, by omega⟩) (h := ⟨k.val / 256, by omega⟩) (j := ⟨128 + j.val, by omega⟩)
        (by show k.val / 256 * 256 + 128 + j.val = k.val / 256 * 256 + (128 + j.val); omega)
    · by_cases g' : k.val % 256 < 192
      · rw [ht g']
        refine Eq.trans ?_ (dif_neg (show ¬(⟨k.val % 256, g'⟩ : Fin 192).val < 128 from g)).symm
        exact dif_pos (by show k.val % 256 - 128 < 64; omega)
      · exact Eq.trans (dif_neg (by show ¬k.val % 256 - 128 < 64; omega)) (filled_not _ g').symm

end Cert.Mixer

end
-- ==== Proof.Mixer.Plain.lean ====
/- What the plain program computes: its intermediate arrays by name, and their entries. -/
module

public import proofs.«01_k».proof.Proof.Mixer.Turn
public import proofs.«01_k».proof.Proof.NormPlain

@[expose] public section

set_option maxRecDepth 16384

noncomputable section

namespace Cert.Mixer

open Idealize Idealize.ShloMosaic Idealize.SL.Sem Cert.MixerReferenceIdeal Cert.MixerReferenceIdeal.Gen Cert.Norm Cert.Rows Cert.Layout Cert.NormPlain
open scoped BigOperators

theorem sides384 : Sides 384 := by constructor <;> decide
theorem sides256 : Sides 256 := by constructor <;> decide

variable (m : (ℓ : Loc Cert.MixerKernelIdeal.nD Cert.MixerKernelIdeal.τ Cert.MixerKernelIdeal.sig) → Buf (Elt Ideal) ℓ) (c : Dev Cert.MixerKernelIdeal.nD)
variable (r : Fin 4096)

section
variable (X O : Rows 1024) (Gm : Gain 1024) (Win : FVec Ideal S1024x3264 .f32) (Gq : Gain 384) (Wq : FVec Ideal S384x1536 .f32) (Gk : Gain 256) (Wkv : FVec Ideal S256x2048 .f32)
  (pos : IVec S2x2048 32) (Dxp : Rows 512) (DQ : Heads) (Dkv : Rows 2048) (DR : FVec Ideal S2x2048x64 .f32) (Dgl : Rows 2048)

/-- The latent rows. -/
def latentQP : Rows 384 := extractStridedSlice S2x2048x384 ![0, 0, 512] (projectedH X Gm Win) slices_S2x2048x3264_S2x2048x384_0_0_512
def latentKP : Rows 256 := extractStridedSlice S2x2048x256 ![0, 0, 896] (projectedH X Gm Win) slices_S2x2048x3264_S2x2048x256_0_0_896
/-- The gradients of the scaled and weighted latent rows, and of the latent rows. -/
def dqnP : Rows 384 := Host.dotGeneral dot_S2x2048x1536_S384x1536_S2x2048x384_2_1_01_0_n_n none (shapeCast S2x2048x1536 (headsP pos DQ) shapeCasts_S2x2048x8x192_S2x2048x1536) Wq
def dknP : Rows 256 := Host.dotGeneral dot_S2x2048x2048_S256x2048_S2x2048x256_2_1_01_0_n_n none Dkv Wkv
def dqlP : Rows 384 := pullP sides384 0x43C00000#32 (latentQP X Gm Win) (mulf (dqnP Wq pos DQ) (gainP sides384 Gq))
def dklP : Rows 256 := pullP sides256 0x43800000#32 (latentKP X Gm Win) (mulf (dknP Wkv Dkv) (gainP sides256 Gk))
/-- The joined gradient of the projected rows. -/
def dprojP : FVec Ideal S2x2048x1280 .f32 :=
  concatenate S2x2048x1280 2 [⟨S2x2048x512, Dxp⟩, ⟨S2x2048x384, dqlP X Gm Win Gq Wq pos DQ⟩, ⟨S2x2048x256, dklP X Gm Win Gk Wkv Dkv⟩, ⟨S2x2048x64, keyP pos DR⟩,
    ⟨S2x2048x64, broadcastInDim S2x2048x64 ![] bcast_S_S2x2048x64 (constant S_ .f32 0x00000000#32)⟩] concatenates_S2x2048x512_S2x2048x384_S2x2048x256_S2x2048x64_S2x2048x64_S2x2048x1280_d2
/-- The gradient of the scaled and weighted rows. -/
def dhP : Rows 1024 :=
  Host.dotGeneral dot_S2x2048x3264_S1024x3264_S2x2048x1024_2_1_01_0_n_n none
    (concatenate S2x2048x3264 2 [⟨S2x2048x512, Dxp⟩, ⟨S2x2048x384, dqlP X Gm Win Gq Wq pos DQ⟩, ⟨S2x2048x256, dklP X Gm Win Gk Wkv Dkv⟩, ⟨S2x2048x64, keyP pos DR⟩, ⟨S2x2048x2048, Dgl⟩]
      concatenates_S2x2048x512_S2x2048x384_S2x2048x256_S2x2048x64_S2x2048x2048_S2x2048x3264_d2) Win
def dxP : Rows 1024 := addf O (pullP sides 0x44800000#32 X (mulf (dhP X Gm Win Gq Wq Gk Wkv pos Dxp DQ Dkv DR Dgl) (gainP sides Gm)))
end

abbrev kept : Token := tokenAt m c r
abbrev used : Weights := weightsAt m c

theorem dqn_plain (k : Fin 384) : rowAt (dqnP (argWq m c) (argPos m c) (argDq m c)) r k = (kept m c r).dqn (used m c) k := by
  show dqnP _ _ _ (ix3 _ _ k) = _
  pointwise [dqnP]
  refine Eq.trans ?_ (Eq.trans (sum_filled (fun h j => headsP (argPos m c) (argDq m c) (ix4 (seqOf r) (placeOf r) h j)) (fun h i => argWq m c (ix2 k ⟨h.val * 192 + i.val, by omega⟩))).symm
    (Finset.sum_congr rfl fun j _ => congrArg (· * _) (heads_turned_back m c r j).symm))
  refine Finset.sum_congr rfl fun j _ => congrArg (headsP _ _ _ * argWq m c ·) (congrArg (ix2 k) (Fin.ext ?_))
  show j.val = j.val / 192 * 192 + j.val % 192
  omega
theorem dkn_plain (k : Fin 256) : rowAt (dknP (argWkv m c) (argDkv m c)) r k = (kept m c r).dkn (used m c) k := by
  show dknP _ _ (ix3 _ _ k) = _
  pointwise [dknP]
  rfl
theorem latentQ_plain : rowAt (latentQP (argX m c) (argGm m c) (argWin m c)) r = (kept m c r).ql := by
  funext k
  show latentQP _ _ _ (ix3 _ _ k) = _
  pointwise [latentQP]
  rfl
theorem latentK_plain : rowAt (latentKP (argX m c) (argGm m c) (argWin m c)) r = (kept m c r).kl := by
  funext k
  show latentKP _ _ _ (ix3 _ _ k) = _
  pointwise [latentKP]
  rfl
abbrev dqlOf : Rows 384 := dqlP (argX m c) (argGm m c) (argWin m c) (argGq m c) (argWq m c) (argPos m c) (argDq m c)
abbrev dklOf : Rows 256 := dklP (argX m c) (argGm m c) (argWin m c) (argGk m c) (argWkv m c) (argDkv m c)
theorem mul_entry {n : ℕ} (A B : Rows n) (i : Shape.Idx ⟨3, ![2, 2048, n]⟩) : (mulf A B : Rows n) i = A i * B i := rfl
/-- The gradients of the scaled latent rows. -/
theorem dqs_plain : rowAt (mulf (dqnP (argWq m c) (argPos m c) (argDq m c)) (gainP sides384 (argGq m c))) r = fun e => (kept m c r).dqn (used m c) e * (used m c).gq e :=
  funext fun e => (mul_entry _ _ _).trans (congrArg₂ (· * ·) (dqn_plain m c r e) (gain_plain sides384 _ _ _ e))
theorem dks_plain : rowAt (mulf (dknP (argWkv m c) (argDkv m c)) (gainP sides256 (argGk m c))) r = fun e => (kept m c r).dkn (used m c) e * (used m c).gk e :=
  funext fun e => (mul_entry _ _ _).trans (congrArg₂ (· * ·) (dkn_plain m c r e) (gain_plain sides256 _ _ _ e))
theorem dql_plain (k : Fin 384) : rowAt (dqlOf m c) r k = (kept m c r).dql (used m c) k :=
  (pull_at sides384 _ _ (by norm_num) width384 _ _ k).trans (congrArg₂ (fun x t => pull x t k) (latentQ_plain m c r) (dqs_plain m c r))
theorem dkl_plain (k : Fin 256) : rowAt (dklOf m c) r k = (kept m c r).dkl (used m c) k :=
  (pull_at sides256 _ _ (by norm_num) width256 _ _ k).trans (congrArg₂ (fun x t => pull x t k) (latentK_plain m c r) (dks_plain m c r))
abbrev dprojOf : FVec Ideal S2x2048x1280 .f32 :=
  dprojP (argX m c) (argGm m c) (argWin m c) (argGq m c) (argWq m c) (argGk m c) (argWkv m c) (argPos m c) (argDxp m c) (argDq m c) (argDkv m c) (argDkr m c)
abbrev dhOf : Rows 1024 :=
  dhP (argX m c) (argGm m c) (argWin m c) (argGq m c) (argWq m c) (argGk m c) (argWkv m c) (argPos m c) (argDxp m c) (argDq m c) (argDkv m c) (argDkr m c) (argDgl m c)
theorem projAt_eq (j : Fin 1280) : projAt m c r j =
    joined (rowAt (argDxp m c) r) ((kept m c r).dql (used m c)) ((kept m c r).dkl (used m c)) (filled64 (rowAt (keyP (argPos m c) (argDkr m c)) r)) j :=
  congrArg (fun t => joined (rowAt (argDxp m c) r) ((kept m c r).dql (used m c)) ((kept m c r).dkl (used m c)) t j) (funext fun i => key_turned m c r i)

/-- The first four parts of the joined rows, at a place before their end. -/
theorem joined_rows (j : Fin 1280) {z : ¬j.val < 512 → ¬j.val - 512 < 384 → ¬j.val - 512 - 384 < 256 → ¬j.val - 512 - 384 - 256 < 64 → EReal} (h : j.val < 1216) :
    (if h0 : j.val < 512 then argDxp m c (ix3 (seqOf r) (placeOf r) ⟨j.val, h0⟩)
      else if h1 : j.val - 512 < 384 then dqlOf m c (ix3 (seqOf r) (placeOf r) ⟨j.val - 512, h1⟩)
      else if h2 : j.val - 512 - 384 < 256 then dklOf m c (ix3 (seqOf r) (placeOf r) ⟨j.val - 512 - 384, h2⟩)
      else if h3 : j.val - 512 - 384 - 256 < 64 then keyP (argPos m c) (argDkr m c) (ix3 (seqOf r) (placeOf r) ⟨j.val - 512 - 384 - 256, h3⟩)
      else z h0 h1 h2 h3) = projAt m c r j := by
  rw [projAt_eq]
  by_cases h0 : j.val < 512
  · rw [dif_pos h0, joined_p (i := ⟨j.val, h0⟩) rfl]
  rw [dif_neg h0]
  by_cases h1 : j.val - 512 < 384
  · rw [dif_pos h1, joined_q (i := ⟨j.val - 512, h1⟩) (by show j.val = 512 + (j.val - 512); omega)]
    exact dql_plain m c r ⟨j.val - 512, h1⟩
  rw [dif_neg h1]
  by_cases h2 : j.val - 512 - 384 < 256
  · rw [dif_pos h2, joined_k (i := ⟨j.val - 512 - 384, h2⟩) (by show j.val = 896 + (j.val - 512 - 384); omega)]
    exact dkl_plain m c r ⟨j.val - 512 - 384, h2⟩
  rw [dif_neg h2, dif_pos (by omega), joined_t (i := ⟨j.val - 512 - 384 - 256, by omega⟩) (by show j.val = 1152 + (j.val - 512 - 384 - 256); omega)]
  unfold filled64
  rw [dif_pos (show j.val - 512 - 384 - 256 < 64 by omega)]
theorem joined_end (j : Fin 1280) (h : ¬j.val < 1216) : projAt m c r j = 0 := by
  rw [projAt_eq, joined_t (i := ⟨j.val - 1152, by omega⟩) (by show j.val = 1152 + (j.val - 1152); omega)]
  exact dif_neg (by show ¬j.val - 1152 < 64; omega)

theorem dproj_plain (j : Fin 1280) : rowAt (dprojOf m c) r j = projAt m c r j := by
  show dprojOf m c (ix3 _ _ j) = _
  pointwise [dprojP]
  by_cases h : j.val < 1216
  · exact joined_rows m c r j h
  · rw [joined_end m c r j h, dif_neg (by omega), dif_neg (by omega), dif_neg (by omega), dif_neg (by omega)]
theorem sum_parts {f : Fin 3264 → EReal} {g : Fin 1280 → EReal} {u : Fin 2048 → EReal} (w : Fin 3264 → EReal) (hf : ∀ j : Fin 1280, j.val < 1216 → f ⟨j.val, by omega⟩ = g j)
    (hg : ∀ j : Fin 1280, ¬j.val < 1216 → g j = 0) (hu : ∀ i : Fin 2048, f ⟨1216 + i.val, by omega⟩ = u i) :
    ∑ j, f j * w j = ∑ j : Fin 1280, g j * w ⟨j.val, by omega⟩ + ∑ i : Fin 2048, u i * w ⟨1216 + i.val, by omega⟩ := by
  refine (Fin.sum_univ_add (a := 1216) (b := 2048) fun j => f j * w j).trans (congrArg₂ (· + ·) ?_ ?_)
  · refine Eq.trans ?_ (Fin.sum_univ_add (a := 1216) (b := 64) fun j : Fin 1280 => g j * w ⟨j.val, by omega⟩).symm
    rw [Finset.sum_eq_zero (s := (Finset.univ : Finset (Fin 64))) (fun i _ => ?_), add_zero]
    · exact Finset.sum_congr rfl fun i _ => congrArg (· * w ⟨i.val, by omega⟩) (hf ⟨i.val, by omega⟩ i.isLt)
    · exact (congrArg (· * _) (hg (Fin.natAdd 1216 i) (by show ¬1216 + i.val < 1216; omega))).trans (zero_mul _)
  · exact Finset.sum_congr rfl fun i _ => congrArg (· * w ⟨1216 + i.val, by omega⟩) (hu i)
theorem dh_plain (d : Fin 1024) : rowAt (dhOf m c) r d = (kept m c r).dh (used m c) d := by
  show dhOf m c (ix3 _ _ d) = _
  pointwise [dhP]
  refine sum_parts (g := projAt m c r) (u := rowAt (argDgl m c) r) (fun j => argWin m c (ix2 d j)) (fun j h => joined_rows m c r j h) (fun j h => joined_end m c r j h) fun i => ?_
  rw [dif_neg (by show ¬1216 + i.val < 512; omega), dif_neg (by show ¬1216 + i.val - 512 < 384; omega), dif_neg (by show ¬1216 + i.val - 512 - 384 < 256; omega),
    dif_neg (by show ¬1216 + i.val - 512 - 384 - 256 < 64; omega)]
  exact congrArg (argDgl m c) (congrArg (ix3 _ _) (Fin.ext (by show 1216 + i.val - 512 - 384 - 256 - 64 = i.val; omega)))
abbrev dxOf : Rows 1024 :=
  dxP (argX m c) (argDxo m c) (argGm m c) (argWin m c) (argGq m c) (argWq m c) (argGk m c) (argWkv m c) (argPos m c) (argDxp m c) (argDq m c) (argDkv m c) (argDkr m c) (argDgl m c)
theorem dx_plain (d : Fin 1024) : rowAt (dxOf m c) r d = dxAt m c r d := by
  refine congrArg (argDxo m c _ + ·) ((pull_at sides (argX m c) _ (by norm_num) width_word _ _ d).trans (congrArg (pull (rowAt (argX m c) r) · d) (funext fun e => ?_)))
  exact (mul_entry _ _ _).trans (congrArg₂ (· * ·) (dh_plain m c r e) (gain_plain sides _ _ _ e))

/-! ## The six results -/

theorem proj_result : (shapeCast S4096x1280 (dprojOf m c) shapeCasts_S2x2048x1280_S4096x1280 : FVec Ideal S4096x1280 .f32) = fun i : S4096x1280.Idx => projAt m c (i 0) (i 1) :=
  stacked_eq _ _ fun r j => dproj_plain m c r j
theorem dx_result : (shapeCast S4096x1024 (dxOf m c) shapeCasts_S2x2048x1024_S4096x1024 : FVec Ideal S4096x1024 .f32) = fun i : S4096x1024.Idx => dxAt m c (i 0) (i 1) :=
  stacked_eq _ _ fun r d => dx_plain m c r d
/-- The heads' rows, zeros joined after each head. -/
def headsFilledP (H : Heads) : FVec Ideal S2x2048x8x256 .f32 :=
  concatenate S2x2048x8x256 3 [⟨S2x2048x8x192, H⟩, ⟨S2x2048x8x64, broadcastInDim S2x2048x8x64 ![] bcast_S_S2x2048x8x64 (constant S_ .f32 0x00000000#32)⟩]
    concatenates_S2x2048x8x192_S2x2048x8x64_S2x2048x8x256_d3
theorem heads_result : (shapeCast S4096x2048 (headsFilledP (headsP (argPos m c) (argDq m c))) shapeCasts_S2x2048x8x256_S4096x2048 : FVec Ideal S4096x2048 .f32) =
    fun i : S4096x2048.Idx => headsAt m c (i 0) (i 1) := by
  funext i
  obtain ⟨r, k, rfl⟩ : ∃ (r : Fin 4096) (k : Fin 2048), i = ix2 r k := ⟨i 0, i 1, Idealize.ShloMosaic.eq_ix2 i⟩
  refine Eq.trans ?_ (heads_turned_back m c r k).symm
  pointwise [headsFilledP]
  rfl
theorem partQ_result : (shapeCast S1x384 (dgainP sides384 0x43C00000#32 (latentQP (argX m c) (argGm m c) (argWin m c)) (dqnP (argWq m c) (argPos m c) (argDq m c))) shapeCasts_S384_S1x384 : FVec Ideal S1x384 .f32) =
    fun i : S1x384.Idx => ∑ r, partQAt m c (i 1) r :=
  row_eq _ _ fun k => (dgain_at sides384 (latentQP (argX m c) (argGm m c) (argWin m c)) (by norm_num) width384 k _).trans (Finset.sum_congr rfl fun r _ =>
    congrArg₂ (· * ·) (dqn_plain m c r k) (congrArg (scaled · k) (latentQ_plain m c r)))
theorem partK_result : (shapeCast S1x256 (dgainP sides256 0x43800000#32 (latentKP (argX m c) (argGm m c) (argWin m c)) (dknP (argWkv m c) (argDkv m c))) shapeCasts_S256_S1x256 : FVec Ideal S1x256 .f32) =
    fun i : S1x256.Idx => ∑ r, partKAt m c (i 1) r :=
  row_eq _ _ fun k => (dgain_at sides256 (latentKP (argX m c) (argGm m c) (argWin m c)) (by norm_num) width256 k _).trans (Finset.sum_congr rfl fun r _ =>
    congrArg₂ (· * ·) (dkn_plain m c r k) (congrArg (scaled · k) (latentK_plain m c r)))
theorem partM_result : (shapeCast S1x1024 (dgainP sides 0x44800000#32 (argX m c) (dhOf m c)) shapeCasts_S1024_S1x1024 : FVec Ideal S1x1024 .f32) =
    fun i : S1x1024.Idx => ∑ r, partMAt m c (i 1) r :=
  row_eq _ _ fun d => (dgain_at sides (argX m c) (by norm_num) width_word d _).trans (Finset.sum_congr rfl fun r _ =>
    congrArg (· * scaled (rowAt (argX m c) r) d) (dh_plain m c r d))

end Cert.Mixer

end
-- ==== Proof.Mixer.Final.lean ====
/- The mixer's input: the two programs, launched over the same arguments, end with the same six results. -/
module

public import proofs.«01_k».proof.Defs
public import proofs.«01_k».proof.Proof.Mixer.Plain
public import proofs.«01_k».proof.Proof.Mixer.Quiet

@[expose] public section

set_option maxRecDepth 16384

noncomputable section

namespace Cert.Mixer

open Idealize Idealize.ShloMosaic Idealize.SL.Sem Cert.MixerReferenceIdeal Cert.MixerReferenceIdeal.Gen Cert.NormPlain
open scoped BigOperators

/-- The plain program declares no semaphore, so a run of it that leaves the arguments unchanged is the whole frame. -/
theorem reference : Cert.quiescent_MixerReferenceIdeal := fun m g _ =>
  (θ_run _ _ _).mono (fun _ h => ⟨fun c => (h c).2.2.2.2.2.2, funext fun s => by rcases s with ⟨_, s | s⟩ <;> exact Fin.elim0 s⟩)
    (Cert.MixerReferenceIdeal.Value.run m g)

set_option maxHeartbeats 4000000 in
/-- Launched over the same arguments, the two programs end with the same six results. -/
theorem value : Cert.algebraic_MixerKernelIdeal_MixerReferenceIdeal := by
  intro m g m' g' _ hagree
  refine ⟨fun c => (dats m 0 c).arrAt 18 Cert.MixerKernelIdeal.cfg0.N, fun c => (dats m 0 c).arrAt 19 Cert.MixerKernelIdeal.cfg0.N,
    fun c => (dats m 0 c).arrAt 20 Cert.MixerKernelIdeal.cfg0.N, fun c => (dats m 0 c).arrAt 21 Cert.MixerKernelIdeal.cfg0.N,
    fun c => (dats m 0 c).arrAt 22 Cert.MixerKernelIdeal.cfg0.N, fun c => (dats m 0 c).arrAt 23 Cert.MixerKernelIdeal.cfg0.N,
    (θ_run Cert.MixerKernelIdeal.defs _ _).mono (fun _ h c => ⟨(h.1 c).1, (h.1 c).2.1, (h.1 c).2.2.1, (h.1 c).2.2.2.1, (h.1 c).2.2.2.2.1, (h.1 c).2.2.2.2.2, h.2.1 c⟩)
      (θ_run_and (arrays_run m g) (frame_run m g)), ?_⟩
  refine (θ_run _ _ _).mono (fun r h c => ?_) (Cert.MixerReferenceIdeal.Value.run m' g')
  obtain ⟨h0, h1, h2, h3, h4, h5, h6⟩ := h c
  obtain ⟨a0, a1, a2, a3, a4, a5, a6, a7, a8, a9, a10, a11, a12, a13⟩ := hagree c
  refine ⟨h0.trans ?_, h1.trans ?_, h2.trans ?_, h3.trans ?_, h4.trans ?_, h5.trans ?_, h6⟩
  · show shapeCast S4096x1280 (dprojP (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg1)) (m' ((c.tc : Thread nD τ).loc main_arg8)) (m' ((c.tc : Thread nD τ).loc main_arg9)) (m' ((c.tc : Thread nD τ).loc main_arg10)) (m' ((c.tc : Thread nD τ).loc main_arg11))) _ = _
    rw [a0, a1, a2, a3, a4, a5, a6, a7, a8, a9, a10, a11]
    exact (proj_result m c).trans (proj_final m c).symm
  · show shapeCast S4096x2048 (headsFilledP (headsP (m' ((c.tc : Thread nD τ).loc main_arg1)) (m' ((c.tc : Thread nD τ).loc main_arg9)))) _ = _
    rw [a1, a9]
    exact (heads_result m c).trans (heads_final m c).symm
  · show shapeCast S1x384 (dgainP sides384 0x43C00000#32 (latentQP (m' ((c.tc : Thread nD τ).loc main_arg0)) (m' ((c.tc : Thread nD τ).loc main_arg2)) (m' ((c.tc : Thread nD τ).loc main_arg3))) (dqnP (m' ((c.tc : Thread nD τ).loc main_arg5)) (m' ((c.tc : Thread nD τ).loc main_arg1)) (m' ((c.tc : Thread nD τ).loc main_arg9)))) _ = _
    rw [a0, a1, a2, a3, a5, a9]
    exact (partQ_result m c).trans (partQ_final m c).symm
  · show shapeCast S1x256 (dgainP sides256 0x43800000#32 (latentKP (m' ((c.tc : Thread nD τ).loc main_arg0)) (m' ((c.tc : Thread nD τ).loc main_arg2)) (m' ((c.tc : Thread nD τ).loc main_arg3))) (dknP (m' ((c.tc : Thread nD τ).loc main_arg7)) (m' ((c.tc : Thread nD τ).loc main_arg10)))) _ = _
    rw [a0, a2, a3, a7, a10]
    exact (partK_result m c).trans (partK_final m c).symm
  · show shapeCast S4096x1024 (dxP (m' ((c.tc : Thread nD τ).loc main_arg0)) (m' ((c.tc : Thread nD τ).loc main_arg13)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg1)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))) _ = _
    rw [a0, a1, a2, a3, a4, a5, a6, a7, a8, a9, a10, a11, a12, a13]
    exact (dx_result m c).trans (dx_final m c).symm
  · show shapeCast S1x1024 (dgainP sides 0x44800000#32 (m' ((c.tc : Thread nD τ).loc main_arg0)) (dhP (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg1)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)))) _ = _
    rw [a0, a1, a2, a3, a4, a5, a6, a7, a8, a9, a10, a11, a12]
    exact (partM_result m c).trans (partM_final m c).symm

end Cert.Mixer

end
-- ==== Proof.First.Final.lean ====
/- The scaling of the rows to mean square one: what a block gives, the array after the run, and that the plain program gives the same. -/
module

public import proofs.«01_k».proof.Defs
public import proofs.«01_k».proof.Proof.Gen.NormKernelIdeal.Value
public import proofs.«01_k».proof.Proof.Gen.NormReferenceIdeal.Run
public import proofs.«01_k».proof.Proof.NormPlain
public import Idealize.ShloMosaic.Lib.Claim
public import Idealize.ShloMosaic.Lib.Pipeline.ValueKit

@[expose] public section

set_option maxRecDepth 16384

noncomputable section

namespace Cert.First

open Idealize Idealize.ShloMosaic Idealize.SL.Sem Cert.Norm Cert.Rows Cert.Layout Cert.NormPlain
open scoped BigOperators

section
open Cert.NormKernelIdeal Cert.NormKernelIdeal.Gen

theorem scaled_block (X : FVec Ideal S512x1024 .f32) (G : FVec Ideal S1x1024 .f32) (r : Fin 512) (d : Fin 1024) :
    k0_pay1 (F := Ideal) X G (ix2 r d) = scaled (line X r) d * only G d := by
  pointwise [k0_pay1]
  rw [div_width]
  rfl

variable (m : (ℓ : Loc nD τ sig) → Buf (Elt Ideal) ℓ) (c : Dev nD)

abbrev argX : FVec Ideal S2x2048x1024 .f32 := m ((c.tc : Thread nD τ).loc main_arg0)
abbrev argG : FVec Ideal S1024 .f32 := m ((c.tc : Thread nD τ).loc main_arg1)

/-- Where each window's block lies at grid point `t`. -/
theorem places_of_blocks : ∀ t : Fin cfg0.N, win0_0.index t = ![t.val, 0] ∧ win0_1.index t = ![0, 0] ∧ win0_2.index t = ![t.val, 0] :=
  (by decide +kernel : ∀ t : Fin grid0.N, _)

/-- Row `r` of the block at point `t`. -/
abbrev blockRow (t : Fin cfg0.N) (r : Fin 512) : Fin 4096 := rowOf (m := 8) (n := 512) rfl ⟨t.val, t.isLt⟩ r

variable (t : Fin cfg0.N) (r : Fin 512)

theorem rows_block : line (iblk m c 0 t) r = rowAt (argX m c) (blockRow t r) := by
  funext d
  have e : (win0_0.blk t).view.emb (ix2 r d) = ix2 (blockRow t r) d := by blk_ext [places_of_blocks t]
  show V m c main_v0 ((win0_0.blk t).view.emb (ix2 r d)) = _
  rw [e]
  entry_read
  exact stacked_apply _ _ _ _
theorem gain_block : only (iblk m c 1 t) = gainRow (argG m c) := by
  funext d
  have e : (win0_1.blk t).view.emb (ix2 0 d) = ix2 0 d := by blk_ext [places_of_blocks t]
  show V m c main_v1 ((win0_1.blk t).view.emb (ix2 0 d)) = _
  rw [e]
  entry_read
  exact row_apply _ _ _

theorem out_point (i : S512x1024.Idx) : out0_2 (F := Ideal) (iblk m c 0 t) (iblk m c 1 t) i =
    scaled (rowAt (argX m c) (blockRow t (i 0))) (i 1) * gainRow (argG m c) (i 1) := by
  obtain ⟨r, d, rfl⟩ : ∃ (r : Fin 512) (d : Fin 1024), i = ix2 r d := ⟨i 0, i 1, Idealize.ShloMosaic.eq_ix2 i⟩
  unfold out0_2
  frame_out
  refine (scaled_block _ _ r d).trans ?_
  rw [rows_block, gain_block]
  rfl

/-- The array after the run: every row scaled, and weighted by the gain. -/
theorem rows_final : (dats m 0 c).arrAt 2 cfg0.N = fun i : S4096x1024.Idx => scaled (rowAt (argX m c) (i 0)) (i 1) * gainRow (argG m c) (i 1) := by
  refine (dats m 0 c).arrAt_eq_of_covers 2 _ (by decide +kernel) fun t hf y => ?_
  blk_simp
  rw [after0_2, out_point m c t]
  have e0 : (win0_2.blk t).view.emb y 0 = blockRow t (y 0) := by
    apply Fin.ext
    blk_simp [places_of_blocks t]
    try rfl
  have e1 : (win0_2.blk t).view.emb y 1 = y 1 := by
    apply Fin.ext
    blk_simp [places_of_blocks t]
  rw [e0, e1]
end

/-- The plain program declares no semaphore, so a run of it that leaves the arguments unchanged is the whole frame. -/
theorem reference : Cert.quiescent_NormReferenceIdeal := fun m g _ =>
  (θ_run _ _ _).mono (fun _ h => ⟨fun c => (h c).2, funext fun s => by rcases s with ⟨_, s | s⟩ <;> exact Fin.elim0 s⟩)
    (Cert.NormReferenceIdeal.Value.run m g)

/-- Launched over the same arguments, whatever they are, the two programs end with the same scaled rows. -/
theorem value : Cert.algebraic_NormKernelIdeal_NormReferenceIdeal := by
  intro m g m' g' _ hagree
  refine ⟨fun c => (Cert.NormKernelIdeal.Gen.dats m 0 c).arrAt 2 Cert.NormKernelIdeal.cfg0.N, Cert.NormKernelIdeal.Value.run_blocks m g, ?_⟩
  refine (θ_run _ _ _).mono (fun r h c => ?_) (Cert.NormReferenceIdeal.Value.run m' g')
  obtain ⟨h0, h1⟩ := h c
  obtain ⟨a0, a1⟩ := hagree c
  refine ⟨h0.trans ?_, h1⟩
  rw [a0, a1]
  exact Eq.trans (stacked_eq _ (weightedP sides 0x44800000#32 (argX m c) (argG m c)) fun r d => weighted_plain sides _ _ (by norm_num) width_word _ _ d) (rows_final m c).symm

end Cert.First

end
-- ==== Proof.Gate.Block.lean ====
/- What one block of rows gives: the two halves of the inner rows, the gated inner rows, the new rows, and those scaled to mean square one. -/
module

public import proofs.«01_k».proof.Proof.Norm
public import proofs.«01_k».proof.Proof.Layout
public import proofs.«01_k».proof.Proof.Gen.GateKernelIdeal.Value
public import Idealize.ShloMosaic.Lib.Pointwise

@[expose] public section

set_option maxRecDepth 16384

noncomputable section

namespace Cert.Gate

open Idealize Idealize.ShloMosaic Idealize.SL.Sem Cert.GateKernelIdeal Cert.GateKernelIdeal.Gen Cert.Norm Cert.Layout
open scoped BigOperators

/-- A half of the inner row: the row times the half's matrix, whose rows are `A`. -/
def half (h : Fin 1024 → EReal) (A : Fin 2816 → Fin 1024 → EReal) (k : Fin 2816) : EReal := ∑ d, h d * A k d
/-- The gated inner row, of the gate's half `a` and the other. -/
def gated (a u : Fin 2816 → EReal) (k : Fin 2816) : EReal := a k * Ideal.logistic (a k) * u k
/-- The new row: the old, and half the gated inner row times the inner matrix. -/
def next (x : Fin 1024 → EReal) (p : Fin 2816 → EReal) (D : Fin 2816 → Fin 1024 → EReal) (d : Fin 1024) : EReal := x d + Ideal.ofBits .f32 0x3F000000#32 * ∑ k, p k * D k d

variable (H : FVec Ideal S256x1024 .bf16) (A B D : FVec Ideal S2816x1024 .bf16) (X : FVec Ideal S256x1024 .f32) (G : FVec Ideal S1x1024 .f32) (r : Fin 256) (k : Fin 2816) (d : Fin 1024)

/-- The halves and the new rows of a block. -/
abbrev halfOf : Fin 2816 → EReal := half (fun d => H (ix2 r d)) (fun k d => A (ix2 k d))
abbrev nextOf : Fin 1024 → EReal := next (line X r) (gated (halfOf H A r) (halfOf H B r)) (fun k d => D (ix2 k d))

theorem low_block : k0_pay3 (F := Ideal) H A (ix2 r k) = halfOf H A r k := by
  pointwise [k0_pay3, k0_pay2]
  rfl
theorem high_block : k0_pay4 (F := Ideal) H B (ix2 r k) = halfOf H B r k := by
  pointwise [k0_pay4, k0_pay2]
  rfl
theorem low_stored : k0_pay6 (F := Ideal) H A (ix2 r k) = halfOf H A r k := by
  pointwise [k0_pay6]
  exact low_block H A r k
theorem high_stored : k0_pay7 (F := Ideal) H B (ix2 r k) = halfOf H B r k := by
  pointwise [k0_pay7]
  exact high_block H B r k
theorem gated_block : k0_pay5 (F := Ideal) H A B (ix2 r k) = gated (halfOf H A r) (halfOf H B r) k := by
  pointwise [k0_pay5]
  rw [low_block, high_block]
  rfl
theorem next_block : k0_pay8 (F := Ideal) H A B X D (ix2 r d) = nextOf H A B D X r d := by
  pointwise [k0_pay8]
  simp only [gated_block]
  rfl
theorem square_block : k0_pay9 (F := Ideal) H A B X D (ix2 r 0) = (∑ d, nextOf H A B D X r d * nextOf H A B D X r d) * invLen 1024 := by
  pointwise [k0_pay9]
  simp only [next_block, div_width]
theorem weighted_block : k0_pay1 (F := Ideal) (k0_pay8 (F := Ideal) H A B X D) (k0_pay9 (F := Ideal) H A B X D) G (ix2 r d) = scaled (nextOf H A B D X r) d * only G d := by
  pointwise [k0_pay1]
  rw [next_block, square_block]
  rfl

end Cert.Gate

end
-- ==== Proof.Gate.Points.lean ====
/- The arrays the program works on, the blocks of them that each grid point reads, and the five result arrays after the run. -/
module

public import proofs.«01_k».proof.Proof.Gate.Block
public import proofs.«01_k».proof.Proof.Ffn.Arrays
public import Idealize.ShloMosaic.Lib.Claim
public import Idealize.ShloMosaic.Lib.Pipeline.ValueKit

@[expose] public section

set_option maxRecDepth 16384

noncomputable section

namespace Cert.Gate

open Idealize Idealize.ShloMosaic Idealize.SL.Sem Cert.GateKernelIdeal Cert.GateKernelIdeal.Gen Cert.Norm Cert.Rows Cert.Layout
open Cert.Ffn (low high)
open scoped BigOperators

section
variable (X H : FVec Ideal S2x2048x1024 .f32) (W : FVec Ideal S1024x5632 .f32) (D : FVec Ideal S2816x1024 .f32) (G : FVec Ideal S1024 .f32) (r : Fin 4096)

/-- At row `r`: the gate's half of the inner row, the other half, the gated inner row, the new row, and that scaled and weighted. -/
def lowAt : Fin 2816 → EReal := half (rowAt H r) (fun k d => W (ix2 d (low k)))
def highAt : Fin 2816 → EReal := half (rowAt H r) (fun k d => W (ix2 d (high k)))
def gatedAt : Fin 2816 → EReal := gated (lowAt H W r) (highAt H W r)
def nextAt : Fin 1024 → EReal := next (rowAt X r) (gatedAt H W r) (fun k d => D (ix2 k d))
def weightedAt (d : Fin 1024) : EReal := scaled (nextAt X H W D r) d * gainRow G d
end

variable (m : (ℓ : Loc nD τ sig) → Buf (Elt Ideal) ℓ) (c : Dev nD)

abbrev argX : FVec Ideal S2x2048x1024 .f32 := m ((c.tc : Thread nD τ).loc main_arg0)
abbrev argH : FVec Ideal S2x2048x1024 .f32 := m ((c.tc : Thread nD τ).loc main_arg1)
abbrev argUp : FVec Ideal S1024x5632 .f32 := m ((c.tc : Thread nD τ).loc main_arg2)
abbrev argDown : FVec Ideal S2816x1024 .f32 := m ((c.tc : Thread nD τ).loc main_arg3)
abbrev argG : FVec Ideal S1024 .f32 := m ((c.tc : Thread nD τ).loc main_arg4)

/-- Where each window's block lies at grid point `t`. -/
theorem places_of_blocks : ∀ t : Fin cfg0.N, win0_0.index t = ![t.val, 0] ∧ win0_1.index t = ![t.val, 0] ∧ win0_2.index t = ![0, 0] ∧ win0_3.index t = ![1, 0] ∧
    win0_4.index t = ![0, 0] ∧ win0_5.index t = ![0, 0] ∧ win0_6.index t = ![t.val, 0] ∧ win0_7.index t = ![t.val, 0] ∧
    win0_8.index t = ![t.val, 0] ∧ win0_9.index t = ![t.val, 0] ∧ win0_10.index t = ![t.val, 0] :=
  (by decide +kernel : ∀ t : Fin grid0.N, _)

/-- Row `r` of the block at point `t`. -/
abbrev blockRow (t : Fin cfg0.N) (r : Fin 256) : Fin 4096 := rowOf (m := 16) (n := 256) rfl ⟨t.val, t.isLt⟩ r

variable (t : Fin cfg0.N) (r : Fin 256) (k : Fin 2816) (d : Fin 1024)

theorem rows_read : line (iblk m c 0 t) r = rowAt (argX m c) (blockRow t r) := by
  funext d
  have e : (win0_0.blk t).view.emb (ix2 r d) = ix2 (blockRow t r) d := by blk_ext [places_of_blocks t]
  show V m c main_v0 ((win0_0.blk t).view.emb (ix2 r d)) = _
  rw [e]
  entry_read
  exact stacked_apply _ _ _ _
theorem inputs_read : (iblk m c 1 t : FVec Ideal S256x1024 .bf16) (ix2 r d) = rowAt (argH m c) (blockRow t r) d := by
  have e : (win0_1.blk t).view.emb (ix2 r d) = ix2 (blockRow t r) d := by blk_ext [places_of_blocks t]
  show V m c main_v2 ((win0_1.blk t).view.emb (ix2 r d)) = _
  rw [e]
  entry_read
  show shapeCast S4096x1024 (argH m c) _ (ix2 _ d) = _
  exact stacked_apply _ _ _ _
theorem low_read : (iblk m c 2 t : FVec Ideal S2816x1024 .bf16) (ix2 k d) = argUp m c (ix2 d (low k)) := by
  have e : (win0_2.blk t).view.emb (ix2 k d) = ix2 (low k) d := by blk_ext [places_of_blocks t]
  show V m c main_v4 ((win0_2.blk t).view.emb (ix2 k d)) = _
  rw [e]
  entry_read
  pointwise
theorem high_read : (iblk m c 3 t : FVec Ideal S2816x1024 .bf16) (ix2 k d) = argUp m c (ix2 d (high k)) := by
  have e : (win0_3.blk t).view.emb (ix2 k d) = ix2 (high k) d := by blk_ext [places_of_blocks t]
  show V m c main_v4 ((win0_3.blk t).view.emb (ix2 k d)) = _
  rw [e]
  entry_read
  pointwise
theorem down_read : (iblk m c 4 t : FVec Ideal S2816x1024 .bf16) (ix2 k d) = argDown m c (ix2 k d) := by
  have e : (win0_4.blk t).view.emb (ix2 k d) = ix2 k d := by blk_ext [places_of_blocks t]
  show V m c main_v5 ((win0_4.blk t).view.emb (ix2 k d)) = _
  rw [e]
  entry_read
  rfl
theorem gain_read : only (iblk m c 5 t) = gainRow (argG m c) := by
  funext d
  have e : (win0_5.blk t).view.emb (ix2 0 d) = ix2 0 d := by blk_ext [places_of_blocks t]
  show V m c main_v6 ((win0_5.blk t).view.emb (ix2 0 d)) = _
  rw [e]
  entry_read
  exact row_apply _ _ _

theorem low_half : halfOf (iblk m c 1 t) (iblk m c 2 t) r = lowAt (argH m c) (argUp m c) (blockRow t r) := by
  funext k
  exact Finset.sum_congr rfl fun d _ => congrArg₂ (fun x y : EReal => x * y) (inputs_read m c t r d) (low_read m c t k d)
theorem high_half : halfOf (iblk m c 1 t) (iblk m c 3 t) r = highAt (argH m c) (argUp m c) (blockRow t r) := by
  funext k
  exact Finset.sum_congr rfl fun d _ => congrArg₂ (fun x y : EReal => x * y) (inputs_read m c t r d) (high_read m c t k d)
theorem next_row : nextOf (iblk m c 1 t) (iblk m c 2 t) (iblk m c 3 t) (iblk m c 4 t) (iblk m c 0 t) r = nextAt (argX m c) (argH m c) (argUp m c) (argDown m c) (blockRow t r) := by
  unfold nextOf
  rw [rows_read, low_half, high_half]
  exact congrArg (next _ _) (funext fun k => funext fun d => down_read m c t k d)

theorem low_point (i : S256x2816.Idx) : out0_6 (F := Ideal) (iblk m c 0 t) (iblk m c 1 t) (iblk m c 2 t) (iblk m c 3 t) (iblk m c 4 t) (iblk m c 5 t) i =
    lowAt (argH m c) (argUp m c) (blockRow t (i 0)) (i 1) := by
  obtain ⟨r, k, rfl⟩ : ∃ (r : Fin 256) (k : Fin 2816), i = ix2 r k := ⟨i 0, i 1, Idealize.ShloMosaic.eq_ix2 i⟩
  unfold out0_6
  frame_out
  exact (low_stored _ _ r k).trans (congrFun (low_half m c t r) k)
theorem high_point (i : S256x2816.Idx) : out0_7 (F := Ideal) (iblk m c 0 t) (iblk m c 1 t) (iblk m c 2 t) (iblk m c 3 t) (iblk m c 4 t) (iblk m c 5 t) i =
    highAt (argH m c) (argUp m c) (blockRow t (i 0)) (i 1) := by
  obtain ⟨r, k, rfl⟩ : ∃ (r : Fin 256) (k : Fin 2816), i = ix2 r k := ⟨i 0, i 1, Idealize.ShloMosaic.eq_ix2 i⟩
  unfold out0_7
  frame_out
  exact (high_stored _ _ r k).trans (congrFun (high_half m c t r) k)
theorem gated_point (i : S256x2816.Idx) : out0_8 (F := Ideal) (iblk m c 0 t) (iblk m c 1 t) (iblk m c 2 t) (iblk m c 3 t) (iblk m c 4 t) (iblk m c 5 t) i =
    gatedAt (argH m c) (argUp m c) (blockRow t (i 0)) (i 1) := by
  obtain ⟨r, k, rfl⟩ : ∃ (r : Fin 256) (k : Fin 2816), i = ix2 r k := ⟨i 0, i 1, Idealize.ShloMosaic.eq_ix2 i⟩
  unfold out0_8
  frame_out
  refine (gated_block _ _ _ r k).trans ?_
  rw [low_half, high_half]
  rfl
theorem next_point (i : S256x1024.Idx) : out0_9 (F := Ideal) (iblk m c 0 t) (iblk m c 1 t) (iblk m c 2 t) (iblk m c 3 t) (iblk m c 4 t) (iblk m c 5 t) i =
    nextAt (argX m c) (argH m c) (argUp m c) (argDown m c) (blockRow t (i 0)) (i 1) := by
  obtain ⟨r, d, rfl⟩ : ∃ (r : Fin 256) (d : Fin 1024), i = ix2 r d := ⟨i 0, i 1, Idealize.ShloMosaic.eq_ix2 i⟩
  unfold out0_9
  frame_out
  exact (next_block _ _ _ _ _ r d).trans (congrFun (next_row m c t r) d)
theorem weighted_point (i : S256x1024.Idx) : out0_10 (F := Ideal) (iblk m c 0 t) (iblk m c 1 t) (iblk m c 2 t) (iblk m c 3 t) (iblk m c 4 t) (iblk m c 5 t) i =
    weightedAt (argX m c) (argH m c) (argUp m c) (argDown m c) (argG m c) (blockRow t (i 0)) (i 1) := by
  obtain ⟨r, d, rfl⟩ : ∃ (r : Fin 256) (d : Fin 1024), i = ix2 r d := ⟨i 0, i 1, Idealize.ShloMosaic.eq_ix2 i⟩
  unfold out0_10
  frame_out
  refine (weighted_block _ _ _ _ _ _ r d).trans ?_
  rw [next_row, gain_read]
  rfl

theorem low_final : (dats m 0 c).arrAt 6 cfg0.N = fun i : S4096x2816.Idx => lowAt (argH m c) (argUp m c) (i 0) (i 1) := by
  refine (dats m 0 c).arrAt_eq_of_covers 6 _ (by decide +kernel) fun t hf y => ?_
  blk_simp
  have e : (win0_6.blk t).view.emb y = ix2 (blockRow t (y 0)) (y 1) := by blk_ext [places_of_blocks t]
  rw [after0_6, low_point m c t, e]
  rfl
theorem high_final : (dats m 0 c).arrAt 7 cfg0.N = fun i : S4096x2816.Idx => highAt (argH m c) (argUp m c) (i 0) (i 1) := by
  refine (dats m 0 c).arrAt_eq_of_covers 7 _ (by decide +kernel) fun t hf y => ?_
  blk_simp
  have e : (win0_7.blk t).view.emb y = ix2 (blockRow t (y 0)) (y 1) := by blk_ext [places_of_blocks t]
  rw [after0_7, high_point m c t, e]
  rfl
theorem gated_final : (dats m 0 c).arrAt 8 cfg0.N = fun i : S4096x2816.Idx => gatedAt (argH m c) (argUp m c) (i 0) (i 1) := by
  refine (dats m 0 c).arrAt_eq_of_covers 8 _ (by decide +kernel) fun t hf y => ?_
  blk_simp
  have e : (win0_8.blk t).view.emb y = ix2 (blockRow t (y 0)) (y 1) := by blk_ext [places_of_blocks t]
  rw [after0_8, gated_point m c t, e]
  rfl
theorem next_final : (dats m 0 c).arrAt 9 cfg0.N = fun i : S4096x1024.Idx => nextAt (argX m c) (argH m c) (argUp m c) (argDown m c) (i 0) (i 1) := by
  refine (dats m 0 c).arrAt_eq_of_covers 9 _ (by decide +kernel) fun t hf y => ?_
  blk_simp
  have e : (win0_9.blk t).view.emb y = ix2 (blockRow t (y 0)) (y 1) := by blk_ext [places_of_blocks t]
  rw [after0_9, next_point m c t, e]
  rfl
theorem weighted_final : (dats m 0 c).arrAt 10 cfg0.N = fun i : S4096x1024.Idx => weightedAt (argX m c) (argH m c) (argUp m c) (argDown m c) (argG m c) (i 0) (i 1) := by
  refine (dats m 0 c).arrAt_eq_of_covers 10 _ (by decide +kernel) fun t hf y => ?_
  blk_simp
  have e : (win0_10.blk t).view.emb y = ix2 (blockRow t (y 0)) (y 1) := by blk_ext [places_of_blocks t]
  rw [after0_10, weighted_point m c t, e]
  rfl

end Cert.Gate

end
-- ==== Proof.Gate.Final.lean ====
/- What the plain program computes, and that the two programs, launched over the same arguments, end with the same five results. -/
module

public import proofs.«01_k».proof.Defs
public import proofs.«01_k».proof.Proof.Gate.Points
public import proofs.«01_k».proof.Proof.NormPlain
public import proofs.«01_k».proof.Proof.Gen.GateReferenceIdeal.Run

@[expose] public section

set_option maxRecDepth 16384

noncomputable section

namespace Cert.Gate

open Idealize Idealize.ShloMosaic Idealize.SL.Sem Cert.GateReferenceIdeal Cert.GateReferenceIdeal.Gen Cert.Norm Cert.Rows Cert.Layout Cert.NormPlain
open Cert.Ffn (low high)
open scoped BigOperators

/-- Halves of the inner rows. -/
abbrev Half := FVec Ideal S2x2048x2816 .f32

section
variable (X H : Rows 1024) (W : FVec Ideal S1024x5632 .f32) (D : FVec Ideal S2816x1024 .f32)

def innerP : FVec Ideal S2x2048x5632 .f32 := Host.dotGeneral dot_S2x2048x1024_S1024x5632_S2x2048x5632_2_0_01_1_n_n none H W
def lowP : Half := extractStridedSlice S2x2048x2816 ![0, 0, 0] (innerP H W) slices_S2x2048x5632_S2x2048x2816_0_0_0
def highP : Half := extractStridedSlice S2x2048x2816 ![0, 0, 2816] (innerP H W) slices_S2x2048x5632_S2x2048x2816_0_0_2816
/-- The number one everywhere. -/
def onesP : Half := broadcastInDim S2x2048x2816 ![] bcast_S_S2x2048x2816 (constant S_ .f32 0x3F800000#32)
/-- The logistic of `a`. -/
def sigP (a : Half) : Half := Host.divf onesP (addf onesP (Host.exp (Host.negf a)))
def gatedP : Half := mulf (mulf (lowP H W) (sigP (lowP H W))) (highP H W)
def nextP : Rows 1024 :=
  addf X (mulf (broadcastInDim S2x2048x1024 ![] bcast_S_S2x2048x1024 (constant S_ .f32 0x3F000000#32)) (Host.dotGeneral dot_S2x2048x2816_S2816x1024_S2x2048x1024_2_0_01_1_n_n none (gatedP H W) D))
end

variable (X H : Rows 1024) (W : FVec Ideal S1024x5632 .f32) (D : FVec Ideal S2816x1024 .f32) (G : Gain 1024) (r : Fin 4096) (b : Fin 2) (s : Fin 2048) (k : Fin 2816) (d : Fin 1024)

theorem inner_plain (k : Fin 5632) : innerP H W (ix3 b s k) = ∑ d, H (ix3 b s d) * W (ix2 d k) := by
  pointwise [innerP]
theorem sig_plain (a : Half) : sigP a (ix3 b s k) = Ideal.logistic (a (ix3 b s k)) := by
  pointwise [sigP, onesP]
  rfl
theorem low_plain : rowAt (lowP H W) r k = lowAt H W r k := by
  show lowP H W (ix3 _ _ k) = _
  pointwise [lowP]
  exact inner_plain H W _ _ (low k)
theorem high_plain : rowAt (highP H W) r k = highAt H W r k := by
  show highP H W (ix3 _ _ k) = _
  pointwise [highP]
  exact inner_plain H W _ _ (high k)
theorem gated_plain : rowAt (gatedP H W) r k = gatedAt H W r k := by
  show gatedP H W (ix3 _ _ k) = _
  pointwise [gatedP]
  rw [sig_plain, show lowP H W (ix3 _ _ k) = _ from low_plain H W r k, show highP H W (ix3 _ _ k) = _ from high_plain H W r k]
  rfl
theorem next_plain : rowAt (nextP X H W D) r d = nextAt X H W D r d := by
  show nextP X H W D (ix3 _ _ d) = _
  pointwise [nextP]
  exact congrArg (fun y : EReal => _ + _ * y) (Finset.sum_congr rfl fun k _ => congrArg (fun y : EReal => y * D (ix2 k d)) (gated_plain H W r k))
theorem weighted_rows : rowAt (weightedP sides 0x44800000#32 (nextP X H W D) G) r d = weightedAt X H W D G r d := by
  refine (weighted_plain sides (nextP X H W D) G (by norm_num) width_word _ _ d).trans ?_
  exact congrArg (fun x : Fin 1024 → EReal => scaled x d * gainRow G d) (funext fun d => next_plain X H W D r d)

/-- The plain program declares no semaphore, so a run of it that leaves the arguments unchanged is the whole frame. -/
theorem reference : Cert.quiescent_GateReferenceIdeal := fun m g _ =>
  (θ_run _ _ _).mono (fun _ h => ⟨fun c => (h c).2.2.2.2.2, funext fun s => by rcases s with ⟨_, s | s⟩ <;> exact Fin.elim0 s⟩)
    (Cert.GateReferenceIdeal.Value.run m g)

set_option maxHeartbeats 2000000 in
/-- Launched over the same arguments, whatever they are, the two programs end with the same five results. -/
theorem value : Cert.algebraic_GateKernelIdeal_GateReferenceIdeal := by
  intro m g m' g' _ hagree
  refine ⟨fun c => (Cert.GateKernelIdeal.Gen.dats m 0 c).arrAt 6 Cert.GateKernelIdeal.cfg0.N, fun c => (Cert.GateKernelIdeal.Gen.dats m 0 c).arrAt 7 Cert.GateKernelIdeal.cfg0.N,
    fun c => (Cert.GateKernelIdeal.Gen.dats m 0 c).arrAt 8 Cert.GateKernelIdeal.cfg0.N, fun c => (Cert.GateKernelIdeal.Gen.dats m 0 c).arrAt 9 Cert.GateKernelIdeal.cfg0.N,
    fun c => (Cert.GateKernelIdeal.Gen.dats m 0 c).arrAt 10 Cert.GateKernelIdeal.cfg0.N, Cert.GateKernelIdeal.Value.run_blocks m g, ?_⟩
  refine (θ_run _ _ _).mono (fun r h c => ?_) (Cert.GateReferenceIdeal.Value.run m' g')
  obtain ⟨h0, h1, h2, h3, h4, h5⟩ := h c
  obtain ⟨a0, a1, a2, a3, a4⟩ := hagree c
  unfold Cert.GateReferenceIdeal.Value.res_main_v30 at h4
  rw [a0, a1, a2, a3, a4] at h4
  rw [a1, a2] at h0 h1 h2
  rw [a0, a1, a2, a3] at h3
  refine ⟨h0.trans ?_, h1.trans ?_, h2.trans ?_, h3.trans ?_, h4.trans ?_, h5⟩
  · exact Eq.trans (stacked_eq _ (lowP (argH m c) (argUp m c)) fun r k => low_plain _ _ r k) (low_final m c).symm
  · exact Eq.trans (stacked_eq _ (highP (argH m c) (argUp m c)) fun r k => high_plain _ _ r k) (high_final m c).symm
  · exact Eq.trans (stacked_eq _ (gatedP (argH m c) (argUp m c)) fun r k => gated_plain _ _ r k) (gated_final m c).symm
  · exact Eq.trans (stacked_eq _ (nextP (argX m c) (argH m c) (argUp m c) (argDown m c)) fun r d => next_plain _ _ _ _ r d) (next_final m c).symm
  · exact Eq.trans (stacked_eq _ (weightedP sides 0x44800000#32 (nextP (argX m c) (argH m c) (argUp m c) (argDown m c)) (argG m c)) fun r d => weighted_rows _ _ _ _ _ r d) (weighted_final m c).symm

end Cert.Gate

end
-- ==== Proof.Join.Block.lean ====
/- What one block of rows gives: the gates, the two branches, the branches' gated sum, the new rows, and those scaled to mean square one. -/
module

public import proofs.«01_k».proof.Proof.Norm
public import proofs.«01_k».proof.Proof.Merge.Arrays
public import proofs.«01_k».proof.Proof.Gen.JoinKernelIdeal.Value
public import Idealize.ShloMosaic.Lib.Pointwise

@[expose] public section

set_option maxRecDepth 16384

noncomputable section

namespace Cert.Join

open Idealize Idealize.ShloMosaic Idealize.SL.Sem Cert.JoinKernelIdeal Cert.JoinKernelIdeal.Gen Cert.Norm Cert.Layout
open Cert.Merge (low high)
open scoped BigOperators

/-- A row times a matrix with rows `W`. -/
def straight {n k : ℕ} (x : Fin n → EReal) (W : Fin n → Fin k → EReal) (j : Fin k) : EReal := ∑ d, x d * W d j
/-- The gates: the logistic of the row times the gates' matrix, the bias added. -/
def gate (h : Fin 1024 → EReal) (W : Fin 1024 → Fin 2048 → EReal) (b : Fin 2048 → EReal) (k : Fin 2048) : EReal := Ideal.logistic (straight h W k + b k)
/-- The branches' gated sum. -/
def merged (g : Fin 2048 → EReal) (p q : Fin 1024 → EReal) (d : Fin 1024) : EReal := g (low d) * p d + g (high d) * q d
/-- The new row. -/
def next (x p : Fin 1024 → EReal) (W : Fin 1024 → Fin 1024 → EReal) (d : Fin 1024) : EReal := x d + straight p W d

variable (H O M : FVec Ideal S256x1024 .bf16) (A : FVec Ideal S2048x1024 .bf16) (B : FVec Ideal S1x2048 .f32) (P : FVec Ideal S256x512 .bf16) (U : FVec Ideal S512x1024 .bf16)
  (Q W : FVec Ideal S1024x1024 .bf16) (X : FVec Ideal S256x1024 .f32) (G : FVec Ideal S1x1024 .f32) (r : Fin 256) (k : Fin 2048) (d : Fin 1024)

/-- Of a block: the gates, the branches, their gated sum and the new rows. -/
abbrev gateOf : Fin 2048 → EReal := gate (fun d => H (ix2 r d)) (fun d k => A (ix2 k d)) (only B)
abbrev firstOf : Fin 1024 → EReal := straight (fun d => P (ix2 r d)) (fun j d => U (ix2 j d))
abbrev secondOf : Fin 1024 → EReal := straight (fun d => O (ix2 r d)) (fun j d => Q (ix2 j d))
abbrev nextOf : Fin 1024 → EReal := next (line X r) (fun d => M (ix2 r d)) (fun j d => W (ix2 j d))

theorem gate_block : k0_pay3 (F := Ideal) H A B (ix2 r k) = gateOf H A B r k := by
  pointwise [k0_pay3]
  rfl
theorem first_block : k0_pay4 (F := Ideal) P U (ix2 r d) = firstOf P U r d := by
  pointwise [k0_pay4]
  rfl
theorem second_block : k0_pay5 (F := Ideal) O Q (ix2 r d) = secondOf O Q r d := by
  pointwise [k0_pay5]
  rfl
theorem gate_stored : k0_pay7 (F := Ideal) H A B (ix2 r k) = gateOf H A B r k := by
  pointwise [k0_pay7]
  exact gate_block H A B r k
theorem first_stored : k0_pay8 (F := Ideal) P U (ix2 r d) = firstOf P U r d := by
  pointwise [k0_pay8]
  exact first_block P U r d
theorem second_stored : k0_pay9 (F := Ideal) O Q (ix2 r d) = secondOf O Q r d := by
  pointwise [k0_pay9]
  exact second_block O Q r d
theorem merged_block : k0_pay6 (F := Ideal) H A B P U O Q (ix2 r d) = merged (gateOf H A B r) (firstOf P U r) (secondOf O Q r) d := by
  pointwise [k0_pay6]
  rw [first_block, second_block]
  exact congrArg₂ (fun x y : EReal => x * _ + y * _) (gate_block H A B r (low d)) (gate_block H A B r (high d))
theorem next_block : k0_pay1 (F := Ideal) M X W (ix2 r d) = nextOf M W X r d := by
  pointwise [k0_pay1]
  rfl
theorem weighted_block : k0_pay2 (F := Ideal) M X W G (ix2 r d) = scaled (nextOf M W X r) d * only G d := by
  pointwise [k0_pay2]
  simp only [next_block, div_width]
  rfl

end Cert.Join

end
-- ==== Proof.Join.Points.lean ====
/- The blocks of the arguments that each grid point reads, and the six result arrays after the run. -/
module

public import proofs.«01_k».proof.Proof.Join.Block
public import Idealize.ShloMosaic.Lib.Claim
public import Idealize.ShloMosaic.Lib.Pipeline.ValueKit

@[expose] public section

set_option maxRecDepth 16384

noncomputable section

namespace Cert.Join

open Idealize Idealize.ShloMosaic Idealize.SL.Sem Cert.JoinKernelIdeal Cert.JoinKernelIdeal.Gen Cert.Norm Cert.Rows Cert.Layout
open Cert.Merge (low high)
open scoped BigOperators

/-- Column `k` of the gates, among the columns of the input matrix. -/
abbrev gateCol (k : Fin 2048) : Fin 3264 := ⟨1216 + k.val, by omega⟩

section
variable (H O X : FVec Ideal S2x2048x1024 .f32) (A : FVec Ideal S1024x3264 .f32) (B : FVec Ideal S2048 .f32) (P : FVec Ideal S2x2048x512 .f32) (U : FVec Ideal S512x1024 .f32)
  (Q W : FVec Ideal S1024x1024 .f32) (G : FVec Ideal S1024 .f32) (r : Fin 4096)

/-- At row `r`: the gates, the two branches, their gated sum, the new row, and that scaled and weighted. -/
def gateAt : Fin 2048 → EReal := gate (rowAt H r) (fun d k => A (ix2 d (gateCol k))) (gainRow B)
def firstAt : Fin 1024 → EReal := straight (rowAt P r) (fun j d => U (ix2 j d))
def secondAt : Fin 1024 → EReal := straight (rowAt O r) (fun j d => Q (ix2 j d))
def mergedAt : Fin 1024 → EReal := merged (gateAt H A B r) (firstAt P U r) (secondAt O Q r)
def nextAt : Fin 1024 → EReal := next (rowAt X r) (mergedAt H O A B P U Q r) (fun j d => W (ix2 j d))
def weightedAt (d : Fin 1024) : EReal := scaled (nextAt H O X A B P U Q W r) d * gainRow G d
end

variable (m : (ℓ : Loc nD τ sig) → Buf (Elt Ideal) ℓ) (c : Dev nD)

abbrev argH : FVec Ideal S2x2048x1024 .f32 := m ((c.tc : Thread nD τ).loc main_arg0)
abbrev argIn : FVec Ideal S1024x3264 .f32 := m ((c.tc : Thread nD τ).loc main_arg1)
abbrev argB : FVec Ideal S2048 .f32 := m ((c.tc : Thread nD τ).loc main_arg2)
abbrev argP : FVec Ideal S2x2048x512 .f32 := m ((c.tc : Thread nD τ).loc main_arg3)
abbrev argO : FVec Ideal S2x2048x1024 .f32 := m ((c.tc : Thread nD τ).loc main_arg4)
abbrev argPool : FVec Ideal S512x1024 .f32 := m ((c.tc : Thread nD τ).loc main_arg5)
abbrev argAttn : FVec Ideal S1024x1024 .f32 := m ((c.tc : Thread nD τ).loc main_arg6)
abbrev argOut : FVec Ideal S1024x1024 .f32 := m ((c.tc : Thread nD τ).loc main_arg7)
abbrev argX : FVec Ideal S2x2048x1024 .f32 := m ((c.tc : Thread nD τ).loc main_arg8)
abbrev argG : FVec Ideal S1024 .f32 := m ((c.tc : Thread nD τ).loc main_arg9)

/-- The rows, among the arguments' alone. -/
abbrev gateRow (r : Fin 4096) : Fin 2048 → EReal := gateAt (argH m c) (argIn m c) (argB m c) r
abbrev firstRow (r : Fin 4096) : Fin 1024 → EReal := firstAt (argP m c) (argPool m c) r
abbrev secondRow (r : Fin 4096) : Fin 1024 → EReal := secondAt (argO m c) (argAttn m c) r
abbrev mergedRow (r : Fin 4096) : Fin 1024 → EReal := mergedAt (argH m c) (argO m c) (argIn m c) (argB m c) (argP m c) (argPool m c) (argAttn m c) r
abbrev nextRow (r : Fin 4096) : Fin 1024 → EReal := nextAt (argH m c) (argO m c) (argX m c) (argIn m c) (argB m c) (argP m c) (argPool m c) (argAttn m c) (argOut m c) r
abbrev weightedRow (r : Fin 4096) : Fin 1024 → EReal :=
  weightedAt (argH m c) (argO m c) (argX m c) (argIn m c) (argB m c) (argP m c) (argPool m c) (argAttn m c) (argOut m c) (argG m c) r

/-- Where each window's block lies at grid point `t`. -/
theorem places_of_blocks : ∀ t : Fin cfg0.N, win0_0.index t = ![t.val, 0] ∧ win0_1.index t = ![t.val, 0] ∧ win0_2.index t = ![t.val, 0] ∧ win0_3.index t = ![t.val, 0] ∧
    win0_4.index t = ![0, 0] ∧ win0_5.index t = ![0, 0] ∧ win0_6.index t = ![0, 0] ∧ win0_7.index t = ![0, 0] ∧ win0_8.index t = ![0, 0] ∧ win0_9.index t = ![0, 0] ∧
    win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-- Row `r` of the block at point `t`. -/
abbrev blockRow (t : Fin cfg0.N) (r : Fin 256) : Fin 4096 := rowOf (m := 16) (n := 256) rfl ⟨t.val, t.isLt⟩ r

variable (t : Fin cfg0.N) (r : Fin 256)

theorem inputs_read (d : Fin 1024) : (iblk m c 0 t : FVec Ideal S256x1024 .bf16) (ix2 r d) = rowAt (argH m c) (blockRow t r) d := by
  have e : (win0_0.blk t).view.emb (ix2 r d) = ix2 (blockRow t r) d := by blk_ext [places_of_blocks t]
  show V m c main_v1 ((win0_0.blk t).view.emb (ix2 r d)) = _
  rw [e]
  entry_read
  show shapeCast S4096x1024 (argH m c) _ (ix2 _ d) = _
  exact stacked_apply _ _ _ _
theorem pooled_read (d : Fin 512) : (iblk m c 1 t : FVec Ideal S256x512 .bf16) (ix2 r d) = rowAt (argP m c) (blockRow t r) d := by
  have e : (win0_1.blk t).view.emb (ix2 r d) = ix2 (blockRow t r) d := by blk_ext [places_of_blocks t]
  show V m c main_v3 ((win0_1.blk t).view.emb (ix2 r d)) = _
  rw [e]
  entry_read
  show shapeCast S4096x512 (argP m c) _ (ix2 _ d) = _
  exact stacked_apply _ _ _ _
theorem heads_read (d : Fin 1024) : (iblk m c 2 t : FVec Ideal S256x1024 .bf16) (ix2 r d) = rowAt (argO m c) (blockRow t r) d := by
  have e : (win0_2.blk t).view.emb (ix2 r d) = ix2 (blockRow t r) d := by blk_ext [places_of_blocks t]
  show V m c main_v5 ((win0_2.blk t).view.emb (ix2 r d)) = _
  rw [e]
  entry_read
  show shapeCast S4096x1024 (argO m c) _ (ix2 _ d) = _
  exact stacked_apply _ _ _ _
theorem rows_read : line (iblk m c 3 t) r = rowAt (argX m c) (blockRow t r) := by
  funext d
  have e : (win0_3.blk t).view.emb (ix2 r d) = ix2 (blockRow t r) d := by blk_ext [places_of_blocks t]
  show V m c main_v6 ((win0_3.blk t).view.emb (ix2 r d)) = _
  rw [e]
  entry_read
  exact stacked_apply _ _ _ _
/-- The rows of the gates in the input matrix turned over. -/
abbrev gateRows : FVec Ideal S2048x1024 .bf16 := View.ld (iblk m c 4 t : FVec Ideal S3264x1024 .bf16) r0_1
theorem gates_read (k : Fin 2048) (d : Fin 1024) : gateRows m c t (ix2 k d) = argIn m c (ix2 d (gateCol k)) := by
  have e : (win0_4.blk t).view.emb (ix2 (gateCol k) d) = ix2 (gateCol k) d := by blk_ext [places_of_blocks t]
  refine Eq.trans (b := (iblk m c 4 t : FVec Ideal S3264x1024 .bf16) (ix2 (gateCol k) d)) (by unfold gateRows; pointwise) ?_
  show V m c main_v8 ((win0_4.blk t).view.emb (ix2 (gateCol k) d)) = _
  rw [e]
  entry_read
  pointwise
theorem bias_read : only (iblk m c 5 t) = gainRow (argB m c) := by
  funext d
  have e : (win0_5.blk t).view.emb (ix2 0 d) = ix2 0 d := by blk_ext [places_of_blocks t]
  show V m c main_v12 ((win0_5.blk t).view.emb (ix2 0 d)) = _
  rw [e]
  entry_read
  exact row_apply _ _ _
theorem pool_read (j : Fin 512) (d : Fin 1024) : (iblk m c 6 t : FVec Ideal S512x1024 .bf16) (ix2 j d) = argPool m c (ix2 j d) := by
  have e : (win0_6.blk t).view.emb (ix2 j d) = ix2 j d := by blk_ext [places_of_blocks t]
  show V m c main_v9 ((win0_6.blk t).view.emb (ix2 j d)) = _
  rw [e]
  entry_read
  rfl
theorem attn_read (j : Fin 1024) (d : Fin 1024) : (iblk m c 7 t : FVec Ideal S1024x1024 .bf16) (ix2 j d) = argAttn m c (ix2 j d) := by
  have e : (win0_7.blk t).view.emb (ix2 j d) = ix2 j d := by blk_ext [places_of_blocks t]
  show V m c main_v10 ((win0_7.blk t).view.emb (ix2 j d)) = _
  rw [e]
  entry_read
  rfl
theorem out_read (j : Fin 1024) (d : Fin 1024) : (iblk m c 8 t : FVec Ideal S1024x1024 .bf16) (ix2 j d) = argOut m c (ix2 j d) := by
  have e : (win0_8.blk t).view.emb (ix2 j d) = ix2 j d := by blk_ext [places_of_blocks t]
  show V m c main_v11 ((win0_8.blk t).view.emb (ix2 j d)) = _
  rw [e]
  entry_read
  rfl
theorem gain_read : only (iblk m c 9 t) = gainRow (argG m c) := by
  funext d
  have e : (win0_9.blk t).view.emb (ix2 0 d) = ix2 0 d := by blk_ext [places_of_blocks t]
  show V m c main_v13 ((win0_9.blk t).view.emb (ix2 0 d)) = _
  rw [e]
  entry_read
  exact row_apply _ _ _

theorem gate_read : gateOf (iblk m c 0 t) (gateRows m c t) (iblk m c 5 t) r = gateRow m c (blockRow t r) := by
  unfold gateOf
  rw [bias_read]
  exact congrArg₂ (fun x y => gate x y _) (funext fun d => inputs_read m c t r d) (funext fun d => funext fun k => gates_read m c t k d)
theorem first_read : firstOf (iblk m c 1 t) (iblk m c 6 t) r = firstRow m c (blockRow t r) :=
  congrArg₂ straight (funext fun d => pooled_read m c t r d) (funext fun j => funext fun d => pool_read m c t j d)
theorem second_read : secondOf (iblk m c 2 t) (iblk m c 7 t) r = secondRow m c (blockRow t r) :=
  congrArg₂ straight (funext fun d => heads_read m c t r d) (funext fun j => funext fun d => attn_read m c t j d)
theorem merged_read (d : Fin 1024) : k0_pay10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r d) =
    mergedRow m c (blockRow t r) d := by
  unfold k0_pay10
  frame_out
  refine (merged_block _ _ _ _ _ _ _ r d).trans ?_
  rw [gate_read, first_read, second_read]
  rfl
theorem next_read : nextOf (k0_pay10 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 8 t) (iblk m c 3 t) r =
    nextRow m c (blockRow t r) := by
  unfold nextOf
  rw [rows_read]
  exact congrArg₂ (next _) (funext fun d => merged_read m c t r d) (funext fun j => funext fun d => out_read m c t j d)

theorem gate_point (i : S256x2048.Idx) : out0_10 (F := Ideal) (iblk m c 0 t) (iblk m c 1 t) (iblk m c 2 t) (iblk m c 3 t) (iblk m c 4 t) (iblk m c 5 t) (iblk m c 6 t) (iblk m c 7 t) (iblk m c 8 t) (iblk m c 9 t) i =
    gateRow m c (blockRow t (i 0)) (i 1) := by
  obtain ⟨r, k, rfl⟩ : ∃ (r : Fin 256) (k : Fin 2048), i = ix2 r k := ⟨i 0, i 1, Idealize.ShloMosaic.eq_ix2 i⟩
  unfold out0_10
  frame_out
  exact (gate_stored _ _ _ r k).trans (congrFun (gate_read m c t r) k)
theorem first_point (i : S256x1024.Idx) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) i =
    firstRow m c (blockRow t (i 0)) (i 1) := by
  obtain ⟨r, d, rfl⟩ : ∃ (r : Fin 256) (d : Fin 1024), i = ix2 r d := ⟨i 0, i 1, Idealize.ShloMosaic.eq_ix2 i⟩
  unfold out0_11
  frame_out
  exact (first_stored _ _ r d).trans (congrFun (first_read m c t r) d)
theorem second_point (i : S256x1024.Idx) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) i =
    secondRow m c (blockRow t (i 0)) (i 1) := by
  obtain ⟨r, d, rfl⟩ : ∃ (r : Fin 256) (d : Fin 1024), i = ix2 r d := ⟨i 0, i 1, Idealize.ShloMosaic.eq_ix2 i⟩
  unfold out0_12
  frame_out
  exact (second_stored _ _ r d).trans (congrFun (second_read m c t r) d)
theorem merged_point (i : S256x1024.Idx) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) i =
    mergedRow m c (blockRow t (i 0)) (i 1) := by
  obtain ⟨r, d, rfl⟩ : ∃ (r : Fin 256) (d : Fin 1024), i = ix2 r d := ⟨i 0, i 1, Idealize.ShloMosaic.eq_ix2 i⟩
  unfold out0_13
  frame_out
  exact merged_read m c t r d
theorem next_point (i : S256x1024.Idx) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) i =
    nextRow m c (blockRow t (i 0)) (i 1) := by
  obtain ⟨r, d, rfl⟩ : ∃ (r : Fin 256) (d : Fin 1024), i = ix2 r d := ⟨i 0, i 1, Idealize.ShloMosaic.eq_ix2 i⟩
  unfold out0_14
  frame_out
  exact (next_block _ _ _ r d).trans (congrFun (next_read m c t r) d)
theorem weighted_point (i : S256x1024.Idx) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) i =
    weightedRow m c (blockRow t (i 0)) (i 1) := by
  obtain ⟨r, d, rfl⟩ : ∃ (r : Fin 256) (d : Fin 1024), i = ix2 r d := ⟨i 0, i 1, Idealize.ShloMosaic.eq_ix2 i⟩
  unfold out0_15
  frame_out
  refine (weighted_block _ _ _ _ r d).trans ?_
  rw [next_read, gain_read]
  rfl

theorem gate_final : (dats m 0 c).arrAt 10 cfg0.N = fun i : S4096x2048.Idx => gateRow m c (i 0) (i 1) := by
  refine (dats m 0 c).arrAt_eq_of_covers 10 _ (by decide +kernel) fun t hf y => ?_
  blk_simp
  have e : (win0_10.blk t).view.emb y = ix2 (blockRow t (y 0)) (y 1) := by blk_ext [places_of_blocks t]
  rw [after0_10, gate_point m c t, e]
  rfl
theorem first_final : (dats m 0 c).arrAt 11 cfg0.N = fun i : S4096x1024.Idx => firstRow m c (i 0) (i 1) := by
  refine (dats m 0 c).arrAt_eq_of_covers 11 _ (by decide +kernel) fun t hf y => ?_
  blk_simp
  have e : (win0_11.blk t).view.emb y = ix2 (blockRow t (y 0)) (y 1) := by blk_ext [places_of_blocks t]
  rw [after0_11, first_point m c t, e]
  rfl
theorem second_final : (dats m 0 c).arrAt 12 cfg0.N = fun i : S4096x1024.Idx => secondRow m c (i 0) (i 1) := by
  refine (dats m 0 c).arrAt_eq_of_covers 12 _ (by decide +kernel) fun t hf y => ?_
  blk_simp
  have e : (win0_12.blk t).view.emb y = ix2 (blockRow t (y 0)) (y 1) := by blk_ext [places_of_blocks t]
  rw [after0_12, second_point m c t, e]
  rfl
theorem merged_final : (dats m 0 c).arrAt 13 cfg0.N = fun i : S4096x1024.Idx => mergedRow m c (i 0) (i 1) := by
  refine (dats m 0 c).arrAt_eq_of_covers 13 _ (by decide +kernel) fun t hf y => ?_
  blk_simp
  have e : (win0_13.blk t).view.emb y = ix2 (blockRow t (y 0)) (y 1) := by blk_ext [places_of_blocks t]
  rw [after0_13, merged_point m c t, e]
  rfl
theorem next_final : (dats m 0 c).arrAt 14 cfg0.N = fun i : S4096x1024.Idx => nextRow m c (i 0) (i 1) := by
  refine (dats m 0 c).arrAt_eq_of_covers 14 _ (by decide +kernel) fun t hf y => ?_
  blk_simp
  have e : (win0_14.blk t).view.emb y = ix2 (blockRow t (y 0)) (y 1) := by blk_ext [places_of_blocks t]
  rw [after0_14, next_point m c t, e]
  rfl
theorem weighted_final : (dats m 0 c).arrAt 15 cfg0.N = fun i : S4096x1024.Idx => weightedRow m c (i 0) (i 1) := by
  refine (dats m 0 c).arrAt_eq_of_covers 15 _ (by decide +kernel) fun t hf y => ?_
  blk_simp
  have e : (win0_15.blk t).view.emb y = ix2 (blockRow t (y 0)) (y 1) := by blk_ext [places_of_blocks t]
  rw [after0_15, weighted_point m c t, e]
  rfl

end Cert.Join

end
-- ==== Proof.Join.Final.lean ====
/- What the plain program computes, and that the two programs, launched over the same arguments, end with the same six results. -/
module

public import proofs.«01_k».proof.Defs
public import proofs.«01_k».proof.Proof.Join.Points
public import proofs.«01_k».proof.Proof.NormPlain
public import proofs.«01_k».proof.Proof.Merge.Plain
public import proofs.«01_k».proof.Proof.Gen.JoinReferenceIdeal.Run

@[expose] public section

set_option maxRecDepth 16384

noncomputable section

namespace Cert.Join

open Idealize Idealize.ShloMosaic Idealize.SL.Sem Cert.JoinReferenceIdeal Cert.JoinReferenceIdeal.Gen Cert.Norm Cert.Rows Cert.Layout Cert.NormPlain
open Cert.Merge (low high gatesH firstH secondH splitP lowP highP low_plain high_plain)
open scoped BigOperators

variable (H O X : Rows 1024) (A : FVec Ideal S1024x3264 .f32) (B : FVec Ideal S2048 .f32) (P : Rows 512) (U : FVec Ideal S512x1024 .f32) (Q W : FVec Ideal S1024x1024 .f32)
  (G : FVec Ideal S1024 .f32) (r : Fin 4096) (b : Fin 2) (s : Fin 2048) (k : Fin 2048) (d : Fin 1024)

/-- The branches' gated sum, and the new rows. -/
def mergedP : Rows 1024 := addf (mulf (lowP (gatesH H A B)) (firstH P U)) (mulf (highP (gatesH H A B)) (secondH O Q))
def nextP : Rows 1024 := addf X (Host.dotGeneral dot_S2x2048x1024_S1024x1024_S2x2048x1024_2_0_01_1_n_n none (mergedP H O A B P U Q) W)

theorem gate_plain : rowAt (gatesH H A B) r k = gateAt H A B r k := by
  show gatesH H A B (ix3 _ _ k) = _
  pointwise [gatesH]
  rfl
theorem first_plain : rowAt (firstH P U) r d = firstAt P U r d := by
  show firstH P U (ix3 _ _ d) = _
  pointwise [firstH]
  rfl
theorem second_plain : rowAt (secondH O Q) r d = secondAt O Q r d := by
  show secondH O Q (ix3 _ _ d) = _
  pointwise [secondH]
  rfl
theorem merged_plain : rowAt (mergedP H O A B P U Q) r d = mergedAt H O A B P U Q r d := by
  show mergedP H O A B P U Q (ix3 _ _ d) = _
  pointwise [mergedP]
  rw [low_plain, high_plain]
  exact congrArg₂ (fun x y : EReal => x + y) (congrArg₂ (fun x y : EReal => x * y) (gate_plain H A B r (low d)) (first_plain P U r d))
    (congrArg₂ (fun x y : EReal => x * y) (gate_plain H A B r (high d)) (second_plain O Q r d))
theorem next_plain : rowAt (nextP H O X A B P U Q W) r d = nextAt H O X A B P U Q W r d := by
  show nextP H O X A B P U Q W (ix3 _ _ d) = _
  pointwise [nextP]
  exact congrArg (fun y : EReal => _ + y) (Finset.sum_congr rfl fun j _ => congrArg (fun y : EReal => y * W (ix2 j d)) (merged_plain H O A B P U Q r j))
theorem weighted_rows : rowAt (weightedP sides 0x44800000#32 (nextP H O X A B P U Q W) G) r d = weightedAt H O X A B P U Q W G r d := by
  refine (weighted_plain sides (nextP H O X A B P U Q W) G (by norm_num) width_word _ _ d).trans ?_
  exact congrArg (fun x : Fin 1024 → EReal => scaled x d * gainRow G d) (funext fun d => next_plain H O X A B P U Q W r d)
/-- The gates laid out row after row, by way of the halves. -/
theorem gate_rows : (shapeCast S4096x2048 (splitP (gatesH H A B)) shapeCasts_S2x2048x2x1024_S4096x2048 : FVec Ideal S4096x2048 .f32) = fun i : S4096x2048.Idx => gateAt H A B (i 0) (i 1) := by
  unfold splitP
  rw [shapeCast_comp]
  exact stacked_eq _ (gatesH H A B) fun r k => gate_plain H A B r k

/-- The plain program declares no semaphore, so a run of it that leaves the arguments unchanged is the whole frame. -/
theorem reference : Cert.quiescent_JoinReferenceIdeal := fun m g _ =>
  (θ_run _ _ _).mono (fun _ h => ⟨fun c => (h c).2.2.2.2.2.2, funext fun s => by rcases s with ⟨_, s | s⟩ <;> exact Fin.elim0 s⟩)
    (Cert.JoinReferenceIdeal.Value.run m g)

set_option maxHeartbeats 2000000 in
/-- Launched over the same arguments, whatever they are, the two programs end with the same six results. -/
theorem value : Cert.algebraic_JoinKernelIdeal_JoinReferenceIdeal := by
  intro m g m' g' _ hagree
  refine ⟨fun c => (Cert.JoinKernelIdeal.Gen.dats m 0 c).arrAt 10 Cert.JoinKernelIdeal.cfg0.N, fun c => (Cert.JoinKernelIdeal.Gen.dats m 0 c).arrAt 11 Cert.JoinKernelIdeal.cfg0.N,
    fun c => (Cert.JoinKernelIdeal.Gen.dats m 0 c).arrAt 12 Cert.JoinKernelIdeal.cfg0.N, fun c => (Cert.JoinKernelIdeal.Gen.dats m 0 c).arrAt 13 Cert.JoinKernelIdeal.cfg0.N,
    fun c => (Cert.JoinKernelIdeal.Gen.dats m 0 c).arrAt 14 Cert.JoinKernelIdeal.cfg0.N, fun c => (Cert.JoinKernelIdeal.Gen.dats m 0 c).arrAt 15 Cert.JoinKernelIdeal.cfg0.N,
    Cert.JoinKernelIdeal.Value.run_blocks m g, ?_⟩
  refine (θ_run _ _ _).mono (fun r h c => ?_) (Cert.JoinReferenceIdeal.Value.run m' g')
  obtain ⟨h0, h1, h2, h3, h4, h5, h6⟩ := h c
  obtain ⟨a0, a1, a2, a3, a4, a5, a6, a7, a8, a9⟩ := hagree c
  unfold Cert.JoinReferenceIdeal.Value.res_main_v46 at h5
  rw [a0, a1, a2, a3, a4, a5, a6, a7, a8, a9] at h5
  rw [a0, a1, a2] at h0
  rw [a3, a5] at h1
  rw [a4, a6] at h2
  rw [a0, a1, a2, a3, a4, a5, a6] at h3
  rw [a0, a1, a2, a3, a4, a5, a6, a7, a8] at h4
  refine ⟨h0.trans ?_, h1.trans ?_, h2.trans ?_, h3.trans ?_, h4.trans ?_, h5.trans ?_, h6⟩
  · exact Eq.trans (gate_rows (argH m c) (argIn m c) (argB m c)) (gate_final m c).symm
  · exact Eq.trans (stacked_eq _ (firstH (argP m c) (argPool m c)) fun r d => first_plain _ _ r d) (first_final m c).symm
  · exact Eq.trans (stacked_eq _ (secondH (argO m c) (argAttn m c)) fun r d => second_plain _ _ r d) (second_final m c).symm
  · exact Eq.trans (stacked_eq _ (mergedP (argH m c) (argO m c) (argIn m c) (argB m c) (argP m c) (argPool m c) (argAttn m c)) fun r d => merged_plain _ _ _ _ _ _ _ r d) (merged_final m c).symm
  · exact Eq.trans (stacked_eq _ (nextP (argH m c) (argO m c) (argX m c) (argIn m c) (argB m c) (argP m c) (argPool m c) (argAttn m c) (argOut m c)) fun r d => next_plain _ _ _ _ _ _ _ _ _ r d)
      (next_final m c).symm
  · exact Eq.trans (stacked_eq _ (weightedP sides 0x44800000#32 (nextP (argH m c) (argO m c) (argX m c) (argIn m c) (argB m c) (argP m c) (argPool m c) (argAttn m c) (argOut m c)) (argG m c))
      fun r d => weighted_rows _ _ _ _ _ _ _ _ _ _ r d) (weighted_final m c).symm

end Cert.Join

end
-- ==== Proof.Latent.Block.lean ====
/- What one block of rows gives: its projections, the latent rows scaled and weighted, and the heads with their pairs of coordinates turned. -/
module

public import proofs.«01_k».proof.Proof.Norm
public import proofs.«01_k».proof.Proof.Layout
public import proofs.«01_k».proof.Proof.Mixer.Block
public import proofs.«01_k».proof.Proof.Gen.LatentKernelIdeal.Value
public import Idealize.ShloMosaic.Lib.Pipeline.ValueKit
public import Idealize.ShloMosaic.Lib.Pointwise

@[expose] public section

set_option maxRecDepth 16384

noncomputable section

namespace Cert.Latent

open Idealize Idealize.ShloMosaic Idealize.SL.Sem Cert.LatentKernelIdeal Cert.LatentKernelIdeal.Gen Cert.Norm Cert.Layout
open Cert.Mixer (div384 div256)
open scoped BigOperators

/-- Pairs of numbers turned by their angles. -/
def turn (c a b q : Fin 128 → EReal) (j : Fin 128) : EReal :=
  q j * c j + (q ⟨(j.val + 128 - 32) % 128, Nat.mod_lt _ (by decide)⟩ * a j + q ⟨(j.val + 128 - 96) % 128, Nat.mod_lt _ (by decide)⟩ * b j)

/-- The heads' rows: the second half of each turned. -/
def heads (c a b : Fin 128 → EReal) (q : Fin 2048 → EReal) (k : Fin 2048) : EReal :=
  if k.val % 256 < 128 then q k
  else turn c a b (fun j => q ⟨k.val / 256 * 256 + 128 + j.val, by omega⟩) ⟨k.val % 256 - 128, by omega⟩

section
variable {c a b p : Fin 128 → EReal} {q : Fin 2048 → EReal} {k : Fin 2048}

theorem heads_plain (h : k.val % 256 < 128) : heads c a b q k = q k := if_pos h
theorem heads_turned {j : Fin 128} {n : ℕ} (hn : n % 256 = 128) (hk : k.val = n + j.val) (hp : ∀ (j : Fin 128) (k : Fin 2048), k.val = n + j.val → p j = q k) :
    turn c a b p j = heads c a b q k := by
  have e : p = fun j => q ⟨k.val / 256 * 256 + 128 + j.val, by omega⟩ := funext fun i => hp _ _ (by show k.val / 256 * 256 + 128 + i.val = n + i.val; omega)
  have ej : j = ⟨k.val % 256 - 128, by omega⟩ := Fin.ext (by show j.val = k.val % 256 - 128; omega)
  rw [e]
  refine Eq.trans ?_ (if_neg (by omega)).symm
  exact congrArg _ ej
end

section
variable (H : FVec Ideal S512x1024 .bf16) (W : FVec Ideal S1280x1024 .bf16) (Gq : FVec Ideal S1x384 .f32) (Gk : FVec Ideal S1x256 .f32) (Wq : FVec Ideal S2048x384 .bf16)
  (Wk : FVec Ideal S256x2048 .bf16) (C A B : FVec Ideal S512x128 .f32) (r : Fin 512)

/-- The projections of row `r`, and the parts of them that are the latent rows of the queries and of the keys and values, and the shared key. -/
def projOf (j : Fin 1280) : EReal := ∑ d, H (ix2 r d) * W (ix2 j d)
def queryOf (k : Fin 384) : EReal := projOf H W r ⟨512 + k.val, by omega⟩
def keyOf (k : Fin 256) : EReal := projOf H W r ⟨896 + k.val, by omega⟩
def sharedOf (k : Fin 128) : EReal := projOf H W r ⟨1152 + k.val, by omega⟩
/-- The latent rows scaled and weighted, and the rows of the heads before the pairs turn. -/
def weightedQ (k : Fin 384) : EReal := scaled (queryOf H W r) k * only Gq k
def weightedK (k : Fin 256) : EReal := scaled (keyOf H W r) k * only Gk k
def straightOf (j : Fin 2048) : EReal := ∑ k, weightedQ H W Gq r k * Wq (ix2 j k)

theorem proj_block (j : Fin 1280) : k0_pay5 (F := Ideal) H W (ix2 r j) = projOf H W r j := by
  pointwise [k0_pay5]
  rfl
theorem pooled_block (j : Fin 512) : k0_pay6 (F := Ideal) H W (ix2 r j) = projOf H W r ⟨j.val, by omega⟩ := by
  pointwise [k0_pay6]
  exact proj_block H W r _
theorem query_block (j : Fin 384) : k0_pay7 (F := Ideal) H W (ix2 r j) = queryOf H W r j := by
  pointwise [k0_pay7]
  exact proj_block H W r _
theorem key_block (j : Fin 256) : k0_pay8 (F := Ideal) H W (ix2 r j) = keyOf H W r j := by
  pointwise [k0_pay8]
  exact proj_block H W r _
theorem weightedQ_block (k : Fin 384) : k0_pay9 (F := Ideal) H W Gq (ix2 r k) = weightedQ H W Gq r k := by
  pointwise [k0_pay9]
  rw [div384]
  exact congrArg (fun x : Fin 384 → EReal => scaled x k * only Gq k) (funext fun j => query_block H W r j)
theorem weightedK_block (k : Fin 256) : k0_pay11 (F := Ideal) (k0_pay10 (F := Ideal) H W) Gk (ix2 r k) = weightedK H W Gk r k := by
  pointwise [k0_pay11, k0_pay10]
  rw [div256]
  exact congrArg (fun x : Fin 256 → EReal => scaled x k * only Gk k) (funext fun j => key_block H W r j)
theorem straight_block (j : Fin 2048) : k0_pay15 (F := Ideal) (k0_pay9 (F := Ideal) H W Gq) Wq (ix2 r j) = straightOf H W Gq Wq r j := by
  pointwise [k0_pay15]
  exact Finset.sum_congr rfl fun k _ => congrArg (fun x : EReal => x * Wq (ix2 j k)) (weightedQ_block H W Gq r k)
theorem values_block (j : Fin 2048) : k0_pay3 (F := Ideal) (k0_pay11 (F := Ideal) (k0_pay10 (F := Ideal) H W) Gk) Wk (ix2 r j) = ∑ k, weightedK H W Gk r k * Wk (ix2 k j) := by
  pointwise [k0_pay3]
  exact Finset.sum_congr rfl fun k _ => congrArg (fun x : EReal => x * Wk (ix2 k j)) (weightedK_block H W Gk r k)
theorem shared_block (j : Fin 128) : k0_pay4 (F := Ideal) (k0_pay5 (F := Ideal) H W) (k0_pay12 C) (k0_pay13 A) (k0_pay14 B) (ix2 r j) = turn (line C r) (line A r) (line B r) (sharedOf H W r) j := by
  refine Eq.trans (b := turn (line C r) (line A r) (line B r) (fun j => k0_pay5 (F := Ideal) H W (ix2 r ⟨1152 + j.val, by omega⟩)) j) ?_ (congrArg (turn (line C r) (line A r) (line B r) · j) (funext fun j => proj_block H W r _))
  pointwise [k0_pay4, k0_pay12, k0_pay13, k0_pay14]
  rfl

end

variable (x0 : FVec Ideal S512x1024 .bf16) (x1 : FVec Ideal S1280x1024 .bf16) (x4 : FVec Ideal S1x384 .f32) (x2 : FVec Ideal S2048x384 .bf16)
variable (C A B : FVec Ideal S512x128 .f32)
/-- The heads' rows of a block. -/
def headsOf : FVec Ideal S512x2048 .bf16 := fun i => heads (line C (i 0)) (line A (i 0)) (line B (i 0)) (straightOf x0 x1 x4 x2 (i 0)) (i 1)

section
variable {n : ℕ} {r : Fin 512} {j : Fin 128} {k : Fin 2048} (Q : FVec Ideal S512x2048 .f32)

/-- Columns of a block, put aside for storing. -/
theorem columns_at (h : S512x2048.Slices ![0, n] S512x128) (hk : k.val = n + j.val) : extractStridedSlice S512x128 ![0, n] Q h (ix2 r j) = Q (ix2 r k) := by
  have e : k = ⟨n + j.val, by omega⟩ := Fin.ext hk
  rw [e]
  pointwise
variable (hQ : ∀ k, Q (ix2 r k) = straightOf x0 x1 x4 x2 r k)
include hQ
theorem plain_columns (h : S512x2048.Slices ![0, n] S512x128) (hn : n % 256 = 0) (hk : k.val = n + j.val) :
    truncf .bf16 (extractStridedSlice S512x128 ![0, n] Q h) bitsLt_bf16_f32 (ix2 r j) = headsOf x0 x1 x4 x2 C A B (ix2 r k) :=
  (columns_at Q h hk).trans ((hQ k).trans (heads_plain (by omega)).symm)
theorem turned_columns (h : S512x2048.Slices ![0, n] S512x128) (hn : n % 256 = 128) (hk : k.val = n + j.val) :
    k0_pay20 (F := Ideal) (k0_pay12 C) (k0_pay13 A) (k0_pay14 B) (extractStridedSlice S512x128 ![0, n] Q h) (ix2 r j) = headsOf x0 x1 x4 x2 C A B (ix2 r k) := by
  refine Eq.trans (b := turn (line C r) (line A r) (line B r) (line (extractStridedSlice S512x128 ![0, n] Q h) r) j) ?_
    (heads_turned (q := straightOf x0 x1 x4 x2 r) hn hk fun j k hk => (columns_at Q h hk).trans (hQ k))
  generalize extractStridedSlice S512x128 ![0, n] Q h = q
  pointwise [k0_pay20, k0_pay12, k0_pay13, k0_pay14]
  rfl
end

variable (m : (ℓ : Loc nD τ sig) → Buf (Elt Ideal) ℓ) (c : Dev nD) (t : Fin cfg0.N)

theorem heads_stored : (outsAt0 m c t).2.2.2.2.2.1 = headsOf (iblk m c 0 t) (X0_1 m c t) (iblk m c 4 t) (iblk m c 2 t) (iblk m c 6 t) (iblk m c 7 t) (iblk m c 8 t) := by
  funext i
  unfold outsAt0
  frame_out
  simp only [k0_pay16, k0_pay17, k0_pay18, k0_pay19, k0_pay1, k0_pay31]
  have hQ (r : Fin 512) (k : Fin 2048) := straight_block (iblk m c 0 t) (X0_1 m c t) (iblk m c 4 t) (iblk m c 2 t) r k
  generalize k0_pay15 (F := Ideal) (k0_pay9 (F := Ideal) (iblk m c 0 t) (X0_1 m c t) (iblk m c 4 t)) (iblk m c 2 t) = Q at hQ ⊢
  canon_tiles y h
  all_goals
    obtain ⟨r, k, rfl⟩ : ∃ (r : Fin 512) (k : Fin 2048), i = ix2 r k := ⟨i 0, i 1, Idealize.ShloMosaic.eq_ix2 i⟩
    obtain ⟨p, j, rfl⟩ : ∃ (r : Fin 512) (k : Fin 128), y = ix2 r k := ⟨y 0, y 1, Idealize.ShloMosaic.eq_ix2 y⟩
    obtain rfl : r = p := Fin.ext h0
    first
      | exact plain_columns _ _ _ _ _ _ _ Q (hQ r) _ (by decide) h1
      | exact turned_columns _ _ _ _ _ _ _ Q (hQ r) _ (by decide) h1
      | exact plain_columns _ _ _ _ _ _ _ (n := 0) Q (hQ r) _ (by decide) (h1.trans (Nat.zero_add _).symm)

end Cert.Latent

end
-- ==== Proof.Latent.Points.lean ====
/- The blocks of the arguments that each grid point reads, and the eight result arrays after the run. -/
module

public import proofs.«01_k».proof.Proof.Latent.Block
public import proofs.«01_k».proof.Proof.Mixer.Turn
public import Idealize.ShloMosaic.Lib.Claim

@[expose] public section

set_option maxRecDepth 16384

noncomputable section

namespace Cert.Latent

open Idealize Idealize.ShloMosaic Idealize.SL.Sem Cert.LatentKernelIdeal Cert.LatentKernelIdeal.Gen Cert.Norm Cert.Rows Cert.Layout
open Cert.Mixer (angles angleRow table table_entry tab zeros32 zero_word padW padW_entry filled)
open scoped BigOperators

section
variable (H : FVec Ideal S2x2048x1024 .f32) (W : FVec Ideal S1024x3264 .f32) (pos : IVec S2x2048 32) (Gq : FVec Ideal S384 .f32) (Wq : FVec Ideal S384x1536 .f32)
  (Gk : FVec Ideal S256 .f32) (Wk : FVec Ideal S256x2048 .f32) (r : Fin 4096)

/-- At row `r`: the projections, the parts of them that are the latent rows and the shared key, and the latent rows scaled and weighted. -/
def projAt (j : Fin 3264) : EReal := ∑ d, rowAt H r d * W (ix2 d j)
def pooledAt (k : Fin 512) : EReal := projAt H W r ⟨k.val, by omega⟩
def queryAt (k : Fin 384) : EReal := projAt H W r ⟨512 + k.val, by omega⟩
def keyAt (k : Fin 256) : EReal := projAt H W r ⟨896 + k.val, by omega⟩
def sharedAt (k : Fin 128) : EReal := projAt H W r ⟨1152 + k.val, by omega⟩
def weightedQAt (k : Fin 384) : EReal := scaled (queryAt H W r) k * gainRow Gq k
def weightedKAt (k : Fin 256) : EReal := scaled (keyAt H W r) k * gainRow Gk k
/-- The rows of the heads, zeros filled in after each, before the pairs turn. -/
def straightAt (j : Fin 2048) : EReal := ∑ k, weightedQAt H W Gq r k * filled (fun h i => Wq (ix2 k ⟨h.val * 192 + i.val, by omega⟩)) j
/-- The tables of the angles. -/
def cosAt : Fin 128 → EReal := tab (fun k => Ideal.cos (angleRow r pos k)) (fun k => Ideal.cos (angleRow r pos k))
def sinAt : Fin 128 → EReal := tab (fun _ => 0) (fun k => Ideal.sin (angleRow r pos k))
def sinBackAt : Fin 128 → EReal := tab (fun k => -Ideal.sin (angleRow r pos k)) (fun _ => 0)
def headsAt : Fin 2048 → EReal := heads (cosAt pos r) (sinAt pos r) (sinBackAt pos r) (straightAt H W Gq Wq r)
def valuesAt (j : Fin 2048) : EReal := ∑ k, weightedKAt H W Gk r k * Wk (ix2 k j)
def turnedAt : Fin 128 → EReal := turn (cosAt pos r) (sinAt pos r) (sinBackAt pos r) (sharedAt H W r)
end

variable (m : (ℓ : Loc nD τ sig) → Buf (Elt Ideal) ℓ) (c : Dev nD)

abbrev argH : FVec Ideal S2x2048x1024 .f32 := m ((c.tc : Thread nD τ).loc main_arg0)
abbrev argPos : IVec S2x2048 32 := m ((c.tc : Thread nD τ).loc main_arg1)
abbrev argW : FVec Ideal S1024x3264 .f32 := m ((c.tc : Thread nD τ).loc main_arg2)
abbrev argGq : FVec Ideal S384 .f32 := m ((c.tc : Thread nD τ).loc main_arg3)
abbrev argWq : FVec Ideal S384x1536 .f32 := m ((c.tc : Thread nD τ).loc main_arg4)
abbrev argGk : FVec Ideal S256 .f32 := m ((c.tc : Thread nD τ).loc main_arg5)
abbrev argWk : FVec Ideal S256x2048 .f32 := m ((c.tc : Thread nD τ).loc main_arg6)

/-- Where each window's block lies at grid point `t`. -/
theorem places_of_blocks : ∀ t : Fin cfg0.N, win0_0.index t = ![t.val, 0] ∧ win0_1.index t = ![0, 0] ∧ win0_2.index t = ![0, 0] ∧ win0_3.index t = ![0, 0] ∧
    win0_4.index t = ![0, 0] ∧ win0_5.index t = ![0, 0] ∧ win0_6.index t = ![t.val, 0] ∧ win0_7.index t = ![t.val, 0] ∧ win0_8.index t = ![t.val, 0] ∧ win0_9.index t = ![t.val, 0] ∧
    win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧
    win0_16.index t = ![t.val, 0] :=
  (by decide +kernel : ∀ t : Fin grid0.N, _)

/-- Row `r` of the block at point `t`. -/
abbrev blockRow (t : Fin cfg0.N) (r : Fin 512) : Fin 4096 := rowOf (m := 8) (n := 512) rfl ⟨t.val, t.isLt⟩ r

/-- The contents of the buffers after each stretch of the host program. -/
def after0 : Valuation τ sig (Elt Ideal) := StableHlo.after hostOps0 fun b => m (c, b)
def after1 : Valuation τ sig (Elt Ideal) := StableHlo.after hostOps0_1 (after0 m c)
theorem V_eq (b : Ref sig .tc) : V m c b = StableHlo.after hostOps0_2 (after1 m c) (Proc.devRef .tc b) := by
  unfold V after1 after0
  rw [List.flatten_cons, StableHlo.after_append, List.flatten_cons, StableHlo.after_append, List.flatten_cons, List.flatten_nil, List.append_nil]

section
variable {m c}
set_option maxHeartbeats 1600000 in
theorem cos_host : after0 m c (Proc.devRef .tc main_v21) = table (Host.cos (angles (argPos m c))) (Host.cos (angles (argPos m c))) := by
  unfold after0
  after_results_simp
  rfl
set_option maxHeartbeats 1600000 in
theorem sin_host : after0 m c (Proc.devRef .tc main_v22) = table zeros32 (Host.sin (angles (argPos m c))) := by
  unfold after0
  after_results_simp
  rfl
set_option maxHeartbeats 1600000 in
theorem sinBack_host : after0 m c (Proc.devRef .tc main_v24) = table (Host.negf (Host.sin (angles (argPos m c)))) zeros32 := by
  unfold after0
  after_results_simp
  rfl
theorem wq_host : after1 m c (Proc.devRef .tc main_v26) = padW (argWq m c) := by
  unfold after1 after0
  entry_read
  rfl
end

variable (t : Fin cfg0.N) (r : Fin 512)

theorem rows_read (d : Fin 1024) : (iblk m c 0 t : FVec Ideal S512x1024 .bf16) (ix2 r d) = rowAt (argH m c) (blockRow t r) d := by
  have e : (win0_0.blk t).view.emb (ix2 r d) = ix2 (blockRow t r) d := by blk_ext [places_of_blocks t]
  show V m c main_v31 ((win0_0.blk t).view.emb (ix2 r d)) = _
  rw [e, V_eq]
  entry_read
  unfold after1 after0
  entry_read
  show shapeCast S4096x1024 (argH m c) _ (ix2 _ d) = _
  exact stacked_apply _ _ _ _
theorem input_read (j : Fin 1280) (d : Fin 1024) : (X0_1 m c t : FVec Ideal S1280x1024 .bf16) (ix2 j d) = argW m c (ix2 d ⟨j.val, by omega⟩) := by
  unfold X0_1 Pipeline.Window.fill
  rw [dif_pos (moved0_1 t (ix2 j d))]
  have e : (win0_1.blk t).view.emb (fun a => ⟨(ix2 j d a).val, ((Pipeline.Window.moved_iff _ _ _).mp (moved0_1 t (ix2 j d))) a⟩) = ix2 ⟨j.val, by omega⟩ d := by blk_ext [places_of_blocks t]
  show V m c main_v33 ((win0_1.blk t).view.emb _) = _
  rw [e, V_eq]
  entry_read
  unfold after1 after0
  entry_read
  pointwise
theorem queries_read (j : Fin 2048) (k : Fin 384) : (iblk m c 2 t : FVec Ideal S2048x384 .bf16) (ix2 j k) = filled (fun h i => argWq m c (ix2 k ⟨h.val * 192 + i.val, by omega⟩)) j := by
  have e : (win0_2.blk t).view.emb (ix2 j k) = ix2 j k := by blk_ext [places_of_blocks t]
  show V m c main_v29 ((win0_2.blk t).view.emb (ix2 j k)) = _
  rw [e, V_eq]
  entry_read
  rw [wq_host]
  exact padW_entry _ _ _
theorem values_read (k : Fin 256) (j : Fin 2048) : (iblk m c 3 t : FVec Ideal S256x2048 .bf16) (ix2 k j) = argWk m c (ix2 k j) := by
  have e : (win0_3.blk t).view.emb (ix2 k j) = ix2 k j := by blk_ext [places_of_blocks t]
  show V m c main_v34 ((win0_3.blk t).view.emb (ix2 k j)) = _
  rw [e, V_eq]
  entry_read
  unfold after1 after0
  entry_read
  rfl
theorem gainQ_read : only (iblk m c 4 t) = gainRow (argGq m c) := by
  funext d
  have e : (win0_4.blk t).view.emb (ix2 0 d) = ix2 0 d := by blk_ext [places_of_blocks t]
  show V m c main_v35 ((win0_4.blk t).view.emb (ix2 0 d)) = _
  rw [e, V_eq]
  entry_read
  unfold after1 after0
  entry_read
  exact row_apply _ _ _
theorem gainK_read : only (iblk m c 5 t) = gainRow (argGk m c) := by
  funext d
  have e : (win0_5.blk t).view.emb (ix2 0 d) = ix2 0 d := by blk_ext [places_of_blocks t]
  show V m c main_v36 ((win0_5.blk t).view.emb (ix2 0 d)) = _
  rw [e, V_eq]
  entry_read
  unfold after1 after0
  entry_read
  exact row_apply _ _ _
theorem cos_read : line (iblk m c 6 t) r = cosAt (argPos m c) (blockRow t r) := by
  funext d
  have e : (win0_6.blk t).view.emb (ix2 r d) = ix2 (blockRow t r) d := by blk_ext [places_of_blocks t]
  show V m c main_v21 ((win0_6.blk t).view.emb (ix2 r d)) = _
  rw [e, V_eq]
  entry_read
  unfold after1
  entry_read
  rw [cos_host]
  exact table_entry _ _ _ _
theorem sin_read : line (iblk m c 7 t) r = sinAt (argPos m c) (blockRow t r) := by
  funext d
  have e : (win0_7.blk t).view.emb (ix2 r d) = ix2 (blockRow t r) d := by blk_ext [places_of_blocks t]
  show V m c main_v22 ((win0_7.blk t).view.emb (ix2 r d)) = _
  rw [e, V_eq]
  entry_read
  unfold after1
  entry_read
  rw [sin_host]
  refine (table_entry _ _ _ _).trans ?_
  refine congrArg (fun x => tab x _ d) (funext fun k => ?_)
  pointwise [zeros32]
theorem sinBack_read : line (iblk m c 8 t) r = sinBackAt (argPos m c) (blockRow t r) := by
  funext d
  have e : (win0_8.blk t).view.emb (ix2 r d) = ix2 (blockRow t r) d := by blk_ext [places_of_blocks t]
  show V m c main_v24 ((win0_8.blk t).view.emb (ix2 r d)) = _
  rw [e, V_eq]
  entry_read
  unfold after1
  entry_read
  rw [sinBack_host]
  refine (table_entry _ _ _ _).trans ?_
  refine congrArg (fun x => tab _ x d) (funext fun k => ?_)
  pointwise [zeros32]

/-- The rows the blocks give, among the arguments' alone. -/
theorem proj_read (j : Fin 1280) : projOf (iblk m c 0 t) (X0_1 m c t) r j = projAt (argH m c) (argW m c) (blockRow t r) ⟨j.val, by omega⟩ :=
  Finset.sum_congr rfl fun d _ => congrArg₂ (fun x y : EReal => x * y) (rows_read m c t r d) (input_read m c t j d)
theorem query_read : queryOf (iblk m c 0 t) (X0_1 m c t) r = queryAt (argH m c) (argW m c) (blockRow t r) := funext fun _ => proj_read m c t r _
theorem key_read : keyOf (iblk m c 0 t) (X0_1 m c t) r = keyAt (argH m c) (argW m c) (blockRow t r) := funext fun _ => proj_read m c t r _
theorem shared_read : sharedOf (iblk m c 0 t) (X0_1 m c t) r = sharedAt (argH m c) (argW m c) (blockRow t r) := funext fun _ => proj_read m c t r _
theorem weightedQ_read (k : Fin 384) : weightedQ (iblk m c 0 t) (X0_1 m c t) (iblk m c 4 t) r k = weightedQAt (argH m c) (argW m c) (argGq m c) (blockRow t r) k := by
  unfold weightedQ
  rw [query_read, gainQ_read]
  rfl
theorem weightedK_read (k : Fin 256) : weightedK (iblk m c 0 t) (X0_1 m c t) (iblk m c 5 t) r k = weightedKAt (argH m c) (argW m c) (argGk m c) (blockRow t r) k := by
  unfold weightedK
  rw [key_read, gainK_read]
  rfl
theorem straight_read : straightOf (iblk m c 0 t) (X0_1 m c t) (iblk m c 4 t) (iblk m c 2 t) r = straightAt (argH m c) (argW m c) (argGq m c) (argWq m c) (blockRow t r) :=
  funext fun j => Finset.sum_congr rfl fun k _ => congrArg₂ (fun x y : EReal => x * y) (weightedQ_read m c t r k) (queries_read m c t j k)

theorem pooled_point (i : S512x512.Idx) : (outsAt0 m c t).1 i = pooledAt (argH m c) (argW m c) (blockRow t (i 0)) (i 1) := by
  obtain ⟨r, k, rfl⟩ : ∃ (r : Fin 512) (k : Fin 512), i = ix2 r k := ⟨i 0, i 1, Idealize.ShloMosaic.eq_ix2 i⟩
  unfold outsAt0
  frame_out
  exact (pooled_block _ _ r k).trans (proj_read m c t r _)
theorem query_point (i : S512x384.Idx) : (outsAt0 m c t).2.1 i = queryAt (argH m c) (argW m c) (blockRow t (i 0)) (i 1) := by
  obtain ⟨r, k, rfl⟩ : ∃ (r : Fin 512) (k : Fin 384), i = ix2 r k := ⟨i 0, i 1, Idealize.ShloMosaic.eq_ix2 i⟩
  unfold outsAt0
  frame_out
  exact (query_block _ _ r k).trans (congrFun (query_read m c t r) k)
theorem key_point (i : S512x256.Idx) : (outsAt0 m c t).2.2.1 i = keyAt (argH m c) (argW m c) (blockRow t (i 0)) (i 1) := by
  obtain ⟨r, k, rfl⟩ : ∃ (r : Fin 512) (k : Fin 256), i = ix2 r k := ⟨i 0, i 1, Idealize.ShloMosaic.eq_ix2 i⟩
  unfold outsAt0
  frame_out
  exact (key_block _ _ r k).trans (congrFun (key_read m c t r) k)
theorem weightedQ_point (i : S512x384.Idx) : (outsAt0 m c t).2.2.2.1 i = weightedQAt (argH m c) (argW m c) (argGq m c) (blockRow t (i 0)) (i 1) := by
  obtain ⟨r, k, rfl⟩ : ∃ (r : Fin 512) (k : Fin 384), i = ix2 r k := ⟨i 0, i 1, Idealize.ShloMosaic.eq_ix2 i⟩
  unfold outsAt0
  frame_out
  exact (weightedQ_block _ _ _ r k).trans (weightedQ_read m c t r k)
theorem weightedK_point (i : S512x256.Idx) : (outsAt0 m c t).2.2.2.2.1 i = weightedKAt (argH m c) (argW m c) (argGk m c) (blockRow t (i 0)) (i 1) := by
  obtain ⟨r, k, rfl⟩ : ∃ (r : Fin 512) (k : Fin 256), i = ix2 r k := ⟨i 0, i 1, Idealize.ShloMosaic.eq_ix2 i⟩
  unfold outsAt0
  frame_out
  exact (weightedK_block _ _ _ r k).trans (weightedK_read m c t r k)
theorem heads_point (i : S512x2048.Idx) : (outsAt0 m c t).2.2.2.2.2.1 i = headsAt (argH m c) (argW m c) (argPos m c) (argGq m c) (argWq m c) (blockRow t (i 0)) (i 1) := by
  obtain ⟨r, k, rfl⟩ : ∃ (r : Fin 512) (k : Fin 2048), i = ix2 r k := ⟨i 0, i 1, Idealize.ShloMosaic.eq_ix2 i⟩
  rw [heads_stored]
  show heads (line (iblk m c 6 t) r) (line (iblk m c 7 t) r) (line (iblk m c 8 t) r) (straightOf (iblk m c 0 t) (X0_1 m c t) (iblk m c 4 t) (iblk m c 2 t) r) k =
    heads (cosAt (argPos m c) (blockRow t r)) (sinAt (argPos m c) (blockRow t r)) (sinBackAt (argPos m c) (blockRow t r)) (straightAt (argH m c) (argW m c) (argGq m c) (argWq m c) (blockRow t r)) k
  rw [cos_read, sin_read, sinBack_read, straight_read]
theorem values_point (i : S512x2048.Idx) : (outsAt0 m c t).2.2.2.2.2.2.1 i = valuesAt (argH m c) (argW m c) (argGk m c) (argWk m c) (blockRow t (i 0)) (i 1) := by
  obtain ⟨r, k, rfl⟩ : ∃ (r : Fin 512) (k : Fin 2048), i = ix2 r k := ⟨i 0, i 1, Idealize.ShloMosaic.eq_ix2 i⟩
  unfold outsAt0
  frame_out
  exact (values_block _ _ _ _ r k).trans (Finset.sum_congr rfl fun j _ => congrArg₂ (fun x y : EReal => x * y) (weightedK_read m c t r j) (values_read m c t j k))
theorem turned_point (i : S512x128.Idx) : (outsAt0 m c t).2.2.2.2.2.2.2 i = turnedAt (argH m c) (argW m c) (argPos m c) (blockRow t (i 0)) (i 1) := by
  obtain ⟨r, k, rfl⟩ : ∃ (r : Fin 512) (k : Fin 128), i = ix2 r k := ⟨i 0, i 1, Idealize.ShloMosaic.eq_ix2 i⟩
  unfold outsAt0
  frame_out
  refine (shared_block _ _ _ _ _ r k).trans ?_
  rw [cos_read, sin_read, sinBack_read, shared_read]
  rfl

theorem pooled_final : (dats m 0 c).arrAt 9 cfg0.N = fun i : S4096x512.Idx => pooledAt (argH m c) (argW m c) (i 0) (i 1) := by
  refine (dats m 0 c).arrAt_eq_of_covers 9 _ (by decide +kernel) fun t hf y => ?_
  blk_simp
  have e : (win0_9.blk t).view.emb y = ix2 (blockRow t (y 0)) (y 1) := by blk_ext [places_of_blocks t]
  rw [after0_9, pooled_point m c t, e]
  rfl
theorem query_final : (dats m 0 c).arrAt 10 cfg0.N = fun i : S4096x384.Idx => queryAt (argH m c) (argW m c) (i 0) (i 1) := by
  refine (dats m 0 c).arrAt_eq_of_covers 10 _ (by decide +kernel) fun t hf y => ?_
  blk_simp
  have e : (win0_10.blk t).view.emb y = ix2 (blockRow t (y 0)) (y 1) := by blk_ext [places_of_blocks t]
  rw [after0_10, query_point m c t, e]
  rfl
theorem key_final : (dats m 0 c).arrAt 11 cfg0.N = fun i : S4096x256.Idx => keyAt (argH m c) (argW m c) (i 0) (i 1) := by
  refine (dats m 0 c).arrAt_eq_of_covers 11 _ (by decide +kernel) fun t hf y => ?_
  blk_simp
  have e : (win0_11.blk t).view.emb y = ix2 (blockRow t (y 0)) (y 1) := by blk_ext [places_of_blocks t]
  rw [after0_11, key_point m c t, e]
  rfl
theorem weightedQ_final : (dats m 0 c).arrAt 12 cfg0.N = fun i : S4096x384.Idx => weightedQAt (argH m c) (argW m c) (argGq m c) (i 0) (i 1) := by
  refine (dats m 0 c).arrAt_eq_of_covers 12 _ (by decide +kernel) fun t hf y => ?_
  blk_simp
  have e : (win0_12.blk t).view.emb y = ix2 (blockRow t (y 0)) (y 1) := by blk_ext [places_of_blocks t]
  rw [after0_12, weightedQ_point m c t, e]
  rfl
theorem weightedK_final : (dats m 0 c).arrAt 13 cfg0.N = fun i : S4096x256.Idx => weightedKAt (argH m c) (argW m c) (argGk m c) (i 0) (i 1) := by
  refine (dats m 0 c).arrAt_eq_of_covers 13 _ (by decide +kernel) fun t hf y => ?_
  blk_simp
  have e : (win0_13.blk t).view.emb y = ix2 (blockRow t (y 0)) (y 1) := by blk_ext [places_of_blocks t]
  rw [after0_13, weightedK_point m c t, e]
  rfl
theorem heads_final : (dats m 0 c).arrAt 14 cfg0.N = fun i : S4096x2048.Idx => headsAt (argH m c) (argW m c) (argPos m c) (argGq m c) (argWq m c) (i 0) (i 1) := by
  refine (dats m 0 c).arrAt_eq_of_covers 14 _ (by decide +kernel) fun t hf y => ?_
  blk_simp
  have e : (win0_14.blk t).view.emb y = ix2 (blockRow t (y 0)) (y 1) := by blk_ext [places_of_blocks t]
  rw [after0_14, heads_point m c t, e]
  rfl
theorem values_final : (dats m 0 c).arrAt 15 cfg0.N = fun i : S4096x2048.Idx => valuesAt (argH m c) (argW m c) (argGk m c) (argWk m c) (i 0) (i 1) := by
  refine (dats m 0 c).arrAt_eq_of_covers 15 _ (by decide +kernel) fun t hf y => ?_
  blk_simp
  have e : (win0_15.blk t).view.emb y = ix2 (blockRow t (y 0)) (y 1) := by blk_ext [places_of_blocks t]
  rw [after0_15, values_point m c t, e]
  rfl
theorem turned_final : (dats m 0 c).arrAt 16 cfg0.N = fun i : S4096x128.Idx => turnedAt (argH m c) (argW m c) (argPos m c) (i 0) (i 1) := by
  refine (dats m 0 c).arrAt_eq_of_covers 16 _ (by decide +kernel) fun t hf y => ?_
  blk_simp
  have e : (win0_16.blk t).view.emb y = ix2 (blockRow t (y 0)) (y 1) := by blk_ext [places_of_blocks t]
  rw [after0_16, turned_point m c t, e]
  rfl

end Cert.Latent

end
-- ==== Proof.Latent.Plain.lean ====
/- What the plain program computes: the projections, the latent rows scaled and weighted, and the heads with their pairs of coordinates turned. -/
module

public import proofs.«01_k».proof.Proof.Latent.Points
public import proofs.«01_k».proof.Proof.Mixer.Plain
public import proofs.«01_k».proof.Proof.NormPlain
public import proofs.«01_k».proof.Proof.Gen.LatentReferenceIdeal.Run

@[expose] public section

set_option maxRecDepth 16384

noncomputable section

namespace Cert.Latent

open Idealize Idealize.ShloMosaic Idealize.SL.Sem Cert.LatentReferenceIdeal Cert.LatentReferenceIdeal.Gen Cert.Norm Cert.Rows Cert.Layout Cert.NormPlain
open Cert.Mixer (tab filled filled64 filled_at filled_not angleP angle_plain angleRow cosRow sinRow sides384 sides256 width384 width256)
open scoped BigOperators

/-- Pairs of numbers turned by their angles. -/
def turnedPair (cs sn : Fin 32 → EReal) (q : Fin 64 → EReal) (j : Fin 64) : EReal :=
  if h : j.val < 32 then q ⟨j.val, by omega⟩ * cs ⟨j.val, h⟩ - q ⟨32 + j.val, by omega⟩ * sn ⟨j.val, h⟩
  else q ⟨32 + (j.val - 32), by omega⟩ * cs ⟨j.val - 32, by omega⟩ + q ⟨j.val - 32, by omega⟩ * sn ⟨j.val - 32, by omega⟩

theorem turn_pair (cs sn : Fin 32 → EReal) (q : Fin 64 → EReal) (p : Fin 128 → EReal) (hp : ∀ (j : Fin 128) (h : j.val < 64), p j = q ⟨j.val, h⟩) (j : Fin 128) :
    turn (tab cs cs) (tab (fun _ => 0) sn) (tab (fun k => -sn k) (fun _ => 0)) p j = filled64 (turnedPair cs sn q) j := by
  unfold turn filled64 turnedPair tab
  by_cases h : j.val < 32
  · have h' : j.val < 64 := by omega
    simp only [h, h', dif_pos, mul_zero, zero_add, mul_neg]
    rw [hp j h', hp ⟨(j.val + 128 - 96) % 128, Nat.mod_lt _ (by decide)⟩ (by show (j.val + 128 - 96) % 128 < 64; omega), sub_eq_add_neg]
    refine congrArg (fun i => _ + -(q i * _)) ?_
    apply Fin.ext
    show (j.val + 128 - 96) % 128 = 32 + j.val
    omega
  · by_cases h' : j.val < 64
    · have h2 : j.val - 32 < 32 := by omega
      simp only [h, h', h2, dif_pos, dif_neg, not_false_eq_true, mul_zero, add_zero]
      rw [hp j h', hp ⟨(j.val + 128 - 32) % 128, Nat.mod_lt _ (by decide)⟩ (by show (j.val + 128 - 32) % 128 < 64; omega)]
      refine congrArg₂ (fun i i' => q i * _ + q i' * _) ?_ ?_
      · apply Fin.ext
        show j.val = 32 + (j.val - 32)
        omega
      · apply Fin.ext
        show (j.val + 128 - 32) % 128 = j.val - 32
        omega
    · have h2 : ¬j.val - 32 < 32 := by omega
      simp only [h, h', h2, dif_neg, not_false_eq_true, mul_zero, add_zero]

abbrev Heads := FVec Ideal S2x2048x8x192 .f32
abbrev Pairs := FVec Ideal S2x2048x32 .f32

section
variable (H : Rows 1024) (W : FVec Ideal S1024x3264 .f32) (pos : IVec S2x2048 32) (Gq : FVec Ideal S384 .f32) (Wq : FVec Ideal S384x1536 .f32)
  (Gk : FVec Ideal S256 .f32) (Wk : FVec Ideal S256x2048 .f32) (Q : Heads) (K : FVec Ideal S2x2048x64 .f32)

def projP : Rows 3264 := Host.dotGeneral dot_S2x2048x1024_S1024x3264_S2x2048x3264_2_0_01_1_n_n none H W
def pooledP : Rows 512 := extractStridedSlice S2x2048x512 ![0, 0, 0] (projP H W) slices_S2x2048x3264_S2x2048x512_0_0_0
def queryP : Rows 384 := extractStridedSlice S2x2048x384 ![0, 0, 512] (projP H W) slices_S2x2048x3264_S2x2048x384_0_0_512
def keyP : Rows 256 := extractStridedSlice S2x2048x256 ![0, 0, 896] (projP H W) slices_S2x2048x3264_S2x2048x256_0_0_896
def sharedP : Rows 64 := extractStridedSlice S2x2048x64 ![0, 0, 1152] (projP H W) slices_S2x2048x3264_S2x2048x64_0_0_1152
def weightedQP : Rows 384 := weightedP sides384 0x43C00000#32 (queryP H W) Gq
def weightedKP : Rows 256 := weightedP sides256 0x43800000#32 (keyP H W) Gk
def valuesP : Rows 2048 := Host.dotGeneral dot_S2x2048x256_S256x2048_S2x2048x2048_2_0_01_1_n_n none (weightedKP H W Gk) Wk
def straightP : Heads := shapeCast S2x2048x8x192 (Host.dotGeneral dot_S2x2048x384_S384x1536_S2x2048x1536_2_0_01_1_n_n none (weightedQP H W Gq) Wq) shapeCasts_S2x2048x1536_S2x2048x8x192

/-- Each head's pairs of coordinates, and a number for each pair the same for every head. -/
def partP : FVec Ideal S2x2048x8x64 .f32 := extractStridedSlice S2x2048x8x64 ![0, 0, 0, 128] Q slices_S2x2048x8x192_S2x2048x8x64_0_0_0_128
def firstP : FVec Ideal S2x2048x8x32 .f32 := extractStridedSlice S2x2048x8x32 ![0, 0, 0, 0] (partP Q) slices_S2x2048x8x64_S2x2048x8x32_0_0_0_0
def secondP : FVec Ideal S2x2048x8x32 .f32 := extractStridedSlice S2x2048x8x32 ![0, 0, 0, 32] (partP Q) slices_S2x2048x8x64_S2x2048x8x32_0_0_0_32
def eachP (x : Pairs) : FVec Ideal S2x2048x8x32 .f32 :=
  broadcastInDim S2x2048x8x32 ![0, 1, 2, 3] bcast_S2x2048x1x32_S2x2048x8x32_0_1_2_3 (broadcastInDim S2x2048x1x32 ![0, 1, 3] bcast_S2x2048x32_S2x2048x1x32_0_1_3 x)
/-- The heads' rows with the pairs turned, and zeros after each. -/
def headsP : FVec Ideal S2x2048x8x256 .f32 :=
  concatenate S2x2048x8x256 3 [⟨S2x2048x8x128, extractStridedSlice S2x2048x8x128 ![0, 0, 0, 0] Q slices_S2x2048x8x192_S2x2048x8x128_0_0_0_0⟩,
    ⟨S2x2048x8x64, concatenate S2x2048x8x64 3
      [⟨S2x2048x8x32, subf (mulf (firstP Q) (eachP (Host.cos (angleP pos)))) (mulf (secondP Q) (eachP (Host.sin (angleP pos))))⟩,
       ⟨S2x2048x8x32, addf (mulf (secondP Q) (eachP (Host.cos (angleP pos)))) (mulf (firstP Q) (eachP (Host.sin (angleP pos))))⟩] concatenates_S2x2048x8x32_S2x2048x8x32_S2x2048x8x64_d3⟩,
    ⟨S2x2048x8x64, broadcastInDim S2x2048x8x64 ![] bcast_S_S2x2048x8x64 (constant (F := Ideal) S_ .f32 0x00000000#32)⟩] concatenates_S2x2048x8x128_S2x2048x8x64_S2x2048x8x64_S2x2048x8x256_d3
def keyFirstP : Pairs := extractStridedSlice S2x2048x32 ![0, 0, 0] K slices_S2x2048x64_S2x2048x32_0_0_0
def keySecondP : Pairs := extractStridedSlice S2x2048x32 ![0, 0, 32] K slices_S2x2048x64_S2x2048x32_0_0_32
/-- The shared key's rows with the pairs turned, and zeros after them. -/
def turnedP : Rows 128 :=
  concatenate S2x2048x128 2 [⟨S2x2048x64, concatenate S2x2048x64 2
      [⟨S2x2048x32, subf (mulf (keyFirstP K) (Host.cos (angleP pos))) (mulf (keySecondP K) (Host.sin (angleP pos)))⟩,
       ⟨S2x2048x32, addf (mulf (keySecondP K) (Host.cos (angleP pos))) (mulf (keyFirstP K) (Host.sin (angleP pos)))⟩] concatenates_S2x2048x32_S2x2048x32_S2x2048x64_d2⟩,
    ⟨S2x2048x64, broadcastInDim S2x2048x64 ![] bcast_S_S2x2048x64 (constant (F := Ideal) S_ .f32 0x00000000#32)⟩] concatenates_S2x2048x64_S2x2048x64_S2x2048x128_d2

variable (r : Fin 4096) (b : Fin 2) (s : Fin 2048)

/-- The sequence and the place of row `r`. -/
abbrev seqOf : Fin 2 := ⟨r.val / 2048, by omega⟩
abbrev placeOf : Fin 2048 := ⟨r.val % 2048, by omega⟩

theorem proj_plain (j : Fin 3264) : rowAt (projP H W) r j = projAt H W r j := by
  show projP H W (ix3 _ _ j) = _
  pointwise [projP]
  rfl
theorem pooled_plain (k : Fin 512) : rowAt (pooledP H W) r k = pooledAt H W r k := by
  show pooledP H W (ix3 _ _ k) = _
  pointwise [pooledP]
  exact proj_plain H W r _
theorem query_plain (k : Fin 384) : rowAt (queryP H W) r k = queryAt H W r k := by
  show queryP H W (ix3 _ _ k) = _
  pointwise [queryP]
  exact proj_plain H W r _
theorem key_plain (k : Fin 256) : rowAt (keyP H W) r k = keyAt H W r k := by
  show keyP H W (ix3 _ _ k) = _
  pointwise [keyP]
  exact proj_plain H W r _
theorem shared_plain (k : Fin 64) : rowAt (sharedP H W) r k = sharedAt H W r ⟨k.val, by omega⟩ := by
  show sharedP H W (ix3 _ _ k) = _
  pointwise [sharedP]
  exact proj_plain H W r _
theorem weightedQ_plain (k : Fin 384) : rowAt (weightedQP H W Gq) r k = weightedQAt H W Gq r k :=
  (weighted_plain sides384 (queryP H W) Gq (by norm_num) width384 _ _ k).trans (congrArg (fun x : Fin 384 → EReal => scaled x k * gainRow Gq k) (funext fun k => query_plain H W r k))
theorem weightedK_plain (k : Fin 256) : rowAt (weightedKP H W Gk) r k = weightedKAt H W Gk r k :=
  (weighted_plain sides256 (keyP H W) Gk (by norm_num) width256 _ _ k).trans (congrArg (fun x : Fin 256 → EReal => scaled x k * gainRow Gk k) (funext fun k => key_plain H W r k))
theorem values_plain (j : Fin 2048) : rowAt (valuesP H W Gk Wk) r j = valuesAt H W Gk Wk r j := by
  show valuesP H W Gk Wk (ix3 _ _ j) = _
  pointwise [valuesP]
  exact Finset.sum_congr rfl fun k _ => congrArg (fun x : EReal => x * Wk (ix2 k j)) (weightedK_plain H W Gk r k)
theorem straight_plain (h : Fin 8) (j : Fin 192) {k : Fin 2048} (hk : k.val = h.val * 256 + j.val) : straightP H W Gq Wq (ix4 (seqOf r) (placeOf r) h j) = straightAt H W Gq Wq r k := by
  pointwise [straightP]
  exact Finset.sum_congr rfl fun e _ => congrArg₂ (fun x y : EReal => x * y) (weightedQ_plain H W Gq r e) (filled_at (fun h i => Wq (ix2 e ⟨h.val * 192 + i.val, by omega⟩)) hk).symm

theorem shared_turned (j : Fin 128) : turnedP pos K (ix3 b s j) = filled64 (turnedPair (cosRow pos b s) (sinRow pos b s) (tokRow K b s)) j := by
  pointwise [turnedP, keyFirstP, keySecondP]
  rfl
theorem heads_entry (h : Fin 8) (j : Fin 256) : headsP pos Q (ix4 b s h j) =
    if g : j.val < 128 then Q (ix4 b s h ⟨j.val, by omega⟩) else filled64 (turnedPair (cosRow pos b s) (sinRow pos b s) (fun i => Q (ix4 b s h ⟨128 + i.val, by omega⟩))) ⟨j.val - 128, by omega⟩ := by
  pointwise [headsP, firstP, secondP, partP, eachP]
  rfl

theorem tables : cosAt pos r = tab (cosRow pos (seqOf r) (placeOf r)) (cosRow pos (seqOf r) (placeOf r)) ∧ sinAt pos r = tab (fun _ => 0) (sinRow pos (seqOf r) (placeOf r)) ∧
    sinBackAt pos r = tab (fun k => -sinRow pos (seqOf r) (placeOf r) k) (fun _ => 0) := by
  have e (k : Fin 32) : angleRow r pos k = angleP pos (ix3 (seqOf r) (placeOf r) k) := (angle_plain pos r k).symm
  unfold cosAt sinAt sinBackAt
  simp only [e]
  exact ⟨trivial, trivial, trivial⟩
theorem turned_plain (j : Fin 128) : rowAt (turnedP pos (sharedP H W)) r j = turnedAt H W pos r j := by
  obtain ⟨hc, hs, hb⟩ := tables pos r
  unfold turnedAt
  rw [hc, hs, hb]
  exact (shared_turned pos (sharedP H W) _ _ j).trans (turn_pair _ _ (rowAt (sharedP H W) r) _ (fun j h => (shared_plain H W r ⟨j.val, h⟩).symm) j).symm
theorem heads_plain_at (k : Fin 2048) : headsP pos (straightP H W Gq Wq) (ix4 (seqOf r) (placeOf r) ⟨k.val / 256, by omega⟩ ⟨k.val % 256, by omega⟩) = headsAt H W pos Gq Wq r k := by
  obtain ⟨hc, hs, hb⟩ := tables pos r
  unfold headsAt
  rw [hc, hs, hb, heads_entry]
  by_cases g : k.val % 256 < 128
  · refine (dif_pos g).trans (Eq.trans ?_ (heads_plain g).symm)
    exact straight_plain H W Gq Wq r _ _ (by show k.val = k.val / 256 * 256 + k.val % 256; omega)
  · refine (dif_neg g).trans (Eq.trans ?_ (if_neg g).symm)
    refine (turn_pair _ _ (fun i => straightP H W Gq Wq (ix4 (seqOf r) (placeOf r) ⟨k.val / 256, by omega⟩ ⟨128 + i.val, by omega⟩)) _ (fun j h => ?_) _).symm
    exact (straight_plain H W Gq Wq r _ _ (by show k.val / 256 * 256 + 128 + j.val = k.val / 256 * 256 + (128 + j.val); omega)).symm
theorem heads_rows : (shapeCast S4096x2048 (headsP pos (straightP H W Gq Wq)) shapeCasts_S2x2048x8x256_S4096x2048 : FVec Ideal S4096x2048 .f32) = fun i : S4096x2048.Idx => headsAt H W pos Gq Wq (i 0) (i 1) := by
  funext i
  obtain ⟨r, k, rfl⟩ : ∃ (r : Fin 4096) (k : Fin 2048), i = ix2 r k := ⟨i 0, i 1, Idealize.ShloMosaic.eq_ix2 i⟩
  pointwise
  exact heads_plain_at H W pos Gq Wq r k
end
end Cert.Latent

end
-- ==== Proof.Latent.Final.lean ====
/- The two programs, launched over the same arguments, end with the same eight results. -/
module

public import proofs.«01_k».proof.Defs
public import proofs.«01_k».proof.Proof.Latent.Plain

@[expose] public section

set_option maxRecDepth 16384

noncomputable section

namespace Cert.Latent

open Idealize Idealize.ShloMosaic Idealize.SL.Sem Cert.LatentReferenceIdeal Cert.LatentReferenceIdeal.Gen Cert.Norm Cert.Rows Cert.Layout Cert.NormPlain
open scoped BigOperators

/-- The plain program declares no semaphore, so a run of it that leaves the arguments unchanged is the whole frame. -/
theorem reference : Cert.quiescent_LatentReferenceIdeal := fun m g _ =>
  (θ_run _ _ _).mono (fun _ h => ⟨fun c => (h c).2.2.2.2.2.2.2.2, funext fun s => by rcases s with ⟨_, s | s⟩ <;> exact Fin.elim0 s⟩)
    (Cert.LatentReferenceIdeal.Value.run m g)

set_option maxHeartbeats 4000000 in
/-- Launched over the same arguments, whatever they are, the two programs end with the same eight results. -/
theorem value : Cert.algebraic_LatentKernelIdeal_LatentReferenceIdeal := by
  intro m g m' g' _ hagree
  refine ⟨fun c => (Cert.LatentKernelIdeal.Gen.dats m 0 c).arrAt 9 Cert.LatentKernelIdeal.cfg0.N, fun c => (Cert.LatentKernelIdeal.Gen.dats m 0 c).arrAt 10 Cert.LatentKernelIdeal.cfg0.N,
    fun c => (Cert.LatentKernelIdeal.Gen.dats m 0 c).arrAt 11 Cert.LatentKernelIdeal.cfg0.N, fun c => (Cert.LatentKernelIdeal.Gen.dats m 0 c).arrAt 12 Cert.LatentKernelIdeal.cfg0.N,
    fun c => (Cert.LatentKernelIdeal.Gen.dats m 0 c).arrAt 13 Cert.LatentKernelIdeal.cfg0.N, fun c => (Cert.LatentKernelIdeal.Gen.dats m 0 c).arrAt 14 Cert.LatentKernelIdeal.cfg0.N,
    fun c => (Cert.LatentKernelIdeal.Gen.dats m 0 c).arrAt 15 Cert.LatentKernelIdeal.cfg0.N, fun c => (Cert.LatentKernelIdeal.Gen.dats m 0 c).arrAt 16 Cert.LatentKernelIdeal.cfg0.N,
    Cert.LatentKernelIdeal.Value.run_blocks m g, ?_⟩
  refine (θ_run _ _ _).mono (fun r h c => ?_) (Cert.LatentReferenceIdeal.Value.run m' g')
  obtain ⟨h0, h1, h2, h3, h4, h5, h6, h7, h8⟩ := h c
  obtain ⟨a0, a1, a2, a3, a4, a5, a6⟩ := hagree c
  unfold Cert.LatentReferenceIdeal.Value.res_main_v89 at h5
  unfold Cert.LatentReferenceIdeal.Value.res_main_v94 at h7
  rw [a0, a2] at h0 h1 h2
  rw [a0, a2, a3] at h3
  rw [a0, a2, a5] at h4
  rw [a0, a1, a2, a3, a4] at h5
  rw [a0, a2, a5, a6] at h6
  rw [a0, a1, a2] at h7
  refine ⟨h0.trans ?_, h1.trans ?_, h2.trans ?_, h3.trans ?_, h4.trans ?_, h5.trans ?_, h6.trans ?_, h7.trans ?_, h8⟩
  · exact Eq.trans (stacked_eq _ (pooledP (argH m c) (argW m c)) fun r k => pooled_plain _ _ r k) (pooled_final m c).symm
  · exact Eq.trans (stacked_eq _ (queryP (argH m c) (argW m c)) fun r k => query_plain _ _ r k) (query_final m c).symm
  · exact Eq.trans (stacked_eq _ (keyP (argH m c) (argW m c)) fun r k => key_plain _ _ r k) (key_final m c).symm
  · exact Eq.trans (stacked_eq _ (weightedQP (argH m c) (argW m c) (argGq m c)) fun r k => weightedQ_plain _ _ _ r k) (weightedQ_final m c).symm
  · exact Eq.trans (stacked_eq _ (weightedKP (argH m c) (argW m c) (argGk m c)) fun r k => weightedK_plain _ _ _ r k) (weightedK_final m c).symm
  · exact Eq.trans (heads_rows (argH m c) (argW m c) (argPos m c) (argGq m c) (argWq m c)) (heads_final m c).symm
  · exact Eq.trans (stacked_eq _ (valuesP (argH m c) (argW m c) (argGk m c) (argWk m c)) fun r k => values_plain _ _ _ _ r k) (values_final m c).symm
  · exact Eq.trans (stacked_eq _ (turnedP (argPos m c) (sharedP (argH m c) (argW m c))) fun r k => turned_plain _ _ _ r k) (turned_final m c).symm

end Cert.Latent

end
-- ==== Proof.Pooled.Points.lean ====
/- The pooling of the forward pass: what a grid point, which works on one sequence, leaves in its block, and the array after the run. -/
module

public import proofs.«01_k».proof.Proof.Pool.Arrays
public import proofs.«01_k».proof.Proof.Gen.PooledKernelIdeal.Value

@[expose] public section

set_option maxRecDepth 16384

noncomputable section

namespace Cert.Pooled

open Idealize.ShloMosaic Idealize.SL.Sem Cert.PooledKernelIdeal Cert.PooledKernelIdeal.Gen
open Cert.Pool (Rows Map Row Trails back2 back4 back8 back16 trails2 trails4 trails8 trails16 rowNo mixedV mixedV_apply mixedAt win win_lt chan part mapOf scaleOf
  grp lane grp_of lane_of load_rows load_map load_row rows_cases seqRow tokRow stacked_apply row_apply)
open scoped BigOperators

/-- One group's mixed tokens under its scales, as the kernel stores them. -/
def keptV (w : BitVec 32) (B : Rows → Rows) (x : Rows) (μ : Map) (sc : Row) : FVec Ideal S2048x128 .bf16 :=
  truncf .bf16 (mulf (mixedV w B x μ) (broadcastTo S2048x128 (shapeCast S1x128 sc shapeCasts_S1x128_S1x128) broadcasts_S1x128_S2048x128)) bitsLt_bf16_f32

theorem keptV_apply {w : ℕ} (hw : w < 2048) {B : Rows → Rows} (hB : Trails w B) (x : Rows) (μ : Map) (sc : Row) (t : Fin 2048) (d : Fin 128) :
    keptV (BitVec.ofNat 32 w) B x μ sc (ix2 t d) = mixedAt w (fun u c => x (ix2 u c)) (fun c d => μ (ix3 0 c d)) t d * sc (ix2 0 d) := by
  rw [← mixedV_apply hw hB]
  pointwise [keptV]

/-! The stored pieces, group by group. -/

theorem kept0 (x : Rows) (μ : Map) (sc : Row) : k0_pay2 x μ sc = keptV 2#32 back2 x μ sc := rfl
theorem kept1 (x : Rows) (μ : Map) (sc : Row) : k0_pay6 rowNo (k0_pay3 x) (k0_pay4 x) k0_pay5 μ sc = keptV 4#32 back4 x μ sc := rfl
theorem kept2 (x : Rows) (μ : Map) (sc : Row) : k0_pay10 rowNo (k0_pay7 x) (k0_pay8 rowNo x) (k0_pay9 rowNo) μ sc = keptV 8#32 back8 x μ sc := rfl
theorem kept3 (x : Rows) (μ : Map) (sc : Row) : k0_pay1 rowNo (k0_pay11 x) (k0_pay12 rowNo x) (k0_pay13 rowNo) μ sc = keptV 16#32 back16 x μ sc := rfl

variable (m : (ℓ : Loc nD τ sig) → Buf (Elt Ideal) ℓ) (c : Dev nD)

/-- The tokens the program is launched with. -/
abbrev argX : FVec Ideal S2x2048x512 .f32 := m ((c.tc : Thread nD τ).loc main_arg0)
/-- The maps. -/
abbrev argM : FVec Ideal S4x128x128 .f32 := m ((c.tc : Thread nD τ).loc main_arg1)
/-- The scales. -/
abbrev argS : FVec Ideal S512 .f32 := m ((c.tc : Thread nD τ).loc main_arg2)

/-- The pooled, mixed and scaled tokens: channel `k` of group `g` at token `t` of sequence `b`. -/
def kept (X : FVec Ideal S2x2048x512 .f32) (M : FVec Ideal S4x128x128 .f32) (sc : FVec Ideal S512 .f32) (b : Fin 2) (t : Fin 2048) (g : Fin 4) (k : Fin 128) : EReal :=
  mixedAt (win g) (part X b g) (mapOf M g) t k * scaleOf sc g k

/-- Where each window's block lies at grid point `t`. -/
theorem places_of_blocks : ∀ t : Fin cfg0.N, win0_0.index t = ![t.val, 0] ∧ win0_1.index t = ![0, 0, 0] ∧ win0_2.index t = ![0, 0] ∧ win0_3.index t = ![t.val, 0] :=
  (by decide +kernel : ∀ t : Fin grid0.N, _)

/-- The sequence that grid point `t` works on. -/
def seqOf (t : Fin cfg0.N) : Fin 2 := ⟨t.val, t.isLt⟩

variable (t : Fin cfg0.N)

theorem iblk_tokens (r : Fin 2048) (k : Fin 512) : (iblk m c 0 t : FVec Ideal S2048x512 .f32) (ix2 r k) = argX m c (ix3 (seqOf t) r k) := by
  have ht : t.val < 2 := t.isLt
  have e : (win0_0.blk t).view.emb (ix2 r k) = ix2 ⟨t.val * 2048 + r.val, by omega⟩ k := by blk_ext [places_of_blocks t]
  show V m c main_v0 ((win0_0.blk t).view.emb (ix2 r k)) = _
  rw [e]
  entry_read
  exact stacked_apply _ (seqOf t) r k (by show t.val * 2048 + r.val < 4096; omega)

theorem iblk_maps (g : Fin 4) (k d : Fin 128) : (iblk m c 1 t : FVec Ideal S4x128x128 .f32) (ix3 g k d) = argM m c (ix3 g k d) := by
  blk_ext [iblk, V, places_of_blocks t]

theorem iblk_scales (k : Fin 512) : (iblk m c 2 t : FVec Ideal S1x512 .f32) (ix2 0 k) = argS m c (ix1 k) := by
  have e : (win0_2.blk t).view.emb (ix2 0 k) = ix2 0 k := by blk_ext [places_of_blocks t]
  show V m c main_v1 ((win0_2.blk t).view.emb (ix2 0 k)) = _
  rw [e]
  entry_read
  exact row_apply _ k

/-- A stored piece, at an entry of the block. -/
theorem kept_piece {B : Rows → Rows} (g : Fin 4) (hB : Trails (win g) B)
    (i₁ : ∀ a, (![0, 128 * g.val] : Fin 2 → ℕ) a + S2048x128.size a ≤ S2048x512.size a)
    (i₂ : ∀ a, (![g.val, 0, 0] : Fin 3 → ℕ) a + S1x128x128.size a ≤ S4x128x128.size a)
    (i₃ : ∀ a, (![0, 128 * g.val] : Fin 2 → ℕ) a + S1x128.size a ≤ S1x512.size a)
    (i : S2048x512.Idx) (r : Fin 2048) (k : Fin 128) (h0 : (i 0).val = r.val) (h1 : (i 1).val = 128 * g.val + k.val) :
    keptV (BitVec.ofNat 32 (win g)) B (View.ld (iblk m c 0 t) (Rect.unit ![0, 128 * g.val] S2048x128.size i₁))
      (View.ld (iblk m c 1 t) (Rect.unit ![g.val, 0, 0] S1x128x128.size i₂))
      (View.ld (iblk m c 2 t) (Rect.unit ![0, 128 * g.val] S1x128.size i₃)) (ix2 r k) =
    kept (argX m c) (argM m c) (argS m c) (seqOf t) (i 0) (grp (i 1)) (lane (i 1)) := by
  have hx : (fun u k => View.ld (iblk m c 0 t) (Rect.unit ![0, 128 * g.val] S2048x128.size i₁) (ix2 u k)) = part (argX m c) (seqOf t) g := by
    funext u k
    exact (load_rows _ g i₁ u k).trans (iblk_tokens m c t u (chan g k))
  have hμ : (fun k d => View.ld (iblk m c 1 t) (Rect.unit ![g.val, 0, 0] S1x128x128.size i₂) (ix3 0 k d)) = mapOf (argM m c) g := by
    funext k d
    exact (load_map _ g i₂ k d).trans (iblk_maps m c t g k d)
  have hs : View.ld (iblk m c 2 t) (Rect.unit ![0, 128 * g.val] S1x128.size i₃) (ix2 0 k) = scaleOf (argS m c) g k :=
    (load_row _ g i₃ k).trans (iblk_scales m c t (chan g k))
  rw [keptV_apply (win_lt g) hB, hx, hμ, hs, grp_of (l := k) h1, lane_of h1, show i 0 = r from Fin.ext h0]
  rfl

theorem out_point (i : S2048x512.Idx) : out0_3 (F := Ideal) (iblk m c 0 t) (iblk m c 1 t) (iblk m c 2 t) i =
    kept (argX m c) (argM m c) (argS m c) (seqOf t) (i 0) (grp (i 1)) (lane (i 1)) := by
  unfold out0_3
  canon_tiles x h <;> obtain ⟨r, k, rfl⟩ := rows_cases x
  · exact kept_piece m c t 3 trails16 _ _ _ i r k h0 h1
  · exact kept_piece m c t 2 trails8 _ _ _ i r k h0 h1
  · exact kept_piece m c t 1 trails4 _ _ _ i r k h0 h1
  · exact kept_piece m c t 0 trails2 _ _ _ i r k h0 (h1.trans (Nat.zero_add _).symm)

/-- The array after the run. -/
theorem kept_final : (dats m 0 c).arrAt 3 cfg0.N =
    fun i : S4096x512.Idx => kept (argX m c) (argM m c) (argS m c) (seqRow (i 0)) (tokRow (i 0)) (grp (i 1)) (lane (i 1)) := by
  refine (dats m 0 c).arrAt_eq_of_covers 3 _ (by decide +kernel) fun t hf y => ?_
  have ht : t.val < 2 := t.isLt
  have hy : (y 0).val < 2048 := (y 0).isLt
  blk_simp
  have e : (win0_3.blk t).view.emb y = ix2 ⟨t.val * 2048 + (y 0).val, by omega⟩ (y 1) := by blk_ext [places_of_blocks t]
  have hb : seqRow ⟨t.val * 2048 + (y 0).val, by omega⟩ = seqOf t := Fin.ext (by show (t.val * 2048 + (y 0).val) / 2048 = t.val; omega)
  have hr : tokRow ⟨t.val * 2048 + (y 0).val, by omega⟩ = y 0 := Fin.ext (by show (t.val * 2048 + (y 0).val) % 2048 = (y 0).val; omega)
  rw [after0_3, out_point m c t, e]
  show _ = kept _ _ _ (seqRow ⟨t.val * 2048 + (y 0).val, by omega⟩) (tokRow ⟨t.val * 2048 + (y 0).val, by omega⟩) (grp (y 1)) (lane (y 1))
  rw [hb, hr]

end Cert.Pooled

end
-- ==== Proof.Pooled.Final.lean ====
/- The plain pooling gives the same tokens as the kernel, if the tokens pooled are real. -/
module

public import proofs.«01_k».proof.Proof.Pooled.Points
public import proofs.«01_k».proof.Proof.Pool.Equation
public import proofs.«01_k».proof.Proof.Gen.PooledReferenceIdeal.Run
public import proofs.«01_k».proof.Pre_tokens_finite

@[expose] public section

set_option maxRecDepth 16384

noncomputable section

namespace Cert.Pooled

open Idealize.ShloMosaic Idealize.SL.Sem Cert.PooledReferenceIdeal Cert.PooledReferenceIdeal.Gen Cert.Finite
open Cert.Pool (mixedP mixedP_apply scalesP scalesP_apply pooled_same mixedAt chan grp lane seqRow tokRow)
open scoped BigOperators

/-- The side conditions of the precondition's operations. -/
instance tokensFacts : Cert.Pre_tokens_finite.Facts where
  bcast_S_S2x2048x512 := by decide
  reducesTo_S2x2048x512_S_d0_1_2 := by decide
  h_S_ := by decide

/-- Under the precondition the tokens are reals. -/
theorem tokens_real [Cert.Pre_tokens_finite.Facts] (X : FVec Ideal S2x2048x512 .f32) (M : FVec Ideal S4x128x128 .f32) (sc : FVec Ideal S512 .f32)
    (h : Cert.Pre_tokens_finite.fn (F := Ideal) X M sc = fun _ => 1#1) : AllReal X := by
  have h0 := congrFun h ix0
  unfold Cert.Pre_tokens_finite.fn at h0
  dsimp only at h0
  exact allReal_of_reduce X _ (infinity_apply _) _ _ _ h0

variable (X : FVec Ideal S2x2048x512 .f32) (M : FVec Ideal S4x128x128 .f32) (sc : FVec Ideal S512 .f32)

/-- The plain program's result: the mixed tokens times the scales, the two sequences one after the other. -/
def keptP : FVec Ideal S4096x512 .bf16 := truncf .bf16 (shapeCast S4096x512 (mulf (mixedP X M) (scalesP sc)) shapeCasts_S2x2048x512_S4096x512) bitsLt_bf16_f32

theorem out_eq (m : (ℓ : Loc nD τ sig) → Buf (Elt Ideal) ℓ) (c : Dev nD) : Value.res_out0 m c =
    keptP (m ((c.tc : Thread nD τ).loc main_arg0)) (m ((c.tc : Thread nD τ).loc main_arg1)) (m ((c.tc : Thread nD τ).loc main_arg2)) := rfl

theorem kept_result (hX : AllReal X) : keptP X M sc = fun i : S4096x512.Idx => kept X M sc (seqRow (i 0)) (tokRow (i 0)) (grp (i 1)) (lane (i 1)) := by
  funext i
  obtain ⟨r, d, rfl⟩ : ∃ (r : Fin 4096) (d : Fin 512), i = ix2 r d := ⟨i 0, i 1, by funext a; fin_cases a <;> rfl⟩
  have e : d = chan (grp d) (lane d) := Fin.ext (by show d.val = 128 * (d.val / 128) + d.val % 128; omega)
  have hm : mixedP X M (ix3 (seqRow r) (tokRow r) d) * scalesP sc (ix3 (seqRow r) (tokRow r) d) = kept X M sc (seqRow r) (tokRow r) (grp d) (lane d) := by
    conv_lhs => rw [e]
    rw [mixedP_apply, scalesP_apply, kept, mixedAt]
    simp only [pooled_same hX, mul_comm]
  refine Eq.trans ?_ hm
  pointwise [keptP]
  rfl

/-- The plain program declares no semaphore, so a run of it that leaves the arguments unchanged is the whole frame. -/
theorem reference : Cert.quiescent_PooledReferenceIdeal := fun m g _ =>
  (θ_run _ _ _).mono (fun _ h => ⟨fun c => (h c).2, funext fun s => by rcases s with ⟨_, s | s⟩ <;> exact Fin.elim0 s⟩)
    (Cert.PooledReferenceIdeal.Value.run m g)

variable [Cert.Pre_tokens_finite.Facts]

/-- Launched over the same arguments, the tokens real, the two programs end with the same pooled tokens. -/
theorem value : Cert.algebraic_PooledKernelIdeal_PooledReferenceIdeal_pre_tokens_finite := by
  intro m g m' g' hpre hagree
  refine ⟨fun c => (Cert.PooledKernelIdeal.Gen.dats m 0 c).arrAt 3 Cert.PooledKernelIdeal.cfg0.N, Cert.PooledKernelIdeal.Value.run_blocks m g, ?_⟩
  refine (θ_run _ _ _).mono (fun r h c => ?_) (Cert.PooledReferenceIdeal.Value.run m' g')
  obtain ⟨h0, h1⟩ := h c
  obtain ⟨a0, a1, a2⟩ := hagree c
  have hX : AllReal (argX m c) := tokens_real _ _ _ (hpre c)
  refine ⟨h0.trans ((out_eq m' c).trans (Eq.trans ?_ (kept_final m c).symm)), h1⟩
  rw [a0, a1, a2]
  exact kept_result _ _ _ hX

end Cert.Pooled

end
-- ==== Proof.lean ====
/- The claims about the step's hand-written gradients, forward calls, products, optimiser and sums: the frames are the generated ones but for the mixer's,
   the values come from the modules of each call. -/
module

public import proofs.«01_k».proof.Defs
public import proofs.«01_k».proof.Proof.Gen.KernelIdeal.Value
public import proofs.«01_k».proof.Proof.Gen.AttnReferenceIdeal.Run
public import proofs.«01_k».proof.Proof.Gen.AttnKernel.Frame
public import proofs.«01_k».proof.Proof.Gen.AttnKernelIdeal.Frame
public import proofs.«01_k».proof.Proof.Gen.ReferenceIdeal.Run
public import proofs.«01_k».proof.Proof.Gen.Kernel
public import proofs.«01_k».proof.Proof.Gen.LossKernelIdeal.Value
public import proofs.«01_k».proof.Proof.Gen.LossKernel.Frame
public import proofs.«01_k».proof.Proof.Gen.LossKernelIdeal.Frame
public import proofs.«01_k».proof.Proof.Gen.LossReferenceIdeal.Run
public import proofs.«01_k».proof.Proof.Gen.FfnKernelIdeal.Value
public import proofs.«01_k».proof.Proof.Gen.FfnKernel.Frame
public import proofs.«01_k».proof.Proof.Gen.FfnKernelIdeal.Frame
public import proofs.«01_k».proof.Proof.Gen.FfnReferenceIdeal.Run
public import proofs.«01_k».proof.Proof.Gen.MergeKernelIdeal.Value
public import proofs.«01_k».proof.Proof.Gen.MergeKernel.Frame
public import proofs.«01_k».proof.Proof.Gen.MergeKernelIdeal.Frame
public import proofs.«01_k».proof.Proof.Gen.MergeReferenceIdeal.Run
public import proofs.«01_k».proof.Proof.Gen.NormKernelIdeal.Value
public import proofs.«01_k».proof.Proof.Gen.NormKernel.Frame
public import proofs.«01_k».proof.Proof.Gen.NormKernelIdeal.Frame
public import proofs.«01_k».proof.Proof.Gen.NormReferenceIdeal.Run
public import proofs.«01_k».proof.Proof.Gen.GateKernelIdeal.Value
public import proofs.«01_k».proof.Proof.Gen.GateKernel.Frame
public import proofs.«01_k».proof.Proof.Gen.GateKernelIdeal.Frame
public import proofs.«01_k».proof.Proof.Gen.GateReferenceIdeal.Run
public import proofs.«01_k».proof.Proof.Gen.JoinKernelIdeal.Value
public import proofs.«01_k».proof.Proof.Gen.JoinKernel.Frame
public import proofs.«01_k».proof.Proof.Gen.JoinKernelIdeal.Frame
public import proofs.«01_k».proof.Proof.Gen.JoinReferenceIdeal.Run
public import proofs.«01_k».proof.Proof.Gen.LatentKernelIdeal.Value
public import proofs.«01_k».proof.Proof.Gen.LatentKernel.Frame
public import proofs.«01_k».proof.Proof.Gen.LatentKernelIdeal.Frame
public import proofs.«01_k».proof.Proof.Gen.LatentReferenceIdeal.Run
public import proofs.«01_k».proof.Proof.Gen.PooledKernelIdeal.Value
public import proofs.«01_k».proof.Proof.Gen.PooledKernel.Frame
public import proofs.«01_k».proof.Proof.Gen.PooledKernelIdeal.Frame
public import proofs.«01_k».proof.Proof.Gen.PooledReferenceIdeal.Run
public import proofs.«01_k».proof.Proof.Gen.DownKernel.Frame
public import proofs.«01_k».proof.Proof.Gen.DownKernelIdeal.Frame
public import proofs.«01_k».proof.Proof.Gen.DownReferenceIdeal.Run
public import proofs.«01_k».proof.Proof.Gen.UpKernel.Frame
public import proofs.«01_k».proof.Proof.Gen.UpKernelIdeal.Frame
public import proofs.«01_k».proof.Proof.Gen.UpReferenceIdeal.Run
public import proofs.«01_k».proof.Proof.Gen.ProjKernel.Frame
public import proofs.«01_k».proof.Proof.Gen.ProjKernelIdeal.Frame
public import proofs.«01_k».proof.Proof.Gen.ProjReferenceIdeal.Run
public import proofs.«01_k».proof.Proof.Gen.AdamKernel.Frame
public import proofs.«01_k».proof.Proof.Gen.AdamKernelIdeal.Frame
public import proofs.«01_k».proof.Proof.Gen.AdamReferenceIdeal.Run
public import proofs.«01_k».proof.Proof.Gen.PartsKernel.Frame
public import proofs.«01_k».proof.Proof.Gen.PartsKernelIdeal.Frame
public import proofs.«01_k».proof.Proof.Gen.PartsReferenceIdeal.Run
public import proofs.«01_k».proof.Proof.Weights.Down
public import proofs.«01_k».proof.Proof.Weights.Up
public import proofs.«01_k».proof.Proof.Weights.Proj
public import proofs.«01_k».proof.Proof.Weights.Adam
public import proofs.«01_k».proof.Proof.Weights.Parts
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Pool.Final
public import proofs.«01_k».proof.Proof.Attn.Final
public import proofs.«01_k».proof.Proof.Loss.Plain
public import proofs.«01_k».proof.Proof.Ffn.Final
public import proofs.«01_k».proof.Proof.Merge.Final
public import proofs.«01_k».proof.Proof.Mixer.Quiet
public import proofs.«01_k».proof.Proof.Mixer.Final
public import proofs.«01_k».proof.Proof.First.Final
public import proofs.«01_k».proof.Proof.Gate.Final
public import proofs.«01_k».proof.Proof.Join.Final
public import proofs.«01_k».proof.Proof.Latent.Final
public import proofs.«01_k».proof.Proof.Pooled.Final
public import Idealize.ShloMosaic.Adequacy
public import Idealize.ShloMosaic.Init

@[expose] public section

noncomputable section

namespace Cert.Proof

open Idealize.ShloMosaic Idealize.SL.Sem Cert.Kernel

/-- The plain program declares no semaphore, so a run of it that leaves the arguments unchanged is the whole frame. -/
theorem pool_reference : Cert.quiescent_ReferenceIdeal := fun m g _ =>
  (θ_run _ _ _).mono (fun _ h => ⟨fun c => (h c).2.2.2, funext fun s => by rcases s with ⟨_, s | s⟩ <;> exact Fin.elim0 s⟩)
    (Cert.ReferenceIdeal.Value.run m g)

variable [Cert.Pre_finite.Facts]

/-- Launched over the same arguments, the two programs end with the same three gradients. -/
theorem pool_value : Cert.algebraic_KernelIdeal_ReferenceIdeal_pre_finite := by
  intro m g m' g' hpre hagree
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m g, ?_⟩
  refine (θ_run _ _ _).mono (fun r h c => ?_) (Cert.ReferenceIdeal.Value.run m' g')
  obtain ⟨h0, h1, h2, h3⟩ := h c
  obtain ⟨a0, a1, a2, a3⟩ := hagree c
  obtain ⟨hX, hM, hs, hC⟩ := Cert.Pool.args_real _ _ _ _ (hpre c)
  refine ⟨h0.trans ?_, h1.trans ?_, h2.trans ?_, h3⟩
  · refine (Cert.Pool.out0_eq m' c).trans (Eq.trans ?_ (Cert.Pool.tokens_final m c).symm)
    rw [a1, a2, a3]
    exact Cert.Pool.tokens_result hC hM hs
  · refine (Cert.Pool.out1_eq m' c).trans (Eq.trans ?_ (Cert.Pool.maps_final m c).symm)
    rw [a0, a2, a3]
    exact Cert.Pool.maps_result hX
  · refine (Cert.Pool.out2_eq m' c).trans (Eq.trans ?_ (Cert.Pool.scales_final m c).symm)
    rw [a0, a1, a3]
    exact Cert.Pool.scales_result hX

/-- The same of the plain loss. -/
theorem loss_reference : Cert.quiescent_LossReferenceIdeal := fun m g _ =>
  (θ_run _ _ _).mono (fun _ h => ⟨fun c => (h c).2.2.2, funext fun s => by rcases s with ⟨_, s | s⟩ <;> exact Fin.elim0 s⟩)
    (Cert.LossReferenceIdeal.Value.run m g)

/-- Launched over the same arguments, whatever they are, the two losses end with the same loss and the same two gradients. -/
theorem loss_value : Cert.algebraic_LossKernelIdeal_LossReferenceIdeal := by
  intro m g m' g' _ hagree
  refine ⟨fun c => (Cert.LossKernelIdeal.Gen.dats m 0 c).arrAt 3 Cert.LossKernelIdeal.cfg0.N, fun c => (Cert.LossKernelIdeal.Gen.dats m 0 c).arrAt 4 Cert.LossKernelIdeal.cfg0.N,
    fun c => (Cert.LossKernelIdeal.Gen.dats m 0 c).arrAt 5 Cert.LossKernelIdeal.cfg0.N, Cert.LossKernelIdeal.Value.run_blocks m g, ?_⟩
  refine (θ_run _ _ _).mono (fun r h c => ?_) (Cert.LossReferenceIdeal.Value.run m' g')
  obtain ⟨h0, h1, h2, h3⟩ := h c
  obtain ⟨a0, a1, a2⟩ := hagree c
  refine ⟨h0.trans ?_, h1.trans ?_, h2.trans ?_, h3⟩
  · refine (Cert.Loss.drow_eq m' c).trans (Eq.trans ?_ (Cert.Loss.drow_final m c).symm)
    rw [a0, a1, a2]
    exact Cert.Loss.drow_result _ _ _
  · refine Eq.trans ?_ (Cert.Loss.gain_final m c).symm
    rw [a0, a1, a2]
    exact Cert.Loss.dgain_result _ _ _
  · refine Eq.trans ?_ (Cert.Loss.loss_final m c).symm
    rw [a0, a1, a2]
    exact Cert.Loss.loss_result _ _ _

/-- The same of the plain attention. -/
theorem attn_reference : Cert.quiescent_AttnReferenceIdeal := fun m g _ =>
  (θ_run _ _ _).mono (fun _ h => ⟨fun c => (h c).2.2.2.2, funext fun s => by rcases s with ⟨_, s | s⟩ <;> exact Fin.elim0 s⟩)
    (Cert.AttnReferenceIdeal.Value.run m g)

/-- The constants that stand for reals the words round. -/
theorem attn_names : Cert.preserves_AttnKernel_AttnKernelIdeal :=
  ⟨IdealRules.named_const.statement Cert.AttnKernelIdeal.κ "mask" .f32 0xF149F2CA#32 ⊥ rfl,
    IdealRules.named_const.statement Cert.AttnKernelIdeal.κ "scale_log2" .f32 0x3DD53B95#32 (((Real.sqrt 192)⁻¹ * (Real.log 2)⁻¹ : ℝ) : EReal) rfl,
    IdealRules.named_const.statement Cert.AttnKernelIdeal.κ "log2e" .f32 0x3FB8AA3B#32 (((Real.log 2)⁻¹ : ℝ) : EReal) rfl,
    IdealRules.named_const.statement Cert.AttnKernelIdeal.κ "scale" .f32 0x3D93CD3A#32 (((Real.sqrt 192)⁻¹ : ℝ) : EReal) rfl⟩

variable [Cert.Pre_attn_finite.Facts]

/-- Launched over the same real arguments, the two attentions end with the same output and the same three gradients. -/
theorem attn_value : Cert.algebraic_AttnKernelIdeal_AttnReferenceIdeal_pre_attn_finite := by
  intro m g m' g' hpre hagree
  refine ⟨fun c => (Cert.AttnKernelIdeal.Gen.dat0 (Cert.AttnKernelIdeal.Gen.V1 m g) c).arrAt 4 Cert.AttnKernelIdeal.cfg0.N,
    fun c => (Cert.AttnKernelIdeal.Gen.dat1 (Cert.AttnKernelIdeal.Gen.V2 m g) c).arrAt 7 Cert.AttnKernelIdeal.cfg1.N,
    fun c => (Cert.AttnKernelIdeal.Gen.dat1 (Cert.AttnKernelIdeal.Gen.V2 m g) c).arrAt 8 Cert.AttnKernelIdeal.cfg1.N,
    fun c => (Cert.AttnKernelIdeal.Gen.dat1 (Cert.AttnKernelIdeal.Gen.V2 m g) c).arrAt 9 Cert.AttnKernelIdeal.cfg1.N, Cert.Attn.run_arrays m g, ?_⟩
  refine (θ_run _ _ _).mono (fun r h c => ?_) (Cert.AttnReferenceIdeal.Value.run m' g')
  obtain ⟨h0, h1, h2, h3, h4⟩ := h c
  obtain ⟨a0, a1, a2, a3, a4⟩ := hagree c
  obtain ⟨a, H⟩ := Cert.Attn.args_real (hpre c)
  refine ⟨h0.trans ?_, h1.trans ?_, h2.trans ?_, h3.trans ?_, h4⟩
  · refine (Cert.Attn.outs_eq m' c).trans (Eq.trans ?_ (Cert.Attn.out_final g H).symm)
    rw [a0, a1, a2, a3]
    exact Cert.Attn.outs_result H
  · refine (Cert.Attn.dq_eq m' c).trans (Eq.trans ?_ (Cert.Attn.dq_final g H).symm)
    rw [a0, a1, a2, a3, a4]
    exact Cert.Attn.dq_result H
  · refine (Cert.Attn.dkv_eq m' c).trans (Eq.trans ?_ (Cert.Attn.dkv_final g H).symm)
    rw [a0, a1, a2, a3, a4]
    exact Cert.Attn.dkv_result H
  · refine (Cert.Attn.dkr_eq m' c).trans (Eq.trans ?_ (Cert.Attn.dkr_final g H).symm)
    rw [a0, a1, a2, a3, a4]
    exact Cert.Attn.dkr_result H

theorem claim : Cert.Claim := ⟨Cert.Kernel.Gen.facts, Cert.KernelIdeal.Gen.facts, Cert.ReferenceIdeal.Gen.facts,
  Cert.LossKernel.Gen.facts, Cert.LossKernelIdeal.Gen.facts, Cert.LossReferenceIdeal.Gen.facts,
  Cert.AttnKernel.Gen.facts, Cert.AttnKernelIdeal.Gen.facts, Cert.AttnReferenceIdeal.Gen.facts,
  Cert.FfnKernel.Gen.facts, Cert.FfnKernelIdeal.Gen.facts, Cert.FfnReferenceIdeal.Gen.facts,
  Cert.MergeKernel.Gen.facts, Cert.MergeKernelIdeal.Gen.facts, Cert.MergeReferenceIdeal.Gen.facts,
  Cert.MixerKernel.Gen.facts, Cert.MixerKernelIdeal.Gen.facts, Cert.MixerReferenceIdeal.Gen.facts,
  Cert.NormKernel.Gen.facts, Cert.NormKernelIdeal.Gen.facts, Cert.NormReferenceIdeal.Gen.facts,
  Cert.GateKernel.Gen.facts, Cert.GateKernelIdeal.Gen.facts, Cert.GateReferenceIdeal.Gen.facts,
  Cert.JoinKernel.Gen.facts, Cert.JoinKernelIdeal.Gen.facts, Cert.JoinReferenceIdeal.Gen.facts,
  Cert.LatentKernel.Gen.facts, Cert.LatentKernelIdeal.Gen.facts, Cert.LatentReferenceIdeal.Gen.facts,
  Cert.PooledKernel.Gen.facts, Cert.PooledKernelIdeal.Gen.facts, Cert.PooledReferenceIdeal.Gen.facts,
  Cert.DownKernel.Gen.facts, Cert.DownKernelIdeal.Gen.facts, Cert.DownReferenceIdeal.Gen.facts,
  Cert.UpKernel.Gen.facts, Cert.UpKernelIdeal.Gen.facts, Cert.UpReferenceIdeal.Gen.facts,
  Cert.ProjKernel.Gen.facts, Cert.ProjKernelIdeal.Gen.facts, Cert.ProjReferenceIdeal.Gen.facts,
  Cert.AdamKernel.Gen.facts, Cert.AdamKernelIdeal.Gen.facts, Cert.AdamReferenceIdeal.Gen.facts,
  Cert.PartsKernel.Gen.facts, Cert.PartsKernelIdeal.Gen.facts, Cert.PartsReferenceIdeal.Gen.facts,
  Cert.Pool.finiteFacts, Cert.Attn.finiteFacts, Cert.Ffn.finiteFacts, Cert.Pooled.tokensFacts,
  fun m ρ _ => Cert.Kernel.Gen.frame m ρ, fun m ρ _ => Cert.KernelIdeal.Gen.frame m ρ, fun m ρ _ => Cert.KernelIdeal.Gen.frame m ρ,
  pool_reference, fun m ρ _ => pool_reference m ρ trivial,
  fun m ρ _ => Cert.LossKernel.Gen.frame m ρ, fun m ρ _ => Cert.LossKernelIdeal.Gen.frame m ρ, loss_reference,
  fun m ρ _ => Cert.AttnKernel.Gen.frame m ρ, fun m ρ _ => Cert.AttnKernelIdeal.Gen.frame m ρ, fun m ρ _ => Cert.AttnKernelIdeal.Gen.frame m ρ,
  attn_reference, fun m ρ _ => attn_reference m ρ trivial,
  fun m ρ _ => Cert.FfnKernel.Gen.frame m ρ, fun m ρ _ => Cert.FfnKernelIdeal.Gen.frame m ρ, fun m ρ _ => Cert.FfnKernelIdeal.Gen.frame m ρ,
  Cert.Ffn.reference, fun m ρ _ => Cert.Ffn.reference m ρ trivial,
  fun m ρ _ => Cert.MergeKernel.Gen.frame m ρ, fun m ρ _ => Cert.MergeKernelIdeal.Gen.frame m ρ, Cert.Merge.reference,
  Cert.Mixer.kernel_quiet, Cert.Mixer.ideal_quiet, Cert.Mixer.reference,
  fun m ρ _ => Cert.NormKernel.Gen.frame m ρ, fun m ρ _ => Cert.NormKernelIdeal.Gen.frame m ρ, Cert.First.reference,
  fun m ρ _ => Cert.GateKernel.Gen.frame m ρ, fun m ρ _ => Cert.GateKernelIdeal.Gen.frame m ρ, Cert.Gate.reference,
  fun m ρ _ => Cert.JoinKernel.Gen.frame m ρ, fun m ρ _ => Cert.JoinKernelIdeal.Gen.frame m ρ, Cert.Join.reference,
  fun m ρ _ => Cert.LatentKernel.Gen.frame m ρ, fun m ρ _ => Cert.LatentKernelIdeal.Gen.frame m ρ, Cert.Latent.reference,
  fun m ρ _ => Cert.PooledKernel.Gen.frame m ρ, fun m ρ _ => Cert.PooledKernelIdeal.Gen.frame m ρ, fun m ρ _ => Cert.PooledKernelIdeal.Gen.frame m ρ,
  Cert.Pooled.reference, fun m ρ _ => Cert.Pooled.reference m ρ trivial,
  fun m ρ _ => Cert.DownKernel.Gen.frame m ρ, fun m ρ _ => Cert.DownKernelIdeal.Gen.frame m ρ, Cert.Weights.Down.reference,
  fun m ρ _ => Cert.UpKernel.Gen.frame m ρ, fun m ρ _ => Cert.UpKernelIdeal.Gen.frame m ρ, Cert.Weights.Up.reference,
  fun m ρ _ => Cert.ProjKernel.Gen.frame m ρ, fun m ρ _ => Cert.ProjKernelIdeal.Gen.frame m ρ, Cert.Weights.Proj.reference,
  fun m ρ _ => Cert.AdamKernel.Gen.frame m ρ, fun m ρ _ => Cert.AdamKernelIdeal.Gen.frame m ρ, Cert.Weights.Adam.reference,
  fun m ρ _ => Cert.PartsKernel.Gen.frame m ρ, fun m ρ _ => Cert.PartsKernelIdeal.Gen.frame m ρ, Cert.Weights.Parts.reference,
  trivial, by
  haveI := Cert.Pool.finiteFacts
  exact pool_value, trivial, loss_value, attn_names, by
  haveI := Cert.Attn.finiteFacts
  exact attn_value, trivial, by
  haveI := Cert.Ffn.finiteFacts
  exact Cert.Ffn.value, trivial, Cert.Merge.value, trivial, Cert.Mixer.value, trivial, Cert.First.value, trivial, Cert.Gate.value, trivial, Cert.Join.value, trivial, Cert.Latent.value, trivial, by
  haveI := Cert.Pooled.tokensFacts
  exact Cert.Pooled.value, trivial, Cert.Weights.Down.value, trivial, Cert.Weights.Up.value, trivial, Cert.Weights.Proj.value, trivial, Cert.Weights.Adam.value, trivial, Cert.Weights.Parts.value⟩

end Cert.Proof

end
